-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_FfnDownDx (m : (ℓ : Loc Cert.FfnDownDx.nD Cert.FfnDownDx.τ Cert.FfnDownDx.sig) → Buf (Elt Bits) ℓ) : Prop :=
  True

def Pre_FfnDownDxIdeal (m : (ℓ : Loc Cert.FfnDownDxIdeal.nD Cert.FfnDownDxIdeal.τ Cert.FfnDownDxIdeal.sig) → Buf (Elt Ideal) ℓ) : Prop :=
  True

def Pre_FfnDownDxReferenceIdeal (m : (ℓ : Loc Cert.FfnDownDxReferenceIdeal.nD Cert.FfnDownDxReferenceIdeal.τ Cert.FfnDownDxReferenceIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxReferenceIdeal (m : (ℓ : Loc Cert.MixOutDxReferenceIdeal.nD Cert.MixOutDxReferenceIdeal.τ Cert.MixOutDxReferenceIdeal.sig) → Buf (Elt Ideal) ℓ) : Prop :=
  True

def Pre_FfnUpDxGate (m : (ℓ : Loc Cert.FfnUpDxGate.nD Cert.FfnUpDxGate.τ Cert.FfnUpDxGate.sig) → Buf (Elt Bits) ℓ) : Prop :=
  True

def Pre_FfnUpDxGateIdeal (m : (ℓ : Loc Cert.FfnUpDxGateIdeal.nD Cert.FfnUpDxGateIdeal.τ Cert.FfnUpDxGateIdeal.sig) → Buf (Elt Ideal) ℓ) : Prop :=
  True

def Pre_FfnUpDxGateReferenceIdeal (m : (ℓ : Loc Cert.FfnUpDxGateReferenceIdeal.nD Cert.FfnUpDxGateReferenceIdeal.τ Cert.FfnUpDxGateReferenceIdeal.sig) → Buf (Elt Ideal) ℓ) : Prop :=
  True

def Pre_FfnUpDxUp (m : (ℓ : Loc Cert.FfnUpDxUp.nD Cert.FfnUpDxUp.τ Cert.FfnUpDxUp.sig) → Buf (Elt Bits) ℓ) : Prop :=
  True

def Pre_FfnUpDxUpIdeal (m : (ℓ : Loc Cert.FfnUpDxUpIdeal.nD Cert.FfnUpDxUpIdeal.τ Cert.FfnUpDxUpIdeal.sig) → Buf (Elt Ideal) ℓ) : Prop :=
  True

def Pre_FfnUpDxUpReferenceIdeal (m : (ℓ : Loc Cert.FfnUpDxUpReferenceIdeal.nD Cert.FfnUpDxUpReferenceIdeal.τ Cert.FfnUpDxUpReferenceIdeal.sig) → Buf (Elt Ideal) ℓ) : Prop :=
  True

def Pre_CdInDx (m : (ℓ : Loc Cert.CdInDx.nD Cert.CdInDx.τ Cert.CdInDx.sig) → Buf (Elt Bits) ℓ) : Prop :=
  True

def Pre_CdInDxIdeal (m : (ℓ : Loc Cert.CdInDxIdeal.nD Cert.CdInDxIdeal.τ Cert.CdInDxIdeal.sig) → Buf (Elt Ideal) ℓ) : Prop :=
  True

def Pre_CdInDxReferenceIdeal (m : (ℓ : Loc Cert.CdInDxReferenceIdeal.nD Cert.CdInDxReferenceIdeal.τ Cert.CdInDxReferenceIdeal.sig) → Buf (Elt Ideal) ℓ) : Prop :=
  True

def Pre_AbInDx (m : (ℓ : Loc Cert.AbInDx.nD Cert.AbInDx.τ Cert.AbInDx.sig) → Buf (Elt Bits) ℓ) : Prop :=
  True

def Pre_AbInDxIdeal (m : (ℓ : Loc Cert.AbInDxIdeal.nD Cert.AbInDxIdeal.τ Cert.AbInDxIdeal.sig) → Buf (Elt Ideal) ℓ) : Prop :=
  True

def Pre_AbInDxReferenceIdeal (m : (ℓ : Loc Cert.AbInDxReferenceIdeal.nD Cert.AbInDxReferenceIdeal.τ Cert.AbInDxReferenceIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwReferenceIdeal (m : (ℓ : Loc Cert.FfnDownDwReferenceIdeal.nD Cert.FfnDownDwReferenceIdeal.τ Cert.FfnDownDwReferenceIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwReferenceIdeal (m : (ℓ : Loc Cert.MixOutDwReferenceIdeal.nD Cert.MixOutDwReferenceIdeal.τ Cert.MixOutDwReferenceIdeal.sig) → Buf (Elt Ideal) ℓ) : Prop :=
  True

def Pre_FfnUpDwGate (m : (ℓ : Loc Cert.FfnUpDwGate.nD Cert.FfnUpDwGate.τ Cert.FfnUpDwGate.sig) → Buf (Elt Bits) ℓ) : Prop :=
  True

def Pre_FfnUpDwGateIdeal (m : (ℓ : Loc Cert.FfnUpDwGateIdeal.nD Cert.FfnUpDwGateIdeal.τ Cert.FfnUpDwGateIdeal.sig) → Buf (Elt Ideal) ℓ) : Prop :=
  True

def Pre_FfnUpDwGateReferenceIdeal (m : (ℓ : Loc Cert.FfnUpDwGateReferenceIdeal.nD Cert.FfnUpDwGateReferenceIdeal.τ Cert.FfnUpDwGateReferenceIdeal.sig) → Buf (Elt Ideal) ℓ) : Prop :=
  True

def Pre_FfnUpDwUp (m : (ℓ : Loc Cert.FfnUpDwUp.nD Cert.FfnUpDwUp.τ Cert.FfnUpDwUp.sig) → Buf (Elt Bits) ℓ) : Prop :=
  True

def Pre_FfnUpDwUpIdeal (m : (ℓ : Loc Cert.FfnUpDwUpIdeal.nD Cert.FfnUpDwUpIdeal.τ Cert.FfnUpDwUpIdeal.sig) → Buf (Elt Ideal) ℓ) : Prop :=
  True

def Pre_FfnUpDwUpReferenceIdeal (m : (ℓ : Loc Cert.FfnUpDwUpReferenceIdeal.nD Cert.FfnUpDwUpReferenceIdeal.τ Cert.FfnUpDwUpReferenceIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInReferenceIdeal (m : (ℓ : Loc Cert.AbInReferenceIdeal.nD Cert.AbInReferenceIdeal.τ Cert.AbInReferenceIdeal.sig) → Buf (Elt Ideal) ℓ) : Prop :=
  True

def Pre_CdIn (m : (ℓ : Loc Cert.CdIn.nD Cert.CdIn.τ Cert.CdIn.sig) → Buf (Elt Bits) ℓ) : Prop :=
  True

def Pre_CdInIdeal (m : (ℓ : Loc Cert.CdInIdeal.nD Cert.CdInIdeal.τ Cert.CdInIdeal.sig) → Buf (Elt Ideal) ℓ) : Prop :=
  True

def Pre_CdInReferenceIdeal (m : (ℓ : Loc Cert.CdInReferenceIdeal.nD Cert.CdInReferenceIdeal.τ Cert.CdInReferenceIdeal.sig) → Buf (Elt Ideal) ℓ) : Prop :=
  True

def Pre_AbInDw (m : (ℓ : Loc Cert.AbInDw.nD Cert.AbInDw.τ Cert.AbInDw.sig) → Buf (Elt Bits) ℓ) : Prop :=
  True

def Pre_AbInDwIdeal (m : (ℓ : Loc Cert.AbInDwIdeal.nD Cert.AbInDwIdeal.τ Cert.AbInDwIdeal.sig) → Buf (Elt Ideal) ℓ) : Prop :=
  True

def Pre_AbInDwReferenceIdeal (m : (ℓ : Loc Cert.AbInDwReferenceIdeal.nD Cert.AbInDwReferenceIdeal.τ Cert.AbInDwReferenceIdeal.sig) → Buf (Elt Ideal) ℓ) : Prop :=
  True

def Pre_CdInDw (m : (ℓ : Loc Cert.CdInDw.nD Cert.CdInDw.τ Cert.CdInDw.sig) → Buf (Elt Bits) ℓ) : Prop :=
  True

def Pre_CdInDwIdeal (m : (ℓ : Loc Cert.CdInDwIdeal.nD Cert.CdInDwIdeal.τ Cert.CdInDwIdeal.sig) → Buf (Elt Ideal) ℓ) : Prop :=
  True

def Pre_CdInDwReferenceIdeal (m : (ℓ : Loc Cert.CdInDwReferenceIdeal.nD Cert.CdInDwReferenceIdeal.τ Cert.CdInDwReferenceIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite_ln [hPre_finite_ln : Cert.Pre_finite_ln.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4))) = (fun _ => 1#1)

def Pre_LnBwdReferenceIdeal (m : (ℓ : Loc Cert.LnBwdReferenceIdeal.nD Cert.LnBwdReferenceIdeal.τ Cert.LnBwdReferenceIdeal.sig) → Buf (Elt Ideal) ℓ) : Prop :=
  True

def Pre_LnBwdReferenceIdeal_finite_ln [hPre_finite_ln : Cert.Pre_finite_ln.Facts] (m : (ℓ : Loc Cert.LnBwdReferenceIdeal.nD Cert.LnBwdReferenceIdeal.τ Cert.LnBwdReferenceIdeal.sig) → Buf (Elt Ideal) ℓ) : Prop :=
  ∀ c : Dev Cert.LnBwdReferenceIdeal.nD,
    (Cert.Pre_finite_ln.fn (F := Ideal) (m ((c.tc : Thread Cert.LnBwdReferenceIdeal.nD Cert.LnBwdReferenceIdeal.τ).loc Cert.LnBwdReferenceIdeal.main_arg0)) (m ((c.tc : Thread Cert.LnBwdReferenceIdeal.nD Cert.LnBwdReferenceIdeal.τ).loc Cert.LnBwdReferenceIdeal.main_arg1)) (m ((c.tc : Thread Cert.LnBwdReferenceIdeal.nD Cert.LnBwdReferenceIdeal.τ).loc Cert.LnBwdReferenceIdeal.main_arg2)) (m ((c.tc : Thread Cert.LnBwdReferenceIdeal.nD Cert.LnBwdReferenceIdeal.τ).loc Cert.LnBwdReferenceIdeal.main_arg3)) (m ((c.tc : Thread Cert.LnBwdReferenceIdeal.nD Cert.LnBwdReferenceIdeal.τ).loc Cert.LnBwdReferenceIdeal.main_arg4))) = (fun _ => 1#1)

def Pre_AdamwAbOut (m : (ℓ : Loc Cert.AdamwAbOut.nD Cert.AdamwAbOut.τ Cert.AdamwAbOut.sig) → Buf (Elt Bits) ℓ) : Prop :=
  True

def Pre_AdamwAbOutIdeal (m : (ℓ : Loc Cert.AdamwAbOutIdeal.nD Cert.AdamwAbOutIdeal.τ Cert.AdamwAbOutIdeal.sig) → Buf (Elt Ideal) ℓ) : Prop :=
  True

def Pre_AdamwAbOutReferenceIdeal (m : (ℓ : Loc Cert.AdamwAbOutReferenceIdeal.nD Cert.AdamwAbOutReferenceIdeal.τ Cert.AdamwAbOutReferenceIdeal.sig) → Buf (Elt Ideal) ℓ) : Prop :=
  True

def Pre_AdamwAbIn (m : (ℓ : Loc Cert.AdamwAbIn.nD Cert.AdamwAbIn.τ Cert.AdamwAbIn.sig) → Buf (Elt Bits) ℓ) : Prop :=
  True

def Pre_AdamwAbInIdeal (m : (ℓ : Loc Cert.AdamwAbInIdeal.nD Cert.AdamwAbInIdeal.τ Cert.AdamwAbInIdeal.sig) → Buf (Elt Ideal) ℓ) : Prop :=
  True

def Pre_AdamwAbInReferenceIdeal (m : (ℓ : Loc Cert.AdamwAbInReferenceIdeal.nD Cert.AdamwAbInReferenceIdeal.τ Cert.AdamwAbInReferenceIdeal.sig) → Buf (Elt Ideal) ℓ) : Prop :=
  True

def Pre_AdamwCdIn (m : (ℓ : Loc Cert.AdamwCdIn.nD Cert.AdamwCdIn.τ Cert.AdamwCdIn.sig) → Buf (Elt Bits) ℓ) : Prop :=
  True

def Pre_AdamwCdInIdeal (m : (ℓ : Loc Cert.AdamwCdInIdeal.nD Cert.AdamwCdInIdeal.τ Cert.AdamwCdInIdeal.sig) → Buf (Elt Ideal) ℓ) : Prop :=
  True

def Pre_AdamwCdInReferenceIdeal (m : (ℓ : Loc Cert.AdamwCdInReferenceIdeal.nD Cert.AdamwCdInReferenceIdeal.τ Cert.AdamwCdInReferenceIdeal.sig) → Buf (Elt Ideal) ℓ) : Prop :=
  True

def Pre_AdamwFfnUp (m : (ℓ : Loc Cert.AdamwFfnUp.nD Cert.AdamwFfnUp.τ Cert.AdamwFfnUp.sig) → Buf (Elt Bits) ℓ) : Prop :=
  True

def Pre_AdamwFfnUpIdeal (m : (ℓ : Loc Cert.AdamwFfnUpIdeal.nD Cert.AdamwFfnUpIdeal.τ Cert.AdamwFfnUpIdeal.sig) → Buf (Elt Ideal) ℓ) : Prop :=
  True

def Pre_AdamwFfnUpReferenceIdeal (m : (ℓ : Loc Cert.AdamwFfnUpReferenceIdeal.nD Cert.AdamwFfnUpReferenceIdeal.τ Cert.AdamwFfnUpReferenceIdeal.sig) → Buf (Elt Ideal) ℓ) : Prop :=
  True

def Pre_AdamwFfnDown (m : (ℓ : Loc Cert.AdamwFfnDown.nD Cert.AdamwFfnDown.τ Cert.AdamwFfnDown.sig) → Buf (Elt Bits) ℓ) : Prop :=
  True

def Pre_AdamwFfnDownIdeal (m : (ℓ : Loc Cert.AdamwFfnDownIdeal.nD Cert.AdamwFfnDownIdeal.τ Cert.AdamwFfnDownIdeal.sig) → Buf (Elt Ideal) ℓ) : Prop :=
  True

def Pre_AdamwFfnDownReferenceIdeal (m : (ℓ : Loc Cert.AdamwFfnDownReferenceIdeal.nD Cert.AdamwFfnDownReferenceIdeal.τ Cert.AdamwFfnDownReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdReferenceIdeal (m : (ℓ : Loc Cert.LnFwdReferenceIdeal.nD Cert.LnFwdReferenceIdeal.τ Cert.LnFwdReferenceIdeal.sig) → Buf (Elt Ideal) ℓ) : Prop :=
  True

def Pre_CdPost (m : (ℓ : Loc Cert.CdPost.nD Cert.CdPost.τ Cert.CdPost.sig) → Buf (Elt Bits) ℓ) : Prop :=
  True

def Pre_CdPostIdeal (m : (ℓ : Loc Cert.CdPostIdeal.nD Cert.CdPostIdeal.τ Cert.CdPostIdeal.sig) → Buf (Elt Ideal) ℓ) : Prop :=
  True

def Pre_CdPostReferenceIdeal (m : (ℓ : Loc Cert.CdPostReferenceIdeal.nD Cert.CdPostReferenceIdeal.τ Cert.CdPostReferenceIdeal.sig) → Buf (Elt Ideal) ℓ) : Prop :=
  True

def Pre_CdPostBwd (m : (ℓ : Loc Cert.CdPostBwd.nD Cert.CdPostBwd.τ Cert.CdPostBwd.sig) → Buf (Elt Bits) ℓ) : Prop :=
  True

def Pre_CdPostBwdIdeal (m : (ℓ : Loc Cert.CdPostBwdIdeal.nD Cert.CdPostBwdIdeal.τ Cert.CdPostBwdIdeal.sig) → Buf (Elt Ideal) ℓ) : Prop :=
  True

def Pre_CdPostBwdReferenceIdeal (m : (ℓ : Loc Cert.CdPostBwdReferenceIdeal.nD Cert.CdPostBwdReferenceIdeal.τ Cert.CdPostBwdReferenceIdeal.sig) → Buf (Elt Ideal) ℓ) : Prop :=
  True

def Pre_RgConv (m : (ℓ : Loc Cert.RgConv.nD Cert.RgConv.τ Cert.RgConv.sig) → Buf (Elt Bits) ℓ) : Prop :=
  True

def Pre_RgConvIdeal (m : (ℓ : Loc Cert.RgConvIdeal.nD Cert.RgConvIdeal.τ Cert.RgConvIdeal.sig) → Buf (Elt Ideal) ℓ) : Prop :=
  True

def Pre_RgConvReferenceIdeal (m : (ℓ : Loc Cert.RgConvReferenceIdeal.nD Cert.RgConvReferenceIdeal.τ Cert.RgConvReferenceIdeal.sig) → Buf (Elt Ideal) ℓ) : Prop :=
  True

def Pre_RgConvBwd (m : (ℓ : Loc Cert.RgConvBwd.nD Cert.RgConvBwd.τ Cert.RgConvBwd.sig) → Buf (Elt Bits) ℓ) : Prop :=
  True

def Pre_RgConvBwdIdeal (m : (ℓ : Loc Cert.RgConvBwdIdeal.nD Cert.RgConvBwdIdeal.τ Cert.RgConvBwdIdeal.sig) → Buf (Elt Ideal) ℓ) : Prop :=
  True

def Pre_RgConvBwdReferenceIdeal (m : (ℓ : Loc Cert.RgConvBwdReferenceIdeal.nD Cert.RgConvBwdReferenceIdeal.τ Cert.RgConvBwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1))
      ∧ r.2.sem = fun _ => 0)

def quiescent_FfnDownDx [hFfnDownDx : Cert.FfnDownDx.Facts] : Prop :=
  ∀ (m : (ℓ : Loc Cert.FfnDownDx.nD Cert.FfnDownDx.τ Cert.FfnDownDx.sig) → Buf (Elt Bits) ℓ) (g : Dev Cert.FfnDownDx.nD → PrngReg), Pre_FfnDownDx m →
    θ_run (Cert.FfnDownDx.defs (F := Bits)) (onTc (τ := Cert.FfnDownDx.τ) (Cert.FfnDownDx.main (F := Bits))) ⟨m, fun _ => 0, g⟩ (fun r => (∀ c : Dev Cert.FfnDownDx.nD,
      r.2.mem ((c.tc : Thread Cert.FfnDownDx.nD Cert.FfnDownDx.τ).loc Cert.FfnDownDx.main_arg0) = m ((c.tc : Thread Cert.FfnDownDx.nD Cert.FfnDownDx.τ).loc Cert.FfnDownDx.main_arg0)
      ∧ r.2.mem ((c.tc : Thread Cert.FfnDownDx.nD Cert.FfnDownDx.τ).loc Cert.FfnDownDx.main_arg1) = m ((c.tc : Thread Cert.FfnDownDx.nD Cert.FfnDownDx.τ).loc Cert.FfnDownDx.main_arg1))
      ∧ r.2.sem = fun _ => 0)

def quiescent_FfnDownDxIdeal [hFfnDownDxIdeal : Cert.FfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ r.2.sem = fun _ => 0)

def quiescent_FfnDownDxReferenceIdeal [hFfnDownDxReferenceIdeal : Cert.FfnDownDxReferenceIdeal.Facts] : Prop :=
  ∀ (m : (ℓ : Loc Cert.FfnDownDxReferenceIdeal.nD Cert.FfnDownDxReferenceIdeal.τ Cert.FfnDownDxReferenceIdeal.sig) → Buf (Elt Ideal) ℓ) (g : Dev Cert.FfnDownDxReferenceIdeal.nD → PrngReg), Pre_FfnDownDxReferenceIdeal m →
    θ_run (Cert.FfnDownDxReferenceIdeal.defs (F := Ideal)) (onTc (τ := Cert.FfnDownDxReferenceIdeal.τ) (Cert.FfnDownDxReferenceIdeal.main (F := Ideal))) ⟨m, fun _ => 0, g⟩ (fun r => (∀ c : Dev Cert.FfnDownDxReferenceIdeal.nD,
      r.2.mem ((c.tc : Thread Cert.FfnDownDxReferenceIdeal.nD Cert.FfnDownDxReferenceIdeal.τ).loc Cert.FfnDownDxReferenceIdeal.main_arg0) = m ((c.tc : Thread Cert.FfnDownDxReferenceIdeal.nD Cert.FfnDownDxReferenceIdeal.τ).loc Cert.FfnDownDxReferenceIdeal.main_arg0)
      ∧ r.2.mem ((c.tc : Thread Cert.FfnDownDxReferenceIdeal.nD Cert.FfnDownDxReferenceIdeal.τ).loc Cert.FfnDownDxReferenceIdeal.main_arg1) = m ((c.tc : Thread Cert.FfnDownDxReferenceIdeal.nD Cert.FfnDownDxReferenceIdeal.τ).loc Cert.FfnDownDxReferenceIdeal.main_arg1))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxReferenceIdeal [hMixOutDxReferenceIdeal : Cert.MixOutDxReferenceIdeal.Facts] : Prop :=
  ∀ (m : (ℓ : Loc Cert.MixOutDxReferenceIdeal.nD Cert.MixOutDxReferenceIdeal.τ Cert.MixOutDxReferenceIdeal.sig) → Buf (Elt Ideal) ℓ) (g : Dev Cert.MixOutDxReferenceIdeal.nD → PrngReg), Pre_MixOutDxReferenceIdeal m →
    θ_run (Cert.MixOutDxReferenceIdeal.defs (F := Ideal)) (onTc (τ := Cert.MixOutDxReferenceIdeal.τ) (Cert.MixOutDxReferenceIdeal.main (F := Ideal))) ⟨m, fun _ => 0, g⟩ (fun r => (∀ c : Dev Cert.MixOutDxReferenceIdeal.nD,
      r.2.mem ((c.tc : Thread Cert.MixOutDxReferenceIdeal.nD Cert.MixOutDxReferenceIdeal.τ).loc Cert.MixOutDxReferenceIdeal.main_arg0) = m ((c.tc : Thread Cert.MixOutDxReferenceIdeal.nD Cert.MixOutDxReferenceIdeal.τ).loc Cert.MixOutDxReferenceIdeal.main_arg0)
      ∧ r.2.mem ((c.tc : Thread Cert.MixOutDxReferenceIdeal.nD Cert.MixOutDxReferenceIdeal.τ).loc Cert.MixOutDxReferenceIdeal.main_arg1) = m ((c.tc : Thread Cert.MixOutDxReferenceIdeal.nD Cert.MixOutDxReferenceIdeal.τ).loc Cert.MixOutDxReferenceIdeal.main_arg1))
      ∧ r.2.sem = fun _ => 0)

def quiescent_FfnUpDxGate [hFfnUpDxGate : Cert.FfnUpDxGate.Facts] : Prop :=
  ∀ (m : (ℓ : Loc Cert.FfnUpDxGate.nD Cert.FfnUpDxGate.τ Cert.FfnUpDxGate.sig) → Buf (Elt Bits) ℓ) (g : Dev Cert.FfnUpDxGate.nD → PrngReg), Pre_FfnUpDxGate m →
    θ_run (Cert.FfnUpDxGate.defs (F := Bits)) (onTc (τ := Cert.FfnUpDxGate.τ) (Cert.FfnUpDxGate.main (F := Bits))) ⟨m, fun _ => 0, g⟩ (fun r => (∀ c : Dev Cert.FfnUpDxGate.nD,
      r.2.mem ((c.tc : Thread Cert.FfnUpDxGate.nD Cert.FfnUpDxGate.τ).loc Cert.FfnUpDxGate.main_arg0) = m ((c.tc : Thread Cert.FfnUpDxGate.nD Cert.FfnUpDxGate.τ).loc Cert.FfnUpDxGate.main_arg0)
      ∧ r.2.mem ((c.tc : Thread Cert.FfnUpDxGate.nD Cert.FfnUpDxGate.τ).loc Cert.FfnUpDxGate.main_arg1) = m ((c.tc : Thread Cert.FfnUpDxGate.nD Cert.FfnUpDxGate.τ).loc Cert.FfnUpDxGate.main_arg1)
      ∧ r.2.mem ((c.tc : Thread Cert.FfnUpDxGate.nD Cert.FfnUpDxGate.τ).loc Cert.FfnUpDxGate.main_arg2) = m ((c.tc : Thread Cert.FfnUpDxGate.nD Cert.FfnUpDxGate.τ).loc Cert.FfnUpDxGate.main_arg2))
      ∧ r.2.sem = fun _ => 0)

def quiescent_FfnUpDxGateIdeal [hFfnUpDxGateIdeal : Cert.FfnUpDxGateIdeal.Facts] : Prop :=
  ∀ (m : (ℓ : Loc Cert.FfnUpDxGateIdeal.nD Cert.FfnUpDxGateIdeal.τ Cert.FfnUpDxGateIdeal.sig) → Buf (Elt Ideal) ℓ) (g : Dev Cert.FfnUpDxGateIdeal.nD → PrngReg), Pre_FfnUpDxGateIdeal m →
    θ_run (Cert.FfnUpDxGateIdeal.defs (F := Ideal)) (onTc (τ := Cert.FfnUpDxGateIdeal.τ) (Cert.FfnUpDxGateIdeal.main (F := Ideal))) ⟨m, fun _ => 0, g⟩ (fun r => (∀ c : Dev Cert.FfnUpDxGateIdeal.nD,
      r.2.mem ((c.tc : Thread Cert.FfnUpDxGateIdeal.nD Cert.FfnUpDxGateIdeal.τ).loc Cert.FfnUpDxGateIdeal.main_arg0) = m ((c.tc : Thread Cert.FfnUpDxGateIdeal.nD Cert.FfnUpDxGateIdeal.τ).loc Cert.FfnUpDxGateIdeal.main_arg0)
      ∧ r.2.mem ((c.tc : Thread Cert.FfnUpDxGateIdeal.nD Cert.FfnUpDxGateIdeal.τ).loc Cert.FfnUpDxGateIdeal.main_arg1) = m ((c.tc : Thread Cert.FfnUpDxGateIdeal.nD Cert.FfnUpDxGateIdeal.τ).loc Cert.FfnUpDxGateIdeal.main_arg1)
      ∧ r.2.mem ((c.tc : Thread Cert.FfnUpDxGateIdeal.nD Cert.FfnUpDxGateIdeal.τ).loc Cert.FfnUpDxGateIdeal.main_arg2) = m ((c.tc : Thread Cert.FfnUpDxGateIdeal.nD Cert.FfnUpDxGateIdeal.τ).loc Cert.FfnUpDxGateIdeal.main_arg2))
      ∧ r.2.sem = fun _ => 0)

def quiescent_FfnUpDxGateReferenceIdeal [hFfnUpDxGateReferenceIdeal : Cert.FfnUpDxGateReferenceIdeal.Facts] : Prop :=
  ∀ (m : (ℓ : Loc Cert.FfnUpDxGateReferenceIdeal.nD Cert.FfnUpDxGateReferenceIdeal.τ Cert.FfnUpDxGateReferenceIdeal.sig) → Buf (Elt Ideal) ℓ) (g : Dev Cert.FfnUpDxGateReferenceIdeal.nD → PrngReg), Pre_FfnUpDxGateReferenceIdeal m →
    θ_run (Cert.FfnUpDxGateReferenceIdeal.defs (F := Ideal)) (onTc (τ := Cert.FfnUpDxGateReferenceIdeal.τ) (Cert.FfnUpDxGateReferenceIdeal.main (F := Ideal))) ⟨m, fun _ => 0, g⟩ (fun r => (∀ c : Dev Cert.FfnUpDxGateReferenceIdeal.nD,
      r.2.mem ((c.tc : Thread Cert.FfnUpDxGateReferenceIdeal.nD Cert.FfnUpDxGateReferenceIdeal.τ).loc Cert.FfnUpDxGateReferenceIdeal.main_arg0) = m ((c.tc : Thread Cert.FfnUpDxGateReferenceIdeal.nD Cert.FfnUpDxGateReferenceIdeal.τ).loc Cert.FfnUpDxGateReferenceIdeal.main_arg0)
      ∧ r.2.mem ((c.tc : Thread Cert.FfnUpDxGateReferenceIdeal.nD Cert.FfnUpDxGateReferenceIdeal.τ).loc Cert.FfnUpDxGateReferenceIdeal.main_arg1) = m ((c.tc : Thread Cert.FfnUpDxGateReferenceIdeal.nD Cert.FfnUpDxGateReferenceIdeal.τ).loc Cert.FfnUpDxGateReferenceIdeal.main_arg1)
      ∧ r.2.mem ((c.tc : Thread Cert.FfnUpDxGateReferenceIdeal.nD Cert.FfnUpDxGateReferenceIdeal.τ).loc Cert.FfnUpDxGateReferenceIdeal.main_arg2) = m ((c.tc : Thread Cert.FfnUpDxGateReferenceIdeal.nD Cert.FfnUpDxGateReferenceIdeal.τ).loc Cert.FfnUpDxGateReferenceIdeal.main_arg2))
      ∧ r.2.sem = fun _ => 0)

def quiescent_FfnUpDxUp [hFfnUpDxUp : Cert.FfnUpDxUp.Facts] : Prop :=
  ∀ (m : (ℓ : Loc Cert.FfnUpDxUp.nD Cert.FfnUpDxUp.τ Cert.FfnUpDxUp.sig) → Buf (Elt Bits) ℓ) (g : Dev Cert.FfnUpDxUp.nD → PrngReg), Pre_FfnUpDxUp m →
    θ_run (Cert.FfnUpDxUp.defs (F := Bits)) (onTc (τ := Cert.FfnUpDxUp.τ) (Cert.FfnUpDxUp.main (F := Bits))) ⟨m, fun _ => 0, g⟩ (fun r => (∀ c : Dev Cert.FfnUpDxUp.nD,
      r.2.mem ((c.tc : Thread Cert.FfnUpDxUp.nD Cert.FfnUpDxUp.τ).loc Cert.FfnUpDxUp.main_arg0) = m ((c.tc : Thread Cert.FfnUpDxUp.nD Cert.FfnUpDxUp.τ).loc Cert.FfnUpDxUp.main_arg0)
      ∧ r.2.mem ((c.tc : Thread Cert.FfnUpDxUp.nD Cert.FfnUpDxUp.τ).loc Cert.FfnUpDxUp.main_arg1) = m ((c.tc : Thread Cert.FfnUpDxUp.nD Cert.FfnUpDxUp.τ).loc Cert.FfnUpDxUp.main_arg1)
      ∧ r.2.mem ((c.tc : Thread Cert.FfnUpDxUp.nD Cert.FfnUpDxUp.τ).loc Cert.FfnUpDxUp.main_arg2) = m ((c.tc : Thread Cert.FfnUpDxUp.nD Cert.FfnUpDxUp.τ).loc Cert.FfnUpDxUp.main_arg2))
      ∧ r.2.sem = fun _ => 0)

def quiescent_FfnUpDxUpIdeal [hFfnUpDxUpIdeal : Cert.FfnUpDxUpIdeal.Facts] : Prop :=
  ∀ (m : (ℓ : Loc Cert.FfnUpDxUpIdeal.nD Cert.FfnUpDxUpIdeal.τ Cert.FfnUpDxUpIdeal.sig) → Buf (Elt Ideal) ℓ) (g : Dev Cert.FfnUpDxUpIdeal.nD → PrngReg), Pre_FfnUpDxUpIdeal m →
    θ_run (Cert.FfnUpDxUpIdeal.defs (F := Ideal)) (onTc (τ := Cert.FfnUpDxUpIdeal.τ) (Cert.FfnUpDxUpIdeal.main (F := Ideal))) ⟨m, fun _ => 0, g⟩ (fun r => (∀ c : Dev Cert.FfnUpDxUpIdeal.nD,
      r.2.mem ((c.tc : Thread Cert.FfnUpDxUpIdeal.nD Cert.FfnUpDxUpIdeal.τ).loc Cert.FfnUpDxUpIdeal.main_arg0) = m ((c.tc : Thread Cert.FfnUpDxUpIdeal.nD Cert.FfnUpDxUpIdeal.τ).loc Cert.FfnUpDxUpIdeal.main_arg0)
      ∧ r.2.mem ((c.tc : Thread Cert.FfnUpDxUpIdeal.nD Cert.FfnUpDxUpIdeal.τ).loc Cert.FfnUpDxUpIdeal.main_arg1) = m ((c.tc : Thread Cert.FfnUpDxUpIdeal.nD Cert.FfnUpDxUpIdeal.τ).loc Cert.FfnUpDxUpIdeal.main_arg1)
      ∧ r.2.mem ((c.tc : Thread Cert.FfnUpDxUpIdeal.nD Cert.FfnUpDxUpIdeal.τ).loc Cert.FfnUpDxUpIdeal.main_arg2) = m ((c.tc : Thread Cert.FfnUpDxUpIdeal.nD Cert.FfnUpDxUpIdeal.τ).loc Cert.FfnUpDxUpIdeal.main_arg2))
      ∧ r.2.sem = fun _ => 0)

def quiescent_FfnUpDxUpReferenceIdeal [hFfnUpDxUpReferenceIdeal : Cert.FfnUpDxUpReferenceIdeal.Facts] : Prop :=
  ∀ (m : (ℓ : Loc Cert.FfnUpDxUpReferenceIdeal.nD Cert.FfnUpDxUpReferenceIdeal.τ Cert.FfnUpDxUpReferenceIdeal.sig) → Buf (Elt Ideal) ℓ) (g : Dev Cert.FfnUpDxUpReferenceIdeal.nD → PrngReg), Pre_FfnUpDxUpReferenceIdeal m →
    θ_run (Cert.FfnUpDxUpReferenceIdeal.defs (F := Ideal)) (onTc (τ := Cert.FfnUpDxUpReferenceIdeal.τ) (Cert.FfnUpDxUpReferenceIdeal.main (F := Ideal))) ⟨m, fun _ => 0, g⟩ (fun r => (∀ c : Dev Cert.FfnUpDxUpReferenceIdeal.nD,
      r.2.mem ((c.tc : Thread Cert.FfnUpDxUpReferenceIdeal.nD Cert.FfnUpDxUpReferenceIdeal.τ).loc Cert.FfnUpDxUpReferenceIdeal.main_arg0) = m ((c.tc : Thread Cert.FfnUpDxUpReferenceIdeal.nD Cert.FfnUpDxUpReferenceIdeal.τ).loc Cert.FfnUpDxUpReferenceIdeal.main_arg0)
      ∧ r.2.mem ((c.tc : Thread Cert.FfnUpDxUpReferenceIdeal.nD Cert.FfnUpDxUpReferenceIdeal.τ).loc Cert.FfnUpDxUpReferenceIdeal.main_arg1) = m ((c.tc : Thread Cert.FfnUpDxUpReferenceIdeal.nD Cert.FfnUpDxUpReferenceIdeal.τ).loc Cert.FfnUpDxUpReferenceIdeal.main_arg1)
      ∧ r.2.mem ((c.tc : Thread Cert.FfnUpDxUpReferenceIdeal.nD Cert.FfnUpDxUpReferenceIdeal.τ).loc Cert.FfnUpDxUpReferenceIdeal.main_arg2) = m ((c.tc : Thread Cert.FfnUpDxUpReferenceIdeal.nD Cert.FfnUpDxUpReferenceIdeal.τ).loc Cert.FfnUpDxUpReferenceIdeal.main_arg2))
      ∧ r.2.sem = fun _ => 0)

def quiescent_CdInDx [hCdInDx : Cert.CdInDx.Facts] : Prop :=
  ∀ (m : (ℓ : Loc Cert.CdInDx.nD Cert.CdInDx.τ Cert.CdInDx.sig) → Buf (Elt Bits) ℓ) (g : Dev Cert.CdInDx.nD → PrngReg), Pre_CdInDx m →
    θ_run (Cert.CdInDx.defs (F := Bits)) (onTc (τ := Cert.CdInDx.τ) (Cert.CdInDx.main (F := Bits))) ⟨m, fun _ => 0, g⟩ (fun r => (∀ c : Dev Cert.CdInDx.nD,
      r.2.mem ((c.tc : Thread Cert.CdInDx.nD Cert.CdInDx.τ).loc Cert.CdInDx.main_arg0) = m ((c.tc : Thread Cert.CdInDx.nD Cert.CdInDx.τ).loc Cert.CdInDx.main_arg0)
      ∧ r.2.mem ((c.tc : Thread Cert.CdInDx.nD Cert.CdInDx.τ).loc Cert.CdInDx.main_arg1) = m ((c.tc : Thread Cert.CdInDx.nD Cert.CdInDx.τ).loc Cert.CdInDx.main_arg1)
      ∧ r.2.mem ((c.tc : Thread Cert.CdInDx.nD Cert.CdInDx.τ).loc Cert.CdInDx.main_arg2) = m ((c.tc : Thread Cert.CdInDx.nD Cert.CdInDx.τ).loc Cert.CdInDx.main_arg2))
      ∧ r.2.sem = fun _ => 0)

def quiescent_CdInDxIdeal [hCdInDxIdeal : Cert.CdInDxIdeal.Facts] : Prop :=
  ∀ (m : (ℓ : Loc Cert.CdInDxIdeal.nD Cert.CdInDxIdeal.τ Cert.CdInDxIdeal.sig) → Buf (Elt Ideal) ℓ) (g : Dev Cert.CdInDxIdeal.nD → PrngReg), Pre_CdInDxIdeal m →
    θ_run (Cert.CdInDxIdeal.defs (F := Ideal)) (onTc (τ := Cert.CdInDxIdeal.τ) (Cert.CdInDxIdeal.main (F := Ideal))) ⟨m, fun _ => 0, g⟩ (fun r => (∀ c : Dev Cert.CdInDxIdeal.nD,
      r.2.mem ((c.tc : Thread Cert.CdInDxIdeal.nD Cert.CdInDxIdeal.τ).loc Cert.CdInDxIdeal.main_arg0) = m ((c.tc : Thread Cert.CdInDxIdeal.nD Cert.CdInDxIdeal.τ).loc Cert.CdInDxIdeal.main_arg0)
      ∧ r.2.mem ((c.tc : Thread Cert.CdInDxIdeal.nD Cert.CdInDxIdeal.τ).loc Cert.CdInDxIdeal.main_arg1) = m ((c.tc : Thread Cert.CdInDxIdeal.nD Cert.CdInDxIdeal.τ).loc Cert.CdInDxIdeal.main_arg1)
      ∧ r.2.mem ((c.tc : Thread Cert.CdInDxIdeal.nD Cert.CdInDxIdeal.τ).loc Cert.CdInDxIdeal.main_arg2) = m ((c.tc : Thread Cert.CdInDxIdeal.nD Cert.CdInDxIdeal.τ).loc Cert.CdInDxIdeal.main_arg2))
      ∧ r.2.sem = fun _ => 0)

def quiescent_CdInDxReferenceIdeal [hCdInDxReferenceIdeal : Cert.CdInDxReferenceIdeal.Facts] : Prop :=
  ∀ (m : (ℓ : Loc Cert.CdInDxReferenceIdeal.nD Cert.CdInDxReferenceIdeal.τ Cert.CdInDxReferenceIdeal.sig) → Buf (Elt Ideal) ℓ) (g : Dev Cert.CdInDxReferenceIdeal.nD → PrngReg), Pre_CdInDxReferenceIdeal m →
    θ_run (Cert.CdInDxReferenceIdeal.defs (F := Ideal)) (onTc (τ := Cert.CdInDxReferenceIdeal.τ) (Cert.CdInDxReferenceIdeal.main (F := Ideal))) ⟨m, fun _ => 0, g⟩ (fun r => (∀ c : Dev Cert.CdInDxReferenceIdeal.nD,
      r.2.mem ((c.tc : Thread Cert.CdInDxReferenceIdeal.nD Cert.CdInDxReferenceIdeal.τ).loc Cert.CdInDxReferenceIdeal.main_arg0) = m ((c.tc : Thread Cert.CdInDxReferenceIdeal.nD Cert.CdInDxReferenceIdeal.τ).loc Cert.CdInDxReferenceIdeal.main_arg0)
      ∧ r.2.mem ((c.tc : Thread Cert.CdInDxReferenceIdeal.nD Cert.CdInDxReferenceIdeal.τ).loc Cert.CdInDxReferenceIdeal.main_arg1) = m ((c.tc : Thread Cert.CdInDxReferenceIdeal.nD Cert.CdInDxReferenceIdeal.τ).loc Cert.CdInDxReferenceIdeal.main_arg1)
      ∧ r.2.mem ((c.tc : Thread Cert.CdInDxReferenceIdeal.nD Cert.CdInDxReferenceIdeal.τ).loc Cert.CdInDxReferenceIdeal.main_arg2) = m ((c.tc : Thread Cert.CdInDxReferenceIdeal.nD Cert.CdInDxReferenceIdeal.τ).loc Cert.CdInDxReferenceIdeal.main_arg2))
      ∧ r.2.sem = fun _ => 0)

def quiescent_AbInDx [hAbInDx : Cert.AbInDx.Facts] : Prop :=
  ∀ (m : (ℓ : Loc Cert.AbInDx.nD Cert.AbInDx.τ Cert.AbInDx.sig) → Buf (Elt Bits) ℓ) (g : Dev Cert.AbInDx.nD → PrngReg), Pre_AbInDx m →
    θ_run (Cert.AbInDx.defs (F := Bits)) (onTc (τ := Cert.AbInDx.τ) (Cert.AbInDx.main (F := Bits))) ⟨m, fun _ => 0, g⟩ (fun r => (∀ c : Dev Cert.AbInDx.nD,
      r.2.mem ((c.tc : Thread Cert.AbInDx.nD Cert.AbInDx.τ).loc Cert.AbInDx.main_arg0) = m ((c.tc : Thread Cert.AbInDx.nD Cert.AbInDx.τ).loc Cert.AbInDx.main_arg0)
      ∧ r.2.mem ((c.tc : Thread Cert.AbInDx.nD Cert.AbInDx.τ).loc Cert.AbInDx.main_arg1) = m ((c.tc : Thread Cert.AbInDx.nD Cert.AbInDx.τ).loc Cert.AbInDx.main_arg1)
      ∧ r.2.mem ((c.tc : Thread Cert.AbInDx.nD Cert.AbInDx.τ).loc Cert.AbInDx.main_arg2) = m ((c.tc : Thread Cert.AbInDx.nD Cert.AbInDx.τ).loc Cert.AbInDx.main_arg2))
      ∧ r.2.sem = fun _ => 0)

def quiescent_AbInDxIdeal [hAbInDxIdeal : Cert.AbInDxIdeal.Facts] : Prop :=
  ∀ (m : (ℓ : Loc Cert.AbInDxIdeal.nD Cert.AbInDxIdeal.τ Cert.AbInDxIdeal.sig) → Buf (Elt Ideal) ℓ) (g : Dev Cert.AbInDxIdeal.nD → PrngReg), Pre_AbInDxIdeal m →
    θ_run (Cert.AbInDxIdeal.defs (F := Ideal)) (onTc (τ := Cert.AbInDxIdeal.τ) (Cert.AbInDxIdeal.main (F := Ideal))) ⟨m, fun _ => 0, g⟩ (fun r => (∀ c : Dev Cert.AbInDxIdeal.nD,
      r.2.mem ((c.tc : Thread Cert.AbInDxIdeal.nD Cert.AbInDxIdeal.τ).loc Cert.AbInDxIdeal.main_arg0) = m ((c.tc : Thread Cert.AbInDxIdeal.nD Cert.AbInDxIdeal.τ).loc Cert.AbInDxIdeal.main_arg0)
      ∧ r.2.mem ((c.tc : Thread Cert.AbInDxIdeal.nD Cert.AbInDxIdeal.τ).loc Cert.AbInDxIdeal.main_arg1) = m ((c.tc : Thread Cert.AbInDxIdeal.nD Cert.AbInDxIdeal.τ).loc Cert.AbInDxIdeal.main_arg1)
      ∧ r.2.mem ((c.tc : Thread Cert.AbInDxIdeal.nD Cert.AbInDxIdeal.τ).loc Cert.AbInDxIdeal.main_arg2) = m ((c.tc : Thread Cert.AbInDxIdeal.nD Cert.AbInDxIdeal.τ).loc Cert.AbInDxIdeal.main_arg2))
      ∧ r.2.sem = fun _ => 0)

def quiescent_AbInDxReferenceIdeal [hAbInDxReferenceIdeal : Cert.AbInDxReferenceIdeal.Facts] : Prop :=
  ∀ (m : (ℓ : Loc Cert.AbInDxReferenceIdeal.nD Cert.AbInDxReferenceIdeal.τ Cert.AbInDxReferenceIdeal.sig) → Buf (Elt Ideal) ℓ) (g : Dev Cert.AbInDxReferenceIdeal.nD → PrngReg), Pre_AbInDxReferenceIdeal m →
    θ_run (Cert.AbInDxReferenceIdeal.defs (F := Ideal)) (onTc (τ := Cert.AbInDxReferenceIdeal.τ) (Cert.AbInDxReferenceIdeal.main (F := Ideal))) ⟨m, fun _ => 0, g⟩ (fun r => (∀ c : Dev Cert.AbInDxReferenceIdeal.nD,
      r.2.mem ((c.tc : Thread Cert.AbInDxReferenceIdeal.nD Cert.AbInDxReferenceIdeal.τ).loc Cert.AbInDxReferenceIdeal.main_arg0) = m ((c.tc : Thread Cert.AbInDxReferenceIdeal.nD Cert.AbInDxReferenceIdeal.τ).loc Cert.AbInDxReferenceIdeal.main_arg0)
      ∧ r.2.mem ((c.tc : Thread Cert.AbInDxReferenceIdeal.nD Cert.AbInDxReferenceIdeal.τ).loc Cert.AbInDxReferenceIdeal.main_arg1) = m ((c.tc : Thread Cert.AbInDxReferenceIdeal.nD Cert.AbInDxReferenceIdeal.τ).loc Cert.AbInDxReferenceIdeal.main_arg1)
      ∧ r.2.mem ((c.tc : Thread Cert.AbInDxReferenceIdeal.nD Cert.AbInDxReferenceIdeal.τ).loc Cert.AbInDxReferenceIdeal.main_arg2) = m ((c.tc : Thread Cert.AbInDxReferenceIdeal.nD Cert.AbInDxReferenceIdeal.τ).loc Cert.AbInDxReferenceIdeal.main_arg2))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwReferenceIdeal [hFfnDownDwReferenceIdeal : Cert.FfnDownDwReferenceIdeal.Facts] : Prop :=
  ∀ (m : (ℓ : Loc Cert.FfnDownDwReferenceIdeal.nD Cert.FfnDownDwReferenceIdeal.τ Cert.FfnDownDwReferenceIdeal.sig) → Buf (Elt Ideal) ℓ) (g : Dev Cert.FfnDownDwReferenceIdeal.nD → PrngReg), Pre_FfnDownDwReferenceIdeal m →
    θ_run (Cert.FfnDownDwReferenceIdeal.defs (F := Ideal)) (onTc (τ := Cert.FfnDownDwReferenceIdeal.τ) (Cert.FfnDownDwReferenceIdeal.main (F := Ideal))) ⟨m, fun _ => 0, g⟩ (fun r => (∀ c : Dev Cert.FfnDownDwReferenceIdeal.nD,
      r.2.mem ((c.tc : Thread Cert.FfnDownDwReferenceIdeal.nD Cert.FfnDownDwReferenceIdeal.τ).loc Cert.FfnDownDwReferenceIdeal.main_arg0) = m ((c.tc : Thread Cert.FfnDownDwReferenceIdeal.nD Cert.FfnDownDwReferenceIdeal.τ).loc Cert.FfnDownDwReferenceIdeal.main_arg0)
      ∧ r.2.mem ((c.tc : Thread Cert.FfnDownDwReferenceIdeal.nD Cert.FfnDownDwReferenceIdeal.τ).loc Cert.FfnDownDwReferenceIdeal.main_arg1) = m ((c.tc : Thread Cert.FfnDownDwReferenceIdeal.nD Cert.FfnDownDwReferenceIdeal.τ).loc Cert.FfnDownDwReferenceIdeal.main_arg1))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ r.2.sem = fun _ => 0)

def quiescent_MixOutDwReferenceIdeal [hMixOutDwReferenceIdeal : Cert.MixOutDwReferenceIdeal.Facts] : Prop :=
  ∀ (m : (ℓ : Loc Cert.MixOutDwReferenceIdeal.nD Cert.MixOutDwReferenceIdeal.τ Cert.MixOutDwReferenceIdeal.sig) → Buf (Elt Ideal) ℓ) (g : Dev Cert.MixOutDwReferenceIdeal.nD → PrngReg), Pre_MixOutDwReferenceIdeal m →
    θ_run (Cert.MixOutDwReferenceIdeal.defs (F := Ideal)) (onTc (τ := Cert.MixOutDwReferenceIdeal.τ) (Cert.MixOutDwReferenceIdeal.main (F := Ideal))) ⟨m, fun _ => 0, g⟩ (fun r => (∀ c : Dev Cert.MixOutDwReferenceIdeal.nD,
      r.2.mem ((c.tc : Thread Cert.MixOutDwReferenceIdeal.nD Cert.MixOutDwReferenceIdeal.τ).loc Cert.MixOutDwReferenceIdeal.main_arg0) = m ((c.tc : Thread Cert.MixOutDwReferenceIdeal.nD Cert.MixOutDwReferenceIdeal.τ).loc Cert.MixOutDwReferenceIdeal.main_arg0)
      ∧ r.2.mem ((c.tc : Thread Cert.MixOutDwReferenceIdeal.nD Cert.MixOutDwReferenceIdeal.τ).loc Cert.MixOutDwReferenceIdeal.main_arg1) = m ((c.tc : Thread Cert.MixOutDwReferenceIdeal.nD Cert.MixOutDwReferenceIdeal.τ).loc Cert.MixOutDwReferenceIdeal.main_arg1))
      ∧ r.2.sem = fun _ => 0)

def quiescent_FfnUpDwGate [hFfnUpDwGate : Cert.FfnUpDwGate.Facts] : Prop :=
  ∀ (m : (ℓ : Loc Cert.FfnUpDwGate.nD Cert.FfnUpDwGate.τ Cert.FfnUpDwGate.sig) → Buf (Elt Bits) ℓ) (g : Dev Cert.FfnUpDwGate.nD → PrngReg), Pre_FfnUpDwGate m →
    θ_run (Cert.FfnUpDwGate.defs (F := Bits)) (onTc (τ := Cert.FfnUpDwGate.τ) (Cert.FfnUpDwGate.main (F := Bits))) ⟨m, fun _ => 0, g⟩ (fun r => (∀ c : Dev Cert.FfnUpDwGate.nD,
      r.2.mem ((c.tc : Thread Cert.FfnUpDwGate.nD Cert.FfnUpDwGate.τ).loc Cert.FfnUpDwGate.main_arg0) = m ((c.tc : Thread Cert.FfnUpDwGate.nD Cert.FfnUpDwGate.τ).loc Cert.FfnUpDwGate.main_arg0)
      ∧ r.2.mem ((c.tc : Thread Cert.FfnUpDwGate.nD Cert.FfnUpDwGate.τ).loc Cert.FfnUpDwGate.main_arg1) = m ((c.tc : Thread Cert.FfnUpDwGate.nD Cert.FfnUpDwGate.τ).loc Cert.FfnUpDwGate.main_arg1))
      ∧ r.2.sem = fun _ => 0)

def quiescent_FfnUpDwGateIdeal [hFfnUpDwGateIdeal : Cert.FfnUpDwGateIdeal.Facts] : Prop :=
  ∀ (m : (ℓ : Loc Cert.FfnUpDwGateIdeal.nD Cert.FfnUpDwGateIdeal.τ Cert.FfnUpDwGateIdeal.sig) → Buf (Elt Ideal) ℓ) (g : Dev Cert.FfnUpDwGateIdeal.nD → PrngReg), Pre_FfnUpDwGateIdeal m →
    θ_run (Cert.FfnUpDwGateIdeal.defs (F := Ideal)) (onTc (τ := Cert.FfnUpDwGateIdeal.τ) (Cert.FfnUpDwGateIdeal.main (F := Ideal))) ⟨m, fun _ => 0, g⟩ (fun r => (∀ c : Dev Cert.FfnUpDwGateIdeal.nD,
      r.2.mem ((c.tc : Thread Cert.FfnUpDwGateIdeal.nD Cert.FfnUpDwGateIdeal.τ).loc Cert.FfnUpDwGateIdeal.main_arg0) = m ((c.tc : Thread Cert.FfnUpDwGateIdeal.nD Cert.FfnUpDwGateIdeal.τ).loc Cert.FfnUpDwGateIdeal.main_arg0)
      ∧ r.2.mem ((c.tc : Thread Cert.FfnUpDwGateIdeal.nD Cert.FfnUpDwGateIdeal.τ).loc Cert.FfnUpDwGateIdeal.main_arg1) = m ((c.tc : Thread Cert.FfnUpDwGateIdeal.nD Cert.FfnUpDwGateIdeal.τ).loc Cert.FfnUpDwGateIdeal.main_arg1))
      ∧ r.2.sem = fun _ => 0)

def quiescent_FfnUpDwGateReferenceIdeal [hFfnUpDwGateReferenceIdeal : Cert.FfnUpDwGateReferenceIdeal.Facts] : Prop :=
  ∀ (m : (ℓ : Loc Cert.FfnUpDwGateReferenceIdeal.nD Cert.FfnUpDwGateReferenceIdeal.τ Cert.FfnUpDwGateReferenceIdeal.sig) → Buf (Elt Ideal) ℓ) (g : Dev Cert.FfnUpDwGateReferenceIdeal.nD → PrngReg), Pre_FfnUpDwGateReferenceIdeal m →
    θ_run (Cert.FfnUpDwGateReferenceIdeal.defs (F := Ideal)) (onTc (τ := Cert.FfnUpDwGateReferenceIdeal.τ) (Cert.FfnUpDwGateReferenceIdeal.main (F := Ideal))) ⟨m, fun _ => 0, g⟩ (fun r => (∀ c : Dev Cert.FfnUpDwGateReferenceIdeal.nD,
      r.2.mem ((c.tc : Thread Cert.FfnUpDwGateReferenceIdeal.nD Cert.FfnUpDwGateReferenceIdeal.τ).loc Cert.FfnUpDwGateReferenceIdeal.main_arg0) = m ((c.tc : Thread Cert.FfnUpDwGateReferenceIdeal.nD Cert.FfnUpDwGateReferenceIdeal.τ).loc Cert.FfnUpDwGateReferenceIdeal.main_arg0)
      ∧ r.2.mem ((c.tc : Thread Cert.FfnUpDwGateReferenceIdeal.nD Cert.FfnUpDwGateReferenceIdeal.τ).loc Cert.FfnUpDwGateReferenceIdeal.main_arg1) = m ((c.tc : Thread Cert.FfnUpDwGateReferenceIdeal.nD Cert.FfnUpDwGateReferenceIdeal.τ).loc Cert.FfnUpDwGateReferenceIdeal.main_arg1))
      ∧ r.2.sem = fun _ => 0)

def quiescent_FfnUpDwUp [hFfnUpDwUp : Cert.FfnUpDwUp.Facts] : Prop :=
  ∀ (m : (ℓ : Loc Cert.FfnUpDwUp.nD Cert.FfnUpDwUp.τ Cert.FfnUpDwUp.sig) → Buf (Elt Bits) ℓ) (g : Dev Cert.FfnUpDwUp.nD → PrngReg), Pre_FfnUpDwUp m →
    θ_run (Cert.FfnUpDwUp.defs (F := Bits)) (onTc (τ := Cert.FfnUpDwUp.τ) (Cert.FfnUpDwUp.main (F := Bits))) ⟨m, fun _ => 0, g⟩ (fun r => (∀ c : Dev Cert.FfnUpDwUp.nD,
      r.2.mem ((c.tc : Thread Cert.FfnUpDwUp.nD Cert.FfnUpDwUp.τ).loc Cert.FfnUpDwUp.main_arg0) = m ((c.tc : Thread Cert.FfnUpDwUp.nD Cert.FfnUpDwUp.τ).loc Cert.FfnUpDwUp.main_arg0)
      ∧ r.2.mem ((c.tc : Thread Cert.FfnUpDwUp.nD Cert.FfnUpDwUp.τ).loc Cert.FfnUpDwUp.main_arg1) = m ((c.tc : Thread Cert.FfnUpDwUp.nD Cert.FfnUpDwUp.τ).loc Cert.FfnUpDwUp.main_arg1))
      ∧ r.2.sem = fun _ => 0)

def quiescent_FfnUpDwUpIdeal [hFfnUpDwUpIdeal : Cert.FfnUpDwUpIdeal.Facts] : Prop :=
  ∀ (m : (ℓ : Loc Cert.FfnUpDwUpIdeal.nD Cert.FfnUpDwUpIdeal.τ Cert.FfnUpDwUpIdeal.sig) → Buf (Elt Ideal) ℓ) (g : Dev Cert.FfnUpDwUpIdeal.nD → PrngReg), Pre_FfnUpDwUpIdeal m →
    θ_run (Cert.FfnUpDwUpIdeal.defs (F := Ideal)) (onTc (τ := Cert.FfnUpDwUpIdeal.τ) (Cert.FfnUpDwUpIdeal.main (F := Ideal))) ⟨m, fun _ => 0, g⟩ (fun r => (∀ c : Dev Cert.FfnUpDwUpIdeal.nD,
      r.2.mem ((c.tc : Thread Cert.FfnUpDwUpIdeal.nD Cert.FfnUpDwUpIdeal.τ).loc Cert.FfnUpDwUpIdeal.main_arg0) = m ((c.tc : Thread Cert.FfnUpDwUpIdeal.nD Cert.FfnUpDwUpIdeal.τ).loc Cert.FfnUpDwUpIdeal.main_arg0)
      ∧ r.2.mem ((c.tc : Thread Cert.FfnUpDwUpIdeal.nD Cert.FfnUpDwUpIdeal.τ).loc Cert.FfnUpDwUpIdeal.main_arg1) = m ((c.tc : Thread Cert.FfnUpDwUpIdeal.nD Cert.FfnUpDwUpIdeal.τ).loc Cert.FfnUpDwUpIdeal.main_arg1))
      ∧ r.2.sem = fun _ => 0)

def quiescent_FfnUpDwUpReferenceIdeal [hFfnUpDwUpReferenceIdeal : Cert.FfnUpDwUpReferenceIdeal.Facts] : Prop :=
  ∀ (m : (ℓ : Loc Cert.FfnUpDwUpReferenceIdeal.nD Cert.FfnUpDwUpReferenceIdeal.τ Cert.FfnUpDwUpReferenceIdeal.sig) → Buf (Elt Ideal) ℓ) (g : Dev Cert.FfnUpDwUpReferenceIdeal.nD → PrngReg), Pre_FfnUpDwUpReferenceIdeal m →
    θ_run (Cert.FfnUpDwUpReferenceIdeal.defs (F := Ideal)) (onTc (τ := Cert.FfnUpDwUpReferenceIdeal.τ) (Cert.FfnUpDwUpReferenceIdeal.main (F := Ideal))) ⟨m, fun _ => 0, g⟩ (fun r => (∀ c : Dev Cert.FfnUpDwUpReferenceIdeal.nD,
      r.2.mem ((c.tc : Thread Cert.FfnUpDwUpReferenceIdeal.nD Cert.FfnUpDwUpReferenceIdeal.τ).loc Cert.FfnUpDwUpReferenceIdeal.main_arg0) = m ((c.tc : Thread Cert.FfnUpDwUpReferenceIdeal.nD Cert.FfnUpDwUpReferenceIdeal.τ).loc Cert.FfnUpDwUpReferenceIdeal.main_arg0)
      ∧ r.2.mem ((c.tc : Thread Cert.FfnUpDwUpReferenceIdeal.nD Cert.FfnUpDwUpReferenceIdeal.τ).loc Cert.FfnUpDwUpReferenceIdeal.main_arg1) = m ((c.tc : Thread Cert.FfnUpDwUpReferenceIdeal.nD Cert.FfnUpDwUpReferenceIdeal.τ).loc Cert.FfnUpDwUpReferenceIdeal.main_arg1))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ r.2.sem = fun _ => 0)

def quiescent_AbInReferenceIdeal [hAbInReferenceIdeal : Cert.AbInReferenceIdeal.Facts] : Prop :=
  ∀ (m : (ℓ : Loc Cert.AbInReferenceIdeal.nD Cert.AbInReferenceIdeal.τ Cert.AbInReferenceIdeal.sig) → Buf (Elt Ideal) ℓ) (g : Dev Cert.AbInReferenceIdeal.nD → PrngReg), Pre_AbInReferenceIdeal m →
    θ_run (Cert.AbInReferenceIdeal.defs (F := Ideal)) (onTc (τ := Cert.AbInReferenceIdeal.τ) (Cert.AbInReferenceIdeal.main (F := Ideal))) ⟨m, fun _ => 0, g⟩ (fun r => (∀ c : Dev Cert.AbInReferenceIdeal.nD,
      r.2.mem ((c.tc : Thread Cert.AbInReferenceIdeal.nD Cert.AbInReferenceIdeal.τ).loc Cert.AbInReferenceIdeal.main_arg0) = m ((c.tc : Thread Cert.AbInReferenceIdeal.nD Cert.AbInReferenceIdeal.τ).loc Cert.AbInReferenceIdeal.main_arg0)
      ∧ r.2.mem ((c.tc : Thread Cert.AbInReferenceIdeal.nD Cert.AbInReferenceIdeal.τ).loc Cert.AbInReferenceIdeal.main_arg1) = m ((c.tc : Thread Cert.AbInReferenceIdeal.nD Cert.AbInReferenceIdeal.τ).loc Cert.AbInReferenceIdeal.main_arg1))
      ∧ r.2.sem = fun _ => 0)

def quiescent_CdIn [hCdIn : Cert.CdIn.Facts] : Prop :=
  ∀ (m : (ℓ : Loc Cert.CdIn.nD Cert.CdIn.τ Cert.CdIn.sig) → Buf (Elt Bits) ℓ) (g : Dev Cert.CdIn.nD → PrngReg), Pre_CdIn m →
    θ_run (Cert.CdIn.defs (F := Bits)) (onTc (τ := Cert.CdIn.τ) (Cert.CdIn.main (F := Bits))) ⟨m, fun _ => 0, g⟩ (fun r => (∀ c : Dev Cert.CdIn.nD,
      r.2.mem ((c.tc : Thread Cert.CdIn.nD Cert.CdIn.τ).loc Cert.CdIn.main_arg0) = m ((c.tc : Thread Cert.CdIn.nD Cert.CdIn.τ).loc Cert.CdIn.main_arg0)
      ∧ r.2.mem ((c.tc : Thread Cert.CdIn.nD Cert.CdIn.τ).loc Cert.CdIn.main_arg1) = m ((c.tc : Thread Cert.CdIn.nD Cert.CdIn.τ).loc Cert.CdIn.main_arg1))
      ∧ r.2.sem = fun _ => 0)

def quiescent_CdInIdeal [hCdInIdeal : Cert.CdInIdeal.Facts] : Prop :=
  ∀ (m : (ℓ : Loc Cert.CdInIdeal.nD Cert.CdInIdeal.τ Cert.CdInIdeal.sig) → Buf (Elt Ideal) ℓ) (g : Dev Cert.CdInIdeal.nD → PrngReg), Pre_CdInIdeal m →
    θ_run (Cert.CdInIdeal.defs (F := Ideal)) (onTc (τ := Cert.CdInIdeal.τ) (Cert.CdInIdeal.main (F := Ideal))) ⟨m, fun _ => 0, g⟩ (fun r => (∀ c : Dev Cert.CdInIdeal.nD,
      r.2.mem ((c.tc : Thread Cert.CdInIdeal.nD Cert.CdInIdeal.τ).loc Cert.CdInIdeal.main_arg0) = m ((c.tc : Thread Cert.CdInIdeal.nD Cert.CdInIdeal.τ).loc Cert.CdInIdeal.main_arg0)
      ∧ r.2.mem ((c.tc : Thread Cert.CdInIdeal.nD Cert.CdInIdeal.τ).loc Cert.CdInIdeal.main_arg1) = m ((c.tc : Thread Cert.CdInIdeal.nD Cert.CdInIdeal.τ).loc Cert.CdInIdeal.main_arg1))
      ∧ r.2.sem = fun _ => 0)

def quiescent_CdInReferenceIdeal [hCdInReferenceIdeal : Cert.CdInReferenceIdeal.Facts] : Prop :=
  ∀ (m : (ℓ : Loc Cert.CdInReferenceIdeal.nD Cert.CdInReferenceIdeal.τ Cert.CdInReferenceIdeal.sig) → Buf (Elt Ideal) ℓ) (g : Dev Cert.CdInReferenceIdeal.nD → PrngReg), Pre_CdInReferenceIdeal m →
    θ_run (Cert.CdInReferenceIdeal.defs (F := Ideal)) (onTc (τ := Cert.CdInReferenceIdeal.τ) (Cert.CdInReferenceIdeal.main (F := Ideal))) ⟨m, fun _ => 0, g⟩ (fun r => (∀ c : Dev Cert.CdInReferenceIdeal.nD,
      r.2.mem ((c.tc : Thread Cert.CdInReferenceIdeal.nD Cert.CdInReferenceIdeal.τ).loc Cert.CdInReferenceIdeal.main_arg0) = m ((c.tc : Thread Cert.CdInReferenceIdeal.nD Cert.CdInReferenceIdeal.τ).loc Cert.CdInReferenceIdeal.main_arg0)
      ∧ r.2.mem ((c.tc : Thread Cert.CdInReferenceIdeal.nD Cert.CdInReferenceIdeal.τ).loc Cert.CdInReferenceIdeal.main_arg1) = m ((c.tc : Thread Cert.CdInReferenceIdeal.nD Cert.CdInReferenceIdeal.τ).loc Cert.CdInReferenceIdeal.main_arg1))
      ∧ r.2.sem = fun _ => 0)

def quiescent_AbInDw [hAbInDw : Cert.AbInDw.Facts] : Prop :=
  ∀ (m : (ℓ : Loc Cert.AbInDw.nD Cert.AbInDw.τ Cert.AbInDw.sig) → Buf (Elt Bits) ℓ) (g : Dev Cert.AbInDw.nD → PrngReg), Pre_AbInDw m →
    θ_run (Cert.AbInDw.defs (F := Bits)) (onTc (τ := Cert.AbInDw.τ) (Cert.AbInDw.main (F := Bits))) ⟨m, fun _ => 0, g⟩ (fun r => (∀ c : Dev Cert.AbInDw.nD,
      r.2.mem ((c.tc : Thread Cert.AbInDw.nD Cert.AbInDw.τ).loc Cert.AbInDw.main_arg0) = m ((c.tc : Thread Cert.AbInDw.nD Cert.AbInDw.τ).loc Cert.AbInDw.main_arg0)
      ∧ r.2.mem ((c.tc : Thread Cert.AbInDw.nD Cert.AbInDw.τ).loc Cert.AbInDw.main_arg1) = m ((c.tc : Thread Cert.AbInDw.nD Cert.AbInDw.τ).loc Cert.AbInDw.main_arg1))
      ∧ r.2.sem = fun _ => 0)

def quiescent_AbInDwIdeal [hAbInDwIdeal : Cert.AbInDwIdeal.Facts] : Prop :=
  ∀ (m : (ℓ : Loc Cert.AbInDwIdeal.nD Cert.AbInDwIdeal.τ Cert.AbInDwIdeal.sig) → Buf (Elt Ideal) ℓ) (g : Dev Cert.AbInDwIdeal.nD → PrngReg), Pre_AbInDwIdeal m →
    θ_run (Cert.AbInDwIdeal.defs (F := Ideal)) (onTc (τ := Cert.AbInDwIdeal.τ) (Cert.AbInDwIdeal.main (F := Ideal))) ⟨m, fun _ => 0, g⟩ (fun r => (∀ c : Dev Cert.AbInDwIdeal.nD,
      r.2.mem ((c.tc : Thread Cert.AbInDwIdeal.nD Cert.AbInDwIdeal.τ).loc Cert.AbInDwIdeal.main_arg0) = m ((c.tc : Thread Cert.AbInDwIdeal.nD Cert.AbInDwIdeal.τ).loc Cert.AbInDwIdeal.main_arg0)
      ∧ r.2.mem ((c.tc : Thread Cert.AbInDwIdeal.nD Cert.AbInDwIdeal.τ).loc Cert.AbInDwIdeal.main_arg1) = m ((c.tc : Thread Cert.AbInDwIdeal.nD Cert.AbInDwIdeal.τ).loc Cert.AbInDwIdeal.main_arg1))
      ∧ r.2.sem = fun _ => 0)

def quiescent_AbInDwReferenceIdeal [hAbInDwReferenceIdeal : Cert.AbInDwReferenceIdeal.Facts] : Prop :=
  ∀ (m : (ℓ : Loc Cert.AbInDwReferenceIdeal.nD Cert.AbInDwReferenceIdeal.τ Cert.AbInDwReferenceIdeal.sig) → Buf (Elt Ideal) ℓ) (g : Dev Cert.AbInDwReferenceIdeal.nD → PrngReg), Pre_AbInDwReferenceIdeal m →
    θ_run (Cert.AbInDwReferenceIdeal.defs (F := Ideal)) (onTc (τ := Cert.AbInDwReferenceIdeal.τ) (Cert.AbInDwReferenceIdeal.main (F := Ideal))) ⟨m, fun _ => 0, g⟩ (fun r => (∀ c : Dev Cert.AbInDwReferenceIdeal.nD,
      r.2.mem ((c.tc : Thread Cert.AbInDwReferenceIdeal.nD Cert.AbInDwReferenceIdeal.τ).loc Cert.AbInDwReferenceIdeal.main_arg0) = m ((c.tc : Thread Cert.AbInDwReferenceIdeal.nD Cert.AbInDwReferenceIdeal.τ).loc Cert.AbInDwReferenceIdeal.main_arg0)
      ∧ r.2.mem ((c.tc : Thread Cert.AbInDwReferenceIdeal.nD Cert.AbInDwReferenceIdeal.τ).loc Cert.AbInDwReferenceIdeal.main_arg1) = m ((c.tc : Thread Cert.AbInDwReferenceIdeal.nD Cert.AbInDwReferenceIdeal.τ).loc Cert.AbInDwReferenceIdeal.main_arg1))
      ∧ r.2.sem = fun _ => 0)

def quiescent_CdInDw [hCdInDw : Cert.CdInDw.Facts] : Prop :=
  ∀ (m : (ℓ : Loc Cert.CdInDw.nD Cert.CdInDw.τ Cert.CdInDw.sig) → Buf (Elt Bits) ℓ) (g : Dev Cert.CdInDw.nD → PrngReg), Pre_CdInDw m →
    θ_run (Cert.CdInDw.defs (F := Bits)) (onTc (τ := Cert.CdInDw.τ) (Cert.CdInDw.main (F := Bits))) ⟨m, fun _ => 0, g⟩ (fun r => (∀ c : Dev Cert.CdInDw.nD,
      r.2.mem ((c.tc : Thread Cert.CdInDw.nD Cert.CdInDw.τ).loc Cert.CdInDw.main_arg0) = m ((c.tc : Thread Cert.CdInDw.nD Cert.CdInDw.τ).loc Cert.CdInDw.main_arg0)
      ∧ r.2.mem ((c.tc : Thread Cert.CdInDw.nD Cert.CdInDw.τ).loc Cert.CdInDw.main_arg1) = m ((c.tc : Thread Cert.CdInDw.nD Cert.CdInDw.τ).loc Cert.CdInDw.main_arg1))
      ∧ r.2.sem = fun _ => 0)

def quiescent_CdInDwIdeal [hCdInDwIdeal : Cert.CdInDwIdeal.Facts] : Prop :=
  ∀ (m : (ℓ : Loc Cert.CdInDwIdeal.nD Cert.CdInDwIdeal.τ Cert.CdInDwIdeal.sig) → Buf (Elt Ideal) ℓ) (g : Dev Cert.CdInDwIdeal.nD → PrngReg), Pre_CdInDwIdeal m →
    θ_run (Cert.CdInDwIdeal.defs (F := Ideal)) (onTc (τ := Cert.CdInDwIdeal.τ) (Cert.CdInDwIdeal.main (F := Ideal))) ⟨m, fun _ => 0, g⟩ (fun r => (∀ c : Dev Cert.CdInDwIdeal.nD,
      r.2.mem ((c.tc : Thread Cert.CdInDwIdeal.nD Cert.CdInDwIdeal.τ).loc Cert.CdInDwIdeal.main_arg0) = m ((c.tc : Thread Cert.CdInDwIdeal.nD Cert.CdInDwIdeal.τ).loc Cert.CdInDwIdeal.main_arg0)
      ∧ r.2.mem ((c.tc : Thread Cert.CdInDwIdeal.nD Cert.CdInDwIdeal.τ).loc Cert.CdInDwIdeal.main_arg1) = m ((c.tc : Thread Cert.CdInDwIdeal.nD Cert.CdInDwIdeal.τ).loc Cert.CdInDwIdeal.main_arg1))
      ∧ r.2.sem = fun _ => 0)

def quiescent_CdInDwReferenceIdeal [hCdInDwReferenceIdeal : Cert.CdInDwReferenceIdeal.Facts] : Prop :=
  ∀ (m : (ℓ : Loc Cert.CdInDwReferenceIdeal.nD Cert.CdInDwReferenceIdeal.τ Cert.CdInDwReferenceIdeal.sig) → Buf (Elt Ideal) ℓ) (g : Dev Cert.CdInDwReferenceIdeal.nD → PrngReg), Pre_CdInDwReferenceIdeal m →
    θ_run (Cert.CdInDwReferenceIdeal.defs (F := Ideal)) (onTc (τ := Cert.CdInDwReferenceIdeal.τ) (Cert.CdInDwReferenceIdeal.main (F := Ideal))) ⟨m, fun _ => 0, g⟩ (fun r => (∀ c : Dev Cert.CdInDwReferenceIdeal.nD,
      r.2.mem ((c.tc : Thread Cert.CdInDwReferenceIdeal.nD Cert.CdInDwReferenceIdeal.τ).loc Cert.CdInDwReferenceIdeal.main_arg0) = m ((c.tc : Thread Cert.CdInDwReferenceIdeal.nD Cert.CdInDwReferenceIdeal.τ).loc Cert.CdInDwReferenceIdeal.main_arg0)
      ∧ r.2.mem ((c.tc : Thread Cert.CdInDwReferenceIdeal.nD Cert.CdInDwReferenceIdeal.τ).loc Cert.CdInDwReferenceIdeal.main_arg1) = m ((c.tc : Thread Cert.CdInDwReferenceIdeal.nD Cert.CdInDwReferenceIdeal.τ).loc Cert.CdInDwReferenceIdeal.main_arg1))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ r.2.sem = fun _ => 0)

def quiescent_LnBwdIdeal_pre_finite_ln [hLnBwdIdeal : Cert.LnBwdIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite_ln m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ r.2.sem = fun _ => 0)

def quiescent_LnBwdReferenceIdeal [hLnBwdReferenceIdeal : Cert.LnBwdReferenceIdeal.Facts] : Prop :=
  ∀ (m : (ℓ : Loc Cert.LnBwdReferenceIdeal.nD Cert.LnBwdReferenceIdeal.τ Cert.LnBwdReferenceIdeal.sig) → Buf (Elt Ideal) ℓ) (g : Dev Cert.LnBwdReferenceIdeal.nD → PrngReg), Pre_LnBwdReferenceIdeal m →
    θ_run (Cert.LnBwdReferenceIdeal.defs (F := Ideal)) (onTc (τ := Cert.LnBwdReferenceIdeal.τ) (Cert.LnBwdReferenceIdeal.main (F := Ideal))) ⟨m, fun _ => 0, g⟩ (fun r => (∀ c : Dev Cert.LnBwdReferenceIdeal.nD,
      r.2.mem ((c.tc : Thread Cert.LnBwdReferenceIdeal.nD Cert.LnBwdReferenceIdeal.τ).loc Cert.LnBwdReferenceIdeal.main_arg0) = m ((c.tc : Thread Cert.LnBwdReferenceIdeal.nD Cert.LnBwdReferenceIdeal.τ).loc Cert.LnBwdReferenceIdeal.main_arg0)
      ∧ r.2.mem ((c.tc : Thread Cert.LnBwdReferenceIdeal.nD Cert.LnBwdReferenceIdeal.τ).loc Cert.LnBwdReferenceIdeal.main_arg1) = m ((c.tc : Thread Cert.LnBwdReferenceIdeal.nD Cert.LnBwdReferenceIdeal.τ).loc Cert.LnBwdReferenceIdeal.main_arg1)
      ∧ r.2.mem ((c.tc : Thread Cert.LnBwdReferenceIdeal.nD Cert.LnBwdReferenceIdeal.τ).loc Cert.LnBwdReferenceIdeal.main_arg2) = m ((c.tc : Thread Cert.LnBwdReferenceIdeal.nD Cert.LnBwdReferenceIdeal.τ).loc Cert.LnBwdReferenceIdeal.main_arg2)
      ∧ r.2.mem ((c.tc : Thread Cert.LnBwdReferenceIdeal.nD Cert.LnBwdReferenceIdeal.τ).loc Cert.LnBwdReferenceIdeal.main_arg3) = m ((c.tc : Thread Cert.LnBwdReferenceIdeal.nD Cert.LnBwdReferenceIdeal.τ).loc Cert.LnBwdReferenceIdeal.main_arg3)
      ∧ r.2.mem ((c.tc : Thread Cert.LnBwdReferenceIdeal.nD Cert.LnBwdReferenceIdeal.τ).loc Cert.LnBwdReferenceIdeal.main_arg4) = m ((c.tc : Thread Cert.LnBwdReferenceIdeal.nD Cert.LnBwdReferenceIdeal.τ).loc Cert.LnBwdReferenceIdeal.main_arg4))
      ∧ r.2.sem = fun _ => 0)

def quiescent_LnBwdReferenceIdeal_pre_finite_ln [hLnBwdReferenceIdeal : Cert.LnBwdReferenceIdeal.Facts] [hPre_finite_ln : Cert.Pre_finite_ln.Facts] : Prop :=
  ∀ (m : (ℓ : Loc Cert.LnBwdReferenceIdeal.nD Cert.LnBwdReferenceIdeal.τ Cert.LnBwdReferenceIdeal.sig) → Buf (Elt Ideal) ℓ) (g : Dev Cert.LnBwdReferenceIdeal.nD → PrngReg), Pre_LnBwdReferenceIdeal_finite_ln m →
    θ_run (Cert.LnBwdReferenceIdeal.defs (F := Ideal)) (onTc (τ := Cert.LnBwdReferenceIdeal.τ) (Cert.LnBwdReferenceIdeal.main (F := Ideal))) ⟨m, fun _ => 0, g⟩ (fun r => (∀ c : Dev Cert.LnBwdReferenceIdeal.nD,
      r.2.mem ((c.tc : Thread Cert.LnBwdReferenceIdeal.nD Cert.LnBwdReferenceIdeal.τ).loc Cert.LnBwdReferenceIdeal.main_arg0) = m ((c.tc : Thread Cert.LnBwdReferenceIdeal.nD Cert.LnBwdReferenceIdeal.τ).loc Cert.LnBwdReferenceIdeal.main_arg0)
      ∧ r.2.mem ((c.tc : Thread Cert.LnBwdReferenceIdeal.nD Cert.LnBwdReferenceIdeal.τ).loc Cert.LnBwdReferenceIdeal.main_arg1) = m ((c.tc : Thread Cert.LnBwdReferenceIdeal.nD Cert.LnBwdReferenceIdeal.τ).loc Cert.LnBwdReferenceIdeal.main_arg1)
      ∧ r.2.mem ((c.tc : Thread Cert.LnBwdReferenceIdeal.nD Cert.LnBwdReferenceIdeal.τ).loc Cert.LnBwdReferenceIdeal.main_arg2) = m ((c.tc : Thread Cert.LnBwdReferenceIdeal.nD Cert.LnBwdReferenceIdeal.τ).loc Cert.LnBwdReferenceIdeal.main_arg2)
      ∧ r.2.mem ((c.tc : Thread Cert.LnBwdReferenceIdeal.nD Cert.LnBwdReferenceIdeal.τ).loc Cert.LnBwdReferenceIdeal.main_arg3) = m ((c.tc : Thread Cert.LnBwdReferenceIdeal.nD Cert.LnBwdReferenceIdeal.τ).loc Cert.LnBwdReferenceIdeal.main_arg3)
      ∧ r.2.mem ((c.tc : Thread Cert.LnBwdReferenceIdeal.nD Cert.LnBwdReferenceIdeal.τ).loc Cert.LnBwdReferenceIdeal.main_arg4) = m ((c.tc : Thread Cert.LnBwdReferenceIdeal.nD Cert.LnBwdReferenceIdeal.τ).loc Cert.LnBwdReferenceIdeal.main_arg4))
      ∧ r.2.sem = fun _ => 0)

def quiescent_AdamwAbOut [hAdamwAbOut : Cert.AdamwAbOut.Facts] : Prop :=
  ∀ (m : (ℓ : Loc Cert.AdamwAbOut.nD Cert.AdamwAbOut.τ Cert.AdamwAbOut.sig) → Buf (Elt Bits) ℓ) (g : Dev Cert.AdamwAbOut.nD → PrngReg), Pre_AdamwAbOut m →
    θ_run (Cert.AdamwAbOut.defs (F := Bits)) (onTc (τ := Cert.AdamwAbOut.τ) (Cert.AdamwAbOut.main (F := Bits))) ⟨m, fun _ => 0, g⟩ (fun r => (∀ c : Dev Cert.AdamwAbOut.nD,
      r.2.mem ((c.tc : Thread Cert.AdamwAbOut.nD Cert.AdamwAbOut.τ).loc Cert.AdamwAbOut.main_arg0) = m ((c.tc : Thread Cert.AdamwAbOut.nD Cert.AdamwAbOut.τ).loc Cert.AdamwAbOut.main_arg0)
      ∧ r.2.mem ((c.tc : Thread Cert.AdamwAbOut.nD Cert.AdamwAbOut.τ).loc Cert.AdamwAbOut.main_arg1) = m ((c.tc : Thread Cert.AdamwAbOut.nD Cert.AdamwAbOut.τ).loc Cert.AdamwAbOut.main_arg1)
      ∧ r.2.mem ((c.tc : Thread Cert.AdamwAbOut.nD Cert.AdamwAbOut.τ).loc Cert.AdamwAbOut.main_arg2) = m ((c.tc : Thread Cert.AdamwAbOut.nD Cert.AdamwAbOut.τ).loc Cert.AdamwAbOut.main_arg2)
      ∧ r.2.mem ((c.tc : Thread Cert.AdamwAbOut.nD Cert.AdamwAbOut.τ).loc Cert.AdamwAbOut.main_arg3) = m ((c.tc : Thread Cert.AdamwAbOut.nD Cert.AdamwAbOut.τ).loc Cert.AdamwAbOut.main_arg3)
      ∧ r.2.mem ((c.tc : Thread Cert.AdamwAbOut.nD Cert.AdamwAbOut.τ).loc Cert.AdamwAbOut.main_arg4) = m ((c.tc : Thread Cert.AdamwAbOut.nD Cert.AdamwAbOut.τ).loc Cert.AdamwAbOut.main_arg4))
      ∧ r.2.sem = fun _ => 0)

def quiescent_AdamwAbOutIdeal [hAdamwAbOutIdeal : Cert.AdamwAbOutIdeal.Facts] : Prop :=
  ∀ (m : (ℓ : Loc Cert.AdamwAbOutIdeal.nD Cert.AdamwAbOutIdeal.τ Cert.AdamwAbOutIdeal.sig) → Buf (Elt Ideal) ℓ) (g : Dev Cert.AdamwAbOutIdeal.nD → PrngReg), Pre_AdamwAbOutIdeal m →
    θ_run (Cert.AdamwAbOutIdeal.defs (F := Ideal)) (onTc (τ := Cert.AdamwAbOutIdeal.τ) (Cert.AdamwAbOutIdeal.main (F := Ideal))) ⟨m, fun _ => 0, g⟩ (fun r => (∀ c : Dev Cert.AdamwAbOutIdeal.nD,
      r.2.mem ((c.tc : Thread Cert.AdamwAbOutIdeal.nD Cert.AdamwAbOutIdeal.τ).loc Cert.AdamwAbOutIdeal.main_arg0) = m ((c.tc : Thread Cert.AdamwAbOutIdeal.nD Cert.AdamwAbOutIdeal.τ).loc Cert.AdamwAbOutIdeal.main_arg0)
      ∧ r.2.mem ((c.tc : Thread Cert.AdamwAbOutIdeal.nD Cert.AdamwAbOutIdeal.τ).loc Cert.AdamwAbOutIdeal.main_arg1) = m ((c.tc : Thread Cert.AdamwAbOutIdeal.nD Cert.AdamwAbOutIdeal.τ).loc Cert.AdamwAbOutIdeal.main_arg1)
      ∧ r.2.mem ((c.tc : Thread Cert.AdamwAbOutIdeal.nD Cert.AdamwAbOutIdeal.τ).loc Cert.AdamwAbOutIdeal.main_arg2) = m ((c.tc : Thread Cert.AdamwAbOutIdeal.nD Cert.AdamwAbOutIdeal.τ).loc Cert.AdamwAbOutIdeal.main_arg2)
      ∧ r.2.mem ((c.tc : Thread Cert.AdamwAbOutIdeal.nD Cert.AdamwAbOutIdeal.τ).loc Cert.AdamwAbOutIdeal.main_arg3) = m ((c.tc : Thread Cert.AdamwAbOutIdeal.nD Cert.AdamwAbOutIdeal.τ).loc Cert.AdamwAbOutIdeal.main_arg3)
      ∧ r.2.mem ((c.tc : Thread Cert.AdamwAbOutIdeal.nD Cert.AdamwAbOutIdeal.τ).loc Cert.AdamwAbOutIdeal.main_arg4) = m ((c.tc : Thread Cert.AdamwAbOutIdeal.nD Cert.AdamwAbOutIdeal.τ).loc Cert.AdamwAbOutIdeal.main_arg4))
      ∧ r.2.sem = fun _ => 0)

def quiescent_AdamwAbOutReferenceIdeal [hAdamwAbOutReferenceIdeal : Cert.AdamwAbOutReferenceIdeal.Facts] : Prop :=
  ∀ (m : (ℓ : Loc Cert.AdamwAbOutReferenceIdeal.nD Cert.AdamwAbOutReferenceIdeal.τ Cert.AdamwAbOutReferenceIdeal.sig) → Buf (Elt Ideal) ℓ) (g : Dev Cert.AdamwAbOutReferenceIdeal.nD → PrngReg), Pre_AdamwAbOutReferenceIdeal m →
    θ_run (Cert.AdamwAbOutReferenceIdeal.defs (F := Ideal)) (onTc (τ := Cert.AdamwAbOutReferenceIdeal.τ) (Cert.AdamwAbOutReferenceIdeal.main (F := Ideal))) ⟨m, fun _ => 0, g⟩ (fun r => (∀ c : Dev Cert.AdamwAbOutReferenceIdeal.nD,
      r.2.mem ((c.tc : Thread Cert.AdamwAbOutReferenceIdeal.nD Cert.AdamwAbOutReferenceIdeal.τ).loc Cert.AdamwAbOutReferenceIdeal.main_arg0) = m ((c.tc : Thread Cert.AdamwAbOutReferenceIdeal.nD Cert.AdamwAbOutReferenceIdeal.τ).loc Cert.AdamwAbOutReferenceIdeal.main_arg0)
      ∧ r.2.mem ((c.tc : Thread Cert.AdamwAbOutReferenceIdeal.nD Cert.AdamwAbOutReferenceIdeal.τ).loc Cert.AdamwAbOutReferenceIdeal.main_arg1) = m ((c.tc : Thread Cert.AdamwAbOutReferenceIdeal.nD Cert.AdamwAbOutReferenceIdeal.τ).loc Cert.AdamwAbOutReferenceIdeal.main_arg1)
      ∧ r.2.mem ((c.tc : Thread Cert.AdamwAbOutReferenceIdeal.nD Cert.AdamwAbOutReferenceIdeal.τ).loc Cert.AdamwAbOutReferenceIdeal.main_arg2) = m ((c.tc : Thread Cert.AdamwAbOutReferenceIdeal.nD Cert.AdamwAbOutReferenceIdeal.τ).loc Cert.AdamwAbOutReferenceIdeal.main_arg2)
      ∧ r.2.mem ((c.tc : Thread Cert.AdamwAbOutReferenceIdeal.nD Cert.AdamwAbOutReferenceIdeal.τ).loc Cert.AdamwAbOutReferenceIdeal.main_arg3) = m ((c.tc : Thread Cert.AdamwAbOutReferenceIdeal.nD Cert.AdamwAbOutReferenceIdeal.τ).loc Cert.AdamwAbOutReferenceIdeal.main_arg3)
      ∧ r.2.mem ((c.tc : Thread Cert.AdamwAbOutReferenceIdeal.nD Cert.AdamwAbOutReferenceIdeal.τ).loc Cert.AdamwAbOutReferenceIdeal.main_arg4) = m ((c.tc : Thread Cert.AdamwAbOutReferenceIdeal.nD Cert.AdamwAbOutReferenceIdeal.τ).loc Cert.AdamwAbOutReferenceIdeal.main_arg4))
      ∧ r.2.sem = fun _ => 0)

def quiescent_AdamwAbIn [hAdamwAbIn : Cert.AdamwAbIn.Facts] : Prop :=
  ∀ (m : (ℓ : Loc Cert.AdamwAbIn.nD Cert.AdamwAbIn.τ Cert.AdamwAbIn.sig) → Buf (Elt Bits) ℓ) (g : Dev Cert.AdamwAbIn.nD → PrngReg), Pre_AdamwAbIn m →
    θ_run (Cert.AdamwAbIn.defs (F := Bits)) (onTc (τ := Cert.AdamwAbIn.τ) (Cert.AdamwAbIn.main (F := Bits))) ⟨m, fun _ => 0, g⟩ (fun r => (∀ c : Dev Cert.AdamwAbIn.nD,
      r.2.mem ((c.tc : Thread Cert.AdamwAbIn.nD Cert.AdamwAbIn.τ).loc Cert.AdamwAbIn.main_arg0) = m ((c.tc : Thread Cert.AdamwAbIn.nD Cert.AdamwAbIn.τ).loc Cert.AdamwAbIn.main_arg0)
      ∧ r.2.mem ((c.tc : Thread Cert.AdamwAbIn.nD Cert.AdamwAbIn.τ).loc Cert.AdamwAbIn.main_arg1) = m ((c.tc : Thread Cert.AdamwAbIn.nD Cert.AdamwAbIn.τ).loc Cert.AdamwAbIn.main_arg1)
      ∧ r.2.mem ((c.tc : Thread Cert.AdamwAbIn.nD Cert.AdamwAbIn.τ).loc Cert.AdamwAbIn.main_arg2) = m ((c.tc : Thread Cert.AdamwAbIn.nD Cert.AdamwAbIn.τ).loc Cert.AdamwAbIn.main_arg2)
      ∧ r.2.mem ((c.tc : Thread Cert.AdamwAbIn.nD Cert.AdamwAbIn.τ).loc Cert.AdamwAbIn.main_arg3) = m ((c.tc : Thread Cert.AdamwAbIn.nD Cert.AdamwAbIn.τ).loc Cert.AdamwAbIn.main_arg3)
      ∧ r.2.mem ((c.tc : Thread Cert.AdamwAbIn.nD Cert.AdamwAbIn.τ).loc Cert.AdamwAbIn.main_arg4) = m ((c.tc : Thread Cert.AdamwAbIn.nD Cert.AdamwAbIn.τ).loc Cert.AdamwAbIn.main_arg4))
      ∧ r.2.sem = fun _ => 0)

def quiescent_AdamwAbInIdeal [hAdamwAbInIdeal : Cert.AdamwAbInIdeal.Facts] : Prop :=
  ∀ (m : (ℓ : Loc Cert.AdamwAbInIdeal.nD Cert.AdamwAbInIdeal.τ Cert.AdamwAbInIdeal.sig) → Buf (Elt Ideal) ℓ) (g : Dev Cert.AdamwAbInIdeal.nD → PrngReg), Pre_AdamwAbInIdeal m →
    θ_run (Cert.AdamwAbInIdeal.defs (F := Ideal)) (onTc (τ := Cert.AdamwAbInIdeal.τ) (Cert.AdamwAbInIdeal.main (F := Ideal))) ⟨m, fun _ => 0, g⟩ (fun r => (∀ c : Dev Cert.AdamwAbInIdeal.nD,
      r.2.mem ((c.tc : Thread Cert.AdamwAbInIdeal.nD Cert.AdamwAbInIdeal.τ).loc Cert.AdamwAbInIdeal.main_arg0) = m ((c.tc : Thread Cert.AdamwAbInIdeal.nD Cert.AdamwAbInIdeal.τ).loc Cert.AdamwAbInIdeal.main_arg0)
      ∧ r.2.mem ((c.tc : Thread Cert.AdamwAbInIdeal.nD Cert.AdamwAbInIdeal.τ).loc Cert.AdamwAbInIdeal.main_arg1) = m ((c.tc : Thread Cert.AdamwAbInIdeal.nD Cert.AdamwAbInIdeal.τ).loc Cert.AdamwAbInIdeal.main_arg1)
      ∧ r.2.mem ((c.tc : Thread Cert.AdamwAbInIdeal.nD Cert.AdamwAbInIdeal.τ).loc Cert.AdamwAbInIdeal.main_arg2) = m ((c.tc : Thread Cert.AdamwAbInIdeal.nD Cert.AdamwAbInIdeal.τ).loc Cert.AdamwAbInIdeal.main_arg2)
      ∧ r.2.mem ((c.tc : Thread Cert.AdamwAbInIdeal.nD Cert.AdamwAbInIdeal.τ).loc Cert.AdamwAbInIdeal.main_arg3) = m ((c.tc : Thread Cert.AdamwAbInIdeal.nD Cert.AdamwAbInIdeal.τ).loc Cert.AdamwAbInIdeal.main_arg3)
      ∧ r.2.mem ((c.tc : Thread Cert.AdamwAbInIdeal.nD Cert.AdamwAbInIdeal.τ).loc Cert.AdamwAbInIdeal.main_arg4) = m ((c.tc : Thread Cert.AdamwAbInIdeal.nD Cert.AdamwAbInIdeal.τ).loc Cert.AdamwAbInIdeal.main_arg4))
      ∧ r.2.sem = fun _ => 0)

def quiescent_AdamwAbInReferenceIdeal [hAdamwAbInReferenceIdeal : Cert.AdamwAbInReferenceIdeal.Facts] : Prop :=
  ∀ (m : (ℓ : Loc Cert.AdamwAbInReferenceIdeal.nD Cert.AdamwAbInReferenceIdeal.τ Cert.AdamwAbInReferenceIdeal.sig) → Buf (Elt Ideal) ℓ) (g : Dev Cert.AdamwAbInReferenceIdeal.nD → PrngReg), Pre_AdamwAbInReferenceIdeal m →
    θ_run (Cert.AdamwAbInReferenceIdeal.defs (F := Ideal)) (onTc (τ := Cert.AdamwAbInReferenceIdeal.τ) (Cert.AdamwAbInReferenceIdeal.main (F := Ideal))) ⟨m, fun _ => 0, g⟩ (fun r => (∀ c : Dev Cert.AdamwAbInReferenceIdeal.nD,
      r.2.mem ((c.tc : Thread Cert.AdamwAbInReferenceIdeal.nD Cert.AdamwAbInReferenceIdeal.τ).loc Cert.AdamwAbInReferenceIdeal.main_arg0) = m ((c.tc : Thread Cert.AdamwAbInReferenceIdeal.nD Cert.AdamwAbInReferenceIdeal.τ).loc Cert.AdamwAbInReferenceIdeal.main_arg0)
      ∧ r.2.mem ((c.tc : Thread Cert.AdamwAbInReferenceIdeal.nD Cert.AdamwAbInReferenceIdeal.τ).loc Cert.AdamwAbInReferenceIdeal.main_arg1) = m ((c.tc : Thread Cert.AdamwAbInReferenceIdeal.nD Cert.AdamwAbInReferenceIdeal.τ).loc Cert.AdamwAbInReferenceIdeal.main_arg1)
      ∧ r.2.mem ((c.tc : Thread Cert.AdamwAbInReferenceIdeal.nD Cert.AdamwAbInReferenceIdeal.τ).loc Cert.AdamwAbInReferenceIdeal.main_arg2) = m ((c.tc : Thread Cert.AdamwAbInReferenceIdeal.nD Cert.AdamwAbInReferenceIdeal.τ).loc Cert.AdamwAbInReferenceIdeal.main_arg2)
      ∧ r.2.mem ((c.tc : Thread Cert.AdamwAbInReferenceIdeal.nD Cert.AdamwAbInReferenceIdeal.τ).loc Cert.AdamwAbInReferenceIdeal.main_arg3) = m ((c.tc : Thread Cert.AdamwAbInReferenceIdeal.nD Cert.AdamwAbInReferenceIdeal.τ).loc Cert.AdamwAbInReferenceIdeal.main_arg3)
      ∧ r.2.mem ((c.tc : Thread Cert.AdamwAbInReferenceIdeal.nD Cert.AdamwAbInReferenceIdeal.τ).loc Cert.AdamwAbInReferenceIdeal.main_arg4) = m ((c.tc : Thread Cert.AdamwAbInReferenceIdeal.nD Cert.AdamwAbInReferenceIdeal.τ).loc Cert.AdamwAbInReferenceIdeal.main_arg4))
      ∧ r.2.sem = fun _ => 0)

def quiescent_AdamwCdIn [hAdamwCdIn : Cert.AdamwCdIn.Facts] : Prop :=
  ∀ (m : (ℓ : Loc Cert.AdamwCdIn.nD Cert.AdamwCdIn.τ Cert.AdamwCdIn.sig) → Buf (Elt Bits) ℓ) (g : Dev Cert.AdamwCdIn.nD → PrngReg), Pre_AdamwCdIn m →
    θ_run (Cert.AdamwCdIn.defs (F := Bits)) (onTc (τ := Cert.AdamwCdIn.τ) (Cert.AdamwCdIn.main (F := Bits))) ⟨m, fun _ => 0, g⟩ (fun r => (∀ c : Dev Cert.AdamwCdIn.nD,
      r.2.mem ((c.tc : Thread Cert.AdamwCdIn.nD Cert.AdamwCdIn.τ).loc Cert.AdamwCdIn.main_arg0) = m ((c.tc : Thread Cert.AdamwCdIn.nD Cert.AdamwCdIn.τ).loc Cert.AdamwCdIn.main_arg0)
      ∧ r.2.mem ((c.tc : Thread Cert.AdamwCdIn.nD Cert.AdamwCdIn.τ).loc Cert.AdamwCdIn.main_arg1) = m ((c.tc : Thread Cert.AdamwCdIn.nD Cert.AdamwCdIn.τ).loc Cert.AdamwCdIn.main_arg1)
      ∧ r.2.mem ((c.tc : Thread Cert.AdamwCdIn.nD Cert.AdamwCdIn.τ).loc Cert.AdamwCdIn.main_arg2) = m ((c.tc : Thread Cert.AdamwCdIn.nD Cert.AdamwCdIn.τ).loc Cert.AdamwCdIn.main_arg2)
      ∧ r.2.mem ((c.tc : Thread Cert.AdamwCdIn.nD Cert.AdamwCdIn.τ).loc Cert.AdamwCdIn.main_arg3) = m ((c.tc : Thread Cert.AdamwCdIn.nD Cert.AdamwCdIn.τ).loc Cert.AdamwCdIn.main_arg3)
      ∧ r.2.mem ((c.tc : Thread Cert.AdamwCdIn.nD Cert.AdamwCdIn.τ).loc Cert.AdamwCdIn.main_arg4) = m ((c.tc : Thread Cert.AdamwCdIn.nD Cert.AdamwCdIn.τ).loc Cert.AdamwCdIn.main_arg4))
      ∧ r.2.sem = fun _ => 0)

def quiescent_AdamwCdInIdeal [hAdamwCdInIdeal : Cert.AdamwCdInIdeal.Facts] : Prop :=
  ∀ (m : (ℓ : Loc Cert.AdamwCdInIdeal.nD Cert.AdamwCdInIdeal.τ Cert.AdamwCdInIdeal.sig) → Buf (Elt Ideal) ℓ) (g : Dev Cert.AdamwCdInIdeal.nD → PrngReg), Pre_AdamwCdInIdeal m →
    θ_run (Cert.AdamwCdInIdeal.defs (F := Ideal)) (onTc (τ := Cert.AdamwCdInIdeal.τ) (Cert.AdamwCdInIdeal.main (F := Ideal))) ⟨m, fun _ => 0, g⟩ (fun r => (∀ c : Dev Cert.AdamwCdInIdeal.nD,
      r.2.mem ((c.tc : Thread Cert.AdamwCdInIdeal.nD Cert.AdamwCdInIdeal.τ).loc Cert.AdamwCdInIdeal.main_arg0) = m ((c.tc : Thread Cert.AdamwCdInIdeal.nD Cert.AdamwCdInIdeal.τ).loc Cert.AdamwCdInIdeal.main_arg0)
      ∧ r.2.mem ((c.tc : Thread Cert.AdamwCdInIdeal.nD Cert.AdamwCdInIdeal.τ).loc Cert.AdamwCdInIdeal.main_arg1) = m ((c.tc : Thread Cert.AdamwCdInIdeal.nD Cert.AdamwCdInIdeal.τ).loc Cert.AdamwCdInIdeal.main_arg1)
      ∧ r.2.mem ((c.tc : Thread Cert.AdamwCdInIdeal.nD Cert.AdamwCdInIdeal.τ).loc Cert.AdamwCdInIdeal.main_arg2) = m ((c.tc : Thread Cert.AdamwCdInIdeal.nD Cert.AdamwCdInIdeal.τ).loc Cert.AdamwCdInIdeal.main_arg2)
      ∧ r.2.mem ((c.tc : Thread Cert.AdamwCdInIdeal.nD Cert.AdamwCdInIdeal.τ).loc Cert.AdamwCdInIdeal.main_arg3) = m ((c.tc : Thread Cert.AdamwCdInIdeal.nD Cert.AdamwCdInIdeal.τ).loc Cert.AdamwCdInIdeal.main_arg3)
      ∧ r.2.mem ((c.tc : Thread Cert.AdamwCdInIdeal.nD Cert.AdamwCdInIdeal.τ).loc Cert.AdamwCdInIdeal.main_arg4) = m ((c.tc : Thread Cert.AdamwCdInIdeal.nD Cert.AdamwCdInIdeal.τ).loc Cert.AdamwCdInIdeal.main_arg4))
      ∧ r.2.sem = fun _ => 0)

def quiescent_AdamwCdInReferenceIdeal [hAdamwCdInReferenceIdeal : Cert.AdamwCdInReferenceIdeal.Facts] : Prop :=
  ∀ (m : (ℓ : Loc Cert.AdamwCdInReferenceIdeal.nD Cert.AdamwCdInReferenceIdeal.τ Cert.AdamwCdInReferenceIdeal.sig) → Buf (Elt Ideal) ℓ) (g : Dev Cert.AdamwCdInReferenceIdeal.nD → PrngReg), Pre_AdamwCdInReferenceIdeal m →
    θ_run (Cert.AdamwCdInReferenceIdeal.defs (F := Ideal)) (onTc (τ := Cert.AdamwCdInReferenceIdeal.τ) (Cert.AdamwCdInReferenceIdeal.main (F := Ideal))) ⟨m, fun _ => 0, g⟩ (fun r => (∀ c : Dev Cert.AdamwCdInReferenceIdeal.nD,
      r.2.mem ((c.tc : Thread Cert.AdamwCdInReferenceIdeal.nD Cert.AdamwCdInReferenceIdeal.τ).loc Cert.AdamwCdInReferenceIdeal.main_arg0) = m ((c.tc : Thread Cert.AdamwCdInReferenceIdeal.nD Cert.AdamwCdInReferenceIdeal.τ).loc Cert.AdamwCdInReferenceIdeal.main_arg0)
      ∧ r.2.mem ((c.tc : Thread Cert.AdamwCdInReferenceIdeal.nD Cert.AdamwCdInReferenceIdeal.τ).loc Cert.AdamwCdInReferenceIdeal.main_arg1) = m ((c.tc : Thread Cert.AdamwCdInReferenceIdeal.nD Cert.AdamwCdInReferenceIdeal.τ).loc Cert.AdamwCdInReferenceIdeal.main_arg1)
      ∧ r.2.mem ((c.tc : Thread Cert.AdamwCdInReferenceIdeal.nD Cert.AdamwCdInReferenceIdeal.τ).loc Cert.AdamwCdInReferenceIdeal.main_arg2) = m ((c.tc : Thread Cert.AdamwCdInReferenceIdeal.nD Cert.AdamwCdInReferenceIdeal.τ).loc Cert.AdamwCdInReferenceIdeal.main_arg2)
      ∧ r.2.mem ((c.tc : Thread Cert.AdamwCdInReferenceIdeal.nD Cert.AdamwCdInReferenceIdeal.τ).loc Cert.AdamwCdInReferenceIdeal.main_arg3) = m ((c.tc : Thread Cert.AdamwCdInReferenceIdeal.nD Cert.AdamwCdInReferenceIdeal.τ).loc Cert.AdamwCdInReferenceIdeal.main_arg3)
      ∧ r.2.mem ((c.tc : Thread Cert.AdamwCdInReferenceIdeal.nD Cert.AdamwCdInReferenceIdeal.τ).loc Cert.AdamwCdInReferenceIdeal.main_arg4) = m ((c.tc : Thread Cert.AdamwCdInReferenceIdeal.nD Cert.AdamwCdInReferenceIdeal.τ).loc Cert.AdamwCdInReferenceIdeal.main_arg4))
      ∧ r.2.sem = fun _ => 0)

def quiescent_AdamwFfnUp [hAdamwFfnUp : Cert.AdamwFfnUp.Facts] : Prop :=
  ∀ (m : (ℓ : Loc Cert.AdamwFfnUp.nD Cert.AdamwFfnUp.τ Cert.AdamwFfnUp.sig) → Buf (Elt Bits) ℓ) (g : Dev Cert.AdamwFfnUp.nD → PrngReg), Pre_AdamwFfnUp m →
    θ_run (Cert.AdamwFfnUp.defs (F := Bits)) (onTc (τ := Cert.AdamwFfnUp.τ) (Cert.AdamwFfnUp.main (F := Bits))) ⟨m, fun _ => 0, g⟩ (fun r => (∀ c : Dev Cert.AdamwFfnUp.nD,
      r.2.mem ((c.tc : Thread Cert.AdamwFfnUp.nD Cert.AdamwFfnUp.τ).loc Cert.AdamwFfnUp.main_arg0) = m ((c.tc : Thread Cert.AdamwFfnUp.nD Cert.AdamwFfnUp.τ).loc Cert.AdamwFfnUp.main_arg0)
      ∧ r.2.mem ((c.tc : Thread Cert.AdamwFfnUp.nD Cert.AdamwFfnUp.τ).loc Cert.AdamwFfnUp.main_arg1) = m ((c.tc : Thread Cert.AdamwFfnUp.nD Cert.AdamwFfnUp.τ).loc Cert.AdamwFfnUp.main_arg1)
      ∧ r.2.mem ((c.tc : Thread Cert.AdamwFfnUp.nD Cert.AdamwFfnUp.τ).loc Cert.AdamwFfnUp.main_arg2) = m ((c.tc : Thread Cert.AdamwFfnUp.nD Cert.AdamwFfnUp.τ).loc Cert.AdamwFfnUp.main_arg2)
      ∧ r.2.mem ((c.tc : Thread Cert.AdamwFfnUp.nD Cert.AdamwFfnUp.τ).loc Cert.AdamwFfnUp.main_arg3) = m ((c.tc : Thread Cert.AdamwFfnUp.nD Cert.AdamwFfnUp.τ).loc Cert.AdamwFfnUp.main_arg3)
      ∧ r.2.mem ((c.tc : Thread Cert.AdamwFfnUp.nD Cert.AdamwFfnUp.τ).loc Cert.AdamwFfnUp.main_arg4) = m ((c.tc : Thread Cert.AdamwFfnUp.nD Cert.AdamwFfnUp.τ).loc Cert.AdamwFfnUp.main_arg4)
      ∧ r.2.mem ((c.tc : Thread Cert.AdamwFfnUp.nD Cert.AdamwFfnUp.τ).loc Cert.AdamwFfnUp.main_arg5) = m ((c.tc : Thread Cert.AdamwFfnUp.nD Cert.AdamwFfnUp.τ).loc Cert.AdamwFfnUp.main_arg5)
      ∧ r.2.mem ((c.tc : Thread Cert.AdamwFfnUp.nD Cert.AdamwFfnUp.τ).loc Cert.AdamwFfnUp.main_arg6) = m ((c.tc : Thread Cert.AdamwFfnUp.nD Cert.AdamwFfnUp.τ).loc Cert.AdamwFfnUp.main_arg6))
      ∧ r.2.sem = fun _ => 0)

def quiescent_AdamwFfnUpIdeal [hAdamwFfnUpIdeal : Cert.AdamwFfnUpIdeal.Facts] : Prop :=
  ∀ (m : (ℓ : Loc Cert.AdamwFfnUpIdeal.nD Cert.AdamwFfnUpIdeal.τ Cert.AdamwFfnUpIdeal.sig) → Buf (Elt Ideal) ℓ) (g : Dev Cert.AdamwFfnUpIdeal.nD → PrngReg), Pre_AdamwFfnUpIdeal m →
    θ_run (Cert.AdamwFfnUpIdeal.defs (F := Ideal)) (onTc (τ := Cert.AdamwFfnUpIdeal.τ) (Cert.AdamwFfnUpIdeal.main (F := Ideal))) ⟨m, fun _ => 0, g⟩ (fun r => (∀ c : Dev Cert.AdamwFfnUpIdeal.nD,
      r.2.mem ((c.tc : Thread Cert.AdamwFfnUpIdeal.nD Cert.AdamwFfnUpIdeal.τ).loc Cert.AdamwFfnUpIdeal.main_arg0) = m ((c.tc : Thread Cert.AdamwFfnUpIdeal.nD Cert.AdamwFfnUpIdeal.τ).loc Cert.AdamwFfnUpIdeal.main_arg0)
      ∧ r.2.mem ((c.tc : Thread Cert.AdamwFfnUpIdeal.nD Cert.AdamwFfnUpIdeal.τ).loc Cert.AdamwFfnUpIdeal.main_arg1) = m ((c.tc : Thread Cert.AdamwFfnUpIdeal.nD Cert.AdamwFfnUpIdeal.τ).loc Cert.AdamwFfnUpIdeal.main_arg1)
      ∧ r.2.mem ((c.tc : Thread Cert.AdamwFfnUpIdeal.nD Cert.AdamwFfnUpIdeal.τ).loc Cert.AdamwFfnUpIdeal.main_arg2) = m ((c.tc : Thread Cert.AdamwFfnUpIdeal.nD Cert.AdamwFfnUpIdeal.τ).loc Cert.AdamwFfnUpIdeal.main_arg2)
      ∧ r.2.mem ((c.tc : Thread Cert.AdamwFfnUpIdeal.nD Cert.AdamwFfnUpIdeal.τ).loc Cert.AdamwFfnUpIdeal.main_arg3) = m ((c.tc : Thread Cert.AdamwFfnUpIdeal.nD Cert.AdamwFfnUpIdeal.τ).loc Cert.AdamwFfnUpIdeal.main_arg3)
      ∧ r.2.mem ((c.tc : Thread Cert.AdamwFfnUpIdeal.nD Cert.AdamwFfnUpIdeal.τ).loc Cert.AdamwFfnUpIdeal.main_arg4) = m ((c.tc : Thread Cert.AdamwFfnUpIdeal.nD Cert.AdamwFfnUpIdeal.τ).loc Cert.AdamwFfnUpIdeal.main_arg4)
      ∧ r.2.mem ((c.tc : Thread Cert.AdamwFfnUpIdeal.nD Cert.AdamwFfnUpIdeal.τ).loc Cert.AdamwFfnUpIdeal.main_arg5) = m ((c.tc : Thread Cert.AdamwFfnUpIdeal.nD Cert.AdamwFfnUpIdeal.τ).loc Cert.AdamwFfnUpIdeal.main_arg5)
      ∧ r.2.mem ((c.tc : Thread Cert.AdamwFfnUpIdeal.nD Cert.AdamwFfnUpIdeal.τ).loc Cert.AdamwFfnUpIdeal.main_arg6) = m ((c.tc : Thread Cert.AdamwFfnUpIdeal.nD Cert.AdamwFfnUpIdeal.τ).loc Cert.AdamwFfnUpIdeal.main_arg6))
      ∧ r.2.sem = fun _ => 0)

def quiescent_AdamwFfnUpReferenceIdeal [hAdamwFfnUpReferenceIdeal : Cert.AdamwFfnUpReferenceIdeal.Facts] : Prop :=
  ∀ (m : (ℓ : Loc Cert.AdamwFfnUpReferenceIdeal.nD Cert.AdamwFfnUpReferenceIdeal.τ Cert.AdamwFfnUpReferenceIdeal.sig) → Buf (Elt Ideal) ℓ) (g : Dev Cert.AdamwFfnUpReferenceIdeal.nD → PrngReg), Pre_AdamwFfnUpReferenceIdeal m →
    θ_run (Cert.AdamwFfnUpReferenceIdeal.defs (F := Ideal)) (onTc (τ := Cert.AdamwFfnUpReferenceIdeal.τ) (Cert.AdamwFfnUpReferenceIdeal.main (F := Ideal))) ⟨m, fun _ => 0, g⟩ (fun r => (∀ c : Dev Cert.AdamwFfnUpReferenceIdeal.nD,
      r.2.mem ((c.tc : Thread Cert.AdamwFfnUpReferenceIdeal.nD Cert.AdamwFfnUpReferenceIdeal.τ).loc Cert.AdamwFfnUpReferenceIdeal.main_arg0) = m ((c.tc : Thread Cert.AdamwFfnUpReferenceIdeal.nD Cert.AdamwFfnUpReferenceIdeal.τ).loc Cert.AdamwFfnUpReferenceIdeal.main_arg0)
      ∧ r.2.mem ((c.tc : Thread Cert.AdamwFfnUpReferenceIdeal.nD Cert.AdamwFfnUpReferenceIdeal.τ).loc Cert.AdamwFfnUpReferenceIdeal.main_arg1) = m ((c.tc : Thread Cert.AdamwFfnUpReferenceIdeal.nD Cert.AdamwFfnUpReferenceIdeal.τ).loc Cert.AdamwFfnUpReferenceIdeal.main_arg1)
      ∧ r.2.mem ((c.tc : Thread Cert.AdamwFfnUpReferenceIdeal.nD Cert.AdamwFfnUpReferenceIdeal.τ).loc Cert.AdamwFfnUpReferenceIdeal.main_arg2) = m ((c.tc : Thread Cert.AdamwFfnUpReferenceIdeal.nD Cert.AdamwFfnUpReferenceIdeal.τ).loc Cert.AdamwFfnUpReferenceIdeal.main_arg2)
      ∧ r.2.mem ((c.tc : Thread Cert.AdamwFfnUpReferenceIdeal.nD Cert.AdamwFfnUpReferenceIdeal.τ).loc Cert.AdamwFfnUpReferenceIdeal.main_arg3) = m ((c.tc : Thread Cert.AdamwFfnUpReferenceIdeal.nD Cert.AdamwFfnUpReferenceIdeal.τ).loc Cert.AdamwFfnUpReferenceIdeal.main_arg3)
      ∧ r.2.mem ((c.tc : Thread Cert.AdamwFfnUpReferenceIdeal.nD Cert.AdamwFfnUpReferenceIdeal.τ).loc Cert.AdamwFfnUpReferenceIdeal.main_arg4) = m ((c.tc : Thread Cert.AdamwFfnUpReferenceIdeal.nD Cert.AdamwFfnUpReferenceIdeal.τ).loc Cert.AdamwFfnUpReferenceIdeal.main_arg4)
      ∧ r.2.mem ((c.tc : Thread Cert.AdamwFfnUpReferenceIdeal.nD Cert.AdamwFfnUpReferenceIdeal.τ).loc Cert.AdamwFfnUpReferenceIdeal.main_arg5) = m ((c.tc : Thread Cert.AdamwFfnUpReferenceIdeal.nD Cert.AdamwFfnUpReferenceIdeal.τ).loc Cert.AdamwFfnUpReferenceIdeal.main_arg5)
      ∧ r.2.mem ((c.tc : Thread Cert.AdamwFfnUpReferenceIdeal.nD Cert.AdamwFfnUpReferenceIdeal.τ).loc Cert.AdamwFfnUpReferenceIdeal.main_arg6) = m ((c.tc : Thread Cert.AdamwFfnUpReferenceIdeal.nD Cert.AdamwFfnUpReferenceIdeal.τ).loc Cert.AdamwFfnUpReferenceIdeal.main_arg6))
      ∧ r.2.sem = fun _ => 0)

def quiescent_AdamwFfnDown [hAdamwFfnDown : Cert.AdamwFfnDown.Facts] : Prop :=
  ∀ (m : (ℓ : Loc Cert.AdamwFfnDown.nD Cert.AdamwFfnDown.τ Cert.AdamwFfnDown.sig) → Buf (Elt Bits) ℓ) (g : Dev Cert.AdamwFfnDown.nD → PrngReg), Pre_AdamwFfnDown m →
    θ_run (Cert.AdamwFfnDown.defs (F := Bits)) (onTc (τ := Cert.AdamwFfnDown.τ) (Cert.AdamwFfnDown.main (F := Bits))) ⟨m, fun _ => 0, g⟩ (fun r => (∀ c : Dev Cert.AdamwFfnDown.nD,
      r.2.mem ((c.tc : Thread Cert.AdamwFfnDown.nD Cert.AdamwFfnDown.τ).loc Cert.AdamwFfnDown.main_arg0) = m ((c.tc : Thread Cert.AdamwFfnDown.nD Cert.AdamwFfnDown.τ).loc Cert.AdamwFfnDown.main_arg0)
      ∧ r.2.mem ((c.tc : Thread Cert.AdamwFfnDown.nD Cert.AdamwFfnDown.τ).loc Cert.AdamwFfnDown.main_arg1) = m ((c.tc : Thread Cert.AdamwFfnDown.nD Cert.AdamwFfnDown.τ).loc Cert.AdamwFfnDown.main_arg1)
      ∧ r.2.mem ((c.tc : Thread Cert.AdamwFfnDown.nD Cert.AdamwFfnDown.τ).loc Cert.AdamwFfnDown.main_arg2) = m ((c.tc : Thread Cert.AdamwFfnDown.nD Cert.AdamwFfnDown.τ).loc Cert.AdamwFfnDown.main_arg2)
      ∧ r.2.mem ((c.tc : Thread Cert.AdamwFfnDown.nD Cert.AdamwFfnDown.τ).loc Cert.AdamwFfnDown.main_arg3) = m ((c.tc : Thread Cert.AdamwFfnDown.nD Cert.AdamwFfnDown.τ).loc Cert.AdamwFfnDown.main_arg3)
      ∧ r.2.mem ((c.tc : Thread Cert.AdamwFfnDown.nD Cert.AdamwFfnDown.τ).loc Cert.AdamwFfnDown.main_arg4) = m ((c.tc : Thread Cert.AdamwFfnDown.nD Cert.AdamwFfnDown.τ).loc Cert.AdamwFfnDown.main_arg4)
      ∧ r.2.mem ((c.tc : Thread Cert.AdamwFfnDown.nD Cert.AdamwFfnDown.τ).loc Cert.AdamwFfnDown.main_arg5) = m ((c.tc : Thread Cert.AdamwFfnDown.nD Cert.AdamwFfnDown.τ).loc Cert.AdamwFfnDown.main_arg5)
      ∧ r.2.mem ((c.tc : Thread Cert.AdamwFfnDown.nD Cert.AdamwFfnDown.τ).loc Cert.AdamwFfnDown.main_arg6) = m ((c.tc : Thread Cert.AdamwFfnDown.nD Cert.AdamwFfnDown.τ).loc Cert.AdamwFfnDown.main_arg6))
      ∧ r.2.sem = fun _ => 0)

def quiescent_AdamwFfnDownIdeal [hAdamwFfnDownIdeal : Cert.AdamwFfnDownIdeal.Facts] : Prop :=
  ∀ (m : (ℓ : Loc Cert.AdamwFfnDownIdeal.nD Cert.AdamwFfnDownIdeal.τ Cert.AdamwFfnDownIdeal.sig) → Buf (Elt Ideal) ℓ) (g : Dev Cert.AdamwFfnDownIdeal.nD → PrngReg), Pre_AdamwFfnDownIdeal m →
    θ_run (Cert.AdamwFfnDownIdeal.defs (F := Ideal)) (onTc (τ := Cert.AdamwFfnDownIdeal.τ) (Cert.AdamwFfnDownIdeal.main (F := Ideal))) ⟨m, fun _ => 0, g⟩ (fun r => (∀ c : Dev Cert.AdamwFfnDownIdeal.nD,
      r.2.mem ((c.tc : Thread Cert.AdamwFfnDownIdeal.nD Cert.AdamwFfnDownIdeal.τ).loc Cert.AdamwFfnDownIdeal.main_arg0) = m ((c.tc : Thread Cert.AdamwFfnDownIdeal.nD Cert.AdamwFfnDownIdeal.τ).loc Cert.AdamwFfnDownIdeal.main_arg0)
      ∧ r.2.mem ((c.tc : Thread Cert.AdamwFfnDownIdeal.nD Cert.AdamwFfnDownIdeal.τ).loc Cert.AdamwFfnDownIdeal.main_arg1) = m ((c.tc : Thread Cert.AdamwFfnDownIdeal.nD Cert.AdamwFfnDownIdeal.τ).loc Cert.AdamwFfnDownIdeal.main_arg1)
      ∧ r.2.mem ((c.tc : Thread Cert.AdamwFfnDownIdeal.nD Cert.AdamwFfnDownIdeal.τ).loc Cert.AdamwFfnDownIdeal.main_arg2) = m ((c.tc : Thread Cert.AdamwFfnDownIdeal.nD Cert.AdamwFfnDownIdeal.τ).loc Cert.AdamwFfnDownIdeal.main_arg2)
      ∧ r.2.mem ((c.tc : Thread Cert.AdamwFfnDownIdeal.nD Cert.AdamwFfnDownIdeal.τ).loc Cert.AdamwFfnDownIdeal.main_arg3) = m ((c.tc : Thread Cert.AdamwFfnDownIdeal.nD Cert.AdamwFfnDownIdeal.τ).loc Cert.AdamwFfnDownIdeal.main_arg3)
      ∧ r.2.mem ((c.tc : Thread Cert.AdamwFfnDownIdeal.nD Cert.AdamwFfnDownIdeal.τ).loc Cert.AdamwFfnDownIdeal.main_arg4) = m ((c.tc : Thread Cert.AdamwFfnDownIdeal.nD Cert.AdamwFfnDownIdeal.τ).loc Cert.AdamwFfnDownIdeal.main_arg4)
      ∧ r.2.mem ((c.tc : Thread Cert.AdamwFfnDownIdeal.nD Cert.AdamwFfnDownIdeal.τ).loc Cert.AdamwFfnDownIdeal.main_arg5) = m ((c.tc : Thread Cert.AdamwFfnDownIdeal.nD Cert.AdamwFfnDownIdeal.τ).loc Cert.AdamwFfnDownIdeal.main_arg5)
      ∧ r.2.mem ((c.tc : Thread Cert.AdamwFfnDownIdeal.nD Cert.AdamwFfnDownIdeal.τ).loc Cert.AdamwFfnDownIdeal.main_arg6) = m ((c.tc : Thread Cert.AdamwFfnDownIdeal.nD Cert.AdamwFfnDownIdeal.τ).loc Cert.AdamwFfnDownIdeal.main_arg6))
      ∧ r.2.sem = fun _ => 0)

def quiescent_AdamwFfnDownReferenceIdeal [hAdamwFfnDownReferenceIdeal : Cert.AdamwFfnDownReferenceIdeal.Facts] : Prop :=
  ∀ (m : (ℓ : Loc Cert.AdamwFfnDownReferenceIdeal.nD Cert.AdamwFfnDownReferenceIdeal.τ Cert.AdamwFfnDownReferenceIdeal.sig) → Buf (Elt Ideal) ℓ) (g : Dev Cert.AdamwFfnDownReferenceIdeal.nD → PrngReg), Pre_AdamwFfnDownReferenceIdeal m →
    θ_run (Cert.AdamwFfnDownReferenceIdeal.defs (F := Ideal)) (onTc (τ := Cert.AdamwFfnDownReferenceIdeal.τ) (Cert.AdamwFfnDownReferenceIdeal.main (F := Ideal))) ⟨m, fun _ => 0, g⟩ (fun r => (∀ c : Dev Cert.AdamwFfnDownReferenceIdeal.nD,
      r.2.mem ((c.tc : Thread Cert.AdamwFfnDownReferenceIdeal.nD Cert.AdamwFfnDownReferenceIdeal.τ).loc Cert.AdamwFfnDownReferenceIdeal.main_arg0) = m ((c.tc : Thread Cert.AdamwFfnDownReferenceIdeal.nD Cert.AdamwFfnDownReferenceIdeal.τ).loc Cert.AdamwFfnDownReferenceIdeal.main_arg0)
      ∧ r.2.mem ((c.tc : Thread Cert.AdamwFfnDownReferenceIdeal.nD Cert.AdamwFfnDownReferenceIdeal.τ).loc Cert.AdamwFfnDownReferenceIdeal.main_arg1) = m ((c.tc : Thread Cert.AdamwFfnDownReferenceIdeal.nD Cert.AdamwFfnDownReferenceIdeal.τ).loc Cert.AdamwFfnDownReferenceIdeal.main_arg1)
      ∧ r.2.mem ((c.tc : Thread Cert.AdamwFfnDownReferenceIdeal.nD Cert.AdamwFfnDownReferenceIdeal.τ).loc Cert.AdamwFfnDownReferenceIdeal.main_arg2) = m ((c.tc : Thread Cert.AdamwFfnDownReferenceIdeal.nD Cert.AdamwFfnDownReferenceIdeal.τ).loc Cert.AdamwFfnDownReferenceIdeal.main_arg2)
      ∧ r.2.mem ((c.tc : Thread Cert.AdamwFfnDownReferenceIdeal.nD Cert.AdamwFfnDownReferenceIdeal.τ).loc Cert.AdamwFfnDownReferenceIdeal.main_arg3) = m ((c.tc : Thread Cert.AdamwFfnDownReferenceIdeal.nD Cert.AdamwFfnDownReferenceIdeal.τ).loc Cert.AdamwFfnDownReferenceIdeal.main_arg3)
      ∧ r.2.mem ((c.tc : Thread Cert.AdamwFfnDownReferenceIdeal.nD Cert.AdamwFfnDownReferenceIdeal.τ).loc Cert.AdamwFfnDownReferenceIdeal.main_arg4) = m ((c.tc : Thread Cert.AdamwFfnDownReferenceIdeal.nD Cert.AdamwFfnDownReferenceIdeal.τ).loc Cert.AdamwFfnDownReferenceIdeal.main_arg4)
      ∧ r.2.mem ((c.tc : Thread Cert.AdamwFfnDownReferenceIdeal.nD Cert.AdamwFfnDownReferenceIdeal.τ).loc Cert.AdamwFfnDownReferenceIdeal.main_arg5) = m ((c.tc : Thread Cert.AdamwFfnDownReferenceIdeal.nD Cert.AdamwFfnDownReferenceIdeal.τ).loc Cert.AdamwFfnDownReferenceIdeal.main_arg5)
      ∧ r.2.mem ((c.tc : Thread Cert.AdamwFfnDownReferenceIdeal.nD Cert.AdamwFfnDownReferenceIdeal.τ).loc Cert.AdamwFfnDownReferenceIdeal.main_arg6) = m ((c.tc : Thread Cert.AdamwFfnDownReferenceIdeal.nD Cert.AdamwFfnDownReferenceIdeal.τ).loc Cert.AdamwFfnDownReferenceIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2)
      ∧ r.2.mem ((c.tc : Thread Cert.LnFwd.nD Cert.LnFwd.τ).loc Cert.LnFwd.main_arg3) = m ((c.tc : Thread Cert.LnFwd.nD Cert.LnFwd.τ).loc Cert.LnFwd.main_arg3))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
      ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ r.2.sem = fun _ => 0)

def quiescent_LnFwdReferenceIdeal [hLnFwdReferenceIdeal : Cert.LnFwdReferenceIdeal.Facts] : Prop :=
  ∀ (m : (ℓ : Loc Cert.LnFwdReferenceIdeal.nD Cert.LnFwdReferenceIdeal.τ Cert.LnFwdReferenceIdeal.sig) → Buf (Elt Ideal) ℓ) (g : Dev Cert.LnFwdReferenceIdeal.nD → PrngReg), Pre_LnFwdReferenceIdeal m →
    θ_run (Cert.LnFwdReferenceIdeal.defs (F := Ideal)) (onTc (τ := Cert.LnFwdReferenceIdeal.τ) (Cert.LnFwdReferenceIdeal.main (F := Ideal))) ⟨m, fun _ => 0, g⟩ (fun r => (∀ c : Dev Cert.LnFwdReferenceIdeal.nD,
      r.2.mem ((c.tc : Thread Cert.LnFwdReferenceIdeal.nD Cert.LnFwdReferenceIdeal.τ).loc Cert.LnFwdReferenceIdeal.main_arg0) = m ((c.tc : Thread Cert.LnFwdReferenceIdeal.nD Cert.LnFwdReferenceIdeal.τ).loc Cert.LnFwdReferenceIdeal.main_arg0)
      ∧ r.2.mem ((c.tc : Thread Cert.LnFwdReferenceIdeal.nD Cert.LnFwdReferenceIdeal.τ).loc Cert.LnFwdReferenceIdeal.main_arg1) = m ((c.tc : Thread Cert.LnFwdReferenceIdeal.nD Cert.LnFwdReferenceIdeal.τ).loc Cert.LnFwdReferenceIdeal.main_arg1)
      ∧ r.2.mem ((c.tc : Thread Cert.LnFwdReferenceIdeal.nD Cert.LnFwdReferenceIdeal.τ).loc Cert.LnFwdReferenceIdeal.main_arg2) = m ((c.tc : Thread Cert.LnFwdReferenceIdeal.nD Cert.LnFwdReferenceIdeal.τ).loc Cert.LnFwdReferenceIdeal.main_arg2)
      ∧ r.2.mem ((c.tc : Thread Cert.LnFwdReferenceIdeal.nD Cert.LnFwdReferenceIdeal.τ).loc Cert.LnFwdReferenceIdeal.main_arg3) = m ((c.tc : Thread Cert.LnFwdReferenceIdeal.nD Cert.LnFwdReferenceIdeal.τ).loc Cert.LnFwdReferenceIdeal.main_arg3))
      ∧ r.2.sem = fun _ => 0)

def quiescent_CdPost [hCdPost : Cert.CdPost.Facts] : Prop :=
  ∀ (m : (ℓ : Loc Cert.CdPost.nD Cert.CdPost.τ Cert.CdPost.sig) → Buf (Elt Bits) ℓ) (g : Dev Cert.CdPost.nD → PrngReg), Pre_CdPost m →
    θ_run (Cert.CdPost.defs (F := Bits)) (onTc (τ := Cert.CdPost.τ) (Cert.CdPost.main (F := Bits))) ⟨m, fun _ => 0, g⟩ (fun r => (∀ c : Dev Cert.CdPost.nD,
      r.2.mem ((c.tc : Thread Cert.CdPost.nD Cert.CdPost.τ).loc Cert.CdPost.main_arg0) = m ((c.tc : Thread Cert.CdPost.nD Cert.CdPost.τ).loc Cert.CdPost.main_arg0)
      ∧ r.2.mem ((c.tc : Thread Cert.CdPost.nD Cert.CdPost.τ).loc Cert.CdPost.main_arg1) = m ((c.tc : Thread Cert.CdPost.nD Cert.CdPost.τ).loc Cert.CdPost.main_arg1)
      ∧ r.2.mem ((c.tc : Thread Cert.CdPost.nD Cert.CdPost.τ).loc Cert.CdPost.main_arg2) = m ((c.tc : Thread Cert.CdPost.nD Cert.CdPost.τ).loc Cert.CdPost.main_arg2))
      ∧ r.2.sem = fun _ => 0)

def quiescent_CdPostIdeal [hCdPostIdeal : Cert.CdPostIdeal.Facts] : Prop :=
  ∀ (m : (ℓ : Loc Cert.CdPostIdeal.nD Cert.CdPostIdeal.τ Cert.CdPostIdeal.sig) → Buf (Elt Ideal) ℓ) (g : Dev Cert.CdPostIdeal.nD → PrngReg), Pre_CdPostIdeal m →
    θ_run (Cert.CdPostIdeal.defs (F := Ideal)) (onTc (τ := Cert.CdPostIdeal.τ) (Cert.CdPostIdeal.main (F := Ideal))) ⟨m, fun _ => 0, g⟩ (fun r => (∀ c : Dev Cert.CdPostIdeal.nD,
      r.2.mem ((c.tc : Thread Cert.CdPostIdeal.nD Cert.CdPostIdeal.τ).loc Cert.CdPostIdeal.main_arg0) = m ((c.tc : Thread Cert.CdPostIdeal.nD Cert.CdPostIdeal.τ).loc Cert.CdPostIdeal.main_arg0)
      ∧ r.2.mem ((c.tc : Thread Cert.CdPostIdeal.nD Cert.CdPostIdeal.τ).loc Cert.CdPostIdeal.main_arg1) = m ((c.tc : Thread Cert.CdPostIdeal.nD Cert.CdPostIdeal.τ).loc Cert.CdPostIdeal.main_arg1)
      ∧ r.2.mem ((c.tc : Thread Cert.CdPostIdeal.nD Cert.CdPostIdeal.τ).loc Cert.CdPostIdeal.main_arg2) = m ((c.tc : Thread Cert.CdPostIdeal.nD Cert.CdPostIdeal.τ).loc Cert.CdPostIdeal.main_arg2))
      ∧ r.2.sem = fun _ => 0)

def quiescent_CdPostReferenceIdeal [hCdPostReferenceIdeal : Cert.CdPostReferenceIdeal.Facts] : Prop :=
  ∀ (m : (ℓ : Loc Cert.CdPostReferenceIdeal.nD Cert.CdPostReferenceIdeal.τ Cert.CdPostReferenceIdeal.sig) → Buf (Elt Ideal) ℓ) (g : Dev Cert.CdPostReferenceIdeal.nD → PrngReg), Pre_CdPostReferenceIdeal m →
    θ_run (Cert.CdPostReferenceIdeal.defs (F := Ideal)) (onTc (τ := Cert.CdPostReferenceIdeal.τ) (Cert.CdPostReferenceIdeal.main (F := Ideal))) ⟨m, fun _ => 0, g⟩ (fun r => (∀ c : Dev Cert.CdPostReferenceIdeal.nD,
      r.2.mem ((c.tc : Thread Cert.CdPostReferenceIdeal.nD Cert.CdPostReferenceIdeal.τ).loc Cert.CdPostReferenceIdeal.main_arg0) = m ((c.tc : Thread Cert.CdPostReferenceIdeal.nD Cert.CdPostReferenceIdeal.τ).loc Cert.CdPostReferenceIdeal.main_arg0)
      ∧ r.2.mem ((c.tc : Thread Cert.CdPostReferenceIdeal.nD Cert.CdPostReferenceIdeal.τ).loc Cert.CdPostReferenceIdeal.main_arg1) = m ((c.tc : Thread Cert.CdPostReferenceIdeal.nD Cert.CdPostReferenceIdeal.τ).loc Cert.CdPostReferenceIdeal.main_arg1)
      ∧ r.2.mem ((c.tc : Thread Cert.CdPostReferenceIdeal.nD Cert.CdPostReferenceIdeal.τ).loc Cert.CdPostReferenceIdeal.main_arg2) = m ((c.tc : Thread Cert.CdPostReferenceIdeal.nD Cert.CdPostReferenceIdeal.τ).loc Cert.CdPostReferenceIdeal.main_arg2))
      ∧ r.2.sem = fun _ => 0)

def quiescent_CdPostBwd [hCdPostBwd : Cert.CdPostBwd.Facts] : Prop :=
  ∀ (m : (ℓ : Loc Cert.CdPostBwd.nD Cert.CdPostBwd.τ Cert.CdPostBwd.sig) → Buf (Elt Bits) ℓ) (g : Dev Cert.CdPostBwd.nD → PrngReg), Pre_CdPostBwd m →
    θ_run (Cert.CdPostBwd.defs (F := Bits)) (onTc (τ := Cert.CdPostBwd.τ) (Cert.CdPostBwd.main (F := Bits))) ⟨m, fun _ => 0, g⟩ (fun r => (∀ c : Dev Cert.CdPostBwd.nD,
      r.2.mem ((c.tc : Thread Cert.CdPostBwd.nD Cert.CdPostBwd.τ).loc Cert.CdPostBwd.main_arg0) = m ((c.tc : Thread Cert.CdPostBwd.nD Cert.CdPostBwd.τ).loc Cert.CdPostBwd.main_arg0)
      ∧ r.2.mem ((c.tc : Thread Cert.CdPostBwd.nD Cert.CdPostBwd.τ).loc Cert.CdPostBwd.main_arg1) = m ((c.tc : Thread Cert.CdPostBwd.nD Cert.CdPostBwd.τ).loc Cert.CdPostBwd.main_arg1)
      ∧ r.2.mem ((c.tc : Thread Cert.CdPostBwd.nD Cert.CdPostBwd.τ).loc Cert.CdPostBwd.main_arg2) = m ((c.tc : Thread Cert.CdPostBwd.nD Cert.CdPostBwd.τ).loc Cert.CdPostBwd.main_arg2)
      ∧ r.2.mem ((c.tc : Thread Cert.CdPostBwd.nD Cert.CdPostBwd.τ).loc Cert.CdPostBwd.main_arg3) = m ((c.tc : Thread Cert.CdPostBwd.nD Cert.CdPostBwd.τ).loc Cert.CdPostBwd.main_arg3))
      ∧ r.2.sem = fun _ => 0)

def quiescent_CdPostBwdIdeal [hCdPostBwdIdeal : Cert.CdPostBwdIdeal.Facts] : Prop :=
  ∀ (m : (ℓ : Loc Cert.CdPostBwdIdeal.nD Cert.CdPostBwdIdeal.τ Cert.CdPostBwdIdeal.sig) → Buf (Elt Ideal) ℓ) (g : Dev Cert.CdPostBwdIdeal.nD → PrngReg), Pre_CdPostBwdIdeal m →
    θ_run (Cert.CdPostBwdIdeal.defs (F := Ideal)) (onTc (τ := Cert.CdPostBwdIdeal.τ) (Cert.CdPostBwdIdeal.main (F := Ideal))) ⟨m, fun _ => 0, g⟩ (fun r => (∀ c : Dev Cert.CdPostBwdIdeal.nD,
      r.2.mem ((c.tc : Thread Cert.CdPostBwdIdeal.nD Cert.CdPostBwdIdeal.τ).loc Cert.CdPostBwdIdeal.main_arg0) = m ((c.tc : Thread Cert.CdPostBwdIdeal.nD Cert.CdPostBwdIdeal.τ).loc Cert.CdPostBwdIdeal.main_arg0)
      ∧ r.2.mem ((c.tc : Thread Cert.CdPostBwdIdeal.nD Cert.CdPostBwdIdeal.τ).loc Cert.CdPostBwdIdeal.main_arg1) = m ((c.tc : Thread Cert.CdPostBwdIdeal.nD Cert.CdPostBwdIdeal.τ).loc Cert.CdPostBwdIdeal.main_arg1)
      ∧ r.2.mem ((c.tc : Thread Cert.CdPostBwdIdeal.nD Cert.CdPostBwdIdeal.τ).loc Cert.CdPostBwdIdeal.main_arg2) = m ((c.tc : Thread Cert.CdPostBwdIdeal.nD Cert.CdPostBwdIdeal.τ).loc Cert.CdPostBwdIdeal.main_arg2)
      ∧ r.2.mem ((c.tc : Thread Cert.CdPostBwdIdeal.nD Cert.CdPostBwdIdeal.τ).loc Cert.CdPostBwdIdeal.main_arg3) = m ((c.tc : Thread Cert.CdPostBwdIdeal.nD Cert.CdPostBwdIdeal.τ).loc Cert.CdPostBwdIdeal.main_arg3))
      ∧ r.2.sem = fun _ => 0)

def quiescent_CdPostBwdReferenceIdeal [hCdPostBwdReferenceIdeal : Cert.CdPostBwdReferenceIdeal.Facts] : Prop :=
  ∀ (m : (ℓ : Loc Cert.CdPostBwdReferenceIdeal.nD Cert.CdPostBwdReferenceIdeal.τ Cert.CdPostBwdReferenceIdeal.sig) → Buf (Elt Ideal) ℓ) (g : Dev Cert.CdPostBwdReferenceIdeal.nD → PrngReg), Pre_CdPostBwdReferenceIdeal m →
    θ_run (Cert.CdPostBwdReferenceIdeal.defs (F := Ideal)) (onTc (τ := Cert.CdPostBwdReferenceIdeal.τ) (Cert.CdPostBwdReferenceIdeal.main (F := Ideal))) ⟨m, fun _ => 0, g⟩ (fun r => (∀ c : Dev Cert.CdPostBwdReferenceIdeal.nD,
      r.2.mem ((c.tc : Thread Cert.CdPostBwdReferenceIdeal.nD Cert.CdPostBwdReferenceIdeal.τ).loc Cert.CdPostBwdReferenceIdeal.main_arg0) = m ((c.tc : Thread Cert.CdPostBwdReferenceIdeal.nD Cert.CdPostBwdReferenceIdeal.τ).loc Cert.CdPostBwdReferenceIdeal.main_arg0)
      ∧ r.2.mem ((c.tc : Thread Cert.CdPostBwdReferenceIdeal.nD Cert.CdPostBwdReferenceIdeal.τ).loc Cert.CdPostBwdReferenceIdeal.main_arg1) = m ((c.tc : Thread Cert.CdPostBwdReferenceIdeal.nD Cert.CdPostBwdReferenceIdeal.τ).loc Cert.CdPostBwdReferenceIdeal.main_arg1)
      ∧ r.2.mem ((c.tc : Thread Cert.CdPostBwdReferenceIdeal.nD Cert.CdPostBwdReferenceIdeal.τ).loc Cert.CdPostBwdReferenceIdeal.main_arg2) = m ((c.tc : Thread Cert.CdPostBwdReferenceIdeal.nD Cert.CdPostBwdReferenceIdeal.τ).loc Cert.CdPostBwdReferenceIdeal.main_arg2)
      ∧ r.2.mem ((c.tc : Thread Cert.CdPostBwdReferenceIdeal.nD Cert.CdPostBwdReferenceIdeal.τ).loc Cert.CdPostBwdReferenceIdeal.main_arg3) = m ((c.tc : Thread Cert.CdPostBwdReferenceIdeal.nD Cert.CdPostBwdReferenceIdeal.τ).loc Cert.CdPostBwdReferenceIdeal.main_arg3))
      ∧ r.2.sem = fun _ => 0)

def quiescent_RgConv [hRgConv : Cert.RgConv.Facts] : Prop :=
  ∀ (m : (ℓ : Loc Cert.RgConv.nD Cert.RgConv.τ Cert.RgConv.sig) → Buf (Elt Bits) ℓ) (g : Dev Cert.RgConv.nD → PrngReg), Pre_RgConv m →
    θ_run (Cert.RgConv.defs (F := Bits)) (onTc (τ := Cert.RgConv.τ) (Cert.RgConv.main (F := Bits))) ⟨m, fun _ => 0, g⟩ (fun r => (∀ c : Dev Cert.RgConv.nD,
      r.2.mem ((c.tc : Thread Cert.RgConv.nD Cert.RgConv.τ).loc Cert.RgConv.main_arg0) = m ((c.tc : Thread Cert.RgConv.nD Cert.RgConv.τ).loc Cert.RgConv.main_arg0)
      ∧ r.2.mem ((c.tc : Thread Cert.RgConv.nD Cert.RgConv.τ).loc Cert.RgConv.main_arg1) = m ((c.tc : Thread Cert.RgConv.nD Cert.RgConv.τ).loc Cert.RgConv.main_arg1)
      ∧ r.2.mem ((c.tc : Thread Cert.RgConv.nD Cert.RgConv.τ).loc Cert.RgConv.main_arg2) = m ((c.tc : Thread Cert.RgConv.nD Cert.RgConv.τ).loc Cert.RgConv.main_arg2))
      ∧ r.2.sem = fun _ => 0)

def quiescent_RgConvIdeal [hRgConvIdeal : Cert.RgConvIdeal.Facts] : Prop :=
  ∀ (m : (ℓ : Loc Cert.RgConvIdeal.nD Cert.RgConvIdeal.τ Cert.RgConvIdeal.sig) → Buf (Elt Ideal) ℓ) (g : Dev Cert.RgConvIdeal.nD → PrngReg), Pre_RgConvIdeal m →
    θ_run (Cert.RgConvIdeal.defs (F := Ideal)) (onTc (τ := Cert.RgConvIdeal.τ) (Cert.RgConvIdeal.main (F := Ideal))) ⟨m, fun _ => 0, g⟩ (fun r => (∀ c : Dev Cert.RgConvIdeal.nD,
      r.2.mem ((c.tc : Thread Cert.RgConvIdeal.nD Cert.RgConvIdeal.τ).loc Cert.RgConvIdeal.main_arg0) = m ((c.tc : Thread Cert.RgConvIdeal.nD Cert.RgConvIdeal.τ).loc Cert.RgConvIdeal.main_arg0)
      ∧ r.2.mem ((c.tc : Thread Cert.RgConvIdeal.nD Cert.RgConvIdeal.τ).loc Cert.RgConvIdeal.main_arg1) = m ((c.tc : Thread Cert.RgConvIdeal.nD Cert.RgConvIdeal.τ).loc Cert.RgConvIdeal.main_arg1)
      ∧ r.2.mem ((c.tc : Thread Cert.RgConvIdeal.nD Cert.RgConvIdeal.τ).loc Cert.RgConvIdeal.main_arg2) = m ((c.tc : Thread Cert.RgConvIdeal.nD Cert.RgConvIdeal.τ).loc Cert.RgConvIdeal.main_arg2))
      ∧ r.2.sem = fun _ => 0)

def quiescent_RgConvReferenceIdeal [hRgConvReferenceIdeal : Cert.RgConvReferenceIdeal.Facts] : Prop :=
  ∀ (m : (ℓ : Loc Cert.RgConvReferenceIdeal.nD Cert.RgConvReferenceIdeal.τ Cert.RgConvReferenceIdeal.sig) → Buf (Elt Ideal) ℓ) (g : Dev Cert.RgConvReferenceIdeal.nD → PrngReg), Pre_RgConvReferenceIdeal m →
    θ_run (Cert.RgConvReferenceIdeal.defs (F := Ideal)) (onTc (τ := Cert.RgConvReferenceIdeal.τ) (Cert.RgConvReferenceIdeal.main (F := Ideal))) ⟨m, fun _ => 0, g⟩ (fun r => (∀ c : Dev Cert.RgConvReferenceIdeal.nD,
      r.2.mem ((c.tc : Thread Cert.RgConvReferenceIdeal.nD Cert.RgConvReferenceIdeal.τ).loc Cert.RgConvReferenceIdeal.main_arg0) = m ((c.tc : Thread Cert.RgConvReferenceIdeal.nD Cert.RgConvReferenceIdeal.τ).loc Cert.RgConvReferenceIdeal.main_arg0)
      ∧ r.2.mem ((c.tc : Thread Cert.RgConvReferenceIdeal.nD Cert.RgConvReferenceIdeal.τ).loc Cert.RgConvReferenceIdeal.main_arg1) = m ((c.tc : Thread Cert.RgConvReferenceIdeal.nD Cert.RgConvReferenceIdeal.τ).loc Cert.RgConvReferenceIdeal.main_arg1)
      ∧ r.2.mem ((c.tc : Thread Cert.RgConvReferenceIdeal.nD Cert.RgConvReferenceIdeal.τ).loc Cert.RgConvReferenceIdeal.main_arg2) = m ((c.tc : Thread Cert.RgConvReferenceIdeal.nD Cert.RgConvReferenceIdeal.τ).loc Cert.RgConvReferenceIdeal.main_arg2))
      ∧ r.2.sem = fun _ => 0)

def quiescent_RgConvBwd [hRgConvBwd : Cert.RgConvBwd.Facts] : Prop :=
  ∀ (m : (ℓ : Loc Cert.RgConvBwd.nD Cert.RgConvBwd.τ Cert.RgConvBwd.sig) → Buf (Elt Bits) ℓ) (g : Dev Cert.RgConvBwd.nD → PrngReg), Pre_RgConvBwd m →
    θ_run (Cert.RgConvBwd.defs (F := Bits)) (onTc (τ := Cert.RgConvBwd.τ) (Cert.RgConvBwd.main (F := Bits))) ⟨m, fun _ => 0, g⟩ (fun r => (∀ c : Dev Cert.RgConvBwd.nD,
      r.2.mem ((c.tc : Thread Cert.RgConvBwd.nD Cert.RgConvBwd.τ).loc Cert.RgConvBwd.main_arg0) = m ((c.tc : Thread Cert.RgConvBwd.nD Cert.RgConvBwd.τ).loc Cert.RgConvBwd.main_arg0)
      ∧ r.2.mem ((c.tc : Thread Cert.RgConvBwd.nD Cert.RgConvBwd.τ).loc Cert.RgConvBwd.main_arg1) = m ((c.tc : Thread Cert.RgConvBwd.nD Cert.RgConvBwd.τ).loc Cert.RgConvBwd.main_arg1)
      ∧ r.2.mem ((c.tc : Thread Cert.RgConvBwd.nD Cert.RgConvBwd.τ).loc Cert.RgConvBwd.main_arg2) = m ((c.tc : Thread Cert.RgConvBwd.nD Cert.RgConvBwd.τ).loc Cert.RgConvBwd.main_arg2)
      ∧ r.2.mem ((c.tc : Thread Cert.RgConvBwd.nD Cert.RgConvBwd.τ).loc Cert.RgConvBwd.main_arg3) = m ((c.tc : Thread Cert.RgConvBwd.nD Cert.RgConvBwd.τ).loc Cert.RgConvBwd.main_arg3))
      ∧ r.2.sem = fun _ => 0)

def quiescent_RgConvBwdIdeal [hRgConvBwdIdeal : Cert.RgConvBwdIdeal.Facts] : Prop :=
  ∀ (m : (ℓ : Loc Cert.RgConvBwdIdeal.nD Cert.RgConvBwdIdeal.τ Cert.RgConvBwdIdeal.sig) → Buf (Elt Ideal) ℓ) (g : Dev Cert.RgConvBwdIdeal.nD → PrngReg), Pre_RgConvBwdIdeal m →
    θ_run (Cert.RgConvBwdIdeal.defs (F := Ideal)) (onTc (τ := Cert.RgConvBwdIdeal.τ) (Cert.RgConvBwdIdeal.main (F := Ideal))) ⟨m, fun _ => 0, g⟩ (fun r => (∀ c : Dev Cert.RgConvBwdIdeal.nD,
      r.2.mem ((c.tc : Thread Cert.RgConvBwdIdeal.nD Cert.RgConvBwdIdeal.τ).loc Cert.RgConvBwdIdeal.main_arg0) = m ((c.tc : Thread Cert.RgConvBwdIdeal.nD Cert.RgConvBwdIdeal.τ).loc Cert.RgConvBwdIdeal.main_arg0)
      ∧ r.2.mem ((c.tc : Thread Cert.RgConvBwdIdeal.nD Cert.RgConvBwdIdeal.τ).loc Cert.RgConvBwdIdeal.main_arg1) = m ((c.tc : Thread Cert.RgConvBwdIdeal.nD Cert.RgConvBwdIdeal.τ).loc Cert.RgConvBwdIdeal.main_arg1)
      ∧ r.2.mem ((c.tc : Thread Cert.RgConvBwdIdeal.nD Cert.RgConvBwdIdeal.τ).loc Cert.RgConvBwdIdeal.main_arg2) = m ((c.tc : Thread Cert.RgConvBwdIdeal.nD Cert.RgConvBwdIdeal.τ).loc Cert.RgConvBwdIdeal.main_arg2)
      ∧ r.2.mem ((c.tc : Thread Cert.RgConvBwdIdeal.nD Cert.RgConvBwdIdeal.τ).loc Cert.RgConvBwdIdeal.main_arg3) = m ((c.tc : Thread Cert.RgConvBwdIdeal.nD Cert.RgConvBwdIdeal.τ).loc Cert.RgConvBwdIdeal.main_arg3))
      ∧ r.2.sem = fun _ => 0)

def quiescent_RgConvBwdReferenceIdeal [hRgConvBwdReferenceIdeal : Cert.RgConvBwdReferenceIdeal.Facts] : Prop :=
  ∀ (m : (ℓ : Loc Cert.RgConvBwdReferenceIdeal.nD Cert.RgConvBwdReferenceIdeal.τ Cert.RgConvBwdReferenceIdeal.sig) → Buf (Elt Ideal) ℓ) (g : Dev Cert.RgConvBwdReferenceIdeal.nD → PrngReg), Pre_RgConvBwdReferenceIdeal m →
    θ_run (Cert.RgConvBwdReferenceIdeal.defs (F := Ideal)) (onTc (τ := Cert.RgConvBwdReferenceIdeal.τ) (Cert.RgConvBwdReferenceIdeal.main (F := Ideal))) ⟨m, fun _ => 0, g⟩ (fun r => (∀ c : Dev Cert.RgConvBwdReferenceIdeal.nD,
      r.2.mem ((c.tc : Thread Cert.RgConvBwdReferenceIdeal.nD Cert.RgConvBwdReferenceIdeal.τ).loc Cert.RgConvBwdReferenceIdeal.main_arg0) = m ((c.tc : Thread Cert.RgConvBwdReferenceIdeal.nD Cert.RgConvBwdReferenceIdeal.τ).loc Cert.RgConvBwdReferenceIdeal.main_arg0)
      ∧ r.2.mem ((c.tc : Thread Cert.RgConvBwdReferenceIdeal.nD Cert.RgConvBwdReferenceIdeal.τ).loc Cert.RgConvBwdReferenceIdeal.main_arg1) = m ((c.tc : Thread Cert.RgConvBwdReferenceIdeal.nD Cert.RgConvBwdReferenceIdeal.τ).loc Cert.RgConvBwdReferenceIdeal.main_arg1)
      ∧ r.2.mem ((c.tc : Thread Cert.RgConvBwdReferenceIdeal.nD Cert.RgConvBwdReferenceIdeal.τ).loc Cert.RgConvBwdReferenceIdeal.main_arg2) = m ((c.tc : Thread Cert.RgConvBwdReferenceIdeal.nD Cert.RgConvBwdReferenceIdeal.τ).loc Cert.RgConvBwdReferenceIdeal.main_arg2)
      ∧ r.2.mem ((c.tc : Thread Cert.RgConvBwdReferenceIdeal.nD Cert.RgConvBwdReferenceIdeal.τ).loc Cert.RgConvBwdReferenceIdeal.main_arg3) = m ((c.tc : Thread Cert.RgConvBwdReferenceIdeal.nD Cert.RgConvBwdReferenceIdeal.τ).loc Cert.RgConvBwdReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_4) = v0 c
          ∧ r.2.mem ((c.tc : Thread Cert.ReferenceIdeal.nD Cert.ReferenceIdeal.τ).loc Cert.ReferenceIdeal.main_v8_5) = v1 c
          ∧ r.2.mem ((c.tc : Thread Cert.ReferenceIdeal.nD Cert.ReferenceIdeal.τ).loc Cert.ReferenceIdeal.main_v8_6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v1) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v2) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v2) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1))

def preserves_FfnDownDx_FfnDownDxIdeal : Prop :=
  True

def algebraic_FfnDownDxIdeal_FfnDownDxReferenceIdeal [hFfnDownDxIdeal : Cert.FfnDownDxIdeal.Facts] [hFfnDownDxReferenceIdeal : Cert.FfnDownDxReferenceIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg)
    (m' : (ℓ : Loc Cert.FfnDownDxReferenceIdeal.nD Cert.FfnDownDxReferenceIdeal.τ Cert.FfnDownDxReferenceIdeal.sig) → Buf (Elt Ideal) ℓ) (g' : Dev Cert.FfnDownDxReferenceIdeal.nD → PrngReg), Pre_FfnDownDxIdeal m →
    (∀ c : Dev Cert.FfnDownDxIdeal.nD,
      m' ((c.tc : Thread Cert.FfnDownDxReferenceIdeal.nD Cert.FfnDownDxReferenceIdeal.τ).loc Cert.FfnDownDxReferenceIdeal.main_arg0) = m ((c.tc : Thread Cert.FfnDownDxIdeal.nD Cert.FfnDownDxIdeal.τ).loc Cert.FfnDownDxIdeal.main_arg0)
      ∧ m' ((c.tc : Thread Cert.FfnDownDxReferenceIdeal.nD Cert.FfnDownDxReferenceIdeal.τ).loc Cert.FfnDownDxReferenceIdeal.main_arg1) = m ((c.tc : Thread Cert.FfnDownDxIdeal.nD Cert.FfnDownDxIdeal.τ).loc Cert.FfnDownDxIdeal.main_arg1)) →
    ∃ (v0 : (c : Dev Cert.FfnDownDxIdeal.nD) → Buf (Elt Ideal) ((c.tc : Thread Cert.FfnDownDxIdeal.nD Cert.FfnDownDxIdeal.τ).loc Cert.FfnDownDxIdeal.main_v0)),
      θ_run (Cert.FfnDownDxIdeal.defs (F := Ideal)) (onTc (τ := Cert.FfnDownDxIdeal.τ) (Cert.FfnDownDxIdeal.main (F := Ideal))) ⟨m, fun _ => 0, g⟩ (fun r => ∀ c : Dev Cert.FfnDownDxIdeal.nD,
          r.2.mem ((c.tc : Thread Cert.FfnDownDxIdeal.nD Cert.FfnDownDxIdeal.τ).loc Cert.FfnDownDxIdeal.main_v0) = v0 c
          ∧ r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
          ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ θ_run (Cert.FfnDownDxReferenceIdeal.defs (F := Ideal)) (onTc (τ := Cert.FfnDownDxReferenceIdeal.τ) (Cert.FfnDownDxReferenceIdeal.main (F := Ideal))) ⟨m', fun _ => 0, g'⟩ (fun r => ∀ c : Dev Cert.FfnDownDxReferenceIdeal.nD,
          r.2.mem ((c.tc : Thread Cert.FfnDownDxReferenceIdeal.nD Cert.FfnDownDxReferenceIdeal.τ).loc Cert.FfnDownDxReferenceIdeal.main_v4) = v0 c
          ∧ r.2.mem ((c.tc : Thread Cert.FfnDownDxReferenceIdeal.nD Cert.FfnDownDxReferenceIdeal.τ).loc Cert.FfnDownDxReferenceIdeal.main_arg0) = m' ((c.tc : Thread Cert.FfnDownDxReferenceIdeal.nD Cert.FfnDownDxReferenceIdeal.τ).loc Cert.FfnDownDxReferenceIdeal.main_arg0)
          ∧ r.2.mem ((c.tc : Thread Cert.FfnDownDxReferenceIdeal.nD Cert.FfnDownDxReferenceIdeal.τ).loc Cert.FfnDownDxReferenceIdeal.main_arg1) = m' ((c.tc : Thread Cert.FfnDownDxReferenceIdeal.nD Cert.FfnDownDxReferenceIdeal.τ).loc Cert.FfnDownDxReferenceIdeal.main_arg1))

def preserves_MixOutDx_MixOutDxIdeal : Prop :=
  True

def algebraic_MixOutDxIdeal_MixOutDxReferenceIdeal [hMixOutDxIdeal : Cert.MixOutDxIdeal.Facts] [hMixOutDxReferenceIdeal : Cert.MixOutDxReferenceIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxReferenceIdeal.nD Cert.MixOutDxReferenceIdeal.τ Cert.MixOutDxReferenceIdeal.sig) → Buf (Elt Ideal) ℓ) (g' : Dev Cert.MixOutDxReferenceIdeal.nD → PrngReg), Pre_MixOutDxIdeal m →
    (∀ c : Dev Cert.MixOutDxIdeal.nD,
      m' ((c.tc : Thread Cert.MixOutDxReferenceIdeal.nD Cert.MixOutDxReferenceIdeal.τ).loc Cert.MixOutDxReferenceIdeal.main_arg0) = m ((c.tc : Thread Cert.MixOutDxIdeal.nD Cert.MixOutDxIdeal.τ).loc Cert.MixOutDxIdeal.main_arg0)
      ∧ m' ((c.tc : Thread Cert.MixOutDxReferenceIdeal.nD Cert.MixOutDxReferenceIdeal.τ).loc Cert.MixOutDxReferenceIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v0)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v0) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxReferenceIdeal.defs (F := Ideal)) (onTc (τ := Cert.MixOutDxReferenceIdeal.τ) (Cert.MixOutDxReferenceIdeal.main (F := Ideal))) ⟨m', fun _ => 0, g'⟩ (fun r => ∀ c : Dev Cert.MixOutDxReferenceIdeal.nD,
          r.2.mem ((c.tc : Thread Cert.MixOutDxReferenceIdeal.nD Cert.MixOutDxReferenceIdeal.τ).loc Cert.MixOutDxReferenceIdeal.main_v4) = v0 c
          ∧ r.2.mem ((c.tc : Thread Cert.MixOutDxReferenceIdeal.nD Cert.MixOutDxReferenceIdeal.τ).loc Cert.MixOutDxReferenceIdeal.main_arg0) = m' ((c.tc : Thread Cert.MixOutDxReferenceIdeal.nD Cert.MixOutDxReferenceIdeal.τ).loc Cert.MixOutDxReferenceIdeal.main_arg0)
          ∧ r.2.mem ((c.tc : Thread Cert.MixOutDxReferenceIdeal.nD Cert.MixOutDxReferenceIdeal.τ).loc Cert.MixOutDxReferenceIdeal.main_arg1) = m' ((c.tc : Thread Cert.MixOutDxReferenceIdeal.nD Cert.MixOutDxReferenceIdeal.τ).loc Cert.MixOutDxReferenceIdeal.main_arg1))

def preserves_FfnUpDxGate_FfnUpDxGateIdeal : Prop :=
  True

def algebraic_FfnUpDxGateIdeal_FfnUpDxGateReferenceIdeal [hFfnUpDxGateIdeal : Cert.FfnUpDxGateIdeal.Facts] [hFfnUpDxGateReferenceIdeal : Cert.FfnUpDxGateReferenceIdeal.Facts] : Prop :=
  ∀ (m : (ℓ : Loc Cert.FfnUpDxGateIdeal.nD Cert.FfnUpDxGateIdeal.τ Cert.FfnUpDxGateIdeal.sig) → Buf (Elt Ideal) ℓ) (g : Dev Cert.FfnUpDxGateIdeal.nD → PrngReg)
    (m' : (ℓ : Loc Cert.FfnUpDxGateReferenceIdeal.nD Cert.FfnUpDxGateReferenceIdeal.τ Cert.FfnUpDxGateReferenceIdeal.sig) → Buf (Elt Ideal) ℓ) (g' : Dev Cert.FfnUpDxGateReferenceIdeal.nD → PrngReg), Pre_FfnUpDxGateIdeal m →
    (∀ c : Dev Cert.FfnUpDxGateIdeal.nD,
      m' ((c.tc : Thread Cert.FfnUpDxGateReferenceIdeal.nD Cert.FfnUpDxGateReferenceIdeal.τ).loc Cert.FfnUpDxGateReferenceIdeal.main_arg0) = m ((c.tc : Thread Cert.FfnUpDxGateIdeal.nD Cert.FfnUpDxGateIdeal.τ).loc Cert.FfnUpDxGateIdeal.main_arg0)
      ∧ m' ((c.tc : Thread Cert.FfnUpDxGateReferenceIdeal.nD Cert.FfnUpDxGateReferenceIdeal.τ).loc Cert.FfnUpDxGateReferenceIdeal.main_arg1) = m ((c.tc : Thread Cert.FfnUpDxGateIdeal.nD Cert.FfnUpDxGateIdeal.τ).loc Cert.FfnUpDxGateIdeal.main_arg1)
      ∧ m' ((c.tc : Thread Cert.FfnUpDxGateReferenceIdeal.nD Cert.FfnUpDxGateReferenceIdeal.τ).loc Cert.FfnUpDxGateReferenceIdeal.main_arg2) = m ((c.tc : Thread Cert.FfnUpDxGateIdeal.nD Cert.FfnUpDxGateIdeal.τ).loc Cert.FfnUpDxGateIdeal.main_arg2)) →
    ∃ (v0 : (c : Dev Cert.FfnUpDxGateIdeal.nD) → Buf (Elt Ideal) ((c.tc : Thread Cert.FfnUpDxGateIdeal.nD Cert.FfnUpDxGateIdeal.τ).loc Cert.FfnUpDxGateIdeal.main_v0)),
      θ_run (Cert.FfnUpDxGateIdeal.defs (F := Ideal)) (onTc (τ := Cert.FfnUpDxGateIdeal.τ) (Cert.FfnUpDxGateIdeal.main (F := Ideal))) ⟨m, fun _ => 0, g⟩ (fun r => ∀ c : Dev Cert.FfnUpDxGateIdeal.nD,
          r.2.mem ((c.tc : Thread Cert.FfnUpDxGateIdeal.nD Cert.FfnUpDxGateIdeal.τ).loc Cert.FfnUpDxGateIdeal.main_v0) = v0 c
          ∧ r.2.mem ((c.tc : Thread Cert.FfnUpDxGateIdeal.nD Cert.FfnUpDxGateIdeal.τ).loc Cert.FfnUpDxGateIdeal.main_arg0) = m ((c.tc : Thread Cert.FfnUpDxGateIdeal.nD Cert.FfnUpDxGateIdeal.τ).loc Cert.FfnUpDxGateIdeal.main_arg0)
          ∧ r.2.mem ((c.tc : Thread Cert.FfnUpDxGateIdeal.nD Cert.FfnUpDxGateIdeal.τ).loc Cert.FfnUpDxGateIdeal.main_arg1) = m ((c.tc : Thread Cert.FfnUpDxGateIdeal.nD Cert.FfnUpDxGateIdeal.τ).loc Cert.FfnUpDxGateIdeal.main_arg1)
          ∧ r.2.mem ((c.tc : Thread Cert.FfnUpDxGateIdeal.nD Cert.FfnUpDxGateIdeal.τ).loc Cert.FfnUpDxGateIdeal.main_arg2) = m ((c.tc : Thread Cert.FfnUpDxGateIdeal.nD Cert.FfnUpDxGateIdeal.τ).loc Cert.FfnUpDxGateIdeal.main_arg2))
      ∧ θ_run (Cert.FfnUpDxGateReferenceIdeal.defs (F := Ideal)) (onTc (τ := Cert.FfnUpDxGateReferenceIdeal.τ) (Cert.FfnUpDxGateReferenceIdeal.main (F := Ideal))) ⟨m', fun _ => 0, g'⟩ (fun r => ∀ c : Dev Cert.FfnUpDxGateReferenceIdeal.nD,
          r.2.mem ((c.tc : Thread Cert.FfnUpDxGateReferenceIdeal.nD Cert.FfnUpDxGateReferenceIdeal.τ).loc Cert.FfnUpDxGateReferenceIdeal.main_v7) = v0 c
          ∧ r.2.mem ((c.tc : Thread Cert.FfnUpDxGateReferenceIdeal.nD Cert.FfnUpDxGateReferenceIdeal.τ).loc Cert.FfnUpDxGateReferenceIdeal.main_arg0) = m' ((c.tc : Thread Cert.FfnUpDxGateReferenceIdeal.nD Cert.FfnUpDxGateReferenceIdeal.τ).loc Cert.FfnUpDxGateReferenceIdeal.main_arg0)
          ∧ r.2.mem ((c.tc : Thread Cert.FfnUpDxGateReferenceIdeal.nD Cert.FfnUpDxGateReferenceIdeal.τ).loc Cert.FfnUpDxGateReferenceIdeal.main_arg1) = m' ((c.tc : Thread Cert.FfnUpDxGateReferenceIdeal.nD Cert.FfnUpDxGateReferenceIdeal.τ).loc Cert.FfnUpDxGateReferenceIdeal.main_arg1)
          ∧ r.2.mem ((c.tc : Thread Cert.FfnUpDxGateReferenceIdeal.nD Cert.FfnUpDxGateReferenceIdeal.τ).loc Cert.FfnUpDxGateReferenceIdeal.main_arg2) = m' ((c.tc : Thread Cert.FfnUpDxGateReferenceIdeal.nD Cert.FfnUpDxGateReferenceIdeal.τ).loc Cert.FfnUpDxGateReferenceIdeal.main_arg2))

def preserves_FfnUpDxUp_FfnUpDxUpIdeal : Prop :=
  True

def algebraic_FfnUpDxUpIdeal_FfnUpDxUpReferenceIdeal [hFfnUpDxUpIdeal : Cert.FfnUpDxUpIdeal.Facts] [hFfnUpDxUpReferenceIdeal : Cert.FfnUpDxUpReferenceIdeal.Facts] : Prop :=
  ∀ (m : (ℓ : Loc Cert.FfnUpDxUpIdeal.nD Cert.FfnUpDxUpIdeal.τ Cert.FfnUpDxUpIdeal.sig) → Buf (Elt Ideal) ℓ) (g : Dev Cert.FfnUpDxUpIdeal.nD → PrngReg)
    (m' : (ℓ : Loc Cert.FfnUpDxUpReferenceIdeal.nD Cert.FfnUpDxUpReferenceIdeal.τ Cert.FfnUpDxUpReferenceIdeal.sig) → Buf (Elt Ideal) ℓ) (g' : Dev Cert.FfnUpDxUpReferenceIdeal.nD → PrngReg), Pre_FfnUpDxUpIdeal m →
    (∀ c : Dev Cert.FfnUpDxUpIdeal.nD,
      m' ((c.tc : Thread Cert.FfnUpDxUpReferenceIdeal.nD Cert.FfnUpDxUpReferenceIdeal.τ).loc Cert.FfnUpDxUpReferenceIdeal.main_arg0) = m ((c.tc : Thread Cert.FfnUpDxUpIdeal.nD Cert.FfnUpDxUpIdeal.τ).loc Cert.FfnUpDxUpIdeal.main_arg0)
      ∧ m' ((c.tc : Thread Cert.FfnUpDxUpReferenceIdeal.nD Cert.FfnUpDxUpReferenceIdeal.τ).loc Cert.FfnUpDxUpReferenceIdeal.main_arg1) = m ((c.tc : Thread Cert.FfnUpDxUpIdeal.nD Cert.FfnUpDxUpIdeal.τ).loc Cert.FfnUpDxUpIdeal.main_arg1)
      ∧ m' ((c.tc : Thread Cert.FfnUpDxUpReferenceIdeal.nD Cert.FfnUpDxUpReferenceIdeal.τ).loc Cert.FfnUpDxUpReferenceIdeal.main_arg2) = m ((c.tc : Thread Cert.FfnUpDxUpIdeal.nD Cert.FfnUpDxUpIdeal.τ).loc Cert.FfnUpDxUpIdeal.main_arg2)) →
    ∃ (v0 : (c : Dev Cert.FfnUpDxUpIdeal.nD) → Buf (Elt Ideal) ((c.tc : Thread Cert.FfnUpDxUpIdeal.nD Cert.FfnUpDxUpIdeal.τ).loc Cert.FfnUpDxUpIdeal.main_v0)),
      θ_run (Cert.FfnUpDxUpIdeal.defs (F := Ideal)) (onTc (τ := Cert.FfnUpDxUpIdeal.τ) (Cert.FfnUpDxUpIdeal.main (F := Ideal))) ⟨m, fun _ => 0, g⟩ (fun r => ∀ c : Dev Cert.FfnUpDxUpIdeal.nD,
          r.2.mem ((c.tc : Thread Cert.FfnUpDxUpIdeal.nD Cert.FfnUpDxUpIdeal.τ).loc Cert.FfnUpDxUpIdeal.main_v0) = v0 c
          ∧ r.2.mem ((c.tc : Thread Cert.FfnUpDxUpIdeal.nD Cert.FfnUpDxUpIdeal.τ).loc Cert.FfnUpDxUpIdeal.main_arg0) = m ((c.tc : Thread Cert.FfnUpDxUpIdeal.nD Cert.FfnUpDxUpIdeal.τ).loc Cert.FfnUpDxUpIdeal.main_arg0)
          ∧ r.2.mem ((c.tc : Thread Cert.FfnUpDxUpIdeal.nD Cert.FfnUpDxUpIdeal.τ).loc Cert.FfnUpDxUpIdeal.main_arg1) = m ((c.tc : Thread Cert.FfnUpDxUpIdeal.nD Cert.FfnUpDxUpIdeal.τ).loc Cert.FfnUpDxUpIdeal.main_arg1)
          ∧ r.2.mem ((c.tc : Thread Cert.FfnUpDxUpIdeal.nD Cert.FfnUpDxUpIdeal.τ).loc Cert.FfnUpDxUpIdeal.main_arg2) = m ((c.tc : Thread Cert.FfnUpDxUpIdeal.nD Cert.FfnUpDxUpIdeal.τ).loc Cert.FfnUpDxUpIdeal.main_arg2))
      ∧ θ_run (Cert.FfnUpDxUpReferenceIdeal.defs (F := Ideal)) (onTc (τ := Cert.FfnUpDxUpReferenceIdeal.τ) (Cert.FfnUpDxUpReferenceIdeal.main (F := Ideal))) ⟨m', fun _ => 0, g'⟩ (fun r => ∀ c : Dev Cert.FfnUpDxUpReferenceIdeal.nD,
          r.2.mem ((c.tc : Thread Cert.FfnUpDxUpReferenceIdeal.nD Cert.FfnUpDxUpReferenceIdeal.τ).loc Cert.FfnUpDxUpReferenceIdeal.main_v7) = v0 c
          ∧ r.2.mem ((c.tc : Thread Cert.FfnUpDxUpReferenceIdeal.nD Cert.FfnUpDxUpReferenceIdeal.τ).loc Cert.FfnUpDxUpReferenceIdeal.main_arg0) = m' ((c.tc : Thread Cert.FfnUpDxUpReferenceIdeal.nD Cert.FfnUpDxUpReferenceIdeal.τ).loc Cert.FfnUpDxUpReferenceIdeal.main_arg0)
          ∧ r.2.mem ((c.tc : Thread Cert.FfnUpDxUpReferenceIdeal.nD Cert.FfnUpDxUpReferenceIdeal.τ).loc Cert.FfnUpDxUpReferenceIdeal.main_arg1) = m' ((c.tc : Thread Cert.FfnUpDxUpReferenceIdeal.nD Cert.FfnUpDxUpReferenceIdeal.τ).loc Cert.FfnUpDxUpReferenceIdeal.main_arg1)
          ∧ r.2.mem ((c.tc : Thread Cert.FfnUpDxUpReferenceIdeal.nD Cert.FfnUpDxUpReferenceIdeal.τ).loc Cert.FfnUpDxUpReferenceIdeal.main_arg2) = m' ((c.tc : Thread Cert.FfnUpDxUpReferenceIdeal.nD Cert.FfnUpDxUpReferenceIdeal.τ).loc Cert.FfnUpDxUpReferenceIdeal.main_arg2))

def preserves_CdInDx_CdInDxIdeal : Prop :=
  True

def algebraic_CdInDxIdeal_CdInDxReferenceIdeal [hCdInDxIdeal : Cert.CdInDxIdeal.Facts] [hCdInDxReferenceIdeal : Cert.CdInDxReferenceIdeal.Facts] : Prop :=
  ∀ (m : (ℓ : Loc Cert.CdInDxIdeal.nD Cert.CdInDxIdeal.τ Cert.CdInDxIdeal.sig) → Buf (Elt Ideal) ℓ) (g : Dev Cert.CdInDxIdeal.nD → PrngReg)
    (m' : (ℓ : Loc Cert.CdInDxReferenceIdeal.nD Cert.CdInDxReferenceIdeal.τ Cert.CdInDxReferenceIdeal.sig) → Buf (Elt Ideal) ℓ) (g' : Dev Cert.CdInDxReferenceIdeal.nD → PrngReg), Pre_CdInDxIdeal m →
    (∀ c : Dev Cert.CdInDxIdeal.nD,
      m' ((c.tc : Thread Cert.CdInDxReferenceIdeal.nD Cert.CdInDxReferenceIdeal.τ).loc Cert.CdInDxReferenceIdeal.main_arg0) = m ((c.tc : Thread Cert.CdInDxIdeal.nD Cert.CdInDxIdeal.τ).loc Cert.CdInDxIdeal.main_arg0)
      ∧ m' ((c.tc : Thread Cert.CdInDxReferenceIdeal.nD Cert.CdInDxReferenceIdeal.τ).loc Cert.CdInDxReferenceIdeal.main_arg1) = m ((c.tc : Thread Cert.CdInDxIdeal.nD Cert.CdInDxIdeal.τ).loc Cert.CdInDxIdeal.main_arg1)
      ∧ m' ((c.tc : Thread Cert.CdInDxReferenceIdeal.nD Cert.CdInDxReferenceIdeal.τ).loc Cert.CdInDxReferenceIdeal.main_arg2) = m ((c.tc : Thread Cert.CdInDxIdeal.nD Cert.CdInDxIdeal.τ).loc Cert.CdInDxIdeal.main_arg2)) →
    ∃ (v0 : (c : Dev Cert.CdInDxIdeal.nD) → Buf (Elt Ideal) ((c.tc : Thread Cert.CdInDxIdeal.nD Cert.CdInDxIdeal.τ).loc Cert.CdInDxIdeal.main_v0)),
      θ_run (Cert.CdInDxIdeal.defs (F := Ideal)) (onTc (τ := Cert.CdInDxIdeal.τ) (Cert.CdInDxIdeal.main (F := Ideal))) ⟨m, fun _ => 0, g⟩ (fun r => ∀ c : Dev Cert.CdInDxIdeal.nD,
          r.2.mem ((c.tc : Thread Cert.CdInDxIdeal.nD Cert.CdInDxIdeal.τ).loc Cert.CdInDxIdeal.main_v0) = v0 c
          ∧ r.2.mem ((c.tc : Thread Cert.CdInDxIdeal.nD Cert.CdInDxIdeal.τ).loc Cert.CdInDxIdeal.main_arg0) = m ((c.tc : Thread Cert.CdInDxIdeal.nD Cert.CdInDxIdeal.τ).loc Cert.CdInDxIdeal.main_arg0)
          ∧ r.2.mem ((c.tc : Thread Cert.CdInDxIdeal.nD Cert.CdInDxIdeal.τ).loc Cert.CdInDxIdeal.main_arg1) = m ((c.tc : Thread Cert.CdInDxIdeal.nD Cert.CdInDxIdeal.τ).loc Cert.CdInDxIdeal.main_arg1)
          ∧ r.2.mem ((c.tc : Thread Cert.CdInDxIdeal.nD Cert.CdInDxIdeal.τ).loc Cert.CdInDxIdeal.main_arg2) = m ((c.tc : Thread Cert.CdInDxIdeal.nD Cert.CdInDxIdeal.τ).loc Cert.CdInDxIdeal.main_arg2))
      ∧ θ_run (Cert.CdInDxReferenceIdeal.defs (F := Ideal)) (onTc (τ := Cert.CdInDxReferenceIdeal.τ) (Cert.CdInDxReferenceIdeal.main (F := Ideal))) ⟨m', fun _ => 0, g'⟩ (fun r => ∀ c : Dev Cert.CdInDxReferenceIdeal.nD,
          r.2.mem ((c.tc : Thread Cert.CdInDxReferenceIdeal.nD Cert.CdInDxReferenceIdeal.τ).loc Cert.CdInDxReferenceIdeal.main_v5) = v0 c
          ∧ r.2.mem ((c.tc : Thread Cert.CdInDxReferenceIdeal.nD Cert.CdInDxReferenceIdeal.τ).loc Cert.CdInDxReferenceIdeal.main_arg0) = m' ((c.tc : Thread Cert.CdInDxReferenceIdeal.nD Cert.CdInDxReferenceIdeal.τ).loc Cert.CdInDxReferenceIdeal.main_arg0)
          ∧ r.2.mem ((c.tc : Thread Cert.CdInDxReferenceIdeal.nD Cert.CdInDxReferenceIdeal.τ).loc Cert.CdInDxReferenceIdeal.main_arg1) = m' ((c.tc : Thread Cert.CdInDxReferenceIdeal.nD Cert.CdInDxReferenceIdeal.τ).loc Cert.CdInDxReferenceIdeal.main_arg1)
          ∧ r.2.mem ((c.tc : Thread Cert.CdInDxReferenceIdeal.nD Cert.CdInDxReferenceIdeal.τ).loc Cert.CdInDxReferenceIdeal.main_arg2) = m' ((c.tc : Thread Cert.CdInDxReferenceIdeal.nD Cert.CdInDxReferenceIdeal.τ).loc Cert.CdInDxReferenceIdeal.main_arg2))

def preserves_AbInDx_AbInDxIdeal : Prop :=
  True

def algebraic_AbInDxIdeal_AbInDxReferenceIdeal [hAbInDxIdeal : Cert.AbInDxIdeal.Facts] [hAbInDxReferenceIdeal : Cert.AbInDxReferenceIdeal.Facts] : Prop :=
  ∀ (m : (ℓ : Loc Cert.AbInDxIdeal.nD Cert.AbInDxIdeal.τ Cert.AbInDxIdeal.sig) → Buf (Elt Ideal) ℓ) (g : Dev Cert.AbInDxIdeal.nD → PrngReg)
    (m' : (ℓ : Loc Cert.AbInDxReferenceIdeal.nD Cert.AbInDxReferenceIdeal.τ Cert.AbInDxReferenceIdeal.sig) → Buf (Elt Ideal) ℓ) (g' : Dev Cert.AbInDxReferenceIdeal.nD → PrngReg), Pre_AbInDxIdeal m →
    (∀ c : Dev Cert.AbInDxIdeal.nD,
      m' ((c.tc : Thread Cert.AbInDxReferenceIdeal.nD Cert.AbInDxReferenceIdeal.τ).loc Cert.AbInDxReferenceIdeal.main_arg0) = m ((c.tc : Thread Cert.AbInDxIdeal.nD Cert.AbInDxIdeal.τ).loc Cert.AbInDxIdeal.main_arg0)
      ∧ m' ((c.tc : Thread Cert.AbInDxReferenceIdeal.nD Cert.AbInDxReferenceIdeal.τ).loc Cert.AbInDxReferenceIdeal.main_arg1) = m ((c.tc : Thread Cert.AbInDxIdeal.nD Cert.AbInDxIdeal.τ).loc Cert.AbInDxIdeal.main_arg1)
      ∧ m' ((c.tc : Thread Cert.AbInDxReferenceIdeal.nD Cert.AbInDxReferenceIdeal.τ).loc Cert.AbInDxReferenceIdeal.main_arg2) = m ((c.tc : Thread Cert.AbInDxIdeal.nD Cert.AbInDxIdeal.τ).loc Cert.AbInDxIdeal.main_arg2)) →
    ∃ (v0 : (c : Dev Cert.AbInDxIdeal.nD) → Buf (Elt Ideal) ((c.tc : Thread Cert.AbInDxIdeal.nD Cert.AbInDxIdeal.τ).loc Cert.AbInDxIdeal.main_v0)),
      θ_run (Cert.AbInDxIdeal.defs (F := Ideal)) (onTc (τ := Cert.AbInDxIdeal.τ) (Cert.AbInDxIdeal.main (F := Ideal))) ⟨m, fun _ => 0, g⟩ (fun r => ∀ c : Dev Cert.AbInDxIdeal.nD,
          r.2.mem ((c.tc : Thread Cert.AbInDxIdeal.nD Cert.AbInDxIdeal.τ).loc Cert.AbInDxIdeal.main_v0) = v0 c
          ∧ r.2.mem ((c.tc : Thread Cert.AbInDxIdeal.nD Cert.AbInDxIdeal.τ).loc Cert.AbInDxIdeal.main_arg0) = m ((c.tc : Thread Cert.AbInDxIdeal.nD Cert.AbInDxIdeal.τ).loc Cert.AbInDxIdeal.main_arg0)
          ∧ r.2.mem ((c.tc : Thread Cert.AbInDxIdeal.nD Cert.AbInDxIdeal.τ).loc Cert.AbInDxIdeal.main_arg1) = m ((c.tc : Thread Cert.AbInDxIdeal.nD Cert.AbInDxIdeal.τ).loc Cert.AbInDxIdeal.main_arg1)
          ∧ r.2.mem ((c.tc : Thread Cert.AbInDxIdeal.nD Cert.AbInDxIdeal.τ).loc Cert.AbInDxIdeal.main_arg2) = m ((c.tc : Thread Cert.AbInDxIdeal.nD Cert.AbInDxIdeal.τ).loc Cert.AbInDxIdeal.main_arg2))
      ∧ θ_run (Cert.AbInDxReferenceIdeal.defs (F := Ideal)) (onTc (τ := Cert.AbInDxReferenceIdeal.τ) (Cert.AbInDxReferenceIdeal.main (F := Ideal))) ⟨m', fun _ => 0, g'⟩ (fun r => ∀ c : Dev Cert.AbInDxReferenceIdeal.nD,
          r.2.mem ((c.tc : Thread Cert.AbInDxReferenceIdeal.nD Cert.AbInDxReferenceIdeal.τ).loc Cert.AbInDxReferenceIdeal.main_v5) = v0 c
          ∧ r.2.mem ((c.tc : Thread Cert.AbInDxReferenceIdeal.nD Cert.AbInDxReferenceIdeal.τ).loc Cert.AbInDxReferenceIdeal.main_arg0) = m' ((c.tc : Thread Cert.AbInDxReferenceIdeal.nD Cert.AbInDxReferenceIdeal.τ).loc Cert.AbInDxReferenceIdeal.main_arg0)
          ∧ r.2.mem ((c.tc : Thread Cert.AbInDxReferenceIdeal.nD Cert.AbInDxReferenceIdeal.τ).loc Cert.AbInDxReferenceIdeal.main_arg1) = m' ((c.tc : Thread Cert.AbInDxReferenceIdeal.nD Cert.AbInDxReferenceIdeal.τ).loc Cert.AbInDxReferenceIdeal.main_arg1)
          ∧ r.2.mem ((c.tc : Thread Cert.AbInDxReferenceIdeal.nD Cert.AbInDxReferenceIdeal.τ).loc Cert.AbInDxReferenceIdeal.main_arg2) = m' ((c.tc : Thread Cert.AbInDxReferenceIdeal.nD Cert.AbInDxReferenceIdeal.τ).loc Cert.AbInDxReferenceIdeal.main_arg2))

def preserves_FfnDownDw_FfnDownDwIdeal : Prop :=
  True

def algebraic_FfnDownDwIdeal_FfnDownDwReferenceIdeal [hFfnDownDwIdeal : Cert.FfnDownDwIdeal.Facts] [hFfnDownDwReferenceIdeal : Cert.FfnDownDwReferenceIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwReferenceIdeal.nD Cert.FfnDownDwReferenceIdeal.τ Cert.FfnDownDwReferenceIdeal.sig) → Buf (Elt Ideal) ℓ) (g' : Dev Cert.FfnDownDwReferenceIdeal.nD → PrngReg), Pre_FfnDownDwIdeal m →
    (∀ c : Dev Cert.FfnDownDwIdeal.nD,
      m' ((c.tc : Thread Cert.FfnDownDwReferenceIdeal.nD Cert.FfnDownDwReferenceIdeal.τ).loc Cert.FfnDownDwReferenceIdeal.main_arg0) = m ((c.tc : Thread Cert.FfnDownDwIdeal.nD Cert.FfnDownDwIdeal.τ).loc Cert.FfnDownDwIdeal.main_arg0)
      ∧ m' ((c.tc : Thread Cert.FfnDownDwReferenceIdeal.nD Cert.FfnDownDwReferenceIdeal.τ).loc Cert.FfnDownDwReferenceIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v0)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v0) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwReferenceIdeal.defs (F := Ideal)) (onTc (τ := Cert.FfnDownDwReferenceIdeal.τ) (Cert.FfnDownDwReferenceIdeal.main (F := Ideal))) ⟨m', fun _ => 0, g'⟩ (fun r => ∀ c : Dev Cert.FfnDownDwReferenceIdeal.nD,
          r.2.mem ((c.tc : Thread Cert.FfnDownDwReferenceIdeal.nD Cert.FfnDownDwReferenceIdeal.τ).loc Cert.FfnDownDwReferenceIdeal.main_v6) = v0 c
          ∧ r.2.mem ((c.tc : Thread Cert.FfnDownDwReferenceIdeal.nD Cert.FfnDownDwReferenceIdeal.τ).loc Cert.FfnDownDwReferenceIdeal.main_arg0) = m' ((c.tc : Thread Cert.FfnDownDwReferenceIdeal.nD Cert.FfnDownDwReferenceIdeal.τ).loc Cert.FfnDownDwReferenceIdeal.main_arg0)
          ∧ r.2.mem ((c.tc : Thread Cert.FfnDownDwReferenceIdeal.nD Cert.FfnDownDwReferenceIdeal.τ).loc Cert.FfnDownDwReferenceIdeal.main_arg1) = m' ((c.tc : Thread Cert.FfnDownDwReferenceIdeal.nD Cert.FfnDownDwReferenceIdeal.τ).loc Cert.FfnDownDwReferenceIdeal.main_arg1))

def preserves_MixOutDw_MixOutDwIdeal : Prop :=
  True

def algebraic_MixOutDwIdeal_MixOutDwReferenceIdeal [hMixOutDwIdeal : Cert.MixOutDwIdeal.Facts] [hMixOutDwReferenceIdeal : Cert.MixOutDwReferenceIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwReferenceIdeal.nD Cert.MixOutDwReferenceIdeal.τ Cert.MixOutDwReferenceIdeal.sig) → Buf (Elt Ideal) ℓ) (g' : Dev Cert.MixOutDwReferenceIdeal.nD → PrngReg), Pre_MixOutDwIdeal m →
    (∀ c : Dev Cert.MixOutDwIdeal.nD,
      m' ((c.tc : Thread Cert.MixOutDwReferenceIdeal.nD Cert.MixOutDwReferenceIdeal.τ).loc Cert.MixOutDwReferenceIdeal.main_arg0) = m ((c.tc : Thread Cert.MixOutDwIdeal.nD Cert.MixOutDwIdeal.τ).loc Cert.MixOutDwIdeal.main_arg0)
      ∧ m' ((c.tc : Thread Cert.MixOutDwReferenceIdeal.nD Cert.MixOutDwReferenceIdeal.τ).loc Cert.MixOutDwReferenceIdeal.main_arg1) = m ((c.tc : Thread Cert.MixOutDwIdeal.nD Cert.MixOutDwIdeal.τ).loc Cert.MixOutDwIdeal.main_arg1)) →
    ∃ (v0 : (c : Dev Cert.MixOutDwIdeal.nD) → Buf (Elt Ideal) ((c.tc : Thread Cert.MixOutDwIdeal.nD Cert.MixOutDwIdeal.τ).loc Cert.MixOutDwIdeal.main_v0)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v0) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ θ_run (Cert.MixOutDwReferenceIdeal.defs (F := Ideal)) (onTc (τ := Cert.MixOutDwReferenceIdeal.τ) (Cert.MixOutDwReferenceIdeal.main (F := Ideal))) ⟨m', fun _ => 0, g'⟩ (fun r => ∀ c : Dev Cert.MixOutDwReferenceIdeal.nD,
          r.2.mem ((c.tc : Thread Cert.MixOutDwReferenceIdeal.nD Cert.MixOutDwReferenceIdeal.τ).loc Cert.MixOutDwReferenceIdeal.main_v6) = v0 c
          ∧ r.2.mem ((c.tc : Thread Cert.MixOutDwReferenceIdeal.nD Cert.MixOutDwReferenceIdeal.τ).loc Cert.MixOutDwReferenceIdeal.main_arg0) = m' ((c.tc : Thread Cert.MixOutDwReferenceIdeal.nD Cert.MixOutDwReferenceIdeal.τ).loc Cert.MixOutDwReferenceIdeal.main_arg0)
          ∧ r.2.mem ((c.tc : Thread Cert.MixOutDwReferenceIdeal.nD Cert.MixOutDwReferenceIdeal.τ).loc Cert.MixOutDwReferenceIdeal.main_arg1) = m' ((c.tc : Thread Cert.MixOutDwReferenceIdeal.nD Cert.MixOutDwReferenceIdeal.τ).loc Cert.MixOutDwReferenceIdeal.main_arg1))

def preserves_FfnUpDwGate_FfnUpDwGateIdeal : Prop :=
  True

def algebraic_FfnUpDwGateIdeal_FfnUpDwGateReferenceIdeal [hFfnUpDwGateIdeal : Cert.FfnUpDwGateIdeal.Facts] [hFfnUpDwGateReferenceIdeal : Cert.FfnUpDwGateReferenceIdeal.Facts] : Prop :=
  ∀ (m : (ℓ : Loc Cert.FfnUpDwGateIdeal.nD Cert.FfnUpDwGateIdeal.τ Cert.FfnUpDwGateIdeal.sig) → Buf (Elt Ideal) ℓ) (g : Dev Cert.FfnUpDwGateIdeal.nD → PrngReg)
    (m' : (ℓ : Loc Cert.FfnUpDwGateReferenceIdeal.nD Cert.FfnUpDwGateReferenceIdeal.τ Cert.FfnUpDwGateReferenceIdeal.sig) → Buf (Elt Ideal) ℓ) (g' : Dev Cert.FfnUpDwGateReferenceIdeal.nD → PrngReg), Pre_FfnUpDwGateIdeal m →
    (∀ c : Dev Cert.FfnUpDwGateIdeal.nD,
      m' ((c.tc : Thread Cert.FfnUpDwGateReferenceIdeal.nD Cert.FfnUpDwGateReferenceIdeal.τ).loc Cert.FfnUpDwGateReferenceIdeal.main_arg0) = m ((c.tc : Thread Cert.FfnUpDwGateIdeal.nD Cert.FfnUpDwGateIdeal.τ).loc Cert.FfnUpDwGateIdeal.main_arg0)
      ∧ m' ((c.tc : Thread Cert.FfnUpDwGateReferenceIdeal.nD Cert.FfnUpDwGateReferenceIdeal.τ).loc Cert.FfnUpDwGateReferenceIdeal.main_arg1) = m ((c.tc : Thread Cert.FfnUpDwGateIdeal.nD Cert.FfnUpDwGateIdeal.τ).loc Cert.FfnUpDwGateIdeal.main_arg1)) →
    ∃ (v0 : (c : Dev Cert.FfnUpDwGateIdeal.nD) → Buf (Elt Ideal) ((c.tc : Thread Cert.FfnUpDwGateIdeal.nD Cert.FfnUpDwGateIdeal.τ).loc Cert.FfnUpDwGateIdeal.main_v0)),
      θ_run (Cert.FfnUpDwGateIdeal.defs (F := Ideal)) (onTc (τ := Cert.FfnUpDwGateIdeal.τ) (Cert.FfnUpDwGateIdeal.main (F := Ideal))) ⟨m, fun _ => 0, g⟩ (fun r => ∀ c : Dev Cert.FfnUpDwGateIdeal.nD,
          r.2.mem ((c.tc : Thread Cert.FfnUpDwGateIdeal.nD Cert.FfnUpDwGateIdeal.τ).loc Cert.FfnUpDwGateIdeal.main_v0) = v0 c
          ∧ r.2.mem ((c.tc : Thread Cert.FfnUpDwGateIdeal.nD Cert.FfnUpDwGateIdeal.τ).loc Cert.FfnUpDwGateIdeal.main_arg0) = m ((c.tc : Thread Cert.FfnUpDwGateIdeal.nD Cert.FfnUpDwGateIdeal.τ).loc Cert.FfnUpDwGateIdeal.main_arg0)
          ∧ r.2.mem ((c.tc : Thread Cert.FfnUpDwGateIdeal.nD Cert.FfnUpDwGateIdeal.τ).loc Cert.FfnUpDwGateIdeal.main_arg1) = m ((c.tc : Thread Cert.FfnUpDwGateIdeal.nD Cert.FfnUpDwGateIdeal.τ).loc Cert.FfnUpDwGateIdeal.main_arg1))
      ∧ θ_run (Cert.FfnUpDwGateReferenceIdeal.defs (F := Ideal)) (onTc (τ := Cert.FfnUpDwGateReferenceIdeal.τ) (Cert.FfnUpDwGateReferenceIdeal.main (F := Ideal))) ⟨m', fun _ => 0, g'⟩ (fun r => ∀ c : Dev Cert.FfnUpDwGateReferenceIdeal.nD,
          r.2.mem ((c.tc : Thread Cert.FfnUpDwGateReferenceIdeal.nD Cert.FfnUpDwGateReferenceIdeal.τ).loc Cert.FfnUpDwGateReferenceIdeal.main_v6) = v0 c
          ∧ r.2.mem ((c.tc : Thread Cert.FfnUpDwGateReferenceIdeal.nD Cert.FfnUpDwGateReferenceIdeal.τ).loc Cert.FfnUpDwGateReferenceIdeal.main_arg0) = m' ((c.tc : Thread Cert.FfnUpDwGateReferenceIdeal.nD Cert.FfnUpDwGateReferenceIdeal.τ).loc Cert.FfnUpDwGateReferenceIdeal.main_arg0)
          ∧ r.2.mem ((c.tc : Thread Cert.FfnUpDwGateReferenceIdeal.nD Cert.FfnUpDwGateReferenceIdeal.τ).loc Cert.FfnUpDwGateReferenceIdeal.main_arg1) = m' ((c.tc : Thread Cert.FfnUpDwGateReferenceIdeal.nD Cert.FfnUpDwGateReferenceIdeal.τ).loc Cert.FfnUpDwGateReferenceIdeal.main_arg1))

def preserves_FfnUpDwUp_FfnUpDwUpIdeal : Prop :=
  True

def algebraic_FfnUpDwUpIdeal_FfnUpDwUpReferenceIdeal [hFfnUpDwUpIdeal : Cert.FfnUpDwUpIdeal.Facts] [hFfnUpDwUpReferenceIdeal : Cert.FfnUpDwUpReferenceIdeal.Facts] : Prop :=
  ∀ (m : (ℓ : Loc Cert.FfnUpDwUpIdeal.nD Cert.FfnUpDwUpIdeal.τ Cert.FfnUpDwUpIdeal.sig) → Buf (Elt Ideal) ℓ) (g : Dev Cert.FfnUpDwUpIdeal.nD → PrngReg)
    (m' : (ℓ : Loc Cert.FfnUpDwUpReferenceIdeal.nD Cert.FfnUpDwUpReferenceIdeal.τ Cert.FfnUpDwUpReferenceIdeal.sig) → Buf (Elt Ideal) ℓ) (g' : Dev Cert.FfnUpDwUpReferenceIdeal.nD → PrngReg), Pre_FfnUpDwUpIdeal m →
    (∀ c : Dev Cert.FfnUpDwUpIdeal.nD,
      m' ((c.tc : Thread Cert.FfnUpDwUpReferenceIdeal.nD Cert.FfnUpDwUpReferenceIdeal.τ).loc Cert.FfnUpDwUpReferenceIdeal.main_arg0) = m ((c.tc : Thread Cert.FfnUpDwUpIdeal.nD Cert.FfnUpDwUpIdeal.τ).loc Cert.FfnUpDwUpIdeal.main_arg0)
      ∧ m' ((c.tc : Thread Cert.FfnUpDwUpReferenceIdeal.nD Cert.FfnUpDwUpReferenceIdeal.τ).loc Cert.FfnUpDwUpReferenceIdeal.main_arg1) = m ((c.tc : Thread Cert.FfnUpDwUpIdeal.nD Cert.FfnUpDwUpIdeal.τ).loc Cert.FfnUpDwUpIdeal.main_arg1)) →
    ∃ (v0 : (c : Dev Cert.FfnUpDwUpIdeal.nD) → Buf (Elt Ideal) ((c.tc : Thread Cert.FfnUpDwUpIdeal.nD Cert.FfnUpDwUpIdeal.τ).loc Cert.FfnUpDwUpIdeal.main_v0)),
      θ_run (Cert.FfnUpDwUpIdeal.defs (F := Ideal)) (onTc (τ := Cert.FfnUpDwUpIdeal.τ) (Cert.FfnUpDwUpIdeal.main (F := Ideal))) ⟨m, fun _ => 0, g⟩ (fun r => ∀ c : Dev Cert.FfnUpDwUpIdeal.nD,
          r.2.mem ((c.tc : Thread Cert.FfnUpDwUpIdeal.nD Cert.FfnUpDwUpIdeal.τ).loc Cert.FfnUpDwUpIdeal.main_v0) = v0 c
          ∧ r.2.mem ((c.tc : Thread Cert.FfnUpDwUpIdeal.nD Cert.FfnUpDwUpIdeal.τ).loc Cert.FfnUpDwUpIdeal.main_arg0) = m ((c.tc : Thread Cert.FfnUpDwUpIdeal.nD Cert.FfnUpDwUpIdeal.τ).loc Cert.FfnUpDwUpIdeal.main_arg0)
          ∧ r.2.mem ((c.tc : Thread Cert.FfnUpDwUpIdeal.nD Cert.FfnUpDwUpIdeal.τ).loc Cert.FfnUpDwUpIdeal.main_arg1) = m ((c.tc : Thread Cert.FfnUpDwUpIdeal.nD Cert.FfnUpDwUpIdeal.τ).loc Cert.FfnUpDwUpIdeal.main_arg1))
      ∧ θ_run (Cert.FfnUpDwUpReferenceIdeal.defs (F := Ideal)) (onTc (τ := Cert.FfnUpDwUpReferenceIdeal.τ) (Cert.FfnUpDwUpReferenceIdeal.main (F := Ideal))) ⟨m', fun _ => 0, g'⟩ (fun r => ∀ c : Dev Cert.FfnUpDwUpReferenceIdeal.nD,
          r.2.mem ((c.tc : Thread Cert.FfnUpDwUpReferenceIdeal.nD Cert.FfnUpDwUpReferenceIdeal.τ).loc Cert.FfnUpDwUpReferenceIdeal.main_v6) = v0 c
          ∧ r.2.mem ((c.tc : Thread Cert.FfnUpDwUpReferenceIdeal.nD Cert.FfnUpDwUpReferenceIdeal.τ).loc Cert.FfnUpDwUpReferenceIdeal.main_arg0) = m' ((c.tc : Thread Cert.FfnUpDwUpReferenceIdeal.nD Cert.FfnUpDwUpReferenceIdeal.τ).loc Cert.FfnUpDwUpReferenceIdeal.main_arg0)
          ∧ r.2.mem ((c.tc : Thread Cert.FfnUpDwUpReferenceIdeal.nD Cert.FfnUpDwUpReferenceIdeal.τ).loc Cert.FfnUpDwUpReferenceIdeal.main_arg1) = m' ((c.tc : Thread Cert.FfnUpDwUpReferenceIdeal.nD Cert.FfnUpDwUpReferenceIdeal.τ).loc Cert.FfnUpDwUpReferenceIdeal.main_arg1))

def preserves_AbIn_AbInIdeal : Prop :=
  True

def algebraic_AbInIdeal_AbInReferenceIdeal [hAbInIdeal : Cert.AbInIdeal.Facts] [hAbInReferenceIdeal : Cert.AbInReferenceIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInReferenceIdeal.nD Cert.AbInReferenceIdeal.τ Cert.AbInReferenceIdeal.sig) → Buf (Elt Ideal) ℓ) (g' : Dev Cert.AbInReferenceIdeal.nD → PrngReg), Pre_AbInIdeal m →
    (∀ c : Dev Cert.AbInIdeal.nD,
      m' ((c.tc : Thread Cert.AbInReferenceIdeal.nD Cert.AbInReferenceIdeal.τ).loc Cert.AbInReferenceIdeal.main_arg0) = m ((c.tc : Thread Cert.AbInIdeal.nD Cert.AbInIdeal.τ).loc Cert.AbInIdeal.main_arg0)
      ∧ m' ((c.tc : Thread Cert.AbInReferenceIdeal.nD Cert.AbInReferenceIdeal.τ).loc Cert.AbInReferenceIdeal.main_arg1) = m ((c.tc : Thread Cert.AbInIdeal.nD Cert.AbInIdeal.τ).loc Cert.AbInIdeal.main_arg1)) →
    ∃ (v0 : (c : Dev Cert.AbInIdeal.nD) → Buf (Elt Ideal) ((c.tc : Thread Cert.AbInIdeal.nD Cert.AbInIdeal.τ).loc Cert.AbInIdeal.main_v0)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v0) = v0 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ θ_run (Cert.AbInReferenceIdeal.defs (F := Ideal)) (onTc (τ := Cert.AbInReferenceIdeal.τ) (Cert.AbInReferenceIdeal.main (F := Ideal))) ⟨m', fun _ => 0, g'⟩ (fun r => ∀ c : Dev Cert.AbInReferenceIdeal.nD,
          r.2.mem ((c.tc : Thread Cert.AbInReferenceIdeal.nD Cert.AbInReferenceIdeal.τ).loc Cert.AbInReferenceIdeal.main_v1) = v0 c
          ∧ r.2.mem ((c.tc : Thread Cert.AbInReferenceIdeal.nD Cert.AbInReferenceIdeal.τ).loc Cert.AbInReferenceIdeal.main_arg0) = m' ((c.tc : Thread Cert.AbInReferenceIdeal.nD Cert.AbInReferenceIdeal.τ).loc Cert.AbInReferenceIdeal.main_arg0)
          ∧ r.2.mem ((c.tc : Thread Cert.AbInReferenceIdeal.nD Cert.AbInReferenceIdeal.τ).loc Cert.AbInReferenceIdeal.main_arg1) = m' ((c.tc : Thread Cert.AbInReferenceIdeal.nD Cert.AbInReferenceIdeal.τ).loc Cert.AbInReferenceIdeal.main_arg1))

def preserves_CdIn_CdInIdeal : Prop :=
  True

def algebraic_CdInIdeal_CdInReferenceIdeal [hCdInIdeal : Cert.CdInIdeal.Facts] [hCdInReferenceIdeal : Cert.CdInReferenceIdeal.Facts] : Prop :=
  ∀ (m : (ℓ : Loc Cert.CdInIdeal.nD Cert.CdInIdeal.τ Cert.CdInIdeal.sig) → Buf (Elt Ideal) ℓ) (g : Dev Cert.CdInIdeal.nD → PrngReg)
    (m' : (ℓ : Loc Cert.CdInReferenceIdeal.nD Cert.CdInReferenceIdeal.τ Cert.CdInReferenceIdeal.sig) → Buf (Elt Ideal) ℓ) (g' : Dev Cert.CdInReferenceIdeal.nD → PrngReg), Pre_CdInIdeal m →
    (∀ c : Dev Cert.CdInIdeal.nD,
      m' ((c.tc : Thread Cert.CdInReferenceIdeal.nD Cert.CdInReferenceIdeal.τ).loc Cert.CdInReferenceIdeal.main_arg0) = m ((c.tc : Thread Cert.CdInIdeal.nD Cert.CdInIdeal.τ).loc Cert.CdInIdeal.main_arg0)
      ∧ m' ((c.tc : Thread Cert.CdInReferenceIdeal.nD Cert.CdInReferenceIdeal.τ).loc Cert.CdInReferenceIdeal.main_arg1) = m ((c.tc : Thread Cert.CdInIdeal.nD Cert.CdInIdeal.τ).loc Cert.CdInIdeal.main_arg1)) →
    ∃ (v0 : (c : Dev Cert.CdInIdeal.nD) → Buf (Elt Ideal) ((c.tc : Thread Cert.CdInIdeal.nD Cert.CdInIdeal.τ).loc Cert.CdInIdeal.main_v0)),
      θ_run (Cert.CdInIdeal.defs (F := Ideal)) (onTc (τ := Cert.CdInIdeal.τ) (Cert.CdInIdeal.main (F := Ideal))) ⟨m, fun _ => 0, g⟩ (fun r => ∀ c : Dev Cert.CdInIdeal.nD,
          r.2.mem ((c.tc : Thread Cert.CdInIdeal.nD Cert.CdInIdeal.τ).loc Cert.CdInIdeal.main_v0) = v0 c
          ∧ r.2.mem ((c.tc : Thread Cert.CdInIdeal.nD Cert.CdInIdeal.τ).loc Cert.CdInIdeal.main_arg0) = m ((c.tc : Thread Cert.CdInIdeal.nD Cert.CdInIdeal.τ).loc Cert.CdInIdeal.main_arg0)
          ∧ r.2.mem ((c.tc : Thread Cert.CdInIdeal.nD Cert.CdInIdeal.τ).loc Cert.CdInIdeal.main_arg1) = m ((c.tc : Thread Cert.CdInIdeal.nD Cert.CdInIdeal.τ).loc Cert.CdInIdeal.main_arg1))
      ∧ θ_run (Cert.CdInReferenceIdeal.defs (F := Ideal)) (onTc (τ := Cert.CdInReferenceIdeal.τ) (Cert.CdInReferenceIdeal.main (F := Ideal))) ⟨m', fun _ => 0, g'⟩ (fun r => ∀ c : Dev Cert.CdInReferenceIdeal.nD,
          r.2.mem ((c.tc : Thread Cert.CdInReferenceIdeal.nD Cert.CdInReferenceIdeal.τ).loc Cert.CdInReferenceIdeal.main_v1) = v0 c
          ∧ r.2.mem ((c.tc : Thread Cert.CdInReferenceIdeal.nD Cert.CdInReferenceIdeal.τ).loc Cert.CdInReferenceIdeal.main_arg0) = m' ((c.tc : Thread Cert.CdInReferenceIdeal.nD Cert.CdInReferenceIdeal.τ).loc Cert.CdInReferenceIdeal.main_arg0)
          ∧ r.2.mem ((c.tc : Thread Cert.CdInReferenceIdeal.nD Cert.CdInReferenceIdeal.τ).loc Cert.CdInReferenceIdeal.main_arg1) = m' ((c.tc : Thread Cert.CdInReferenceIdeal.nD Cert.CdInReferenceIdeal.τ).loc Cert.CdInReferenceIdeal.main_arg1))

def preserves_AbInDw_AbInDwIdeal : Prop :=
  True

def algebraic_AbInDwIdeal_AbInDwReferenceIdeal [hAbInDwIdeal : Cert.AbInDwIdeal.Facts] [hAbInDwReferenceIdeal : Cert.AbInDwReferenceIdeal.Facts] : Prop :=
  ∀ (m : (ℓ : Loc Cert.AbInDwIdeal.nD Cert.AbInDwIdeal.τ Cert.AbInDwIdeal.sig) → Buf (Elt Ideal) ℓ) (g : Dev Cert.AbInDwIdeal.nD → PrngReg)
    (m' : (ℓ : Loc Cert.AbInDwReferenceIdeal.nD Cert.AbInDwReferenceIdeal.τ Cert.AbInDwReferenceIdeal.sig) → Buf (Elt Ideal) ℓ) (g' : Dev Cert.AbInDwReferenceIdeal.nD → PrngReg), Pre_AbInDwIdeal m →
    (∀ c : Dev Cert.AbInDwIdeal.nD,
      m' ((c.tc : Thread Cert.AbInDwReferenceIdeal.nD Cert.AbInDwReferenceIdeal.τ).loc Cert.AbInDwReferenceIdeal.main_arg0) = m ((c.tc : Thread Cert.AbInDwIdeal.nD Cert.AbInDwIdeal.τ).loc Cert.AbInDwIdeal.main_arg0)
      ∧ m' ((c.tc : Thread Cert.AbInDwReferenceIdeal.nD Cert.AbInDwReferenceIdeal.τ).loc Cert.AbInDwReferenceIdeal.main_arg1) = m ((c.tc : Thread Cert.AbInDwIdeal.nD Cert.AbInDwIdeal.τ).loc Cert.AbInDwIdeal.main_arg1)) →
    ∃ (v0 : (c : Dev Cert.AbInDwIdeal.nD) → Buf (Elt Ideal) ((c.tc : Thread Cert.AbInDwIdeal.nD Cert.AbInDwIdeal.τ).loc Cert.AbInDwIdeal.main_v0)),
      θ_run (Cert.AbInDwIdeal.defs (F := Ideal)) (onTc (τ := Cert.AbInDwIdeal.τ) (Cert.AbInDwIdeal.main (F := Ideal))) ⟨m, fun _ => 0, g⟩ (fun r => ∀ c : Dev Cert.AbInDwIdeal.nD,
          r.2.mem ((c.tc : Thread Cert.AbInDwIdeal.nD Cert.AbInDwIdeal.τ).loc Cert.AbInDwIdeal.main_v0) = v0 c
          ∧ r.2.mem ((c.tc : Thread Cert.AbInDwIdeal.nD Cert.AbInDwIdeal.τ).loc Cert.AbInDwIdeal.main_arg0) = m ((c.tc : Thread Cert.AbInDwIdeal.nD Cert.AbInDwIdeal.τ).loc Cert.AbInDwIdeal.main_arg0)
          ∧ r.2.mem ((c.tc : Thread Cert.AbInDwIdeal.nD Cert.AbInDwIdeal.τ).loc Cert.AbInDwIdeal.main_arg1) = m ((c.tc : Thread Cert.AbInDwIdeal.nD Cert.AbInDwIdeal.τ).loc Cert.AbInDwIdeal.main_arg1))
      ∧ θ_run (Cert.AbInDwReferenceIdeal.defs (F := Ideal)) (onTc (τ := Cert.AbInDwReferenceIdeal.τ) (Cert.AbInDwReferenceIdeal.main (F := Ideal))) ⟨m', fun _ => 0, g'⟩ (fun r => ∀ c : Dev Cert.AbInDwReferenceIdeal.nD,
          r.2.mem ((c.tc : Thread Cert.AbInDwReferenceIdeal.nD Cert.AbInDwReferenceIdeal.τ).loc Cert.AbInDwReferenceIdeal.main_v5) = v0 c
          ∧ r.2.mem ((c.tc : Thread Cert.AbInDwReferenceIdeal.nD Cert.AbInDwReferenceIdeal.τ).loc Cert.AbInDwReferenceIdeal.main_arg0) = m' ((c.tc : Thread Cert.AbInDwReferenceIdeal.nD Cert.AbInDwReferenceIdeal.τ).loc Cert.AbInDwReferenceIdeal.main_arg0)
          ∧ r.2.mem ((c.tc : Thread Cert.AbInDwReferenceIdeal.nD Cert.AbInDwReferenceIdeal.τ).loc Cert.AbInDwReferenceIdeal.main_arg1) = m' ((c.tc : Thread Cert.AbInDwReferenceIdeal.nD Cert.AbInDwReferenceIdeal.τ).loc Cert.AbInDwReferenceIdeal.main_arg1))

def preserves_CdInDw_CdInDwIdeal : Prop :=
  True

def algebraic_CdInDwIdeal_CdInDwReferenceIdeal [hCdInDwIdeal : Cert.CdInDwIdeal.Facts] [hCdInDwReferenceIdeal : Cert.CdInDwReferenceIdeal.Facts] : Prop :=
  ∀ (m : (ℓ : Loc Cert.CdInDwIdeal.nD Cert.CdInDwIdeal.τ Cert.CdInDwIdeal.sig) → Buf (Elt Ideal) ℓ) (g : Dev Cert.CdInDwIdeal.nD → PrngReg)
    (m' : (ℓ : Loc Cert.CdInDwReferenceIdeal.nD Cert.CdInDwReferenceIdeal.τ Cert.CdInDwReferenceIdeal.sig) → Buf (Elt Ideal) ℓ) (g' : Dev Cert.CdInDwReferenceIdeal.nD → PrngReg), Pre_CdInDwIdeal m →
    (∀ c : Dev Cert.CdInDwIdeal.nD,
      m' ((c.tc : Thread Cert.CdInDwReferenceIdeal.nD Cert.CdInDwReferenceIdeal.τ).loc Cert.CdInDwReferenceIdeal.main_arg0) = m ((c.tc : Thread Cert.CdInDwIdeal.nD Cert.CdInDwIdeal.τ).loc Cert.CdInDwIdeal.main_arg0)
      ∧ m' ((c.tc : Thread Cert.CdInDwReferenceIdeal.nD Cert.CdInDwReferenceIdeal.τ).loc Cert.CdInDwReferenceIdeal.main_arg1) = m ((c.tc : Thread Cert.CdInDwIdeal.nD Cert.CdInDwIdeal.τ).loc Cert.CdInDwIdeal.main_arg1)) →
    ∃ (v0 : (c : Dev Cert.CdInDwIdeal.nD) → Buf (Elt Ideal) ((c.tc : Thread Cert.CdInDwIdeal.nD Cert.CdInDwIdeal.τ).loc Cert.CdInDwIdeal.main_v0)),
      θ_run (Cert.CdInDwIdeal.defs (F := Ideal)) (onTc (τ := Cert.CdInDwIdeal.τ) (Cert.CdInDwIdeal.main (F := Ideal))) ⟨m, fun _ => 0, g⟩ (fun r => ∀ c : Dev Cert.CdInDwIdeal.nD,
          r.2.mem ((c.tc : Thread Cert.CdInDwIdeal.nD Cert.CdInDwIdeal.τ).loc Cert.CdInDwIdeal.main_v0) = v0 c
          ∧ r.2.mem ((c.tc : Thread Cert.CdInDwIdeal.nD Cert.CdInDwIdeal.τ).loc Cert.CdInDwIdeal.main_arg0) = m ((c.tc : Thread Cert.CdInDwIdeal.nD Cert.CdInDwIdeal.τ).loc Cert.CdInDwIdeal.main_arg0)
          ∧ r.2.mem ((c.tc : Thread Cert.CdInDwIdeal.nD Cert.CdInDwIdeal.τ).loc Cert.CdInDwIdeal.main_arg1) = m ((c.tc : Thread Cert.CdInDwIdeal.nD Cert.CdInDwIdeal.τ).loc Cert.CdInDwIdeal.main_arg1))
      ∧ θ_run (Cert.CdInDwReferenceIdeal.defs (F := Ideal)) (onTc (τ := Cert.CdInDwReferenceIdeal.τ) (Cert.CdInDwReferenceIdeal.main (F := Ideal))) ⟨m', fun _ => 0, g'⟩ (fun r => ∀ c : Dev Cert.CdInDwReferenceIdeal.nD,
          r.2.mem ((c.tc : Thread Cert.CdInDwReferenceIdeal.nD Cert.CdInDwReferenceIdeal.τ).loc Cert.CdInDwReferenceIdeal.main_v5) = v0 c
          ∧ r.2.mem ((c.tc : Thread Cert.CdInDwReferenceIdeal.nD Cert.CdInDwReferenceIdeal.τ).loc Cert.CdInDwReferenceIdeal.main_arg0) = m' ((c.tc : Thread Cert.CdInDwReferenceIdeal.nD Cert.CdInDwReferenceIdeal.τ).loc Cert.CdInDwReferenceIdeal.main_arg0)
          ∧ r.2.mem ((c.tc : Thread Cert.CdInDwReferenceIdeal.nD Cert.CdInDwReferenceIdeal.τ).loc Cert.CdInDwReferenceIdeal.main_arg1) = m' ((c.tc : Thread Cert.CdInDwReferenceIdeal.nD Cert.CdInDwReferenceIdeal.τ).loc Cert.CdInDwReferenceIdeal.main_arg1))

def preserves_LnBwd_LnBwdIdeal : Prop :=
  True

def algebraic_LnBwdIdeal_LnBwdReferenceIdeal_pre_finite_ln [hLnBwdIdeal : Cert.LnBwdIdeal.Facts] [hLnBwdReferenceIdeal : Cert.LnBwdReferenceIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdReferenceIdeal.nD Cert.LnBwdReferenceIdeal.τ Cert.LnBwdReferenceIdeal.sig) → Buf (Elt Ideal) ℓ) (g' : Dev Cert.LnBwdReferenceIdeal.nD → PrngReg), Pre_LnBwdIdeal_finite_ln m →
    (∀ c : Dev Cert.LnBwdIdeal.nD,
      m' ((c.tc : Thread Cert.LnBwdReferenceIdeal.nD Cert.LnBwdReferenceIdeal.τ).loc Cert.LnBwdReferenceIdeal.main_arg0) = m ((c.tc : Thread Cert.LnBwdIdeal.nD Cert.LnBwdIdeal.τ).loc Cert.LnBwdIdeal.main_arg0)
      ∧ m' ((c.tc : Thread Cert.LnBwdReferenceIdeal.nD Cert.LnBwdReferenceIdeal.τ).loc Cert.LnBwdReferenceIdeal.main_arg1) = m ((c.tc : Thread Cert.LnBwdIdeal.nD Cert.LnBwdIdeal.τ).loc Cert.LnBwdIdeal.main_arg1)
      ∧ m' ((c.tc : Thread Cert.LnBwdReferenceIdeal.nD Cert.LnBwdReferenceIdeal.τ).loc Cert.LnBwdReferenceIdeal.main_arg2) = m ((c.tc : Thread Cert.LnBwdIdeal.nD Cert.LnBwdIdeal.τ).loc Cert.LnBwdIdeal.main_arg2)
      ∧ m' ((c.tc : Thread Cert.LnBwdReferenceIdeal.nD Cert.LnBwdReferenceIdeal.τ).loc Cert.LnBwdReferenceIdeal.main_arg3) = m ((c.tc : Thread Cert.LnBwdIdeal.nD Cert.LnBwdIdeal.τ).loc Cert.LnBwdIdeal.main_arg3)
      ∧ m' ((c.tc : Thread Cert.LnBwdReferenceIdeal.nD Cert.LnBwdReferenceIdeal.τ).loc Cert.LnBwdReferenceIdeal.main_arg4) = m ((c.tc : Thread Cert.LnBwdIdeal.nD Cert.LnBwdIdeal.τ).loc Cert.LnBwdIdeal.main_arg4)) →
    ∃ (v0 : (c : Dev Cert.LnBwdIdeal.nD) → Buf (Elt Ideal) ((c.tc : Thread Cert.LnBwdIdeal.nD Cert.LnBwdIdeal.τ).loc Cert.LnBwdIdeal.main_v2_0)) (v1 : (c : Dev Cert.LnBwdIdeal.nD) → Buf (Elt Ideal) ((c.tc : Thread Cert.LnBwdIdeal.nD Cert.LnBwdIdeal.τ).loc Cert.LnBwdIdeal.main_v2_1)) (v2 : (c : Dev Cert.LnBwdIdeal.nD) → Buf (Elt Ideal) ((c.tc : Thread Cert.LnBwdIdeal.nD Cert.LnBwdIdeal.τ).loc Cert.LnBwdIdeal.main_v2_2)) (v3 : (c : Dev Cert.LnBwdIdeal.nD) → Buf (Elt Ideal) ((c.tc : Thread Cert.LnBwdIdeal.nD Cert.LnBwdIdeal.τ).loc Cert.LnBwdIdeal.main_v2_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v2_0) = v0 c
          ∧ r.2.mem ((c.tc : Thread Cert.LnBwdIdeal.nD Cert.LnBwdIdeal.τ).loc Cert.LnBwdIdeal.main_v2_1) = v1 c
          ∧ r.2.mem ((c.tc : Thread Cert.LnBwdIdeal.nD Cert.LnBwdIdeal.τ).loc Cert.LnBwdIdeal.main_v2_2) = v2 c
          ∧ r.2.mem ((c.tc : Thread Cert.LnBwdIdeal.nD Cert.LnBwdIdeal.τ).loc Cert.LnBwdIdeal.main_v2_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ θ_run (Cert.LnBwdReferenceIdeal.defs (F := Ideal)) (onTc (τ := Cert.LnBwdReferenceIdeal.τ) (Cert.LnBwdReferenceIdeal.main (F := Ideal))) ⟨m', fun _ => 0, g'⟩ (fun r => ∀ c : Dev Cert.LnBwdReferenceIdeal.nD,
          r.2.mem ((c.tc : Thread Cert.LnBwdReferenceIdeal.nD Cert.LnBwdReferenceIdeal.τ).loc Cert.LnBwdReferenceIdeal.main_v68) = v0 c
          ∧ r.2.mem ((c.tc : Thread Cert.LnBwdReferenceIdeal.nD Cert.LnBwdReferenceIdeal.τ).loc Cert.LnBwdReferenceIdeal.main_v69) = v1 c
          ∧ r.2.mem ((c.tc : Thread Cert.LnBwdReferenceIdeal.nD Cert.LnBwdReferenceIdeal.τ).loc Cert.LnBwdReferenceIdeal.main_v67) = v2 c
          ∧ r.2.mem ((c.tc : Thread Cert.LnBwdReferenceIdeal.nD Cert.LnBwdReferenceIdeal.τ).loc Cert.LnBwdReferenceIdeal.main_v70) = v3 c
          ∧ r.2.mem ((c.tc : Thread Cert.LnBwdReferenceIdeal.nD Cert.LnBwdReferenceIdeal.τ).loc Cert.LnBwdReferenceIdeal.main_arg0) = m' ((c.tc : Thread Cert.LnBwdReferenceIdeal.nD Cert.LnBwdReferenceIdeal.τ).loc Cert.LnBwdReferenceIdeal.main_arg0)
          ∧ r.2.mem ((c.tc : Thread Cert.LnBwdReferenceIdeal.nD Cert.LnBwdReferenceIdeal.τ).loc Cert.LnBwdReferenceIdeal.main_arg1) = m' ((c.tc : Thread Cert.LnBwdReferenceIdeal.nD Cert.LnBwdReferenceIdeal.τ).loc Cert.LnBwdReferenceIdeal.main_arg1)
          ∧ r.2.mem ((c.tc : Thread Cert.LnBwdReferenceIdeal.nD Cert.LnBwdReferenceIdeal.τ).loc Cert.LnBwdReferenceIdeal.main_arg2) = m' ((c.tc : Thread Cert.LnBwdReferenceIdeal.nD Cert.LnBwdReferenceIdeal.τ).loc Cert.LnBwdReferenceIdeal.main_arg2)
          ∧ r.2.mem ((c.tc : Thread Cert.LnBwdReferenceIdeal.nD Cert.LnBwdReferenceIdeal.τ).loc Cert.LnBwdReferenceIdeal.main_arg3) = m' ((c.tc : Thread Cert.LnBwdReferenceIdeal.nD Cert.LnBwdReferenceIdeal.τ).loc Cert.LnBwdReferenceIdeal.main_arg3)
          ∧ r.2.mem ((c.tc : Thread Cert.LnBwdReferenceIdeal.nD Cert.LnBwdReferenceIdeal.τ).loc Cert.LnBwdReferenceIdeal.main_arg4) = m' ((c.tc : Thread Cert.LnBwdReferenceIdeal.nD Cert.LnBwdReferenceIdeal.τ).loc Cert.LnBwdReferenceIdeal.main_arg4))

def preserves_AdamwAbOut_AdamwAbOutIdeal : Prop :=
  IdealRules.named_const.Statement Cert.AdamwAbOutIdeal.κ "c1" .f32 0x3FC48605#32 (((5463681 / 8388608)⁻¹ : ℝ) : EReal)
  ∧ IdealRules.named_const.Statement Cert.AdamwAbOutIdeal.κ "c2" .f32 0x42C8E6D3#32 (((2672307 / 268435456)⁻¹ : ℝ) : EReal)

def algebraic_AdamwAbOutIdeal_AdamwAbOutReferenceIdeal [hAdamwAbOutIdeal : Cert.AdamwAbOutIdeal.Facts] [hAdamwAbOutReferenceIdeal : Cert.AdamwAbOutReferenceIdeal.Facts] : Prop :=
  ∀ (m : (ℓ : Loc Cert.AdamwAbOutIdeal.nD Cert.AdamwAbOutIdeal.τ Cert.AdamwAbOutIdeal.sig) → Buf (Elt Ideal) ℓ) (g : Dev Cert.AdamwAbOutIdeal.nD → PrngReg)
    (m' : (ℓ : Loc Cert.AdamwAbOutReferenceIdeal.nD Cert.AdamwAbOutReferenceIdeal.τ Cert.AdamwAbOutReferenceIdeal.sig) → Buf (Elt Ideal) ℓ) (g' : Dev Cert.AdamwAbOutReferenceIdeal.nD → PrngReg), Pre_AdamwAbOutIdeal m →
    (∀ c : Dev Cert.AdamwAbOutIdeal.nD,
      m' ((c.tc : Thread Cert.AdamwAbOutReferenceIdeal.nD Cert.AdamwAbOutReferenceIdeal.τ).loc Cert.AdamwAbOutReferenceIdeal.main_arg0) = m ((c.tc : Thread Cert.AdamwAbOutIdeal.nD Cert.AdamwAbOutIdeal.τ).loc Cert.AdamwAbOutIdeal.main_arg0)
      ∧ m' ((c.tc : Thread Cert.AdamwAbOutReferenceIdeal.nD Cert.AdamwAbOutReferenceIdeal.τ).loc Cert.AdamwAbOutReferenceIdeal.main_arg1) = m ((c.tc : Thread Cert.AdamwAbOutIdeal.nD Cert.AdamwAbOutIdeal.τ).loc Cert.AdamwAbOutIdeal.main_arg1)
      ∧ m' ((c.tc : Thread Cert.AdamwAbOutReferenceIdeal.nD Cert.AdamwAbOutReferenceIdeal.τ).loc Cert.AdamwAbOutReferenceIdeal.main_arg2) = m ((c.tc : Thread Cert.AdamwAbOutIdeal.nD Cert.AdamwAbOutIdeal.τ).loc Cert.AdamwAbOutIdeal.main_arg2)
      ∧ m' ((c.tc : Thread Cert.AdamwAbOutReferenceIdeal.nD Cert.AdamwAbOutReferenceIdeal.τ).loc Cert.AdamwAbOutReferenceIdeal.main_arg3) = m ((c.tc : Thread Cert.AdamwAbOutIdeal.nD Cert.AdamwAbOutIdeal.τ).loc Cert.AdamwAbOutIdeal.main_arg3)
      ∧ m' ((c.tc : Thread Cert.AdamwAbOutReferenceIdeal.nD Cert.AdamwAbOutReferenceIdeal.τ).loc Cert.AdamwAbOutReferenceIdeal.main_arg4) = m ((c.tc : Thread Cert.AdamwAbOutIdeal.nD Cert.AdamwAbOutIdeal.τ).loc Cert.AdamwAbOutIdeal.main_arg4)) →
    ∃ (v0 : (c : Dev Cert.AdamwAbOutIdeal.nD) → Buf (Elt Ideal) ((c.tc : Thread Cert.AdamwAbOutIdeal.nD Cert.AdamwAbOutIdeal.τ).loc Cert.AdamwAbOutIdeal.main_v0_0)) (v1 : (c : Dev Cert.AdamwAbOutIdeal.nD) → Buf (Elt Ideal) ((c.tc : Thread Cert.AdamwAbOutIdeal.nD Cert.AdamwAbOutIdeal.τ).loc Cert.AdamwAbOutIdeal.main_v0_1)) (v2 : (c : Dev Cert.AdamwAbOutIdeal.nD) → Buf (Elt Ideal) ((c.tc : Thread Cert.AdamwAbOutIdeal.nD Cert.AdamwAbOutIdeal.τ).loc Cert.AdamwAbOutIdeal.main_v0_2)) (v3 : (c : Dev Cert.AdamwAbOutIdeal.nD) → Buf (Elt Ideal) ((c.tc : Thread Cert.AdamwAbOutIdeal.nD Cert.AdamwAbOutIdeal.τ).loc Cert.AdamwAbOutIdeal.main_v0_3)),
      θ_run (Cert.AdamwAbOutIdeal.defs (F := Ideal)) (onTc (τ := Cert.AdamwAbOutIdeal.τ) (Cert.AdamwAbOutIdeal.main (F := Ideal))) ⟨m, fun _ => 0, g⟩ (fun r => ∀ c : Dev Cert.AdamwAbOutIdeal.nD,
          r.2.mem ((c.tc : Thread Cert.AdamwAbOutIdeal.nD Cert.AdamwAbOutIdeal.τ).loc Cert.AdamwAbOutIdeal.main_v0_0) = v0 c
          ∧ r.2.mem ((c.tc : Thread Cert.AdamwAbOutIdeal.nD Cert.AdamwAbOutIdeal.τ).loc Cert.AdamwAbOutIdeal.main_v0_1) = v1 c
          ∧ r.2.mem ((c.tc : Thread Cert.AdamwAbOutIdeal.nD Cert.AdamwAbOutIdeal.τ).loc Cert.AdamwAbOutIdeal.main_v0_2) = v2 c
          ∧ r.2.mem ((c.tc : Thread Cert.AdamwAbOutIdeal.nD Cert.AdamwAbOutIdeal.τ).loc Cert.AdamwAbOutIdeal.main_v0_3) = v3 c
          ∧ r.2.mem ((c.tc : Thread Cert.AdamwAbOutIdeal.nD Cert.AdamwAbOutIdeal.τ).loc Cert.AdamwAbOutIdeal.main_arg0) = m ((c.tc : Thread Cert.AdamwAbOutIdeal.nD Cert.AdamwAbOutIdeal.τ).loc Cert.AdamwAbOutIdeal.main_arg0)
          ∧ r.2.mem ((c.tc : Thread Cert.AdamwAbOutIdeal.nD Cert.AdamwAbOutIdeal.τ).loc Cert.AdamwAbOutIdeal.main_arg1) = m ((c.tc : Thread Cert.AdamwAbOutIdeal.nD Cert.AdamwAbOutIdeal.τ).loc Cert.AdamwAbOutIdeal.main_arg1)
          ∧ r.2.mem ((c.tc : Thread Cert.AdamwAbOutIdeal.nD Cert.AdamwAbOutIdeal.τ).loc Cert.AdamwAbOutIdeal.main_arg2) = m ((c.tc : Thread Cert.AdamwAbOutIdeal.nD Cert.AdamwAbOutIdeal.τ).loc Cert.AdamwAbOutIdeal.main_arg2)
          ∧ r.2.mem ((c.tc : Thread Cert.AdamwAbOutIdeal.nD Cert.AdamwAbOutIdeal.τ).loc Cert.AdamwAbOutIdeal.main_arg3) = m ((c.tc : Thread Cert.AdamwAbOutIdeal.nD Cert.AdamwAbOutIdeal.τ).loc Cert.AdamwAbOutIdeal.main_arg3)
          ∧ r.2.mem ((c.tc : Thread Cert.AdamwAbOutIdeal.nD Cert.AdamwAbOutIdeal.τ).loc Cert.AdamwAbOutIdeal.main_arg4) = m ((c.tc : Thread Cert.AdamwAbOutIdeal.nD Cert.AdamwAbOutIdeal.τ).loc Cert.AdamwAbOutIdeal.main_arg4))
      ∧ θ_run (Cert.AdamwAbOutReferenceIdeal.defs (F := Ideal)) (onTc (τ := Cert.AdamwAbOutReferenceIdeal.τ) (Cert.AdamwAbOutReferenceIdeal.main (F := Ideal))) ⟨m', fun _ => 0, g'⟩ (fun r => ∀ c : Dev Cert.AdamwAbOutReferenceIdeal.nD,
          r.2.mem ((c.tc : Thread Cert.AdamwAbOutReferenceIdeal.nD Cert.AdamwAbOutReferenceIdeal.τ).loc Cert.AdamwAbOutReferenceIdeal.main_v6) = v0 c
          ∧ r.2.mem ((c.tc : Thread Cert.AdamwAbOutReferenceIdeal.nD Cert.AdamwAbOutReferenceIdeal.τ).loc Cert.AdamwAbOutReferenceIdeal.main_v30) = v1 c
          ∧ r.2.mem ((c.tc : Thread Cert.AdamwAbOutReferenceIdeal.nD Cert.AdamwAbOutReferenceIdeal.τ).loc Cert.AdamwAbOutReferenceIdeal.main_v11) = v2 c
          ∧ r.2.mem ((c.tc : Thread Cert.AdamwAbOutReferenceIdeal.nD Cert.AdamwAbOutReferenceIdeal.τ).loc Cert.AdamwAbOutReferenceIdeal.main_v17) = v3 c
          ∧ r.2.mem ((c.tc : Thread Cert.AdamwAbOutReferenceIdeal.nD Cert.AdamwAbOutReferenceIdeal.τ).loc Cert.AdamwAbOutReferenceIdeal.main_arg0) = m' ((c.tc : Thread Cert.AdamwAbOutReferenceIdeal.nD Cert.AdamwAbOutReferenceIdeal.τ).loc Cert.AdamwAbOutReferenceIdeal.main_arg0)
          ∧ r.2.mem ((c.tc : Thread Cert.AdamwAbOutReferenceIdeal.nD Cert.AdamwAbOutReferenceIdeal.τ).loc Cert.AdamwAbOutReferenceIdeal.main_arg1) = m' ((c.tc : Thread Cert.AdamwAbOutReferenceIdeal.nD Cert.AdamwAbOutReferenceIdeal.τ).loc Cert.AdamwAbOutReferenceIdeal.main_arg1)
          ∧ r.2.mem ((c.tc : Thread Cert.AdamwAbOutReferenceIdeal.nD Cert.AdamwAbOutReferenceIdeal.τ).loc Cert.AdamwAbOutReferenceIdeal.main_arg2) = m' ((c.tc : Thread Cert.AdamwAbOutReferenceIdeal.nD Cert.AdamwAbOutReferenceIdeal.τ).loc Cert.AdamwAbOutReferenceIdeal.main_arg2)
          ∧ r.2.mem ((c.tc : Thread Cert.AdamwAbOutReferenceIdeal.nD Cert.AdamwAbOutReferenceIdeal.τ).loc Cert.AdamwAbOutReferenceIdeal.main_arg3) = m' ((c.tc : Thread Cert.AdamwAbOutReferenceIdeal.nD Cert.AdamwAbOutReferenceIdeal.τ).loc Cert.AdamwAbOutReferenceIdeal.main_arg3)
          ∧ r.2.mem ((c.tc : Thread Cert.AdamwAbOutReferenceIdeal.nD Cert.AdamwAbOutReferenceIdeal.τ).loc Cert.AdamwAbOutReferenceIdeal.main_arg4) = m' ((c.tc : Thread Cert.AdamwAbOutReferenceIdeal.nD Cert.AdamwAbOutReferenceIdeal.τ).loc Cert.AdamwAbOutReferenceIdeal.main_arg4))

def preserves_AdamwAbIn_AdamwAbInIdeal : Prop :=
  IdealRules.named_const.Statement Cert.AdamwAbInIdeal.κ "c1" .f32 0x3FC48605#32 (((5463681 / 8388608)⁻¹ : ℝ) : EReal)
  ∧ IdealRules.named_const.Statement Cert.AdamwAbInIdeal.κ "c2" .f32 0x42C8E6D3#32 (((2672307 / 268435456)⁻¹ : ℝ) : EReal)

def algebraic_AdamwAbInIdeal_AdamwAbInReferenceIdeal [hAdamwAbInIdeal : Cert.AdamwAbInIdeal.Facts] [hAdamwAbInReferenceIdeal : Cert.AdamwAbInReferenceIdeal.Facts] : Prop :=
  ∀ (m : (ℓ : Loc Cert.AdamwAbInIdeal.nD Cert.AdamwAbInIdeal.τ Cert.AdamwAbInIdeal.sig) → Buf (Elt Ideal) ℓ) (g : Dev Cert.AdamwAbInIdeal.nD → PrngReg)
    (m' : (ℓ : Loc Cert.AdamwAbInReferenceIdeal.nD Cert.AdamwAbInReferenceIdeal.τ Cert.AdamwAbInReferenceIdeal.sig) → Buf (Elt Ideal) ℓ) (g' : Dev Cert.AdamwAbInReferenceIdeal.nD → PrngReg), Pre_AdamwAbInIdeal m →
    (∀ c : Dev Cert.AdamwAbInIdeal.nD,
      m' ((c.tc : Thread Cert.AdamwAbInReferenceIdeal.nD Cert.AdamwAbInReferenceIdeal.τ).loc Cert.AdamwAbInReferenceIdeal.main_arg0) = m ((c.tc : Thread Cert.AdamwAbInIdeal.nD Cert.AdamwAbInIdeal.τ).loc Cert.AdamwAbInIdeal.main_arg0)
      ∧ m' ((c.tc : Thread Cert.AdamwAbInReferenceIdeal.nD Cert.AdamwAbInReferenceIdeal.τ).loc Cert.AdamwAbInReferenceIdeal.main_arg1) = m ((c.tc : Thread Cert.AdamwAbInIdeal.nD Cert.AdamwAbInIdeal.τ).loc Cert.AdamwAbInIdeal.main_arg1)
      ∧ m' ((c.tc : Thread Cert.AdamwAbInReferenceIdeal.nD Cert.AdamwAbInReferenceIdeal.τ).loc Cert.AdamwAbInReferenceIdeal.main_arg2) = m ((c.tc : Thread Cert.AdamwAbInIdeal.nD Cert.AdamwAbInIdeal.τ).loc Cert.AdamwAbInIdeal.main_arg2)
      ∧ m' ((c.tc : Thread Cert.AdamwAbInReferenceIdeal.nD Cert.AdamwAbInReferenceIdeal.τ).loc Cert.AdamwAbInReferenceIdeal.main_arg3) = m ((c.tc : Thread Cert.AdamwAbInIdeal.nD Cert.AdamwAbInIdeal.τ).loc Cert.AdamwAbInIdeal.main_arg3)
      ∧ m' ((c.tc : Thread Cert.AdamwAbInReferenceIdeal.nD Cert.AdamwAbInReferenceIdeal.τ).loc Cert.AdamwAbInReferenceIdeal.main_arg4) = m ((c.tc : Thread Cert.AdamwAbInIdeal.nD Cert.AdamwAbInIdeal.τ).loc Cert.AdamwAbInIdeal.main_arg4)) →
    ∃ (v0 : (c : Dev Cert.AdamwAbInIdeal.nD) → Buf (Elt Ideal) ((c.tc : Thread Cert.AdamwAbInIdeal.nD Cert.AdamwAbInIdeal.τ).loc Cert.AdamwAbInIdeal.main_v0_0)) (v1 : (c : Dev Cert.AdamwAbInIdeal.nD) → Buf (Elt Ideal) ((c.tc : Thread Cert.AdamwAbInIdeal.nD Cert.AdamwAbInIdeal.τ).loc Cert.AdamwAbInIdeal.main_v0_1)) (v2 : (c : Dev Cert.AdamwAbInIdeal.nD) → Buf (Elt Ideal) ((c.tc : Thread Cert.AdamwAbInIdeal.nD Cert.AdamwAbInIdeal.τ).loc Cert.AdamwAbInIdeal.main_v0_2)) (v3 : (c : Dev Cert.AdamwAbInIdeal.nD) → Buf (Elt Ideal) ((c.tc : Thread Cert.AdamwAbInIdeal.nD Cert.AdamwAbInIdeal.τ).loc Cert.AdamwAbInIdeal.main_v0_3)),
      θ_run (Cert.AdamwAbInIdeal.defs (F := Ideal)) (onTc (τ := Cert.AdamwAbInIdeal.τ) (Cert.AdamwAbInIdeal.main (F := Ideal))) ⟨m, fun _ => 0, g⟩ (fun r => ∀ c : Dev Cert.AdamwAbInIdeal.nD,
          r.2.mem ((c.tc : Thread Cert.AdamwAbInIdeal.nD Cert.AdamwAbInIdeal.τ).loc Cert.AdamwAbInIdeal.main_v0_0) = v0 c
          ∧ r.2.mem ((c.tc : Thread Cert.AdamwAbInIdeal.nD Cert.AdamwAbInIdeal.τ).loc Cert.AdamwAbInIdeal.main_v0_1) = v1 c
          ∧ r.2.mem ((c.tc : Thread Cert.AdamwAbInIdeal.nD Cert.AdamwAbInIdeal.τ).loc Cert.AdamwAbInIdeal.main_v0_2) = v2 c
          ∧ r.2.mem ((c.tc : Thread Cert.AdamwAbInIdeal.nD Cert.AdamwAbInIdeal.τ).loc Cert.AdamwAbInIdeal.main_v0_3) = v3 c
          ∧ r.2.mem ((c.tc : Thread Cert.AdamwAbInIdeal.nD Cert.AdamwAbInIdeal.τ).loc Cert.AdamwAbInIdeal.main_arg0) = m ((c.tc : Thread Cert.AdamwAbInIdeal.nD Cert.AdamwAbInIdeal.τ).loc Cert.AdamwAbInIdeal.main_arg0)
          ∧ r.2.mem ((c.tc : Thread Cert.AdamwAbInIdeal.nD Cert.AdamwAbInIdeal.τ).loc Cert.AdamwAbInIdeal.main_arg1) = m ((c.tc : Thread Cert.AdamwAbInIdeal.nD Cert.AdamwAbInIdeal.τ).loc Cert.AdamwAbInIdeal.main_arg1)
          ∧ r.2.mem ((c.tc : Thread Cert.AdamwAbInIdeal.nD Cert.AdamwAbInIdeal.τ).loc Cert.AdamwAbInIdeal.main_arg2) = m ((c.tc : Thread Cert.AdamwAbInIdeal.nD Cert.AdamwAbInIdeal.τ).loc Cert.AdamwAbInIdeal.main_arg2)
          ∧ r.2.mem ((c.tc : Thread Cert.AdamwAbInIdeal.nD Cert.AdamwAbInIdeal.τ).loc Cert.AdamwAbInIdeal.main_arg3) = m ((c.tc : Thread Cert.AdamwAbInIdeal.nD Cert.AdamwAbInIdeal.τ).loc Cert.AdamwAbInIdeal.main_arg3)
          ∧ r.2.mem ((c.tc : Thread Cert.AdamwAbInIdeal.nD Cert.AdamwAbInIdeal.τ).loc Cert.AdamwAbInIdeal.main_arg4) = m ((c.tc : Thread Cert.AdamwAbInIdeal.nD Cert.AdamwAbInIdeal.τ).loc Cert.AdamwAbInIdeal.main_arg4))
      ∧ θ_run (Cert.AdamwAbInReferenceIdeal.defs (F := Ideal)) (onTc (τ := Cert.AdamwAbInReferenceIdeal.τ) (Cert.AdamwAbInReferenceIdeal.main (F := Ideal))) ⟨m', fun _ => 0, g'⟩ (fun r => ∀ c : Dev Cert.AdamwAbInReferenceIdeal.nD,
          r.2.mem ((c.tc : Thread Cert.AdamwAbInReferenceIdeal.nD Cert.AdamwAbInReferenceIdeal.τ).loc Cert.AdamwAbInReferenceIdeal.main_v6) = v0 c
          ∧ r.2.mem ((c.tc : Thread Cert.AdamwAbInReferenceIdeal.nD Cert.AdamwAbInReferenceIdeal.τ).loc Cert.AdamwAbInReferenceIdeal.main_v30) = v1 c
          ∧ r.2.mem ((c.tc : Thread Cert.AdamwAbInReferenceIdeal.nD Cert.AdamwAbInReferenceIdeal.τ).loc Cert.AdamwAbInReferenceIdeal.main_v11) = v2 c
          ∧ r.2.mem ((c.tc : Thread Cert.AdamwAbInReferenceIdeal.nD Cert.AdamwAbInReferenceIdeal.τ).loc Cert.AdamwAbInReferenceIdeal.main_v17) = v3 c
          ∧ r.2.mem ((c.tc : Thread Cert.AdamwAbInReferenceIdeal.nD Cert.AdamwAbInReferenceIdeal.τ).loc Cert.AdamwAbInReferenceIdeal.main_arg0) = m' ((c.tc : Thread Cert.AdamwAbInReferenceIdeal.nD Cert.AdamwAbInReferenceIdeal.τ).loc Cert.AdamwAbInReferenceIdeal.main_arg0)
          ∧ r.2.mem ((c.tc : Thread Cert.AdamwAbInReferenceIdeal.nD Cert.AdamwAbInReferenceIdeal.τ).loc Cert.AdamwAbInReferenceIdeal.main_arg1) = m' ((c.tc : Thread Cert.AdamwAbInReferenceIdeal.nD Cert.AdamwAbInReferenceIdeal.τ).loc Cert.AdamwAbInReferenceIdeal.main_arg1)
          ∧ r.2.mem ((c.tc : Thread Cert.AdamwAbInReferenceIdeal.nD Cert.AdamwAbInReferenceIdeal.τ).loc Cert.AdamwAbInReferenceIdeal.main_arg2) = m' ((c.tc : Thread Cert.AdamwAbInReferenceIdeal.nD Cert.AdamwAbInReferenceIdeal.τ).loc Cert.AdamwAbInReferenceIdeal.main_arg2)
          ∧ r.2.mem ((c.tc : Thread Cert.AdamwAbInReferenceIdeal.nD Cert.AdamwAbInReferenceIdeal.τ).loc Cert.AdamwAbInReferenceIdeal.main_arg3) = m' ((c.tc : Thread Cert.AdamwAbInReferenceIdeal.nD Cert.AdamwAbInReferenceIdeal.τ).loc Cert.AdamwAbInReferenceIdeal.main_arg3)
          ∧ r.2.mem ((c.tc : Thread Cert.AdamwAbInReferenceIdeal.nD Cert.AdamwAbInReferenceIdeal.τ).loc Cert.AdamwAbInReferenceIdeal.main_arg4) = m' ((c.tc : Thread Cert.AdamwAbInReferenceIdeal.nD Cert.AdamwAbInReferenceIdeal.τ).loc Cert.AdamwAbInReferenceIdeal.main_arg4))

def preserves_AdamwCdIn_AdamwCdInIdeal : Prop :=
  IdealRules.named_const.Statement Cert.AdamwCdInIdeal.κ "c1" .f32 0x3FC48605#32 (((5463681 / 8388608)⁻¹ : ℝ) : EReal)
  ∧ IdealRules.named_const.Statement Cert.AdamwCdInIdeal.κ "c2" .f32 0x42C8E6D3#32 (((2672307 / 268435456)⁻¹ : ℝ) : EReal)

def algebraic_AdamwCdInIdeal_AdamwCdInReferenceIdeal [hAdamwCdInIdeal : Cert.AdamwCdInIdeal.Facts] [hAdamwCdInReferenceIdeal : Cert.AdamwCdInReferenceIdeal.Facts] : Prop :=
  ∀ (m : (ℓ : Loc Cert.AdamwCdInIdeal.nD Cert.AdamwCdInIdeal.τ Cert.AdamwCdInIdeal.sig) → Buf (Elt Ideal) ℓ) (g : Dev Cert.AdamwCdInIdeal.nD → PrngReg)
    (m' : (ℓ : Loc Cert.AdamwCdInReferenceIdeal.nD Cert.AdamwCdInReferenceIdeal.τ Cert.AdamwCdInReferenceIdeal.sig) → Buf (Elt Ideal) ℓ) (g' : Dev Cert.AdamwCdInReferenceIdeal.nD → PrngReg), Pre_AdamwCdInIdeal m →
    (∀ c : Dev Cert.AdamwCdInIdeal.nD,
      m' ((c.tc : Thread Cert.AdamwCdInReferenceIdeal.nD Cert.AdamwCdInReferenceIdeal.τ).loc Cert.AdamwCdInReferenceIdeal.main_arg0) = m ((c.tc : Thread Cert.AdamwCdInIdeal.nD Cert.AdamwCdInIdeal.τ).loc Cert.AdamwCdInIdeal.main_arg0)
      ∧ m' ((c.tc : Thread Cert.AdamwCdInReferenceIdeal.nD Cert.AdamwCdInReferenceIdeal.τ).loc Cert.AdamwCdInReferenceIdeal.main_arg1) = m ((c.tc : Thread Cert.AdamwCdInIdeal.nD Cert.AdamwCdInIdeal.τ).loc Cert.AdamwCdInIdeal.main_arg1)
      ∧ m' ((c.tc : Thread Cert.AdamwCdInReferenceIdeal.nD Cert.AdamwCdInReferenceIdeal.τ).loc Cert.AdamwCdInReferenceIdeal.main_arg2) = m ((c.tc : Thread Cert.AdamwCdInIdeal.nD Cert.AdamwCdInIdeal.τ).loc Cert.AdamwCdInIdeal.main_arg2)
      ∧ m' ((c.tc : Thread Cert.AdamwCdInReferenceIdeal.nD Cert.AdamwCdInReferenceIdeal.τ).loc Cert.AdamwCdInReferenceIdeal.main_arg3) = m ((c.tc : Thread Cert.AdamwCdInIdeal.nD Cert.AdamwCdInIdeal.τ).loc Cert.AdamwCdInIdeal.main_arg3)
      ∧ m' ((c.tc : Thread Cert.AdamwCdInReferenceIdeal.nD Cert.AdamwCdInReferenceIdeal.τ).loc Cert.AdamwCdInReferenceIdeal.main_arg4) = m ((c.tc : Thread Cert.AdamwCdInIdeal.nD Cert.AdamwCdInIdeal.τ).loc Cert.AdamwCdInIdeal.main_arg4)) →
    ∃ (v0 : (c : Dev Cert.AdamwCdInIdeal.nD) → Buf (Elt Ideal) ((c.tc : Thread Cert.AdamwCdInIdeal.nD Cert.AdamwCdInIdeal.τ).loc Cert.AdamwCdInIdeal.main_v0_0)) (v1 : (c : Dev Cert.AdamwCdInIdeal.nD) → Buf (Elt Ideal) ((c.tc : Thread Cert.AdamwCdInIdeal.nD Cert.AdamwCdInIdeal.τ).loc Cert.AdamwCdInIdeal.main_v0_1)) (v2 : (c : Dev Cert.AdamwCdInIdeal.nD) → Buf (Elt Ideal) ((c.tc : Thread Cert.AdamwCdInIdeal.nD Cert.AdamwCdInIdeal.τ).loc Cert.AdamwCdInIdeal.main_v0_2)) (v3 : (c : Dev Cert.AdamwCdInIdeal.nD) → Buf (Elt Ideal) ((c.tc : Thread Cert.AdamwCdInIdeal.nD Cert.AdamwCdInIdeal.τ).loc Cert.AdamwCdInIdeal.main_v0_3)),
      θ_run (Cert.AdamwCdInIdeal.defs (F := Ideal)) (onTc (τ := Cert.AdamwCdInIdeal.τ) (Cert.AdamwCdInIdeal.main (F := Ideal))) ⟨m, fun _ => 0, g⟩ (fun r => ∀ c : Dev Cert.AdamwCdInIdeal.nD,
          r.2.mem ((c.tc : Thread Cert.AdamwCdInIdeal.nD Cert.AdamwCdInIdeal.τ).loc Cert.AdamwCdInIdeal.main_v0_0) = v0 c
          ∧ r.2.mem ((c.tc : Thread Cert.AdamwCdInIdeal.nD Cert.AdamwCdInIdeal.τ).loc Cert.AdamwCdInIdeal.main_v0_1) = v1 c
          ∧ r.2.mem ((c.tc : Thread Cert.AdamwCdInIdeal.nD Cert.AdamwCdInIdeal.τ).loc Cert.AdamwCdInIdeal.main_v0_2) = v2 c
          ∧ r.2.mem ((c.tc : Thread Cert.AdamwCdInIdeal.nD Cert.AdamwCdInIdeal.τ).loc Cert.AdamwCdInIdeal.main_v0_3) = v3 c
          ∧ r.2.mem ((c.tc : Thread Cert.AdamwCdInIdeal.nD Cert.AdamwCdInIdeal.τ).loc Cert.AdamwCdInIdeal.main_arg0) = m ((c.tc : Thread Cert.AdamwCdInIdeal.nD Cert.AdamwCdInIdeal.τ).loc Cert.AdamwCdInIdeal.main_arg0)
          ∧ r.2.mem ((c.tc : Thread Cert.AdamwCdInIdeal.nD Cert.AdamwCdInIdeal.τ).loc Cert.AdamwCdInIdeal.main_arg1) = m ((c.tc : Thread Cert.AdamwCdInIdeal.nD Cert.AdamwCdInIdeal.τ).loc Cert.AdamwCdInIdeal.main_arg1)
          ∧ r.2.mem ((c.tc : Thread Cert.AdamwCdInIdeal.nD Cert.AdamwCdInIdeal.τ).loc Cert.AdamwCdInIdeal.main_arg2) = m ((c.tc : Thread Cert.AdamwCdInIdeal.nD Cert.AdamwCdInIdeal.τ).loc Cert.AdamwCdInIdeal.main_arg2)
          ∧ r.2.mem ((c.tc : Thread Cert.AdamwCdInIdeal.nD Cert.AdamwCdInIdeal.τ).loc Cert.AdamwCdInIdeal.main_arg3) = m ((c.tc : Thread Cert.AdamwCdInIdeal.nD Cert.AdamwCdInIdeal.τ).loc Cert.AdamwCdInIdeal.main_arg3)
          ∧ r.2.mem ((c.tc : Thread Cert.AdamwCdInIdeal.nD Cert.AdamwCdInIdeal.τ).loc Cert.AdamwCdInIdeal.main_arg4) = m ((c.tc : Thread Cert.AdamwCdInIdeal.nD Cert.AdamwCdInIdeal.τ).loc Cert.AdamwCdInIdeal.main_arg4))
      ∧ θ_run (Cert.AdamwCdInReferenceIdeal.defs (F := Ideal)) (onTc (τ := Cert.AdamwCdInReferenceIdeal.τ) (Cert.AdamwCdInReferenceIdeal.main (F := Ideal))) ⟨m', fun _ => 0, g'⟩ (fun r => ∀ c : Dev Cert.AdamwCdInReferenceIdeal.nD,
          r.2.mem ((c.tc : Thread Cert.AdamwCdInReferenceIdeal.nD Cert.AdamwCdInReferenceIdeal.τ).loc Cert.AdamwCdInReferenceIdeal.main_v6) = v0 c
          ∧ r.2.mem ((c.tc : Thread Cert.AdamwCdInReferenceIdeal.nD Cert.AdamwCdInReferenceIdeal.τ).loc Cert.AdamwCdInReferenceIdeal.main_v30) = v1 c
          ∧ r.2.mem ((c.tc : Thread Cert.AdamwCdInReferenceIdeal.nD Cert.AdamwCdInReferenceIdeal.τ).loc Cert.AdamwCdInReferenceIdeal.main_v11) = v2 c
          ∧ r.2.mem ((c.tc : Thread Cert.AdamwCdInReferenceIdeal.nD Cert.AdamwCdInReferenceIdeal.τ).loc Cert.AdamwCdInReferenceIdeal.main_v17) = v3 c
          ∧ r.2.mem ((c.tc : Thread Cert.AdamwCdInReferenceIdeal.nD Cert.AdamwCdInReferenceIdeal.τ).loc Cert.AdamwCdInReferenceIdeal.main_arg0) = m' ((c.tc : Thread Cert.AdamwCdInReferenceIdeal.nD Cert.AdamwCdInReferenceIdeal.τ).loc Cert.AdamwCdInReferenceIdeal.main_arg0)
          ∧ r.2.mem ((c.tc : Thread Cert.AdamwCdInReferenceIdeal.nD Cert.AdamwCdInReferenceIdeal.τ).loc Cert.AdamwCdInReferenceIdeal.main_arg1) = m' ((c.tc : Thread Cert.AdamwCdInReferenceIdeal.nD Cert.AdamwCdInReferenceIdeal.τ).loc Cert.AdamwCdInReferenceIdeal.main_arg1)
          ∧ r.2.mem ((c.tc : Thread Cert.AdamwCdInReferenceIdeal.nD Cert.AdamwCdInReferenceIdeal.τ).loc Cert.AdamwCdInReferenceIdeal.main_arg2) = m' ((c.tc : Thread Cert.AdamwCdInReferenceIdeal.nD Cert.AdamwCdInReferenceIdeal.τ).loc Cert.AdamwCdInReferenceIdeal.main_arg2)
          ∧ r.2.mem ((c.tc : Thread Cert.AdamwCdInReferenceIdeal.nD Cert.AdamwCdInReferenceIdeal.τ).loc Cert.AdamwCdInReferenceIdeal.main_arg3) = m' ((c.tc : Thread Cert.AdamwCdInReferenceIdeal.nD Cert.AdamwCdInReferenceIdeal.τ).loc Cert.AdamwCdInReferenceIdeal.main_arg3)
          ∧ r.2.mem ((c.tc : Thread Cert.AdamwCdInReferenceIdeal.nD Cert.AdamwCdInReferenceIdeal.τ).loc Cert.AdamwCdInReferenceIdeal.main_arg4) = m' ((c.tc : Thread Cert.AdamwCdInReferenceIdeal.nD Cert.AdamwCdInReferenceIdeal.τ).loc Cert.AdamwCdInReferenceIdeal.main_arg4))

def preserves_AdamwFfnUp_AdamwFfnUpIdeal : Prop :=
  IdealRules.named_const.Statement Cert.AdamwFfnUpIdeal.κ "c1" .f32 0x3FC48605#32 (((5463681 / 8388608)⁻¹ : ℝ) : EReal)
  ∧ IdealRules.named_const.Statement Cert.AdamwFfnUpIdeal.κ "c2" .f32 0x42C8E6D3#32 (((2672307 / 268435456)⁻¹ : ℝ) : EReal)

def algebraic_AdamwFfnUpIdeal_AdamwFfnUpReferenceIdeal [hAdamwFfnUpIdeal : Cert.AdamwFfnUpIdeal.Facts] [hAdamwFfnUpReferenceIdeal : Cert.AdamwFfnUpReferenceIdeal.Facts] : Prop :=
  ∀ (m : (ℓ : Loc Cert.AdamwFfnUpIdeal.nD Cert.AdamwFfnUpIdeal.τ Cert.AdamwFfnUpIdeal.sig) → Buf (Elt Ideal) ℓ) (g : Dev Cert.AdamwFfnUpIdeal.nD → PrngReg)
    (m' : (ℓ : Loc Cert.AdamwFfnUpReferenceIdeal.nD Cert.AdamwFfnUpReferenceIdeal.τ Cert.AdamwFfnUpReferenceIdeal.sig) → Buf (Elt Ideal) ℓ) (g' : Dev Cert.AdamwFfnUpReferenceIdeal.nD → PrngReg), Pre_AdamwFfnUpIdeal m →
    (∀ c : Dev Cert.AdamwFfnUpIdeal.nD,
      m' ((c.tc : Thread Cert.AdamwFfnUpReferenceIdeal.nD Cert.AdamwFfnUpReferenceIdeal.τ).loc Cert.AdamwFfnUpReferenceIdeal.main_arg0) = m ((c.tc : Thread Cert.AdamwFfnUpIdeal.nD Cert.AdamwFfnUpIdeal.τ).loc Cert.AdamwFfnUpIdeal.main_arg0)
      ∧ m' ((c.tc : Thread Cert.AdamwFfnUpReferenceIdeal.nD Cert.AdamwFfnUpReferenceIdeal.τ).loc Cert.AdamwFfnUpReferenceIdeal.main_arg1) = m ((c.tc : Thread Cert.AdamwFfnUpIdeal.nD Cert.AdamwFfnUpIdeal.τ).loc Cert.AdamwFfnUpIdeal.main_arg1)
      ∧ m' ((c.tc : Thread Cert.AdamwFfnUpReferenceIdeal.nD Cert.AdamwFfnUpReferenceIdeal.τ).loc Cert.AdamwFfnUpReferenceIdeal.main_arg2) = m ((c.tc : Thread Cert.AdamwFfnUpIdeal.nD Cert.AdamwFfnUpIdeal.τ).loc Cert.AdamwFfnUpIdeal.main_arg2)
      ∧ m' ((c.tc : Thread Cert.AdamwFfnUpReferenceIdeal.nD Cert.AdamwFfnUpReferenceIdeal.τ).loc Cert.AdamwFfnUpReferenceIdeal.main_arg3) = m ((c.tc : Thread Cert.AdamwFfnUpIdeal.nD Cert.AdamwFfnUpIdeal.τ).loc Cert.AdamwFfnUpIdeal.main_arg3)
      ∧ m' ((c.tc : Thread Cert.AdamwFfnUpReferenceIdeal.nD Cert.AdamwFfnUpReferenceIdeal.τ).loc Cert.AdamwFfnUpReferenceIdeal.main_arg4) = m ((c.tc : Thread Cert.AdamwFfnUpIdeal.nD Cert.AdamwFfnUpIdeal.τ).loc Cert.AdamwFfnUpIdeal.main_arg4)
      ∧ m' ((c.tc : Thread Cert.AdamwFfnUpReferenceIdeal.nD Cert.AdamwFfnUpReferenceIdeal.τ).loc Cert.AdamwFfnUpReferenceIdeal.main_arg5) = m ((c.tc : Thread Cert.AdamwFfnUpIdeal.nD Cert.AdamwFfnUpIdeal.τ).loc Cert.AdamwFfnUpIdeal.main_arg5)
      ∧ m' ((c.tc : Thread Cert.AdamwFfnUpReferenceIdeal.nD Cert.AdamwFfnUpReferenceIdeal.τ).loc Cert.AdamwFfnUpReferenceIdeal.main_arg6) = m ((c.tc : Thread Cert.AdamwFfnUpIdeal.nD Cert.AdamwFfnUpIdeal.τ).loc Cert.AdamwFfnUpIdeal.main_arg6)) →
    ∃ (v0 : (c : Dev Cert.AdamwFfnUpIdeal.nD) → Buf (Elt Ideal) ((c.tc : Thread Cert.AdamwFfnUpIdeal.nD Cert.AdamwFfnUpIdeal.τ).loc Cert.AdamwFfnUpIdeal.main_v0_0)) (v1 : (c : Dev Cert.AdamwFfnUpIdeal.nD) → Buf (Elt Ideal) ((c.tc : Thread Cert.AdamwFfnUpIdeal.nD Cert.AdamwFfnUpIdeal.τ).loc Cert.AdamwFfnUpIdeal.main_v0_1)) (v2 : (c : Dev Cert.AdamwFfnUpIdeal.nD) → Buf (Elt Ideal) ((c.tc : Thread Cert.AdamwFfnUpIdeal.nD Cert.AdamwFfnUpIdeal.τ).loc Cert.AdamwFfnUpIdeal.main_v0_2)) (v3 : (c : Dev Cert.AdamwFfnUpIdeal.nD) → Buf (Elt Ideal) ((c.tc : Thread Cert.AdamwFfnUpIdeal.nD Cert.AdamwFfnUpIdeal.τ).loc Cert.AdamwFfnUpIdeal.main_v0_3)),
      θ_run (Cert.AdamwFfnUpIdeal.defs (F := Ideal)) (onTc (τ := Cert.AdamwFfnUpIdeal.τ) (Cert.AdamwFfnUpIdeal.main (F := Ideal))) ⟨m, fun _ => 0, g⟩ (fun r => ∀ c : Dev Cert.AdamwFfnUpIdeal.nD,
          r.2.mem ((c.tc : Thread Cert.AdamwFfnUpIdeal.nD Cert.AdamwFfnUpIdeal.τ).loc Cert.AdamwFfnUpIdeal.main_v0_0) = v0 c
          ∧ r.2.mem ((c.tc : Thread Cert.AdamwFfnUpIdeal.nD Cert.AdamwFfnUpIdeal.τ).loc Cert.AdamwFfnUpIdeal.main_v0_1) = v1 c
          ∧ r.2.mem ((c.tc : Thread Cert.AdamwFfnUpIdeal.nD Cert.AdamwFfnUpIdeal.τ).loc Cert.AdamwFfnUpIdeal.main_v0_2) = v2 c
          ∧ r.2.mem ((c.tc : Thread Cert.AdamwFfnUpIdeal.nD Cert.AdamwFfnUpIdeal.τ).loc Cert.AdamwFfnUpIdeal.main_v0_3) = v3 c
          ∧ r.2.mem ((c.tc : Thread Cert.AdamwFfnUpIdeal.nD Cert.AdamwFfnUpIdeal.τ).loc Cert.AdamwFfnUpIdeal.main_arg0) = m ((c.tc : Thread Cert.AdamwFfnUpIdeal.nD Cert.AdamwFfnUpIdeal.τ).loc Cert.AdamwFfnUpIdeal.main_arg0)
          ∧ r.2.mem ((c.tc : Thread Cert.AdamwFfnUpIdeal.nD Cert.AdamwFfnUpIdeal.τ).loc Cert.AdamwFfnUpIdeal.main_arg1) = m ((c.tc : Thread Cert.AdamwFfnUpIdeal.nD Cert.AdamwFfnUpIdeal.τ).loc Cert.AdamwFfnUpIdeal.main_arg1)
          ∧ r.2.mem ((c.tc : Thread Cert.AdamwFfnUpIdeal.nD Cert.AdamwFfnUpIdeal.τ).loc Cert.AdamwFfnUpIdeal.main_arg2) = m ((c.tc : Thread Cert.AdamwFfnUpIdeal.nD Cert.AdamwFfnUpIdeal.τ).loc Cert.AdamwFfnUpIdeal.main_arg2)
          ∧ r.2.mem ((c.tc : Thread Cert.AdamwFfnUpIdeal.nD Cert.AdamwFfnUpIdeal.τ).loc Cert.AdamwFfnUpIdeal.main_arg3) = m ((c.tc : Thread Cert.AdamwFfnUpIdeal.nD Cert.AdamwFfnUpIdeal.τ).loc Cert.AdamwFfnUpIdeal.main_arg3)
          ∧ r.2.mem ((c.tc : Thread Cert.AdamwFfnUpIdeal.nD Cert.AdamwFfnUpIdeal.τ).loc Cert.AdamwFfnUpIdeal.main_arg4) = m ((c.tc : Thread Cert.AdamwFfnUpIdeal.nD Cert.AdamwFfnUpIdeal.τ).loc Cert.AdamwFfnUpIdeal.main_arg4)
          ∧ r.2.mem ((c.tc : Thread Cert.AdamwFfnUpIdeal.nD Cert.AdamwFfnUpIdeal.τ).loc Cert.AdamwFfnUpIdeal.main_arg5) = m ((c.tc : Thread Cert.AdamwFfnUpIdeal.nD Cert.AdamwFfnUpIdeal.τ).loc Cert.AdamwFfnUpIdeal.main_arg5)
          ∧ r.2.mem ((c.tc : Thread Cert.AdamwFfnUpIdeal.nD Cert.AdamwFfnUpIdeal.τ).loc Cert.AdamwFfnUpIdeal.main_arg6) = m ((c.tc : Thread Cert.AdamwFfnUpIdeal.nD Cert.AdamwFfnUpIdeal.τ).loc Cert.AdamwFfnUpIdeal.main_arg6))
      ∧ θ_run (Cert.AdamwFfnUpReferenceIdeal.defs (F := Ideal)) (onTc (τ := Cert.AdamwFfnUpReferenceIdeal.τ) (Cert.AdamwFfnUpReferenceIdeal.main (F := Ideal))) ⟨m', fun _ => 0, g'⟩ (fun r => ∀ c : Dev Cert.AdamwFfnUpReferenceIdeal.nD,
          r.2.mem ((c.tc : Thread Cert.AdamwFfnUpReferenceIdeal.nD Cert.AdamwFfnUpReferenceIdeal.τ).loc Cert.AdamwFfnUpReferenceIdeal.main_v12) = v0 c
          ∧ r.2.mem ((c.tc : Thread Cert.AdamwFfnUpReferenceIdeal.nD Cert.AdamwFfnUpReferenceIdeal.τ).loc Cert.AdamwFfnUpReferenceIdeal.main_v36) = v1 c
          ∧ r.2.mem ((c.tc : Thread Cert.AdamwFfnUpReferenceIdeal.nD Cert.AdamwFfnUpReferenceIdeal.τ).loc Cert.AdamwFfnUpReferenceIdeal.main_v17) = v2 c
          ∧ r.2.mem ((c.tc : Thread Cert.AdamwFfnUpReferenceIdeal.nD Cert.AdamwFfnUpReferenceIdeal.τ).loc Cert.AdamwFfnUpReferenceIdeal.main_v23) = v3 c
          ∧ r.2.mem ((c.tc : Thread Cert.AdamwFfnUpReferenceIdeal.nD Cert.AdamwFfnUpReferenceIdeal.τ).loc Cert.AdamwFfnUpReferenceIdeal.main_arg0) = m' ((c.tc : Thread Cert.AdamwFfnUpReferenceIdeal.nD Cert.AdamwFfnUpReferenceIdeal.τ).loc Cert.AdamwFfnUpReferenceIdeal.main_arg0)
          ∧ r.2.mem ((c.tc : Thread Cert.AdamwFfnUpReferenceIdeal.nD Cert.AdamwFfnUpReferenceIdeal.τ).loc Cert.AdamwFfnUpReferenceIdeal.main_arg1) = m' ((c.tc : Thread Cert.AdamwFfnUpReferenceIdeal.nD Cert.AdamwFfnUpReferenceIdeal.τ).loc Cert.AdamwFfnUpReferenceIdeal.main_arg1)
          ∧ r.2.mem ((c.tc : Thread Cert.AdamwFfnUpReferenceIdeal.nD Cert.AdamwFfnUpReferenceIdeal.τ).loc Cert.AdamwFfnUpReferenceIdeal.main_arg2) = m' ((c.tc : Thread Cert.AdamwFfnUpReferenceIdeal.nD Cert.AdamwFfnUpReferenceIdeal.τ).loc Cert.AdamwFfnUpReferenceIdeal.main_arg2)
          ∧ r.2.mem ((c.tc : Thread Cert.AdamwFfnUpReferenceIdeal.nD Cert.AdamwFfnUpReferenceIdeal.τ).loc Cert.AdamwFfnUpReferenceIdeal.main_arg3) = m' ((c.tc : Thread Cert.AdamwFfnUpReferenceIdeal.nD Cert.AdamwFfnUpReferenceIdeal.τ).loc Cert.AdamwFfnUpReferenceIdeal.main_arg3)
          ∧ r.2.mem ((c.tc : Thread Cert.AdamwFfnUpReferenceIdeal.nD Cert.AdamwFfnUpReferenceIdeal.τ).loc Cert.AdamwFfnUpReferenceIdeal.main_arg4) = m' ((c.tc : Thread Cert.AdamwFfnUpReferenceIdeal.nD Cert.AdamwFfnUpReferenceIdeal.τ).loc Cert.AdamwFfnUpReferenceIdeal.main_arg4)
          ∧ r.2.mem ((c.tc : Thread Cert.AdamwFfnUpReferenceIdeal.nD Cert.AdamwFfnUpReferenceIdeal.τ).loc Cert.AdamwFfnUpReferenceIdeal.main_arg5) = m' ((c.tc : Thread Cert.AdamwFfnUpReferenceIdeal.nD Cert.AdamwFfnUpReferenceIdeal.τ).loc Cert.AdamwFfnUpReferenceIdeal.main_arg5)
          ∧ r.2.mem ((c.tc : Thread Cert.AdamwFfnUpReferenceIdeal.nD Cert.AdamwFfnUpReferenceIdeal.τ).loc Cert.AdamwFfnUpReferenceIdeal.main_arg6) = m' ((c.tc : Thread Cert.AdamwFfnUpReferenceIdeal.nD Cert.AdamwFfnUpReferenceIdeal.τ).loc Cert.AdamwFfnUpReferenceIdeal.main_arg6))

def preserves_AdamwFfnDown_AdamwFfnDownIdeal : Prop :=
  IdealRules.named_const.Statement Cert.AdamwFfnDownIdeal.κ "c1" .f32 0x3FC48605#32 (((5463681 / 8388608)⁻¹ : ℝ) : EReal)
  ∧ IdealRules.named_const.Statement Cert.AdamwFfnDownIdeal.κ "c2" .f32 0x42C8E6D3#32 (((2672307 / 268435456)⁻¹ : ℝ) : EReal)

def algebraic_AdamwFfnDownIdeal_AdamwFfnDownReferenceIdeal [hAdamwFfnDownIdeal : Cert.AdamwFfnDownIdeal.Facts] [hAdamwFfnDownReferenceIdeal : Cert.AdamwFfnDownReferenceIdeal.Facts] : Prop :=
  ∀ (m : (ℓ : Loc Cert.AdamwFfnDownIdeal.nD Cert.AdamwFfnDownIdeal.τ Cert.AdamwFfnDownIdeal.sig) → Buf (Elt Ideal) ℓ) (g : Dev Cert.AdamwFfnDownIdeal.nD → PrngReg)
    (m' : (ℓ : Loc Cert.AdamwFfnDownReferenceIdeal.nD Cert.AdamwFfnDownReferenceIdeal.τ Cert.AdamwFfnDownReferenceIdeal.sig) → Buf (Elt Ideal) ℓ) (g' : Dev Cert.AdamwFfnDownReferenceIdeal.nD → PrngReg), Pre_AdamwFfnDownIdeal m →
    (∀ c : Dev Cert.AdamwFfnDownIdeal.nD,
      m' ((c.tc : Thread Cert.AdamwFfnDownReferenceIdeal.nD Cert.AdamwFfnDownReferenceIdeal.τ).loc Cert.AdamwFfnDownReferenceIdeal.main_arg0) = m ((c.tc : Thread Cert.AdamwFfnDownIdeal.nD Cert.AdamwFfnDownIdeal.τ).loc Cert.AdamwFfnDownIdeal.main_arg0)
      ∧ m' ((c.tc : Thread Cert.AdamwFfnDownReferenceIdeal.nD Cert.AdamwFfnDownReferenceIdeal.τ).loc Cert.AdamwFfnDownReferenceIdeal.main_arg1) = m ((c.tc : Thread Cert.AdamwFfnDownIdeal.nD Cert.AdamwFfnDownIdeal.τ).loc Cert.AdamwFfnDownIdeal.main_arg1)
      ∧ m' ((c.tc : Thread Cert.AdamwFfnDownReferenceIdeal.nD Cert.AdamwFfnDownReferenceIdeal.τ).loc Cert.AdamwFfnDownReferenceIdeal.main_arg2) = m ((c.tc : Thread Cert.AdamwFfnDownIdeal.nD Cert.AdamwFfnDownIdeal.τ).loc Cert.AdamwFfnDownIdeal.main_arg2)
      ∧ m' ((c.tc : Thread Cert.AdamwFfnDownReferenceIdeal.nD Cert.AdamwFfnDownReferenceIdeal.τ).loc Cert.AdamwFfnDownReferenceIdeal.main_arg3) = m ((c.tc : Thread Cert.AdamwFfnDownIdeal.nD Cert.AdamwFfnDownIdeal.τ).loc Cert.AdamwFfnDownIdeal.main_arg3)
      ∧ m' ((c.tc : Thread Cert.AdamwFfnDownReferenceIdeal.nD Cert.AdamwFfnDownReferenceIdeal.τ).loc Cert.AdamwFfnDownReferenceIdeal.main_arg4) = m ((c.tc : Thread Cert.AdamwFfnDownIdeal.nD Cert.AdamwFfnDownIdeal.τ).loc Cert.AdamwFfnDownIdeal.main_arg4)
      ∧ m' ((c.tc : Thread Cert.AdamwFfnDownReferenceIdeal.nD Cert.AdamwFfnDownReferenceIdeal.τ).loc Cert.AdamwFfnDownReferenceIdeal.main_arg5) = m ((c.tc : Thread Cert.AdamwFfnDownIdeal.nD Cert.AdamwFfnDownIdeal.τ).loc Cert.AdamwFfnDownIdeal.main_arg5)
      ∧ m' ((c.tc : Thread Cert.AdamwFfnDownReferenceIdeal.nD Cert.AdamwFfnDownReferenceIdeal.τ).loc Cert.AdamwFfnDownReferenceIdeal.main_arg6) = m ((c.tc : Thread Cert.AdamwFfnDownIdeal.nD Cert.AdamwFfnDownIdeal.τ).loc Cert.AdamwFfnDownIdeal.main_arg6)) →
    ∃ (v0 : (c : Dev Cert.AdamwFfnDownIdeal.nD) → Buf (Elt Ideal) ((c.tc : Thread Cert.AdamwFfnDownIdeal.nD Cert.AdamwFfnDownIdeal.τ).loc Cert.AdamwFfnDownIdeal.main_v0_0)) (v1 : (c : Dev Cert.AdamwFfnDownIdeal.nD) → Buf (Elt Ideal) ((c.tc : Thread Cert.AdamwFfnDownIdeal.nD Cert.AdamwFfnDownIdeal.τ).loc Cert.AdamwFfnDownIdeal.main_v0_1)) (v2 : (c : Dev Cert.AdamwFfnDownIdeal.nD) → Buf (Elt Ideal) ((c.tc : Thread Cert.AdamwFfnDownIdeal.nD Cert.AdamwFfnDownIdeal.τ).loc Cert.AdamwFfnDownIdeal.main_v0_2)) (v3 : (c : Dev Cert.AdamwFfnDownIdeal.nD) → Buf (Elt Ideal) ((c.tc : Thread Cert.AdamwFfnDownIdeal.nD Cert.AdamwFfnDownIdeal.τ).loc Cert.AdamwFfnDownIdeal.main_v0_3)),
      θ_run (Cert.AdamwFfnDownIdeal.defs (F := Ideal)) (onTc (τ := Cert.AdamwFfnDownIdeal.τ) (Cert.AdamwFfnDownIdeal.main (F := Ideal))) ⟨m, fun _ => 0, g⟩ (fun r => ∀ c : Dev Cert.AdamwFfnDownIdeal.nD,
          r.2.mem ((c.tc : Thread Cert.AdamwFfnDownIdeal.nD Cert.AdamwFfnDownIdeal.τ).loc Cert.AdamwFfnDownIdeal.main_v0_0) = v0 c
          ∧ r.2.mem ((c.tc : Thread Cert.AdamwFfnDownIdeal.nD Cert.AdamwFfnDownIdeal.τ).loc Cert.AdamwFfnDownIdeal.main_v0_1) = v1 c
          ∧ r.2.mem ((c.tc : Thread Cert.AdamwFfnDownIdeal.nD Cert.AdamwFfnDownIdeal.τ).loc Cert.AdamwFfnDownIdeal.main_v0_2) = v2 c
          ∧ r.2.mem ((c.tc : Thread Cert.AdamwFfnDownIdeal.nD Cert.AdamwFfnDownIdeal.τ).loc Cert.AdamwFfnDownIdeal.main_v0_3) = v3 c
          ∧ r.2.mem ((c.tc : Thread Cert.AdamwFfnDownIdeal.nD Cert.AdamwFfnDownIdeal.τ).loc Cert.AdamwFfnDownIdeal.main_arg0) = m ((c.tc : Thread Cert.AdamwFfnDownIdeal.nD Cert.AdamwFfnDownIdeal.τ).loc Cert.AdamwFfnDownIdeal.main_arg0)
          ∧ r.2.mem ((c.tc : Thread Cert.AdamwFfnDownIdeal.nD Cert.AdamwFfnDownIdeal.τ).loc Cert.AdamwFfnDownIdeal.main_arg1) = m ((c.tc : Thread Cert.AdamwFfnDownIdeal.nD Cert.AdamwFfnDownIdeal.τ).loc Cert.AdamwFfnDownIdeal.main_arg1)
          ∧ r.2.mem ((c.tc : Thread Cert.AdamwFfnDownIdeal.nD Cert.AdamwFfnDownIdeal.τ).loc Cert.AdamwFfnDownIdeal.main_arg2) = m ((c.tc : Thread Cert.AdamwFfnDownIdeal.nD Cert.AdamwFfnDownIdeal.τ).loc Cert.AdamwFfnDownIdeal.main_arg2)
          ∧ r.2.mem ((c.tc : Thread Cert.AdamwFfnDownIdeal.nD Cert.AdamwFfnDownIdeal.τ).loc Cert.AdamwFfnDownIdeal.main_arg3) = m ((c.tc : Thread Cert.AdamwFfnDownIdeal.nD Cert.AdamwFfnDownIdeal.τ).loc Cert.AdamwFfnDownIdeal.main_arg3)
          ∧ r.2.mem ((c.tc : Thread Cert.AdamwFfnDownIdeal.nD Cert.AdamwFfnDownIdeal.τ).loc Cert.AdamwFfnDownIdeal.main_arg4) = m ((c.tc : Thread Cert.AdamwFfnDownIdeal.nD Cert.AdamwFfnDownIdeal.τ).loc Cert.AdamwFfnDownIdeal.main_arg4)
          ∧ r.2.mem ((c.tc : Thread Cert.AdamwFfnDownIdeal.nD Cert.AdamwFfnDownIdeal.τ).loc Cert.AdamwFfnDownIdeal.main_arg5) = m ((c.tc : Thread Cert.AdamwFfnDownIdeal.nD Cert.AdamwFfnDownIdeal.τ).loc Cert.AdamwFfnDownIdeal.main_arg5)
          ∧ r.2.mem ((c.tc : Thread Cert.AdamwFfnDownIdeal.nD Cert.AdamwFfnDownIdeal.τ).loc Cert.AdamwFfnDownIdeal.main_arg6) = m ((c.tc : Thread Cert.AdamwFfnDownIdeal.nD Cert.AdamwFfnDownIdeal.τ).loc Cert.AdamwFfnDownIdeal.main_arg6))
      ∧ θ_run (Cert.AdamwFfnDownReferenceIdeal.defs (F := Ideal)) (onTc (τ := Cert.AdamwFfnDownReferenceIdeal.τ) (Cert.AdamwFfnDownReferenceIdeal.main (F := Ideal))) ⟨m', fun _ => 0, g'⟩ (fun r => ∀ c : Dev Cert.AdamwFfnDownReferenceIdeal.nD,
          r.2.mem ((c.tc : Thread Cert.AdamwFfnDownReferenceIdeal.nD Cert.AdamwFfnDownReferenceIdeal.τ).loc Cert.AdamwFfnDownReferenceIdeal.main_v12) = v0 c
          ∧ r.2.mem ((c.tc : Thread Cert.AdamwFfnDownReferenceIdeal.nD Cert.AdamwFfnDownReferenceIdeal.τ).loc Cert.AdamwFfnDownReferenceIdeal.main_v36) = v1 c
          ∧ r.2.mem ((c.tc : Thread Cert.AdamwFfnDownReferenceIdeal.nD Cert.AdamwFfnDownReferenceIdeal.τ).loc Cert.AdamwFfnDownReferenceIdeal.main_v17) = v2 c
          ∧ r.2.mem ((c.tc : Thread Cert.AdamwFfnDownReferenceIdeal.nD Cert.AdamwFfnDownReferenceIdeal.τ).loc Cert.AdamwFfnDownReferenceIdeal.main_v23) = v3 c
          ∧ r.2.mem ((c.tc : Thread Cert.AdamwFfnDownReferenceIdeal.nD Cert.AdamwFfnDownReferenceIdeal.τ).loc Cert.AdamwFfnDownReferenceIdeal.main_arg0) = m' ((c.tc : Thread Cert.AdamwFfnDownReferenceIdeal.nD Cert.AdamwFfnDownReferenceIdeal.τ).loc Cert.AdamwFfnDownReferenceIdeal.main_arg0)
          ∧ r.2.mem ((c.tc : Thread Cert.AdamwFfnDownReferenceIdeal.nD Cert.AdamwFfnDownReferenceIdeal.τ).loc Cert.AdamwFfnDownReferenceIdeal.main_arg1) = m' ((c.tc : Thread Cert.AdamwFfnDownReferenceIdeal.nD Cert.AdamwFfnDownReferenceIdeal.τ).loc Cert.AdamwFfnDownReferenceIdeal.main_arg1)
          ∧ r.2.mem ((c.tc : Thread Cert.AdamwFfnDownReferenceIdeal.nD Cert.AdamwFfnDownReferenceIdeal.τ).loc Cert.AdamwFfnDownReferenceIdeal.main_arg2) = m' ((c.tc : Thread Cert.AdamwFfnDownReferenceIdeal.nD Cert.AdamwFfnDownReferenceIdeal.τ).loc Cert.AdamwFfnDownReferenceIdeal.main_arg2)
          ∧ r.2.mem ((c.tc : Thread Cert.AdamwFfnDownReferenceIdeal.nD Cert.AdamwFfnDownReferenceIdeal.τ).loc Cert.AdamwFfnDownReferenceIdeal.main_arg3) = m' ((c.tc : Thread Cert.AdamwFfnDownReferenceIdeal.nD Cert.AdamwFfnDownReferenceIdeal.τ).loc Cert.AdamwFfnDownReferenceIdeal.main_arg3)
          ∧ r.2.mem ((c.tc : Thread Cert.AdamwFfnDownReferenceIdeal.nD Cert.AdamwFfnDownReferenceIdeal.τ).loc Cert.AdamwFfnDownReferenceIdeal.main_arg4) = m' ((c.tc : Thread Cert.AdamwFfnDownReferenceIdeal.nD Cert.AdamwFfnDownReferenceIdeal.τ).loc Cert.AdamwFfnDownReferenceIdeal.main_arg4)
          ∧ r.2.mem ((c.tc : Thread Cert.AdamwFfnDownReferenceIdeal.nD Cert.AdamwFfnDownReferenceIdeal.τ).loc Cert.AdamwFfnDownReferenceIdeal.main_arg5) = m' ((c.tc : Thread Cert.AdamwFfnDownReferenceIdeal.nD Cert.AdamwFfnDownReferenceIdeal.τ).loc Cert.AdamwFfnDownReferenceIdeal.main_arg5)
          ∧ r.2.mem ((c.tc : Thread Cert.AdamwFfnDownReferenceIdeal.nD Cert.AdamwFfnDownReferenceIdeal.τ).loc Cert.AdamwFfnDownReferenceIdeal.main_arg6) = m' ((c.tc : Thread Cert.AdamwFfnDownReferenceIdeal.nD Cert.AdamwFfnDownReferenceIdeal.τ).loc Cert.AdamwFfnDownReferenceIdeal.main_arg6))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v14) = v0 c
          ∧ r.2.mem ((c.tc : Thread Cert.LossReferenceIdeal.nD Cert.LossReferenceIdeal.τ).loc Cert.LossReferenceIdeal.main_v8) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_LnFwd_LnFwdIdeal : Prop :=
  True

def algebraic_LnFwdIdeal_LnFwdReferenceIdeal [hLnFwdIdeal : Cert.LnFwdIdeal.Facts] [hLnFwdReferenceIdeal : Cert.LnFwdReferenceIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdReferenceIdeal.nD Cert.LnFwdReferenceIdeal.τ Cert.LnFwdReferenceIdeal.sig) → Buf (Elt Ideal) ℓ) (g' : Dev Cert.LnFwdReferenceIdeal.nD → PrngReg), Pre_LnFwdIdeal m →
    (∀ c : Dev Cert.LnFwdIdeal.nD,
      m' ((c.tc : Thread Cert.LnFwdReferenceIdeal.nD Cert.LnFwdReferenceIdeal.τ).loc Cert.LnFwdReferenceIdeal.main_arg0) = m ((c.tc : Thread Cert.LnFwdIdeal.nD Cert.LnFwdIdeal.τ).loc Cert.LnFwdIdeal.main_arg0)
      ∧ m' ((c.tc : Thread Cert.LnFwdReferenceIdeal.nD Cert.LnFwdReferenceIdeal.τ).loc Cert.LnFwdReferenceIdeal.main_arg1) = m ((c.tc : Thread Cert.LnFwdIdeal.nD Cert.LnFwdIdeal.τ).loc Cert.LnFwdIdeal.main_arg1)
      ∧ m' ((c.tc : Thread Cert.LnFwdReferenceIdeal.nD Cert.LnFwdReferenceIdeal.τ).loc Cert.LnFwdReferenceIdeal.main_arg2) = m ((c.tc : Thread Cert.LnFwdIdeal.nD Cert.LnFwdIdeal.τ).loc Cert.LnFwdIdeal.main_arg2)
      ∧ m' ((c.tc : Thread Cert.LnFwdReferenceIdeal.nD Cert.LnFwdReferenceIdeal.τ).loc Cert.LnFwdReferenceIdeal.main_arg3) = m ((c.tc : Thread Cert.LnFwdIdeal.nD Cert.LnFwdIdeal.τ).loc Cert.LnFwdIdeal.main_arg3)) →
    ∃ (v0 : (c : Dev Cert.LnFwdIdeal.nD) → Buf (Elt Ideal) ((c.tc : Thread Cert.LnFwdIdeal.nD Cert.LnFwdIdeal.τ).loc Cert.LnFwdIdeal.main_v2)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v2) = v0 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
          ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ θ_run (Cert.LnFwdReferenceIdeal.defs (F := Ideal)) (onTc (τ := Cert.LnFwdReferenceIdeal.τ) (Cert.LnFwdReferenceIdeal.main (F := Ideal))) ⟨m', fun _ => 0, g'⟩ (fun r => ∀ c : Dev Cert.LnFwdReferenceIdeal.nD,
          r.2.mem ((c.tc : Thread Cert.LnFwdReferenceIdeal.nD Cert.LnFwdReferenceIdeal.τ).loc Cert.LnFwdReferenceIdeal.main_v26) = v0 c
          ∧ r.2.mem ((c.tc : Thread Cert.LnFwdReferenceIdeal.nD Cert.LnFwdReferenceIdeal.τ).loc Cert.LnFwdReferenceIdeal.main_arg0) = m' ((c.tc : Thread Cert.LnFwdReferenceIdeal.nD Cert.LnFwdReferenceIdeal.τ).loc Cert.LnFwdReferenceIdeal.main_arg0)
          ∧ r.2.mem ((c.tc : Thread Cert.LnFwdReferenceIdeal.nD Cert.LnFwdReferenceIdeal.τ).loc Cert.LnFwdReferenceIdeal.main_arg1) = m' ((c.tc : Thread Cert.LnFwdReferenceIdeal.nD Cert.LnFwdReferenceIdeal.τ).loc Cert.LnFwdReferenceIdeal.main_arg1)
          ∧ r.2.mem ((c.tc : Thread Cert.LnFwdReferenceIdeal.nD Cert.LnFwdReferenceIdeal.τ).loc Cert.LnFwdReferenceIdeal.main_arg2) = m' ((c.tc : Thread Cert.LnFwdReferenceIdeal.nD Cert.LnFwdReferenceIdeal.τ).loc Cert.LnFwdReferenceIdeal.main_arg2)
          ∧ r.2.mem ((c.tc : Thread Cert.LnFwdReferenceIdeal.nD Cert.LnFwdReferenceIdeal.τ).loc Cert.LnFwdReferenceIdeal.main_arg3) = m' ((c.tc : Thread Cert.LnFwdReferenceIdeal.nD Cert.LnFwdReferenceIdeal.τ).loc Cert.LnFwdReferenceIdeal.main_arg3))

def preserves_CdPost_CdPostIdeal : Prop :=
  True

def algebraic_CdPostIdeal_CdPostReferenceIdeal [hCdPostIdeal : Cert.CdPostIdeal.Facts] [hCdPostReferenceIdeal : Cert.CdPostReferenceIdeal.Facts] : Prop :=
  ∀ (m : (ℓ : Loc Cert.CdPostIdeal.nD Cert.CdPostIdeal.τ Cert.CdPostIdeal.sig) → Buf (Elt Ideal) ℓ) (g : Dev Cert.CdPostIdeal.nD → PrngReg)
    (m' : (ℓ : Loc Cert.CdPostReferenceIdeal.nD Cert.CdPostReferenceIdeal.τ Cert.CdPostReferenceIdeal.sig) → Buf (Elt Ideal) ℓ) (g' : Dev Cert.CdPostReferenceIdeal.nD → PrngReg), Pre_CdPostIdeal m →
    (∀ c : Dev Cert.CdPostIdeal.nD,
      m' ((c.tc : Thread Cert.CdPostReferenceIdeal.nD Cert.CdPostReferenceIdeal.τ).loc Cert.CdPostReferenceIdeal.main_arg0) = m ((c.tc : Thread Cert.CdPostIdeal.nD Cert.CdPostIdeal.τ).loc Cert.CdPostIdeal.main_arg0)
      ∧ m' ((c.tc : Thread Cert.CdPostReferenceIdeal.nD Cert.CdPostReferenceIdeal.τ).loc Cert.CdPostReferenceIdeal.main_arg1) = m ((c.tc : Thread Cert.CdPostIdeal.nD Cert.CdPostIdeal.τ).loc Cert.CdPostIdeal.main_arg1)
      ∧ m' ((c.tc : Thread Cert.CdPostReferenceIdeal.nD Cert.CdPostReferenceIdeal.τ).loc Cert.CdPostReferenceIdeal.main_arg2) = m ((c.tc : Thread Cert.CdPostIdeal.nD Cert.CdPostIdeal.τ).loc Cert.CdPostIdeal.main_arg2)) →
    ∃ (v0 : (c : Dev Cert.CdPostIdeal.nD) → Buf (Elt Ideal) ((c.tc : Thread Cert.CdPostIdeal.nD Cert.CdPostIdeal.τ).loc Cert.CdPostIdeal.main_v0)),
      θ_run (Cert.CdPostIdeal.defs (F := Ideal)) (onTc (τ := Cert.CdPostIdeal.τ) (Cert.CdPostIdeal.main (F := Ideal))) ⟨m, fun _ => 0, g⟩ (fun r => ∀ c : Dev Cert.CdPostIdeal.nD,
          r.2.mem ((c.tc : Thread Cert.CdPostIdeal.nD Cert.CdPostIdeal.τ).loc Cert.CdPostIdeal.main_v0) = v0 c
          ∧ r.2.mem ((c.tc : Thread Cert.CdPostIdeal.nD Cert.CdPostIdeal.τ).loc Cert.CdPostIdeal.main_arg0) = m ((c.tc : Thread Cert.CdPostIdeal.nD Cert.CdPostIdeal.τ).loc Cert.CdPostIdeal.main_arg0)
          ∧ r.2.mem ((c.tc : Thread Cert.CdPostIdeal.nD Cert.CdPostIdeal.τ).loc Cert.CdPostIdeal.main_arg1) = m ((c.tc : Thread Cert.CdPostIdeal.nD Cert.CdPostIdeal.τ).loc Cert.CdPostIdeal.main_arg1)
          ∧ r.2.mem ((c.tc : Thread Cert.CdPostIdeal.nD Cert.CdPostIdeal.τ).loc Cert.CdPostIdeal.main_arg2) = m ((c.tc : Thread Cert.CdPostIdeal.nD Cert.CdPostIdeal.τ).loc Cert.CdPostIdeal.main_arg2))
      ∧ θ_run (Cert.CdPostReferenceIdeal.defs (F := Ideal)) (onTc (τ := Cert.CdPostReferenceIdeal.τ) (Cert.CdPostReferenceIdeal.main (F := Ideal))) ⟨m', fun _ => 0, g'⟩ (fun r => ∀ c : Dev Cert.CdPostReferenceIdeal.nD,
          r.2.mem ((c.tc : Thread Cert.CdPostReferenceIdeal.nD Cert.CdPostReferenceIdeal.τ).loc Cert.CdPostReferenceIdeal.main_v17) = v0 c
          ∧ r.2.mem ((c.tc : Thread Cert.CdPostReferenceIdeal.nD Cert.CdPostReferenceIdeal.τ).loc Cert.CdPostReferenceIdeal.main_arg0) = m' ((c.tc : Thread Cert.CdPostReferenceIdeal.nD Cert.CdPostReferenceIdeal.τ).loc Cert.CdPostReferenceIdeal.main_arg0)
          ∧ r.2.mem ((c.tc : Thread Cert.CdPostReferenceIdeal.nD Cert.CdPostReferenceIdeal.τ).loc Cert.CdPostReferenceIdeal.main_arg1) = m' ((c.tc : Thread Cert.CdPostReferenceIdeal.nD Cert.CdPostReferenceIdeal.τ).loc Cert.CdPostReferenceIdeal.main_arg1)
          ∧ r.2.mem ((c.tc : Thread Cert.CdPostReferenceIdeal.nD Cert.CdPostReferenceIdeal.τ).loc Cert.CdPostReferenceIdeal.main_arg2) = m' ((c.tc : Thread Cert.CdPostReferenceIdeal.nD Cert.CdPostReferenceIdeal.τ).loc Cert.CdPostReferenceIdeal.main_arg2))

def preserves_CdPostBwd_CdPostBwdIdeal : Prop :=
  True

def algebraic_CdPostBwdIdeal_CdPostBwdReferenceIdeal [hCdPostBwdIdeal : Cert.CdPostBwdIdeal.Facts] [hCdPostBwdReferenceIdeal : Cert.CdPostBwdReferenceIdeal.Facts] : Prop :=
  ∀ (m : (ℓ : Loc Cert.CdPostBwdIdeal.nD Cert.CdPostBwdIdeal.τ Cert.CdPostBwdIdeal.sig) → Buf (Elt Ideal) ℓ) (g : Dev Cert.CdPostBwdIdeal.nD → PrngReg)
    (m' : (ℓ : Loc Cert.CdPostBwdReferenceIdeal.nD Cert.CdPostBwdReferenceIdeal.τ Cert.CdPostBwdReferenceIdeal.sig) → Buf (Elt Ideal) ℓ) (g' : Dev Cert.CdPostBwdReferenceIdeal.nD → PrngReg), Pre_CdPostBwdIdeal m →
    (∀ c : Dev Cert.CdPostBwdIdeal.nD,
      m' ((c.tc : Thread Cert.CdPostBwdReferenceIdeal.nD Cert.CdPostBwdReferenceIdeal.τ).loc Cert.CdPostBwdReferenceIdeal.main_arg0) = m ((c.tc : Thread Cert.CdPostBwdIdeal.nD Cert.CdPostBwdIdeal.τ).loc Cert.CdPostBwdIdeal.main_arg0)
      ∧ m' ((c.tc : Thread Cert.CdPostBwdReferenceIdeal.nD Cert.CdPostBwdReferenceIdeal.τ).loc Cert.CdPostBwdReferenceIdeal.main_arg1) = m ((c.tc : Thread Cert.CdPostBwdIdeal.nD Cert.CdPostBwdIdeal.τ).loc Cert.CdPostBwdIdeal.main_arg1)
      ∧ m' ((c.tc : Thread Cert.CdPostBwdReferenceIdeal.nD Cert.CdPostBwdReferenceIdeal.τ).loc Cert.CdPostBwdReferenceIdeal.main_arg2) = m ((c.tc : Thread Cert.CdPostBwdIdeal.nD Cert.CdPostBwdIdeal.τ).loc Cert.CdPostBwdIdeal.main_arg2)
      ∧ m' ((c.tc : Thread Cert.CdPostBwdReferenceIdeal.nD Cert.CdPostBwdReferenceIdeal.τ).loc Cert.CdPostBwdReferenceIdeal.main_arg3) = m ((c.tc : Thread Cert.CdPostBwdIdeal.nD Cert.CdPostBwdIdeal.τ).loc Cert.CdPostBwdIdeal.main_arg3)) →
    ∃ (v0 : (c : Dev Cert.CdPostBwdIdeal.nD) → Buf (Elt Ideal) ((c.tc : Thread Cert.CdPostBwdIdeal.nD Cert.CdPostBwdIdeal.τ).loc Cert.CdPostBwdIdeal.main_v0_0)) (v1 : (c : Dev Cert.CdPostBwdIdeal.nD) → Buf (Elt Ideal) ((c.tc : Thread Cert.CdPostBwdIdeal.nD Cert.CdPostBwdIdeal.τ).loc Cert.CdPostBwdIdeal.main_v0_1)) (v2 : (c : Dev Cert.CdPostBwdIdeal.nD) → Buf (Elt Ideal) ((c.tc : Thread Cert.CdPostBwdIdeal.nD Cert.CdPostBwdIdeal.τ).loc Cert.CdPostBwdIdeal.main_v1)),
      θ_run (Cert.CdPostBwdIdeal.defs (F := Ideal)) (onTc (τ := Cert.CdPostBwdIdeal.τ) (Cert.CdPostBwdIdeal.main (F := Ideal))) ⟨m, fun _ => 0, g⟩ (fun r => ∀ c : Dev Cert.CdPostBwdIdeal.nD,
          r.2.mem ((c.tc : Thread Cert.CdPostBwdIdeal.nD Cert.CdPostBwdIdeal.τ).loc Cert.CdPostBwdIdeal.main_v0_0) = v0 c
          ∧ r.2.mem ((c.tc : Thread Cert.CdPostBwdIdeal.nD Cert.CdPostBwdIdeal.τ).loc Cert.CdPostBwdIdeal.main_v0_1) = v1 c
          ∧ r.2.mem ((c.tc : Thread Cert.CdPostBwdIdeal.nD Cert.CdPostBwdIdeal.τ).loc Cert.CdPostBwdIdeal.main_v1) = v2 c
          ∧ r.2.mem ((c.tc : Thread Cert.CdPostBwdIdeal.nD Cert.CdPostBwdIdeal.τ).loc Cert.CdPostBwdIdeal.main_arg0) = m ((c.tc : Thread Cert.CdPostBwdIdeal.nD Cert.CdPostBwdIdeal.τ).loc Cert.CdPostBwdIdeal.main_arg0)
          ∧ r.2.mem ((c.tc : Thread Cert.CdPostBwdIdeal.nD Cert.CdPostBwdIdeal.τ).loc Cert.CdPostBwdIdeal.main_arg1) = m ((c.tc : Thread Cert.CdPostBwdIdeal.nD Cert.CdPostBwdIdeal.τ).loc Cert.CdPostBwdIdeal.main_arg1)
          ∧ r.2.mem ((c.tc : Thread Cert.CdPostBwdIdeal.nD Cert.CdPostBwdIdeal.τ).loc Cert.CdPostBwdIdeal.main_arg2) = m ((c.tc : Thread Cert.CdPostBwdIdeal.nD Cert.CdPostBwdIdeal.τ).loc Cert.CdPostBwdIdeal.main_arg2)
          ∧ r.2.mem ((c.tc : Thread Cert.CdPostBwdIdeal.nD Cert.CdPostBwdIdeal.τ).loc Cert.CdPostBwdIdeal.main_arg3) = m ((c.tc : Thread Cert.CdPostBwdIdeal.nD Cert.CdPostBwdIdeal.τ).loc Cert.CdPostBwdIdeal.main_arg3))
      ∧ θ_run (Cert.CdPostBwdReferenceIdeal.defs (F := Ideal)) (onTc (τ := Cert.CdPostBwdReferenceIdeal.τ) (Cert.CdPostBwdReferenceIdeal.main (F := Ideal))) ⟨m', fun _ => 0, g'⟩ (fun r => ∀ c : Dev Cert.CdPostBwdReferenceIdeal.nD,
          r.2.mem ((c.tc : Thread Cert.CdPostBwdReferenceIdeal.nD Cert.CdPostBwdReferenceIdeal.τ).loc Cert.CdPostBwdReferenceIdeal.main_v25) = v0 c
          ∧ r.2.mem ((c.tc : Thread Cert.CdPostBwdReferenceIdeal.nD Cert.CdPostBwdReferenceIdeal.τ).loc Cert.CdPostBwdReferenceIdeal.main_v28) = v1 c
          ∧ r.2.mem ((c.tc : Thread Cert.CdPostBwdReferenceIdeal.nD Cert.CdPostBwdReferenceIdeal.τ).loc Cert.CdPostBwdReferenceIdeal.main_v41) = v2 c
          ∧ r.2.mem ((c.tc : Thread Cert.CdPostBwdReferenceIdeal.nD Cert.CdPostBwdReferenceIdeal.τ).loc Cert.CdPostBwdReferenceIdeal.main_arg0) = m' ((c.tc : Thread Cert.CdPostBwdReferenceIdeal.nD Cert.CdPostBwdReferenceIdeal.τ).loc Cert.CdPostBwdReferenceIdeal.main_arg0)
          ∧ r.2.mem ((c.tc : Thread Cert.CdPostBwdReferenceIdeal.nD Cert.CdPostBwdReferenceIdeal.τ).loc Cert.CdPostBwdReferenceIdeal.main_arg1) = m' ((c.tc : Thread Cert.CdPostBwdReferenceIdeal.nD Cert.CdPostBwdReferenceIdeal.τ).loc Cert.CdPostBwdReferenceIdeal.main_arg1)
          ∧ r.2.mem ((c.tc : Thread Cert.CdPostBwdReferenceIdeal.nD Cert.CdPostBwdReferenceIdeal.τ).loc Cert.CdPostBwdReferenceIdeal.main_arg2) = m' ((c.tc : Thread Cert.CdPostBwdReferenceIdeal.nD Cert.CdPostBwdReferenceIdeal.τ).loc Cert.CdPostBwdReferenceIdeal.main_arg2)
          ∧ r.2.mem ((c.tc : Thread Cert.CdPostBwdReferenceIdeal.nD Cert.CdPostBwdReferenceIdeal.τ).loc Cert.CdPostBwdReferenceIdeal.main_arg3) = m' ((c.tc : Thread Cert.CdPostBwdReferenceIdeal.nD Cert.CdPostBwdReferenceIdeal.τ).loc Cert.CdPostBwdReferenceIdeal.main_arg3))

def preserves_RgConv_RgConvIdeal : Prop :=
  True

def algebraic_RgConvIdeal_RgConvReferenceIdeal [hRgConvIdeal : Cert.RgConvIdeal.Facts] [hRgConvReferenceIdeal : Cert.RgConvReferenceIdeal.Facts] : Prop :=
  ∀ (m : (ℓ : Loc Cert.RgConvIdeal.nD Cert.RgConvIdeal.τ Cert.RgConvIdeal.sig) → Buf (Elt Ideal) ℓ) (g : Dev Cert.RgConvIdeal.nD → PrngReg)
    (m' : (ℓ : Loc Cert.RgConvReferenceIdeal.nD Cert.RgConvReferenceIdeal.τ Cert.RgConvReferenceIdeal.sig) → Buf (Elt Ideal) ℓ) (g' : Dev Cert.RgConvReferenceIdeal.nD → PrngReg), Pre_RgConvIdeal m →
    (∀ c : Dev Cert.RgConvIdeal.nD,
      m' ((c.tc : Thread Cert.RgConvReferenceIdeal.nD Cert.RgConvReferenceIdeal.τ).loc Cert.RgConvReferenceIdeal.main_arg0) = m ((c.tc : Thread Cert.RgConvIdeal.nD Cert.RgConvIdeal.τ).loc Cert.RgConvIdeal.main_arg0)
      ∧ m' ((c.tc : Thread Cert.RgConvReferenceIdeal.nD Cert.RgConvReferenceIdeal.τ).loc Cert.RgConvReferenceIdeal.main_arg1) = m ((c.tc : Thread Cert.RgConvIdeal.nD Cert.RgConvIdeal.τ).loc Cert.RgConvIdeal.main_arg1)
      ∧ m' ((c.tc : Thread Cert.RgConvReferenceIdeal.nD Cert.RgConvReferenceIdeal.τ).loc Cert.RgConvReferenceIdeal.main_arg2) = m ((c.tc : Thread Cert.RgConvIdeal.nD Cert.RgConvIdeal.τ).loc Cert.RgConvIdeal.main_arg2)) →
    ∃ (v0 : (c : Dev Cert.RgConvIdeal.nD) → Buf (Elt Ideal) ((c.tc : Thread Cert.RgConvIdeal.nD Cert.RgConvIdeal.τ).loc Cert.RgConvIdeal.main_v13_0)),
      θ_run (Cert.RgConvIdeal.defs (F := Ideal)) (onTc (τ := Cert.RgConvIdeal.τ) (Cert.RgConvIdeal.main (F := Ideal))) ⟨m, fun _ => 0, g⟩ (fun r => ∀ c : Dev Cert.RgConvIdeal.nD,
          r.2.mem ((c.tc : Thread Cert.RgConvIdeal.nD Cert.RgConvIdeal.τ).loc Cert.RgConvIdeal.main_v13_0) = v0 c
          ∧ r.2.mem ((c.tc : Thread Cert.RgConvIdeal.nD Cert.RgConvIdeal.τ).loc Cert.RgConvIdeal.main_arg0) = m ((c.tc : Thread Cert.RgConvIdeal.nD Cert.RgConvIdeal.τ).loc Cert.RgConvIdeal.main_arg0)
          ∧ r.2.mem ((c.tc : Thread Cert.RgConvIdeal.nD Cert.RgConvIdeal.τ).loc Cert.RgConvIdeal.main_arg1) = m ((c.tc : Thread Cert.RgConvIdeal.nD Cert.RgConvIdeal.τ).loc Cert.RgConvIdeal.main_arg1)
          ∧ r.2.mem ((c.tc : Thread Cert.RgConvIdeal.nD Cert.RgConvIdeal.τ).loc Cert.RgConvIdeal.main_arg2) = m ((c.tc : Thread Cert.RgConvIdeal.nD Cert.RgConvIdeal.τ).loc Cert.RgConvIdeal.main_arg2))
      ∧ θ_run (Cert.RgConvReferenceIdeal.defs (F := Ideal)) (onTc (τ := Cert.RgConvReferenceIdeal.τ) (Cert.RgConvReferenceIdeal.main (F := Ideal))) ⟨m', fun _ => 0, g'⟩ (fun r => ∀ c : Dev Cert.RgConvReferenceIdeal.nD,
          r.2.mem ((c.tc : Thread Cert.RgConvReferenceIdeal.nD Cert.RgConvReferenceIdeal.τ).loc Cert.RgConvReferenceIdeal.main_v35) = v0 c
          ∧ r.2.mem ((c.tc : Thread Cert.RgConvReferenceIdeal.nD Cert.RgConvReferenceIdeal.τ).loc Cert.RgConvReferenceIdeal.main_arg0) = m' ((c.tc : Thread Cert.RgConvReferenceIdeal.nD Cert.RgConvReferenceIdeal.τ).loc Cert.RgConvReferenceIdeal.main_arg0)
          ∧ r.2.mem ((c.tc : Thread Cert.RgConvReferenceIdeal.nD Cert.RgConvReferenceIdeal.τ).loc Cert.RgConvReferenceIdeal.main_arg1) = m' ((c.tc : Thread Cert.RgConvReferenceIdeal.nD Cert.RgConvReferenceIdeal.τ).loc Cert.RgConvReferenceIdeal.main_arg1)
          ∧ r.2.mem ((c.tc : Thread Cert.RgConvReferenceIdeal.nD Cert.RgConvReferenceIdeal.τ).loc Cert.RgConvReferenceIdeal.main_arg2) = m' ((c.tc : Thread Cert.RgConvReferenceIdeal.nD Cert.RgConvReferenceIdeal.τ).loc Cert.RgConvReferenceIdeal.main_arg2))

def preserves_RgConvBwd_RgConvBwdIdeal : Prop :=
  True

def algebraic_RgConvBwdIdeal_RgConvBwdReferenceIdeal [hRgConvBwdIdeal : Cert.RgConvBwdIdeal.Facts] [hRgConvBwdReferenceIdeal : Cert.RgConvBwdReferenceIdeal.Facts] : Prop :=
  ∀ (m : (ℓ : Loc Cert.RgConvBwdIdeal.nD Cert.RgConvBwdIdeal.τ Cert.RgConvBwdIdeal.sig) → Buf (Elt Ideal) ℓ) (g : Dev Cert.RgConvBwdIdeal.nD → PrngReg)
    (m' : (ℓ : Loc Cert.RgConvBwdReferenceIdeal.nD Cert.RgConvBwdReferenceIdeal.τ Cert.RgConvBwdReferenceIdeal.sig) → Buf (Elt Ideal) ℓ) (g' : Dev Cert.RgConvBwdReferenceIdeal.nD → PrngReg), Pre_RgConvBwdIdeal m →
    (∀ c : Dev Cert.RgConvBwdIdeal.nD,
      m' ((c.tc : Thread Cert.RgConvBwdReferenceIdeal.nD Cert.RgConvBwdReferenceIdeal.τ).loc Cert.RgConvBwdReferenceIdeal.main_arg0) = m ((c.tc : Thread Cert.RgConvBwdIdeal.nD Cert.RgConvBwdIdeal.τ).loc Cert.RgConvBwdIdeal.main_arg0)
      ∧ m' ((c.tc : Thread Cert.RgConvBwdReferenceIdeal.nD Cert.RgConvBwdReferenceIdeal.τ).loc Cert.RgConvBwdReferenceIdeal.main_arg1) = m ((c.tc : Thread Cert.RgConvBwdIdeal.nD Cert.RgConvBwdIdeal.τ).loc Cert.RgConvBwdIdeal.main_arg1)
      ∧ m' ((c.tc : Thread Cert.RgConvBwdReferenceIdeal.nD Cert.RgConvBwdReferenceIdeal.τ).loc Cert.RgConvBwdReferenceIdeal.main_arg2) = m ((c.tc : Thread Cert.RgConvBwdIdeal.nD Cert.RgConvBwdIdeal.τ).loc Cert.RgConvBwdIdeal.main_arg2)
      ∧ m' ((c.tc : Thread Cert.RgConvBwdReferenceIdeal.nD Cert.RgConvBwdReferenceIdeal.τ).loc Cert.RgConvBwdReferenceIdeal.main_arg3) = m ((c.tc : Thread Cert.RgConvBwdIdeal.nD Cert.RgConvBwdIdeal.τ).loc Cert.RgConvBwdIdeal.main_arg3)) →
    ∃ (v0 : (c : Dev Cert.RgConvBwdIdeal.nD) → Buf (Elt Ideal) ((c.tc : Thread Cert.RgConvBwdIdeal.nD Cert.RgConvBwdIdeal.τ).loc Cert.RgConvBwdIdeal.main_v27)) (v1 : (c : Dev Cert.RgConvBwdIdeal.nD) → Buf (Elt Ideal) ((c.tc : Thread Cert.RgConvBwdIdeal.nD Cert.RgConvBwdIdeal.τ).loc Cert.RgConvBwdIdeal.main_v36)) (v2 : (c : Dev Cert.RgConvBwdIdeal.nD) → Buf (Elt Ideal) ((c.tc : Thread Cert.RgConvBwdIdeal.nD Cert.RgConvBwdIdeal.τ).loc Cert.RgConvBwdIdeal.main_v37)),
      θ_run (Cert.RgConvBwdIdeal.defs (F := Ideal)) (onTc (τ := Cert.RgConvBwdIdeal.τ) (Cert.RgConvBwdIdeal.main (F := Ideal))) ⟨m, fun _ => 0, g⟩ (fun r => ∀ c : Dev Cert.RgConvBwdIdeal.nD,
          r.2.mem ((c.tc : Thread Cert.RgConvBwdIdeal.nD Cert.RgConvBwdIdeal.τ).loc Cert.RgConvBwdIdeal.main_v27) = v0 c
          ∧ r.2.mem ((c.tc : Thread Cert.RgConvBwdIdeal.nD Cert.RgConvBwdIdeal.τ).loc Cert.RgConvBwdIdeal.main_v36) = v1 c
          ∧ r.2.mem ((c.tc : Thread Cert.RgConvBwdIdeal.nD Cert.RgConvBwdIdeal.τ).loc Cert.RgConvBwdIdeal.main_v37) = v2 c
          ∧ r.2.mem ((c.tc : Thread Cert.RgConvBwdIdeal.nD Cert.RgConvBwdIdeal.τ).loc Cert.RgConvBwdIdeal.main_arg0) = m ((c.tc : Thread Cert.RgConvBwdIdeal.nD Cert.RgConvBwdIdeal.τ).loc Cert.RgConvBwdIdeal.main_arg0)
          ∧ r.2.mem ((c.tc : Thread Cert.RgConvBwdIdeal.nD Cert.RgConvBwdIdeal.τ).loc Cert.RgConvBwdIdeal.main_arg1) = m ((c.tc : Thread Cert.RgConvBwdIdeal.nD Cert.RgConvBwdIdeal.τ).loc Cert.RgConvBwdIdeal.main_arg1)
          ∧ r.2.mem ((c.tc : Thread Cert.RgConvBwdIdeal.nD Cert.RgConvBwdIdeal.τ).loc Cert.RgConvBwdIdeal.main_arg2) = m ((c.tc : Thread Cert.RgConvBwdIdeal.nD Cert.RgConvBwdIdeal.τ).loc Cert.RgConvBwdIdeal.main_arg2)
          ∧ r.2.mem ((c.tc : Thread Cert.RgConvBwdIdeal.nD Cert.RgConvBwdIdeal.τ).loc Cert.RgConvBwdIdeal.main_arg3) = m ((c.tc : Thread Cert.RgConvBwdIdeal.nD Cert.RgConvBwdIdeal.τ).loc Cert.RgConvBwdIdeal.main_arg3))
      ∧ θ_run (Cert.RgConvBwdReferenceIdeal.defs (F := Ideal)) (onTc (τ := Cert.RgConvBwdReferenceIdeal.τ) (Cert.RgConvBwdReferenceIdeal.main (F := Ideal))) ⟨m', fun _ => 0, g'⟩ (fun r => ∀ c : Dev Cert.RgConvBwdReferenceIdeal.nD,
          r.2.mem ((c.tc : Thread Cert.RgConvBwdReferenceIdeal.nD Cert.RgConvBwdReferenceIdeal.τ).loc Cert.RgConvBwdReferenceIdeal.main_v87) = v0 c
          ∧ r.2.mem ((c.tc : Thread Cert.RgConvBwdReferenceIdeal.nD Cert.RgConvBwdReferenceIdeal.τ).loc Cert.RgConvBwdReferenceIdeal.main_v82) = v1 c
          ∧ r.2.mem ((c.tc : Thread Cert.RgConvBwdReferenceIdeal.nD Cert.RgConvBwdReferenceIdeal.τ).loc Cert.RgConvBwdReferenceIdeal.main_v40) = v2 c
          ∧ r.2.mem ((c.tc : Thread Cert.RgConvBwdReferenceIdeal.nD Cert.RgConvBwdReferenceIdeal.τ).loc Cert.RgConvBwdReferenceIdeal.main_arg0) = m' ((c.tc : Thread Cert.RgConvBwdReferenceIdeal.nD Cert.RgConvBwdReferenceIdeal.τ).loc Cert.RgConvBwdReferenceIdeal.main_arg0)
          ∧ r.2.mem ((c.tc : Thread Cert.RgConvBwdReferenceIdeal.nD Cert.RgConvBwdReferenceIdeal.τ).loc Cert.RgConvBwdReferenceIdeal.main_arg1) = m' ((c.tc : Thread Cert.RgConvBwdReferenceIdeal.nD Cert.RgConvBwdReferenceIdeal.τ).loc Cert.RgConvBwdReferenceIdeal.main_arg1)
          ∧ r.2.mem ((c.tc : Thread Cert.RgConvBwdReferenceIdeal.nD Cert.RgConvBwdReferenceIdeal.τ).loc Cert.RgConvBwdReferenceIdeal.main_arg2) = m' ((c.tc : Thread Cert.RgConvBwdReferenceIdeal.nD Cert.RgConvBwdReferenceIdeal.τ).loc Cert.RgConvBwdReferenceIdeal.main_arg2)
          ∧ r.2.mem ((c.tc : Thread Cert.RgConvBwdReferenceIdeal.nD Cert.RgConvBwdReferenceIdeal.τ).loc Cert.RgConvBwdReferenceIdeal.main_arg3) = m' ((c.tc : Thread Cert.RgConvBwdReferenceIdeal.nD Cert.RgConvBwdReferenceIdeal.τ).loc Cert.RgConvBwdReferenceIdeal.main_arg3))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hMixOut : Cert.MixOut.Facts) (hMixOutIdeal : Cert.MixOutIdeal.Facts) (hMixOutReferenceIdeal : Cert.MixOutReferenceIdeal.Facts) (hFfnDownDx : Cert.FfnDownDx.Facts) (hFfnDownDxIdeal : Cert.FfnDownDxIdeal.Facts) (hFfnDownDxReferenceIdeal : Cert.FfnDownDxReferenceIdeal.Facts) (hMixOutDx : Cert.MixOutDx.Facts) (hMixOutDxIdeal : Cert.MixOutDxIdeal.Facts) (hMixOutDxReferenceIdeal : Cert.MixOutDxReferenceIdeal.Facts) (hFfnUpDxGate : Cert.FfnUpDxGate.Facts) (hFfnUpDxGateIdeal : Cert.FfnUpDxGateIdeal.Facts) (hFfnUpDxGateReferenceIdeal : Cert.FfnUpDxGateReferenceIdeal.Facts) (hFfnUpDxUp : Cert.FfnUpDxUp.Facts) (hFfnUpDxUpIdeal : Cert.FfnUpDxUpIdeal.Facts) (hFfnUpDxUpReferenceIdeal : Cert.FfnUpDxUpReferenceIdeal.Facts) (hCdInDx : Cert.CdInDx.Facts) (hCdInDxIdeal : Cert.CdInDxIdeal.Facts) (hCdInDxReferenceIdeal : Cert.CdInDxReferenceIdeal.Facts) (hAbInDx : Cert.AbInDx.Facts) (hAbInDxIdeal : Cert.AbInDxIdeal.Facts) (hAbInDxReferenceIdeal : Cert.AbInDxReferenceIdeal.Facts) (hFfnDownDw : Cert.FfnDownDw.Facts) (hFfnDownDwIdeal : Cert.FfnDownDwIdeal.Facts) (hFfnDownDwReferenceIdeal : Cert.FfnDownDwReferenceIdeal.Facts) (hMixOutDw : Cert.MixOutDw.Facts) (hMixOutDwIdeal : Cert.MixOutDwIdeal.Facts) (hMixOutDwReferenceIdeal : Cert.MixOutDwReferenceIdeal.Facts) (hFfnUpDwGate : Cert.FfnUpDwGate.Facts) (hFfnUpDwGateIdeal : Cert.FfnUpDwGateIdeal.Facts) (hFfnUpDwGateReferenceIdeal : Cert.FfnUpDwGateReferenceIdeal.Facts) (hFfnUpDwUp : Cert.FfnUpDwUp.Facts) (hFfnUpDwUpIdeal : Cert.FfnUpDwUpIdeal.Facts) (hFfnUpDwUpReferenceIdeal : Cert.FfnUpDwUpReferenceIdeal.Facts) (hAbIn : Cert.AbIn.Facts) (hAbInIdeal : Cert.AbInIdeal.Facts) (hAbInReferenceIdeal : Cert.AbInReferenceIdeal.Facts) (hCdIn : Cert.CdIn.Facts) (hCdInIdeal : Cert.CdInIdeal.Facts) (hCdInReferenceIdeal : Cert.CdInReferenceIdeal.Facts) (hAbInDw : Cert.AbInDw.Facts) (hAbInDwIdeal : Cert.AbInDwIdeal.Facts) (hAbInDwReferenceIdeal : Cert.AbInDwReferenceIdeal.Facts) (hCdInDw : Cert.CdInDw.Facts) (hCdInDwIdeal : Cert.CdInDwIdeal.Facts) (hCdInDwReferenceIdeal : Cert.CdInDwReferenceIdeal.Facts) (hLnBwd : Cert.LnBwd.Facts) (hLnBwdIdeal : Cert.LnBwdIdeal.Facts) (hLnBwdReferenceIdeal : Cert.LnBwdReferenceIdeal.Facts) (hAdamwAbOut : Cert.AdamwAbOut.Facts) (hAdamwAbOutIdeal : Cert.AdamwAbOutIdeal.Facts) (hAdamwAbOutReferenceIdeal : Cert.AdamwAbOutReferenceIdeal.Facts) (hAdamwAbIn : Cert.AdamwAbIn.Facts) (hAdamwAbInIdeal : Cert.AdamwAbInIdeal.Facts) (hAdamwAbInReferenceIdeal : Cert.AdamwAbInReferenceIdeal.Facts) (hAdamwCdIn : Cert.AdamwCdIn.Facts) (hAdamwCdInIdeal : Cert.AdamwCdInIdeal.Facts) (hAdamwCdInReferenceIdeal : Cert.AdamwCdInReferenceIdeal.Facts) (hAdamwFfnUp : Cert.AdamwFfnUp.Facts) (hAdamwFfnUpIdeal : Cert.AdamwFfnUpIdeal.Facts) (hAdamwFfnUpReferenceIdeal : Cert.AdamwFfnUpReferenceIdeal.Facts) (hAdamwFfnDown : Cert.AdamwFfnDown.Facts) (hAdamwFfnDownIdeal : Cert.AdamwFfnDownIdeal.Facts) (hAdamwFfnDownReferenceIdeal : Cert.AdamwFfnDownReferenceIdeal.Facts) (hLoss : Cert.Loss.Facts) (hLossIdeal : Cert.LossIdeal.Facts) (hLossReferenceIdeal : Cert.LossReferenceIdeal.Facts) (hLnFwd : Cert.LnFwd.Facts) (hLnFwdIdeal : Cert.LnFwdIdeal.Facts) (hLnFwdReferenceIdeal : Cert.LnFwdReferenceIdeal.Facts) (hCdPost : Cert.CdPost.Facts) (hCdPostIdeal : Cert.CdPostIdeal.Facts) (hCdPostReferenceIdeal : Cert.CdPostReferenceIdeal.Facts) (hCdPostBwd : Cert.CdPostBwd.Facts) (hCdPostBwdIdeal : Cert.CdPostBwdIdeal.Facts) (hCdPostBwdReferenceIdeal : Cert.CdPostBwdReferenceIdeal.Facts) (hRgConv : Cert.RgConv.Facts) (hRgConvIdeal : Cert.RgConvIdeal.Facts) (hRgConvReferenceIdeal : Cert.RgConvReferenceIdeal.Facts) (hRgConvBwd : Cert.RgConvBwd.Facts) (hRgConvBwdIdeal : Cert.RgConvBwdIdeal.Facts) (hRgConvBwdReferenceIdeal : Cert.RgConvBwdReferenceIdeal.Facts) (hPre_finite : Cert.Pre_finite.Facts) (hPre_finite_ln : Cert.Pre_finite_ln.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_FfnDownDx (hFfnDownDx := hFfnDownDx)
    ∧ quiescent_FfnDownDxIdeal (hFfnDownDxIdeal := hFfnDownDxIdeal)
    ∧ quiescent_FfnDownDxReferenceIdeal (hFfnDownDxReferenceIdeal := hFfnDownDxReferenceIdeal)
    ∧ quiescent_MixOutDx (hMixOutDx := hMixOutDx)
    ∧ quiescent_MixOutDxIdeal (hMixOutDxIdeal := hMixOutDxIdeal)
    ∧ quiescent_MixOutDxReferenceIdeal (hMixOutDxReferenceIdeal := hMixOutDxReferenceIdeal)
    ∧ quiescent_FfnUpDxGate (hFfnUpDxGate := hFfnUpDxGate)
    ∧ quiescent_FfnUpDxGateIdeal (hFfnUpDxGateIdeal := hFfnUpDxGateIdeal)
    ∧ quiescent_FfnUpDxGateReferenceIdeal (hFfnUpDxGateReferenceIdeal := hFfnUpDxGateReferenceIdeal)
    ∧ quiescent_FfnUpDxUp (hFfnUpDxUp := hFfnUpDxUp)
    ∧ quiescent_FfnUpDxUpIdeal (hFfnUpDxUpIdeal := hFfnUpDxUpIdeal)
    ∧ quiescent_FfnUpDxUpReferenceIdeal (hFfnUpDxUpReferenceIdeal := hFfnUpDxUpReferenceIdeal)
    ∧ quiescent_CdInDx (hCdInDx := hCdInDx)
    ∧ quiescent_CdInDxIdeal (hCdInDxIdeal := hCdInDxIdeal)
    ∧ quiescent_CdInDxReferenceIdeal (hCdInDxReferenceIdeal := hCdInDxReferenceIdeal)
    ∧ quiescent_AbInDx (hAbInDx := hAbInDx)
    ∧ quiescent_AbInDxIdeal (hAbInDxIdeal := hAbInDxIdeal)
    ∧ quiescent_AbInDxReferenceIdeal (hAbInDxReferenceIdeal := hAbInDxReferenceIdeal)
    ∧ quiescent_FfnDownDw (hFfnDownDw := hFfnDownDw)
    ∧ quiescent_FfnDownDwIdeal (hFfnDownDwIdeal := hFfnDownDwIdeal)
    ∧ quiescent_FfnDownDwReferenceIdeal (hFfnDownDwReferenceIdeal := hFfnDownDwReferenceIdeal)
    ∧ quiescent_MixOutDw (hMixOutDw := hMixOutDw)
    ∧ quiescent_MixOutDwIdeal (hMixOutDwIdeal := hMixOutDwIdeal)
    ∧ quiescent_MixOutDwReferenceIdeal (hMixOutDwReferenceIdeal := hMixOutDwReferenceIdeal)
    ∧ quiescent_FfnUpDwGate (hFfnUpDwGate := hFfnUpDwGate)
    ∧ quiescent_FfnUpDwGateIdeal (hFfnUpDwGateIdeal := hFfnUpDwGateIdeal)
    ∧ quiescent_FfnUpDwGateReferenceIdeal (hFfnUpDwGateReferenceIdeal := hFfnUpDwGateReferenceIdeal)
    ∧ quiescent_FfnUpDwUp (hFfnUpDwUp := hFfnUpDwUp)
    ∧ quiescent_FfnUpDwUpIdeal (hFfnUpDwUpIdeal := hFfnUpDwUpIdeal)
    ∧ quiescent_FfnUpDwUpReferenceIdeal (hFfnUpDwUpReferenceIdeal := hFfnUpDwUpReferenceIdeal)
    ∧ quiescent_AbIn (hAbIn := hAbIn)
    ∧ quiescent_AbInIdeal (hAbInIdeal := hAbInIdeal)
    ∧ quiescent_AbInReferenceIdeal (hAbInReferenceIdeal := hAbInReferenceIdeal)
    ∧ quiescent_CdIn (hCdIn := hCdIn)
    ∧ quiescent_CdInIdeal (hCdInIdeal := hCdInIdeal)
    ∧ quiescent_CdInReferenceIdeal (hCdInReferenceIdeal := hCdInReferenceIdeal)
    ∧ quiescent_AbInDw (hAbInDw := hAbInDw)
    ∧ quiescent_AbInDwIdeal (hAbInDwIdeal := hAbInDwIdeal)
    ∧ quiescent_AbInDwReferenceIdeal (hAbInDwReferenceIdeal := hAbInDwReferenceIdeal)
    ∧ quiescent_CdInDw (hCdInDw := hCdInDw)
    ∧ quiescent_CdInDwIdeal (hCdInDwIdeal := hCdInDwIdeal)
    ∧ quiescent_CdInDwReferenceIdeal (hCdInDwReferenceIdeal := hCdInDwReferenceIdeal)
    ∧ quiescent_LnBwd (hLnBwd := hLnBwd)
    ∧ quiescent_LnBwdIdeal (hLnBwdIdeal := hLnBwdIdeal)
    ∧ quiescent_LnBwdIdeal_pre_finite_ln (hLnBwdIdeal := hLnBwdIdeal) (hPre_finite_ln := hPre_finite_ln)
    ∧ quiescent_LnBwdReferenceIdeal (hLnBwdReferenceIdeal := hLnBwdReferenceIdeal)
    ∧ quiescent_LnBwdReferenceIdeal_pre_finite_ln (hLnBwdReferenceIdeal := hLnBwdReferenceIdeal) (hPre_finite_ln := hPre_finite_ln)
    ∧ quiescent_AdamwAbOut (hAdamwAbOut := hAdamwAbOut)
    ∧ quiescent_AdamwAbOutIdeal (hAdamwAbOutIdeal := hAdamwAbOutIdeal)
    ∧ quiescent_AdamwAbOutReferenceIdeal (hAdamwAbOutReferenceIdeal := hAdamwAbOutReferenceIdeal)
    ∧ quiescent_AdamwAbIn (hAdamwAbIn := hAdamwAbIn)
    ∧ quiescent_AdamwAbInIdeal (hAdamwAbInIdeal := hAdamwAbInIdeal)
    ∧ quiescent_AdamwAbInReferenceIdeal (hAdamwAbInReferenceIdeal := hAdamwAbInReferenceIdeal)
    ∧ quiescent_AdamwCdIn (hAdamwCdIn := hAdamwCdIn)
    ∧ quiescent_AdamwCdInIdeal (hAdamwCdInIdeal := hAdamwCdInIdeal)
    ∧ quiescent_AdamwCdInReferenceIdeal (hAdamwCdInReferenceIdeal := hAdamwCdInReferenceIdeal)
    ∧ quiescent_AdamwFfnUp (hAdamwFfnUp := hAdamwFfnUp)
    ∧ quiescent_AdamwFfnUpIdeal (hAdamwFfnUpIdeal := hAdamwFfnUpIdeal)
    ∧ quiescent_AdamwFfnUpReferenceIdeal (hAdamwFfnUpReferenceIdeal := hAdamwFfnUpReferenceIdeal)
    ∧ quiescent_AdamwFfnDown (hAdamwFfnDown := hAdamwFfnDown)
    ∧ quiescent_AdamwFfnDownIdeal (hAdamwFfnDownIdeal := hAdamwFfnDownIdeal)
    ∧ quiescent_AdamwFfnDownReferenceIdeal (hAdamwFfnDownReferenceIdeal := hAdamwFfnDownReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_LnFwd (hLnFwd := hLnFwd)
    ∧ quiescent_LnFwdIdeal (hLnFwdIdeal := hLnFwdIdeal)
    ∧ quiescent_LnFwdReferenceIdeal (hLnFwdReferenceIdeal := hLnFwdReferenceIdeal)
    ∧ quiescent_CdPost (hCdPost := hCdPost)
    ∧ quiescent_CdPostIdeal (hCdPostIdeal := hCdPostIdeal)
    ∧ quiescent_CdPostReferenceIdeal (hCdPostReferenceIdeal := hCdPostReferenceIdeal)
    ∧ quiescent_CdPostBwd (hCdPostBwd := hCdPostBwd)
    ∧ quiescent_CdPostBwdIdeal (hCdPostBwdIdeal := hCdPostBwdIdeal)
    ∧ quiescent_CdPostBwdReferenceIdeal (hCdPostBwdReferenceIdeal := hCdPostBwdReferenceIdeal)
    ∧ quiescent_RgConv (hRgConv := hRgConv)
    ∧ quiescent_RgConvIdeal (hRgConvIdeal := hRgConvIdeal)
    ∧ quiescent_RgConvReferenceIdeal (hRgConvReferenceIdeal := hRgConvReferenceIdeal)
    ∧ quiescent_RgConvBwd (hRgConvBwd := hRgConvBwd)
    ∧ quiescent_RgConvBwdIdeal (hRgConvBwdIdeal := hRgConvBwdIdeal)
    ∧ quiescent_RgConvBwdReferenceIdeal (hRgConvBwdReferenceIdeal := hRgConvBwdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_MixOut_MixOutIdeal
    ∧ algebraic_MixOutIdeal_MixOutReferenceIdeal (hMixOutIdeal := hMixOutIdeal) (hMixOutReferenceIdeal := hMixOutReferenceIdeal)
    ∧ preserves_FfnDownDx_FfnDownDxIdeal
    ∧ algebraic_FfnDownDxIdeal_FfnDownDxReferenceIdeal (hFfnDownDxIdeal := hFfnDownDxIdeal) (hFfnDownDxReferenceIdeal := hFfnDownDxReferenceIdeal)
    ∧ preserves_MixOutDx_MixOutDxIdeal
    ∧ algebraic_MixOutDxIdeal_MixOutDxReferenceIdeal (hMixOutDxIdeal := hMixOutDxIdeal) (hMixOutDxReferenceIdeal := hMixOutDxReferenceIdeal)
    ∧ preserves_FfnUpDxGate_FfnUpDxGateIdeal
    ∧ algebraic_FfnUpDxGateIdeal_FfnUpDxGateReferenceIdeal (hFfnUpDxGateIdeal := hFfnUpDxGateIdeal) (hFfnUpDxGateReferenceIdeal := hFfnUpDxGateReferenceIdeal)
    ∧ preserves_FfnUpDxUp_FfnUpDxUpIdeal
    ∧ algebraic_FfnUpDxUpIdeal_FfnUpDxUpReferenceIdeal (hFfnUpDxUpIdeal := hFfnUpDxUpIdeal) (hFfnUpDxUpReferenceIdeal := hFfnUpDxUpReferenceIdeal)
    ∧ preserves_CdInDx_CdInDxIdeal
    ∧ algebraic_CdInDxIdeal_CdInDxReferenceIdeal (hCdInDxIdeal := hCdInDxIdeal) (hCdInDxReferenceIdeal := hCdInDxReferenceIdeal)
    ∧ preserves_AbInDx_AbInDxIdeal
    ∧ algebraic_AbInDxIdeal_AbInDxReferenceIdeal (hAbInDxIdeal := hAbInDxIdeal) (hAbInDxReferenceIdeal := hAbInDxReferenceIdeal)
    ∧ preserves_FfnDownDw_FfnDownDwIdeal
    ∧ algebraic_FfnDownDwIdeal_FfnDownDwReferenceIdeal (hFfnDownDwIdeal := hFfnDownDwIdeal) (hFfnDownDwReferenceIdeal := hFfnDownDwReferenceIdeal)
    ∧ preserves_MixOutDw_MixOutDwIdeal
    ∧ algebraic_MixOutDwIdeal_MixOutDwReferenceIdeal (hMixOutDwIdeal := hMixOutDwIdeal) (hMixOutDwReferenceIdeal := hMixOutDwReferenceIdeal)
    ∧ preserves_FfnUpDwGate_FfnUpDwGateIdeal
    ∧ algebraic_FfnUpDwGateIdeal_FfnUpDwGateReferenceIdeal (hFfnUpDwGateIdeal := hFfnUpDwGateIdeal) (hFfnUpDwGateReferenceIdeal := hFfnUpDwGateReferenceIdeal)
    ∧ preserves_FfnUpDwUp_FfnUpDwUpIdeal
    ∧ algebraic_FfnUpDwUpIdeal_FfnUpDwUpReferenceIdeal (hFfnUpDwUpIdeal := hFfnUpDwUpIdeal) (hFfnUpDwUpReferenceIdeal := hFfnUpDwUpReferenceIdeal)
    ∧ preserves_AbIn_AbInIdeal
    ∧ algebraic_AbInIdeal_AbInReferenceIdeal (hAbInIdeal := hAbInIdeal) (hAbInReferenceIdeal := hAbInReferenceIdeal)
    ∧ preserves_CdIn_CdInIdeal
    ∧ algebraic_CdInIdeal_CdInReferenceIdeal (hCdInIdeal := hCdInIdeal) (hCdInReferenceIdeal := hCdInReferenceIdeal)
    ∧ preserves_AbInDw_AbInDwIdeal
    ∧ algebraic_AbInDwIdeal_AbInDwReferenceIdeal (hAbInDwIdeal := hAbInDwIdeal) (hAbInDwReferenceIdeal := hAbInDwReferenceIdeal)
    ∧ preserves_CdInDw_CdInDwIdeal
    ∧ algebraic_CdInDwIdeal_CdInDwReferenceIdeal (hCdInDwIdeal := hCdInDwIdeal) (hCdInDwReferenceIdeal := hCdInDwReferenceIdeal)
    ∧ preserves_LnBwd_LnBwdIdeal
    ∧ algebraic_LnBwdIdeal_LnBwdReferenceIdeal_pre_finite_ln (hLnBwdIdeal := hLnBwdIdeal) (hLnBwdReferenceIdeal := hLnBwdReferenceIdeal) (hPre_finite_ln := hPre_finite_ln)
    ∧ preserves_AdamwAbOut_AdamwAbOutIdeal
    ∧ algebraic_AdamwAbOutIdeal_AdamwAbOutReferenceIdeal (hAdamwAbOutIdeal := hAdamwAbOutIdeal) (hAdamwAbOutReferenceIdeal := hAdamwAbOutReferenceIdeal)
    ∧ preserves_AdamwAbIn_AdamwAbInIdeal
    ∧ algebraic_AdamwAbInIdeal_AdamwAbInReferenceIdeal (hAdamwAbInIdeal := hAdamwAbInIdeal) (hAdamwAbInReferenceIdeal := hAdamwAbInReferenceIdeal)
    ∧ preserves_AdamwCdIn_AdamwCdInIdeal
    ∧ algebraic_AdamwCdInIdeal_AdamwCdInReferenceIdeal (hAdamwCdInIdeal := hAdamwCdInIdeal) (hAdamwCdInReferenceIdeal := hAdamwCdInReferenceIdeal)
    ∧ preserves_AdamwFfnUp_AdamwFfnUpIdeal
    ∧ algebraic_AdamwFfnUpIdeal_AdamwFfnUpReferenceIdeal (hAdamwFfnUpIdeal := hAdamwFfnUpIdeal) (hAdamwFfnUpReferenceIdeal := hAdamwFfnUpReferenceIdeal)
    ∧ preserves_AdamwFfnDown_AdamwFfnDownIdeal
    ∧ algebraic_AdamwFfnDownIdeal_AdamwFfnDownReferenceIdeal (hAdamwFfnDownIdeal := hAdamwFfnDownIdeal) (hAdamwFfnDownReferenceIdeal := hAdamwFfnDownReferenceIdeal)
    ∧ preserves_Loss_LossIdeal
    ∧ algebraic_LossIdeal_LossReferenceIdeal (hLossIdeal := hLossIdeal) (hLossReferenceIdeal := hLossReferenceIdeal)
    ∧ preserves_LnFwd_LnFwdIdeal
    ∧ algebraic_LnFwdIdeal_LnFwdReferenceIdeal (hLnFwdIdeal := hLnFwdIdeal) (hLnFwdReferenceIdeal := hLnFwdReferenceIdeal)
    ∧ preserves_CdPost_CdPostIdeal
    ∧ algebraic_CdPostIdeal_CdPostReferenceIdeal (hCdPostIdeal := hCdPostIdeal) (hCdPostReferenceIdeal := hCdPostReferenceIdeal)
    ∧ preserves_CdPostBwd_CdPostBwdIdeal
    ∧ algebraic_CdPostBwdIdeal_CdPostBwdReferenceIdeal (hCdPostBwdIdeal := hCdPostBwdIdeal) (hCdPostBwdReferenceIdeal := hCdPostBwdReferenceIdeal)
    ∧ preserves_RgConv_RgConvIdeal
    ∧ algebraic_RgConvIdeal_RgConvReferenceIdeal (hRgConvIdeal := hRgConvIdeal) (hRgConvReferenceIdeal := hRgConvReferenceIdeal)
    ∧ preserves_RgConvBwd_RgConvBwdIdeal
    ∧ algebraic_RgConvBwdIdeal_RgConvBwdReferenceIdeal (hRgConvBwdIdeal := hRgConvBwdIdeal) (hRgConvBwdReferenceIdeal := hRgConvBwdReferenceIdeal)
-- ==== Pre_finite.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S8192x512 .f32) (main_arg2 : FVec F S8192x512 .f32) : IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : IVec S8192x512 1 := andi main_v2 main_v5
  let main_v7 : FVec F S8192x512 .f32 := Host.absf main_arg2
  let main_cst_1 : FVec F S_ .f32 := constant S_ .f32 0x7F800000#32
  let main_v8 : FVec F S8192x512 .f32 := broadcastInDim S8192x512 ![] bcast_S_S8192x512 main_cst_1
  let main_v9 : IVec S8192x512 1 := cmpf .olt main_v7 main_v8
  let main_v10 : IVec S8192x512 1 := andi main_v6 main_v9
  main_v10
-- ==== Pre_finite_ln.lean ====
abbrev S8192x1024 : Shape := ⟨2, ![8192, 1024]⟩
abbrev S1024 : Shape := ⟨1, ![1024]⟩
abbrev S_ : Shape := ⟨0, ![]⟩
abbrev S1x1024 : Shape := ⟨2, ![1, 1024]⟩

class Facts : Prop where
  bcast_S_S1024 : S_.BroadcastsInDim S1024 (![] : Fin 0 → Fin S1024.rank)
  bcast_S_S8192x1024 : S_.BroadcastsInDim S8192x1024 (![] : Fin 0 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)

variable [Facts]

def fn {F : FTy → Type} [FloatOps F] (main_arg0 : FVec F S8192x1024 .f32) (main_arg1 : FVec F S8192x1024 .f32) (main_arg2 : FVec F S1024 .f32) (main_arg3 : FVec F S1024 .f32) (main_arg4 : FVec F S8192x1024 .f32) : IVec S8192x1024 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S8192x1024 .f32 := Host.absf main_arg4
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : IVec S1x1024 1 := broadcastInDim S1x1024 ![1] bcast_S1024_S1x1024_1 main_v2
  let main_v7 : IVec S8192x1024 1 := broadcastInDim S8192x1024 ![0, 1] bcast_S1x1024_S8192x1024_0_1 main_v6
  let main_v8 : IVec S8192x1024 1 := andi main_v7 main_v5
  main_v8
-- ==== Kernel.lean ====
abbrev S8192x512 : Shape := ⟨2, ![8192, 512]⟩
abbrev S2x16x8x256 : Shape := ⟨4, ![2, 16, 8, 256]⟩
abbrev S512x256 : Shape := ⟨2, ![512, 256]⟩
abbrev S1x1x8x256 : Shape := ⟨4, ![1, 1, 8, 256]⟩
abbrev S8x256 : Shape := ⟨2, ![8, 256]⟩
abbrev S512x1 : Shape := ⟨2, ![512, 1]⟩
abbrev S8x1 : Shape := ⟨2, ![8, 1]⟩
abbrev S256 : Shape := ⟨1, ![256]⟩
abbrev S1x256 : Shape := ⟨2, ![1, 256]⟩
abbrev S504x256 : Shape := ⟨2, ![504, 256]⟩

abbrev nBuf : Space → Nat
  | .hbm => 7
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S2x16x8x256, .f32⟩
  | .hbm, ⟨5, _⟩ => ⟨S8192x512, .f32⟩
  | .hbm, ⟨6, _⟩ => ⟨S8192x512, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x1x8x256, .f32⟩
  | .local _ .vmem, ⟨7, _⟩ => ⟨S1x1x8x256, .f32⟩
  | .local _ .vmem, ⟨8, _⟩ => ⟨S8x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S1x1x8x256, .f32⟩
  | .local _ .vmem, ⟨14, _⟩ => ⟨S1x1x8x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S8x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_2 (i : grid1.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_4 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_5 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S8192x512 : Shape := ⟨2, ![8192, 512]⟩
abbrev S_ : Shape := ⟨0, ![]⟩
abbrev S512 : Shape := ⟨1, ![512]⟩
abbrev S1x512 : Shape := ⟨2, ![1, 512]⟩

abbrev nBuf : Space → Nat
  | .hbm => 76
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S_, .i32⟩
  | .hbm, ⟨10, _⟩ => ⟨S8192x512, .f32⟩
  | .hbm, ⟨11, _⟩ => ⟨S8192x512, .f32⟩
  | .hbm, ⟨12, _⟩ => ⟨S_, .i32⟩
  | .hbm, ⟨13, _⟩ => ⟨S512, .f32⟩
  | .hbm, ⟨14, _⟩ => ⟨S8192x512, .f32⟩
  | .hbm, ⟨15, _⟩ => ⟨S8192x512, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S1x512, .f32⟩
  | .hbm, ⟨20, _⟩ => ⟨S512, .f32⟩
  | .hbm, ⟨21, _⟩ => ⟨S_, .i32⟩
  | .hbm, ⟨22, _⟩ => ⟨S1x512, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S1x512, .f32⟩
  | .hbm, ⟨27, _⟩ => ⟨S_, .i32⟩
  | .hbm, ⟨28, _⟩ => ⟨S8192x512, .f32⟩
  | .hbm, ⟨29, _⟩ => ⟨S1x512, .f32⟩
  | .hbm, ⟨30, _⟩ => ⟨S_, .i32⟩
  | .hbm, ⟨31, _⟩ => ⟨S8192x512, .f32⟩
  | .hbm, ⟨32, _⟩ => ⟨S_, .i32⟩
  | .hbm, ⟨33, _⟩ => ⟨S_, .i32⟩
  | .hbm, ⟨34, _⟩ => ⟨S_, .f32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S_, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S_, .i32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S_, .i32⟩
  | .hbm, ⟨47, _⟩ => ⟨S512, .f32⟩
  | .hbm, ⟨48, _⟩ => ⟨S8192x512, .f32⟩
  | .hbm, ⟨49, _⟩ => ⟨S8192x512, .f32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x512, .f32⟩
  | .hbm, ⟨58, _⟩ => ⟨S512, .f32⟩
  | .hbm, ⟨59, _⟩ => ⟨S_, .i32⟩
  | .hbm, ⟨60, _⟩ => ⟨S1x512, .f32⟩
  | .hbm, ⟨61, _⟩ => ⟨S512, .f32⟩
  | .hbm, ⟨62, _⟩ => ⟨S_, .i32⟩
  | .hbm, ⟨63, _⟩ => ⟨S1x512, .f32⟩
  | .hbm, ⟨64, _⟩ => ⟨S512, .f32⟩
  | .hbm, ⟨65, _⟩ => ⟨S512, .f32⟩
  | .hbm, ⟨66, _⟩ => ⟨S512, .f32⟩
  | .hbm, ⟨67, _⟩ => ⟨S512, .f32⟩
  | .hbm, ⟨68, _⟩ => ⟨S1x512, .f32⟩
  | .hbm, ⟨69, _⟩ => ⟨S_, .i32⟩
  | .hbm, ⟨70, _⟩ => ⟨S8192x512, .f32⟩
  | .hbm, ⟨71, _⟩ => ⟨S1x512, .f32⟩
  | .hbm, ⟨72, _⟩ => ⟨S_, .i32⟩
  | .hbm, ⟨73, _⟩ => ⟨S8192x512, .f32⟩
  | .hbm, ⟨74, _⟩ => ⟨S_, .i32⟩
  | .hbm, ⟨75, _⟩ => ⟨S_, .i32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_c : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_while0c_c_12 : Ref sig .tc := ⟨.hbm, 16, rfl⟩
abbrev main_while0c_v9 : Ref sig .tc := ⟨.hbm, 17, rfl⟩
abbrev main_while0b_call0_c : Ref sig .tc := ⟨.hbm, 18, rfl⟩
abbrev main_while0b_call0_v0 : Ref sig .tc := ⟨.hbm, 19, rfl⟩
abbrev main_while0b_v9 : Ref sig .tc := ⟨.hbm, 20, rfl⟩
abbrev main_while0b_call1_c : Ref sig .tc := ⟨.hbm, 21, rfl⟩
abbrev main_while0b_call1_v0 : Ref sig .tc := ⟨.hbm, 22, rfl⟩
abbrev main_while0b_v10 : Ref sig .tc := ⟨.hbm, 23, rfl⟩
abbrev main_while0b_v11 : Ref sig .tc := ⟨.hbm, 24, rfl⟩
abbrev main_while0b_v12 : Ref sig .tc := ⟨.hbm, 25, rfl⟩
abbrev main_while0b_call2_v0 : Ref sig .tc := ⟨.hbm, 26, rfl⟩
abbrev main_while0b_call2_c : Ref sig .tc := ⟨.hbm, 27, rfl⟩
abbrev main_while0b_v13 : Ref sig .tc := ⟨.hbm, 28, rfl⟩
abbrev main_while0b_call3_v0 : Ref sig .tc := ⟨.hbm, 29, rfl⟩
abbrev main_while0b_call3_c : Ref sig .tc := ⟨.hbm, 30, rfl⟩
abbrev main_while0b_v14 : Ref sig .tc := ⟨.hbm, 31, rfl⟩
abbrev main_while0b_c_12 : Ref sig .tc := ⟨.hbm, 32, rfl⟩
abbrev main_while0b_v15 : Ref sig .tc := ⟨.hbm, 33, rfl⟩
abbrev main_cst_2 : Ref sig .tc := ⟨.hbm, 34, rfl⟩
abbrev main_v4 : Ref sig .tc := ⟨.hbm, 35, rfl⟩
abbrev main_cst_3 : Ref sig .tc := ⟨.hbm, 36, rfl⟩
abbrev main_v5 : Ref sig .tc := ⟨.hbm, 37, rfl⟩
abbrev main_cst_4 : Ref sig .tc := ⟨.hbm, 38, rfl⟩
abbrev main_v6 : Ref sig .tc := ⟨.hbm, 39, rfl⟩
abbrev main_cst_5 : Ref sig .tc := ⟨.hbm, 40, rfl⟩
abbrev main_v7 : Ref sig .tc := ⟨.hbm, 41, rfl⟩
abbrev main_c_6 : Ref sig .tc := ⟨.hbm, 42, rfl⟩
abbrev main_v8_0 : Ref sig .tc := ⟨.hbm, 43, rfl⟩
abbrev main_v8_1 : Ref sig .tc := ⟨.hbm, 44, rfl⟩
abbrev main_v8_2 : Ref sig .tc := ⟨.hbm, 45, rfl⟩
abbrev main_v8_3 : Ref sig .tc := ⟨.hbm, 46, rfl⟩
abbrev main_v8_4 : Ref sig .tc := ⟨.hbm, 47, rfl⟩
abbrev main_v8_5 : Ref sig .tc := ⟨.hbm, 48, rfl⟩
abbrev main_v8_6 : Ref sig .tc := ⟨.hbm, 49, rfl⟩
abbrev main_while1c_c_13 : Ref sig .tc := ⟨.hbm, 50, rfl⟩
abbrev main_while1c_v9 : Ref sig .tc := ⟨.hbm, 51, rfl⟩
abbrev main_while1b_c_13 : Ref sig .tc := ⟨.hbm, 52, rfl⟩
abbrev main_while1b_v9 : Ref sig .tc := ⟨.hbm, 53, rfl⟩
abbrev main_while1b_c_14 : Ref sig .tc := ⟨.hbm, 54, rfl⟩
abbrev main_while1b_v10 : Ref sig .tc := ⟨.hbm, 55, rfl⟩
abbrev main_while1b_call4_c : Ref sig .tc := ⟨.hbm, 56, rfl⟩
abbrev main_while1b_call4_v0 : Ref sig .tc := ⟨.hbm, 57, rfl⟩
abbrev main_while1b_v11 : Ref sig .tc := ⟨.hbm, 58, rfl⟩
abbrev main_while1b_call5_c : Ref sig .tc := ⟨.hbm, 59, rfl⟩
abbrev main_while1b_call5_v0 : Ref sig .tc := ⟨.hbm, 60, rfl⟩
abbrev main_while1b_v12 : Ref sig .tc := ⟨.hbm, 61, rfl⟩
abbrev main_while1b_call6_c : Ref sig .tc := ⟨.hbm, 62, rfl⟩
abbrev main_while1b_call6_v0 : Ref sig .tc := ⟨.hbm, 63, rfl⟩
abbrev main_while1b_v13 : Ref sig .tc := ⟨.hbm, 64, rfl⟩
abbrev main_while1b_v14 : Ref sig .tc := ⟨.hbm, 65, rfl⟩
abbrev main_while1b_v15 : Ref sig .tc := ⟨.hbm, 66, rfl⟩
abbrev main_while1b_v16 : Ref sig .tc := ⟨.hbm, 67, rfl⟩
abbrev main_while1b_call7_v0 : Ref sig .tc := ⟨.hbm, 68, rfl⟩
abbrev main_while1b_call7_c : Ref sig .tc := ⟨.hbm, 69, rfl⟩
abbrev main_while1b_v17 : Ref sig .tc := ⟨.hbm, 70, rfl⟩
abbrev main_while1b_call8_v0 : Ref sig .tc := ⟨.hbm, 71, rfl⟩
abbrev main_while1b_call8_c : Ref sig .tc := ⟨.hbm, 72, rfl⟩
abbrev main_while1b_v18 : Ref sig .tc := ⟨.hbm, 73, rfl⟩
abbrev main_while1b_c_15 : Ref sig .tc := ⟨.hbm, 74, rfl⟩
abbrev main_while1b_v19 : Ref sig .tc := ⟨.hbm, 75, rfl⟩

abbrev nD : Nat := 1
abbrev τ : Topo := Topo.v7x

variable {F : FTy → Type} [FloatOps F]

abbrev main_while0_count : Scf.Loop 32 := ⟨0#32, 8192#32, 1#32⟩

abbrev main_while1_count : Scf.Loop 32 := ⟨0#32, 8192#32, 1#32⟩
-- ==== FfnUp.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .bf16⟩
  | .hbm, ⟨2, _⟩ => ⟨S8192x5632, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpReferenceIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .bf16⟩
  | .hbm, ⟨2, _⟩ => ⟨S1024x5632, .f32⟩
  | .hbm, ⟨3, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnDown.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownReferenceIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOut.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutReferenceIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDownDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDxReferenceIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOutDx.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnUpDxGate.lean ====
abbrev S8192x5632 : Shape := ⟨2, ![8192, 5632]⟩
abbrev S1024x5632 : Shape := ⟨2, ![1024, 5632]⟩
abbrev S8192x1024 : Shape := ⟨2, ![8192, 1024]⟩
abbrev S1024x2816 : Shape := ⟨2, ![1024, 2816]⟩
abbrev S1024x1024 : Shape := ⟨2, ![1024, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnUpDxGateReferenceIdeal.lean ====
abbrev S8192x5632 : Shape := ⟨2, ![8192, 5632]⟩
abbrev S1024x5632 : Shape := ⟨2, ![1024, 5632]⟩
abbrev S8192x1024 : Shape := ⟨2, ![8192, 1024]⟩
abbrev S_ : Shape := ⟨0, ![]⟩
abbrev S1024x2816 : Shape := ⟨2, ![1024, 2816]⟩
abbrev S8192x2816 : Shape := ⟨2, ![8192, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x2816, .bf16⟩
  | .hbm, ⟨6, _⟩ => ⟨S8192x2816, .bf16⟩
  | .hbm, ⟨7, _⟩ => ⟨S1024x2816, .f32⟩
  | .hbm, ⟨8, _⟩ => ⟨S8192x2816, .f32⟩
  | .hbm, ⟨9, _⟩ => ⟨S8192x2816, .f32⟩
  | .hbm, ⟨10, _⟩ => ⟨S8192x1024, .f32⟩
  | .hbm, ⟨11, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== FfnUpDxUp.lean ====
abbrev S8192x5632 : Shape := ⟨2, ![8192, 5632]⟩
abbrev S1024x5632 : Shape := ⟨2, ![1024, 5632]⟩
abbrev S8192x1024 : Shape := ⟨2, ![8192, 1024]⟩
abbrev S1024x2816 : Shape := ⟨2, ![1024, 2816]⟩
abbrev S1024x1024 : Shape := ⟨2, ![1024, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnUpDxUpReferenceIdeal.lean ====
abbrev S8192x5632 : Shape := ⟨2, ![8192, 5632]⟩
abbrev S1024x5632 : Shape := ⟨2, ![1024, 5632]⟩
abbrev S8192x1024 : Shape := ⟨2, ![8192, 1024]⟩
abbrev S_ : Shape := ⟨0, ![]⟩
abbrev S1024x2816 : Shape := ⟨2, ![1024, 2816]⟩
abbrev S8192x2816 : Shape := ⟨2, ![8192, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x2816, .bf16⟩
  | .hbm, ⟨6, _⟩ => ⟨S8192x2816, .bf16⟩
  | .hbm, ⟨7, _⟩ => ⟨S1024x2816, .f32⟩
  | .hbm, ⟨8, _⟩ => ⟨S8192x2816, .f32⟩
  | .hbm, ⟨9, _⟩ => ⟨S8192x2816, .f32⟩
  | .hbm, ⟨10, _⟩ => ⟨S8192x1024, .f32⟩
  | .hbm, ⟨11, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== CdInDx.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== CdInDxReferenceIdeal.lean ====
abbrev S8192x2048 : Shape := ⟨2, ![8192, 2048]⟩
abbrev S1024x2048 : Shape := ⟨2, ![1024, 2048]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x2048, .f32⟩
  | .hbm, ⟨6, _⟩ => ⟨S8192x2048, .f32⟩
  | .hbm, ⟨7, _⟩ => ⟨S8192x2048, .f32⟩
  | .hbm, ⟨8, _⟩ => ⟨S8192x1024, .f32⟩
  | .hbm, ⟨9, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== AbInDx.lean ====
abbrev S8192x3840 : Shape := ⟨2, ![8192, 3840]⟩
abbrev S1024x3840 : Shape := ⟨2, ![1024, 3840]⟩
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x3840, .bf16⟩
  | .hbm, ⟨1, _⟩ => ⟨S1024x3840, .bf16⟩
  | .hbm, ⟨2, _⟩ => ⟨S8192x1024, .f32⟩
  | .hbm, ⟨3, _⟩ => ⟨S8192x1024, .f32⟩
  | .local _ .vmem, ⟨0, _⟩ => ⟨S1024x3840, .bf16⟩
  | .local _ .vmem, ⟨1, _⟩ => ⟨S1024x3840, .bf16⟩
  | .local _ .vmem, ⟨2, _⟩ => ⟨S1024x3840, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S8192x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AbInDxReferenceIdeal.lean ====
abbrev S8192x3840 : Shape := ⟨2, ![8192, 3840]⟩
abbrev S1024x3840 : Shape := ⟨2, ![1024, 3840]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x3840, .bf16⟩
  | .hbm, ⟨1, _⟩ => ⟨S1024x3840, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x3840, .f32⟩
  | .hbm, ⟨6, _⟩ => ⟨S8192x3840, .f32⟩
  | .hbm, ⟨7, _⟩ => ⟨S8192x3840, .f32⟩
  | .hbm, ⟨8, _⟩ => ⟨S8192x1024, .f32⟩
  | .hbm, ⟨9, _⟩ => ⟨S8192x1024, .f32⟩
  | _, _ => ⟨S8192x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== FfnDownDw.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixOutDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixOutDwReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnUpDwGate.lean ====
abbrev S8192x1024 : Shape := ⟨2, ![8192, 1024]⟩
abbrev S8192x5632 : Shape := ⟨2, ![8192, 5632]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S1024x2816, .bf16⟩
  | .local _ .vmem, ⟨0, _⟩ => ⟨S2048x1024, .f32⟩
  | .local _ .vmem, ⟨1, _⟩ => ⟨S2048x1024, .f32⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpDwGateReferenceIdeal.lean ====
abbrev S8192x1024 : Shape := ⟨2, ![8192, 1024]⟩
abbrev S8192x5632 : Shape := ⟨2, ![8192, 5632]⟩
abbrev S_ : Shape := ⟨0, ![]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S_, .f32⟩
  | .hbm, ⟨3, _⟩ => ⟨S1024x2816, .f32⟩
  | .hbm, ⟨4, _⟩ => ⟨S8192x2816, .bf16⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnUpDwUp.lean ====
abbrev S8192x1024 : Shape := ⟨2, ![8192, 1024]⟩
abbrev S8192x5632 : Shape := ⟨2, ![8192, 5632]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S1024x2816, .bf16⟩
  | .local _ .vmem, ⟨0, _⟩ => ⟨S2048x1024, .f32⟩
  | .local _ .vmem, ⟨1, _⟩ => ⟨S2048x1024, .f32⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpDwUpReferenceIdeal.lean ====
abbrev S8192x1024 : Shape := ⟨2, ![8192, 1024]⟩
abbrev S8192x5632 : Shape := ⟨2, ![8192, 5632]⟩
abbrev S_ : Shape := ⟨0, ![]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S_, .f32⟩
  | .hbm, ⟨3, _⟩ => ⟨S1024x2816, .f32⟩
  | .hbm, ⟨4, _⟩ => ⟨S8192x2816, .bf16⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AbIn.lean ====
abbrev S8192x1024 : Shape := ⟨2, ![8192, 1024]⟩
abbrev S1024x3840 : Shape := ⟨2, ![1024, 3840]⟩
abbrev S8192x3840 : Shape := ⟨2, ![8192, 3840]⟩
abbrev S1024x1024 : Shape := ⟨2, ![1024, 1024]⟩
abbrev S1024x1280 : Shape := ⟨2, ![1024, 1280]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3840, .bf16⟩
  | .hbm, ⟨2, _⟩ => ⟨S8192x3840, .f32⟩
  | .local _ .vmem, ⟨0, _⟩ => ⟨S1024x1024, .f32⟩
  | .local _ .vmem, ⟨1, _⟩ => ⟨S1024x1024, .f32⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInReferenceIdeal.lean ====
abbrev S8192x1024 : Shape := ⟨2, ![8192, 1024]⟩
abbrev S1024x3840 : Shape := ⟨2, ![1024, 3840]⟩
abbrev S8192x3840 : Shape := ⟨2, ![8192, 3840]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3840, .bf16⟩
  | .hbm, ⟨2, _⟩ => ⟨S1024x3840, .f32⟩
  | .hbm, ⟨3, _⟩ => ⟨S8192x3840, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== CdIn.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .bf16⟩
  | .hbm, ⟨2, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CdInReferenceIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .bf16⟩
  | .hbm, ⟨2, _⟩ => ⟨S1024x2048, .f32⟩
  | .hbm, ⟨3, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AbInDw.lean ====
abbrev S8192x1024 : Shape := ⟨2, ![8192, 1024]⟩
abbrev S8192x3840 : Shape := ⟨2, ![8192, 3840]⟩
abbrev S1024x3840 : Shape := ⟨2, ![1024, 3840]⟩
abbrev S2048x1024 : Shape := ⟨2, ![2048, 1024]⟩
abbrev S2048x1280 : Shape := ⟨2, ![2048, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3840, .bf16⟩
  | .hbm, ⟨2, _⟩ => ⟨S1024x3840, .bf16⟩
  | .local _ .vmem, ⟨0, _⟩ => ⟨S2048x1024, .f32⟩
  | .local _ .vmem, ⟨1, _⟩ => ⟨S2048x1024, .f32⟩
  | .local _ .vmem, ⟨2, _⟩ => ⟨S2048x1280, .bf16⟩
  | .local _ .vmem, ⟨3, _⟩ => ⟨S2048x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInDwReferenceIdeal.lean ====
abbrev S8192x1024 : Shape := ⟨2, ![8192, 1024]⟩
abbrev S8192x3840 : Shape := ⟨2, ![8192, 3840]⟩
abbrev S_ : Shape := ⟨0, ![]⟩
abbrev S1024x3840 : Shape := ⟨2, ![1024, 3840]⟩
abbrev S3840x1024 : Shape := ⟨2, ![3840, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3840, .bf16⟩
  | .hbm, ⟨2, _⟩ => ⟨S_, .f32⟩
  | .hbm, ⟨3, _⟩ => ⟨S1024x3840, .f32⟩
  | .hbm, ⟨4, _⟩ => ⟨S8192x3840, .f32⟩
  | .hbm, ⟨5, _⟩ => ⟨S8192x3840, .f32⟩
  | .hbm, ⟨6, _⟩ => ⟨S3840x1024, .f32⟩
  | .hbm, ⟨7, _⟩ => ⟨S1024x3840, .f32⟩
  | .hbm, ⟨8, _⟩ => ⟨S1024x3840, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== CdInDw.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S1024x2048, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CdInDwReferenceIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S8192x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== LnBwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .bf16⟩
  | .local _ .vmem, ⟨0, _⟩ => ⟨S1x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]
-- ==== LnBwdReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S8192x1024, .f32⟩
  | .hbm, ⟨92, _⟩ => ⟨S8192x1024, .f32⟩
  | .hbm, ⟨93, _⟩ => ⟨S1x1024, .f32⟩
  | .hbm, ⟨94, _⟩ => ⟨S1x1024, .f32⟩
  | .hbm, ⟨95, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== AdamwAbOut.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwAbOutIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamwAbOutReferenceIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamwAbIn.lean ====
abbrev S8x1024x417 : Shape := ⟨3, ![8, 1024, 417]⟩
abbrev S2x1024x417 : Shape := ⟨3, ![2, 1024, 417]⟩
abbrev S8x256x417 : Shape := ⟨3, ![8, 256, 417]⟩
abbrev S1x256x417 : Shape := ⟨3, ![1, 256, 417]⟩
abbrev S256x417 : Shape := ⟨2, ![256, 417]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x417, .bf16⟩
  | .hbm, ⟨1, _⟩ => ⟨S8x1024x417, .bf16⟩
  | .hbm, ⟨2, _⟩ => ⟨S2x1024x417, .f32⟩
  | .hbm, ⟨3, _⟩ => ⟨S2x1024x417, .f32⟩
  | .hbm, ⟨4, _⟩ => ⟨S2x1024x417, .f32⟩
  | .hbm, ⟨5, _⟩ => ⟨S2x1024x417, .f32⟩
  | .hbm, ⟨6, _⟩ => ⟨S2x1024x417, .f32⟩
  | .hbm, ⟨7, _⟩ => ⟨S2x1024x417, .f32⟩
  | .hbm, ⟨8, _⟩ => ⟨S2x1024x417, .f32⟩
  | .local _ .vmem, ⟨0, _⟩ => ⟨S8x256x417, .bf16⟩
  | .local _ .vmem, ⟨1, _⟩ => ⟨S8x256x417, .bf16⟩
  | .local _ .vmem, ⟨2, _⟩ => ⟨S8x256x417, .bf16⟩
  | .local _ .vmem, ⟨3, _⟩ => ⟨S8x256x417, .bf16⟩
  | .local _ .vmem, ⟨4, _⟩ => ⟨S1x256x417, .f32⟩
  | .local _ .vmem, ⟨5, _⟩ => ⟨S1x256x417, .f32⟩
  | .local _ .vmem, ⟨6, _⟩ => ⟨S1x256x417, .f32⟩
  | .local _ .vmem, ⟨7, _⟩ => ⟨S1x256x417, .f32⟩
  | .local _ .vmem, ⟨8, _⟩ => ⟨S1x256x417, .f32⟩
  | .local _ .vmem, ⟨9, _⟩ => ⟨S1x256x417, .f32⟩
  | .local _ .vmem, ⟨10, _⟩ => ⟨S1x256x417, .f32⟩
  | .local _ .vmem, ⟨11, _⟩ => ⟨S1x256x417, .f32⟩
  | .local _ .vmem, ⟨12, _⟩ => ⟨S1x256x417, .f32⟩
  | .local _ .vmem, ⟨13, _⟩ => ⟨S1x256x417, .f32⟩
  | .local _ .vmem, ⟨14, _⟩ => ⟨S1x256x417, .f32⟩
  | .local _ .vmem, ⟨15, _⟩ => ⟨S1x256x417, .f32⟩
  | .local _ .vmem, ⟨16, _⟩ => ⟨S1x256x417, .f32⟩
  | .local _ .vmem, ⟨17, _⟩ => ⟨S1x256x417, .f32⟩
  | _, _ => ⟨S8x1024x417, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x417 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x417 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x417 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x417 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x417 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x417 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x417 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x417 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x417 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwAbInIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamwAbInReferenceIdeal.lean ====
abbrev S8x1024x417 : Shape := ⟨3, ![8, 1024, 417]⟩
abbrev S2x1024x417 : Shape := ⟨3, ![2, 1024, 417]⟩
abbrev S_ : Shape := ⟨0, ![]⟩
abbrev S1024x417 : Shape := ⟨2, ![1024, 417]⟩
abbrev S1x1024x417 : Shape := ⟨3, ![1, 1024, 417]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x417, .bf16⟩
  | .hbm, ⟨1, _⟩ => ⟨S8x1024x417, .bf16⟩
  | .hbm, ⟨2, _⟩ => ⟨S2x1024x417, .f32⟩
  | .hbm, ⟨3, _⟩ => ⟨S2x1024x417, .f32⟩
  | .hbm, ⟨4, _⟩ => ⟨S2x1024x417, .f32⟩
  | .hbm, ⟨5, _⟩ => ⟨S8x1024x417, .f32⟩
  | .hbm, ⟨6, _⟩ => ⟨S_, .f32⟩
  | .hbm, ⟨7, _⟩ => ⟨S1024x417, .f32⟩
  | .hbm, ⟨8, _⟩ => ⟨S8x1024x417, .f32⟩
  | .hbm, ⟨9, _⟩ => ⟨S_, .f32⟩
  | .hbm, ⟨10, _⟩ => ⟨S1024x417, .f32⟩
  | .hbm, ⟨11, _⟩ => ⟨S1x1024x417, .f32⟩
  | .hbm, ⟨12, _⟩ => ⟨S1x1024x417, .f32⟩
  | .hbm, ⟨13, _⟩ => ⟨S2x1024x417, .f32⟩
  | .hbm, ⟨14, _⟩ => ⟨S_, .f32⟩
  | .hbm, ⟨15, _⟩ => ⟨S2x1024x417, .f32⟩
  | .hbm, ⟨16, _⟩ => ⟨S2x1024x417, .f32⟩
  | .hbm, ⟨17, _⟩ => ⟨S_, .f32⟩
  | .hbm, ⟨18, _⟩ => ⟨S2x1024x417, .f32⟩
  | .hbm, ⟨19, _⟩ => ⟨S2x1024x417, .f32⟩
  | .hbm, ⟨20, _⟩ => ⟨S2x1024x417, .f32⟩
  | .hbm, ⟨21, _⟩ => ⟨S_, .f32⟩
  | .hbm, ⟨22, _⟩ => ⟨S2x1024x417, .f32⟩
  | .hbm, ⟨23, _⟩ => ⟨S2x1024x417, .f32⟩
  | .hbm, ⟨24, _⟩ => ⟨S2x1024x417, .f32⟩
  | .hbm, ⟨25, _⟩ => ⟨S_, .f32⟩
  | .hbm, ⟨26, _⟩ => ⟨S2x1024x417, .f32⟩
  | .hbm, ⟨27, _⟩ => ⟨S2x1024x417, .f32⟩
  | .hbm, ⟨28, _⟩ => ⟨S2x1024x417, .f32⟩
  | .hbm, ⟨29, _⟩ => ⟨S_, .f32⟩
  | .hbm, ⟨30, _⟩ => ⟨S2x1024x417, .f32⟩
  | .hbm, ⟨31, _⟩ => ⟨S2x1024x417, .f32⟩
  | .hbm, ⟨32, _⟩ => ⟨S_, .f32⟩
  | .hbm, ⟨33, _⟩ => ⟨S2x1024x417, .f32⟩
  | .hbm, ⟨34, _⟩ => ⟨S2x1024x417, .f32⟩
  | .hbm, ⟨35, _⟩ => ⟨S2x1024x417, .f32⟩
  | .hbm, ⟨36, _⟩ => ⟨S_, .f32⟩
  | .hbm, ⟨37, _⟩ => ⟨S2x1024x417, .f32⟩
  | .hbm, ⟨38, _⟩ => ⟨S2x1024x417, .f32⟩
  | .hbm, ⟨39, _⟩ => ⟨S2x1024x417, .f32⟩
  | .hbm, ⟨40, _⟩ => ⟨S_, .f32⟩
  | .hbm, ⟨41, _⟩ => ⟨S2x1024x417, .f32⟩
  | .hbm, ⟨42, _⟩ => ⟨S2x1024x417, .f32⟩
  | .hbm, ⟨43, _⟩ => ⟨S2x1024x417, .f32⟩
  | .hbm, ⟨44, _⟩ => ⟨S_, .f32⟩
  | .hbm, ⟨45, _⟩ => ⟨S2x1024x417, .f32⟩
  | .hbm, ⟨46, _⟩ => ⟨S2x1024x417, .f32⟩
  | _, _ => ⟨S8x1024x417, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamwCdIn.lean ====
abbrev S8x1024x224 : Shape := ⟨3, ![8, 1024, 224]⟩
abbrev S2x1024x224 : Shape := ⟨3, ![2, 1024, 224]⟩
abbrev S8x256x224 : Shape := ⟨3, ![8, 256, 224]⟩
abbrev S1x256x224 : Shape := ⟨3, ![1, 256, 224]⟩
abbrev S256x224 : Shape := ⟨2, ![256, 224]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x224, .bf16⟩
  | .hbm, ⟨1, _⟩ => ⟨S8x1024x224, .bf16⟩
  | .hbm, ⟨2, _⟩ => ⟨S2x1024x224, .f32⟩
  | .hbm, ⟨3, _⟩ => ⟨S2x1024x224, .f32⟩
  | .hbm, ⟨4, _⟩ => ⟨S2x1024x224, .f32⟩
  | .hbm, ⟨5, _⟩ => ⟨S2x1024x224, .f32⟩
  | .hbm, ⟨6, _⟩ => ⟨S2x1024x224, .f32⟩
  | .hbm, ⟨7, _⟩ => ⟨S2x1024x224, .f32⟩
  | .hbm, ⟨8, _⟩ => ⟨S2x1024x224, .f32⟩
  | .local _ .vmem, ⟨0, _⟩ => ⟨S8x256x224, .bf16⟩
  | .local _ .vmem, ⟨1, _⟩ => ⟨S8x256x224, .bf16⟩
  | .local _ .vmem, ⟨2, _⟩ => ⟨S8x256x224, .bf16⟩
  | .local _ .vmem, ⟨3, _⟩ => ⟨S8x256x224, .bf16⟩
  | .local _ .vmem, ⟨4, _⟩ => ⟨S1x256x224, .f32⟩
  | .local _ .vmem, ⟨5, _⟩ => ⟨S1x256x224, .f32⟩
  | .local _ .vmem, ⟨6, _⟩ => ⟨S1x256x224, .f32⟩
  | .local _ .vmem, ⟨7, _⟩ => ⟨S1x256x224, .f32⟩
  | .local _ .vmem, ⟨8, _⟩ => ⟨S1x256x224, .f32⟩
  | .local _ .vmem, ⟨9, _⟩ => ⟨S1x256x224, .f32⟩
  | .local _ .vmem, ⟨10, _⟩ => ⟨S1x256x224, .f32⟩
  | .local _ .vmem, ⟨11, _⟩ => ⟨S1x256x224, .f32⟩
  | .local _ .vmem, ⟨12, _⟩ => ⟨S1x256x224, .f32⟩
  | .local _ .vmem, ⟨13, _⟩ => ⟨S1x256x224, .f32⟩
  | .local _ .vmem, ⟨14, _⟩ => ⟨S1x256x224, .f32⟩
  | .local _ .vmem, ⟨15, _⟩ => ⟨S1x256x224, .f32⟩
  | .local _ .vmem, ⟨16, _⟩ => ⟨S1x256x224, .f32⟩
  | .local _ .vmem, ⟨17, _⟩ => ⟨S1x256x224, .f32⟩
  | _, _ => ⟨S8x1024x224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x224 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x224 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x224 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwCdInIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamwCdInReferenceIdeal.lean ====
abbrev S8x1024x224 : Shape := ⟨3, ![8, 1024, 224]⟩
abbrev S2x1024x224 : Shape := ⟨3, ![2, 1024, 224]⟩
abbrev S_ : Shape := ⟨0, ![]⟩
abbrev S1024x224 : Shape := ⟨2, ![1024, 224]⟩
abbrev S1x1024x224 : Shape := ⟨3, ![1, 1024, 224]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x224, .bf16⟩
  | .hbm, ⟨1, _⟩ => ⟨S8x1024x224, .bf16⟩
  | .hbm, ⟨2, _⟩ => ⟨S2x1024x224, .f32⟩
  | .hbm, ⟨3, _⟩ => ⟨S2x1024x224, .f32⟩
  | .hbm, ⟨4, _⟩ => ⟨S2x1024x224, .f32⟩
  | .hbm, ⟨5, _⟩ => ⟨S8x1024x224, .f32⟩
  | .hbm, ⟨6, _⟩ => ⟨S_, .f32⟩
  | .hbm, ⟨7, _⟩ => ⟨S1024x224, .f32⟩
  | .hbm, ⟨8, _⟩ => ⟨S8x1024x224, .f32⟩
  | .hbm, ⟨9, _⟩ => ⟨S_, .f32⟩
  | .hbm, ⟨10, _⟩ => ⟨S1024x224, .f32⟩
  | .hbm, ⟨11, _⟩ => ⟨S1x1024x224, .f32⟩
  | .hbm, ⟨12, _⟩ => ⟨S1x1024x224, .f32⟩
  | .hbm, ⟨13, _⟩ => ⟨S2x1024x224, .f32⟩
  | .hbm, ⟨14, _⟩ => ⟨S_, .f32⟩
  | .hbm, ⟨15, _⟩ => ⟨S2x1024x224, .f32⟩
  | .hbm, ⟨16, _⟩ => ⟨S2x1024x224, .f32⟩
  | .hbm, ⟨17, _⟩ => ⟨S_, .f32⟩
  | .hbm, ⟨18, _⟩ => ⟨S2x1024x224, .f32⟩
  | .hbm, ⟨19, _⟩ => ⟨S2x1024x224, .f32⟩
  | .hbm, ⟨20, _⟩ => ⟨S2x1024x224, .f32⟩
  | .hbm, ⟨21, _⟩ => ⟨S_, .f32⟩
  | .hbm, ⟨22, _⟩ => ⟨S2x1024x224, .f32⟩
  | .hbm, ⟨23, _⟩ => ⟨S2x1024x224, .f32⟩
  | .hbm, ⟨24, _⟩ => ⟨S2x1024x224, .f32⟩
  | .hbm, ⟨25, _⟩ => ⟨S_, .f32⟩
  | .hbm, ⟨26, _⟩ => ⟨S2x1024x224, .f32⟩
  | .hbm, ⟨27, _⟩ => ⟨S2x1024x224, .f32⟩
  | .hbm, ⟨28, _⟩ => ⟨S2x1024x224, .f32⟩
  | .hbm, ⟨29, _⟩ => ⟨S_, .f32⟩
  | .hbm, ⟨30, _⟩ => ⟨S2x1024x224, .f32⟩
  | .hbm, ⟨31, _⟩ => ⟨S2x1024x224, .f32⟩
  | .hbm, ⟨32, _⟩ => ⟨S_, .f32⟩
  | .hbm, ⟨33, _⟩ => ⟨S2x1024x224, .f32⟩
  | .hbm, ⟨34, _⟩ => ⟨S2x1024x224, .f32⟩
  | .hbm, ⟨35, _⟩ => ⟨S2x1024x224, .f32⟩
  | .hbm, ⟨36, _⟩ => ⟨S_, .f32⟩
  | .hbm, ⟨37, _⟩ => ⟨S2x1024x224, .f32⟩
  | .hbm, ⟨38, _⟩ => ⟨S2x1024x224, .f32⟩
  | .hbm, ⟨39, _⟩ => ⟨S2x1024x224, .f32⟩
  | .hbm, ⟨40, _⟩ => ⟨S_, .f32⟩
  | .hbm, ⟨41, _⟩ => ⟨S2x1024x224, .f32⟩
  | .hbm, ⟨42, _⟩ => ⟨S2x1024x224, .f32⟩
  | .hbm, ⟨43, _⟩ => ⟨S2x1024x224, .f32⟩
  | .hbm, ⟨44, _⟩ => ⟨S_, .f32⟩
  | .hbm, ⟨45, _⟩ => ⟨S2x1024x224, .f32⟩
  | .hbm, ⟨46, _⟩ => ⟨S2x1024x224, .f32⟩
  | _, _ => ⟨S8x1024x224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamwFfnUp.lean ====
abbrev S8x1024x704 : Shape := ⟨3, ![8, 1024, 704]⟩
abbrev S4x1024x704 : Shape := ⟨3, ![4, 1024, 704]⟩
abbrev S8x256x704 : Shape := ⟨3, ![8, 256, 704]⟩
abbrev S1x256x704 : Shape := ⟨3, ![1, 256, 704]⟩
abbrev S256x704 : Shape := ⟨2, ![256, 704]⟩

abbrev nBuf : Space → Nat
  | .hbm => 11
  | .vmem => 22
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S8x1024x704, .bf16⟩
  | .hbm, ⟨3, _⟩ => ⟨S8x1024x704, .bf16⟩
  | .hbm, ⟨4, _⟩ => ⟨S4x1024x704, .f32⟩
  | .hbm, ⟨5, _⟩ => ⟨S4x1024x704, .f32⟩
  | .hbm, ⟨6, _⟩ => ⟨S4x1024x704, .f32⟩
  | .hbm, ⟨7, _⟩ => ⟨S4x1024x704, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .local _ .vmem, ⟨0, _⟩ => ⟨S8x256x704, .bf16⟩
  | .local _ .vmem, ⟨1, _⟩ => ⟨S8x256x704, .bf16⟩
  | .local _ .vmem, ⟨2, _⟩ => ⟨S8x256x704, .bf16⟩
  | .local _ .vmem, ⟨3, _⟩ => ⟨S8x256x704, .bf16⟩
  | .local _ .vmem, ⟨4, _⟩ => ⟨S8x256x704, .bf16⟩
  | .local _ .vmem, ⟨5, _⟩ => ⟨S8x256x704, .bf16⟩
  | .local _ .vmem, ⟨6, _⟩ => ⟨S8x256x704, .bf16⟩
  | .local _ .vmem, ⟨7, _⟩ => ⟨S8x256x704, .bf16⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | .local _ .vmem, ⟨16, _⟩ => ⟨S1x256x704, .f32⟩
  | .local _ .vmem, ⟨17, _⟩ => ⟨S1x256x704, .f32⟩
  | .local _ .vmem, ⟨18, _⟩ => ⟨S1x256x704, .f32⟩
  | .local _ .vmem, ⟨19, _⟩ => ⟨S1x256x704, .f32⟩
  | .local _ .vmem, ⟨20, _⟩ => ⟨S1x256x704, .f32⟩
  | .local _ .vmem, ⟨21, _⟩ => ⟨S1x256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamwFfnUpIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamwFfnUpReferenceIdeal.lean ====
abbrev S8x1024x704 : Shape := ⟨3, ![8, 1024, 704]⟩
abbrev S4x1024x704 : Shape := ⟨3, ![4, 1024, 704]⟩
abbrev S_ : Shape := ⟨0, ![]⟩
abbrev S1024x704 : Shape := ⟨2, ![1024, 704]⟩
abbrev S1x1024x704 : Shape := ⟨3, ![1, 1024, 704]⟩

abbrev nBuf : Space → Nat
  | .hbm => 57
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S8x1024x704, .bf16⟩
  | .hbm, ⟨3, _⟩ => ⟨S8x1024x704, .bf16⟩
  | .hbm, ⟨4, _⟩ => ⟨S4x1024x704, .f32⟩
  | .hbm, ⟨5, _⟩ => ⟨S4x1024x704, .f32⟩
  | .hbm, ⟨6, _⟩ => ⟨S4x1024x704, .f32⟩
  | .hbm, ⟨7, _⟩ => ⟨S8x1024x704, .f32⟩
  | .hbm, ⟨8, _⟩ => ⟨S_, .f32⟩
  | .hbm, ⟨9, _⟩ => ⟨S1024x704, .f32⟩
  | .hbm, ⟨10, _⟩ => ⟨S8x1024x704, .f32⟩
  | .hbm, ⟨11, _⟩ => ⟨S_, .f32⟩
  | .hbm, ⟨12, _⟩ => ⟨S1024x704, .f32⟩
  | .hbm, ⟨13, _⟩ => ⟨S8x1024x704, .f32⟩
  | .hbm, ⟨14, _⟩ => ⟨S_, .f32⟩
  | .hbm, ⟨15, _⟩ => ⟨S1024x704, .f32⟩
  | .hbm, ⟨16, _⟩ => ⟨S8x1024x704, .f32⟩
  | .hbm, ⟨17, _⟩ => ⟨S_, .f32⟩
  | .hbm, ⟨18, _⟩ => ⟨S1024x704, .f32⟩
  | .hbm, ⟨19, _⟩ => ⟨S1x1024x704, .f32⟩
  | .hbm, ⟨20, _⟩ => ⟨S1x1024x704, .f32⟩
  | .hbm, ⟨21, _⟩ => ⟨S1x1024x704, .f32⟩
  | .hbm, ⟨22, _⟩ => ⟨S1x1024x704, .f32⟩
  | .hbm, ⟨23, _⟩ => ⟨S4x1024x704, .f32⟩
  | .hbm, ⟨24, _⟩ => ⟨S_, .f32⟩
  | .hbm, ⟨25, _⟩ => ⟨S4x1024x704, .f32⟩
  | .hbm, ⟨26, _⟩ => ⟨S4x1024x704, .f32⟩
  | .hbm, ⟨27, _⟩ => ⟨S_, .f32⟩
  | .hbm, ⟨28, _⟩ => ⟨S4x1024x704, .f32⟩
  | .hbm, ⟨29, _⟩ => ⟨S4x1024x704, .f32⟩
  | .hbm, ⟨30, _⟩ => ⟨S4x1024x704, .f32⟩
  | .hbm, ⟨31, _⟩ => ⟨S_, .f32⟩
  | .hbm, ⟨32, _⟩ => ⟨S4x1024x704, .f32⟩
  | .hbm, ⟨33, _⟩ => ⟨S4x1024x704, .f32⟩
  | .hbm, ⟨34, _⟩ => ⟨S4x1024x704, .f32⟩
  | .hbm, ⟨35, _⟩ => ⟨S_, .f32⟩
  | .hbm, ⟨36, _⟩ => ⟨S4x1024x704, .f32⟩
  | .hbm, ⟨37, _⟩ => ⟨S4x1024x704, .f32⟩
  | .hbm, ⟨38, _⟩ => ⟨S4x1024x704, .f32⟩
  | .hbm, ⟨39, _⟩ => ⟨S_, .f32⟩
  | .hbm, ⟨40, _⟩ => ⟨S4x1024x704, .f32⟩
  | .hbm, ⟨41, _⟩ => ⟨S4x1024x704, .f32⟩
  | .hbm, ⟨42, _⟩ => ⟨S_, .f32⟩
  | .hbm, ⟨43, _⟩ => ⟨S4x1024x704, .f32⟩
  | .hbm, ⟨44, _⟩ => ⟨S4x1024x704, .f32⟩
  | .hbm, ⟨45, _⟩ => ⟨S4x1024x704, .f32⟩
  | .hbm, ⟨46, _⟩ => ⟨S_, .f32⟩
  | .hbm, ⟨47, _⟩ => ⟨S4x1024x704, .f32⟩
  | .hbm, ⟨48, _⟩ => ⟨S4x1024x704, .f32⟩
  | .hbm, ⟨49, _⟩ => ⟨S4x1024x704, .f32⟩
  | .hbm, ⟨50, _⟩ => ⟨S_, .f32⟩
  | .hbm, ⟨51, _⟩ => ⟨S4x1024x704, .f32⟩
  | .hbm, ⟨52, _⟩ => ⟨S4x1024x704, .f32⟩
  | .hbm, ⟨53, _⟩ => ⟨S4x1024x704, .f32⟩
  | .hbm, ⟨54, _⟩ => ⟨S_, .f32⟩
  | .hbm, ⟨55, _⟩ => ⟨S4x1024x704, .f32⟩
  | .hbm, ⟨56, _⟩ => ⟨S4x1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== AdamwFfnDown.lean ====
abbrev S8x352x1024 : Shape := ⟨3, ![8, 352, 1024]⟩
abbrev S4x352x1024 : Shape := ⟨3, ![4, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S8x176x1024, .bf16⟩
  | .local _ .vmem, ⟨7, _⟩ => ⟨S8x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamwFfnDownIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamwFfnDownReferenceIdeal.lean ====
abbrev S8x352x1024 : Shape := ⟨3, ![8, 352, 1024]⟩
abbrev S4x352x1024 : Shape := ⟨3, ![4, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S8x352x1024, .f32⟩
  | .hbm, ⟨8, _⟩ => ⟨S_, .f32⟩
  | .hbm, ⟨9, _⟩ => ⟨S352x1024, .f32⟩
  | .hbm, ⟨10, _⟩ => ⟨S8x352x1024, .f32⟩
  | .hbm, ⟨11, _⟩ => ⟨S_, .f32⟩
  | .hbm, ⟨12, _⟩ => ⟨S352x1024, .f32⟩
  | .hbm, ⟨13, _⟩ => ⟨S8x352x1024, .f32⟩
  | .hbm, ⟨14, _⟩ => ⟨S_, .f32⟩
  | .hbm, ⟨15, _⟩ => ⟨S352x1024, .f32⟩
  | .hbm, ⟨16, _⟩ => ⟨S8x352x1024, .f32⟩
  | .hbm, ⟨17, _⟩ => ⟨S_, .f32⟩
  | .hbm, ⟨18, _⟩ => ⟨S352x1024, .f32⟩
  | .hbm, ⟨19, _⟩ => ⟨S1x352x1024, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S4x352x1024, .f32⟩
  | .hbm, ⟨24, _⟩ => ⟨S_, .f32⟩
  | .hbm, ⟨25, _⟩ => ⟨S4x352x1024, .f32⟩
  | .hbm, ⟨26, _⟩ => ⟨S4x352x1024, .f32⟩
  | .hbm, ⟨27, _⟩ => ⟨S_, .f32⟩
  | .hbm, ⟨28, _⟩ => ⟨S4x352x1024, .f32⟩
  | .hbm, ⟨29, _⟩ => ⟨S4x352x1024, .f32⟩
  | .hbm, ⟨30, _⟩ => ⟨S4x352x1024, .f32⟩
  | .hbm, ⟨31, _⟩ => ⟨S_, .f32⟩
  | .hbm, ⟨32, _⟩ => ⟨S4x352x1024, .f32⟩
  | .hbm, ⟨33, _⟩ => ⟨S4x352x1024, .f32⟩
  | .hbm, ⟨34, _⟩ => ⟨S4x352x1024, .f32⟩
  | .hbm, ⟨35, _⟩ => ⟨S_, .f32⟩
  | .hbm, ⟨36, _⟩ => ⟨S4x352x1024, .f32⟩
  | .hbm, ⟨37, _⟩ => ⟨S4x352x1024, .f32⟩
  | .hbm, ⟨38, _⟩ => ⟨S4x352x1024, .f32⟩
  | .hbm, ⟨39, _⟩ => ⟨S_, .f32⟩
  | .hbm, ⟨40, _⟩ => ⟨S4x352x1024, .f32⟩
  | .hbm, ⟨41, _⟩ => ⟨S4x352x1024, .f32⟩
  | .hbm, ⟨42, _⟩ => ⟨S_, .f32⟩
  | .hbm, ⟨43, _⟩ => ⟨S4x352x1024, .f32⟩
  | .hbm, ⟨44, _⟩ => ⟨S4x352x1024, .f32⟩
  | .hbm, ⟨45, _⟩ => ⟨S4x352x1024, .f32⟩
  | .hbm, ⟨46, _⟩ => ⟨S_, .f32⟩
  | .hbm, ⟨47, _⟩ => ⟨S4x352x1024, .f32⟩
  | .hbm, ⟨48, _⟩ => ⟨S4x352x1024, .f32⟩
  | .hbm, ⟨49, _⟩ => ⟨S4x352x1024, .f32⟩
  | .hbm, ⟨50, _⟩ => ⟨S_, .f32⟩
  | .hbm, ⟨51, _⟩ => ⟨S4x352x1024, .f32⟩
  | .hbm, ⟨52, _⟩ => ⟨S4x352x1024, .f32⟩
  | .hbm, ⟨53, _⟩ => ⟨S4x352x1024, .f32⟩
  | .hbm, ⟨54, _⟩ => ⟨S_, .f32⟩
  | .hbm, ⟨55, _⟩ => ⟨S4x352x1024, .f32⟩
  | .hbm, ⟨56, _⟩ => ⟨S4x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S_, .f32⟩
  | .hbm, ⟨5, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S8192x1024 : Shape := ⟨2, ![8192, 1024]⟩
abbrev S_ : Shape := ⟨0, ![]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== LnFwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S8192x1024, .f32⟩
  | .local _ .vmem, ⟨0, _⟩ => ⟨S1x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== LnFwdReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== CdPost.lean ====
abbrev S8192x512 : Shape := ⟨2, ![8192, 512]⟩
abbrev S8192x2048 : Shape := ⟨2, ![8192, 2048]⟩
abbrev S8192x1024 : Shape := ⟨2, ![8192, 1024]⟩
abbrev S512x512 : Shape := ⟨2, ![512, 512]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x2048, .bf16⟩
  | .hbm, ⟨3, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== CdPostReferenceIdeal.lean ====
abbrev S8192x512 : Shape := ⟨2, ![8192, 512]⟩
abbrev S8192x2048 : Shape := ⟨2, ![8192, 2048]⟩
abbrev S_ : Shape := ⟨0, ![]⟩
abbrev S8192x1024 : Shape := ⟨2, ![8192, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x2048, .bf16⟩
  | .hbm, ⟨3, _⟩ => ⟨S8192x512, .bf16⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x1024, .f32⟩
  | .hbm, ⟨24, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== CdPostBwd.lean ====
abbrev S8192x512 : Shape := ⟨2, ![8192, 512]⟩
abbrev S8192x2048 : Shape := ⟨2, ![8192, 2048]⟩
abbrev S8192x1024 : Shape := ⟨2, ![8192, 1024]⟩
abbrev S512x512 : Shape := ⟨2, ![512, 512]⟩
abbrev S512x1024 : Shape := ⟨2, ![512, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x2048, .bf16⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x2048, .bf16⟩
  | .hbm, ⟨7, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let c0_i32 : BitVec 32 := 0#32
  ![v0.toNat, c2_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== CdPostBwdReferenceIdeal.lean ====
abbrev S8192x512 : Shape := ⟨2, ![8192, 512]⟩
abbrev S8192x2048 : Shape := ⟨2, ![8192, 2048]⟩
abbrev S8192x1024 : Shape := ⟨2, ![8192, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x2048, .bf16⟩
  | .hbm, ⟨3, _⟩ => ⟨S8192x1024, .f32⟩
  | .hbm, ⟨4, _⟩ => ⟨S8192x512, .bf16⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x1024, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S_, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== RgConv.lean ====
abbrev S8192x2048 : Shape := ⟨2, ![8192, 2048]⟩
abbrev S4x512 : Shape := ⟨2, ![4, 512]⟩
abbrev S512 : Shape := ⟨1, ![512]⟩
abbrev S1x512 : Shape := ⟨2, ![1, 512]⟩
abbrev S8192x512 : Shape := ⟨2, ![8192, 512]⟩
abbrev S2x8x8x256 : Shape := ⟨4, ![2, 8, 8, 256]⟩
abbrev S1x256 : Shape := ⟨2, ![1, 256]⟩
abbrev S1024x256 : Shape := ⟨2, ![1024, 256]⟩
abbrev S1x1x8x256 : Shape := ⟨4, ![1, 1, 8, 256]⟩
abbrev S8x256 : Shape := ⟨2, ![8, 256]⟩
abbrev S1032x256 : Shape := ⟨2, ![1032, 256]⟩

abbrev nBuf : Space → Nat
  | .hbm => 18
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S4x512, .f32⟩
  | .hbm, ⟨2, _⟩ => ⟨S512, .f32⟩
  | .hbm, ⟨3, _⟩ => ⟨S1x512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S512, .f32⟩
  | .hbm, ⟨8, _⟩ => ⟨S1x512, .f32⟩
  | .hbm, ⟨9, _⟩ => ⟨S1x512, .f32⟩
  | .hbm, ⟨10, _⟩ => ⟨S512, .f32⟩
  | .hbm, ⟨11, _⟩ => ⟨S1x512, .f32⟩
  | .hbm, ⟨12, _⟩ => ⟨S1x512, .f32⟩
  | .hbm, ⟨13, _⟩ => ⟨S512, .f32⟩
  | .hbm, ⟨14, _⟩ => ⟨S1x512, .f32⟩
  | .hbm, ⟨15, _⟩ => ⟨S1x512, .f32⟩
  | .hbm, ⟨16, _⟩ => ⟨S8192x512, .f32⟩
  | .hbm, ⟨17, _⟩ => ⟨S2x8x8x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1024x256, .bf16⟩
  | .local _ .vmem, ⟨11, _⟩ => ⟨S1024x256, .bf16⟩
  | .local _ .vmem, ⟨12, _⟩ => ⟨S1024x256, .f32⟩
  | .local _ .vmem, ⟨13, _⟩ => ⟨S1024x256, .f32⟩
  | .local _ .vmem, ⟨14, _⟩ => ⟨S1x1x8x256, .f32⟩
  | .local _ .vmem, ⟨15, _⟩ => ⟨S1x1x8x256, .f32⟩
  | .local _ .vmem, ⟨16, _⟩ => ⟨S8x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13_0 : Ref sig .tc := ⟨.hbm, 16, rfl⟩
abbrev main_v13_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RgConvReferenceIdeal.lean ====
abbrev S8192x2048 : Shape := ⟨2, ![8192, 2048]⟩
abbrev S4x512 : Shape := ⟨2, ![4, 512]⟩
abbrev S512 : Shape := ⟨1, ![512]⟩
abbrev S_ : Shape := ⟨0, ![]⟩
abbrev S3x512 : Shape := ⟨2, ![3, 512]⟩
abbrev S8192x512 : Shape := ⟨2, ![8192, 512]⟩
abbrev S8195x512 : Shape := ⟨2, ![8195, 512]⟩
abbrev S1x512 : Shape := ⟨2, ![1, 512]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x512, .f32⟩
  | .hbm, ⟨2, _⟩ => ⟨S512, .f32⟩
  | .hbm, ⟨3, _⟩ => ⟨S_, .f32⟩
  | .hbm, ⟨4, _⟩ => ⟨S3x512, .f32⟩
  | .hbm, ⟨5, _⟩ => ⟨S8192x512, .bf16⟩
  | .hbm, ⟨6, _⟩ => ⟨S8192x512, .f32⟩
  | .hbm, ⟨7, _⟩ => ⟨S8195x512, .f32⟩
  | .hbm, ⟨8, _⟩ => ⟨S1x512, .f32⟩
  | .hbm, ⟨9, _⟩ => ⟨S512, .f32⟩
  | .hbm, ⟨10, _⟩ => ⟨S8192x512, .f32⟩
  | .hbm, ⟨11, _⟩ => ⟨S1x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S1x512, .f32⟩
  | .hbm, ⟨18, _⟩ => ⟨S512, .f32⟩
  | .hbm, ⟨19, _⟩ => ⟨S8192x512, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S1x512, .f32⟩
  | .hbm, ⟨25, _⟩ => ⟨S512, .f32⟩
  | .hbm, ⟨26, _⟩ => ⟨S8192x512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S1x512, .f32⟩
  | .hbm, ⟨32, _⟩ => ⟨S512, .f32⟩
  | .hbm, ⟨33, _⟩ => ⟨S8192x512, .f32⟩
  | .hbm, ⟨34, _⟩ => ⟨S1x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S1x512, .f32⟩
  | .hbm, ⟨39, _⟩ => ⟨S8192x512, .f32⟩
  | .hbm, ⟨40, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]
-- ==== RgConvBwd.lean ====
abbrev S8192x2048 : Shape := ⟨2, ![8192, 2048]⟩
abbrev S4x512 : Shape := ⟨2, ![4, 512]⟩
abbrev S512 : Shape := ⟨1, ![512]⟩
abbrev S8192x512 : Shape := ⟨2, ![8192, 512]⟩
abbrev S1x512 : Shape := ⟨2, ![1, 512]⟩
abbrev S_ : Shape := ⟨0, ![]⟩
abbrev S8x512 : Shape := ⟨2, ![8, 512]⟩
abbrev S64x512 : Shape := ⟨2, ![64, 512]⟩
abbrev S8x8x2x256 : Shape := ⟨4, ![8, 8, 2, 256]⟩
abbrev S2x8x8x256 : Shape := ⟨4, ![2, 8, 8, 256]⟩
abbrev S1x256 : Shape := ⟨2, ![1, 256]⟩
abbrev S1024x256 : Shape := ⟨2, ![1024, 256]⟩
abbrev S1x1x8x256 : Shape := ⟨4, ![1, 1, 8, 256]⟩
abbrev S8x256 : Shape := ⟨2, ![8, 256]⟩
abbrev S1032x256 : Shape := ⟨2, ![1032, 256]⟩
abbrev S1016x256 : Shape := ⟨2, ![1016, 256]⟩
abbrev S256 : Shape := ⟨1, ![256]⟩

abbrev nBuf : Space → Nat
  | .hbm => 48
  | .vmem => 29
  | .smem => 0
  | _ => 0

abbrev bufTy : (tb : Table) → Fin (tcTables nBuf tb) → BufTy
  | .hbm, ⟨0, _⟩ => ⟨S8192x2048, .bf16⟩
  | .hbm, ⟨1, _⟩ => ⟨S4x512, .f32⟩
  | .hbm, ⟨2, _⟩ => ⟨S512, .f32⟩
  | .hbm, ⟨3, _⟩ => ⟨S8192x512, .f32⟩
  | .hbm, ⟨4, _⟩ => ⟨S1x512, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S512, .f32⟩
  | .hbm, ⟨12, _⟩ => ⟨S1x512, .f32⟩
  | .hbm, ⟨13, _⟩ => ⟨S1x512, .f32⟩
  | .hbm, ⟨14, _⟩ => ⟨S512, .f32⟩
  | .hbm, ⟨15, _⟩ => ⟨S1x512, .f32⟩
  | .hbm, ⟨16, _⟩ => ⟨S1x512, .f32⟩
  | .hbm, ⟨17, _⟩ => ⟨S8192x512, .bf16⟩
  | .hbm, ⟨18, _⟩ => ⟨S8192x512, .f32⟩
  | .hbm, ⟨19, _⟩ => ⟨S_, .f32⟩
  | .hbm, ⟨20, _⟩ => ⟨S8x512, .f32⟩
  | .hbm, ⟨21, _⟩ => ⟨S8x512, .f32⟩
  | .hbm, ⟨22, _⟩ => ⟨S8x512, .f32⟩
  | .hbm, ⟨23, _⟩ => ⟨S8x512, .f32⟩
  | .hbm, ⟨24, _⟩ => ⟨S8x512, .f32⟩
  | .hbm, ⟨25, _⟩ => ⟨S8x512, .f32⟩
  | .hbm, ⟨26, _⟩ => ⟨S8x512, .f32⟩
  | .hbm, ⟨27, _⟩ => ⟨S8x512, .f32⟩
  | .hbm, ⟨28, _⟩ => ⟨S64x512, .f32⟩
  | .hbm, ⟨29, _⟩ => ⟨S8x8x2x256, .f32⟩
  | .hbm, ⟨30, _⟩ => ⟨S2x8x8x256, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S8192x2048, .bf16⟩
  | .hbm, ⟨37, _⟩ => ⟨S8192x512, .bf16⟩
  | .hbm, ⟨38, _⟩ => ⟨S512, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S4x512, .f32⟩
  | .hbm, ⟨47, _⟩ => ⟨S512, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1024x256, .bf16⟩
  | .local _ .vmem, ⟨11, _⟩ => ⟨S1024x256, .bf16⟩
  | .local _ .vmem, ⟨12, _⟩ => ⟨S1x1x8x256, .f32⟩
  | .local _ .vmem, ⟨13, _⟩ => ⟨S1x1x8x256, .f32⟩
  | .local _ .vmem, ⟨14, _⟩ => ⟨S1024x256, .f32⟩
  | .local _ .vmem, ⟨15, _⟩ => ⟨S1024x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1024x256, .bf16⟩
  | .local _ .vmem, ⟨27, _⟩ => ⟨S1024x256, .bf16⟩
  | .local _ .vmem, ⟨28, _⟩ => ⟨S8x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26_0 : Ref sig .tc := ⟨.hbm, 31, rfl⟩
abbrev main_v26_1 : Ref sig .tc := ⟨.hbm, 32, rfl⟩
abbrev main_v26_2 : Ref sig .tc := ⟨.hbm, 33, rfl⟩
abbrev main_v26_3 : Ref sig .tc := ⟨.hbm, 34, rfl⟩
abbrev main_v26_4 : Ref sig .tc := ⟨.hbm, 35, rfl⟩
abbrev main_v26_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c6_i32 : BitVec 32 := 6#32
  let v1 : BitVec 32 := Scalar.addi c6_i32 arg0
  let c0_i32 : BitVec 32 := 0#32
  ![v0.toNat, v1.toNat]

def cc0_transform_6 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c6_i32 : BitVec 32 := 6#32
  let v1 : BitVec 32 := Scalar.addi c6_i32 arg0
  let c0_i32 : BitVec 32 := 0#32
  ![v0.toNat, v1.toNat]

abbrev stage0_0 : Fin 2 → Memref sig .tc .vmem S1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== RgConvBwdReferenceIdeal.lean ====
abbrev S8192x2048 : Shape := ⟨2, ![8192, 2048]⟩
abbrev S4x512 : Shape := ⟨2, ![4, 512]⟩
abbrev S512 : Shape := ⟨1, ![512]⟩
abbrev S8192x512 : Shape := ⟨2, ![8192, 512]⟩
abbrev S_ : Shape := ⟨0, ![]⟩
abbrev S3x512 : Shape := ⟨2, ![3, 512]⟩
abbrev S8195x512 : Shape := ⟨2, ![8195, 512]⟩
abbrev S1x512 : Shape := ⟨2, ![1, 512]⟩

abbrev nBuf : Space → Nat
  | .hbm => 114
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x512, .f32⟩
  | .hbm, ⟨2, _⟩ => ⟨S512, .f32⟩
  | .hbm, ⟨3, _⟩ => ⟨S8192x512, .f32⟩
  | .hbm, ⟨4, _⟩ => ⟨S_, .f32⟩
  | .hbm, ⟨5, _⟩ => ⟨S3x512, .f32⟩
  | .hbm, ⟨6, _⟩ => ⟨S8192x512, .bf16⟩
  | .hbm, ⟨7, _⟩ => ⟨S8192x512, .f32⟩
  | .hbm, ⟨8, _⟩ => ⟨S8195x512, .f32⟩
  | .hbm, ⟨9, _⟩ => ⟨S_, .f32⟩
  | .hbm, ⟨10, _⟩ => ⟨S3x512, .f32⟩
  | .hbm, ⟨11, _⟩ => ⟨S1x512, .f32⟩
  | .hbm, ⟨12, _⟩ => ⟨S512, .f32⟩
  | .hbm, ⟨13, _⟩ => ⟨S8192x512, .f32⟩
  | .hbm, ⟨14, _⟩ => ⟨S1x512, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S1x512, .f32⟩
  | .hbm, ⟨21, _⟩ => ⟨S512, .f32⟩
  | .hbm, ⟨22, _⟩ => ⟨S8192x512, .f32⟩
  | .hbm, ⟨23, _⟩ => ⟨S1x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S1x512, .f32⟩
  | .hbm, ⟨28, _⟩ => ⟨S512, .f32⟩
  | .hbm, ⟨29, _⟩ => ⟨S8192x512, .f32⟩
  | .hbm, ⟨30, _⟩ => ⟨S1x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S1x512, .f32⟩
  | .hbm, ⟨35, _⟩ => ⟨S512, .f32⟩
  | .hbm, ⟨36, _⟩ => ⟨S8192x512, .f32⟩
  | .hbm, ⟨37, _⟩ => ⟨S1x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S1x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S512, .f32⟩
  | .hbm, ⟨47, _⟩ => ⟨S1x512, .f32⟩
  | .hbm, ⟨48, _⟩ => ⟨S_, .f32⟩
  | .hbm, ⟨49, _⟩ => ⟨S512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S_, .f32⟩
  | .hbm, ⟨57, _⟩ => ⟨S512, .f32⟩
  | .hbm, ⟨58, _⟩ => ⟨S_, .f32⟩
  | .hbm, ⟨59, _⟩ => ⟨S8195x512, .f32⟩
  | .hbm, ⟨60, _⟩ => ⟨S1x512, .f32⟩
  | .hbm, ⟨61, _⟩ => ⟨S_, .f32⟩
  | .hbm, ⟨62, _⟩ => ⟨S4x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S_, .f32⟩
  | .hbm, ⟨67, _⟩ => ⟨S512, .f32⟩
  | .hbm, ⟨68, _⟩ => ⟨S1x512, .f32⟩
  | .hbm, ⟨69, _⟩ => ⟨S_, .f32⟩
  | .hbm, ⟨70, _⟩ => ⟨S512, .f32⟩
  | .hbm, ⟨71, _⟩ => ⟨S_, .f32⟩
  | .hbm, ⟨72, _⟩ => ⟨S8195x512, .f32⟩
  | .hbm, ⟨73, _⟩ => ⟨S8195x512, .f32⟩
  | .hbm, ⟨74, _⟩ => ⟨S1x512, .f32⟩
  | .hbm, ⟨75, _⟩ => ⟨S_, .f32⟩
  | .hbm, ⟨76, _⟩ => ⟨S4x512, .f32⟩
  | .hbm, ⟨77, _⟩ => ⟨S4x512, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S_, .f32⟩
  | .hbm, ⟨82, _⟩ => ⟨S512, .f32⟩
  | .hbm, ⟨83, _⟩ => ⟨S1x512, .f32⟩
  | .hbm, ⟨84, _⟩ => ⟨S_, .f32⟩
  | .hbm, ⟨85, _⟩ => ⟨S512, .f32⟩
  | .hbm, ⟨86, _⟩ => ⟨S_, .f32⟩
  | .hbm, ⟨87, _⟩ => ⟨S8195x512, .f32⟩
  | .hbm, ⟨88, _⟩ => ⟨S8195x512, .f32⟩
  | .hbm, ⟨89, _⟩ => ⟨S1x512, .f32⟩
  | .hbm, ⟨90, _⟩ => ⟨S_, .f32⟩
  | .hbm, ⟨91, _⟩ => ⟨S4x512, .f32⟩
  | .hbm, ⟨92, _⟩ => ⟨S4x512, .f32⟩
  | .hbm, ⟨93, _⟩ => ⟨S8192x512, .f32⟩
  | .hbm, ⟨94, _⟩ => ⟨S8192x512, .f32⟩
  | .hbm, ⟨95, _⟩ => ⟨S8192x512, .f32⟩
  | .hbm, ⟨96, _⟩ => ⟨S_, .f32⟩
  | .hbm, ⟨97, _⟩ => ⟨S512, .f32⟩
  | .hbm, ⟨98, _⟩ => ⟨S1x512, .f32⟩
  | .hbm, ⟨99, _⟩ => ⟨S_, .f32⟩
  | .hbm, ⟨100, _⟩ => ⟨S512, .f32⟩
  | .hbm, ⟨101, _⟩ => ⟨S_, .f32⟩
  | .hbm, ⟨102, _⟩ => ⟨S8195x512, .f32⟩
  | .hbm, ⟨103, _⟩ => ⟨S8195x512, .f32⟩
  | .hbm, ⟨104, _⟩ => ⟨S1x512, .f32⟩
  | .hbm, ⟨105, _⟩ => ⟨S_, .f32⟩
  | .hbm, ⟨106, _⟩ => ⟨S4x512, .f32⟩
  | .hbm, ⟨107, _⟩ => ⟨S4x512, .f32⟩
  | .hbm, ⟨108, _⟩ => ⟨S3x512, .f32⟩
  | .hbm, ⟨109, _⟩ => ⟨S8192x512, .f32⟩
  | .hbm, ⟨110, _⟩ => ⟨S8192x512, .bf16⟩
  | .hbm, ⟨111, _⟩ => ⟨S_, .bf16⟩
  | .hbm, ⟨112, _⟩ => ⟨S8192x2048, .bf16⟩
  | .hbm, ⟨113, _⟩ => ⟨S8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_16 : Ref sig .tc := ⟨.hbm, 96, rfl⟩
abbrev main_v75 : Ref sig .tc := ⟨.hbm, 97, rfl⟩
abbrev main_v76 : Ref sig .tc := ⟨.hbm, 98, rfl⟩
abbrev main_cst_17 : Ref sig .tc := ⟨.hbm, 99, rfl⟩
abbrev main_v77 : Ref sig .tc := ⟨.hbm, 100, rfl⟩
abbrev main_cst_18 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_19 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_20 : Ref sig .tc := ⟨.hbm, 111, rfl⟩
abbrev main_v86 : Ref sig .tc := ⟨.hbm, 112, rfl⟩
abbrev main_v87 : Ref sig .tc := ⟨.hbm, 113, rfl⟩

abbrev nD : Nat := 1
abbrev τ : Topo := Topo.v7x

variable {F : FTy → Type} [FloatOps F]
-- ==== Proof.Levels.lean ====
/- The levels of the recurrence's scan over one block, and of its pullback: each level doubles the distance over which
   the rows are combined.  The values the two bodies compute are these levels, composed. -/
module

public import proofs.«01_k».proof.Proof.Gen.KernelIdeal.Launch
public import proofs.«01_k».proof.Proof.Gen.KernelIdeal.Skeleton

@[expose] public section

set_option maxRecDepth 16384

noncomputable section

namespace Cert.KernelIdeal.Scan

open Cert.KernelIdeal.Gen
open Idealize.ShloMosaic Idealize.ShloMosaic.TcCoe

variable {F : FTy → Type} [FloatOps F]

/-- A block of 512 rows by 256 columns. -/
abbrev Blk (F : FTy → Type) := FVec F S512x256 .f32

/-- The row numbers 0 … 511. -/
def rowNo : IVec S512x1 32 := iota .tc S512x1 32 [0] iota_S512x1_d0_w32

/-- The rows at or below row `s`. -/
def low (s : BitVec 32) : IVec S512x256 1 :=
  broadcastTo S512x256 (shapeCast S512x1 (cmpi .sge rowNo (broadcast S512x1 s)) shapeCasts_S512x1_S512x1) broadcasts_S512x1_S512x256

/-- The rows moved down by `s`, cyclically. -/
abbrev rot (s : BitVec 32) (x : Blk F) : Blk F := dynamicRotate 0 s none x rotates_S512x256_d0

/-- The block of zeros. -/
abbrev nil : Blk F := broadcast S512x256 (Scalar.ofBits .f32 0x00000000#32 : F .f32)

/-- One level of the scan, on the factors. -/
def la (s : BitVec 32) (a : Blk F) : Blk F := select (low s) (mulf a (rot s a)) a

/-- One level of the scan, on the summands. -/
def lu (s : BitVec 32) (a u : Blk F) : Blk F := select (low s) (addf (mulf a (rot s u)) u) u

/-- One level of the pullback, on the summands' cotangent `c`; `r` is 512 - `s`. -/
def bu (s r : BitVec 32) (a c : Blk F) : Blk F :=
  addf (addf (select (low s) nil c) (select (low s) c nil)) (rot r (mulf a (select (low s) c nil)))

/-- One level of the pullback, on the factors' cotangent `e`; `r` is 512 - `s`. -/
def ba (s r : BitVec 32) (a u c e : Blk F) : Blk F :=
  addf (addf (addf (select (low s) nil e) (mulf (select (low s) e nil) (rot s a))) (mulf (select (low s) c nil) (rot s u)))
    (rot r (mulf a (select (low s) e nil)))

/-- The distance of level `k`. -/
def dist (k : ℕ) : BitVec 32 := BitVec.ofNat 32 (2 ^ k)
/-- 512 less the distance of level `k`. -/
def back (k : ℕ) : BitVec 32 := BitVec.ofNat 32 (512 - 2 ^ k)

/-- The factors before level `k`. -/
def aL (a : Blk F) : ℕ → Blk F
  | 0 => a
  | k + 1 => la (dist k) (aL a k)

/-- The summands before level `k`. -/
def uL (a u : Blk F) : ℕ → Blk F
  | 0 => u
  | k + 1 => lu (dist k) (aL a k) (uL a u k)

/-- The summands' cotangent after `n` levels of the pullback, which undoes level 8 first. -/
def cL (a c : Blk F) : ℕ → Blk F
  | 0 => c
  | n + 1 => bu (dist (8 - n)) (back (8 - n)) (aL a (8 - n)) (cL a c n)

/-- The factors' cotangent after `n` levels of the pullback. -/
def eL (a u c e : Blk F) : ℕ → Blk F
  | 0 => e
  | n + 1 => ba (dist (8 - n)) (back (8 - n)) (aL a (8 - n)) (uL a u (8 - n)) (cL a c n) (eL a u c e n)

section Fold
variable (a u c e : Blk F)

theorem la_0 : la 1#32 a = aL a 1 := rfl
theorem lu_0 : lu 1#32 a u = uL a u 1 := rfl
theorem bu_0 : bu 1#32 511#32 a (cL a c 8) = cL a c 9 := rfl
theorem ba_0 : ba 1#32 511#32 a u (cL a c 8) (eL a u c e 8) = eL a u c e 9 := rfl
theorem la_1 : la 2#32 (aL a 1) = aL a 2 := rfl
theorem lu_1 : lu 2#32 (aL a 1) (uL a u 1) = uL a u 2 := rfl
theorem bu_1 : bu 2#32 510#32 (aL a 1) (cL a c 7) = cL a c 8 := rfl
theorem ba_1 : ba 2#32 510#32 (aL a 1) (uL a u 1) (cL a c 7) (eL a u c e 7) = eL a u c e 8 := rfl
theorem la_2 : la 4#32 (aL a 2) = aL a 3 := rfl
theorem lu_2 : lu 4#32 (aL a 2) (uL a u 2) = uL a u 3 := rfl
theorem bu_2 : bu 4#32 508#32 (aL a 2) (cL a c 6) = cL a c 7 := rfl
theorem ba_2 : ba 4#32 508#32 (aL a 2) (uL a u 2) (cL a c 6) (eL a u c e 6) = eL a u c e 7 := rfl
theorem la_3 : la 8#32 (aL a 3) = aL a 4 := rfl
theorem lu_3 : lu 8#32 (aL a 3) (uL a u 3) = uL a u 4 := rfl
theorem bu_3 : bu 8#32 504#32 (aL a 3) (cL a c 5) = cL a c 6 := rfl
theorem ba_3 : ba 8#32 504#32 (aL a 3) (uL a u 3) (cL a c 5) (eL a u c e 5) = eL a u c e 6 := rfl
theorem la_4 : la 16#32 (aL a 4) = aL a 5 := rfl
theorem lu_4 : lu 16#32 (aL a 4) (uL a u 4) = uL a u 5 := rfl
theorem bu_4 : bu 16#32 496#32 (aL a 4) (cL a c 4) = cL a c 5 := rfl
theorem ba_4 : ba 16#32 496#32 (aL a 4) (uL a u 4) (cL a c 4) (eL a u c e 4) = eL a u c e 5 := rfl
theorem la_5 : la 32#32 (aL a 5) = aL a 6 := rfl
theorem lu_5 : lu 32#32 (aL a 5) (uL a u 5) = uL a u 6 := rfl
theorem bu_5 : bu 32#32 480#32 (aL a 5) (cL a c 3) = cL a c 4 := rfl
theorem ba_5 : ba 32#32 480#32 (aL a 5) (uL a u 5) (cL a c 3) (eL a u c e 3) = eL a u c e 4 := rfl
theorem la_6 : la 64#32 (aL a 6) = aL a 7 := rfl
theorem lu_6 : lu 64#32 (aL a 6) (uL a u 6) = uL a u 7 := rfl
theorem bu_6 : bu 64#32 448#32 (aL a 6) (cL a c 2) = cL a c 3 := rfl
theorem ba_6 : ba 64#32 448#32 (aL a 6) (uL a u 6) (cL a c 2) (eL a u c e 2) = eL a u c e 3 := rfl
theorem la_7 : la 128#32 (aL a 7) = aL a 8 := rfl
theorem lu_7 : lu 128#32 (aL a 7) (uL a u 7) = uL a u 8 := rfl
theorem bu_7 : bu 128#32 384#32 (aL a 7) (cL a c 1) = cL a c 2 := rfl
theorem ba_7 : ba 128#32 384#32 (aL a 7) (uL a u 7) (cL a c 1) (eL a u c e 1) = eL a u c e 2 := rfl
theorem la_8 : la 256#32 (aL a 8) = aL a 9 := rfl
theorem lu_8 : lu 256#32 (aL a 8) (uL a u 8) = uL a u 9 := rfl
theorem bu_8 : bu 256#32 256#32 (aL a 8) c = cL a c 1 := rfl
theorem ba_8 : ba 256#32 256#32 (aL a 8) (uL a u 8) c e = eL a u c e 1 := rfl

theorem low_def (s : BitVec 32) : broadcastTo S512x256 (shapeCast S512x1 (cmpi .sge rowNo (broadcast S512x1 s)) shapeCasts_S512x1_S512x1)
    broadcasts_S512x1_S512x256 = low s := rfl

end Fold

end Cert.KernelIdeal.Scan

end
-- ==== Proof.Payloads.lean ====
/- The printed values of the two bodies, as compositions of levels: each equation by unfolding the printed definitions. -/
module

public import proofs.«01_k».proof.Proof.Levels

@[expose] public section

set_option maxRecDepth 16384

noncomputable section

namespace Cert.KernelIdeal.Scan

open Cert.KernelIdeal.Gen
open Idealize.ShloMosaic Idealize.ShloMosaic.TcCoe

variable {F : FTy → Type} [FloatOps F]

/-! ## The forward body -/

section Fwd
variable (a u A U : Blk F) (p : FVec F S8x256 .f32)

/-- The row the block continues from: the last of the carried rows, spread over the block. -/
def row0 (p : FVec F S8x256 .f32) : FVec F S1x256 .f32 :=
  shapeCast S1x256 (multiReduction .add [0] S256
    (select (broadcastTo S8x256 (shapeCast S8x1 (cmpi .eq (iota .tc S8x1 32 [0] iota_S8x1_d0_w32) (broadcast S8x1 7#32)) shapeCasts_S8x1_S8x1)
      broadcasts_S8x1_S8x256) p (broadcast S8x256 (Scalar.ofBits .f32 0x00000000#32 : F .f32)))
    0x00000000#32 reduces_S8x256_S256 (.inl rfl) rfl) shapeCasts_S256_S1x256

/-- `row0` over every row of the block. -/
def row0s (p : FVec F S8x256 .f32) : Blk F := broadcastTo S512x256 (row0 p) broadcasts_S1x256_S512x256

theorem f8 : k0_pay8 a = aL a 2 := rfl
theorem f7 : k0_pay7 a u = uL a u 2 := rfl
theorem f10 : k0_pay10 a = rot 4#32 (aL a 2) := rfl
theorem f11 : k0_pay11 a u = addf (mulf (aL a 2) (rot 4#32 (uL a u 2))) (uL a u 2) := rfl
theorem f19 : k0_pay19 rowNo U A k0_pay9 (rot 4#32 A) (addf (mulf A (rot 4#32 U)) U) k0_pay12 = (lu 32#32 (la 16#32 (la 8#32 (la 4#32 A))) (lu 16#32 (la 8#32 (la 4#32 A)) (lu 8#32 (la 4#32 A) (lu 4#32 A U)))) := rfl
theorem f20 : k0_pay20 rowNo A k0_pay9 (rot 4#32 A) = (la 32#32 (la 16#32 (la 8#32 (la 4#32 A)))) := rfl
theorem f22 : k0_pay22 rowNo A k0_pay9 (rot 4#32 A) = rot 64#32 (la 32#32 (la 16#32 (la 8#32 (la 4#32 A)))) := rfl
theorem f23 : k0_pay23 p rowNo U A (k0_pay21 rowNo) (rot 64#32 A) 64#32 = addf (lu 256#32 (la 128#32 (la 64#32 A)) (lu 128#32 (la 64#32 A) (lu 64#32 A U))) (mulf (la 256#32 (la 128#32 (la 64#32 A))) (row0s p)) := rfl

end Fwd

/-! ## The backward body -/

section Bwd
variable (a u A U A2 U2 A3 U3 A4 U4 A5 U5 A6 U6 A7 U7 A8 U8 C E e1 e2 v219 v225 v228 v229 dh : Blk F) (p q : FVec F S8x256 .f32)

theorem b10 : k1_pay10 a = rot 1#32 a := rfl
theorem b11 : k1_pay11 u = rot 1#32 u := rfl
theorem b12 : k1_pay12 = low 1#32 := rfl
theorem b14 : k1_pay14 = low 1#32 := rfl
theorem b15 : k1_pay15 a = aL a 1 := rfl
theorem b17 : k1_pay17 a = rot 2#32 (aL a 1) := rfl
theorem b18 : k1_pay18 a u = rot 2#32 (uL a u 1) := rfl
theorem b19 : k1_pay19 = low 2#32 := rfl
theorem b21 : k1_pay21 = low 2#32 := rfl
theorem b20 : k1_pay20 a u = uL a u 2 := rfl
theorem b22 : k1_pay22 a = aL a 2 := rfl
theorem b24 : k1_pay24 A = rot 4#32 A := rfl
theorem b25 : k1_pay25 U = rot 4#32 U := rfl
theorem b26 : k1_pay26 rowNo 4#32 = low 4#32 := rfl
theorem b28 : k1_pay28 rowNo 4#32 = low 4#32 := rfl
theorem b29 : k1_pay29 rowNo A 4#32 = (la 4#32 A) := rfl
theorem b31 : k1_pay31 rowNo A 4#32 = rot 8#32 (la 4#32 A) := rfl
theorem b32 : k1_pay32 rowNo U A 4#32 = rot 8#32 (lu 4#32 A U) := rfl
theorem b33 : k1_pay33 rowNo = low 8#32 := rfl
theorem b35 : k1_pay35 rowNo = low 8#32 := rfl
theorem b36 : k1_pay36 rowNo A 4#32 = (la 8#32 (la 4#32 A)) := rfl
theorem b38 : k1_pay38 rowNo A 4#32 = rot 16#32 (la 8#32 (la 4#32 A)) := rfl
theorem b39 : k1_pay39 rowNo U A 4#32 = rot 16#32 (lu 8#32 (la 4#32 A) (lu 4#32 A U)) := rfl
theorem b40 : k1_pay40 rowNo = low 16#32 := rfl
theorem b42 : k1_pay42 rowNo = low 16#32 := rfl
theorem b43 : k1_pay43 rowNo A 4#32 = (la 16#32 (la 8#32 (la 4#32 A))) := rfl
theorem b45 : k1_pay45 rowNo A 4#32 = rot 32#32 (la 16#32 (la 8#32 (la 4#32 A))) := rfl
theorem b46 : k1_pay46 rowNo U A 4#32 = rot 32#32 (lu 16#32 (la 8#32 (la 4#32 A)) (lu 8#32 (la 4#32 A) (lu 4#32 A U))) := rfl
theorem b47 : k1_pay47 rowNo = low 32#32 := rfl
theorem b48 : k1_pay48 rowNo U A 4#32 = (lu 32#32 (la 16#32 (la 8#32 (la 4#32 A))) (lu 16#32 (la 8#32 (la 4#32 A)) (lu 8#32 (la 4#32 A) (lu 4#32 A U)))) := rfl
theorem b49 : k1_pay49 rowNo A 4#32 = mulf (la 16#32 (la 8#32 (la 4#32 A))) (rot 32#32 (la 16#32 (la 8#32 (la 4#32 A)))) := rfl
theorem b50 : k1_pay50 (k1_pay44 rowNo) = low 32#32 := rfl
theorem b51 : k1_pay51 A5 (k1_pay44 rowNo) (mulf A5 (rot 32#32 A5)) = (la 32#32 A5) := rfl
theorem b53 : k1_pay53 A5 (k1_pay44 rowNo) (mulf A5 (rot 32#32 A5)) = rot 64#32 (la 32#32 A5) := rfl
theorem b54 : k1_pay54 U = rot 64#32 U := rfl
theorem b55 : k1_pay55 rowNo = low 64#32 := rfl
theorem b57 : k1_pay57 rowNo = low 64#32 := rfl
theorem b58 : k1_pay58 rowNo A5 (k1_pay44 rowNo) (mulf A5 (rot 32#32 A5)) = (la 64#32 (la 32#32 A5)) := rfl
theorem b60 : k1_pay60 rowNo A5 (k1_pay44 rowNo) (mulf A5 (rot 32#32 A5)) = rot 128#32 (la 64#32 (la 32#32 A5)) := rfl
theorem b61 : k1_pay61 rowNo A5 (k1_pay44 rowNo) U6 (mulf A5 (rot 32#32 A5)) = rot 128#32 (lu 64#32 (la 32#32 A5) U6) := rfl
theorem b62 : k1_pay62 rowNo = low 128#32 := rfl
theorem b63 : k1_pay63 rowNo = low 128#32 := rfl
theorem b64 : k1_pay64 rowNo A5 (k1_pay44 rowNo) (mulf A5 (rot 32#32 A5)) = (la 128#32 (la 64#32 (la 32#32 A5))) := rfl
theorem b66 : k1_pay66 rowNo A5 (k1_pay44 rowNo) (mulf A5 (rot 32#32 A5)) = rot 256#32 (la 128#32 (la 64#32 (la 32#32 A5))) := rfl
theorem b67 : k1_pay67 rowNo A5 (k1_pay44 rowNo) U6 (mulf A5 (rot 32#32 A5)) = rot 256#32 (lu 128#32 (la 64#32 (la 32#32 A5)) (lu 64#32 (la 32#32 A5) U6)) := rfl
theorem b68 : k1_pay68 rowNo = low 256#32 := rfl
theorem b69 : k1_pay69 rowNo = low 256#32 := rfl
theorem b70 : k1_pay70 rowNo A5 (k1_pay44 rowNo) (mulf A5 (rot 32#32 A5)) = (la 256#32 (la 128#32 (la 64#32 (la 32#32 A5)))) := rfl
theorem b72 : k1_pay72 p = row0 p := rfl

/-- The cotangent of `h`, with what the block after this one sends back added to its last rows. -/
def dTot (dh : Blk F) (q : FVec F S8x256 .f32) : Blk F := k1_pay74 dh q

/-- The cotangent of the factors before the pullback's first level. -/
def eTot (dh : Blk F) (q p : FVec F S8x256 .f32) : Blk F := mulf (dTot dh q) (row0s p)

theorem b86 : k1_pay86 dh q A7 (low 128#32) A8 (low 256#32) = bu 128#32 384#32 A7 (bu 256#32 256#32 A8 (dTot dh q)) := rfl
theorem b85 : addf (k1_pay85 dh q (rot 128#32 A7) (rot 128#32 U7) (low 128#32) (low 128#32) A8 (rot 256#32 A8) (rot 256#32 U8) (low 256#32) (low 256#32) (row0 p)) (k1_pay87 dh q A7 (low 128#32) A8 (rot 256#32 A8) (rot 256#32 U8) (low 256#32) (low 256#32) (row0 p))
    = ba 128#32 384#32 A7 U7 (bu 256#32 256#32 A8 (dTot dh q)) (ba 256#32 256#32 A8 U8 (dTot dh q) (eTot dh q p)) := rfl
theorem b97 : k1_pay97 A4 (low 16#32) A5 (rot 32#32 A5) (rot 32#32 U5) (low 32#32) (low 32#32) A6 (rot 64#32 A6) (rot 64#32 U6) (low 64#32) (low 64#32) e1 C e2 = mulf A4 (select (low 16#32) (ba 32#32 480#32 A5 U5 (bu 64#32 448#32 A6 C) (ba 64#32 448#32 A6 U6 C (addf e1 e2))) nil) := rfl
theorem b100 : k1_pay100 (low 16#32) A5 (low 32#32) A6 (low 64#32) C = addf (select (low 16#32) nil (bu 32#32 480#32 A5 (bu 64#32 448#32 A6 C))) (select (low 16#32) (bu 32#32 480#32 A5 (bu 64#32 448#32 A6 C)) nil) := rfl
theorem b101 : k1_pay101 (rot 16#32 A4) (rot 16#32 U4) (low 16#32) (low 16#32) A5 (rot 32#32 A5) (rot 32#32 U5) (low 32#32) (low 32#32) A6 (rot 64#32 A6) (rot 64#32 U6) (low 64#32) (low 64#32) e1 C e2
    = addf (addf (select (low 16#32) nil (ba 32#32 480#32 A5 U5 (bu 64#32 448#32 A6 C) (ba 64#32 448#32 A6 U6 C (addf e1 e2)))) (mulf (select (low 16#32) (ba 32#32 480#32 A5 U5 (bu 64#32 448#32 A6 C) (ba 64#32 448#32 A6 U6 C (addf e1 e2))) nil) (rot 16#32 A4))) (mulf (select (low 16#32) (bu 32#32 480#32 A5 (bu 64#32 448#32 A6 C)) nil) (rot 16#32 U4)) := rfl
theorem b102 : k1_pay102 A4 (low 16#32) A5 (low 32#32) A6 (low 64#32) C = rot 496#32 (mulf A4 (select (low 16#32) (bu 32#32 480#32 A5 (bu 64#32 448#32 A6 C)) nil)) := rfl
theorem b103 : addf (addf (select (low 16#32) nil C) (select (low 16#32) C nil)) (rot 496#32 (mulf A4 (select (low 16#32) C nil))) = bu 16#32 496#32 A4 C := rfl
theorem b104 : addf (addf (addf (select (low 16#32) nil E) (mulf (select (low 16#32) E nil) (rot 16#32 A4))) (mulf (select (low 16#32) C nil) (rot 16#32 U4)))
    (rot 496#32 (mulf A4 (select (low 16#32) E nil))) = ba 16#32 496#32 A4 U4 C E := rfl
theorem b4 : k1_pay4 a (low 1#32) (k1_pay117 (low 2#32) A2 (low 4#32) A3 (low 8#32) v225 v229) (k1_pay118 A (low 2#32) A2 (low 4#32) A3 (low 8#32) v225 v229) = bu 1#32 511#32 a (bu 2#32 510#32 A (bu 4#32 508#32 A2 (bu 8#32 504#32 A3 (addf v225 v229)))) := rfl
theorem b5 : k1_pay5 a (rot 1#32 a) (rot 1#32 u) (low 1#32) (low 1#32) (k1_pay113 A (low 2#32) A2 (rot 4#32 A2) (rot 4#32 U2) (low 4#32) (low 4#32) A3 (rot 8#32 A3) (rot 8#32 U3) (low 8#32) (low 8#32) v219 v225 v228 v229) (k1_pay114 (rot 2#32 A) (low 2#32) A2 (rot 4#32 A2) (rot 4#32 U2) (low 4#32) (low 4#32) A3 (rot 8#32 A3) (rot 8#32 U3) (low 8#32) (low 8#32) v219 v225 v228 v229) (k1_pay117 (low 2#32) A2 (low 4#32) A3 (low 8#32) v225 v229)
      (k1_pay118 A (low 2#32) A2 (low 4#32) A3 (low 8#32) v225 v229) (k1_pay119 (rot 2#32 U) (low 2#32) A2 (low 4#32) A3 (low 8#32) v225 v229)
    = ba 1#32 511#32 a u (bu 2#32 510#32 A (bu 4#32 508#32 A2 (bu 8#32 504#32 A3 (addf v225 v229)))) (ba 2#32 510#32 A U (bu 4#32 508#32 A2 (bu 8#32 504#32 A3 (addf v225 v229))) (ba 4#32 508#32 A2 U2 (bu 8#32 504#32 A3 (addf v225 v229)) (ba 8#32 504#32 A3 U3 (addf v225 v229) (addf v228 (rot 496#32 v219))))) := rfl

end Bwd

end Cert.KernelIdeal.Scan

end
-- ==== Proof.FwdBody.lean ====
/- The forward call of the recurrence, one grid point: what its body leaves in the block of `h`, in the saved state and in
   the carried rows, as functions of the two input blocks and of the carried rows it starts from. -/
module

public import proofs.«01_k».proof.Proof.Payloads
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of `h` from the blocks of `a` and `u` and the carried rows `p`. -/
def fwdH (a u : Blk F) (p : Vec F S8x256 .f32) : Vec F S512x256 .f32 := addf (uL a u 9) (mulf (aL a 9) (row0s p))

/-- The carried rows the body leaves: the last eight rows of the block of `h`. -/
def fwdP (a u : Blk F) (p : Vec F S8x256 .f32) : Vec F S8x256 .f32 :=
  k0_pay2 (extractStridedSlice S8x256 ![504, 0] (fwdH a u p) slices_S512x256_o504_0_S8x256)

theorem f24 (p : Vec F S8x256 .f32) (v6 : IVec S512x1 32) (v80 v84 v87 : Blk F) (v86 : IVec S512x1 1) (s : BitVec 32) :
    k0_pay24 p v6 v80 v84 v86 v87 s
      = extractStridedSlice S8x256 ![504, 0] (k0_pay23 p v6 v80 v84 v86 v87 s) slices_S512x256_o504_0_S8x256 := rfl

/-- The body starts its carried rows afresh: the point is the first of its half of the columns. -/
abbrev fresh0 (i : grid0.Coords) : Prop :=
  (Scalar.cmpi .ne (Scalar.extui (Scalar.cmpi .eq (BitVec.ofNat 32 (i 1).val) 0#32)) 0#32) = 1#1

theorem fresh0_iff (t : Fin cfg0.N) : fresh0 (grid0.coords t) ↔ t.val % 16 = 0 := by
  have ht : t.val < 32 := Nat.lt_of_lt_of_eq t.isLt N_0
  have e1 : (grid0.coords t 1).val = t.val / 1 % 16 := Pipeline.Grid.coords_val t 1 (by decide) rfl
  simp only [fresh0, e1]
  word_cmp

set_option maxHeartbeats 1000000 in
/-- One point's body on whole buffers: the inputs stay, the two outputs and the carried rows end at the functions above. -/
theorem fwd_run (c : Dev nD) (i : grid0.Coords)
    (arg2 : Memref sig .tc .vmem S512x256 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S1x1x8x256 .f32) (harg5 : arg5.IsWhole)
    (arg6 : Memref sig .tc .vmem S8x256 .f32) (harg6 : arg6.IsWhole)
    (a u : Vec F S512x256 .f32) (s p : Vec F S8x256 .f32) (hA : fresh0 i → p = k0_pay3) (hB : ¬ fresh0 i → p = s)
    (E : Set ℕ) (K : PUnit → sProp 𝕄) :
    iprop(owns (c : Thread nD τ) arg2 fullShare a ∗ owns (c : Thread nD τ) arg3 fullShare u
        ∗ (∃ d, owns (c : Thread nD τ) arg4 fullShare d) ∗ (∃ d, owns (c : Thread nD τ) arg5 fullShare d)
        ∗ owns (c : Thread nD τ) arg6 fullShare s
        ∗ (iprop(owns (c : Thread nD τ) arg2 fullShare a ∗ owns (c : Thread nD τ) arg3 fullShare u
            ∗ owns (c : Thread nD τ) arg4 fullShare (fwdH a u p) ∗ owns (c : Thread nD τ) arg5 fullShare (k0_pay1 p)
            ∗ owns (c : Thread nD τ) arg6 fullShare (fwdP a u p)) -∗ K ⟨⟩))
      ⊢ wp frame (wpE (defs₀ (F := F)) Variants.none c none) E
          (cc0_rg_scan0_fwd i arg2 harg2 arg3 harg3 arg4 harg4 arg5 harg5 arg6 harg6) K := by
  simp only [cc0_rg_scan0_fwd_eq_skeleton]; unfold cc0_rg_scan0_fwd_skel
  simp only [k0_part1_eq_skeleton, k0_part2_eq_skeleton, k0_part3_eq_skeleton]
  have eA : arg2.view.readAt (Elt F) (Rect.unit (s := S512x256) ![0, 0] S512x256.size inb_S512x256_S512x256_0_0).toLoadRect (harg2.unread a) = a := by
    rw [View.readAt_full, Memref.IsWhole.read_unread]
  have eU : arg3.view.readAt (Elt F) (Rect.unit (s := S512x256) ![0, 0] S512x256.size inb_S512x256_S512x256_0_0).toLoadRect (harg3.unread u) = u := by
    rw [View.readAt_full, Memref.IsWhole.read_unread]
  have eS : arg6.view.readAt (Elt F) (Rect.unit (s := S8x256) ![0, 0] S8x256.size inb_S8x256_S8x256_0_0).toLoadRect (harg6.unread s) = s := by
    rw [View.readAt_full, Memref.IsWhole.read_unread]
  have eP : arg6.view.readCov ([⟨Rect.unit (s := S8x256) ![0, 0] S8x256.size inb_S8x256_S8x256_0_0, k0_pay3 (F := F)⟩] : List (View.Piece (Elt F) S8x256 .f32))
      (Rect.unit (s := S8x256) ![0, 0] S8x256.size inb_S8x256_S8x256_0_0).toLoadRect = k0_pay3 (F := F) := by
    exact View.readCov_full _ _ _ _ _
  unfold owns
  iintro ⟨⟨%f0, %hf0, H0⟩, ⟨%f1, %hf1, H1⟩, ⟨%d2, %f2, -, H2⟩, ⟨%d3, %f3, -, H3⟩, ⟨%fs0, %hfs0, HS0⟩, Hk⟩
  obtain rfl := harg2.eq_unread hf0; obtain rfl := harg3.eq_unread hf1; obtain rfl := harg6.eq_unread hfs0
  by_cases hc0 : fresh0 i
  · obtain rfl := hA hc0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      refine (View.read_writes_full _ _ _ _ _).trans ?_
      delta fwd_run.sl.r_4 fwd_run.sl.r_3 fwd_run.sl.r_2 fwd_run.sl.r_1 fwd_run.sl.r fwdH; rw [show fwd_run.sl.v6 = rowNo from rfl]; simp only [f24, f8, f7, f10, f11, f19, f20, f22, f23,
      la_2, lu_2, la_3, lu_3, la_4, lu_4, la_5, lu_5, la_6, lu_6, la_7, lu_7, la_8, lu_8]
    isplitl [H3]
    · iexists _; isplitr; swap; · iexact H3
      ipureintro
      refine (View.read_writes_full _ _ _ _ _).trans ?_
      rfl
    iexists _; isplitr; swap; · iexact HS0
    ipureintro
    refine (View.read_writes_full _ _ _ _ _).trans ?_
    delta fwd_run.sl.r_4 fwd_run.sl.r_3 fwd_run.sl.r_2 fwd_run.sl.r_1 fwd_run.sl.r fwdP fwdH; rw [show fwd_run.sl.v6 = rowNo from rfl]; simp only [f24, f8, f7, f10, f11, f19, f20, f22, f23,
      la_2, lu_2, la_3, lu_3, la_4, lu_4, la_5, lu_5, la_6, lu_6, la_7, lu_7, la_8, lu_8]
  · obtain rfl := hB hc0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      refine (View.read_writes_full _ _ _ _ _).trans ?_
      delta fwd_run.sl.r_9 fwd_run.sl.r_8 fwd_run.sl.r_7 fwd_run.sl.r_6 fwd_run.sl.r_5 fwdH; rw [show fwd_run.sl.v6_1 = rowNo from rfl]; simp only [f24, f8, f7, f10, f11, f19, f20, f22, f23,
      la_2, lu_2, la_3, lu_3, la_4, lu_4, la_5, lu_5, la_6, lu_6, la_7, lu_7, la_8, lu_8]
    isplitl [H3]
    · iexists _; isplitr; swap; · iexact H3
      ipureintro
      refine (View.read_writes_full _ _ _ _ _).trans ?_
      rfl
    iexists _; isplitr; swap; · iexact HS0
    ipureintro
    refine (View.read_writes_full _ _ _ _ _).trans ?_
    delta fwd_run.sl.r_9 fwd_run.sl.r_8 fwd_run.sl.r_7 fwd_run.sl.r_6 fwd_run.sl.r_5 fwdP fwdH; rw [show fwd_run.sl.v6_1 = rowNo from rfl]; simp only [f24, f8, f7, f10, f11, f19, f20, f22, f23,
      la_2, lu_2, la_3, lu_3, la_4, lu_4, la_5, lu_5, la_6, lu_6, la_7, lu_7, la_8, lu_8]

end Cert.KernelIdeal.Scan

end
-- ==== Proof.BwdBody.lean ====
/- The backward call of the recurrence, one grid point: what its body leaves in the blocks of the two cotangents and in the
   carried rows, as functions of the input blocks, the saved state and the carried rows it starts from. -/
module

public import proofs.«01_k».proof.Proof.Payloads
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The cotangent of the block of `u`. -/
def bwdU (a dh : Blk F) (q : Vec F S8x256 .f32) : Vec F S512x256 .f32 := cL a (dTot dh q) 9

/-- The cotangent of the block of `a`. -/
def bwdA (a u dh : Blk F) (p : Vec F S1x1x8x256 .f32) (q : Vec F S8x256 .f32) : Vec F S512x256 .f32 :=
  eL a u (dTot dh q) (eTot dh q (k1_pay8 p)) 9

/-- What the body sends back to the block before it. -/
def bwdQ (a dh : Blk F) (q : Vec F S8x256 .f32) : Vec F S8x256 .f32 := k1_pay6 (k1_pay76 dh q (aL a 9) k1_pay71)

/-- The body starts its carried rows afresh: the point is the first of its half of the columns. -/
abbrev fresh1 (i : grid1.Coords) : Prop :=
  (Scalar.cmpi .ne (Scalar.extui (Scalar.cmpi .eq (BitVec.ofNat 32 (i 1).val) 0#32)) 0#32) = 1#1

theorem fresh1_iff (t : Fin cfg1.N) : fresh1 (grid1.coords t) ↔ t.val % 16 = 0 := by
  have ht : t.val < 32 := Nat.lt_of_lt_of_eq t.isLt N_1
  have e1 : (grid1.coords t 1).val = t.val / 1 % 16 := Pipeline.Grid.coords_val t 1 (by decide) rfl
  simp only [fresh1, e1]
  word_cmp

set_option maxHeartbeats 2000000 in
/-- One point's body on whole buffers: the inputs stay, the two outputs and the carried rows end at the functions above. -/
theorem bwd_run (c : Dev nD) (i : grid1.Coords)
    (arg2 : Memref sig .tc .vmem S512x256 .f32) (harg2 : arg2.IsWhole) (arg3 : Memref sig .tc .vmem S512x256 .f32) (harg3 : arg3.IsWhole)
    (arg4 : Memref sig .tc .vmem S1x1x8x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S8x256 .f32) (harg8 : arg8.IsWhole)
    (a u dh : Vec F S512x256 .f32) (p : Vec F S1x1x8x256 .f32) (s q : Vec F S8x256 .f32)
    (hA : fresh1 i → q = k1_pay7) (hB : ¬ fresh1 i → q = s)
    (E : Set ℕ) (K : PUnit → sProp 𝕄) :
    iprop(owns (c : Thread nD τ) arg2 fullShare a ∗ owns (c : Thread nD τ) arg3 fullShare u
        ∗ owns (c : Thread nD τ) arg4 fullShare p ∗ owns (c : Thread nD τ) arg5 fullShare dh
        ∗ (∃ d, owns (c : Thread nD τ) arg6 fullShare d) ∗ (∃ d, owns (c : Thread nD τ) arg7 fullShare d)
        ∗ owns (c : Thread nD τ) arg8 fullShare s
        ∗ (iprop(owns (c : Thread nD τ) arg2 fullShare a ∗ owns (c : Thread nD τ) arg3 fullShare u
            ∗ owns (c : Thread nD τ) arg4 fullShare p ∗ owns (c : Thread nD τ) arg5 fullShare dh
            ∗ owns (c : Thread nD τ) arg6 fullShare (bwdA a u dh p q) ∗ owns (c : Thread nD τ) arg7 fullShare (bwdU a dh q)
            ∗ owns (c : Thread nD τ) arg8 fullShare (bwdQ a dh q)) -∗ K ⟨⟩))
      ⊢ wp frame (wpE (defs₀ (F := F)) Variants.none c none) E
          (cc1_rg_scan0_bwd i arg2 harg2 arg3 harg3 arg4 harg4 arg5 harg5 arg6 harg6 arg7 harg7 arg8 harg8) K := by
  simp only [cc1_rg_scan0_bwd_eq_skeleton]; unfold cc1_rg_scan0_bwd_skel
  simp only [k1_part1_eq_skeleton, k1_part2_eq_skeleton, k1_part3_eq_skeleton, k1_part4_eq_skeleton, k1_part5_eq_skeleton, k1_part6_eq_skeleton]
  have e2 : arg2.view.readAt (Elt F) (Rect.unit (s := S512x256) ![0, 0] S512x256.size inb_S512x256_S512x256_0_0).toLoadRect (harg2.unread a) = a := by
    rw [View.readAt_full, Memref.IsWhole.read_unread]
  have e3 : arg3.view.readAt (Elt F) (Rect.unit (s := S512x256) ![0, 0] S512x256.size inb_S512x256_S512x256_0_0).toLoadRect (harg3.unread u) = u := by
    rw [View.readAt_full, Memref.IsWhole.read_unread]
  have e4 : arg4.view.readAt (Elt F) (Rect.unit (s := S1x1x8x256) ![0, 0, 0, 0] S1x1x8x256.size inb_S1x1x8x256_S1x1x8x256_0_0_0_0).toLoadRect (harg4.unread p) = p := by
    rw [View.readAt_full, Memref.IsWhole.read_unread]
  have e5 : arg5.view.readAt (Elt F) (Rect.unit (s := S512x256) ![0, 0] S512x256.size inb_S512x256_S512x256_0_0).toLoadRect (harg5.unread dh) = dh := by
    rw [View.readAt_full, Memref.IsWhole.read_unread]
  have e8 : arg8.view.readAt (Elt F) (Rect.unit (s := S8x256) ![0, 0] S8x256.size inb_S8x256_S8x256_0_0).toLoadRect (harg8.unread s) = s := by
    rw [View.readAt_full, Memref.IsWhole.read_unread]
  have eQ : arg8.view.readCov ([⟨Rect.unit (s := S8x256) ![0, 0] S8x256.size inb_S8x256_S8x256_0_0, k1_pay7 (F := F)⟩] : List (View.Piece (Elt F) S8x256 .f32))
      (Rect.unit (s := S8x256) ![0, 0] S8x256.size inb_S8x256_S8x256_0_0).toLoadRect = k1_pay7 (F := F) := by
    exact View.readCov_full _ _ _ _ _
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
  obtain rfl := harg2.eq_unread hf0; obtain rfl := harg3.eq_unread hf1; obtain rfl := harg4.eq_unread hf2; obtain rfl := harg5.eq_unread hf3
  obtain rfl := harg8.eq_unread hfs0
  by_cases hc0 : fresh1 i
  · obtain rfl := hA hc0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (View.read_writes_full _ _ _ _ _).trans ?_
      delta bwd_run.sl.r_38 bwd_run.sl.r_37 bwd_run.sl.r_36 bwd_run.sl.r_35 bwd_run.sl.r_34 bwd_run.sl.r_33 bwd_run.sl.r_32 bwd_run.sl.r_31 bwd_run.sl.r_30 bwd_run.sl.r_29 bwd_run.sl.r_28 bwd_run.sl.r_27 bwd_run.sl.r_26 bwd_run.sl.r_25 bwd_run.sl.r_24 bwd_run.sl.r_23 bwd_run.sl.r_22 bwd_run.sl.r_21 bwd_run.sl.r_20 bwd_run.sl.r_19 bwd_run.sl.r_18 bwd_run.sl.r_17 bwd_run.sl.r_16 bwd_run.sl.r_15 bwd_run.sl.r_14 bwd_run.sl.r_13 bwd_run.sl.r_12 bwd_run.sl.r_11 bwd_run.sl.r_10 bwd_run.sl.r_9 bwd_run.sl.r_8 bwd_run.sl.r_7 bwd_run.sl.r_6 bwd_run.sl.r_5 bwd_run.sl.r_4 bwd_run.sl.r_3 bwd_run.sl.r_2 bwd_run.sl.r_1 bwd_run.sl.r bwdA bwdU bwdQ; rw [show bwd_run.sl.v9 = rowNo from rfl]; simp only [b10, b11, b12, b14, b15, b17, b18, b19, b21, b20, b22, b24, b25, b26, b28, b29, b31, b32, b33, b35, b36, b38, b39, b40, b42, b43, b45, b46, b47, b48, b49, b50, b51, b53, b54, b55, b57, b58, b60, b61, b62, b63, b64, b66, b67, b68, b69, b70, b72, b86, b85, b97, b100, b101, b102, b103, b104, b4, b5,
      bu_0, ba_0, bu_1, ba_1, la_2, lu_2, bu_2, ba_2, la_3, lu_3, bu_3, ba_3, la_4, lu_4, bu_4, ba_4, la_5, lu_5, bu_5, ba_5, la_6, lu_6, bu_6, ba_6, la_7, lu_7, bu_7, ba_7, la_8, lu_8, bu_8, ba_8]
    isplitl [H5]
    · iexists _; isplitr; swap; · iexact H5
      ipureintro
      refine (View.read_writes_full _ _ _ _ _).trans ?_
      delta bwd_run.sl.r_38 bwd_run.sl.r_37 bwd_run.sl.r_36 bwd_run.sl.r_35 bwd_run.sl.r_34 bwd_run.sl.r_33 bwd_run.sl.r_32 bwd_run.sl.r_31 bwd_run.sl.r_30 bwd_run.sl.r_29 bwd_run.sl.r_28 bwd_run.sl.r_27 bwd_run.sl.r_26 bwd_run.sl.r_25 bwd_run.sl.r_24 bwd_run.sl.r_23 bwd_run.sl.r_22 bwd_run.sl.r_21 bwd_run.sl.r_20 bwd_run.sl.r_19 bwd_run.sl.r_18 bwd_run.sl.r_17 bwd_run.sl.r_16 bwd_run.sl.r_15 bwd_run.sl.r_14 bwd_run.sl.r_13 bwd_run.sl.r_12 bwd_run.sl.r_11 bwd_run.sl.r_10 bwd_run.sl.r_9 bwd_run.sl.r_8 bwd_run.sl.r_7 bwd_run.sl.r_6 bwd_run.sl.r_5 bwd_run.sl.r_4 bwd_run.sl.r_3 bwd_run.sl.r_2 bwd_run.sl.r_1 bwd_run.sl.r bwdA bwdU bwdQ; rw [show bwd_run.sl.v9 = rowNo from rfl]; simp only [b10, b11, b12, b14, b15, b17, b18, b19, b21, b20, b22, b24, b25, b26, b28, b29, b31, b32, b33, b35, b36, b38, b39, b40, b42, b43, b45, b46, b47, b48, b49, b50, b51, b53, b54, b55, b57, b58, b60, b61, b62, b63, b64, b66, b67, b68, b69, b70, b72, b86, b85, b97, b100, b101, b102, b103, b104, b4, b5,
      bu_0, ba_0, bu_1, ba_1, la_2, lu_2, bu_2, ba_2, la_3, lu_3, bu_3, ba_3, la_4, lu_4, bu_4, ba_4, la_5, lu_5, bu_5, ba_5, la_6, lu_6, bu_6, ba_6, la_7, lu_7, bu_7, ba_7, la_8, lu_8, bu_8, ba_8]
    iexists _; isplitr; swap; · iexact HS0
    ipureintro
    refine (View.read_writes_full _ _ _ _ _).trans ?_
    delta bwd_run.sl.r_38 bwd_run.sl.r_37 bwd_run.sl.r_36 bwd_run.sl.r_35 bwd_run.sl.r_34 bwd_run.sl.r_33 bwd_run.sl.r_32 bwd_run.sl.r_31 bwd_run.sl.r_30 bwd_run.sl.r_29 bwd_run.sl.r_28 bwd_run.sl.r_27 bwd_run.sl.r_26 bwd_run.sl.r_25 bwd_run.sl.r_24 bwd_run.sl.r_23 bwd_run.sl.r_22 bwd_run.sl.r_21 bwd_run.sl.r_20 bwd_run.sl.r_19 bwd_run.sl.r_18 bwd_run.sl.r_17 bwd_run.sl.r_16 bwd_run.sl.r_15 bwd_run.sl.r_14 bwd_run.sl.r_13 bwd_run.sl.r_12 bwd_run.sl.r_11 bwd_run.sl.r_10 bwd_run.sl.r_9 bwd_run.sl.r_8 bwd_run.sl.r_7 bwd_run.sl.r_6 bwd_run.sl.r_5 bwd_run.sl.r_4 bwd_run.sl.r_3 bwd_run.sl.r_2 bwd_run.sl.r_1 bwd_run.sl.r bwdA bwdU bwdQ; rw [show bwd_run.sl.v9 = rowNo from rfl]; simp only [b10, b11, b12, b14, b15, b17, b18, b19, b21, b20, b22, b24, b25, b26, b28, b29, b31, b32, b33, b35, b36, b38, b39, b40, b42, b43, b45, b46, b47, b48, b49, b50, b51, b53, b54, b55, b57, b58, b60, b61, b62, b63, b64, b66, b67, b68, b69, b70, b72, b86, b85, b97, b100, b101, b102, b103, b104, b4, b5,
      bu_0, ba_0, bu_1, ba_1, la_2, lu_2, bu_2, ba_2, la_3, lu_3, bu_3, ba_3, la_4, lu_4, bu_4, ba_4, la_5, lu_5, bu_5, ba_5, la_6, lu_6, bu_6, ba_6, la_7, lu_7, bu_7, ba_7, la_8, lu_8, bu_8, ba_8]
  · obtain rfl := hB hc0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (View.read_writes_full _ _ _ _ _).trans ?_
      delta bwd_run.sl.r_77 bwd_run.sl.r_76 bwd_run.sl.r_75 bwd_run.sl.r_74 bwd_run.sl.r_73 bwd_run.sl.r_72 bwd_run.sl.r_71 bwd_run.sl.r_70 bwd_run.sl.r_69 bwd_run.sl.r_68 bwd_run.sl.r_67 bwd_run.sl.r_66 bwd_run.sl.r_65 bwd_run.sl.r_64 bwd_run.sl.r_63 bwd_run.sl.r_62 bwd_run.sl.r_61 bwd_run.sl.r_60 bwd_run.sl.r_59 bwd_run.sl.r_58 bwd_run.sl.r_57 bwd_run.sl.r_56 bwd_run.sl.r_55 bwd_run.sl.r_54 bwd_run.sl.r_53 bwd_run.sl.r_52 bwd_run.sl.r_51 bwd_run.sl.r_50 bwd_run.sl.r_49 bwd_run.sl.r_48 bwd_run.sl.r_47 bwd_run.sl.r_46 bwd_run.sl.r_45 bwd_run.sl.r_44 bwd_run.sl.r_43 bwd_run.sl.r_42 bwd_run.sl.r_41 bwd_run.sl.r_40 bwd_run.sl.r_39 bwdA bwdU bwdQ; rw [show bwd_run.sl.v9_1 = rowNo from rfl]; simp only [b10, b11, b12, b14, b15, b17, b18, b19, b21, b20, b22, b24, b25, b26, b28, b29, b31, b32, b33, b35, b36, b38, b39, b40, b42, b43, b45, b46, b47, b48, b49, b50, b51, b53, b54, b55, b57, b58, b60, b61, b62, b63, b64, b66, b67, b68, b69, b70, b72, b86, b85, b97, b100, b101, b102, b103, b104, b4, b5,
      bu_0, ba_0, bu_1, ba_1, la_2, lu_2, bu_2, ba_2, la_3, lu_3, bu_3, ba_3, la_4, lu_4, bu_4, ba_4, la_5, lu_5, bu_5, ba_5, la_6, lu_6, bu_6, ba_6, la_7, lu_7, bu_7, ba_7, la_8, lu_8, bu_8, ba_8]
    isplitl [H5]
    · iexists _; isplitr; swap; · iexact H5
      ipureintro
      refine (View.read_writes_full _ _ _ _ _).trans ?_
      delta bwd_run.sl.r_77 bwd_run.sl.r_76 bwd_run.sl.r_75 bwd_run.sl.r_74 bwd_run.sl.r_73 bwd_run.sl.r_72 bwd_run.sl.r_71 bwd_run.sl.r_70 bwd_run.sl.r_69 bwd_run.sl.r_68 bwd_run.sl.r_67 bwd_run.sl.r_66 bwd_run.sl.r_65 bwd_run.sl.r_64 bwd_run.sl.r_63 bwd_run.sl.r_62 bwd_run.sl.r_61 bwd_run.sl.r_60 bwd_run.sl.r_59 bwd_run.sl.r_58 bwd_run.sl.r_57 bwd_run.sl.r_56 bwd_run.sl.r_55 bwd_run.sl.r_54 bwd_run.sl.r_53 bwd_run.sl.r_52 bwd_run.sl.r_51 bwd_run.sl.r_50 bwd_run.sl.r_49 bwd_run.sl.r_48 bwd_run.sl.r_47 bwd_run.sl.r_46 bwd_run.sl.r_45 bwd_run.sl.r_44 bwd_run.sl.r_43 bwd_run.sl.r_42 bwd_run.sl.r_41 bwd_run.sl.r_40 bwd_run.sl.r_39 bwdA bwdU bwdQ; rw [show bwd_run.sl.v9_1 = rowNo from rfl]; simp only [b10, b11, b12, b14, b15, b17, b18, b19, b21, b20, b22, b24, b25, b26, b28, b29, b31, b32, b33, b35, b36, b38, b39, b40, b42, b43, b45, b46, b47, b48, b49, b50, b51, b53, b54, b55, b57, b58, b60, b61, b62, b63, b64, b66, b67, b68, b69, b70, b72, b86, b85, b97, b100, b101, b102, b103, b104, b4, b5,
      bu_0, ba_0, bu_1, ba_1, la_2, lu_2, bu_2, ba_2, la_3, lu_3, bu_3, ba_3, la_4, lu_4, bu_4, ba_4, la_5, lu_5, bu_5, ba_5, la_6, lu_6, bu_6, ba_6, la_7, lu_7, bu_7, ba_7, la_8, lu_8, bu_8, ba_8]
    iexists _; isplitr; swap; · iexact HS0
    ipureintro
    refine (View.read_writes_full _ _ _ _ _).trans ?_
    delta bwd_run.sl.r_77 bwd_run.sl.r_76 bwd_run.sl.r_75 bwd_run.sl.r_74 bwd_run.sl.r_73 bwd_run.sl.r_72 bwd_run.sl.r_71 bwd_run.sl.r_70 bwd_run.sl.r_69 bwd_run.sl.r_68 bwd_run.sl.r_67 bwd_run.sl.r_66 bwd_run.sl.r_65 bwd_run.sl.r_64 bwd_run.sl.r_63 bwd_run.sl.r_62 bwd_run.sl.r_61 bwd_run.sl.r_60 bwd_run.sl.r_59 bwd_run.sl.r_58 bwd_run.sl.r_57 bwd_run.sl.r_56 bwd_run.sl.r_55 bwd_run.sl.r_54 bwd_run.sl.r_53 bwd_run.sl.r_52 bwd_run.sl.r_51 bwd_run.sl.r_50 bwd_run.sl.r_49 bwd_run.sl.r_48 bwd_run.sl.r_47 bwd_run.sl.r_46 bwd_run.sl.r_45 bwd_run.sl.r_44 bwd_run.sl.r_43 bwd_run.sl.r_42 bwd_run.sl.r_41 bwd_run.sl.r_40 bwd_run.sl.r_39 bwdA bwdU bwdQ; rw [show bwd_run.sl.v9_1 = rowNo from rfl]; simp only [b10, b11, b12, b14, b15, b17, b18, b19, b21, b20, b22, b24, b25, b26, b28, b29, b31, b32, b33, b35, b36, b38, b39, b40, b42, b43, b45, b46, b47, b48, b49, b50, b51, b53, b54, b55, b57, b58, b60, b61, b62, b63, b64, b66, b67, b68, b69, b70, b72, b86, b85, b97, b100, b101, b102, b103, b104, b4, b5,
      bu_0, ba_0, bu_1, ba_1, la_2, lu_2, bu_2, ba_2, la_3, lu_3, bu_3, ba_3, la_4, lu_4, bu_4, ba_4, la_5, lu_5, bu_5, ba_5, la_6, lu_6, bu_6, ba_6, la_7, lu_7, bu_7, ba_7, la_8, lu_8, bu_8, ba_8]

end Cert.KernelIdeal.Scan

end
-- ==== Proof.ScanMath.lean ====
/- The scan over the reals, one column at a time: what the doubling levels compute of a linear recurrence, and what the
   levels of the pullback compute of its cotangents. -/
module

public import Mathlib.Data.Real.Basic
public import Mathlib.Algebra.BigOperators.Intervals
public import Mathlib.Tactic.Ring
public import Mathlib.Tactic.Linarith

@[expose] public section

noncomputable section

namespace Cert.KernelIdeal.Scan

/-- One level on the factors, at distance `s`. -/
def laR (s : ℕ) (a : ℕ → ℝ) (j : ℕ) : ℝ := if s ≤ j then a j * a (j - s) else a j
/-- One level on the summands. -/
def luR (s : ℕ) (a u : ℕ → ℝ) (j : ℕ) : ℝ := if s ≤ j then a j * u (j - s) + u j else u j
/-- One level of the pullback on the summands' cotangent. -/
def buR (s : ℕ) (a c : ℕ → ℝ) (j : ℕ) : ℝ := c j + if j + s < 512 then a (j + s) * c (j + s) else 0
/-- One level of the pullback on the factors' cotangent. -/
def baR (s : ℕ) (a u c e : ℕ → ℝ) (j : ℕ) : ℝ :=
  (if s ≤ j then e j * a (j - s) + c j * u (j - s) else e j) + if j + s < 512 then a (j + s) * e (j + s) else 0

/-- The factors before level `k`. -/
def aR (a : ℕ → ℝ) : ℕ → ℕ → ℝ
  | 0 => a
  | k + 1 => laR (2 ^ k) (aR a k)
/-- The summands before level `k`. -/
def uR (a u : ℕ → ℝ) : ℕ → ℕ → ℝ
  | 0 => u
  | k + 1 => luR (2 ^ k) (aR a k) (uR a u k)
/-- The summands' cotangent after `n` levels of the pullback. -/
def cR (a d : ℕ → ℝ) : ℕ → ℕ → ℝ
  | 0 => d
  | n + 1 => buR (2 ^ (8 - n)) (aR a (8 - n)) (cR a d n)
/-- The factors' cotangent after `n` levels of the pullback. -/
def eR (a u d e : ℕ → ℝ) : ℕ → ℕ → ℝ
  | 0 => e
  | n + 1 => baR (2 ^ (8 - n)) (aR a (8 - n)) (uR a u (8 - n)) (cR a d n) (eR a u d e n)

section
variable (a u d X : ℕ → ℝ) (hX : ∀ j, X (j + 1) = a j * X j + u j)
include hX

/-- Before level `k` a row is an affine function of the state `2 ^ k` rows above it. -/
theorem level_state (k j : ℕ) : X (j + 1) = uR a u k j + aR a k j * X (j + 1 - 2 ^ k) := by
  induction k generalizing j with
  | zero => simp only [uR, aR, pow_zero, Nat.add_sub_cancel]; rw [hX]; ring
  | succ k ih =>
    show _ = luR (2 ^ k) (aR a k) (uR a u k) j + laR (2 ^ k) (aR a k) j * X (j + 1 - 2 ^ (k + 1))
    unfold luR laR
    by_cases h : 2 ^ k ≤ j
    · rw [if_pos h, if_pos h, ih j]
      have e1 : j + 1 - 2 ^ k = (j - 2 ^ k) + 1 := by omega
      rw [e1, ih (j - 2 ^ k)]
      have e2 : j - 2 ^ k + 1 - 2 ^ k = j + 1 - 2 ^ (k + 1) := by rw [pow_succ]; omega
      rw [e2]; ring
    · rw [if_neg h, if_neg h, ih j]
      have e1 : j + 1 - 2 ^ k = 0 := by omega
      have e2 : j + 1 - 2 ^ (k + 1) = 0 := by rw [pow_succ]; omega
      rw [e1, e2]

/-- After the nine levels a row is an affine function of the state the block continues from. -/
theorem scan_state {j : ℕ} (hj : j < 512) : uR a u 9 j + aR a 9 j * X 0 = X (j + 1) := by
  rw [level_state a u X hX 9 j]
  have e : j + 1 - 2 ^ 9 = 0 := by norm_num; omega
  rw [e]

/-- The factors' cotangent is the summands' times the state above. -/
theorem pull_factor (e : ℕ → ℝ) (he : ∀ j, j < 512 → e j = d j * X 0) (n : ℕ) (hn : n ≤ 9) {j : ℕ} (hj : j < 512) :
    eR a u d e n j = cR a d n j * X (j + 1 - 2 ^ (9 - n)) := by
  induction n generalizing j with
  | zero =>
    have e0 : j + 1 - 2 ^ (9 - 0) = 0 := by norm_num; omega
    rw [e0]; exact he j hj
  | succ n ih =>
    have hk : 9 - n = (8 - n) + 1 := by omega
    have hk' : 9 - (n + 1) = 8 - n := by omega
    rw [hk']
    show baR (2 ^ (8 - n)) (aR a (8 - n)) (uR a u (8 - n)) (cR a d n) (eR a u d e n) j
      = buR (2 ^ (8 - n)) (aR a (8 - n)) (cR a d n) j * _
    rw [hk] at ih
    have ih := fun j hj => ih (by omega) (j := j) hj
    generalize 8 - n = k at ih ⊢
    unfold baR buR
    have last : (if j + 2 ^ k < 512 then aR a k (j + 2 ^ k) * eR a u d e n (j + 2 ^ k) else 0)
        = (if j + 2 ^ k < 512 then aR a k (j + 2 ^ k) * cR a d n (j + 2 ^ k) else 0) * X (j + 1 - 2 ^ k) := by
      by_cases h : j + 2 ^ k < 512
      · rw [if_pos h, if_pos h, ih _ h]
        have e1 : j + 2 ^ k + 1 - 2 ^ (k + 1) = j + 1 - 2 ^ k := by rw [pow_succ]; omega
        rw [e1]; ring
      · rw [if_neg h, if_neg h, zero_mul]
    rw [last]
    by_cases h : 2 ^ k ≤ j
    · rw [if_pos h, ih j hj]
      have e1 : j + 1 - 2 ^ k = (j - 2 ^ k) + 1 := by omega
      have e2 : j + 1 - 2 ^ (k + 1) = j - 2 ^ k + 1 - 2 ^ k := by rw [pow_succ]; omega
      have st := level_state a u X hX k (j - 2 ^ k)
      rw [e1, e2, add_mul, st]; ring
    · rw [if_neg h, ih j hj]
      have e1 : j + 1 - 2 ^ k = 0 := by omega
      have e2 : j + 1 - 2 ^ (k + 1) = 0 := by rw [pow_succ]; omega
      rw [e1, e2, add_mul]

end

section
variable (a d : ℕ → ℝ)

/-- The summands' cotangent satisfies the reversed recurrence at the level's distance. -/
theorem pull_rec (n : ℕ) (hn : n ≤ 9) (j : ℕ) :
    cR a d n j = d j + if j + 2 ^ (9 - n) < 512 then aR a (9 - n) (j + 2 ^ (9 - n)) * cR a d n (j + 2 ^ (9 - n)) else 0 := by
  induction n generalizing j with
  | zero =>
    have e0 : ¬ j + 2 ^ (9 - 0) < 512 := by norm_num
    rw [if_neg e0, add_zero]; rfl
  | succ n ih =>
    have hk : 9 - n = (8 - n) + 1 := by omega
    have hk' : 9 - (n + 1) = 8 - n := by omega
    rw [hk']
    show buR (2 ^ (8 - n)) (aR a (8 - n)) (cR a d n) j = d j + if _ then _ * buR (2 ^ (8 - n)) (aR a (8 - n)) (cR a d n) _ else 0
    rw [hk] at ih
    have ih := fun j => ih (by omega) j
    generalize 8 - n = k at ih ⊢
    unfold buR
    have e1 : j + 2 ^ k + 2 ^ k = j + 2 ^ (k + 1) := by rw [pow_succ]; omega
    rw [ih j, e1]
    by_cases h2 : j + 2 ^ (k + 1) < 512
    · have h1 : j + 2 ^ k < 512 := by rw [pow_succ] at h2; omega
      have st : aR a (k + 1) (j + 2 ^ (k + 1)) = aR a k (j + 2 ^ (k + 1)) * aR a k (j + 2 ^ k) := by
        show laR (2 ^ k) (aR a k) _ = _
        unfold laR
        have hle : 2 ^ k ≤ j + 2 ^ (k + 1) := by rw [pow_succ]; omega
        have e2 : j + 2 ^ (k + 1) - 2 ^ k = j + 2 ^ k := by rw [pow_succ]; omega
        rw [if_pos hle, e2]
      simp only [if_pos h2, if_pos h1, st]; ring
    · simp only [if_neg h2, add_zero]

/-- The sum the block sends back, unchanged by the levels. -/
theorem pull_sum (n : ℕ) (hn : n ≤ 9) :
    ∑ j ∈ Finset.range (2 ^ (9 - n)), aR a (9 - n) j * cR a d n j = ∑ j ∈ Finset.range 512, aR a 9 j * d j := by
  induction n with
  | zero => rfl
  | succ n ih =>
    rw [← ih (by omega)]
    have hk : 9 - n = (8 - n) + 1 := by omega
    have hk' : 9 - (n + 1) = 8 - n := by omega
    have hb : 8 - n ≤ 8 := by omega
    rw [hk', hk]
    show ∑ j ∈ _, _ * buR (2 ^ (8 - n)) (aR a (8 - n)) (cR a d n) j = ∑ j ∈ _, laR (2 ^ (8 - n)) (aR a (8 - n)) j * _
    generalize 8 - n = k at hb ⊢
    have e2 : 2 ^ (k + 1) = 2 ^ k + 2 ^ k := by rw [pow_succ]; omega
    have h256 : 2 ^ k ≤ 256 := le_trans (Nat.pow_le_pow_right (by omega) hb) (by norm_num)
    rw [e2, Finset.sum_range_add, ← Finset.sum_add_distrib]
    refine Finset.sum_congr rfl fun j hj => ?_
    have hj := Finset.mem_range.mp hj
    unfold buR laR
    have h1 : j + 2 ^ k < 512 := by omega
    have h2 : ¬ 2 ^ k ≤ j := by omega
    have h3 : 2 ^ k ≤ 2 ^ k + j := by omega
    have e3 : 2 ^ k + j - 2 ^ k = j := by omega
    rw [if_pos h1, if_neg h2, if_pos h3, e3, Nat.add_comm j (2 ^ k)]; ring

/-- After the nine levels: the reversed recurrence. -/
theorem pull_state (j : ℕ) :
    cR a d 9 j = d j + if j + 1 < 512 then a (j + 1) * cR a d 9 (j + 1) else 0 := by
  simpa [aR] using pull_rec a d 9 (le_refl 9) j

/-- The reversed recurrence has one solution. -/
theorem pull_unique (g : ℕ → ℝ) (hg : ∀ j, j < 512 → g j = d j + if j + 1 < 512 then a (j + 1) * g (j + 1) else 0)
    {j : ℕ} (hj : j < 512) : cR a d 9 j = g j := by
  obtain ⟨m, rfl⟩ : ∃ m, j = 511 - m := ⟨511 - j, by omega⟩
  clear hj
  induction m with
  | zero => rw [pull_state, hg _ (by omega)]; rfl
  | succ m ih =>
    by_cases hm : m < 511
    · have e : 511 - (m + 1) + 1 = 511 - m := by omega
      rw [pull_state, hg _ (by omega), e, ih]
    · have e : 511 - (m + 1) = 511 - m := by omega
      rw [e, ih]

/-- What the block sends back is its first factor times its first cotangent. -/
theorem pull_carry : ∑ j ∈ Finset.range 512, aR a 9 j * d j = a 0 * cR a d 9 0 := by
  rw [← pull_sum a d 9 (le_refl 9)]; simp [aR]

end

end Cert.KernelIdeal.Scan

end
-- ==== Proof.Vectors.lean ====
/- The blocks over the extended reals: on blocks of reals every level is the level over the reals, column by column. -/
module

public import proofs.«01_k».proof.Proof.Payloads
public import proofs.«01_k».proof.Proof.FwdBody
public import proofs.«01_k».proof.Proof.BwdBody
public import proofs.«01_k».proof.Proof.ScanMath
public import Idealize.ShloMosaic.Lib.Pointwise
public import Idealize.ShloMosaic.Lib.KernelVsHost

@[expose] public section

set_option maxRecDepth 16384

noncomputable section

namespace Cert.KernelIdeal.Scan

open Cert.KernelIdeal.Gen
open Idealize.ShloMosaic Idealize.ShloMosaic.TcCoe

/-- The block of the reals `f`, given by column, then row. -/
def up (f : ℕ → ℕ → ℝ) : Blk Ideal := fun y => ((f (y 1).val (y 0).val : ℝ) : EReal)

theorem up_congr {f g : ℕ → ℕ → ℝ} (h : ∀ q j, q < 256 → j < 512 → f q j = g q j) : up f = up g :=
  funext fun y => by unfold up; rw [h _ _ (y 1).isLt (y 0).isLt]

theorem rowNo_apply (r : Fin 512) : rowNo (ix2 r 0) = BitVec.ofNat 32 r.val := by
  unfold rowNo; pointwise []

theorem low_apply (s : ℕ) (hs : s < 512) (y : S512x256.Idx) : low (BitVec.ofNat 32 s) y = 1#1 ↔ s ≤ (y 0).val := by
  idx_vars y
  unfold low
  pointwise [rowNo_apply]
  exact WordCmp.cmpi_sge_ofNat_eq_one_iff (by omega) (by omega)

theorem rot_apply (s : ℕ) (hs : s ≤ 512) (x : Blk Ideal) (y k : S512x256.Idx) (h0 : (k 0).val = ((y 0).val + 512 - s) % 512)
    (h1 : (k 1).val = (y 1).val) : rot (BitVec.ofNat 32 s) x y = x k := by
  refine dynamicRotate_apply 0 _ x _ y k fun b => ?_
  have e : (BitVec.ofNat 32 s).toNat = s := by rw [BitVec.toNat_ofNat]; omega
  match b with
  | 0 => rw [if_pos rfl, h0, e]; show _ = ((y 0).val + 512 - s % 512) % 512; omega
  | 1 => rw [if_neg (by decide), h1]

/-- A masked choice. -/
theorem pick_apply (s : ℕ) (hs : s < 512) (x z : Blk Ideal) (y : S512x256.Idx) :
    select (low (BitVec.ofNat 32 s)) x z y = if s ≤ (y 0).val then x y else z y := by
  show (if low (BitVec.ofNat 32 s) y = 1#1 then x y else z y) = _
  simp only [low_apply s hs y]

theorem nil_apply (y : S512x256.Idx) : (nil : Blk Ideal) y = 0 := by
  show Ideal.ofBits .f32 0#32 = 0
  exact Ideal.ofBits_zero_f32

/-- The index `n` rows down the column of `y`, around the end. -/
def moved (n : ℕ) (y : S512x256.Idx) : S512x256.Idx := ix2 ⟨((y 0).val + n) % 512, Nat.mod_lt _ (by omega)⟩ (y 1)

section Levels
variable (s : ℕ) (hs : s < 512) (a u c e : ℕ → ℕ → ℝ)
include hs

theorem rot_up (a : ℕ → ℕ → ℝ) (y : S512x256.Idx) : rot (BitVec.ofNat 32 s) (up a) y = ((a (y 1).val (((y 0).val + 512 - s) % 512) : ℝ) : EReal) := by
  rw [rot_apply s hs.le _ y (moved (512 - s) y) (by show _ % 512 = _; congr 1; omega) rfl]
  show ((a (y 1).val (((y 0).val + (512 - s)) % 512) : ℝ) : EReal) = _
  rw [show (y 0).val + (512 - s) = (y 0).val + 512 - s by omega]

theorem la_up : la (BitVec.ofNat 32 s) (up a) = up fun q => laR s (a q) := by
  funext y
  have hy : (y 0).val < 512 := (y 0).isLt
  unfold la
  rw [pick_apply s hs]
  show (if _ then up a y * rot _ (up a) y else up a y) = ((laR s (a (y 1).val) (y 0).val : ℝ) : EReal)
  rw [rot_up s hs]; unfold laR up
  by_cases h : s ≤ (y 0).val
  · have e1 : ((y 0).val + 512 - s) % 512 = (y 0).val - s := by omega
    rw [if_pos h, if_pos h, e1, EReal.coe_mul]
  · rw [if_neg h, if_neg h]

theorem lu_up : lu (BitVec.ofNat 32 s) (up a) (up u) = up fun q => luR s (a q) (u q) := by
  funext y
  have hy : (y 0).val < 512 := (y 0).isLt
  unfold lu
  rw [pick_apply s hs]
  show (if _ then up a y * rot _ (up u) y + up u y else up u y) = ((luR s (a (y 1).val) (u (y 1).val) (y 0).val : ℝ) : EReal)
  rw [rot_up s hs]; unfold luR up
  by_cases h : s ≤ (y 0).val
  · have e1 : ((y 0).val + 512 - s) % 512 = (y 0).val - s := by omega
    rw [if_pos h, if_pos h, e1, EReal.coe_add, EReal.coe_mul]
  · rw [if_neg h, if_neg h]

/-- What the rows below send up a level. -/
theorem sent_up (hs0 : 0 < s) (a c : ℕ → ℕ → ℝ) (y : S512x256.Idx) :
    rot (BitVec.ofNat 32 (512 - s)) (mulf (up a) (select (low (BitVec.ofNat 32 s)) (up c) nil)) y
      = ((if (y 0).val + s < 512 then a (y 1).val ((y 0).val + s) * c (y 1).val ((y 0).val + s) else 0 : ℝ) : EReal) := by
  have hy : (y 0).val < 512 := (y 0).isLt
  rw [rot_apply (512 - s) (by omega) _ y (moved s y) (by show _ % 512 = _; congr 1; omega) rfl]
  show up a (moved s y) * select (low (BitVec.ofNat 32 s)) (up c) nil (moved s y) = _
  rw [pick_apply s hs, nil_apply]
  show (((a (y 1).val (((y 0).val + s) % 512) : ℝ) : EReal)) * (if s ≤ ((y 0).val + s) % 512 then ((c (y 1).val (((y 0).val + s) % 512) : ℝ) : EReal) else 0) = _
  by_cases h : (y 0).val + s < 512
  · have e1 : ((y 0).val + s) % 512 = (y 0).val + s := by omega
    rw [e1, if_pos (by omega), if_pos h, EReal.coe_mul]
  · rw [if_neg (by omega), if_neg h, mul_zero, EReal.coe_zero]

theorem bu_up (hs0 : 0 < s) : bu (BitVec.ofNat 32 s) (BitVec.ofNat 32 (512 - s)) (up a) (up c) = up fun q => buR s (a q) (c q) := by
  funext y
  unfold bu
  show (select (low _) nil (up c) y + select (low _) (up c) nil y) + rot _ _ y = ((buR s (a (y 1).val) (c (y 1).val) (y 0).val : ℝ) : EReal)
  rw [pick_apply s hs, pick_apply s hs, sent_up s hs hs0, nil_apply]; unfold buR
  rw [EReal.coe_add]
  congr 1
  by_cases h : s ≤ (y 0).val
  · rw [if_pos h, if_pos h, zero_add]; rfl
  · rw [if_neg h, if_neg h, add_zero]; rfl

theorem ba_up (hs0 : 0 < s) : ba (BitVec.ofNat 32 s) (BitVec.ofNat 32 (512 - s)) (up a) (up u) (up c) (up e)
    = up fun q => baR s (a q) (u q) (c q) (e q) := by
  funext y
  have hy : (y 0).val < 512 := (y 0).isLt
  unfold ba
  show ((select (low _) nil (up e) y + select (low _) (up e) nil y * rot _ (up a) y) + select (low _) (up c) nil y * rot _ (up u) y) + rot _ _ y
    = ((baR s (a (y 1).val) (u (y 1).val) (c (y 1).val) (e (y 1).val) (y 0).val : ℝ) : EReal)
  rw [pick_apply s hs, pick_apply s hs, pick_apply s hs, sent_up s hs hs0, nil_apply, rot_up s hs, rot_up s hs]; unfold baR
  rw [EReal.coe_add]
  congr 1
  by_cases h : s ≤ (y 0).val
  · have e1 : ((y 0).val + 512 - s) % 512 = (y 0).val - s := by omega
    simp only [if_pos h, e1, zero_add, EReal.coe_add, EReal.coe_mul]; rfl
  · simp only [if_neg h, zero_mul, add_zero]; rfl

end Levels

section Chains
variable (a u c e : ℕ → ℕ → ℝ)

theorem pow_lt {k : ℕ} (hk : k ≤ 8) : 2 ^ k < 512 := lt_of_le_of_lt (Nat.pow_le_pow_right (by omega) hk) (by norm_num)

theorem aL_up (k : ℕ) (hk : k ≤ 9) : aL (up a) k = up fun q => aR (a q) k := by
  induction k with
  | zero => rfl
  | succ k ih => show la (BitVec.ofNat 32 (2 ^ k)) (aL (up a) k) = _; rw [ih (by omega), la_up _ (pow_lt (by omega))]; rfl

theorem uL_up (k : ℕ) (hk : k ≤ 9) : uL (up a) (up u) k = up fun q => uR (a q) (u q) k := by
  induction k with
  | zero => rfl
  | succ k ih =>
    show lu (BitVec.ofNat 32 (2 ^ k)) (aL (up a) k) (uL (up a) (up u) k) = _
    rw [ih (by omega), aL_up a k (by omega), lu_up _ (pow_lt (by omega))]; rfl

theorem cL_up (n : ℕ) (hn : n ≤ 9) : cL (up a) (up c) n = up fun q => cR (a q) (c q) n := by
  induction n with
  | zero => rfl
  | succ n ih =>
    show bu (BitVec.ofNat 32 (2 ^ (8 - n))) (BitVec.ofNat 32 (512 - 2 ^ (8 - n))) (aL (up a) (8 - n)) (cL (up a) (up c) n) = _
    rw [ih (by omega), aL_up a _ (by omega), bu_up _ (pow_lt (by omega)) _ _ (by positivity)]; rfl

theorem eL_up (n : ℕ) (hn : n ≤ 9) : eL (up a) (up u) (up c) (up e) n = up fun q => eR (a q) (u q) (c q) (e q) n := by
  induction n with
  | zero => rfl
  | succ n ih =>
    show ba (BitVec.ofNat 32 (2 ^ (8 - n))) (BitVec.ofNat 32 (512 - 2 ^ (8 - n))) (aL (up a) (8 - n)) (uL (up a) (up u) (8 - n))
      (cL (up a) (up c) n) (eL (up a) (up u) (up c) (up e) n) = _
    rw [ih (by omega), aL_up a _ (by omega), uL_up a u _ (by omega), cL_up a c n (by omega), ba_up _ (pow_lt (by omega)) _ _ _ _ (by positivity)]; rfl

end Chains

/-- A finite sum of reals, read among the extended reals. -/
theorem coe_sum {ι : Type} (t : Finset ι) (f : ι → ℝ) : ((∑ i ∈ t, f i : ℝ) : EReal) = ∑ i ∈ t, ((f i : ℝ) : EReal) := by
  classical
  induction t using Finset.induction_on with
  | empty => simp
  | insert i t hi ih => rw [Finset.sum_insert hi, Finset.sum_insert hi, EReal.coe_add, ih]

/-! ## The rows carried between blocks -/

/-- The mask of the last of eight rows. -/
theorem last_mask (x : Fin 8) {α : Type} (v z : α) :
    Scalar.select (IntOp.cmpi CmpIPredicate.eq (BitVec.ofNat 32 x.val) 7#32) v z = if x.val = 7 then v else z := by
  rw [show (7#32 : BitVec 32) = BitVec.ofNat 32 7 from rfl]
  by_cases h : x.val = 7
  · rw [if_pos h, WordCmp.select_of_eq_one ((WordCmp.cmpi_eq_ofNat_eq_one_iff (by omega) (by omega)).mpr h)]
  · rw [if_neg h, WordCmp.select_of_eq_zero ((WordCmp.cmpi_eq_ofNat_eq_zero_iff (by omega) (by omega)).mpr h)]

theorem row0_apply (p : FVec Ideal S8x256 .f32) (q : Fin 256) : row0 p (ix2 0 q) = p (ix2 7 q) := by
  unfold row0
  pointwise []
  simp only [last_mask]
  refine (Finset.sum_eq_single (7 : Fin 8) (fun b _ hb => if_neg fun h => hb (Fin.ext h)) (fun h => absurd (Finset.mem_univ _) h)).trans ?_
  exact if_pos rfl

theorem row0s_apply (p : FVec Ideal S8x256 .f32) (y : S512x256.Idx) : row0s p y = p (ix2 7 (y 1)) := by
  unfold row0s
  pointwise [row0_apply]

/-- The cotangent with the carried rows added to the last eight. -/
theorem dTot_apply (dh : Blk Ideal) (q : FVec Ideal S8x256 .f32) (y : S512x256.Idx) :
    dTot dh q y = dh y + if h : 504 ≤ (y 0).val then q (ix2 ⟨(y 0).val - 504, by have : (y 0).val < 512 := (y 0).isLt; omega⟩ (y 1)) else 0 := by
  idx_vars y
  unfold dTot k1_pay74 k1_pay73
  pointwise []
  congr 1
  by_cases h : 504 ≤ y0.val
  · rw [dif_pos h, dif_neg (by omega)]
  · rw [dif_neg h, dif_pos (by omega)]

theorem bwdQ_apply (a dh : Blk Ideal) (q : FVec Ideal S8x256 .f32) (y : S8x256.Idx) :
    bwdQ a dh q y = if (y 0).val = 7 then ∑ j : Fin 512, aL a 9 (ix2 j (y 1)) * dTot dh q (ix2 j (y 1)) else 0 := by
  idx_vars y
  unfold bwdQ k1_pay6 k1_pay76 k1_pay71
  pointwise []
  rw [last_mask, Fin.sum_univ_one]
  rfl

theorem fwdP_apply (a u : Blk Ideal) (p : FVec Ideal S8x256 .f32) (y : S8x256.Idx) :
    fwdP a u p y = fwdH a u p (ix2 ⟨504 + (y 0).val, by have : (y 0).val < 8 := (y 0).isLt; omega⟩ (y 1)) := by
  idx_vars y
  unfold fwdP k0_pay2
  pointwise []

/-! ## One block -/

section Block
variable (a u d X : ℕ → ℕ → ℝ) (hX : ∀ q j, X q (j + 1) = a q j * X q j + u q j)
include hX

theorem fwdH_up (p : FVec Ideal S8x256 .f32) (hp : ∀ q : Fin 256, p (ix2 7 q) = ((X q.val 0 : ℝ) : EReal)) :
    fwdH (up a) (up u) p = up fun q j => X q (j + 1) := by
  unfold fwdH
  rw [uL_up a u 9 (le_refl 9), aL_up a 9 (le_refl 9)]
  funext y
  show up _ y + up _ y * row0s p y = _
  rw [row0s_apply, hp (y 1)]
  unfold up
  show ((uR (a (y 1).val) (u (y 1).val) 9 (y 0).val : ℝ) : EReal) + ((aR (a (y 1).val) 9 (y 0).val : ℝ) : EReal) * ((X (y 1).val 0 : ℝ) : EReal) = _
  rw [← EReal.coe_mul, ← EReal.coe_add, scan_state _ _ (X (y 1).val) (hX (y 1).val) (y 0).isLt]

theorem fwdP_up (p : FVec Ideal S8x256 .f32) (hp : ∀ q : Fin 256, p (ix2 7 q) = ((X q.val 0 : ℝ) : EReal)) (q : Fin 256) :
    fwdP (up a) (up u) p (ix2 7 q) = ((X q.val 512 : ℝ) : EReal) := by
  rw [fwdP_apply, fwdH_up a u X hX p hp]; rfl

omit hX in
/-- The block's cotangent, the carried row added to its last. -/
theorem dTot_up (r : ℕ → ℝ) (b : FVec Ideal S8x256 .f32) (hb : ∀ (i : Fin 8) (q : Fin 256), b (ix2 i q) = if i.val = 7 then ((r q.val : ℝ) : EReal) else 0) :
    dTot (up d) b = up fun q j => d q j + if j = 511 then r q else 0 := by
  funext y
  have hy : (y 0).val < 512 := (y 0).isLt
  rw [dTot_apply]; unfold up
  show _ = ((d (y 1).val (y 0).val + (if (y 0).val = 511 then r (y 1).val else 0) : ℝ) : EReal)
  rw [EReal.coe_add]
  congr 1
  by_cases h : 504 ≤ (y 0).val
  · rw [dif_pos h]
    refine (hb _ _).trans ?_
    by_cases h' : (y 0).val = 511
    · rw [if_pos h', if_pos (by show (y 0).val - 504 = 7; omega)]
    · rw [if_neg h', if_neg (by show ¬ (y 0).val - 504 = 7; omega)]; rfl
  · rw [dif_neg h, if_neg (by omega)]; rfl

variable (r : ℕ → ℝ) (b : FVec Ideal S8x256 .f32)
  (hb : ∀ (i : Fin 8) (q : Fin 256), b (ix2 i q) = if i.val = 7 then ((r q.val : ℝ) : EReal) else 0)
  (g : ℕ → ℕ → ℝ)
  (hg : ∀ q j, j < 512 → g q j = (d q j + if j = 511 then r q else 0) + if j + 1 < 512 then a q (j + 1) * g q (j + 1) else 0)
include hb hg

omit hX in
theorem bwdU_up : bwdU (up a) (up d) b = up g := by
  unfold bwdU
  rw [dTot_up d r b hb, cL_up a _ 9 (le_refl 9)]
  exact up_congr fun q j _ hj => pull_unique _ _ (g q) (fun j hj => hg q j hj) hj

theorem bwdA_up (p : Vec Ideal S1x1x8x256 .f32) (hp : ∀ q : Fin 256, k1_pay8 (F := Ideal) p (ix2 7 q) = ((X q.val 0 : ℝ) : EReal)) :
    bwdA (up a) (up u) (up d) p b = up fun q j => g q j * X q j := by
  unfold bwdA eTot
  rw [dTot_up d r b hb]
  have e : mulf (F := Ideal) (φ := .f32) (up fun q j => d q j + if j = 511 then r q else 0) (row0s (k1_pay8 p))
      = up fun q j => (d q j + if j = 511 then r q else 0) * X q 0 := by
    funext y
    show up _ y * row0s _ y = _
    rw [row0s_apply, hp (y 1)]; unfold up
    rw [EReal.coe_mul]
  rw [e, eL_up a u _ _ 9 (le_refl 9)]
  refine up_congr fun q j _ hj => ?_
  rw [pull_factor (a q) (u q) _ (X q) (hX q) _ (fun j _ => rfl) 9 (le_refl 9) hj, pull_unique _ _ (g q) (fun j hj => hg q j hj) hj]
  rfl

omit hX in
theorem bwdQ_up (i : Fin 8) (q : Fin 256) :
    bwdQ (up a) (up d) b (ix2 i q) = if i.val = 7 then ((a q.val 0 * g q.val 0 : ℝ) : EReal) else 0 := by
  rw [bwdQ_apply, dTot_up d r b hb, aL_up a 9 (le_refl 9)]
  show (if i.val = 7 then _ else _) = _
  congr 1
  show ∑ j : Fin 512, ((aR (a q.val) 9 j.val : ℝ) : EReal) * ((d q.val j.val + (if j.val = 511 then r q.val else 0) : ℝ) : EReal) = _
  rw [← pull_unique (a q.val) (fun j => d q.val j + if j = 511 then r q.val else 0) (g q.val) (fun j hj => hg q.val j hj) (j := 0) (by omega), ← pull_carry,
    ← Fin.sum_univ_eq_sum_range (fun j => aR (a q.val) 9 j * (d q.val j + if j = 511 then r q.val else 0)) 512]
  rw [coe_sum]
  exact Finset.sum_congr rfl fun j _ => (EReal.coe_mul _ _).symm

end Block

end Cert.KernelIdeal.Scan

end
-- ==== Proof.FwdRegion.lean ====
/- The forward call over its whole grid: what its windows hold point by point, the carried rows threaded from point to point,
   and the call as one segment of the program. -/
module

public import proofs.«01_k».proof.Proof.FwdBody
public import proofs.«01_k».proof.Proof.Gen.KernelIdeal.Launch
public import Idealize.ShloMosaic.Lib.Pipeline.Frame
public import Idealize.ShloMosaic.Lib.Pipeline.Regions
public import Idealize.ShloMosaic.Lib.Pipeline.RegionArraysS

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Point `n` of the forward grid (its number taken modulo the number of points, so that it is one for every `n`). -/
def pt0 (n : ℕ) : Fin cfg0.N := ⟨n % 32, lt_of_lt_of_eq (Nat.mod_lt _ (by decide)) (show 32 = cfg0.N from N_0.symm)⟩

theorem pt0_val (t : Fin cfg0.N) : pt0 t.val = t :=
  Fin.ext (Nat.mod_eq_of_lt (lt_of_lt_of_eq t.isLt (show cfg0.N = 32 from N_0)))

variable (V : Valuation τ sig (Elt F))

/-- The block of window `w` at point `t`, read off the contents `V` of the arrays. -/
def fblk (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- The carried rows the body at point `n` starts from: zero at the first point of a half of the columns, else what the
    point before it left. -/
def fcar : ℕ → Vec F S8x256 .f32
  | 0 => k0_pay3
  | n + 1 => if (n + 1) % 16 = 0 then k0_pay3 else fwdP (fblk V 0 (pt0 n)) (fblk V 1 (pt0 n)) (fcar n)

theorem fcar_fresh (n : ℕ) (h : n % 16 = 0) : fcar V n = k0_pay3 := by
  cases n with
  | zero => rfl
  | succ n => exact if_pos h

theorem fcar_step (n : ℕ) (h : (n + 1) % 16 ≠ 0) :
    fcar V (n + 1) = fwdP (fblk V 0 (pt0 n)) (fblk V 1 (pt0 n)) (fcar V n) := if_neg h

/-- The carried rows' buffer. -/
abbrev car0 : Memref sig .tc .vmem S8x256 .f32 := Memref.whole cc0_scratch0

/-- A buffer of core `c` at some contents. -/
abbrev idle (c : Dev nD) (b : Ref sig .tc) : sProp 𝕄 := iprop(∃ f : Buf (Elt F) ((c : Thread nD τ).loc b), ((c : Thread nD τ).loc b) ↦{fullShare} f)

/-- The backward call's buffers, which the forward call leaves alone. -/
def rest0 (c : Dev nD) : sProp 𝕄 :=
  iprop(idle c cc1_stg0_0 ∗ idle c cc1_stg0_1 ∗ idle c cc1_stg1_0 ∗ idle c cc1_stg1_1 ∗ idle c cc1_stg2_0 ∗ idle c cc1_stg2_1 ∗ idle c cc1_stg3_0 ∗ idle c cc1_stg3_1 ∗ idle c cc1_stg4_0 ∗ idle c cc1_stg4_1 ∗ idle c cc1_stg5_0 ∗ idle c cc1_stg5_1 ∗ idle c cc1_scratch0)

/-- Between points: the carried rows' buffer at what the next point reads there (at anything where it starts afresh), and the
    generator register at some state. -/
def inv0 (c : Dev nD) (n : ℕ) : sProp 𝕄 :=
  iprop(∃ s : Vec F S8x256 .f32, ⌜n % 16 ≠ 0 → s = fcar V n⌝ ∗ owns (c : Thread nD τ) car0 fullShare s ∗ (∃ r, prngReg c r) ∗ rest0 c)

/-- The forward call's data on core `c`, entered at the contents `V`: the inputs' blocks stay, the outputs' blocks end at the
    body's functions of them. -/
def dat0 (c : Dev nD) : Dat τ (Elt F) Unit ℕ (UR sig nD τ) ℕ cfg0 c where
  A w := V (Proc.devRef .tc (Pipeline.arrRef spec0 w))
  after w t := match w with
    | ⟨0, _⟩ => fblk V 0 t
    | ⟨1, _⟩ => fblk V 1 t
    | ⟨2, _⟩ => fwdH (fblk V 0 t) (fblk V 1 t) (fcar V t.val)
    | ⟨3, _⟩ => k0_pay1 (fcar V t.val)
  Φ t := inv0 V c t.val
  q _ := fullShare
  owed _ := 0

theorem A0_eq (c : Dev nD) (w : Fin cfg0.W) : (dat0 V c).A w = V (Proc.devRef .tc (Pipeline.arrRef spec0 w)) := by dsimp only [dat0]

theorem after0_0 (c : Dev nD) (t : Fin cfg0.N) : (dat0 V c).after 0 t = fblk V 0 t := by dsimp only [dat0]
theorem after0_1 (c : Dev nD) (t : Fin cfg0.N) : (dat0 V c).after 1 t = fblk V 1 t := by dsimp only [dat0]
theorem after0_2 (c : Dev nD) (t : Fin cfg0.N) : (dat0 V c).after 2 t = fwdH (fblk V 0 t) (fblk V 1 t) (fcar V t.val) := by dsimp only [dat0]
theorem after0_3 (c : Dev nD) (t : Fin cfg0.N) : (dat0 V c).after 3 t = k0_pay1 (fcar V t.val) := by dsimp only [dat0]

theorem before0_0 (c : Dev nD) (t : Fin cfg0.N) (d) : (dat0 V c).before 0 t d = fblk V 0 t :=
  ((dat0 V c).before_in_eq_fetched 0 rfl (fun _ => rfl) (fun _ _ _ => rfl) (fun t => by rw [after0_0]; unfold Dat.blockOf fblk; rw [A0_eq]) t d).trans
    (by unfold Dat.fetched Dat.blockOf fblk; rw [A0_eq]; rfl)
theorem before0_1 (c : Dev nD) (t : Fin cfg0.N) (d) : (dat0 V c).before 1 t d = fblk V 1 t :=
  ((dat0 V c).before_in_eq_fetched 1 rfl (fun _ => rfl) (fun _ _ _ => rfl) (fun t => by rw [after0_1]; unfold Dat.blockOf fblk; rw [A0_eq]) t d).trans
    (by unfold Dat.fetched Dat.blockOf fblk; rw [A0_eq]; rfl)

/-- The staging buffers at point `t`, as the body is handed them, and that each is a whole buffer. -/
abbrev fs0 (t : Fin cfg0.N) : Memref sig .tc .vmem S512x256 .f32 := win0_0.stage (cfg0.slots t 0)
abbrev fs1 (t : Fin cfg0.N) : Memref sig .tc .vmem S512x256 .f32 := win0_1.stage (cfg0.slots t 1)
abbrev fs2 (t : Fin cfg0.N) : Memref sig .tc .vmem S512x256 .f32 := win0_2.stage (cfg0.slots t 2)
abbrev fs3 (t : Fin cfg0.N) : Memref sig .tc .vmem S1x1x8x256 .f32 := win0_3.stage (cfg0.slots t 3)

/-- What the body is called with at point `t`, -/
def pre0 (c : Dev nD) (t : Fin cfg0.N) : sProp 𝕄 :=
  iprop(inv0 V c t.val ∗ (dat0 V c).owesAt () t.castSucc
    ∗ (∃ d, owns (c : Thread nD τ) (fs0 t) fullShare ((dat0 V c).before 0 t d))
    ∗ (∃ d, owns (c : Thread nD τ) (fs1 t) fullShare ((dat0 V c).before 1 t d))
    ∗ (∃ d, owns (c : Thread nD τ) (fs2 t) fullShare ((dat0 V c).before 2 t d))
    ∗ (∃ d, owns (c : Thread nD τ) (fs3 t) fullShare ((dat0 V c).before 3 t d)))

/-- and what it leaves. -/
def post0 (c : Dev nD) (t : Fin cfg0.N) : sProp 𝕄 :=
  iprop(inv0 V c (t.val + 1) ∗ (dat0 V c).owesAt () t.castSucc
    ∗ owns (c : Thread nD τ) (fs0 t) fullShare (fblk V 0 t)
    ∗ owns (c : Thread nD τ) (fs1 t) fullShare (fblk V 1 t)
    ∗ owns (c : Thread nD τ) (fs2 t) fullShare (fwdH (fblk V 0 t) (fblk V 1 t) (fcar V t.val))
    ∗ owns (c : Thread nD τ) (fs3 t) fullShare (k0_pay1 (fcar V t.val)))

theorem sound0 (c : Dev nD) (t : Fin cfg0.N) :
    pre0 V c t ⊢ wp frame (wpE (defs₀ (F := F)) Variants.none c none) Set.univ (bodyAt0 t) (fun _ => post0 V c t) := by
  unfold pre0 post0 bodyAt0 inv0
  simp only [before0_0, before0_1]
  iintro ⟨⟨%s, %hs, HS, Hg⟩, Ho, ⟨%d0, H0⟩, ⟨%d1, H1⟩, ⟨%d2, H2⟩, ⟨%d3, H3⟩⟩
  iapply (fwd_run c (grid0.coords t) _ _ _ _ _ _ _ _ _ _ (fblk V 0 t) (fblk V 1 t) s (fcar V t.val)
    (fun h => fcar_fresh V _ ((fresh0_iff t).mp h)) (fun h => (hs fun h' => h ((fresh0_iff t).mpr h')).symm) Set.univ _)
  isplitl [H0]; · iexact H0
  isplitl [H1]; · iexact H1
  isplitl [H2]; · iexists _; iexact H2
  isplitl [H3]; · iexists _; iexact H3
  isplitl [HS]; · iexact HS
  iintro ⟨H0, H1, H2, H3, HS⟩
  isplitl [HS Hg]
  · iexists _
    isplitr
    swap
    · isplitl [HS]; · iexact HS
      iexact Hg
    ipureintro
    intro h
    rw [fcar_step V _ h, pt0_val]
  isplitl [Ho]; · iexact Ho
  isplitl [H0]; · iexact H0
  isplitl [H1]; · iexact H1
  isplitl [H2]; · iexact H2
  iexact H3

theorem row0_eq (t : Fin cfg0.N) : defs₀ (F := F) .tc cfg0.body (cfg0.bodyArgs t (cfg0.slots t)) = bodyAt0 t := by
  unfold defs₀; rw [Defs.onTc_tc]

theorem obligation0 (c : Dev nD) : BodyObligation (dat0 V c) (defs₀ (F := F)) Variants.none () Set.univ := fun t => by
  rw [bigSep_W0, bigSep_W0, row0_eq]
  exact triple_restated (sound0 V c t) rfl .rfl fun _ => .rfl

/-- The scoped buffers no window stages: the carried rows' and the backward call's. -/
theorem scoped0 (c : Dev nD) :
    (Pipeline.scopedRest (Ix := Unit) (Name := ℕ) (U := UR sig nD τ) (Lvl := ℕ) (Val := Elt F) spec0 c : sProp 𝕄)
      = iprop((∃ s, owns (c : Thread nD τ) car0 fullShare s) ∗ rest0 c) := by
  rw [scopedRest0_eq]; simp only [car0, owns_whole]; rfl

/-- Entering: those buffers and the generator register make the first invariant, -/
theorem enter0 (c : Dev nD) :
    iprop(Pipeline.scopedRest (Ix := Unit) (Name := ℕ) (U := UR sig nD τ) (Lvl := ℕ) (Val := Elt F) spec0 c ∗ (∃ r, prngReg c r)) ⊢ inv0 V c 0 := by
  rw [scoped0]
  unfold inv0
  iintro ⟨⟨⟨%s, HS⟩, Hr⟩, Hg⟩
  iexists s
  isplitr
  · ipureintro; intro h; exact absurd rfl h
  isplitl [HS]; · iexact HS
  isplitl [Hg]; · iexact Hg
  iexact Hr

/-- and the last invariant gives them back. -/
theorem leave0 (c : Dev nD) (n : ℕ) :
    inv0 V c n ⊢ iprop(Pipeline.scopedRest (Ix := Unit) (Name := ℕ) (U := UR sig nD τ) (Lvl := ℕ) (Val := Elt F) spec0 c ∗ (∃ r, prngReg c r)) := by
  rw [scoped0]
  unfold inv0
  iintro ⟨%s, -, HS, Hg, Hr⟩
  isplitl [HS Hr]
  · isplitl [HS]; · iexists s; iexact HS
    iexact Hr
  iexact Hg

end Cert.KernelIdeal.Scan

end
-- ==== Proof.BwdRegion.lean ====
/- The backward call over its whole grid: what its windows hold point by point, the carried rows threaded from point to point,
   and the call as one segment of the program. -/
module

public import proofs.«01_k».proof.Proof.BwdBody
public import proofs.«01_k».proof.Proof.FwdRegion
public import proofs.«01_k».proof.Proof.Gen.KernelIdeal.Launch
public import Idealize.ShloMosaic.Lib.Pipeline.Frame
public import Idealize.ShloMosaic.Lib.Pipeline.Regions
public import Idealize.ShloMosaic.Lib.Pipeline.RegionArraysS

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Point `n` of the backward grid (its number taken modulo the number of points, so that it is one for every `n`). -/
def pt1 (n : ℕ) : Fin cfg1.N := ⟨n % 32, lt_of_lt_of_eq (Nat.mod_lt _ (by decide)) (show 32 = cfg1.N from N_1.symm)⟩

theorem pt1_val (t : Fin cfg1.N) : pt1 t.val = t :=
  Fin.ext (Nat.mod_eq_of_lt (lt_of_lt_of_eq t.isLt (show cfg1.N = 32 from N_1)))

variable (V : Valuation τ sig (Elt F))

/-- The block of window `w` at point `t`, read off the contents `V` of the arrays. -/
def bblk (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- The rows carried back that the body at point `n` starts from: zero at the first point of a half of the columns, else what
    the point before it left. -/
def bcar : ℕ → Vec F S8x256 .f32
  | 0 => k1_pay7
  | n + 1 => if (n + 1) % 16 = 0 then k1_pay7 else bwdQ (bblk V 0 (pt1 n)) (bblk V 3 (pt1 n)) (bcar n)

theorem bcar_fresh (n : ℕ) (h : n % 16 = 0) : bcar V n = k1_pay7 := by
  cases n with
  | zero => rfl
  | succ n => exact if_pos h

theorem bcar_step (n : ℕ) (h : (n + 1) % 16 ≠ 0) :
    bcar V (n + 1) = bwdQ (bblk V 0 (pt1 n)) (bblk V 3 (pt1 n)) (bcar V n) := if_neg h

/-- The carried rows' buffer. -/
abbrev car1 : Memref sig .tc .vmem S8x256 .f32 := Memref.whole cc1_scratch0

/-- The forward call's buffers, which the backward call leaves alone. -/
def rest1 (c : Dev nD) : sProp 𝕄 :=
  iprop(idle c cc0_stg0_0 ∗ idle c cc0_stg0_1 ∗ idle c cc0_stg1_0 ∗ idle c cc0_stg1_1 ∗ idle c cc0_stg2_0 ∗ idle c cc0_stg2_1 ∗ idle c cc0_stg3_0 ∗ idle c cc0_stg3_1 ∗ idle c cc0_scratch0)

/-- Between points: the carried rows' buffer at what the next point reads there (at anything where it starts afresh), and the
    generator register at some state. -/
def inv1 (c : Dev nD) (n : ℕ) : sProp 𝕄 :=
  iprop(∃ s : Vec F S8x256 .f32, ⌜n % 16 ≠ 0 → s = bcar V n⌝ ∗ owns (c : Thread nD τ) car1 fullShare s ∗ (∃ r, prngReg c r) ∗ rest1 c)

/-- The two outputs' blocks at point `t`. -/
def bda (t : Fin cfg1.N) : Vec F S512x256 .f32 := bwdA (bblk V 0 t) (bblk V 1 t) (bblk V 3 t) (bblk V 2 t) (bcar V t.val)
def bdu (t : Fin cfg1.N) : Vec F S512x256 .f32 := bwdU (bblk V 0 t) (bblk V 3 t) (bcar V t.val)

/-- The backward call's data on core `c`, entered at the contents `V`: the inputs' blocks stay, the outputs' blocks end at the
    body's functions of them. -/
def dat1 (c : Dev nD) : Dat τ (Elt F) Unit ℕ (UR sig nD τ) ℕ cfg1 c where
  A w := V (Proc.devRef .tc (Pipeline.arrRef spec1 w))
  after w t := match w with
    | ⟨0, _⟩ => bblk V 0 t
    | ⟨1, _⟩ => bblk V 1 t
    | ⟨2, _⟩ => bblk V 2 t
    | ⟨3, _⟩ => bblk V 3 t
    | ⟨4, _⟩ => bda V t
    | ⟨5, _⟩ => bdu V t
  Φ t := inv1 V c t.val
  q _ := fullShare
  owed _ := 0

theorem A1_eq (c : Dev nD) (w : Fin cfg1.W) : (dat1 V c).A w = V (Proc.devRef .tc (Pipeline.arrRef spec1 w)) := by dsimp only [dat1]

theorem after1_0 (c : Dev nD) (t : Fin cfg1.N) : (dat1 V c).after 0 t = bblk V 0 t := by dsimp only [dat1]
theorem after1_1 (c : Dev nD) (t : Fin cfg1.N) : (dat1 V c).after 1 t = bblk V 1 t := by dsimp only [dat1]
theorem after1_2 (c : Dev nD) (t : Fin cfg1.N) : (dat1 V c).after 2 t = bblk V 2 t := by dsimp only [dat1]
theorem after1_3 (c : Dev nD) (t : Fin cfg1.N) : (dat1 V c).after 3 t = bblk V 3 t := by dsimp only [dat1]
theorem after1_4 (c : Dev nD) (t : Fin cfg1.N) : (dat1 V c).after 4 t = bda V t := by dsimp only [dat1]
theorem after1_5 (c : Dev nD) (t : Fin cfg1.N) : (dat1 V c).after 5 t = bdu V t := by dsimp only [dat1]

theorem before1_0 (c : Dev nD) (t : Fin cfg1.N) (d) : (dat1 V c).before 0 t d = bblk V 0 t :=
  ((dat1 V c).before_in_eq_fetched 0 rfl (fun _ => rfl) (fun _ _ _ => rfl) (fun t => by rw [after1_0]; unfold Dat.blockOf bblk; rw [A1_eq]) t d).trans
    (by unfold Dat.fetched Dat.blockOf bblk; rw [A1_eq]; rfl)
theorem before1_1 (c : Dev nD) (t : Fin cfg1.N) (d) : (dat1 V c).before 1 t d = bblk V 1 t :=
  ((dat1 V c).before_in_eq_fetched 1 rfl (fun _ => rfl) (fun _ _ _ => rfl) (fun t => by rw [after1_1]; unfold Dat.blockOf bblk; rw [A1_eq]) t d).trans
    (by unfold Dat.fetched Dat.blockOf bblk; rw [A1_eq]; rfl)
theorem before1_2 (c : Dev nD) (t : Fin cfg1.N) (d) : (dat1 V c).before 2 t d = bblk V 2 t :=
  ((dat1 V c).before_in_eq_fetched 2 rfl (fun _ => rfl) (fun _ _ _ => rfl) (fun t => by rw [after1_2]; unfold Dat.blockOf bblk; rw [A1_eq]) t d).trans
    (by unfold Dat.fetched Dat.blockOf bblk; rw [A1_eq]; rfl)
theorem before1_3 (c : Dev nD) (t : Fin cfg1.N) (d) : (dat1 V c).before 3 t d = bblk V 3 t :=
  ((dat1 V c).before_in_eq_fetched 3 rfl (fun _ => rfl) (fun _ _ _ => rfl) (fun t => by rw [after1_3]; unfold Dat.blockOf bblk; rw [A1_eq]) t d).trans
    (by unfold Dat.fetched Dat.blockOf bblk; rw [A1_eq]; rfl)

/-- The staging buffers at point `t`, as the body is handed them. -/
abbrev bs0 (t : Fin cfg1.N) : Memref sig .tc .vmem S512x256 .f32 := win1_0.stage (cfg1.slots t 0)
abbrev bs1 (t : Fin cfg1.N) : Memref sig .tc .vmem S512x256 .f32 := win1_1.stage (cfg1.slots t 1)
abbrev bs2 (t : Fin cfg1.N) : Memref sig .tc .vmem S1x1x8x256 .f32 := win1_2.stage (cfg1.slots t 2)
abbrev bs3 (t : Fin cfg1.N) : Memref sig .tc .vmem S512x256 .f32 := win1_3.stage (cfg1.slots t 3)
abbrev bs4 (t : Fin cfg1.N) : Memref sig .tc .vmem S512x256 .f32 := win1_4.stage (cfg1.slots t 4)
abbrev bs5 (t : Fin cfg1.N) : Memref sig .tc .vmem S512x256 .f32 := win1_5.stage (cfg1.slots t 5)

/-- What the body is called with at point `t`, -/
def pre1 (c : Dev nD) (t : Fin cfg1.N) : sProp 𝕄 :=
  iprop(inv1 V c t.val ∗ (dat1 V c).owesAt () t.castSucc
    ∗ (∃ d, owns (c : Thread nD τ) (bs0 t) fullShare ((dat1 V c).before 0 t d))
    ∗ (∃ d, owns (c : Thread nD τ) (bs1 t) fullShare ((dat1 V c).before 1 t d))
    ∗ (∃ d, owns (c : Thread nD τ) (bs2 t) fullShare ((dat1 V c).before 2 t d))
    ∗ (∃ d, owns (c : Thread nD τ) (bs3 t) fullShare ((dat1 V c).before 3 t d))
    ∗ (∃ d, owns (c : Thread nD τ) (bs4 t) fullShare ((dat1 V c).before 4 t d))
    ∗ (∃ d, owns (c : Thread nD τ) (bs5 t) fullShare ((dat1 V c).before 5 t d)))

/-- and what it leaves. -/
def post1 (c : Dev nD) (t : Fin cfg1.N) : sProp 𝕄 :=
  iprop(inv1 V c (t.val + 1) ∗ (dat1 V c).owesAt () t.castSucc
    ∗ owns (c : Thread nD τ) (bs0 t) fullShare (bblk V 0 t)
    ∗ owns (c : Thread nD τ) (bs1 t) fullShare (bblk V 1 t)
    ∗ owns (c : Thread nD τ) (bs2 t) fullShare (bblk V 2 t)
    ∗ owns (c : Thread nD τ) (bs3 t) fullShare (bblk V 3 t)
    ∗ owns (c : Thread nD τ) (bs4 t) fullShare (bda V t)
    ∗ owns (c : Thread nD τ) (bs5 t) fullShare (bdu V t))

theorem sound1 (c : Dev nD) (t : Fin cfg1.N) :
    pre1 V c t ⊢ wp frame (wpE (defs₀ (F := F)) Variants.none c none) Set.univ (bodyAt1 t) (fun _ => post1 V c t) := by
  unfold pre1 post1 bodyAt1 inv1 bda bdu
  simp only [before1_0, before1_1, before1_2, before1_3]
  iintro ⟨⟨%s, %hs, HS, Hg⟩, Ho, ⟨%d0, H0⟩, ⟨%d1, H1⟩, ⟨%d2, H2⟩, ⟨%d3, H3⟩, ⟨%d4, H4⟩, ⟨%d5, H5⟩⟩
  iapply (bwd_run c (grid1.coords t) _ _ _ _ _ _ _ _ _ _ _ _ _ _ (bblk V 0 t) (bblk V 1 t) (bblk V 3 t) (bblk V 2 t) s (bcar V t.val)
    (fun h => bcar_fresh V _ ((fresh1_iff t).mp h)) (fun h => (hs fun h' => h ((fresh1_iff t).mpr h')).symm) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS Hg]
  · iexists _
    isplitr
    swap
    · isplitl [HS]; · iexact HS
      iexact Hg
    ipureintro
    intro h
    rw [bcar_step V _ h, pt1_val]
  isplitl [Ho]; · iexact Ho
  isplitl [H0]; · iexact H0
  isplitl [H1]; · iexact H1
  isplitl [H2]; · iexact H2
  isplitl [H3]; · iexact H3
  isplitl [H4]; · iexact H4
  iexact H5

theorem row1_eq (t : Fin cfg1.N) : defs₀ (F := F) .tc cfg1.body (cfg1.bodyArgs t (cfg1.slots t)) = bodyAt1 t := by
  unfold defs₀; rw [Defs.onTc_tc]

theorem obligation1 (c : Dev nD) : BodyObligation (dat1 V c) (defs₀ (F := F)) Variants.none () Set.univ := fun t => by
  rw [bigSep_W1, bigSep_W1, row1_eq]
  exact triple_restated (sound1 V c t) rfl .rfl fun _ => .rfl

/-- The scoped buffers no window stages: the carried rows' and the forward call's. -/
theorem scoped1 (c : Dev nD) :
    (Pipeline.scopedRest (Ix := Unit) (Name := ℕ) (U := UR sig nD τ) (Lvl := ℕ) (Val := Elt F) spec1 c : sProp 𝕄)
      ⊣⊢ iprop((∃ s, owns (c : Thread nD τ) car1 fullShare s) ∗ rest1 c) := by
  rw [scopedRest1_eq]; simp only [car1, owns_whole]
  unfold rest1 idle
  constructor
  · iintro ⟨A, B, C, D, E, G, I, J, K, L⟩
    isplitl [L]; · iexact L
    isplitl [A]; · iexact A
    isplitl [B]; · iexact B
    isplitl [C]; · iexact C
    isplitl [D]; · iexact D
    isplitl [E]; · iexact E
    isplitl [G]; · iexact G
    isplitl [I]; · iexact I
    isplitl [J]; · iexact J
    iexact K
  · iintro ⟨L, A, B, C, D, E, G, I, J, K⟩
    isplitl [A]; · iexact A
    isplitl [B]; · iexact B
    isplitl [C]; · iexact C
    isplitl [D]; · iexact D
    isplitl [E]; · iexact E
    isplitl [G]; · iexact G
    isplitl [I]; · iexact I
    isplitl [J]; · iexact J
    isplitl [K]; · iexact K
    iexact L

/-- Entering: those buffers and the generator register make the first invariant, -/
theorem enter1 (c : Dev nD) :
    iprop(Pipeline.scopedRest (Ix := Unit) (Name := ℕ) (U := UR sig nD τ) (Lvl := ℕ) (Val := Elt F) spec1 c ∗ (∃ r, prngReg c r)) ⊢ inv1 V c 0 := by
  refine (sep_mono (scoped1 c).1 .rfl).trans ?_
  unfold inv1
  iintro ⟨⟨⟨%s, HS⟩, Hr⟩, Hg⟩
  iexists s
  isplitr
  · ipureintro; intro h; exact absurd rfl h
  isplitl [HS]; · iexact HS
  isplitl [Hg]; · iexact Hg
  iexact Hr

/-- and the last invariant gives them back. -/
theorem leave1 (c : Dev nD) (n : ℕ) :
    inv1 V c n ⊢ iprop(Pipeline.scopedRest (Ix := Unit) (Name := ℕ) (U := UR sig nD τ) (Lvl := ℕ) (Val := Elt F) spec1 c ∗ (∃ r, prngReg c r)) := by
  refine .trans ?_ (sep_mono (scoped1 c).2 .rfl)
  unfold inv1
  iintro ⟨%s, -, HS, Hg, Hr⟩
  isplitl [HS Hr]
  · isplitl [HS]; · iexists s; iexact HS
    iexact Hr
  iexact Hg

end Cert.KernelIdeal.Scan

end
-- ==== Proof.Run.lean ====
/- The whole program: the forward call, then the backward call, each a segment over the buffers in memory; where every buffer
   ends, and that the arguments and the counters end as they must. -/
module

public import proofs.«01_k».proof.Proof.BwdRegion

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg afterRegion ucRefs)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, between the two calls, and at the end. -/
def U0 (c : Dev nD) : Valuation τ sig (Elt F) := fun b => m (c, b)
def U1 (c : Dev nD) : Valuation τ sig (Elt F) := afterRegion (dat0 (U0 m c) c) (U0 m c)
def U2 (c : Dev nD) : Valuation τ sig (Elt F) := afterRegion (dat1 (U1 m c) c) (U1 m c)

/-- The two calls' data. -/
def dats : (p : Fin 2) → (c : Dev nD) → Dat τ (Elt F) Unit ℕ (UR sig nD τ) ℕ (cfgs p) c
  | ⟨0, _⟩ => fun c => dat0 (U0 m c) c
  | ⟨1, _⟩ => fun c => dat1 (U1 m c) c

/-- No call has a prefetched table. -/
abbrev adm : (p : Fin 2) → (pcfgs (F := F) p).Adm := fun p => (cfgs p).toPCfg_adm

/-- Every cell of a TensorCore carries the one index, at level zero. -/
abbrev cells : GSem nD τ sig → Finset Unit := fun g => if g.1.2 = .tc then {()} else ∅
abbrev level : GSem nD τ sig → Unit → ℕ := fun _ _ => 0

/-- The generator register at some state. -/
abbrev gen (c : Dev nD) : sProp 𝕄 := iprop(∃ r, prngReg c r)

/-- What rides beside the buffers from call to call. -/
abbrev ride (c : Dev nD) : sProp 𝕄 :=
  iprop((∃ W, owes (c : Thread nD τ) (0 : CellTallies nD τ sig Unit) W) ∗ gen c ∗ emp)

theorem cut (p : Fin 2) : Pipeline.LevelCut (pcfgs (F := F)) adm () cells level p (fun _ => 0) (fun _ => 0) where
  hι c w s := by simp [cells]
  hιb c w s := le_refl 0
  hD c g i h := absurd h (lt_irrefl 0)

-- the entailments of a call are stated over the configuration the program pins, which only unfolding shows to be its own
set_option backward.isDefEq.respectTransparency.types false in
def seg0 : RegionSeg (pcfgs (F := F)) adm (dats m) () defs₀ Variants.none cells level 0 :=
  RegionSeg.ofHeldIn (pcfgs (F := F)) adm (dats m) () defs₀ Variants.none cells level 0 (fun _ => 0) (ucRefs τ sig) gen gen
    launch0.toP rfl (fun c => (obligation0 (U0 m c) c).loose) (fun _ _ => rfl) (fun _ => rfl)
    (fun c => (dats m 0 c).share_full fun _ => rfl) (fun c => enter0 (U0 m c) c) (fun c => leave0 (U0 m c) c _)
    (fun _ => 0) (cut 0) (fun _ => iprop(emp)) (U0 m) (fun c w => rfl)

set_option backward.isDefEq.respectTransparency.types false in
def seg1 : RegionSeg (pcfgs (F := F)) adm (dats m) () defs₀ Variants.none cells level 1 :=
  RegionSeg.ofHeldIn (pcfgs (F := F)) adm (dats m) () defs₀ Variants.none cells level 1 (fun _ => 0) (ucRefs τ sig) gen gen
    launch1.toP rfl (fun c => (obligation1 (U1 m c) c).loose) (fun _ _ => rfl) (fun _ => rfl)
    (fun c => (dats m 1 c).share_full fun _ => rfl) (fun c => enter1 (U1 m c) c) (fun c => leave1 (U1 m c) c _)
    (fun _ => 0) (cut 1) (fun _ => iprop(emp)) (U1 m) (fun c w => rfl)

/-- Neither call writes a buffer that is no output of it. -/
theorem U1_of (c : Dev nD) (r : Ref sig .tc) (h : ∀ w, Pipeline.arrRef spec0 w = r → (cfg0.win w).isOut = false) :
    U1 m c (Proc.devRef .tc r) = U0 m c (Proc.devRef .tc r) :=
  Pipeline.afterRegion_keeps (dat0 (U0 m c) c) (U0 m c) launch0.win.arr_inj (fun w => A0_eq (U0 m c) c w) r h
theorem U2_of (c : Dev nD) (r : Ref sig .tc) (h : ∀ w, Pipeline.arrRef spec1 w = r → (cfg1.win w).isOut = false) :
    U2 m c (Proc.devRef .tc r) = U1 m c (Proc.devRef .tc r) :=
  Pipeline.afterRegion_keeps (dat1 (U1 m c) c) (U1 m c) launch1.win.arr_inj (fun w => A1_eq (U1 m c) c w) r h

theorem in0 : Pipeline.arrRefs (τ := τ) (pcfgs (F := F) 0).spec ⊆ ucRefs τ sig :=
  Pipeline.arrRefs_sub_ucRefs spec0 (show ∀ w : Fin 4, (Pipeline.arrRef spec0 w).isScoped = false by decide)
theorem in1 : Pipeline.arrRefs (τ := τ) (pcfgs (F := F) 1).spec ⊆ ucRefs τ sig :=
  Pipeline.arrRefs_sub_ucRefs spec1 (show ∀ w : Fin 6, (Pipeline.arrRef spec1 w).isScoped = false by decide)

set_option backward.isDefEq.respectTransparency.types false in
/-- Into the forward call, out of it, into the backward call and out of it. -/
theorem link0 (c : Dev nD) : iprop(StableHlo.held (c : Thread nD τ) (ucRefs τ sig) (U0 m c) ∗ ride c) ⊢ (seg0 m).pre c := by
  unfold seg0; exact RegionSeg.ofHeldIn_pre (pcs := pcfgs (F := F)) (a := adm) (pdats := dats m) (p := 0) (D := fun _ => 0) (X := gen) (Y := gen)
    (R := fun _ => iprop(emp)) (W := U0 m) in0 c
set_option backward.isDefEq.respectTransparency.types false in
theorem link1 (c : Dev nD) : (seg0 m).post c ⊢ iprop(StableHlo.held (c : Thread nD τ) (ucRefs τ sig) (U1 m c) ∗ ride c) := by
  unfold seg0; exact RegionSeg.ofHeldIn_post in0 c
set_option backward.isDefEq.respectTransparency.types false in
theorem link2 (c : Dev nD) : iprop(StableHlo.held (c : Thread nD τ) (ucRefs τ sig) (U1 m c) ∗ ride c) ⊢ (seg1 m).pre c := by
  unfold seg1; exact RegionSeg.ofHeldIn_pre (pcs := pcfgs (F := F)) (a := adm) (pdats := dats m) (p := 1) (D := fun _ => 0) (X := gen) (Y := gen)
    (R := fun _ => iprop(emp)) (W := U1 m) in1 c
set_option backward.isDefEq.respectTransparency.types false in
theorem link3 (c : Dev nD) : (seg1 m).post c ⊢ iprop(StableHlo.held (c : Thread nD τ) (ucRefs τ sig) (U2 m c) ∗ ride c) := by
  unfold seg1; exact RegionSeg.ofHeldIn_post in1 c

/-- No semaphore of a TensorCore outlives its scope. -/
theorem all_scoped : ∀ sm : SemLoc sig, sm.isScoped .tc = true := by decide

/-- A buffer of the program, among those that live in memory. -/
theorem mem_uc (r : Ref sig .tc) (h : ¬ (Proc.devRef .tc r : DevRef τ sig).isScoped) : (Proc.devRef .tc r : DevRef τ sig) ∈ ucRefs τ sig :=
  Finset.mem_filter.mpr ⟨StableHlo.devRef_mem_tcRefs r, h⟩

set_option backward.isDefEq.respectTransparency.types false in
/-- Every execution ends, with every buffer in memory at `U2` and every counter at zero. -/
theorem run_all : θ_run defs (onTc (τ := τ) (main (F := F))) ⟨m, fun _ => 0, ρ⟩
    (fun r => (∀ c : Dev nD, ∀ b ∈ ucRefs τ sig, r.2.mem (c, b) = U2 m c b) ∧ r.2.sem = fun _ => 0) :=
  Pipeline.θ_run_regions_kit_dev_sems (pcfgs (F := F)) adm (dats m) () cellOf_inj emb₁ defs₀ Variants.none cells level m ρ main
    (fun _ => [.region (seg0 m), .region (seg1 m)])
    (fun c Q => by
      rewrite [main_chain c, Seg.run_eq_chain,
        show [Seg.region (seg0 m), Seg.region (seg1 m)].map Seg.prog
          = [Prog.lift (.customCall (Pipeline.entry 0) ()), Prog.lift (.customCall (Pipeline.entry 1) ())] from rfl]
      exact .rfl)
    (fun c => by simp only [Seg.pipes_region, Seg.pipes_nil]; decide) (fun _ => 0) (fun g h => if_neg h)
    (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (U0 m c) ∗ ride c))
    (Tₙ := fun c => iprop(StableHlo.held (c : Thread nD τ) (ucRefs τ sig) (U2 m c) ∗ gen c))
    (hch := fun c => ⟨link0 m c, (link1 m c).trans (link2 m c), (link3 m c).trans (by
        iintro ⟨Hh, HO, Hg, -⟩
        isplitr [HO]
        · isplitl [Hh]; · iexact Hh
          iexact Hg
        iexact HO)⟩)
    (hinit := by
      refine Pipeline.initEach cells level fun c => ?_
      rw [show unscopedBufs c (fun b => m ((c.tc : Thread nD τ).loc b)) = StableHlo.held (c : Thread nD τ) (ucRefs τ sig) (U0 m c) from
        Pipeline.unscopedBufs_held (Ix := Unit) (Name := ℕ) (U := UR sig nD τ) (Lvl := ℕ) c (U0 m c)]
      iintro ⟨⟨Hh, -, HO, -, Hg, -⟩, -⟩
      imodintro
      isplitl [Hh]; · iexact Hh
      isplitl [HO]; · iexists ∅; iexact HO
      isplitl [Hg]; · iexists _; iexact Hg
      iempintro)
    (QY := fun c s => ∀ b ∈ ucRefs τ sig, s.mem (c, b) = U2 m c b)
    (hfin := fun c s' => by
      unfold StableHlo.held
      iintro ⟨⟨Hh, -⟩, HSI⟩
      imodintro
      iapply (pointsTo_read_all (ucRefs τ sig) (fun b => ((c : Thread nD τ).1, b)) (U2 m c) s')
      isplitl [Hh] <;> iassumption)
    (hQ := fun _ h hz => ⟨h, funext fun g => hz g (.inr (all_scoped g.2))⟩)

/-- The same, read at the arguments and at the three results. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v0_0) = U2 m c (Proc.devRef .tc main_v0_0)
      ∧ r.2.mem ((c.tc : Thread nD τ).loc main_v1_0) = U2 m c (Proc.devRef .tc main_v1_0)
      ∧ r.2.mem ((c.tc : Thread nD τ).loc main_v1_1) = U2 m c (Proc.devRef .tc main_v1_1))
      ∧ r.2.sem = fun _ => 0) :=
  (θ_run defs _ _).mono (fun r h => ⟨fun c => ⟨⟨
      (h.1 c _ (mem_uc main_arg0 (by decide))).trans ((U2_of m c main_arg0 (by decide)).trans (U1_of m c main_arg0 (by decide))),
      (h.1 c _ (mem_uc main_arg1 (by decide))).trans ((U2_of m c main_arg1 (by decide)).trans (U1_of m c main_arg1 (by decide))),
      (h.1 c _ (mem_uc main_arg2 (by decide))).trans ((U2_of m c main_arg2 (by decide)).trans (U1_of m c main_arg2 (by decide)))⟩,
      h.1 c _ (mem_uc main_v0_0 (by decide)), h.1 c _ (mem_uc main_v1_0 (by decide)), h.1 c _ (mem_uc main_v1_1 (by decide))⟩, h.2⟩)
    (run_all m ρ)

end Cert.KernelIdeal.Scan

end
-- ==== Proof.Values.lean ====
/- What the two calls leave in their result arrays, on arrays of reals: the states of the recurrence, and the cotangents of
   its factors and summands. -/
module

public import proofs.«01_k».proof.Proof.Vectors
public import proofs.«01_k».proof.Proof.Run
public import proofs.«01_k».proof.Proof.Gen.KernelIdeal.Points
public import Idealize.ShloMosaic.Lib.Pipeline.Value

@[expose] public section

set_option maxRecDepth 16384

noncomputable section

namespace Cert.KernelIdeal.Scan

open Cert.KernelIdeal.Gen
open Idealize.ShloMosaic Idealize.ShloMosaic.TcCoe
open Idealize.ShloMosaic.Pipeline (Dat afterRegion)

/-- The array of the reals `f`, given by column, then row. -/
def full (f : ℕ → ℕ → ℝ) : FVec Ideal S8192x512 .f32 := fun i => ((f (i 1).val (i 0).val : ℝ) : EReal)

/-- The states of a linear recurrence started at zero: `state r` is the state before row `r`. -/
def state (a u : ℕ → ℝ) : ℕ → ℝ
  | 0 => 0
  | r + 1 => a r * state a u r + u r

/-- The cotangents from the last row up: after `n` rows. -/
def cotUp (a d : ℕ → ℝ) : ℕ → ℝ
  | 0 => 0
  | n + 1 => d (8191 - n) + a (8192 - n) * cotUp a d n

/-- The cotangent of the summand of row `r`. -/
def cot (a d : ℕ → ℝ) (r : ℕ) : ℝ := cotUp a d (8192 - r)

theorem cot_last (a d : ℕ → ℝ) : cot a d 8192 = 0 := rfl
theorem cot_step (a d : ℕ → ℝ) (r : ℕ) (h : r < 8192) : cot a d r = d r + a (r + 1) * cot a d (r + 1) := by
  unfold cot
  obtain ⟨n, hn⟩ : ∃ n, 8192 - r = n + 1 := ⟨8191 - r, by omega⟩
  rw [hn, show 8192 - (r + 1) = n by omega]
  show d (8191 - n) + a (8192 - n) * cotUp a d n = _
  rw [show 8191 - n = r by omega, show 8192 - n = r + 1 by omega]

/-! ## Where the blocks lie -/

theorem at0_0 : ∀ t : Fin grid0.N, win0_0.index t 0 = t.val % 16 ∧ win0_0.index t 1 = t.val / 16 := by decide +kernel
theorem at0_1 : ∀ t : Fin grid0.N, win0_1.index t 0 = t.val % 16 ∧ win0_1.index t 1 = t.val / 16 := by decide +kernel
theorem at0_2 : ∀ t : Fin grid0.N, win0_2.index t 0 = t.val % 16 ∧ win0_2.index t 1 = t.val / 16 := by decide +kernel
theorem at0_3 : ∀ t : Fin grid0.N, win0_3.index t 0 = t.val / 16 ∧ win0_3.index t 1 = t.val % 16 ∧ win0_3.index t 2 = 0 ∧ win0_3.index t 3 = 0 := by decide +kernel
theorem at1_0 : ∀ t : Fin grid1.N, win1_0.index t 0 = 15 - t.val % 16 ∧ win1_0.index t 1 = t.val / 16 := by decide +kernel
theorem at1_1 : ∀ t : Fin grid1.N, win1_1.index t 0 = 15 - t.val % 16 ∧ win1_1.index t 1 = t.val / 16 := by decide +kernel
theorem at1_2 : ∀ t : Fin grid1.N, win1_2.index t 0 = t.val / 16 ∧ win1_2.index t 1 = 15 - t.val % 16 ∧ win1_2.index t 2 = 0 ∧ win1_2.index t 3 = 0 := by decide +kernel
theorem at1_3 : ∀ t : Fin grid1.N, win1_3.index t 0 = 15 - t.val % 16 ∧ win1_3.index t 1 = t.val / 16 := by decide +kernel
theorem at1_4 : ∀ t : Fin grid1.N, win1_4.index t 0 = 15 - t.val % 16 ∧ win1_4.index t 1 = t.val / 16 := by decide +kernel
theorem at1_5 : ∀ t : Fin grid1.N, win1_5.index t 0 = 15 - t.val % 16 ∧ win1_5.index t 1 = t.val / 16 := by decide +kernel

/-- Block `b` of 512 rows, half `g` of the columns. -/
def tile (b g : ℕ) (f : ℕ → ℕ → ℝ) : ℕ → ℕ → ℝ := fun q j => f (256 * g + q) (512 * b + j)

section Blocks
variable (f : ℕ → ℕ → ℝ)

theorem tile0_0 (t : Fin cfg0.N) : ((cfg0.win 0).blk t).view.read (Elt Ideal) (full f) = up (tile (t.val % 16) (t.val / 16) f) := by
  have h := at0_0 t
  funext y
  rw [View.read_apply]
  show ((f (win0_0.index t 1 * 256 + 1 * (y 1).val) (win0_0.index t 0 * 512 + 1 * (y 0).val) : ℝ) : EReal) = ((f _ _ : ℝ) : EReal)
  rw [h.1, h.2]; congr 2 <;> omega

theorem tile0_1 (t : Fin cfg0.N) : ((cfg0.win 1).blk t).view.read (Elt Ideal) (full f) = up (tile (t.val % 16) (t.val / 16) f) := by
  have h := at0_1 t
  funext y
  rw [View.read_apply]
  show ((f (win0_1.index t 1 * 256 + 1 * (y 1).val) (win0_1.index t 0 * 512 + 1 * (y 0).val) : ℝ) : EReal) = ((f _ _ : ℝ) : EReal)
  rw [h.1, h.2]; congr 2 <;> omega

theorem tile0_2 (t : Fin cfg0.N) : ((cfg0.win 2).blk t).view.read (Elt Ideal) (full f) = up (tile (t.val % 16) (t.val / 16) f) := by
  have h := at0_2 t
  funext y
  rw [View.read_apply]
  show ((f (win0_2.index t 1 * 256 + 1 * (y 1).val) (win0_2.index t 0 * 512 + 1 * (y 0).val) : ℝ) : EReal) = ((f _ _ : ℝ) : EReal)
  rw [h.1, h.2]; congr 2 <;> omega

theorem tile1_0 (t : Fin cfg1.N) : ((cfg1.win 0).blk t).view.read (Elt Ideal) (full f) = up (tile (15 - t.val % 16) (t.val / 16) f) := by
  have h := at1_0 t
  funext y
  rw [View.read_apply]
  show ((f (win1_0.index t 1 * 256 + 1 * (y 1).val) (win1_0.index t 0 * 512 + 1 * (y 0).val) : ℝ) : EReal) = ((f _ _ : ℝ) : EReal)
  rw [h.1, h.2]; congr 2 <;> omega

theorem tile1_1 (t : Fin cfg1.N) : ((cfg1.win 1).blk t).view.read (Elt Ideal) (full f) = up (tile (15 - t.val % 16) (t.val / 16) f) := by
  have h := at1_1 t
  funext y
  rw [View.read_apply]
  show ((f (win1_1.index t 1 * 256 + 1 * (y 1).val) (win1_1.index t 0 * 512 + 1 * (y 0).val) : ℝ) : EReal) = ((f _ _ : ℝ) : EReal)
  rw [h.1, h.2]; congr 2 <;> omega

theorem tile1_3 (t : Fin cfg1.N) : ((cfg1.win 3).blk t).view.read (Elt Ideal) (full f) = up (tile (15 - t.val % 16) (t.val / 16) f) := by
  have h := at1_3 t
  funext y
  rw [View.read_apply]
  show ((f (win1_3.index t 1 * 256 + 1 * (y 1).val) (win1_3.index t 0 * 512 + 1 * (y 0).val) : ℝ) : EReal) = ((f _ _ : ℝ) : EReal)
  rw [h.1, h.2]; congr 2 <;> omega

theorem tile1_4 (t : Fin cfg1.N) : ((cfg1.win 4).blk t).view.read (Elt Ideal) (full f) = up (tile (15 - t.val % 16) (t.val / 16) f) := by
  have h := at1_4 t
  funext y
  rw [View.read_apply]
  show ((f (win1_4.index t 1 * 256 + 1 * (y 1).val) (win1_4.index t 0 * 512 + 1 * (y 0).val) : ℝ) : EReal) = ((f _ _ : ℝ) : EReal)
  rw [h.1, h.2]; congr 2 <;> omega

theorem tile1_5 (t : Fin cfg1.N) : ((cfg1.win 5).blk t).view.read (Elt Ideal) (full f) = up (tile (15 - t.val % 16) (t.val / 16) f) := by
  have h := at1_5 t
  funext y
  rw [View.read_apply]
  show ((f (win1_5.index t 1 * 256 + 1 * (y 1).val) (win1_5.index t 0 * 512 + 1 * (y 0).val) : ℝ) : EReal) = ((f _ _ : ℝ) : EReal)
  rw [h.1, h.2]; congr 2 <;> omega

end Blocks

/-! ## The blocks cover the arrays -/

theorem cover0_2 (i : S8192x512.Idx) : ∃ t : Fin cfg0.N, (cfg0.win 2).flush t = true ∧ i ∈ ((cfg0.win 2).blk t).view.set := by
  have h0 : (i 0).val < 8192 := (i 0).isLt
  have h1 : (i 1).val < 512 := (i 1).isLt
  obtain ⟨t, hv⟩ : ∃ t : Fin cfg0.N, t.val = 16 * ((i 1).val / 256) + ((i 0).val / 512) := ⟨pt0 (16 * ((i 1).val / 256) + ((i 0).val / 512)), Nat.mod_eq_of_lt (by omega)⟩
  refine ⟨t, flush0_2 _, ?_⟩
  have h := at0_2 t
  rw [hv] at h
  show (i : main_v0_0.ty.Idx) ∈ ((View.whole main_v0_0).slice (win0_2.rect t)).set
  rw [View.set_slice_whole, Rect.mem_set_unit]
  intro x
  match x with
  | ⟨0, _⟩ =>
    show win0_2.index t 0 * 512 ≤ (i 0).val ∧ (i 0).val < win0_2.index t 0 * 512 + 512
    rw [h.1]; omega
  | ⟨1, _⟩ =>
    show win0_2.index t 1 * 256 ≤ (i 1).val ∧ (i 1).val < win0_2.index t 1 * 256 + 256
    rw [h.2]; omega

theorem cover1_4 (i : S8192x512.Idx) : ∃ t : Fin cfg1.N, (cfg1.win 4).flush t = true ∧ i ∈ ((cfg1.win 4).blk t).view.set := by
  have h0 : (i 0).val < 8192 := (i 0).isLt
  have h1 : (i 1).val < 512 := (i 1).isLt
  obtain ⟨t, hv⟩ : ∃ t : Fin cfg1.N, t.val = 16 * ((i 1).val / 256) + (15 - (i 0).val / 512) := ⟨pt1 (16 * ((i 1).val / 256) + (15 - (i 0).val / 512)), Nat.mod_eq_of_lt (by omega)⟩
  refine ⟨t, flush1_4 _, ?_⟩
  have h := at1_4 t
  rw [hv] at h
  show (i : main_v1_0.ty.Idx) ∈ ((View.whole main_v1_0).slice (win1_4.rect t)).set
  rw [View.set_slice_whole, Rect.mem_set_unit]
  intro x
  match x with
  | ⟨0, _⟩ =>
    show win1_4.index t 0 * 512 ≤ (i 0).val ∧ (i 0).val < win1_4.index t 0 * 512 + 512
    rw [h.1]; omega
  | ⟨1, _⟩ =>
    show win1_4.index t 1 * 256 ≤ (i 1).val ∧ (i 1).val < win1_4.index t 1 * 256 + 256
    rw [h.2]; omega

theorem cover1_5 (i : S8192x512.Idx) : ∃ t : Fin cfg1.N, (cfg1.win 5).flush t = true ∧ i ∈ ((cfg1.win 5).blk t).view.set := by
  have h0 : (i 0).val < 8192 := (i 0).isLt
  have h1 : (i 1).val < 512 := (i 1).isLt
  obtain ⟨t, hv⟩ : ∃ t : Fin cfg1.N, t.val = 16 * ((i 1).val / 256) + (15 - (i 0).val / 512) := ⟨pt1 (16 * ((i 1).val / 256) + (15 - (i 0).val / 512)), Nat.mod_eq_of_lt (by omega)⟩
  refine ⟨t, flush1_5 _, ?_⟩
  have h := at1_5 t
  rw [hv] at h
  show (i : main_v1_1.ty.Idx) ∈ ((View.whole main_v1_1).slice (win1_5.rect t)).set
  rw [View.set_slice_whole, Rect.mem_set_unit]
  intro x
  match x with
  | ⟨0, _⟩ =>
    show win1_5.index t 0 * 512 ≤ (i 0).val ∧ (i 0).val < win1_5.index t 0 * 512 + 512
    rw [h.1]; omega
  | ⟨1, _⟩ =>
    show win1_5.index t 1 * 256 ≤ (i 1).val ∧ (i 1).val < win1_5.index t 1 * 256 + 256
    rw [h.2]; omega

/-- The carried rows' array: the rows each point of the forward call starts from. -/
def kept (V : Valuation τ sig (Elt Ideal)) : FVec Ideal S2x16x8x256 .f32 := fun i => fcar V (16 * (i 0).val + (i 1).val) (ix2 (i 2) (i 3))

theorem cover0_3 (i : S2x16x8x256.Idx) : ∃ t : Fin cfg0.N, (cfg0.win 3).flush t = true ∧ i ∈ ((cfg0.win 3).blk t).view.set := by
  have h0 : (i 0).val < 2 := (i 0).isLt
  have h1 : (i 1).val < 16 := (i 1).isLt
  have h2 : (i 2).val < 8 := (i 2).isLt
  have h3 : (i 3).val < 256 := (i 3).isLt
  obtain ⟨t, hv⟩ : ∃ t : Fin cfg0.N, t.val = 16 * (i 0).val + (i 1).val := ⟨pt0 (16 * (i 0).val + (i 1).val), Nat.mod_eq_of_lt (by omega)⟩
  refine ⟨t, flush0_3 _, ?_⟩
  have h := at0_3 t
  rw [hv] at h
  show (i : main_v0_1.ty.Idx) ∈ ((View.whole main_v0_1).slice (win0_3.rect t)).set
  rw [View.set_slice_whole, Rect.mem_set_unit]
  intro x
  match x with
  | ⟨0, _⟩ => show win0_3.index t 0 * 1 ≤ (i 0).val ∧ (i 0).val < win0_3.index t 0 * 1 + 1; rw [h.1]; omega
  | ⟨1, _⟩ => show win0_3.index t 1 * 1 ≤ (i 1).val ∧ (i 1).val < win0_3.index t 1 * 1 + 1; rw [h.2.1]; omega
  | ⟨2, _⟩ => show win0_3.index t 2 * 8 ≤ (i 2).val ∧ (i 2).val < win0_3.index t 2 * 8 + 8; rw [h.2.2.1]; omega
  | ⟨3, _⟩ => show win0_3.index t 3 * 256 ≤ (i 3).val ∧ (i 3).val < win0_3.index t 3 * 256 + 256; rw [h.2.2.2]; omega

theorem fcar_at (V : Valuation τ sig (Elt Ideal)) {n n' : ℕ} {i i' : S8x256.Idx} (hn : n = n') (h0 : (i 0).val = (i' 0).val)
    (h1 : (i 1).val = (i' 1).val) : fcar V n i = fcar V n' i' := by
  subst hn
  exact congrArg (fcar V n) (funext fun x => match x with | ⟨0, _⟩ => Fin.ext h0 | ⟨1, _⟩ => Fin.ext h1)

theorem lt0 (t : Fin cfg0.N) : t.val < 32 := lt_of_lt_of_eq t.isLt N_0
theorem lt1 (t : Fin cfg1.N) : t.val < 32 := lt_of_lt_of_eq t.isLt N_1

theorem pay1_apply (p : Vec Ideal S8x256 .f32) (y : S1x1x8x256.Idx) : k0_pay1 (F := Ideal) p y = p (ix2 (y 2) (y 3)) := by
  idx_vars y
  unfold k0_pay1
  pointwise []

theorem pay8_apply (p : Vec Ideal S1x1x8x256 .f32) (i : Fin 8) (q : Fin 256) : k1_pay8 (F := Ideal) p (ix2 i q) = p (ix4 0 0 i q) := by
  unfold k1_pay8
  pointwise []

theorem pay3_apply (y : S8x256.Idx) : k0_pay3 (F := Ideal) y = 0 := by
  unfold k0_pay3
  pointwise []

theorem pay7_apply (y : S8x256.Idx) : k1_pay7 (F := Ideal) y = 0 := by
  unfold k1_pay7
  pointwise []

/-! ## The forward call -/

section Fwd
variable (V : Valuation τ sig (Elt Ideal)) (a u : ℕ → ℕ → ℝ)
  (ha : V (Proc.devRef .tc main_arg0) = full a) (hu : V (Proc.devRef .tc main_arg1) = full u)
include ha hu

/-- The states of column `q`. -/
abbrev st (a u : ℕ → ℕ → ℝ) : ℕ → ℕ → ℝ := fun q => state (a q) (u q)

theorem fblk0 (t : Fin cfg0.N) : fblk V 0 t = up (tile (t.val % 16) (t.val / 16) a) := by
  unfold fblk
  rw [show V (Proc.devRef .tc (Pipeline.arrRef spec0 0)) = full a from ha]
  exact tile0_0 a t
theorem fblk1 (t : Fin cfg0.N) : fblk V 1 t = up (tile (t.val % 16) (t.val / 16) u) := by
  unfold fblk
  rw [show V (Proc.devRef .tc (Pipeline.arrRef spec0 1)) = full u from hu]
  exact tile0_1 u t

omit ha hu in
theorem tile_state (b g q j : ℕ) : tile b g (st a u) q (j + 1) = tile b g a q j * tile b g (st a u) q j + tile b g u q j := rfl

/-- The last of the carried rows is the state the block continues from. -/
theorem fcar_last (n : ℕ) (hn : n < 32) (q : Fin 256) :
    fcar V n (ix2 7 q) = ((tile (n % 16) (n / 16) (st a u) q.val 0 : ℝ) : EReal) := by
  induction n generalizing q with
  | zero => exact (pay3_apply _).trans EReal.coe_zero.symm
  | succ n ih =>
    by_cases h : (n + 1) % 16 = 0
    · rw [fcar_fresh V _ h, h]
      exact (pay3_apply _).trans EReal.coe_zero.symm
    · rw [fcar_step V n h]
      have hv : (pt0 n).val = n := Nat.mod_eq_of_lt (by omega)
      rw [fblk0 V a u ha hu, fblk1 V a u ha hu, hv]
      rw [fwdP_up _ _ (tile (n % 16) (n / 16) (st a u)) (tile_state a u _ _) _ (ih (by omega))]
      unfold tile
      rw [show (n + 1) / 16 = n / 16 by omega, show 512 * ((n + 1) % 16) + 0 = 512 * (n % 16) + 512 by omega]

/-- The forward call leaves the states in its first result, -/
theorem fwd_h (c : Dev nD) : afterRegion (dat0 V c) V (Proc.devRef .tc main_v0_0) = full fun q r => st a u q (r + 1) := by
  refine (Pipeline.afterRegion_arr (dat0 V c) V launch0.win.arr_inj 2).trans ?_
  refine Dat.arrAt_eq_of_cover (dat0 V c) 2 (full fun q r => st a u q (r + 1)) (fun t _ => ?_) cover0_2
  have hN : cfg0.N = 32 := N_0
  rw [tile0_2]
  show (dat0 V c).after 2 t = _
  rw [after0_2, fblk0 V a u ha hu, fblk1 V a u ha hu]
  rw [fwdH_up _ _ (tile (t.val % 16) (t.val / 16) (st a u)) (tile_state a u _ _) _ (fcar_last V a u ha hu t.val (lt0 t))]
  rfl

omit ha hu in
/-- and the carried rows in its second. -/
theorem fwd_kept (c : Dev nD) : afterRegion (dat0 V c) V (Proc.devRef .tc main_v0_1) = kept V := by
  refine (Pipeline.afterRegion_arr (dat0 V c) V launch0.win.arr_inj 3).trans ?_
  refine Dat.arrAt_eq_of_cover (dat0 V c) 3 (kept V) (fun t _ => ?_) cover0_3
  have h := at0_3 t
  show (dat0 V c).after 3 t = _
  rw [after0_3]
  funext y
  rw [View.read_apply]
  refine (pay1_apply _ y).trans ?_
  have y0 : (y 0).val < 1 := (y 0).isLt
  have y1 : (y 1).val < 1 := (y 1).isLt
  refine fcar_at V ?_ ?_ ?_
  · show t.val = 16 * (win0_3.index t 0 * 1 + 1 * (y 0).val) + (win0_3.index t 1 * 1 + 1 * (y 1).val)
    rw [h.1, h.2.1]; omega
  · show (y 2).val = win0_3.index t 2 * 8 + 1 * (y 2).val
    rw [h.2.2.1]; omega
  · show (y 3).val = win0_3.index t 3 * 256 + 1 * (y 3).val
    rw [h.2.2.2]; omega

end Fwd

/-! ## The backward call -/

section Bwd
variable (V : Valuation τ sig (Elt Ideal)) (a u d : ℕ → ℕ → ℝ)
  (ha : V (Proc.devRef .tc main_arg0) = full a) (hu : V (Proc.devRef .tc main_arg1) = full u) (hd : V (Proc.devRef .tc main_arg2) = full d)

/-- The summands' cotangents of column `q`. -/
abbrev ct (a d : ℕ → ℕ → ℝ) : ℕ → ℕ → ℝ := fun q => cot (a q) (d q)

include ha in
theorem bblk0 (t : Fin cfg1.N) : bblk V 0 t = up (tile (15 - t.val % 16) (t.val / 16) a) := by
  unfold bblk
  rw [show V (Proc.devRef .tc (Pipeline.arrRef spec1 0)) = full a from ha]
  exact tile1_0 a t
include hu in
theorem bblk1 (t : Fin cfg1.N) : bblk V 1 t = up (tile (15 - t.val % 16) (t.val / 16) u) := by
  unfold bblk
  rw [show V (Proc.devRef .tc (Pipeline.arrRef spec1 1)) = full u from hu]
  exact tile1_1 u t
include hd in
theorem bblk3 (t : Fin cfg1.N) : bblk V 3 t = up (tile (15 - t.val % 16) (t.val / 16) d) := by
  unfold bblk
  rw [show V (Proc.devRef .tc (Pipeline.arrRef spec1 3)) = full d from hd]
  exact tile1_3 d t

/-- What the block below sends to block `b`, by column. -/
def sent (b g q : ℕ) : ℝ := if b = 15 then 0 else tile (b + 1) g a q 0 * tile (b + 1) g (ct a d) q 0

theorem tile_cot (b g q j : ℕ) (hb : b < 16) (hj : j < 512) : tile b g (ct a d) q j
    = (tile b g d q j + if j = 511 then sent a d b g q else 0) + if j + 1 < 512 then tile b g a q (j + 1) * tile b g (ct a d) q (j + 1) else 0 := by
  unfold tile sent ct
  rw [cot_step _ _ _ (by omega)]
  by_cases h : j = 511
  · subst h
    rw [if_pos rfl, if_neg (show ¬ 511 + 1 < 512 by omega), add_zero]
    by_cases hb' : b = 15
    · subst hb'
      rw [if_pos rfl, add_zero]
      show _ + _ * cot _ _ 8192 = _
      rw [cot_last, mul_zero, add_zero]
    · rw [if_neg hb']; unfold tile; rw [show 512 * (b + 1) + 0 = 512 * b + 511 + 1 by omega]
  · rw [if_neg h, if_pos (by omega), add_zero]; rfl

include ha hd

theorem bcar_rows (n : ℕ) (hn : n < 32) (i : Fin 8) (q : Fin 256) :
    bcar V n (ix2 i q) = if i.val = 7 then ((sent a d (15 - n % 16) (n / 16) q.val : ℝ) : EReal) else 0 := by
  have fresh : ∀ n, n % 16 = 0 → bcar V n (ix2 i q) = if i.val = 7 then ((sent a d (15 - n % 16) (n / 16) q.val : ℝ) : EReal) else 0 := by
    intro n h
    rw [bcar_fresh V n h, h, pay7_apply]
    by_cases hi : i.val = 7
    · rw [if_pos hi]; exact EReal.coe_zero.symm
    · rw [if_neg hi]
  induction n generalizing i q with
  | zero => exact fresh 0 rfl
  | succ n ih =>
    by_cases h : (n + 1) % 16 = 0
    · exact fresh _ h
    · rw [bcar_step V n h]
      have hv : (pt1 n).val = n := Nat.mod_eq_of_lt (by omega)
      rw [bblk0 V a ha, bblk3 V d hd, hv]
      rw [bwdQ_up _ _ (sent a d (15 - n % 16) (n / 16)) _ (fun i q => ih (by omega) i q (by
          intro n h
          rw [bcar_fresh V n h, h, pay7_apply]
          by_cases hi : i.val = 7
          · rw [if_pos hi]; exact EReal.coe_zero.symm
          · rw [if_neg hi])) (tile (15 - n % 16) (n / 16) (ct a d))
        (fun q j hj => tile_cot a d _ _ q j (by omega) hj) i q]
      unfold sent
      rw [if_neg (show ¬ 15 - (n + 1) % 16 = 15 by omega), show 15 - (n + 1) % 16 + 1 = 15 - n % 16 by omega, show (n + 1) / 16 = n / 16 by omega]

/-- The backward call leaves the summands' cotangents in its second result, -/
theorem bwd_du (c : Dev nD) : afterRegion (dat1 V c) V (Proc.devRef .tc main_v1_1) = full (ct a d) := by
  refine (Pipeline.afterRegion_arr (dat1 V c) V launch1.win.arr_inj 5).trans ?_
  refine Dat.arrAt_eq_of_cover (dat1 V c) 5 (full (ct a d)) (fun t _ => ?_) cover1_5
  have hN : cfg1.N = 32 := N_1
  rw [tile1_5]
  show (dat1 V c).after 5 t = _
  rw [after1_5]; unfold bdu
  rw [bblk0 V a ha, bblk3 V d hd]
  exact bwdU_up _ _ (sent a d (15 - t.val % 16) (t.val / 16)) _ (bcar_rows V a d ha hd t.val (lt1 t)) _
    (fun q j hj => tile_cot a d _ _ q j (by omega) hj)

include hu in
/-- and, handed the carried rows of the forward call, the factors' in its first. -/
theorem bwd_da (c : Dev nD) (V0 : Valuation τ sig (Elt Ideal)) (ha0 : V0 (Proc.devRef .tc main_arg0) = full a)
    (hu0 : V0 (Proc.devRef .tc main_arg1) = full u) (hk : V (Proc.devRef .tc main_v0_1) = kept V0) :
    afterRegion (dat1 V c) V (Proc.devRef .tc main_v1_0) = full fun q r => ct a d q r * st a u q r := by
  refine (Pipeline.afterRegion_arr (dat1 V c) V launch1.win.arr_inj 4).trans ?_
  refine Dat.arrAt_eq_of_cover (dat1 V c) 4 (full fun q r => ct a d q r * st a u q r) (fun t _ => ?_) cover1_4
  have hN : cfg1.N = 32 := N_1
  rw [tile1_4]
  show (dat1 V c).after 4 t = _
  rw [after1_4]; unfold bda
  rw [bblk0 V a ha, bblk1 V u hu, bblk3 V d hd]
  refine bwdA_up _ _ _ (tile (15 - t.val % 16) (t.val / 16) (st a u)) (tile_state a u _ _) (sent a d (15 - t.val % 16) (t.val / 16)) _
    (bcar_rows V a d ha hd t.val (lt1 t)) (tile (15 - t.val % 16) (t.val / 16) (ct a d))
    (fun q j hj => tile_cot a d _ _ q j (by omega) hj) _ (fun q => ?_)
  rw [pay8_apply]
  have h := at1_2 t
  have ht := lt1 t
  have e : bblk V 2 t (ix4 0 0 7 q) = fcar V0 (16 * (t.val / 16) + (15 - t.val % 16)) (ix2 7 q) := by
    unfold bblk
    rw [show V (Proc.devRef .tc (Pipeline.arrRef spec1 2)) = kept V0 from hk, View.read_apply]
    refine fcar_at V0 ?_ ?_ ?_
    · show 16 * (win1_2.index t 0 * 1 + 1 * 0) + (win1_2.index t 1 * 1 + 1 * 0) = _
      rw [h.1, h.2.1]; omega
    · show win1_2.index t 2 * 8 + 1 * 7 = 7
      rw [h.2.2.1]
    · show win1_2.index t 3 * 256 + 1 * q.val = q.val
      rw [h.2.2.2]; omega
  rw [e, fcar_last V0 a u ha0 hu0 _ (by omega)]
  rw [show (16 * (t.val / 16) + (15 - t.val % 16)) % 16 = 15 - t.val % 16 by omega, show (16 * (t.val / 16) + (15 - t.val % 16)) / 16 = t.val / 16 by omega]

end Bwd

/-! ## The program -/

section Ends
variable (m : (ℓ : Loc nD τ sig) → Buf (Elt Ideal) ℓ) (c : Dev nD) (a u d : ℕ → ℕ → ℝ)
  (ha : m ((c : Thread nD τ).loc main_arg0) = full a) (hu : m ((c : Thread nD τ).loc main_arg1) = full u)
  (hd : m ((c : Thread nD τ).loc main_arg2) = full d)
include ha hu

theorem end_h : U2 m c (Proc.devRef .tc main_v0_0) = full fun q r => st a u q (r + 1) :=
  (U2_of m c main_v0_0 (by decide)).trans (fwd_h (U0 m c) a u ha hu c)

include hd

theorem end_du : U2 m c (Proc.devRef .tc main_v1_1) = full (ct a d) :=
  bwd_du (U1 m c) a d ((U1_of m c main_arg0 (by decide)).trans ha) ((U1_of m c main_arg2 (by decide)).trans hd) c

theorem end_da : U2 m c (Proc.devRef .tc main_v1_0) = full fun q r => ct a d q r * st a u q r :=
  bwd_da (U1 m c) a u d ((U1_of m c main_arg0 (by decide)).trans ha) ((U1_of m c main_arg1 (by decide)).trans hu)
    ((U1_of m c main_arg2 (by decide)).trans hd) c (U0 m c) ha hu (fwd_kept (U0 m c) c)

end Ends

end Cert.KernelIdeal.Scan

end
-- ==== Proof.Finite.lean ====
/- What the precondition says: the three argument arrays hold reals. -/
module

public import proofs.«01_k».proof.Proof.Values
public import proofs.«01_k».proof.Proof.Gen.Pre_finite
public import Idealize.ShloMosaic.Lib.KernelVsHost

@[expose] public section

noncomputable section

namespace Cert.KernelIdeal.Scan

open Idealize.ShloMosaic

/-- The reals of an array, by column, then row. -/
def reals (x : FVec Ideal S8192x512 .f32) : ℕ → ℕ → ℝ := fun q r =>
  if h : r < 8192 ∧ q < 512 then EReal.toReal (x (ix2 ⟨r, h.1⟩ ⟨q, h.2⟩)) else 0

theorem real_of_below (x : EReal) (h : FloatOps.cmpf (F := Ideal) (φ := .f32) .olt (FloatOps.hostAbsf (F := Ideal) (φ := .f32) x)
    (FloatOps.ofBits (F := Ideal) .f32 0x7F800000#32) = 1#1) : ((EReal.toReal x : ℝ) : EReal) = x := by
  have h' := (Ideal.xori_weird_eq_hostAbsf_olt_inf x).trans h
  by_cases ht : x = ⊤ ∨ x = ⊥
  · exfalso
    have hw : FloatOps.weird (show Ideal .f32 from x) = 1#1 := by
      show BitVec.ofBool (decide ((x : EReal) = ⊤ ∨ (x : EReal) = ⊥)) = 1#1
      rw [decide_eq_true ht]; rfl
    rw [hw] at h'
    exact absurd h' (by decide)
  · exact EReal.coe_toReal (fun e => ht (.inl e)) (fun e => ht (.inr e))

theorem full_reals (x : FVec Ideal S8192x512 .f32) (h : ∀ i, FloatOps.cmpf (F := Ideal) (φ := .f32) .olt (FloatOps.hostAbsf (F := Ideal) (φ := .f32) (x i))
    (FloatOps.ofBits (F := Ideal) .f32 0x7F800000#32) = 1#1) : x = full (reals x) := by
  funext i
  idx_vars i
  show x (ix2 i0 i1) = ((reals x i1.val i0.val : ℝ) : EReal)
  rw [reals, dif_pos ⟨i0.isLt, i1.isLt⟩]
  exact (real_of_below _ (h _)).symm

theorem both_of_and (x y : BitVec 1) (h : x &&& y = 1#1) : x = 1#1 ∧ y = 1#1 := by
  revert x y; decide

/-- Arrays of which the precondition holds are arrays of reals. -/
theorem reals_of_finite (x y z : FVec Ideal S8192x512 .f32) (h : Cert.Pre_finite.fn (F := Ideal) x y z = fun _ => 1#1) :
    x = full (reals x) ∧ y = full (reals y) ∧ z = full (reals z) := by
  have h2 := fun i => both_of_and _ _ (congrFun h i)
  have h1 := fun i => both_of_and _ _ (h2 i).1
  exact ⟨full_reals x fun i => (h1 i).1, full_reals y fun i => (h1 i).2, full_reals z fun i => (h2 i).2⟩

end Cert.KernelIdeal.Scan

end
-- ==== Proof.RefOps.lean ====
/- The plain recurrence and its gradient as lists of array operations: what comes before the first loop, one trip of each
   loop, and what comes between the two. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Scan

open Cert.ReferenceIdeal Cert.ReferenceIdeal.Gen
open Idealize.ShloMosaic Idealize.ShloMosaic.TcCoe
open Idealize.SL.Sem
open Idealize.ShloMosaic.StableHlo

variable {F : FTy → Type} [FloatOps F]

/-- A list of operations on this program's arrays. -/
abbrev Ops (F : FTy → Type) [FloatOps F] := List (HloOp τ sig (Elt F))
/-- A whole array, one row, a row by itself, an index. -/
abbrev Tall := TRef sig ⟨S8192x512, .f32⟩
abbrev Flat := TRef sig ⟨S1x512, .f32⟩
abbrev Row := TRef sig ⟨S512, .f32⟩
abbrev Num := TRef sig ⟨S_, .i32⟩

/-- Row `i` of `x` into `v`. -/
abbrev lookOps (x : Tall) (i z : Num) (s : Flat) (v : Row) : Ops F :=
  [ TRef.nullary z (constantI S_ 32 0#32),
    TRef.unaryIndexed x ![i, z] s (fun x i => Host.dynamicSlice S1x512 x (fun k => (i k (Shape.Idx.first h_S_)).toInt) sliceFits_S8192x512_S1x512),
    TRef.reshape s v (rfl : (.f32 : EltTy) = .f32) shapeCasts_S1x512_S512 ]

/-- `x` with `w` as its row `i` into `v`. -/
abbrev putOps (x : Tall) (w : Row) (i : Num) (s : Flat) (z : Num) (v : Tall) : Ops F :=
  [ TRef.unary w s (broadcastInDim S1x512 ![1] bcast_S512_S1x512_1),
    TRef.nullary z (constantI S_ 32 0#32),
    TRef.binaryIndexed x s ![i, z] v (fun x u i => Host.dynamicUpdateSlice x u (fun k => (i k (Shape.Idx.first h_S_)).toInt) updateFits_S8192x512_S1x512) ]

/-- Before the first loop: zeros, and the loop's copies of the arguments. -/
abbrev startOps : Ops F :=
  [ nullary main_cst (constant S_ .f32 0x00000000#32),
    unary main_cst main_v0 (broadcastInDim S512 ![] bcast_S_S512 : (⟨S_, .f32⟩ : BufTy).Contents (Elt F) → (⟨S512, .f32⟩ : BufTy).Contents (Elt F)),
    nullary main_cst_0 (constant S_ .f32 0x00000000#32),
    unary main_cst_0 main_v1 (broadcastInDim S8192x512 ![] bcast_S_S8192x512 : (⟨S_, .f32⟩ : BufTy).Contents (Elt F) → (⟨S8192x512, .f32⟩ : BufTy).Contents (Elt F)),
    nullary main_cst_1 (constant S_ .f32 0x00000000#32),
    unary main_cst_1 main_v2 (broadcastInDim S8192x512 ![] bcast_S_S8192x512 : (⟨S_, .f32⟩ : BufTy).Contents (Elt F) → (⟨S8192x512, .f32⟩ : BufTy).Contents (Elt F)),
    nullary main_c (constantI S_ 32 0#32),
    unary main_arg0 main_v3_0 id,
    unary main_arg1 main_v3_1 id,
    unary main_c main_v3_2 id,
    unary main_v0 main_v3_3 id,
    unary main_v1 main_v3_4 id,
    unary main_v2 main_v3_5 id ]

/-- The first loop's test. -/
abbrev testF : Ops F :=
  [ nullary main_while0c_c_12 (constantI S_ 32 8192#32),
    binary main_v3_2 main_while0c_c_12 main_while0c_v9 (cmpi .slt : (⟨S_, .i32⟩ : BufTy).Contents (Elt F) → (⟨S_, .i32⟩ : BufTy).Contents (Elt F) → (⟨S_, .i1⟩ : BufTy).Contents (Elt F)) ]

/-- One trip of the first loop: the row of `a`, the row of `u`, -/
abbrev tripF0 : Ops F := lookOps (.of main_v3_0) (.of main_v3_2) (.of main_while0b_call0_c) (.of main_while0b_call0_v0) (.of main_while0b_v9)
abbrev tripF1 : Ops F := lookOps (.of main_v3_1) (.of main_v3_2) (.of main_while0b_call1_c) (.of main_while0b_call1_v0) (.of main_while0b_v10)
/-- the next state, -/
abbrev tripF2 : Ops F :=
  [ binary main_while0b_v9 main_v3_3 main_while0b_v11 (mulf : (⟨S512, .f32⟩ : BufTy).Contents (Elt F) → (⟨S512, .f32⟩ : BufTy).Contents (Elt F) → (⟨S512, .f32⟩ : BufTy).Contents (Elt F)),
    binary main_while0b_v11 main_while0b_v10 main_while0b_v12 (addf : (⟨S512, .f32⟩ : BufTy).Contents (Elt F) → (⟨S512, .f32⟩ : BufTy).Contents (Elt F) → (⟨S512, .f32⟩ : BufTy).Contents (Elt F)) ]
/-- both states stored, -/
abbrev tripF3 : Ops F := putOps (.of main_v3_4) (.of main_while0b_v12) (.of main_v3_2) (.of main_while0b_call2_v0) (.of main_while0b_call2_c) (.of main_while0b_v13)
abbrev tripF4 : Ops F := putOps (.of main_v3_5) (.of main_v3_3) (.of main_v3_2) (.of main_while0b_call3_v0) (.of main_while0b_call3_c) (.of main_while0b_v14)
/-- and the values handed to the next trip. -/
abbrev tripF5 : Ops F :=
  [ nullary main_while0b_c_12 (constantI S_ 32 1#32),
    binary main_v3_2 main_while0b_c_12 main_while0b_v15 (addi : (⟨S_, .i32⟩ : BufTy).Contents (Elt F) → (⟨S_, .i32⟩ : BufTy).Contents (Elt F) → (⟨S_, .i32⟩ : BufTy).Contents (Elt F)),
    unary main_while0b_v15 main_v3_2 id,
    unary main_while0b_v12 main_v3_3 id,
    unary main_while0b_v13 main_v3_4 id,
    unary main_while0b_v14 main_v3_5 id ]
abbrev tripF : List (Ops F) := [tripF0, tripF1, tripF2, tripF3, tripF4, tripF5]

/-- Between the loops: zeros, and the second loop's copies. -/
abbrev midOps : Ops F :=
  [ nullary main_cst_2 (constant S_ .f32 0x00000000#32),
    unary main_cst_2 main_v4 (broadcastInDim S512 ![] bcast_S_S512 : (⟨S_, .f32⟩ : BufTy).Contents (Elt F) → (⟨S512, .f32⟩ : BufTy).Contents (Elt F)),
    nullary main_cst_3 (constant S_ .f32 0x00000000#32),
    unary main_cst_3 main_v5 (broadcastInDim S512 ![] bcast_S_S512 : (⟨S_, .f32⟩ : BufTy).Contents (Elt F) → (⟨S512, .f32⟩ : BufTy).Contents (Elt F)),
    nullary main_cst_4 (constant S_ .f32 0x00000000#32),
    unary main_cst_4 main_v6 (broadcastInDim S8192x512 ![] bcast_S_S8192x512 : (⟨S_, .f32⟩ : BufTy).Contents (Elt F) → (⟨S8192x512, .f32⟩ : BufTy).Contents (Elt F)),
    nullary main_cst_5 (constant S_ .f32 0x00000000#32),
    unary main_cst_5 main_v7 (broadcastInDim S8192x512 ![] bcast_S_S8192x512 : (⟨S_, .f32⟩ : BufTy).Contents (Elt F) → (⟨S8192x512, .f32⟩ : BufTy).Contents (Elt F)),
    nullary main_c_6 (constantI S_ 32 0#32),
    unary main_arg2 main_v8_0 id,
    unary main_v3_5 main_v8_1 id,
    unary main_arg0 main_v8_2 id,
    unary main_c_6 main_v8_3 id,
    unary main_v5 main_v8_4 id,
    unary main_v6 main_v8_5 id,
    unary main_v7 main_v8_6 id ]

/-- The second loop's test. -/
abbrev testB : Ops F :=
  [ nullary main_while1c_c_13 (constantI S_ 32 8192#32),
    binary main_v8_3 main_while1c_c_13 main_while1c_v9 (cmpi .slt : (⟨S_, .i32⟩ : BufTy).Contents (Elt F) → (⟨S_, .i32⟩ : BufTy).Contents (Elt F) → (⟨S_, .i1⟩ : BufTy).Contents (Elt F)) ]

/-- One trip of the second loop: the row's number counted from the end, -/
abbrev tripB0 : Ops F :=
  [ nullary main_while1b_c_13 (constantI S_ 32 8192#32),
    binary main_while1b_c_13 main_v8_3 main_while1b_v9 (subi : (⟨S_, .i32⟩ : BufTy).Contents (Elt F) → (⟨S_, .i32⟩ : BufTy).Contents (Elt F) → (⟨S_, .i32⟩ : BufTy).Contents (Elt F)),
    nullary main_while1b_c_14 (constantI S_ 32 1#32),
    binary main_while1b_v9 main_while1b_c_14 main_while1b_v10 (subi : (⟨S_, .i32⟩ : BufTy).Contents (Elt F) → (⟨S_, .i32⟩ : BufTy).Contents (Elt F) → (⟨S_, .i32⟩ : BufTy).Contents (Elt F)) ]
/-- the rows of the cotangent, of the states and of `a`, -/
abbrev tripB1 : Ops F := lookOps (.of main_v8_0) (.of main_while1b_v10) (.of main_while1b_call4_c) (.of main_while1b_call4_v0) (.of main_while1b_v11)
abbrev tripB2 : Ops F := lookOps (.of main_v8_1) (.of main_while1b_v10) (.of main_while1b_call5_c) (.of main_while1b_call5_v0) (.of main_while1b_v12)
abbrev tripB3 : Ops F := lookOps (.of main_v8_2) (.of main_while1b_v10) (.of main_while1b_call6_c) (.of main_while1b_call6_v0) (.of main_while1b_v13)
/-- the gradients of this row, -/
abbrev tripB4 : Ops F :=
  [ binary main_v8_4 main_while1b_v11 main_while1b_v14 (addf : (⟨S512, .f32⟩ : BufTy).Contents (Elt F) → (⟨S512, .f32⟩ : BufTy).Contents (Elt F) → (⟨S512, .f32⟩ : BufTy).Contents (Elt F)),
    binary main_while1b_v13 main_while1b_v14 main_while1b_v15 (mulf : (⟨S512, .f32⟩ : BufTy).Contents (Elt F) → (⟨S512, .f32⟩ : BufTy).Contents (Elt F) → (⟨S512, .f32⟩ : BufTy).Contents (Elt F)),
    binary main_while1b_v14 main_while1b_v12 main_while1b_v16 (mulf : (⟨S512, .f32⟩ : BufTy).Contents (Elt F) → (⟨S512, .f32⟩ : BufTy).Contents (Elt F) → (⟨S512, .f32⟩ : BufTy).Contents (Elt F)) ]
/-- both stored, -/
abbrev tripB5 : Ops F := putOps (.of main_v8_5) (.of main_while1b_v16) (.of main_while1b_v10) (.of main_while1b_call7_v0) (.of main_while1b_call7_c) (.of main_while1b_v17)
abbrev tripB6 : Ops F := putOps (.of main_v8_6) (.of main_while1b_v14) (.of main_while1b_v10) (.of main_while1b_call8_v0) (.of main_while1b_call8_c) (.of main_while1b_v18)
/-- and the values handed to the next trip. -/
abbrev tripB7 : Ops F :=
  [ nullary main_while1b_c_15 (constantI S_ 32 1#32),
    binary main_v8_3 main_while1b_c_15 main_while1b_v19 (addi : (⟨S_, .i32⟩ : BufTy).Contents (Elt F) → (⟨S_, .i32⟩ : BufTy).Contents (Elt F) → (⟨S_, .i32⟩ : BufTy).Contents (Elt F)),
    unary main_while1b_v19 main_v8_3 id,
    unary main_while1b_v15 main_v8_4 id,
    unary main_while1b_v17 main_v8_5 id,
    unary main_while1b_v18 main_v8_6 id ]
abbrev tripB : List (Ops F) := [tripB0, tripB1, tripB2, tripB3, tripB4, tripB5, tripB6, tripB7]

/-- A program of this reference. -/
abbrev RProg (F : FTy → Type) [FloatOps F] (α : Type) := Prog (TpuEff nD τ sig (Elt F) (HostLoop.Sig (Pipeline.Sig Λ₀ (Fin 0) fun p => (pcfgs (F := F) p).Adm) 2) .tc) α

theorem main_parts (c : Dev nD) : main (F := F) c
    = (Pipeline.chain [seq startOps, HostLoop.enter 0, seq midOps, HostLoop.enter 1] : RProg F PUnit) := by
  rewrite [chain_seq_cons, Pipeline.chain_cons, chain_seq_cons, Pipeline.chain_cons]
  chain_rfl

theorem bodyF_parts : main_while0_body (F := F)
    = (Pipeline.chain [seq tripF0, seq tripF1, seq tripF2, seq tripF3, seq tripF4, seq tripF5] : RProg F PUnit) := by
  rewrite [Pipeline.chain_cons, Pipeline.chain_cons, chain_seq_cons, Pipeline.chain_cons, Pipeline.chain_cons, chain_seq_cons]
  chain_rfl

theorem bodyB_parts : main_while1_body (F := F)
    = (Pipeline.chain [seq tripB0, seq tripB1, seq tripB2, seq tripB3, seq tripB4, seq tripB5, seq tripB6, seq tripB7] : RProg F PUnit) := by
  rewrite [chain_seq_cons, Pipeline.chain_cons, Pipeline.chain_cons, Pipeline.chain_cons, chain_seq_cons, Pipeline.chain_cons, Pipeline.chain_cons, chain_seq_cons]
  chain_rfl

/-! ## Every operation reads and writes named arrays only -/

theorem look_sub (x : Tall) (i z : Num) (s : Flat) (v : Row) : (lookOps x i z s v : Ops F).Forall fun op => op.bufs ⊆ tcRefs τ sig :=
  ⟨nullary_bufs_sub .., unaryIndexed_bufs_sub .., reshape_bufs_sub ..⟩
theorem put_sub (x : Tall) (w : Row) (i : Num) (s : Flat) (z : Num) (v : Tall) : (putOps x w i s z v : Ops F).Forall fun op => op.bufs ⊆ tcRefs τ sig :=
  ⟨unary_bufs_sub .., nullary_bufs_sub .., binaryIndexed_bufs_sub ..⟩

theorem start_plain : Plain [(startOps : Ops F)] :=
  .cons ⟨nullary_bufs_sub .., unary_bufs_sub .., nullary_bufs_sub .., unary_bufs_sub .., nullary_bufs_sub .., unary_bufs_sub .., nullary_bufs_sub ..,
    unary_bufs_sub .., unary_bufs_sub .., unary_bufs_sub .., unary_bufs_sub .., unary_bufs_sub .., unary_bufs_sub ..⟩ .nil
theorem mid_plain : Plain [(midOps : Ops F)] :=
  .cons ⟨nullary_bufs_sub .., unary_bufs_sub .., nullary_bufs_sub .., unary_bufs_sub .., nullary_bufs_sub .., unary_bufs_sub .., nullary_bufs_sub ..,
    unary_bufs_sub .., nullary_bufs_sub .., unary_bufs_sub .., unary_bufs_sub .., unary_bufs_sub .., unary_bufs_sub .., unary_bufs_sub ..,
    unary_bufs_sub .., unary_bufs_sub ..⟩ .nil
theorem tripF_plain : Plain (tripF (F := F)) :=
  .cons (look_sub ..) <| .cons (look_sub ..) <| .cons ⟨binary_bufs_sub .., binary_bufs_sub ..⟩ <| .cons (put_sub ..) <| .cons (put_sub ..) <|
    .cons ⟨nullary_bufs_sub .., binary_bufs_sub .., unary_bufs_sub .., unary_bufs_sub .., unary_bufs_sub .., unary_bufs_sub ..⟩ .nil
theorem tripB_plain : Plain (tripB (F := F)) :=
  .cons ⟨nullary_bufs_sub .., binary_bufs_sub .., nullary_bufs_sub .., binary_bufs_sub ..⟩ <| .cons (look_sub ..) <| .cons (look_sub ..) <| .cons (look_sub ..) <|
    .cons ⟨binary_bufs_sub .., binary_bufs_sub .., binary_bufs_sub ..⟩ <| .cons (put_sub ..) <| .cons (put_sub ..) <|
    .cons ⟨nullary_bufs_sub .., binary_bufs_sub .., unary_bufs_sub .., unary_bufs_sub .., unary_bufs_sub .., unary_bufs_sub ..⟩ .nil

end Cert.ReferenceIdeal.Scan

end
-- ==== Proof.RefTrip.lean ====
/- What one trip of each loop of the plain recurrence makes of the arrays it carries. -/
module

public import proofs.«01_k».proof.Proof.RefOps

@[expose] public section

noncomputable section

namespace Cert.ReferenceIdeal.Scan

open Cert.ReferenceIdeal Cert.ReferenceIdeal.Gen
open Idealize.ShloMosaic Idealize.ShloMosaic.TcCoe Idealize.ShloMosaic.Tactic
open Idealize.SL.Sem
open Idealize.ShloMosaic.StableHlo

variable {F : FTy → Type} [FloatOps F]

/-- Row `i` of an array. -/
def row (x : FVec F S8192x512 .f32) (i : IVec S_ 32) : FVec F S512 .f32 :=
  shapeCast S512 (Host.dynamicSlice S1x512 x (fun k => (((![i, constantI S_ 32 0#32] : Fin 2 → IVec S_ 32)) k (Shape.Idx.first h_S_)).toInt) sliceFits_S8192x512_S1x512) shapeCasts_S1x512_S512

/-- An array with row `i` replaced. -/
def put (x : FVec F S8192x512 .f32) (w : FVec F S512 .f32) (i : IVec S_ 32) : FVec F S8192x512 .f32 :=
  Host.dynamicUpdateSlice x (broadcastInDim S1x512 ![1] bcast_S512_S1x512_1 w) (fun k => (((![i, constantI S_ 32 0#32] : Fin 2 → IVec S_ 32)) k (Shape.Idx.first h_S_)).toInt) updateFits_S8192x512_S1x512

/-- The second loop's row number: counted from the end. -/
def back (i : IVec S_ 32) : IVec S_ 32 := subi (subi (constantI S_ 32 8192#32) i) (constantI S_ 32 1#32)

variable (V : Valuation τ sig (Elt F))

/-- One trip of each loop, its test first. -/
abbrev goF : Valuation τ sig (Elt F) := afterL tripF (after testF V)
abbrev goB : Valuation τ sig (Elt F) := afterL tripB (after testB V)

/-! ## What each part leaves alone -/

theorem startOps_keep (r : Ref sig .tc) (h : r ∉ ([main_cst, main_v0, main_cst_0, main_v1, main_cst_1, main_v2, main_c, main_v3_0, main_v3_1, main_v3_2, main_v3_3, main_v3_4, main_v3_5] : List (Ref sig .tc))) :
    after startOps V (Proc.devRef .tc r) = V (Proc.devRef .tc r) :=
  after_of_writes_sub startOps V (forall_writes_sub_of_map rfl) h
theorem midOps_keep (r : Ref sig .tc) (h : r ∉ ([main_cst_2, main_v4, main_cst_3, main_v5, main_cst_4, main_v6, main_cst_5, main_v7, main_c_6, main_v8_0, main_v8_1, main_v8_2, main_v8_3, main_v8_4, main_v8_5, main_v8_6] : List (Ref sig .tc))) :
    after midOps V (Proc.devRef .tc r) = V (Proc.devRef .tc r) :=
  after_of_writes_sub midOps V (forall_writes_sub_of_map rfl) h
theorem testF_keep (r : Ref sig .tc) (h : r ∉ ([main_while0c_c_12, main_while0c_v9] : List (Ref sig .tc))) :
    after testF V (Proc.devRef .tc r) = V (Proc.devRef .tc r) :=
  after_of_writes_sub testF V (forall_writes_sub_of_map rfl) h
theorem testB_keep (r : Ref sig .tc) (h : r ∉ ([main_while1c_c_13, main_while1c_v9] : List (Ref sig .tc))) :
    after testB V (Proc.devRef .tc r) = V (Proc.devRef .tc r) :=
  after_of_writes_sub testB V (forall_writes_sub_of_map rfl) h
theorem tripF0_keep (r : Ref sig .tc) (h : r ∉ ([main_while0b_call0_c, main_while0b_call0_v0, main_while0b_v9] : List (Ref sig .tc))) :
    after tripF0 V (Proc.devRef .tc r) = V (Proc.devRef .tc r) :=
  after_of_writes_sub tripF0 V (forall_writes_sub_of_map rfl) h
theorem tripF1_keep (r : Ref sig .tc) (h : r ∉ ([main_while0b_call1_c, main_while0b_call1_v0, main_while0b_v10] : List (Ref sig .tc))) :
    after tripF1 V (Proc.devRef .tc r) = V (Proc.devRef .tc r) :=
  after_of_writes_sub tripF1 V (forall_writes_sub_of_map rfl) h
theorem tripF2_keep (r : Ref sig .tc) (h : r ∉ ([main_while0b_v11, main_while0b_v12] : List (Ref sig .tc))) :
    after tripF2 V (Proc.devRef .tc r) = V (Proc.devRef .tc r) :=
  after_of_writes_sub tripF2 V (forall_writes_sub_of_map rfl) h
theorem tripF3_keep (r : Ref sig .tc) (h : r ∉ ([main_while0b_call2_v0, main_while0b_call2_c, main_while0b_v13] : List (Ref sig .tc))) :
    after tripF3 V (Proc.devRef .tc r) = V (Proc.devRef .tc r) :=
  after_of_writes_sub tripF3 V (forall_writes_sub_of_map rfl) h
theorem tripF4_keep (r : Ref sig .tc) (h : r ∉ ([main_while0b_call3_v0, main_while0b_call3_c, main_while0b_v14] : List (Ref sig .tc))) :
    after tripF4 V (Proc.devRef .tc r) = V (Proc.devRef .tc r) :=
  after_of_writes_sub tripF4 V (forall_writes_sub_of_map rfl) h
theorem tripF5_keep (r : Ref sig .tc) (h : r ∉ ([main_while0b_c_12, main_while0b_v15, main_v3_2, main_v3_3, main_v3_4, main_v3_5] : List (Ref sig .tc))) :
    after tripF5 V (Proc.devRef .tc r) = V (Proc.devRef .tc r) :=
  after_of_writes_sub tripF5 V (forall_writes_sub_of_map rfl) h
theorem tripB0_keep (r : Ref sig .tc) (h : r ∉ ([main_while1b_c_13, main_while1b_v9, main_while1b_c_14, main_while1b_v10] : List (Ref sig .tc))) :
    after tripB0 V (Proc.devRef .tc r) = V (Proc.devRef .tc r) :=
  after_of_writes_sub tripB0 V (forall_writes_sub_of_map rfl) h
theorem tripB1_keep (r : Ref sig .tc) (h : r ∉ ([main_while1b_call4_c, main_while1b_call4_v0, main_while1b_v11] : List (Ref sig .tc))) :
    after tripB1 V (Proc.devRef .tc r) = V (Proc.devRef .tc r) :=
  after_of_writes_sub tripB1 V (forall_writes_sub_of_map rfl) h
theorem tripB2_keep (r : Ref sig .tc) (h : r ∉ ([main_while1b_call5_c, main_while1b_call5_v0, main_while1b_v12] : List (Ref sig .tc))) :
    after tripB2 V (Proc.devRef .tc r) = V (Proc.devRef .tc r) :=
  after_of_writes_sub tripB2 V (forall_writes_sub_of_map rfl) h
theorem tripB3_keep (r : Ref sig .tc) (h : r ∉ ([main_while1b_call6_c, main_while1b_call6_v0, main_while1b_v13] : List (Ref sig .tc))) :
    after tripB3 V (Proc.devRef .tc r) = V (Proc.devRef .tc r) :=
  after_of_writes_sub tripB3 V (forall_writes_sub_of_map rfl) h
theorem tripB4_keep (r : Ref sig .tc) (h : r ∉ ([main_while1b_v14, main_while1b_v15, main_while1b_v16] : List (Ref sig .tc))) :
    after tripB4 V (Proc.devRef .tc r) = V (Proc.devRef .tc r) :=
  after_of_writes_sub tripB4 V (forall_writes_sub_of_map rfl) h
theorem tripB5_keep (r : Ref sig .tc) (h : r ∉ ([main_while1b_call7_v0, main_while1b_call7_c, main_while1b_v17] : List (Ref sig .tc))) :
    after tripB5 V (Proc.devRef .tc r) = V (Proc.devRef .tc r) :=
  after_of_writes_sub tripB5 V (forall_writes_sub_of_map rfl) h
theorem tripB6_keep (r : Ref sig .tc) (h : r ∉ ([main_while1b_call8_v0, main_while1b_call8_c, main_while1b_v18] : List (Ref sig .tc))) :
    after tripB6 V (Proc.devRef .tc r) = V (Proc.devRef .tc r) :=
  after_of_writes_sub tripB6 V (forall_writes_sub_of_map rfl) h
theorem tripB7_keep (r : Ref sig .tc) (h : r ∉ ([main_while1b_c_15, main_while1b_v19, main_v8_3, main_v8_4, main_v8_5, main_v8_6] : List (Ref sig .tc))) :
    after tripB7 V (Proc.devRef .tc r) = V (Proc.devRef .tc r) :=
  after_of_writes_sub tripB7 V (forall_writes_sub_of_map rfl) h

/-! ## What each part computes -/

set_option maxRecDepth 100000

theorem tripF0_row : after tripF0 V (Proc.devRef .tc main_while0b_v9) = row (V (Proc.devRef .tc main_v3_0)) (V (Proc.devRef .tc main_v3_2)) := by simp only [tripF0, lookOps]; after_results_entrywise [cast_eq]
theorem tripF1_row : after tripF1 V (Proc.devRef .tc main_while0b_v10) = row (V (Proc.devRef .tc main_v3_1)) (V (Proc.devRef .tc main_v3_2)) := by simp only [tripF1, lookOps]; after_results_entrywise [cast_eq]
theorem tripB1_row : after tripB1 V (Proc.devRef .tc main_while1b_v11) = row (V (Proc.devRef .tc main_v8_0)) (V (Proc.devRef .tc main_while1b_v10)) := by simp only [tripB1, lookOps]; after_results_entrywise [cast_eq]
theorem tripB2_row : after tripB2 V (Proc.devRef .tc main_while1b_v12) = row (V (Proc.devRef .tc main_v8_1)) (V (Proc.devRef .tc main_while1b_v10)) := by simp only [tripB2, lookOps]; after_results_entrywise [cast_eq]
theorem tripB3_row : after tripB3 V (Proc.devRef .tc main_while1b_v13) = row (V (Proc.devRef .tc main_v8_2)) (V (Proc.devRef .tc main_while1b_v10)) := by simp only [tripB3, lookOps]; after_results_entrywise [cast_eq]
theorem tripF3_put : after tripF3 V (Proc.devRef .tc main_while0b_v13) = put (V (Proc.devRef .tc main_v3_4)) (V (Proc.devRef .tc main_while0b_v12)) (V (Proc.devRef .tc main_v3_2)) := by simp only [tripF3, putOps]; after_results_entrywise [cast_eq]
theorem tripF4_put : after tripF4 V (Proc.devRef .tc main_while0b_v14) = put (V (Proc.devRef .tc main_v3_5)) (V (Proc.devRef .tc main_v3_3)) (V (Proc.devRef .tc main_v3_2)) := by simp only [tripF4, putOps]; after_results_entrywise [cast_eq]
theorem tripB5_put : after tripB5 V (Proc.devRef .tc main_while1b_v17) = put (V (Proc.devRef .tc main_v8_5)) (V (Proc.devRef .tc main_while1b_v16)) (V (Proc.devRef .tc main_while1b_v10)) := by simp only [tripB5, putOps]; after_results_entrywise [cast_eq]
theorem tripB6_put : after tripB6 V (Proc.devRef .tc main_while1b_v18) = put (V (Proc.devRef .tc main_v8_6)) (V (Proc.devRef .tc main_while1b_v14)) (V (Proc.devRef .tc main_while1b_v10)) := by simp only [tripB6, putOps]; after_results_entrywise [cast_eq]
theorem tripF2_state : after tripF2 V (Proc.devRef .tc main_while0b_v12) = addf (mulf (V (Proc.devRef .tc main_while0b_v9)) (V (Proc.devRef .tc main_v3_3))) (V (Proc.devRef .tc main_while0b_v10)) := by after_reads_simp
theorem tripF5_num : after tripF5 V (Proc.devRef .tc main_v3_2) = addi (V (Proc.devRef .tc main_v3_2)) (constantI S_ 32 1#32) := by after_reads_simp; rfl
theorem tripF5_3 : after tripF5 V (Proc.devRef .tc main_v3_3) = (V (Proc.devRef .tc main_while0b_v12)) := by after_reads_simp; rfl
theorem tripF5_4 : after tripF5 V (Proc.devRef .tc main_v3_4) = (V (Proc.devRef .tc main_while0b_v13)) := by after_reads_simp; rfl
theorem tripF5_5 : after tripF5 V (Proc.devRef .tc main_v3_5) = (V (Proc.devRef .tc main_while0b_v14)) := by after_reads_simp; rfl
theorem tripB0_num : after tripB0 V (Proc.devRef .tc main_while1b_v10) = back (V (Proc.devRef .tc main_v8_3)) := by after_reads_simp; rfl
theorem tripB4_du : after tripB4 V (Proc.devRef .tc main_while1b_v14) = addf (V (Proc.devRef .tc main_v8_4)) (V (Proc.devRef .tc main_while1b_v11)) := by after_reads_simp
theorem tripB4_next : after tripB4 V (Proc.devRef .tc main_while1b_v15) = mulf (V (Proc.devRef .tc main_while1b_v13)) (addf (V (Proc.devRef .tc main_v8_4)) (V (Proc.devRef .tc main_while1b_v11))) := by after_reads_simp
theorem tripB4_da : after tripB4 V (Proc.devRef .tc main_while1b_v16) = mulf (addf (V (Proc.devRef .tc main_v8_4)) (V (Proc.devRef .tc main_while1b_v11))) (V (Proc.devRef .tc main_while1b_v12)) := by after_reads_simp
theorem tripB7_num : after tripB7 V (Proc.devRef .tc main_v8_3) = addi (V (Proc.devRef .tc main_v8_3)) (constantI S_ 32 1#32) := by after_reads_simp; rfl
theorem tripB7_4 : after tripB7 V (Proc.devRef .tc main_v8_4) = (V (Proc.devRef .tc main_while1b_v15)) := by after_reads_simp; rfl
theorem tripB7_5 : after tripB7 V (Proc.devRef .tc main_v8_5) = (V (Proc.devRef .tc main_while1b_v17)) := by after_reads_simp; rfl
theorem tripB7_6 : after tripB7 V (Proc.devRef .tc main_v8_6) = (V (Proc.devRef .tc main_while1b_v18)) := by after_reads_simp; rfl

/-! ## One trip -/

theorem goF_num : goF V (Proc.devRef .tc main_v3_2) = addi (V (Proc.devRef .tc main_v3_2)) (constantI S_ 32 1#32) := by
  simp only [goF, afterL_cons, afterL_nil]
  rw [tripF5_num, tripF4_keep _ _ (by decide), tripF3_keep _ _ (by decide), tripF2_keep _ _ (by decide), tripF1_keep _ _ (by decide), tripF0_keep _ _ (by decide), testF_keep _ _ (by decide)]
theorem goF_state : goF V (Proc.devRef .tc main_v3_3) = addf (mulf (row (V (Proc.devRef .tc main_v3_0)) (V (Proc.devRef .tc main_v3_2))) (V (Proc.devRef .tc main_v3_3))) (row (V (Proc.devRef .tc main_v3_1)) (V (Proc.devRef .tc main_v3_2))) := by
  simp only [goF, afterL_cons, afterL_nil]
  rw [tripF5_3, tripF4_keep _ _ (by decide), tripF3_keep _ _ (by decide), tripF2_state, tripF1_keep _ _ (by decide), tripF0_row, testF_keep _ _ (by decide), testF_keep _ _ (by decide), tripF1_keep _ _ (by decide), tripF0_keep _ _ (by decide), testF_keep _ _ (by decide), tripF1_row, tripF0_keep _ _ (by decide), testF_keep _ _ (by decide), tripF0_keep _ _ (by decide), testF_keep _ _ (by decide)]
theorem goF_out : goF V (Proc.devRef .tc main_v3_4) = put (V (Proc.devRef .tc main_v3_4)) (addf (mulf (row (V (Proc.devRef .tc main_v3_0)) (V (Proc.devRef .tc main_v3_2))) (V (Proc.devRef .tc main_v3_3))) (row (V (Proc.devRef .tc main_v3_1)) (V (Proc.devRef .tc main_v3_2)))) (V (Proc.devRef .tc main_v3_2)) := by
  simp only [goF, afterL_cons, afterL_nil]
  rw [tripF5_4, tripF4_keep _ _ (by decide), tripF3_put, tripF2_keep _ _ (by decide), tripF1_keep _ _ (by decide), tripF0_keep _ _ (by decide), testF_keep _ _ (by decide), tripF2_state, tripF1_keep _ _ (by decide), tripF0_row, testF_keep _ _ (by decide), testF_keep _ _ (by decide), tripF1_keep _ _ (by decide), tripF0_keep _ _ (by decide), testF_keep _ _ (by decide), tripF1_row, tripF0_keep _ _ (by decide), testF_keep _ _ (by decide), tripF0_keep _ _ (by decide), testF_keep _ _ (by decide), tripF2_keep _ _ (by decide), tripF1_keep _ _ (by decide), tripF0_keep _ _ (by decide), testF_keep _ _ (by decide)]
theorem goF_prev : goF V (Proc.devRef .tc main_v3_5) = put (V (Proc.devRef .tc main_v3_5)) (V (Proc.devRef .tc main_v3_3)) (V (Proc.devRef .tc main_v3_2)) := by
  simp only [goF, afterL_cons, afterL_nil]
  rw [tripF5_5, tripF4_put, tripF3_keep _ _ (by decide), tripF2_keep _ _ (by decide), tripF1_keep _ _ (by decide), tripF0_keep _ _ (by decide), testF_keep _ _ (by decide), tripF3_keep _ _ (by decide), tripF2_keep _ _ (by decide), tripF1_keep _ _ (by decide), tripF0_keep _ _ (by decide), testF_keep _ _ (by decide), tripF3_keep _ _ (by decide), tripF2_keep _ _ (by decide), tripF1_keep _ _ (by decide), tripF0_keep _ _ (by decide), testF_keep _ _ (by decide)]
theorem goF_keep (r : Ref sig .tc) (h : r ∉ ([main_while0b_c_12, main_while0b_v15, main_v3_2, main_v3_3, main_v3_4, main_v3_5,
      main_while0b_call3_v0, main_while0b_call3_c, main_while0b_v14, main_while0b_call2_v0, main_while0b_call2_c, main_while0b_v13,
      main_while0b_v11, main_while0b_v12, main_while0b_call1_c, main_while0b_call1_v0, main_while0b_v10,
      main_while0b_call0_c, main_while0b_call0_v0, main_while0b_v9, main_while0c_c_12, main_while0c_v9] : List (Ref sig .tc))) :
    goF V (Proc.devRef .tc r) = V (Proc.devRef .tc r) := by
  simp only [List.mem_cons, List.not_mem_nil, or_false, not_or] at h
  simp only [goF, afterL_cons, afterL_nil]
  rw [tripF5_keep _ _ (by simp [h]), tripF4_keep _ _ (by simp [h]), tripF3_keep _ _ (by simp [h]), tripF2_keep _ _ (by simp [h]),
    tripF1_keep _ _ (by simp [h]), tripF0_keep _ _ (by simp [h]), testF_keep _ _ (by simp [h])]
theorem goB_num : goB V (Proc.devRef .tc main_v8_3) = addi (V (Proc.devRef .tc main_v8_3)) (constantI S_ 32 1#32) := by
  simp only [goB, afterL_cons, afterL_nil]
  rw [tripB7_num, tripB6_keep _ _ (by decide), tripB5_keep _ _ (by decide), tripB4_keep _ _ (by decide), tripB3_keep _ _ (by decide), tripB2_keep _ _ (by decide), tripB1_keep _ _ (by decide), tripB0_keep _ _ (by decide), testB_keep _ _ (by decide)]
theorem midB (r : Ref sig .tc) (X : Valuation τ sig (Elt F)) (h : r ∉ ([main_while1b_call6_c, main_while1b_call6_v0, main_while1b_v13,
      main_while1b_call5_c, main_while1b_call5_v0, main_while1b_v12, main_while1b_call4_c, main_while1b_call4_v0, main_while1b_v11] : List (Ref sig .tc))) :
    after tripB3 (after tripB2 (after tripB1 X)) (Proc.devRef .tc r) = X (Proc.devRef .tc r) := by
  simp only [List.mem_cons, List.not_mem_nil, or_false, not_or] at h
  rw [tripB3_keep _ _ (by simp [h]), tripB2_keep _ _ (by simp [h]), tripB1_keep _ _ (by simp [h])]
/-- The contents when a trip of the second loop starts to compute. -/
def here : Valuation τ sig (Elt F) := after tripB3 (after tripB2 (after tripB1 (after tripB0 (after testB V))))
theorem here_num : here V (Proc.devRef .tc main_while1b_v10) = (back (V (Proc.devRef .tc main_v8_3))) := by
  unfold here
  rw [midB _ _ (by decide), tripB0_num, testB_keep _ _ (by decide)]
theorem here_d : here V (Proc.devRef .tc main_while1b_v11) = row (V (Proc.devRef .tc main_v8_0)) (back (V (Proc.devRef .tc main_v8_3))) := by
  unfold here
  rw [tripB3_keep _ _ (by decide), tripB2_keep _ _ (by decide), tripB1_row, tripB0_keep _ _ (by decide), testB_keep _ _ (by decide), tripB0_num, testB_keep _ _ (by decide)]
theorem here_h : here V (Proc.devRef .tc main_while1b_v12) = row (V (Proc.devRef .tc main_v8_1)) (back (V (Proc.devRef .tc main_v8_3))) := by
  unfold here
  rw [tripB3_keep _ _ (by decide), tripB2_row, tripB1_keep _ _ (by decide), tripB0_keep _ _ (by decide), testB_keep _ _ (by decide), tripB1_keep _ _ (by decide), tripB0_num, testB_keep _ _ (by decide)]
theorem here_a : here V (Proc.devRef .tc main_while1b_v13) = row (V (Proc.devRef .tc main_v8_2)) (back (V (Proc.devRef .tc main_v8_3))) := by
  unfold here
  rw [tripB3_row, tripB2_keep _ _ (by decide), tripB1_keep _ _ (by decide), tripB0_keep _ _ (by decide), testB_keep _ _ (by decide), tripB2_keep _ _ (by decide), tripB1_keep _ _ (by decide), tripB0_num, testB_keep _ _ (by decide)]
theorem here_keep (r : Ref sig .tc) (h : r ∉ ([main_while1b_c_13, main_while1b_v9, main_while1b_c_14, main_while1b_v10,
      main_while1b_call6_c, main_while1b_call6_v0, main_while1b_v13,
      main_while1b_call5_c, main_while1b_call5_v0, main_while1b_v12, main_while1b_call4_c, main_while1b_call4_v0, main_while1b_v11,
      main_while1c_c_13, main_while1c_v9] : List (Ref sig .tc))) :
    here V (Proc.devRef .tc r) = V (Proc.devRef .tc r) := by
  simp only [List.mem_cons, List.not_mem_nil, or_false, not_or] at h
  unfold here
  rw [midB _ _ (by simp [h]), tripB0_keep _ _ (by simp [h]), testB_keep _ _ (by simp [h])]
theorem goB_here : goB V = after tripB7 (after tripB6 (after tripB5 (after tripB4 (here V)))) := rfl
theorem goB_next : goB V (Proc.devRef .tc main_v8_4) = mulf (row (V (Proc.devRef .tc main_v8_2)) (back (V (Proc.devRef .tc main_v8_3)))) (addf (V (Proc.devRef .tc main_v8_4)) (row (V (Proc.devRef .tc main_v8_0)) (back (V (Proc.devRef .tc main_v8_3))))) := by
  rw [goB_here, tripB7_4, tripB6_keep _ _ (by decide), tripB5_keep _ _ (by decide), tripB4_next, here_a, here_d, here_keep _ _ (by decide)]
theorem goB_da : goB V (Proc.devRef .tc main_v8_5) = put (V (Proc.devRef .tc main_v8_5)) (mulf (addf (V (Proc.devRef .tc main_v8_4)) (row (V (Proc.devRef .tc main_v8_0)) (back (V (Proc.devRef .tc main_v8_3))))) (row (V (Proc.devRef .tc main_v8_1)) (back (V (Proc.devRef .tc main_v8_3))))) (back (V (Proc.devRef .tc main_v8_3))) := by
  rw [goB_here, tripB7_5, tripB6_keep _ _ (by decide), tripB5_put, tripB4_keep _ _ (by decide), tripB4_da, tripB4_keep _ _ (by decide), here_num, here_d, here_h, here_keep _ _ (by decide), here_keep _ _ (by decide)]
theorem goB_du : goB V (Proc.devRef .tc main_v8_6) = put (V (Proc.devRef .tc main_v8_6)) (addf (V (Proc.devRef .tc main_v8_4)) (row (V (Proc.devRef .tc main_v8_0)) (back (V (Proc.devRef .tc main_v8_3))))) (back (V (Proc.devRef .tc main_v8_3))) := by
  rw [goB_here, tripB7_6, tripB6_put, tripB5_keep _ _ (by decide), tripB4_keep _ _ (by decide), tripB5_keep _ _ (by decide), tripB4_du, tripB5_keep _ _ (by decide), tripB4_keep _ _ (by decide), here_num, here_d, here_keep _ _ (by decide), here_keep _ _ (by decide)]
theorem goB_keep (r : Ref sig .tc) (h : r ∉ ([main_while1b_c_15, main_while1b_v19, main_v8_3, main_v8_4, main_v8_5, main_v8_6,
      main_while1b_call8_v0, main_while1b_call8_c, main_while1b_v18, main_while1b_call7_v0, main_while1b_call7_c, main_while1b_v17,
      main_while1b_v14, main_while1b_v15, main_while1b_v16,
      main_while1b_c_13, main_while1b_v9, main_while1b_c_14, main_while1b_v10,
      main_while1b_call6_c, main_while1b_call6_v0, main_while1b_v13,
      main_while1b_call5_c, main_while1b_call5_v0, main_while1b_v12, main_while1b_call4_c, main_while1b_call4_v0, main_while1b_v11,
      main_while1c_c_13, main_while1c_v9] : List (Ref sig .tc))) :
    goB V (Proc.devRef .tc r) = V (Proc.devRef .tc r) := by
  simp only [List.mem_cons, List.not_mem_nil, or_false, not_or] at h
  rw [goB_here, tripB7_keep _ _ (by simp [h]), tripB6_keep _ _ (by simp [h]), tripB5_keep _ _ (by simp [h]), tripB4_keep _ _ (by simp [h]),
    here_keep _ _ (by simp [h])]

end Cert.ReferenceIdeal.Scan

end
-- ==== Proof.RefRun.lean ====
/- Every execution of the plain recurrence and its gradient ends, with each array at the two loops' folds. -/
module

public import proofs.«01_k».proof.Proof.RefTrip
public import Idealize.ShloMosaic.Lib.Quiescent

@[expose] public section

noncomputable section

namespace Cert.ReferenceIdeal.Scan

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket)

variable {F : FTy → Type} [FloatOps F]

variable (m : (ℓ : Loc nD τ sig) → Buf (Elt F) ℓ) (ρ : Dev nD → PrngReg)

/-- The contents when the first loop is entered, before its test number `k`, and when it is left; the same of the second. -/
abbrev W0 (c : Dev nD) : Valuation τ sig (Elt F) := afterL [startOps] (launchContents m c)
abbrev inF (k : ℕ) (c : Dev nD) : Valuation τ sig (Elt F) := atTrip testF tripF (W0 m) k c
abbrev W1 (c : Dev nD) : Valuation τ sig (Elt F) := after testF (inF m 8192 c)
abbrev W2 (c : Dev nD) : Valuation τ sig (Elt F) := afterL [midOps] (W1 m c)
abbrev inB (k : ℕ) (c : Dev nD) : Valuation τ sig (Elt F) := atTrip testB tripB (W2 m) k c
abbrev W3 (c : Dev nD) : Valuation τ sig (Elt F) := after testB (inB m 8192 c)

theorem inF_succ (k : ℕ) (c : Dev nD) : inF m (k + 1) c = goF (inF m k c) := rfl
theorem inB_succ (k : ℕ) (c : Dev nD) : inB m (k + 1) c = goB (inB m k c) := rfl

set_option maxRecDepth 100000 in
theorem W0_num (c : Dev nD) : W0 m c (Proc.devRef .tc main_v3_2) = fun _ => (0#32 : BitVec 32) := by
  simp only [W0, afterL_cons, afterL_nil]; after_reads_simp; rfl
set_option maxRecDepth 100000 in
theorem W2_num (c : Dev nD) : W2 m c (Proc.devRef .tc main_v8_3) = fun _ => (0#32 : BitVec 32) := by
  simp only [W2, afterL_cons, afterL_nil]; after_reads_simp; rfl

/-- The trips are counted from zero. -/
theorem inF_num (c : Dev nD) : ∀ k, inF m k c (Proc.devRef .tc main_v3_2) = fun _ => Scf.iv 0#32 1#32 k
  | 0 => by rw [show inF m 0 c = W0 m c from rfl, W0_num, Scf.iv_zero]
  | k + 1 => by rw [inF_succ, goF_num, inF_num c k, Scf.iv_succ]; rfl
theorem inB_num (c : Dev nD) : ∀ k, inB m k c (Proc.devRef .tc main_v8_3) = fun _ => Scf.iv 0#32 1#32 k
  | 0 => by rw [show inB m 0 c = W2 m c from rfl, W2_num, Scf.iv_zero]
  | k + 1 => by rw [inB_succ, goB_num, inB_num c k, Scf.iv_succ]; rfl

/-! ## The run -/

local notation "𝕄" => MT nD τ sig Unit (Elt F) ℕ (Option PUnit) ℕ

abbrev adm (F : FTy → Type) [FloatOps F] : (p : Fin 0) → ((pcfgs (F := F)) p).Adm := fun p => p.elim0
abbrev tickets (F : FTy → Type) [FloatOps F] : Fin 0 → Ticket (Ix := Unit) (Name := ℕ) (U := Option PUnit) (Lvl := ℕ) (nD := nD) (τ := τ) (pcfgs (F := F)) (adm F) :=
  fun j => j.elim0
abbrev cells : GSem nD τ sig → Finset Unit := fun _ => ∅
abbrev level : GSem nD τ sig → Unit → ℕ := fun _ _ => 0

/-- What rides along beside the arrays: the device owes nothing. -/
abbrev ride (c : Dev nD) : sProp 𝕄 := iprop(∃ W, owes (c : Thread nD τ) (0 : CellTallies nD τ sig Unit) W)

set_option backward.isDefEq.respectTransparency.types false in
/-- The first loop's test holds while fewer than 8192 trips are done. -/
theorem condF : LoopCond (pcfgs (F := F)) defs₀ Variants.none loops ride (main_while0_cond (F := F)) testF tripF (W0 m) 8192 := by
  intro k hk c bd
  have hn := inF_num m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (inF m k c) main_v3_2 HostLoop.idx0)
        (HloOp.result _ (inF m k c) main_while0c_c_12 HostLoop.idx0) = 1#1) (k < 8192)
    rw [nullary_result_ne _ _ _ _ (by decide), nullary_result, hn]
    exact Scf.cmpi_slt_iv_ub_iff (lb := 0#32) (ub := 8192#32) (st := 1#32) (by decide) (show k ≤ Scf.trips 0#32 8192#32 1#32 from hk)
  isplitl [Hb]; · iexact Hb
  isplitl [Hh]
  · rw [after_cons, after_cons, after_nil]; iexact Hh
  iexact HR

set_option backward.isDefEq.respectTransparency.types false in
/-- The second loop's test holds while fewer than 8192 trips are done. -/
theorem condB : LoopCond (pcfgs (F := F)) defs₀ Variants.none loops ride (main_while1_cond (F := F)) testB tripB (W2 m) 8192 := by
  intro k hk c bd
  have hn := inB_num m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (inB m k c) main_v8_3 HostLoop.idx0)
        (HloOp.result _ (inB m k c) main_while1c_c_13 HostLoop.idx0) = 1#1) (k < 8192)
    rw [nullary_result_ne _ _ _ _ (by decide), nullary_result, hn]
    exact Scf.cmpi_slt_iv_ub_iff (lb := 0#32) (ub := 8192#32) (st := 1#32) (by decide) (show k ≤ Scf.trips 0#32 8192#32 1#32 from hk)
  isplitl [Hb]; · iexact Hb
  isplitl [Hh]
  · rw [after_cons, after_cons, after_nil]; iexact Hh
  iexact HR

/-- The program in four parts: the start, the first loop, what is between, the second loop. -/
def parts : List (CSeg (pcfgs (F := F)) (adm F) defs₀ Variants.none cells level loops (tickets F)) :=
  segsOf _ _ _ _ _ _ _ _ ride [startOps] start_plain (launchContents m)
    ++ loopSeg _ _ _ _ _ _ _ _ 0 main_while0_cond main_while0_body rfl testF tripF tripF_plain (by rw [bodyF_parts]; rfl) 8192 (W0 m) ride (condF m)
      :: (segsOf _ _ _ _ _ _ _ _ ride [midOps] mid_plain (W1 m)
        ++ [loopSeg _ _ _ _ _ _ _ _ 1 main_while1_cond main_while1_body rfl testB tripB tripB_plain (by rw [bodyB_parts]; rfl) 8192 (W2 m) ride (condB m)])

theorem parts_prog : (parts m).map CSeg.prog = ([seq startOps, HostLoop.enter 0, seq midOps, HostLoop.enter 1] : List (RProg F PUnit)) := by
  unfold parts
  rw [List.map_append, List.map_cons, List.map_append, segsOf_prog, segsOf_prog]
  rfl

theorem parts_linked : CSeg.Chains (fun c => iprop(held (c : Thread nD τ) (ucRefs τ sig) (launchContents m c) ∗ ride c)) (parts m)
    (fun c => iprop(held (c : Thread nD τ) (ucRefs τ sig) (W3 m c) ∗ ∃ W, owes (c : Thread nD τ) (0 : CellTallies nD τ sig Unit) W)) := by
  unfold parts
  exact CSeg.Chains.append (segsOf_chains _ _ _ _ _ _ _ _ ride [startOps] start_plain _)
    ⟨fun _ => .rfl, CSeg.Chains.append (segsOf_chains _ _ _ _ _ _ _ _ ride [midOps] mid_plain _) ⟨fun _ => .rfl, fun _ => .rfl⟩⟩

/-- Every execution ends, with every array at the end of the second loop and no counter raised. -/
theorem run_all : θ_run defs (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = W3 m c (Proc.devRef .tc b)) ∧ r.2.sem = fun _ => 0) :=
  Pipeline.θ_run_regions_loop_kit (Ix := Unit) (Name := ℕ) (U := Option PUnit) (Lvl := ℕ) (J := Fin 0) (P := Fin 0) (Val := Elt F)
    (pcfgs (F := F)) (adm F) (fun k => k.1.elim0) defs₀ Variants.none cells level loops (tickets F) m ρ main (parts m)
    (fun c Q => by
      rw [main_parts c]
      show wp _ _ _ (Pipeline.chain ((parts m).map CSeg.prog)) Q ⊢ _
      rw [parts_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ ride c))
    (Tₙ := fun c => iprop(held (c : Thread nD τ) (ucRefs τ sig) (W3 m c)))
    (hch := parts_linked m)
    (hinit := by
      refine Pipeline.initEach cells level fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W3 m c b)
    (hfin := fun c s' => by
      unfold held
      iintro ⟨Hh, HSI⟩
      ihave Hr := (pointsTo_read_all (ucRefs τ sig) (fun b => ((c : Dev nD), b)) (fun b => W3 m c b) s') $$ [Hh HSI]
      · isplitl [Hh] <;> iassumption
      icases Hr with ⟨%h, HSI⟩
      imodintro
      isplitr; · ipureintro; exact h
      iexact HSI)
    (hQ := fun _ h => ⟨fun c b hb => h c _ (devRef_mem_ucRefs b hb), sem_eq_zero_of_no_sems rfl _⟩)

/-! ## The arguments are never written -/

theorem inF_keep (c : Dev nD) (r : Ref sig .tc) (h : ∀ V : Valuation τ sig (Elt F), goF V (Proc.devRef .tc r) = V (Proc.devRef .tc r)) :
    ∀ k, inF m k c (Proc.devRef .tc r) = W0 m c (Proc.devRef .tc r)
  | 0 => rfl
  | k + 1 => by rw [inF_succ, h, inF_keep c r h k]
theorem inB_keep (c : Dev nD) (r : Ref sig .tc) (h : ∀ V : Valuation τ sig (Elt F), goB V (Proc.devRef .tc r) = V (Proc.devRef .tc r)) :
    ∀ k, inB m k c (Proc.devRef .tc r) = W2 m c (Proc.devRef .tc r)
  | 0 => rfl
  | k + 1 => by rw [inB_succ, h, inB_keep c r h k]

theorem W2_arg0 (c : Dev nD) : W2 m c (Proc.devRef .tc main_arg0) = m ((c.tc : Thread nD τ).loc main_arg0) := by
  rw [W2, afterL_cons, afterL_nil, midOps_keep _ _ (by decide), W1, testF_keep _ _ (by decide), inF_keep m c main_arg0 (fun V => goF_keep V _ (by decide)),
    W0, afterL_cons, afterL_nil, startOps_keep _ _ (by decide)]
theorem W2_arg1 (c : Dev nD) : W2 m c (Proc.devRef .tc main_arg1) = m ((c.tc : Thread nD τ).loc main_arg1) := by
  rw [W2, afterL_cons, afterL_nil, midOps_keep _ _ (by decide), W1, testF_keep _ _ (by decide), inF_keep m c main_arg1 (fun V => goF_keep V _ (by decide)),
    W0, afterL_cons, afterL_nil, startOps_keep _ _ (by decide)]
theorem W2_arg2 (c : Dev nD) : W2 m c (Proc.devRef .tc main_arg2) = m ((c.tc : Thread nD τ).loc main_arg2) := by
  rw [W2, afterL_cons, afterL_nil, midOps_keep _ _ (by decide), W1, testF_keep _ _ (by decide), inF_keep m c main_arg2 (fun V => goF_keep V _ (by decide)),
    W0, afterL_cons, afterL_nil, startOps_keep _ _ (by decide)]

theorem W3_keep (c : Dev nD) (r : Ref sig .tc) (h : ∀ V : Valuation τ sig (Elt F), goB V (Proc.devRef .tc r) = V (Proc.devRef .tc r))
    (h' : r ∉ ([main_while1c_c_13, main_while1c_v9] : List (Ref sig .tc))) : W3 m c (Proc.devRef .tc r) = W2 m c (Proc.devRef .tc r) := by
  rw [W3, testB_keep _ _ h', inB_keep m c r h]

/-- The same, read at the arguments and at the three results. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v3_4) = inF m 8192 c (Proc.devRef .tc main_v3_4)
      ∧ r.2.mem ((c.tc : Thread nD τ).loc main_v8_5) = inB m 8192 c (Proc.devRef .tc main_v8_5)
      ∧ r.2.mem ((c.tc : Thread nD τ).loc main_v8_6) = inB m 8192 c (Proc.devRef .tc main_v8_6))
      ∧ r.2.sem = fun _ => 0) :=
  (θ_run defs _ _).mono (fun r h => ⟨fun c => ⟨⟨
      (h.1 c main_arg0 rfl).trans ((W3_keep m c _ (fun V => goB_keep V _ (by decide)) (by decide)).trans (W2_arg0 m c)),
      (h.1 c main_arg1 rfl).trans ((W3_keep m c _ (fun V => goB_keep V _ (by decide)) (by decide)).trans (W2_arg1 m c)),
      (h.1 c main_arg2 rfl).trans ((W3_keep m c _ (fun V => goB_keep V _ (by decide)) (by decide)).trans (W2_arg2 m c))⟩,
      (h.1 c main_v3_4 rfl).trans ((W3_keep m c _ (fun V => goB_keep V _ (by decide)) (by decide)).trans
        (by rw [W2, afterL_cons, afterL_nil, midOps_keep _ _ (by decide), W1, testF_keep _ _ (by decide)])),
      (h.1 c main_v8_5 rfl).trans (testB_keep _ _ (by decide)), (h.1 c main_v8_6 rfl).trans (testB_keep _ _ (by decide))⟩, h.2⟩)
    (run_all m ρ)

end Cert.ReferenceIdeal.Scan

end
-- ==== Proof.RefValues.lean ====
/- The values of the plain recurrence and of its gradient, on real arguments. -/
module

public import proofs.«01_k».proof.Proof.RefRun
public import proofs.«01_k».proof.Proof.Values
public import Idealize.ShloMosaic.Lib.DynamicIndex
public import Idealize.ShloMosaic.Lib.Pipeline.Value
public import Idealize.ShloMosaic.Lib.Pointwise

@[expose] public section

noncomputable section

namespace Cert.ReferenceIdeal.Scan

open Cert.ReferenceIdeal Cert.ReferenceIdeal.Gen
open Idealize.ShloMosaic Idealize.ShloMosaic.TcCoe Idealize.ShloMosaic.Tactic
open Idealize.SL.Sem
open Idealize.ShloMosaic.StableHlo
open Cert.KernelIdeal.Scan (full state cot cot_last cot_step st ct)

/-! ## One row of a real array -/

/-- A row of reals. -/
def lane (g : ℕ → ℝ) : FVec Ideal S512 .f32 := fun i => ((g (i 0).val : ℝ) : EReal)

/-- The number `k`. -/
def num (k : ℕ) : IVec S_ 32 := fun _ => BitVec.ofNat 32 k

theorem starts (k : ℕ) (hk : k < 8192) (x : Fin 2) :
    ((![num k, constantI S_ 32 0#32] : Fin 2 → IVec S_ 32) x (Shape.Idx.first h_S_)).toInt = ((![k, 0] : Fin 2 → ℕ) x : Int) := by
  fin_cases x
  · exact toInt_ofNat_of_lt (by omega)
  · rfl

theorem row_full (f : ℕ → ℕ → ℝ) (k : ℕ) (hk : k < 8192) : row (full f) (num k) = lane fun q => f q k := by
  have hs : S8192x512.Slices (![k, 0] : Fin 2 → ℕ) S1x512 := ⟨rfl, fun x => by fin_cases x <;> simp <;> omega⟩
  unfold row
  rw [Host.dynamicSlice_eq_extractStridedSlice S1x512 _ _ (![k, 0] : Fin 2 → ℕ) _ hs (starts k hk)]
  funext y
  idx_vars y
  pointwise []
  simp [full, lane]

theorem put_full (f : ℕ → ℕ → ℝ) (g : ℕ → ℝ) (k : ℕ) (hk : k < 8192) :
    put (full f) (lane g) (num k) = full fun q r => if r = k then g q else f q r := by
  have hs : S8192x512.Slices (![k, 0] : Fin 2 → ℕ) S1x512 := ⟨rfl, fun x => by fin_cases x <;> simp <;> omega⟩
  unfold put
  rw [Host.dynamicUpdateSlice_eq_updateSlice _ _ _ _ (![k, 0] : Fin 2 → ℕ) (fun x => by have := hs.2 x; rw [starts k hk x]; omega) hs]
  funext y
  idx_vars y
  pointwise []
  by_cases h : y0.val = k
  · simp [full, lane, h]
  · rw [dif_neg (by omega)]
    simp [full, h]

theorem full_congr {f g : ℕ → ℕ → ℝ} (h : ∀ q r, r < 8192 → f q r = g q r) : full f = full g :=
  funext fun y => congrArg (fun x : ℝ => (x : EReal)) (h _ _ (y 0).isLt)

theorem lane_mul (f g : ℕ → ℝ) : mulf (lane f) (lane g) = lane fun q => f q * g q :=
  funext fun _ => (EReal.coe_mul _ _).symm
theorem lane_add (f g : ℕ → ℝ) : addf (lane f) (lane g) = lane fun q => f q + g q :=
  funext fun _ => (EReal.coe_add _ _).symm

theorem back_num (k : ℕ) (hk : k < 8192) : back (num k) = num (8191 - k) := by
  funext i
  show 8192#32 - BitVec.ofNat 32 k - 1#32 = BitVec.ofNat 32 (8191 - k)
  apply BitVec.eq_of_toNat_eq
  simp only [BitVec.toNat_sub, BitVec.toNat_ofNat]
  omega

theorem iv_num (k : ℕ) : (fun _ => Scf.iv 0#32 1#32 k : IVec S_ 32) = num k := by
  funext i
  show 0#32 + BitVec.ofNat 32 k * 1#32 = BitVec.ofNat 32 k
  simp

/-! ## The first loop -/

variable (m : (ℓ : Loc nD τ sig) → Buf (Elt Ideal) ℓ) (c : Dev nD) (a u d : ℕ → ℕ → ℝ)

/-- The first `k` rows. -/
abbrev first (k : ℕ) (f : ℕ → ℕ → ℝ) : ℕ → ℕ → ℝ := fun q r => if r < k then f q r else 0
/-- The last `k` rows. -/
abbrev last (k : ℕ) (f : ℕ → ℕ → ℝ) : ℕ → ℕ → ℝ := fun q r => if 8192 - k ≤ r then f q r else 0

/-- The state after `k` trips. -/
structure AtF (V : Valuation τ sig (Elt Ideal)) (k : ℕ) : Prop where
  a_eq : V (Proc.devRef .tc main_v3_0) = full a
  u_eq : V (Proc.devRef .tc main_v3_1) = full u
  n_eq : V (Proc.devRef .tc main_v3_2) = num k
  h_eq : V (Proc.devRef .tc main_v3_3) = lane fun q => st a u q k
  o_eq : V (Proc.devRef .tc main_v3_4) = full (first k fun q r => st a u q (r + 1))
  p_eq : V (Proc.devRef .tc main_v3_5) = full (first k (st a u))

variable {m c a u d}

theorem first_succ (k : ℕ) (f : ℕ → ℕ → ℝ) : (fun q r => if r = k then f q k else first k f q r) = first (k + 1) f := by
  funext q r
  by_cases h : r = k
  · subst h; simp [first]
  · simp only [first, if_neg h, show (r < k + 1) = (r < k) from by apply propext; omega]

theorem AtF.next {V : Valuation τ sig (Elt Ideal)} {k : ℕ} (hk : k < 8192) (h : AtF a u V k) : AtF a u (goF V) (k + 1) where
  a_eq := (goF_keep V _ (by decide)).trans h.a_eq
  u_eq := (goF_keep V _ (by decide)).trans h.u_eq
  n_eq := by
    rw [goF_num, h.n_eq]
    funext i
    show BitVec.ofNat 32 k + 1#32 = BitVec.ofNat 32 (k + 1)
    rw [BitVec.ofNat_add]
  h_eq := by
    rw [goF_state, h.a_eq, h.u_eq, h.n_eq, h.h_eq, row_full a k hk, row_full u k hk, lane_mul, lane_add]; rfl
  o_eq := by
    rw [goF_out, h.a_eq, h.u_eq, h.n_eq, h.h_eq, h.o_eq, row_full a k hk, row_full u k hk, lane_mul, lane_add, put_full _ _ k hk]
    exact congrArg full (first_succ k fun q r => st a u q (r + 1))
  p_eq := by
    rw [goF_prev, h.n_eq, h.h_eq, h.p_eq, put_full _ _ k hk]
    exact congrArg full (first_succ k (st a u))

set_option maxRecDepth 100000 in
theorem W0_at (ha : m ((c.tc : Thread nD τ).loc main_arg0) = full a) (hu : m ((c.tc : Thread nD τ).loc main_arg1) = full u) : AtF a u (W0 m c) 0 where
  a_eq := by rw [← ha]; simp only [W0, afterL_cons, afterL_nil]; after_reads_simp; rfl
  u_eq := by rw [← hu]; simp only [W0, afterL_cons, afterL_nil]; after_reads_simp; rfl
  n_eq := W0_num m c
  h_eq := by
    simp only [W0, afterL_cons, afterL_nil]; after_reads_simp
    funext i; exact Ideal.ofBits_zero_f32.trans EReal.coe_zero.symm
  o_eq := by
    simp only [W0, afterL_cons, afterL_nil]; after_reads_simp
    funext i; exact Ideal.ofBits_zero_f32.trans EReal.coe_zero.symm
  p_eq := by
    simp only [W0, afterL_cons, afterL_nil]; after_reads_simp
    funext i; exact Ideal.ofBits_zero_f32.trans EReal.coe_zero.symm

theorem inF_at (ha : m ((c.tc : Thread nD τ).loc main_arg0) = full a) (hu : m ((c.tc : Thread nD τ).loc main_arg1) = full u) :
    ∀ k, k ≤ 8192 → AtF a u (inF m k c) k
  | 0, _ => W0_at ha hu
  | k + 1, hk => (inF_at ha hu k (by omega)).next (by omega)

/-! ## The second loop -/

/-- The cotangents after `k` trips. -/
structure AtB (a u d : ℕ → ℕ → ℝ) (V : Valuation τ sig (Elt Ideal)) (k : ℕ) : Prop where
  d_eq : V (Proc.devRef .tc main_v8_0) = full d
  p_eq : V (Proc.devRef .tc main_v8_1) = full (st a u)
  a_eq : V (Proc.devRef .tc main_v8_2) = full a
  n_eq : V (Proc.devRef .tc main_v8_3) = num k
  q_eq : V (Proc.devRef .tc main_v8_4) = lane fun q => a q (8192 - k) * ct a d q (8192 - k)
  da_eq : V (Proc.devRef .tc main_v8_5) = full (last k fun q r => ct a d q r * st a u q r)
  du_eq : V (Proc.devRef .tc main_v8_6) = full (last k (ct a d))

theorem last_succ (k : ℕ) (hk : k < 8192) (f : ℕ → ℕ → ℝ) :
    (fun q r => if r = 8191 - k then f q (8191 - k) else last k f q r) = last (k + 1) f := by
  funext q r
  by_cases h : r = 8191 - k
  · subst h; rw [if_pos rfl]; simp only [last, if_pos (show 8192 - (k + 1) ≤ 8191 - k by omega)]
  · simp only [last, if_neg h, show (8192 - (k + 1) ≤ r) = (8192 - k ≤ r) from by apply propext; omega]

theorem ct_step (k : ℕ) (hk : k < 8192) (q : ℕ) : a q (8192 - k) * ct a d q (8192 - k) + d q (8191 - k) = ct a d q (8191 - k) := by
  show _ = cot (a q) (d q) (8191 - k)
  rw [cot_step _ _ _ (by omega), show 8191 - k + 1 = 8192 - k by omega, add_comm]

theorem AtB.next {V : Valuation τ sig (Elt Ideal)} {k : ℕ} (hk : k < 8192) (h : AtB a u d V k) : AtB a u d (goB V) (k + 1) where
  d_eq := (goB_keep V _ (by decide)).trans h.d_eq
  p_eq := (goB_keep V _ (by decide)).trans h.p_eq
  a_eq := (goB_keep V _ (by decide)).trans h.a_eq
  n_eq := by
    rw [goB_num, h.n_eq]
    funext i
    show BitVec.ofNat 32 k + 1#32 = BitVec.ofNat 32 (k + 1)
    rw [BitVec.ofNat_add]
  q_eq := by
    rw [goB_next, h.a_eq, h.d_eq, h.n_eq, h.q_eq, back_num k hk, row_full a _ (by omega), row_full d _ (by omega), lane_add, lane_mul]
    simp only [ct_step k hk]
    rw [show 8192 - (k + 1) = 8191 - k by omega]
  da_eq := by
    rw [goB_da, h.d_eq, h.n_eq, h.q_eq, h.p_eq, h.da_eq, back_num k hk, row_full d _ (by omega), row_full _ _ (by omega), lane_add, lane_mul, put_full _ _ _ (by omega)]
    simp only [ct_step k hk]
    exact congrArg full (last_succ k hk fun q r => ct a d q r * st a u q r)
  du_eq := by
    rw [goB_du, h.d_eq, h.n_eq, h.q_eq, h.du_eq, back_num k hk, row_full d _ (by omega), lane_add, put_full _ _ _ (by omega)]
    simp only [ct_step k hk]
    exact congrArg full (last_succ k hk (ct a d))

set_option maxRecDepth 100000 in
/-- What the second loop starts from. -/
theorem mid_reads (V : Valuation τ sig (Elt Ideal)) :
    after midOps V (Proc.devRef .tc main_v8_0) = V (Proc.devRef .tc main_arg2)
    ∧ after midOps V (Proc.devRef .tc main_v8_1) = V (Proc.devRef .tc main_v3_5)
    ∧ after midOps V (Proc.devRef .tc main_v8_2) = V (Proc.devRef .tc main_arg0)
    ∧ after midOps V (Proc.devRef .tc main_v8_4) = lane (fun _ => 0)
    ∧ after midOps V (Proc.devRef .tc main_v8_5) = full (fun _ _ => 0)
    ∧ after midOps V (Proc.devRef .tc main_v8_6) = full (fun _ _ => 0) := by
  refine ⟨?_, ?_, ?_, ?_, ?_, ?_⟩ <;> after_reads_simp
  · rfl
  · rfl
  · rfl
  all_goals funext i; exact Ideal.ofBits_zero_f32.trans EReal.coe_zero.symm

section
variable (ha : m ((c.tc : Thread nD τ).loc main_arg0) = full a) (hu : m ((c.tc : Thread nD τ).loc main_arg1) = full u)
  (hd : m ((c.tc : Thread nD τ).loc main_arg2) = full d)
include ha hu

theorem end_states : inF m 8192 c (Proc.devRef .tc main_v3_4) = full fun q r => st a u q (r + 1) :=
  (inF_at ha hu 8192 le_rfl).o_eq.trans (full_congr fun q r h => if_pos h)

theorem end_prev : inF m 8192 c (Proc.devRef .tc main_v3_5) = full (st a u) :=
  (inF_at ha hu 8192 le_rfl).p_eq.trans (full_congr fun q r h => if_pos h)

include hd

theorem W2_at : AtB a u d (W2 m c) 0 :=
  have hr := mid_reads (W1 m c)
  { d_eq := (hr.1.trans (by rw [W1, testF_keep _ _ (by decide), inF_keep m c main_arg2 (fun V => goF_keep V _ (by decide)), W0, afterL_cons, afterL_nil,
      startOps_keep _ _ (by decide)])).trans hd
    p_eq := (hr.2.1.trans (testF_keep _ _ (by decide))).trans (end_prev ha hu)
    a_eq := (hr.2.2.1.trans (by rw [W1, testF_keep _ _ (by decide), inF_keep m c main_arg0 (fun V => goF_keep V _ (by decide)), W0, afterL_cons, afterL_nil,
      startOps_keep _ _ (by decide)])).trans ha
    n_eq := W2_num m c
    q_eq := hr.2.2.2.1.trans (by
      show lane _ = lane fun q => a q 8192 * cot (a q) (d q) 8192
      simp only [cot_last, mul_zero])
    da_eq := hr.2.2.2.2.1.trans (full_congr fun q r h => (if_neg (by omega)).symm)
    du_eq := hr.2.2.2.2.2.trans (full_congr fun q r h => (if_neg (by omega)).symm) }

theorem inB_at : ∀ k, k ≤ 8192 → AtB a u d (inB m k c) k
  | 0, _ => W2_at ha hu hd
  | k + 1, hk => (inB_at k (by omega)).next (by omega)

theorem end_grad_a : inB m 8192 c (Proc.devRef .tc main_v8_5) = full fun q r => ct a d q r * st a u q r :=
  (inB_at ha hu hd 8192 le_rfl).da_eq.trans (full_congr fun q r h => if_pos (by omega))
theorem end_grad_u : inB m 8192 c (Proc.devRef .tc main_v8_6) = full (ct a d) :=
  (inB_at ha hu hd 8192 le_rfl).du_eq.trans (full_congr fun q r h => if_pos (by omega))
end

end Cert.ReferenceIdeal.Scan

end
-- ==== Proof.Products.lean ====
/- What the products share: a load of a whole block, an index as a pair, and a sum cut in four. -/
module

public import Idealize.ShloMosaic.Lib.Pointwise
public import Idealize.ShloMosaic.Lib.Tactic
public import Idealize.ShloMosaic.Lib.Quiescent
public import Mathlib.Algebra.BigOperators.Fin

@[expose] public section

noncomputable section

namespace Cert.Products

open Idealize.ShloMosaic

theorem zeros : (![0, 0] : Fin 2 → Nat) = fun _ => 0 := funext fun a => by fin_cases a <;> rfl

/-- An index of a two-axis array is the pair of its coordinates. -/
theorem pair {a b : ℕ} (i : (⟨2, ![a, b]⟩ : Shape).Idx) : i = ix2 (i 0) (i 1) :=
  funext fun x => match x with | ⟨0, _⟩ => rfl | ⟨1, _⟩ => rfl

/-- Four sums of 2048 terms are one of 8192. -/
theorem sum_quarters (f : ℕ → EReal) :
    ∑ s ∈ Finset.range 4, ∑ k : Fin 2048, f (s * 2048 + k.val) = ∑ k : Fin 8192, f k.val := by
  have h (n : ℕ) : ∑ k ∈ Finset.range (n + 2048), f k = ∑ k ∈ Finset.range n, f k + ∑ k : Fin 2048, f (n + k.val) := by
    rw [Finset.sum_range_add, ← Fin.sum_univ_eq_sum_range (fun k => f (n + k))]
  rw [Fin.sum_univ_eq_sum_range f, show 8192 = 0 + 2048 + 2048 + 2048 + 2048 from rfl, h, h, h, h]
  simp only [Finset.sum_range_succ, Finset.sum_range_zero, zero_add, zero_mul, one_mul]

end Cert.Products

end
-- ==== Proof.FfnUpValue.lean ====
/- The gate and up product of the feed-forward: the blocks that the call writes are the blocks of the whole product. -/
module

public import proofs.«01_k».proof.Defs
public import proofs.«01_k».proof.Proof.Products
public import proofs.«01_k».proof.Proof.Gen.FfnUp.Frame
public import proofs.«01_k».proof.Proof.Gen.FfnUpIdeal.Value
public import proofs.«01_k».proof.Proof.Gen.FfnUpReferenceIdeal.Run
public import Idealize.ShloMosaic.Lib.Pipeline.ValueKit

@[expose] public section

noncomputable section

namespace Cert.FfnUpIdeal.Product

open Cert.FfnUpIdeal Cert.FfnUpIdeal.Gen Idealize.ShloMosaic Idealize.ShloMosaic.TcCoe Idealize.SL.Sem
open Cert.Products (zeros)
open Idealize.ShloMosaic.Pipeline (Dat)

variable (m : (ℓ : Loc nD τ sig) → Buf (Elt Ideal) ℓ) (ρ : Dev nD → PrngReg)

/-- The product of the whole arrays. -/
def whole (x : S8192x1024.Idx → EReal) (w : S1024x5632.Idx → EReal) : S8192x5632.Idx → EReal :=
  fun i => ∑ k : Fin 1024, x (ix2 (i 0) k) * w (ix2 k (i 1))

/-- A grid point leaves the product of its blocks. -/
theorem block_product (x : Vec Ideal S1024x1024 .f32) (w : Vec Ideal S1024x1408 .bf16) (j : S1024x1408.Idx) :
    k0_pay1 (F := Ideal) x w j = ∑ k : Fin 1024, x (ix2 (j 0) k) * w (ix2 k (j 1)) := by
  pointwise [k0_pay1]

theorem out_eq (c : Dev nD) (t : Fin cfg0.N) : outsAt0 m c t = k0_pay1 (F := Ideal) (iblk m c 0 t) (iblk m c 1 t) := by
  unfold outsAt0 out0_A_2
  rw [View.read_writes_eq_canon _ _ _ (cover0_A_2 _ _ _ _ _ _ _ _ _ _ _ _)]
  unfold kernelRun0_A
  dsimp only
  rw [View.canon_unit_zero zeros]
  simp only [View.readAt_eq_ld, Memref.IsWhole.read_unread, View.ld_unit_zero (S := S1024x1024) zeros, View.ld_unit_zero (S := S1024x1408) zeros]

/-- Which blocks a grid point reads and writes. -/
theorem places : ∀ t : Fin cfg0.N, win0_0.index t 0 = win0_2.index t 0 ∧ win0_0.index t 1 = 0 ∧ win0_1.index t 0 = 0
    ∧ win0_1.index t 1 = win0_2.index t 1 :=
  (by decide +kernel : ∀ t : Fin grid0.N, _)

theorem read_x (c : Dev nD) (t : Fin cfg0.N) (r : Fin 1024) (l : Fin 1024) (i : S8192x1024.Idx)
    (h0 : (i 0).val = win0_0.index t 0 * 1024 + r.val) (h1 : (i 1).val = win0_0.index t 1 * 1024 + l.val) :
    (iblk m c 0 t : Vec Ideal S1024x1024 .f32) (ix2 r l) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = (i 0).val; omega
  | ⟨1, _⟩ => show win0_0.index t 1 * 1024 + 1 * l.val = (i 1).val; omega

theorem read_w (c : Dev nD) (t : Fin cfg0.N) (r : Fin 1024) (l : Fin 1408) (i : S1024x5632.Idx)
    (h0 : (i 0).val = win0_1.index t 0 * 1024 + r.val) (h1 : (i 1).val = win0_1.index t 1 * 1408 + l.val) :
    (iblk m c 1 t : Vec Ideal S1024x1408 .bf16) (ix2 r l) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 1024 + 1 * r.val = (i 0).val; omega
  | ⟨1, _⟩ => show win0_1.index t 1 * 1408 + 1 * l.val = (i 1).val; omega

theorem flushed_eq (c : Dev nD) (t : Fin cfg0.N) : (dats m 0 c).flushed 2 t = ((cfg0.win 2).blk t).view.read (Elt Ideal)
    (whole (m ((c : Thread nD τ).loc main_arg0)) (m ((c : Thread nD τ).loc main_arg1))) := by
  rw [Value.flushed2, out_eq]
  funext y
  obtain ⟨e0, e1, e2, e3⟩ := places t
  have b0 : (((cfg0.win 2).blk t).view.emb y 0).val = win0_2.index t 0 * 1024 + 1 * (y 0).val := rfl
  have b1 : (((cfg0.win 2).blk t).view.emb y 1).val = win0_2.index t 1 * 1408 + 1 * (y 1).val := rfl
  show k0_pay1 (F := Ideal) (iblk m c 0 t) (iblk m c 1 t) ((cfg0.win 2).xinj (grid0.coords t) y)
    = whole _ _ (((cfg0.win 2).blk t).view.emb y)
  rw [block_product]
  unfold whole
  refine Finset.sum_congr rfl fun k _ => ?_
  exact congrArg₂ (fun p q : EReal => p * q)
    (read_x m c t (y 0) k (ix2 (((cfg0.win 2).blk t).view.emb y 0) k) (by show (((cfg0.win 2).blk t).view.emb y 0).val = _; rw [b0, e0, Nat.one_mul]) (by show k.val = _; omega))
    (read_w m c t k (y 1) (ix2 k (((cfg0.win 2).blk t).view.emb y 1)) (by show k.val = _; omega) (by show (((cfg0.win 2).blk t).view.emb y 1).val = _; rw [b1, e3, Nat.one_mul]))

theorem final (c : Dev nD) : (dats m 0 c).arrAt 2 cfg0.N = whole (m ((c : Thread nD τ).loc main_arg0)) (m ((c : Thread nD τ).loc main_arg1)) :=
  (dats m 0 c).arrAt_eq_of_covers 2 _ (by decide +kernel) fun t _ y => congrFun (flushed_eq m c t) y

end Cert.FfnUpIdeal.Product

namespace Cert.FfnUpReferenceIdeal.Product

open Cert.FfnUpReferenceIdeal Cert.FfnUpReferenceIdeal.Gen Idealize.ShloMosaic Idealize.SL.Sem

/-- The reference's result is the same product. -/
theorem host_product (x : FVec Ideal S8192x1024 .f32) (w : FVec Ideal S1024x5632 .bf16) :
    Host.dotGeneral dot_S8192x1024_S1024x5632_S8192x5632_1_0_0_1_n_n none x (extf .f32 w bitsLt_bf16_f32)
      = Cert.FfnUpIdeal.Product.whole x w := by
  funext i
  pointwise [Cert.FfnUpIdeal.Product.whole]

end Cert.FfnUpReferenceIdeal.Product

namespace Cert.Proof.FfnUp

open Idealize.ShloMosaic Idealize.SL.Sem

theorem frame_kernel : Cert.quiescent_FfnUp := fun m ρ _ => Cert.FfnUp.Gen.frame m ρ

theorem frame_kernelIdeal : Cert.quiescent_FfnUpIdeal := fun m ρ _ => Cert.FfnUpIdeal.Gen.frame m ρ

theorem frame_reference : Cert.quiescent_FfnUpReferenceIdeal := fun m ρ _ =>
  (θ_run Cert.FfnUpReferenceIdeal.defs _ _).mono (fun r h => ⟨fun c => (h c).2, sem_eq_zero_of_no_sems (by decide) r.2⟩)
    (Cert.FfnUpReferenceIdeal.Value.run (F := Ideal) m ρ)

theorem values : Cert.algebraic_FfnUpIdeal_FfnUpReferenceIdeal := fun m g m' g' _ hargs =>
  ⟨fun c => Cert.FfnUpIdeal.Product.whole (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)),
    (θ_run Cert.FfnUpIdeal.defs _ _).mono (fun r h c => ⟨(h c).1.trans (Cert.FfnUpIdeal.Product.final m c), (h c).2⟩)
      (Cert.FfnUpIdeal.Value.run_blocks (F := Ideal) m g),
    (θ_run Cert.FfnUpReferenceIdeal.defs _ _).mono (fun r h c => ⟨(h c).1.trans (by
        obtain ⟨h0, h1⟩ := hargs c
        rw [h0, h1]
        exact Cert.FfnUpReferenceIdeal.Product.host_product _ _), (h c).2⟩)
      (Cert.FfnUpReferenceIdeal.Value.run (F := Ideal) m' g')⟩

end Cert.Proof.FfnUp

end
-- ==== Proof.FfnDownValue.lean ====
/- The down product of the feed-forward: the blocks that the call writes are the blocks of the whole product. -/
module

public import proofs.«01_k».proof.Defs
public import proofs.«01_k».proof.Proof.Products
public import proofs.«01_k».proof.Proof.Gen.FfnDown.Frame
public import proofs.«01_k».proof.Proof.Gen.FfnDownIdeal.Value
public import proofs.«01_k».proof.Proof.Gen.FfnDownReferenceIdeal.Run
public import Idealize.ShloMosaic.Lib.Pipeline.ValueKit

@[expose] public section

noncomputable section

namespace Cert.FfnDownIdeal.Product

open Cert.FfnDownIdeal Cert.FfnDownIdeal.Gen Idealize.ShloMosaic Idealize.ShloMosaic.TcCoe Idealize.SL.Sem
open Cert.Products (zeros)
open Idealize.ShloMosaic.Pipeline (Dat)

variable (m : (ℓ : Loc nD τ sig) → Buf (Elt Ideal) ℓ) (ρ : Dev nD → PrngReg)

/-- The product of the whole arrays. -/
def whole (x : S8192x2816.Idx → EReal) (w : S2816x1024.Idx → EReal) : S8192x1024.Idx → EReal :=
  fun i => ∑ k : Fin 2816, x (ix2 (i 0) k) * w (ix2 k (i 1))

/-- A grid point leaves the product of its blocks. -/
theorem block_product (x : Vec Ideal S1024x2816 .bf16) (w : Vec Ideal S2816x1024 .bf16) (j : S1024x1024.Idx) :
    k0_pay1 (F := Ideal) x w j = ∑ k : Fin 2816, x (ix2 (j 0) k) * w (ix2 k (j 1)) := by
  pointwise [k0_pay1]

theorem out_eq (c : Dev nD) (t : Fin cfg0.N) : outsAt0 m c t = k0_pay1 (F := Ideal) (iblk m c 0 t) (iblk m c 1 t) := by
  unfold outsAt0 out0_A_2
  rw [View.read_writes_eq_canon _ _ _ (cover0_A_2 _ _ _ _ _ _ _ _ _ _ _ _)]
  unfold kernelRun0_A
  dsimp only
  rw [View.canon_unit_zero zeros]
  simp only [View.readAt_eq_ld, Memref.IsWhole.read_unread, View.ld_unit_zero (S := S1024x2816) zeros, View.ld_unit_zero (S := S2816x1024) zeros]

/-- Which blocks a grid point reads and writes. -/
theorem places : ∀ t : Fin cfg0.N, win0_0.index t 0 = win0_2.index t 0 ∧ win0_0.index t 1 = 0 ∧ win0_1.index t 0 = 0
    ∧ win0_1.index t 1 = win0_2.index t 1 :=
  (by decide +kernel : ∀ t : Fin grid0.N, _)

theorem read_x (c : Dev nD) (t : Fin cfg0.N) (r : Fin 1024) (l : Fin 2816) (i : S8192x2816.Idx)
    (h0 : (i 0).val = win0_0.index t 0 * 1024 + r.val) (h1 : (i 1).val = win0_0.index t 1 * 2816 + l.val) :
    (iblk m c 0 t : Vec Ideal S1024x2816 .bf16) (ix2 r l) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = (i 0).val; omega
  | ⟨1, _⟩ => show win0_0.index t 1 * 2816 + 1 * l.val = (i 1).val; omega

theorem read_w (c : Dev nD) (t : Fin cfg0.N) (r : Fin 2816) (l : Fin 1024) (i : S2816x1024.Idx)
    (h0 : (i 0).val = win0_1.index t 0 * 2816 + r.val) (h1 : (i 1).val = win0_1.index t 1 * 1024 + l.val) :
    (iblk m c 1 t : Vec Ideal S2816x1024 .bf16) (ix2 r l) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 2816 + 1 * r.val = (i 0).val; omega
  | ⟨1, _⟩ => show win0_1.index t 1 * 1024 + 1 * l.val = (i 1).val; omega

theorem flushed_eq (c : Dev nD) (t : Fin cfg0.N) : (dats m 0 c).flushed 2 t = ((cfg0.win 2).blk t).view.read (Elt Ideal)
    (whole (m ((c : Thread nD τ).loc main_arg0)) (m ((c : Thread nD τ).loc main_arg1))) := by
  rw [Value.flushed2, out_eq]
  funext y
  obtain ⟨e0, e1, e2, e3⟩ := places t
  have b0 : (((cfg0.win 2).blk t).view.emb y 0).val = win0_2.index t 0 * 1024 + 1 * (y 0).val := rfl
  have b1 : (((cfg0.win 2).blk t).view.emb y 1).val = win0_2.index t 1 * 1024 + 1 * (y 1).val := rfl
  show k0_pay1 (F := Ideal) (iblk m c 0 t) (iblk m c 1 t) ((cfg0.win 2).xinj (grid0.coords t) y)
    = whole _ _ (((cfg0.win 2).blk t).view.emb y)
  rw [block_product]
  unfold whole
  refine Finset.sum_congr rfl fun k _ => ?_
  exact congrArg₂ (fun p q : EReal => p * q)
    (read_x m c t (y 0) k (ix2 (((cfg0.win 2).blk t).view.emb y 0) k) (by show (((cfg0.win 2).blk t).view.emb y 0).val = _; rw [b0, e0, Nat.one_mul]) (by show k.val = _; omega))
    (read_w m c t k (y 1) (ix2 k (((cfg0.win 2).blk t).view.emb y 1)) (by show k.val = _; omega) (by show (((cfg0.win 2).blk t).view.emb y 1).val = _; rw [b1, e3, Nat.one_mul]))

theorem final (c : Dev nD) : (dats m 0 c).arrAt 2 cfg0.N = whole (m ((c : Thread nD τ).loc main_arg0)) (m ((c : Thread nD τ).loc main_arg1)) :=
  (dats m 0 c).arrAt_eq_of_covers 2 _ (by decide +kernel) fun t _ y => congrFun (flushed_eq m c t) y

end Cert.FfnDownIdeal.Product

namespace Cert.FfnDownReferenceIdeal.Product

open Cert.FfnDownReferenceIdeal Cert.FfnDownReferenceIdeal.Gen Idealize.ShloMosaic Idealize.SL.Sem

/-- The reference's result is the same product. -/
theorem host_product (x : FVec Ideal S8192x2816 .bf16) (w : FVec Ideal S2816x1024 .bf16) :
    Host.dotGeneral dot_S8192x2816_S2816x1024_S8192x1024_1_0_0_1_n_n none (extf .f32 x bitsLt_bf16_f32) (extf .f32 w bitsLt_bf16_f32)
      = Cert.FfnDownIdeal.Product.whole x w := by
  funext i
  pointwise [Cert.FfnDownIdeal.Product.whole]

end Cert.FfnDownReferenceIdeal.Product

namespace Cert.Proof.FfnDown

open Idealize.ShloMosaic Idealize.SL.Sem

theorem frame_kernel : Cert.quiescent_FfnDown := fun m ρ _ => Cert.FfnDown.Gen.frame m ρ

theorem frame_kernelIdeal : Cert.quiescent_FfnDownIdeal := fun m ρ _ => Cert.FfnDownIdeal.Gen.frame m ρ

theorem frame_reference : Cert.quiescent_FfnDownReferenceIdeal := fun m ρ _ =>
  (θ_run Cert.FfnDownReferenceIdeal.defs _ _).mono (fun r h => ⟨fun c => (h c).2, sem_eq_zero_of_no_sems (by decide) r.2⟩)
    (Cert.FfnDownReferenceIdeal.Value.run (F := Ideal) m ρ)

theorem values : Cert.algebraic_FfnDownIdeal_FfnDownReferenceIdeal := fun m g m' g' _ hargs =>
  ⟨fun c => Cert.FfnDownIdeal.Product.whole (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)),
    (θ_run Cert.FfnDownIdeal.defs _ _).mono (fun r h c => ⟨(h c).1.trans (Cert.FfnDownIdeal.Product.final m c), (h c).2⟩)
      (Cert.FfnDownIdeal.Value.run_blocks (F := Ideal) m g),
    (θ_run Cert.FfnDownReferenceIdeal.defs _ _).mono (fun r h c => ⟨(h c).1.trans (by
        obtain ⟨h0, h1⟩ := hargs c
        rw [h0, h1]
        exact Cert.FfnDownReferenceIdeal.Product.host_product _ _), (h c).2⟩)
      (Cert.FfnDownReferenceIdeal.Value.run (F := Ideal) m' g')⟩

end Cert.Proof.FfnDown

end
-- ==== Proof.MixOutValue.lean ====
/- The mixer's output product: the blocks that the call writes are the blocks of the whole product. -/
module

public import proofs.«01_k».proof.Defs
public import proofs.«01_k».proof.Proof.Products
public import proofs.«01_k».proof.Proof.Gen.MixOut.Frame
public import proofs.«01_k».proof.Proof.Gen.MixOutIdeal.Value
public import proofs.«01_k».proof.Proof.Gen.MixOutReferenceIdeal.Run
public import Idealize.ShloMosaic.Lib.Pipeline.ValueKit

@[expose] public section

noncomputable section

namespace Cert.MixOutIdeal.Product

open Cert.MixOutIdeal Cert.MixOutIdeal.Gen Idealize.ShloMosaic Idealize.ShloMosaic.TcCoe Idealize.SL.Sem
open Cert.Products (zeros)
open Idealize.ShloMosaic.Pipeline (Dat)

variable (m : (ℓ : Loc nD τ sig) → Buf (Elt Ideal) ℓ) (ρ : Dev nD → PrngReg)

/-- The product of the whole arrays. -/
def whole (x : S8192x1024.Idx → EReal) (w : S1024x1024.Idx → EReal) : S8192x1024.Idx → EReal :=
  fun i => ∑ k : Fin 1024, x (ix2 (i 0) k) * w (ix2 k (i 1))

/-- A grid point leaves the product of its blocks. -/
theorem block_product (x : Vec Ideal S1024x1024 .bf16) (w : Vec Ideal S1024x1024 .bf16) (j : S1024x1024.Idx) :
    k0_pay1 (F := Ideal) x w j = ∑ k : Fin 1024, x (ix2 (j 0) k) * w (ix2 k (j 1)) := by
  pointwise [k0_pay1]

theorem out_eq (c : Dev nD) (t : Fin cfg0.N) : outsAt0 m c t = k0_pay1 (F := Ideal) (iblk m c 0 t) (iblk m c 1 t) := by
  unfold outsAt0 out0_A_2
  rw [View.read_writes_eq_canon _ _ _ (cover0_A_2 _ _ _ _ _ _ _ _ _ _ _ _)]
  unfold kernelRun0_A
  dsimp only
  rw [View.canon_unit_zero zeros]
  simp only [View.readAt_eq_ld, Memref.IsWhole.read_unread, View.ld_unit_zero (S := S1024x1024) zeros]

/-- Which blocks a grid point reads and writes. -/
theorem places : ∀ t : Fin cfg0.N, win0_0.index t 0 = win0_2.index t 0 ∧ win0_0.index t 1 = 0 ∧ win0_1.index t 0 = 0
    ∧ win0_1.index t 1 = win0_2.index t 1 :=
  (by decide +kernel : ∀ t : Fin grid0.N, _)

theorem read_x (c : Dev nD) (t : Fin cfg0.N) (r : Fin 1024) (l : Fin 1024) (i : S8192x1024.Idx)
    (h0 : (i 0).val = win0_0.index t 0 * 1024 + r.val) (h1 : (i 1).val = win0_0.index t 1 * 1024 + l.val) :
    (iblk m c 0 t : Vec Ideal S1024x1024 .bf16) (ix2 r l) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = (i 0).val; omega
  | ⟨1, _⟩ => show win0_0.index t 1 * 1024 + 1 * l.val = (i 1).val; omega

theorem read_w (c : Dev nD) (t : Fin cfg0.N) (r : Fin 1024) (l : Fin 1024) (i : S1024x1024.Idx)
    (h0 : (i 0).val = win0_1.index t 0 * 1024 + r.val) (h1 : (i 1).val = win0_1.index t 1 * 1024 + l.val) :
    (iblk m c 1 t : Vec Ideal S1024x1024 .bf16) (ix2 r l) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 1024 + 1 * r.val = (i 0).val; omega
  | ⟨1, _⟩ => show win0_1.index t 1 * 1024 + 1 * l.val = (i 1).val; omega

theorem flushed_eq (c : Dev nD) (t : Fin cfg0.N) : (dats m 0 c).flushed 2 t = ((cfg0.win 2).blk t).view.read (Elt Ideal)
    (whole (m ((c : Thread nD τ).loc main_arg0)) (m ((c : Thread nD τ).loc main_arg1))) := by
  rw [Value.flushed2, out_eq]
  funext y
  obtain ⟨e0, e1, e2, e3⟩ := places t
  have b0 : (((cfg0.win 2).blk t).view.emb y 0).val = win0_2.index t 0 * 1024 + 1 * (y 0).val := rfl
  have b1 : (((cfg0.win 2).blk t).view.emb y 1).val = win0_2.index t 1 * 1024 + 1 * (y 1).val := rfl
  show k0_pay1 (F := Ideal) (iblk m c 0 t) (iblk m c 1 t) ((cfg0.win 2).xinj (grid0.coords t) y)
    = whole _ _ (((cfg0.win 2).blk t).view.emb y)
  rw [block_product]
  unfold whole
  refine Finset.sum_congr rfl fun k _ => ?_
  exact congrArg₂ (fun p q : EReal => p * q)
    (read_x m c t (y 0) k (ix2 (((cfg0.win 2).blk t).view.emb y 0) k) (by show (((cfg0.win 2).blk t).view.emb y 0).val = _; rw [b0, e0, Nat.one_mul]) (by show k.val = _; omega))
    (read_w m c t k (y 1) (ix2 k (((cfg0.win 2).blk t).view.emb y 1)) (by show k.val = _; omega) (by show (((cfg0.win 2).blk t).view.emb y 1).val = _; rw [b1, e3, Nat.one_mul]))

theorem final (c : Dev nD) : (dats m 0 c).arrAt 2 cfg0.N = whole (m ((c : Thread nD τ).loc main_arg0)) (m ((c : Thread nD τ).loc main_arg1)) :=
  (dats m 0 c).arrAt_eq_of_covers 2 _ (by decide +kernel) fun t _ y => congrFun (flushed_eq m c t) y

end Cert.MixOutIdeal.Product

namespace Cert.MixOutReferenceIdeal.Product

open Cert.MixOutReferenceIdeal Cert.MixOutReferenceIdeal.Gen Idealize.ShloMosaic Idealize.SL.Sem

/-- The reference's result is the same product. -/
theorem host_product (x : FVec Ideal S8192x1024 .bf16) (w : FVec Ideal S1024x1024 .bf16) :
    Host.dotGeneral dot_S8192x1024_S1024x1024_S8192x1024_1_0_0_1_n_n none (extf .f32 x bitsLt_bf16_f32) (extf .f32 w bitsLt_bf16_f32)
      = Cert.MixOutIdeal.Product.whole x w := by
  funext i
  pointwise [Cert.MixOutIdeal.Product.whole]

end Cert.MixOutReferenceIdeal.Product

namespace Cert.Proof.MixOut

open Idealize.ShloMosaic Idealize.SL.Sem

theorem frame_kernel : Cert.quiescent_MixOut := fun m ρ _ => Cert.MixOut.Gen.frame m ρ

theorem frame_kernelIdeal : Cert.quiescent_MixOutIdeal := fun m ρ _ => Cert.MixOutIdeal.Gen.frame m ρ

theorem frame_reference : Cert.quiescent_MixOutReferenceIdeal := fun m ρ _ =>
  (θ_run Cert.MixOutReferenceIdeal.defs _ _).mono (fun r h => ⟨fun c => (h c).2, sem_eq_zero_of_no_sems (by decide) r.2⟩)
    (Cert.MixOutReferenceIdeal.Value.run (F := Ideal) m ρ)

theorem values : Cert.algebraic_MixOutIdeal_MixOutReferenceIdeal := fun m g m' g' _ hargs =>
  ⟨fun c => Cert.MixOutIdeal.Product.whole (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)),
    (θ_run Cert.MixOutIdeal.defs _ _).mono (fun r h c => ⟨(h c).1.trans (Cert.MixOutIdeal.Product.final m c), (h c).2⟩)
      (Cert.MixOutIdeal.Value.run_blocks (F := Ideal) m g),
    (θ_run Cert.MixOutReferenceIdeal.defs _ _).mono (fun r h c => ⟨(h c).1.trans (by
        obtain ⟨h0, h1⟩ := hargs c
        rw [h0, h1]
        exact Cert.MixOutReferenceIdeal.Product.host_product _ _), (h c).2⟩)
      (Cert.MixOutReferenceIdeal.Value.run (F := Ideal) m' g')⟩

end Cert.Proof.MixOut

end
-- ==== Proof.FfnDownDxValue.lean ====
/- The down product's gradient in its left operand: the blocks that the call writes are the blocks of the whole product. -/
module

public import proofs.«01_k».proof.Defs
public import proofs.«01_k».proof.Proof.Products
public import proofs.«01_k».proof.Proof.Gen.FfnDownDx.Frame
public import proofs.«01_k».proof.Proof.Gen.FfnDownDxIdeal.Value
public import proofs.«01_k».proof.Proof.Gen.FfnDownDxReferenceIdeal.Run
public import Idealize.ShloMosaic.Lib.Pipeline.ValueKit

@[expose] public section

noncomputable section

namespace Cert.FfnDownDxIdeal.Product

open Cert.FfnDownDxIdeal Cert.FfnDownDxIdeal.Gen Idealize.ShloMosaic Idealize.ShloMosaic.TcCoe Idealize.SL.Sem
open Cert.Products (zeros)
open Idealize.ShloMosaic.Pipeline (Dat)

variable (m : (ℓ : Loc nD τ sig) → Buf (Elt Ideal) ℓ) (ρ : Dev nD → PrngReg)

/-- The product of the whole arrays. -/
def whole (x : S8192x1024.Idx → EReal) (w : S2816x1024.Idx → EReal) : S8192x2816.Idx → EReal :=
  fun i => ∑ k : Fin 1024, x (ix2 (i 0) k) * w (ix2 (i 1) k)

/-- A grid point leaves the product of its blocks. -/
theorem block_product (x : Vec Ideal S1024x1024 .bf16) (w : Vec Ideal S1408x1024 .bf16) (j : S1024x1408.Idx) :
    k0_pay1 (F := Ideal) x w j = ∑ k : Fin 1024, x (ix2 (j 0) k) * w (ix2 (j 1) k) := by
  pointwise [k0_pay1]

theorem out_eq (c : Dev nD) (t : Fin cfg0.N) : outsAt0 m c t = k0_pay1 (F := Ideal) (iblk m c 0 t) (iblk m c 1 t) := by
  unfold outsAt0 out0_A_2
  rw [View.read_writes_eq_canon _ _ _ (cover0_A_2 _ _ _ _ _ _ _ _ _ _ _ _)]
  unfold kernelRun0_A
  dsimp only
  rw [View.canon_unit_zero zeros]
  simp only [View.readAt_eq_ld, Memref.IsWhole.read_unread, View.ld_unit_zero (S := S1024x1024) zeros, View.ld_unit_zero (S := S1408x1024) zeros]

/-- Which blocks a grid point reads and writes. -/
theorem places : ∀ t : Fin cfg0.N, win0_0.index t 0 = win0_2.index t 0 ∧ win0_0.index t 1 = 0 ∧ win0_1.index t 0 = win0_2.index t 1
    ∧ win0_1.index t 1 = 0 :=
  (by decide +kernel : ∀ t : Fin grid0.N, _)

theorem read_x (c : Dev nD) (t : Fin cfg0.N) (r : Fin 1024) (l : Fin 1024) (i : S8192x1024.Idx)
    (h0 : (i 0).val = win0_0.index t 0 * 1024 + r.val) (h1 : (i 1).val = win0_0.index t 1 * 1024 + l.val) :
    (iblk m c 0 t : Vec Ideal S1024x1024 .bf16) (ix2 r l) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = (i 0).val; omega
  | ⟨1, _⟩ => show win0_0.index t 1 * 1024 + 1 * l.val = (i 1).val; omega

theorem read_w (c : Dev nD) (t : Fin cfg0.N) (r : Fin 1408) (l : Fin 1024) (i : S2816x1024.Idx)
    (h0 : (i 0).val = win0_1.index t 0 * 1408 + r.val) (h1 : (i 1).val = win0_1.index t 1 * 1024 + l.val) :
    (iblk m c 1 t : Vec Ideal S1408x1024 .bf16) (ix2 r l) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 1408 + 1 * r.val = (i 0).val; omega
  | ⟨1, _⟩ => show win0_1.index t 1 * 1024 + 1 * l.val = (i 1).val; omega

theorem flushed_eq (c : Dev nD) (t : Fin cfg0.N) : (dats m 0 c).flushed 2 t = ((cfg0.win 2).blk t).view.read (Elt Ideal)
    (whole (m ((c : Thread nD τ).loc main_arg0)) (m ((c : Thread nD τ).loc main_arg1))) := by
  rw [Value.flushed2, out_eq]
  funext y
  obtain ⟨e0, e1, e2, e3⟩ := places t
  have b0 : (((cfg0.win 2).blk t).view.emb y 0).val = win0_2.index t 0 * 1024 + 1 * (y 0).val := rfl
  have b1 : (((cfg0.win 2).blk t).view.emb y 1).val = win0_2.index t 1 * 1408 + 1 * (y 1).val := rfl
  show k0_pay1 (F := Ideal) (iblk m c 0 t) (iblk m c 1 t) ((cfg0.win 2).xinj (grid0.coords t) y)
    = whole _ _ (((cfg0.win 2).blk t).view.emb y)
  rw [block_product]
  unfold whole
  refine Finset.sum_congr rfl fun k _ => ?_
  exact congrArg₂ (fun p q : EReal => p * q)
    (read_x m c t (y 0) k (ix2 (((cfg0.win 2).blk t).view.emb y 0) k) (by show (((cfg0.win 2).blk t).view.emb y 0).val = _; rw [b0, e0, Nat.one_mul]) (by show k.val = _; omega))
    (read_w m c t (y 1) k (ix2 (((cfg0.win 2).blk t).view.emb y 1) k) (by show (((cfg0.win 2).blk t).view.emb y 1).val = _; rw [b1, e2, Nat.one_mul]) (by show k.val = _; omega))

theorem final (c : Dev nD) : (dats m 0 c).arrAt 2 cfg0.N = whole (m ((c : Thread nD τ).loc main_arg0)) (m ((c : Thread nD τ).loc main_arg1)) :=
  (dats m 0 c).arrAt_eq_of_covers 2 _ (by decide +kernel) fun t _ y => congrFun (flushed_eq m c t) y

end Cert.FfnDownDxIdeal.Product

namespace Cert.FfnDownDxReferenceIdeal.Product

open Cert.FfnDownDxReferenceIdeal Cert.FfnDownDxReferenceIdeal.Gen Idealize.ShloMosaic Idealize.SL.Sem

/-- The reference's result is the same product. -/
theorem host_product (x : FVec Ideal S8192x1024 .bf16) (w : FVec Ideal S2816x1024 .bf16) :
    Host.dotGeneral dot_S8192x1024_S2816x1024_S8192x2816_1_1_0_0_n_n none (extf .f32 x bitsLt_bf16_f32) (extf .f32 w bitsLt_bf16_f32)
      = Cert.FfnDownDxIdeal.Product.whole x w := by
  funext i
  pointwise [Cert.FfnDownDxIdeal.Product.whole]

end Cert.FfnDownDxReferenceIdeal.Product

namespace Cert.Proof.FfnDownDx

open Idealize.ShloMosaic Idealize.SL.Sem

theorem frame_kernel : Cert.quiescent_FfnDownDx := fun m ρ _ => Cert.FfnDownDx.Gen.frame m ρ

theorem frame_kernelIdeal : Cert.quiescent_FfnDownDxIdeal := fun m ρ _ => Cert.FfnDownDxIdeal.Gen.frame m ρ

theorem frame_reference : Cert.quiescent_FfnDownDxReferenceIdeal := fun m ρ _ =>
  (θ_run Cert.FfnDownDxReferenceIdeal.defs _ _).mono (fun r h => ⟨fun c => (h c).2, sem_eq_zero_of_no_sems (by decide) r.2⟩)
    (Cert.FfnDownDxReferenceIdeal.Value.run (F := Ideal) m ρ)

theorem values : Cert.algebraic_FfnDownDxIdeal_FfnDownDxReferenceIdeal := fun m g m' g' _ hargs =>
  ⟨fun c => Cert.FfnDownDxIdeal.Product.whole (m ((c.tc : Thread Cert.FfnDownDxIdeal.nD Cert.FfnDownDxIdeal.τ).loc Cert.FfnDownDxIdeal.main_arg0)) (m ((c.tc : Thread Cert.FfnDownDxIdeal.nD Cert.FfnDownDxIdeal.τ).loc Cert.FfnDownDxIdeal.main_arg1)),
    (θ_run Cert.FfnDownDxIdeal.defs _ _).mono (fun r h c => ⟨(h c).1.trans (Cert.FfnDownDxIdeal.Product.final m c), (h c).2⟩)
      (Cert.FfnDownDxIdeal.Value.run_blocks (F := Ideal) m g),
    (θ_run Cert.FfnDownDxReferenceIdeal.defs _ _).mono (fun r h c => ⟨(h c).1.trans (by
        obtain ⟨h0, h1⟩ := hargs c
        rw [h0, h1]
        exact Cert.FfnDownDxReferenceIdeal.Product.host_product _ _), (h c).2⟩)
      (Cert.FfnDownDxReferenceIdeal.Value.run (F := Ideal) m' g')⟩

end Cert.Proof.FfnDownDx

end
-- ==== Proof.MixOutDxValue.lean ====
/- The output product's gradient in its left operand: the blocks that the call writes are the blocks of the whole product. -/
module

public import proofs.«01_k».proof.Defs
public import proofs.«01_k».proof.Proof.Products
public import proofs.«01_k».proof.Proof.Gen.MixOutDx.Frame
public import proofs.«01_k».proof.Proof.Gen.MixOutDxIdeal.Value
public import proofs.«01_k».proof.Proof.Gen.MixOutDxReferenceIdeal.Run
public import Idealize.ShloMosaic.Lib.Pipeline.ValueKit

@[expose] public section

noncomputable section

namespace Cert.MixOutDxIdeal.Product

open Cert.MixOutDxIdeal Cert.MixOutDxIdeal.Gen Idealize.ShloMosaic Idealize.ShloMosaic.TcCoe Idealize.SL.Sem
open Cert.Products (zeros)
open Idealize.ShloMosaic.Pipeline (Dat)

variable (m : (ℓ : Loc nD τ sig) → Buf (Elt Ideal) ℓ) (ρ : Dev nD → PrngReg)

/-- The product of the whole arrays. -/
def whole (x : S8192x1024.Idx → EReal) (w : S1024x1024.Idx → EReal) : S8192x1024.Idx → EReal :=
  fun i => ∑ k : Fin 1024, x (ix2 (i 0) k) * w (ix2 (i 1) k)

/-- A grid point leaves the product of its blocks. -/
theorem block_product (x : Vec Ideal S1024x1024 .bf16) (w : Vec Ideal S1024x1024 .bf16) (j : S1024x1024.Idx) :
    k0_pay1 (F := Ideal) x w j = ∑ k : Fin 1024, x (ix2 (j 0) k) * w (ix2 (j 1) k) := by
  pointwise [k0_pay1]

theorem out_eq (c : Dev nD) (t : Fin cfg0.N) : outsAt0 m c t = k0_pay1 (F := Ideal) (iblk m c 0 t) (iblk m c 1 t) := by
  unfold outsAt0 out0_A_2
  rw [View.read_writes_eq_canon _ _ _ (cover0_A_2 _ _ _ _ _ _ _ _ _ _ _ _)]
  unfold kernelRun0_A
  dsimp only
  rw [View.canon_unit_zero zeros]
  simp only [View.readAt_eq_ld, Memref.IsWhole.read_unread, View.ld_unit_zero (S := S1024x1024) zeros]

/-- Which blocks a grid point reads and writes. -/
theorem places : ∀ t : Fin cfg0.N, win0_0.index t 0 = win0_2.index t 0 ∧ win0_0.index t 1 = 0 ∧ win0_1.index t 0 = win0_2.index t 1
    ∧ win0_1.index t 1 = 0 :=
  (by decide +kernel : ∀ t : Fin grid0.N, _)

theorem read_x (c : Dev nD) (t : Fin cfg0.N) (r : Fin 1024) (l : Fin 1024) (i : S8192x1024.Idx)
    (h0 : (i 0).val = win0_0.index t 0 * 1024 + r.val) (h1 : (i 1).val = win0_0.index t 1 * 1024 + l.val) :
    (iblk m c 0 t : Vec Ideal S1024x1024 .bf16) (ix2 r l) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = (i 0).val; omega
  | ⟨1, _⟩ => show win0_0.index t 1 * 1024 + 1 * l.val = (i 1).val; omega

theorem read_w (c : Dev nD) (t : Fin cfg0.N) (r : Fin 1024) (l : Fin 1024) (i : S1024x1024.Idx)
    (h0 : (i 0).val = win0_1.index t 0 * 1024 + r.val) (h1 : (i 1).val = win0_1.index t 1 * 1024 + l.val) :
    (iblk m c 1 t : Vec Ideal S1024x1024 .bf16) (ix2 r l) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 1024 + 1 * r.val = (i 0).val; omega
  | ⟨1, _⟩ => show win0_1.index t 1 * 1024 + 1 * l.val = (i 1).val; omega

theorem flushed_eq (c : Dev nD) (t : Fin cfg0.N) : (dats m 0 c).flushed 2 t = ((cfg0.win 2).blk t).view.read (Elt Ideal)
    (whole (m ((c : Thread nD τ).loc main_arg0)) (m ((c : Thread nD τ).loc main_arg1))) := by
  rw [Value.flushed2, out_eq]
  funext y
  obtain ⟨e0, e1, e2, e3⟩ := places t
  have b0 : (((cfg0.win 2).blk t).view.emb y 0).val = win0_2.index t 0 * 1024 + 1 * (y 0).val := rfl
  have b1 : (((cfg0.win 2).blk t).view.emb y 1).val = win0_2.index t 1 * 1024 + 1 * (y 1).val := rfl
  show k0_pay1 (F := Ideal) (iblk m c 0 t) (iblk m c 1 t) ((cfg0.win 2).xinj (grid0.coords t) y)
    = whole _ _ (((cfg0.win 2).blk t).view.emb y)
  rw [block_product]
  unfold whole
  refine Finset.sum_congr rfl fun k _ => ?_
  exact congrArg₂ (fun p q : EReal => p * q)
    (read_x m c t (y 0) k (ix2 (((cfg0.win 2).blk t).view.emb y 0) k) (by show (((cfg0.win 2).blk t).view.emb y 0).val = _; rw [b0, e0, Nat.one_mul]) (by show k.val = _; omega))
    (read_w m c t (y 1) k (ix2 (((cfg0.win 2).blk t).view.emb y 1) k) (by show (((cfg0.win 2).blk t).view.emb y 1).val = _; rw [b1, e2, Nat.one_mul]) (by show k.val = _; omega))

theorem final (c : Dev nD) : (dats m 0 c).arrAt 2 cfg0.N = whole (m ((c : Thread nD τ).loc main_arg0)) (m ((c : Thread nD τ).loc main_arg1)) :=
  (dats m 0 c).arrAt_eq_of_covers 2 _ (by decide +kernel) fun t _ y => congrFun (flushed_eq m c t) y

end Cert.MixOutDxIdeal.Product

namespace Cert.MixOutDxReferenceIdeal.Product

open Cert.MixOutDxReferenceIdeal Cert.MixOutDxReferenceIdeal.Gen Idealize.ShloMosaic Idealize.SL.Sem

/-- The reference's result is the same product. -/
theorem host_product (x : FVec Ideal S8192x1024 .bf16) (w : FVec Ideal S1024x1024 .bf16) :
    Host.dotGeneral dot_S8192x1024_S1024x1024_S8192x1024_1_1_0_0_n_n none (extf .f32 x bitsLt_bf16_f32) (extf .f32 w bitsLt_bf16_f32)
      = Cert.MixOutDxIdeal.Product.whole x w := by
  funext i
  pointwise [Cert.MixOutDxIdeal.Product.whole]

end Cert.MixOutDxReferenceIdeal.Product

namespace Cert.Proof.MixOutDx

open Idealize.ShloMosaic Idealize.SL.Sem

theorem frame_kernel : Cert.quiescent_MixOutDx := fun m ρ _ => Cert.MixOutDx.Gen.frame m ρ

theorem frame_kernelIdeal : Cert.quiescent_MixOutDxIdeal := fun m ρ _ => Cert.MixOutDxIdeal.Gen.frame m ρ

theorem frame_reference : Cert.quiescent_MixOutDxReferenceIdeal := fun m ρ _ =>
  (θ_run Cert.MixOutDxReferenceIdeal.defs _ _).mono (fun r h => ⟨fun c => (h c).2, sem_eq_zero_of_no_sems (by decide) r.2⟩)
    (Cert.MixOutDxReferenceIdeal.Value.run (F := Ideal) m ρ)

theorem values : Cert.algebraic_MixOutDxIdeal_MixOutDxReferenceIdeal := fun m g m' g' _ hargs =>
  ⟨fun c => Cert.MixOutDxIdeal.Product.whole (m ((c.tc : Thread Cert.MixOutDxIdeal.nD Cert.MixOutDxIdeal.τ).loc Cert.MixOutDxIdeal.main_arg0)) (m ((c.tc : Thread Cert.MixOutDxIdeal.nD Cert.MixOutDxIdeal.τ).loc Cert.MixOutDxIdeal.main_arg1)),
    (θ_run Cert.MixOutDxIdeal.defs _ _).mono (fun r h c => ⟨(h c).1.trans (Cert.MixOutDxIdeal.Product.final m c), (h c).2⟩)
      (Cert.MixOutDxIdeal.Value.run_blocks (F := Ideal) m g),
    (θ_run Cert.MixOutDxReferenceIdeal.defs _ _).mono (fun r h c => ⟨(h c).1.trans (by
        obtain ⟨h0, h1⟩ := hargs c
        rw [h0, h1]
        exact Cert.MixOutDxReferenceIdeal.Product.host_product _ _), (h c).2⟩)
      (Cert.MixOutDxReferenceIdeal.Value.run (F := Ideal) m' g')⟩

end Cert.Proof.MixOutDx

end
-- ==== Proof.FfnUpDxGateValue.lean ====
/- The gate half's gradient in the normalised rows, added to what came before: the blocks that the call writes are the blocks of the whole product. -/
module

public import proofs.«01_k».proof.Defs
public import proofs.«01_k».proof.Proof.Products
public import proofs.«01_k».proof.Proof.Gen.FfnUpDxGate.Frame
public import proofs.«01_k».proof.Proof.Gen.FfnUpDxGateIdeal.Value
public import proofs.«01_k».proof.Proof.Gen.FfnUpDxGateReferenceIdeal.Run
public import Idealize.ShloMosaic.Lib.Pipeline.ValueKit

@[expose] public section

noncomputable section

namespace Cert.FfnUpDxGateIdeal.Product

open Cert.FfnUpDxGateIdeal Cert.FfnUpDxGateIdeal.Gen Idealize.ShloMosaic Idealize.ShloMosaic.TcCoe Idealize.SL.Sem
open Cert.Products (zeros)
open Idealize.ShloMosaic.Pipeline (Dat)

variable (m : (ℓ : Loc nD τ sig) → Buf (Elt Ideal) ℓ) (ρ : Dev nD → PrngReg)

/-- The product of the whole arrays, and what came before. -/
def whole (x : S8192x5632.Idx → EReal) (w : S1024x5632.Idx → EReal) (e : S8192x1024.Idx → EReal) : S8192x1024.Idx → EReal :=
  fun i => e i + ∑ k : Fin 2816, x (ix2 (i 0) ⟨0 + k.val, by omega⟩) * w (ix2 (i 1) ⟨0 + k.val, by omega⟩)

/-- A grid point leaves the product of its blocks, and its block of what came before. -/
theorem block_product (x : Vec Ideal S1024x2816 .bf16) (w : Vec Ideal S1024x2816 .bf16) (e : Vec Ideal S1024x1024 .f32) (j : S1024x1024.Idx) :
    k0_pay1 (F := Ideal) x w e j = e j + ∑ k : Fin 2816, x (ix2 (j 0) k) * w (ix2 (j 1) k) := by
  pointwise [k0_pay1]
  exact add_comm _ _

theorem out_eq (c : Dev nD) (t : Fin cfg0.N) : outsAt0 m c t = k0_pay1 (F := Ideal) (iblk m c 0 t) (iblk m c 1 t) (iblk m c 2 t) := by
  unfold outsAt0 out0_A_3
  rw [View.read_writes_eq_canon _ _ _ (cover0_A_3 _ _ _ _ _ _ _ _ _ _ _ _ _ _ _)]
  unfold kernelRun0_A
  dsimp only
  rw [View.canon_unit_zero zeros]
  simp only [View.readAt_eq_ld, Memref.IsWhole.read_unread, View.ld_unit_zero (S := S1024x2816) zeros, View.ld_unit_zero (S := S1024x1024) zeros]

/-- Which blocks a grid point reads and writes. -/
theorem places : ∀ t : Fin cfg0.N, win0_0.index t 0 = win0_3.index t 0 ∧ win0_0.index t 1 = 0 ∧ win0_1.index t 0 = win0_3.index t 1
    ∧ win0_1.index t 1 = 0 ∧ win0_2.index t 0 = win0_3.index t 0 ∧ win0_2.index t 1 = win0_3.index t 1 :=
  (by decide +kernel : ∀ t : Fin grid0.N, _)

theorem read_x (c : Dev nD) (t : Fin cfg0.N) (r : Fin 1024) (l : Fin 2816) (i : S8192x5632.Idx)
    (h0 : (i 0).val = win0_0.index t 0 * 1024 + r.val) (h1 : (i 1).val = win0_0.index t 1 * 2816 + l.val) :
    (iblk m c 0 t : Vec Ideal S1024x2816 .bf16) (ix2 r l) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = (i 0).val; omega
  | ⟨1, _⟩ => show win0_0.index t 1 * 2816 + 1 * l.val = (i 1).val; omega

theorem read_w (c : Dev nD) (t : Fin cfg0.N) (r : Fin 1024) (l : Fin 2816) (i : S1024x5632.Idx)
    (h0 : (i 0).val = win0_1.index t 0 * 1024 + r.val) (h1 : (i 1).val = win0_1.index t 1 * 2816 + l.val) :
    (iblk m c 1 t : Vec Ideal S1024x2816 .bf16) (ix2 r l) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 1024 + 1 * r.val = (i 0).val; omega
  | ⟨1, _⟩ => show win0_1.index t 1 * 2816 + 1 * l.val = (i 1).val; omega

theorem read_e (c : Dev nD) (t : Fin cfg0.N) (r : Fin 1024) (l : Fin 1024) (i : S8192x1024.Idx)
    (h0 : (i 0).val = win0_2.index t 0 * 1024 + r.val) (h1 : (i 1).val = win0_2.index t 1 * 1024 + l.val) :
    (iblk m c 2 t : Vec Ideal S1024x1024 .f32) (ix2 r l) = m ((c : Thread nD τ).loc main_arg2) i := by
  unfold iblk
  rw [View.read_apply]
  show V m c main_arg2 _ = m (c.tc.loc main_arg2) _
  unfold V
  congr 1
  funext a
  apply Fin.ext
  match a with
  | ⟨0, _⟩ => show win0_2.index t 0 * 1024 + 1 * r.val = (i 0).val; omega
  | ⟨1, _⟩ => show win0_2.index t 1 * 1024 + 1 * l.val = (i 1).val; omega

theorem flushed_eq (c : Dev nD) (t : Fin cfg0.N) : (dats m 0 c).flushed 3 t = ((cfg0.win 3).blk t).view.read (Elt Ideal)
    (whole (m ((c : Thread nD τ).loc main_arg0)) (m ((c : Thread nD τ).loc main_arg1)) (m ((c : Thread nD τ).loc main_arg2))) := by
  rw [Value.flushed3, out_eq]
  funext y
  obtain ⟨e0, e1, e2, e3, e4, e5⟩ := places t
  have b0 : (((cfg0.win 3).blk t).view.emb y 0).val = win0_3.index t 0 * 1024 + 1 * (y 0).val := rfl
  have b1 : (((cfg0.win 3).blk t).view.emb y 1).val = win0_3.index t 1 * 1024 + 1 * (y 1).val := rfl
  show k0_pay1 (F := Ideal) (iblk m c 0 t) (iblk m c 1 t) (iblk m c 2 t) ((cfg0.win 3).xinj (grid0.coords t) y)
    = whole _ _ _ (((cfg0.win 3).blk t).view.emb y)
  rw [block_product]
  unfold whole
  refine congrArg₂ (fun p q : EReal => p + q) ((congrArg (iblk m c 2 t : Vec Ideal S1024x1024 .f32) (show ((cfg0.win 3).xinj (grid0.coords t) y : S1024x1024.Idx) = ix2 (y 0) (y 1) from Cert.Products.pair _)).trans
    (read_e m c t (y 0) (y 1) (((cfg0.win 3).blk t).view.emb y) (by rw [b0, e4, Nat.one_mul]) (by rw [b1, e5, Nat.one_mul]))) ?_
  refine Finset.sum_congr rfl fun k _ => ?_
  exact congrArg₂ (fun p q : EReal => p * q)
    (read_x m c t (y 0) k (ix2 (((cfg0.win 3).blk t).view.emb y 0) ⟨0 + k.val, by omega⟩) (by show (((cfg0.win 3).blk t).view.emb y 0).val = _; rw [b0, e0, Nat.one_mul]) (by show 0 + k.val = _; omega))
    (read_w m c t (y 1) k (ix2 (((cfg0.win 3).blk t).view.emb y 1) ⟨0 + k.val, by omega⟩) (by show (((cfg0.win 3).blk t).view.emb y 1).val = _; rw [b1, e2, Nat.one_mul]) (by show 0 + k.val = _; omega))

theorem final (c : Dev nD) : (dats m 0 c).arrAt 3 cfg0.N = whole (m ((c : Thread nD τ).loc main_arg0)) (m ((c : Thread nD τ).loc main_arg1)) (m ((c : Thread nD τ).loc main_arg2)) :=
  (dats m 0 c).arrAt_eq_of_covers 3 _ (by decide +kernel) fun t _ y => congrFun (flushed_eq m c t) y

end Cert.FfnUpDxGateIdeal.Product

namespace Cert.FfnUpDxGateReferenceIdeal.Product

open Cert.FfnUpDxGateReferenceIdeal Cert.FfnUpDxGateReferenceIdeal.Gen Idealize.ShloMosaic Idealize.SL.Sem

/-- The reference's result is the same product. -/
theorem host_product (x : FVec Ideal S8192x5632 .bf16) (w : FVec Ideal S1024x5632 .bf16) (e : FVec Ideal S8192x1024 .f32) :
    addf e (Host.dotGeneral dot_S8192x2816_S1024x2816_S8192x1024_1_1_0_0_n_n none (extf .f32 (extractStridedSlice S8192x2816 ![0, 0] x slices_S8192x5632_S8192x2816_0_0) bitsLt_bf16_f32) (extf .f32 (extractStridedSlice S1024x2816 ![0, 0] w slices_S1024x5632_S1024x2816_0_0) bitsLt_bf16_f32))
      = Cert.FfnUpDxGateIdeal.Product.whole x w e := by
  funext i
  pointwise [Cert.FfnUpDxGateIdeal.Product.whole]

end Cert.FfnUpDxGateReferenceIdeal.Product

namespace Cert.Proof.FfnUpDxGate

open Idealize.ShloMosaic Idealize.SL.Sem

theorem frame_kernel : Cert.quiescent_FfnUpDxGate := fun m ρ _ => Cert.FfnUpDxGate.Gen.frame m ρ

theorem frame_kernelIdeal : Cert.quiescent_FfnUpDxGateIdeal := fun m ρ _ => Cert.FfnUpDxGateIdeal.Gen.frame m ρ

theorem frame_reference : Cert.quiescent_FfnUpDxGateReferenceIdeal := fun m ρ _ =>
  (θ_run Cert.FfnUpDxGateReferenceIdeal.defs _ _).mono (fun r h => ⟨fun c => (h c).2, sem_eq_zero_of_no_sems (by decide) r.2⟩)
    (Cert.FfnUpDxGateReferenceIdeal.Value.run (F := Ideal) m ρ)

theorem values : Cert.algebraic_FfnUpDxGateIdeal_FfnUpDxGateReferenceIdeal := fun m g m' g' _ hargs =>
  ⟨fun c => Cert.FfnUpDxGateIdeal.Product.whole (m ((c.tc : Thread Cert.FfnUpDxGateIdeal.nD Cert.FfnUpDxGateIdeal.τ).loc Cert.FfnUpDxGateIdeal.main_arg0)) (m ((c.tc : Thread Cert.FfnUpDxGateIdeal.nD Cert.FfnUpDxGateIdeal.τ).loc Cert.FfnUpDxGateIdeal.main_arg1)) (m ((c.tc : Thread Cert.FfnUpDxGateIdeal.nD Cert.FfnUpDxGateIdeal.τ).loc Cert.FfnUpDxGateIdeal.main_arg2)),
    (θ_run Cert.FfnUpDxGateIdeal.defs _ _).mono (fun r h c => ⟨(h c).1.trans (Cert.FfnUpDxGateIdeal.Product.final m c), (h c).2⟩)
      (Cert.FfnUpDxGateIdeal.Value.run_blocks (F := Ideal) m g),
    (θ_run Cert.FfnUpDxGateReferenceIdeal.defs _ _).mono (fun r h c => ⟨(h c).1.trans (by
        obtain ⟨h0, h1, h2⟩ := hargs c
        rw [h0, h1, h2]
        exact Cert.FfnUpDxGateReferenceIdeal.Product.host_product _ _ _), (h c).2⟩)
      (Cert.FfnUpDxGateReferenceIdeal.Value.run (F := Ideal) m' g')⟩

end Cert.Proof.FfnUpDxGate

end
-- ==== Proof.FfnUpDxUpValue.lean ====
/- The up half's gradient in the normalised rows, added to what came before: the blocks that the call writes are the blocks of the whole product. -/
module

public import proofs.«01_k».proof.Defs
public import proofs.«01_k».proof.Proof.Products
public import proofs.«01_k».proof.Proof.Gen.FfnUpDxUp.Frame
public import proofs.«01_k».proof.Proof.Gen.FfnUpDxUpIdeal.Value
public import proofs.«01_k».proof.Proof.Gen.FfnUpDxUpReferenceIdeal.Run
public import Idealize.ShloMosaic.Lib.Pipeline.ValueKit

@[expose] public section

noncomputable section

namespace Cert.FfnUpDxUpIdeal.Product

open Cert.FfnUpDxUpIdeal Cert.FfnUpDxUpIdeal.Gen Idealize.ShloMosaic Idealize.ShloMosaic.TcCoe Idealize.SL.Sem
open Cert.Products (zeros)
open Idealize.ShloMosaic.Pipeline (Dat)

variable (m : (ℓ : Loc nD τ sig) → Buf (Elt Ideal) ℓ) (ρ : Dev nD → PrngReg)

/-- The product of the whole arrays, and what came before. -/
def whole (x : S8192x5632.Idx → EReal) (w : S1024x5632.Idx → EReal) (e : S8192x1024.Idx → EReal) : S8192x1024.Idx → EReal :=
  fun i => e i + ∑ k : Fin 2816, x (ix2 (i 0) ⟨2816 + k.val, by omega⟩) * w (ix2 (i 1) ⟨2816 + k.val, by omega⟩)

/-- A grid point leaves the product of its blocks, and its block of what came before. -/
theorem block_product (x : Vec Ideal S1024x2816 .bf16) (w : Vec Ideal S1024x2816 .bf16) (e : Vec Ideal S1024x1024 .f32) (j : S1024x1024.Idx) :
    k0_pay1 (F := Ideal) x w e j = e j + ∑ k : Fin 2816, x (ix2 (j 0) k) * w (ix2 (j 1) k) := by
  pointwise [k0_pay1]
  exact add_comm _ _

theorem out_eq (c : Dev nD) (t : Fin cfg0.N) : outsAt0 m c t = k0_pay1 (F := Ideal) (iblk m c 0 t) (iblk m c 1 t) (iblk m c 2 t) := by
  unfold outsAt0 out0_A_3
  rw [View.read_writes_eq_canon _ _ _ (cover0_A_3 _ _ _ _ _ _ _ _ _ _ _ _ _ _ _)]
  unfold kernelRun0_A
  dsimp only
  rw [View.canon_unit_zero zeros]
  simp only [View.readAt_eq_ld, Memref.IsWhole.read_unread, View.ld_unit_zero (S := S1024x2816) zeros, View.ld_unit_zero (S := S1024x1024) zeros]

/-- Which blocks a grid point reads and writes. -/
theorem places : ∀ t : Fin cfg0.N, win0_0.index t 0 = win0_3.index t 0 ∧ win0_0.index t 1 = 1 ∧ win0_1.index t 0 = win0_3.index t 1
    ∧ win0_1.index t 1 = 1 ∧ win0_2.index t 0 = win0_3.index t 0 ∧ win0_2.index t 1 = win0_3.index t 1 :=
  (by decide +kernel : ∀ t : Fin grid0.N, _)

theorem read_x (c : Dev nD) (t : Fin cfg0.N) (r : Fin 1024) (l : Fin 2816) (i : S8192x5632.Idx)
    (h0 : (i 0).val = win0_0.index t 0 * 1024 + r.val) (h1 : (i 1).val = win0_0.index t 1 * 2816 + l.val) :
    (iblk m c 0 t : Vec Ideal S1024x2816 .bf16) (ix2 r l) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = (i 0).val; omega
  | ⟨1, _⟩ => show win0_0.index t 1 * 2816 + 1 * l.val = (i 1).val; omega

theorem read_w (c : Dev nD) (t : Fin cfg0.N) (r : Fin 1024) (l : Fin 2816) (i : S1024x5632.Idx)
    (h0 : (i 0).val = win0_1.index t 0 * 1024 + r.val) (h1 : (i 1).val = win0_1.index t 1 * 2816 + l.val) :
    (iblk m c 1 t : Vec Ideal S1024x2816 .bf16) (ix2 r l) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 1024 + 1 * r.val = (i 0).val; omega
  | ⟨1, _⟩ => show win0_1.index t 1 * 2816 + 1 * l.val = (i 1).val; omega

theorem read_e (c : Dev nD) (t : Fin cfg0.N) (r : Fin 1024) (l : Fin 1024) (i : S8192x1024.Idx)
    (h0 : (i 0).val = win0_2.index t 0 * 1024 + r.val) (h1 : (i 1).val = win0_2.index t 1 * 1024 + l.val) :
    (iblk m c 2 t : Vec Ideal S1024x1024 .f32) (ix2 r l) = m ((c : Thread nD τ).loc main_arg2) i := by
  unfold iblk
  rw [View.read_apply]
  show V m c main_arg2 _ = m (c.tc.loc main_arg2) _
  unfold V
  congr 1
  funext a
  apply Fin.ext
  match a with
  | ⟨0, _⟩ => show win0_2.index t 0 * 1024 + 1 * r.val = (i 0).val; omega
  | ⟨1, _⟩ => show win0_2.index t 1 * 1024 + 1 * l.val = (i 1).val; omega

theorem flushed_eq (c : Dev nD) (t : Fin cfg0.N) : (dats m 0 c).flushed 3 t = ((cfg0.win 3).blk t).view.read (Elt Ideal)
    (whole (m ((c : Thread nD τ).loc main_arg0)) (m ((c : Thread nD τ).loc main_arg1)) (m ((c : Thread nD τ).loc main_arg2))) := by
  rw [Value.flushed3, out_eq]
  funext y
  obtain ⟨e0, e1, e2, e3, e4, e5⟩ := places t
  have b0 : (((cfg0.win 3).blk t).view.emb y 0).val = win0_3.index t 0 * 1024 + 1 * (y 0).val := rfl
  have b1 : (((cfg0.win 3).blk t).view.emb y 1).val = win0_3.index t 1 * 1024 + 1 * (y 1).val := rfl
  show k0_pay1 (F := Ideal) (iblk m c 0 t) (iblk m c 1 t) (iblk m c 2 t) ((cfg0.win 3).xinj (grid0.coords t) y)
    = whole _ _ _ (((cfg0.win 3).blk t).view.emb y)
  rw [block_product]
  unfold whole
  refine congrArg₂ (fun p q : EReal => p + q) ((congrArg (iblk m c 2 t : Vec Ideal S1024x1024 .f32) (show ((cfg0.win 3).xinj (grid0.coords t) y : S1024x1024.Idx) = ix2 (y 0) (y 1) from Cert.Products.pair _)).trans
    (read_e m c t (y 0) (y 1) (((cfg0.win 3).blk t).view.emb y) (by rw [b0, e4, Nat.one_mul]) (by rw [b1, e5, Nat.one_mul]))) ?_
  refine Finset.sum_congr rfl fun k _ => ?_
  exact congrArg₂ (fun p q : EReal => p * q)
    (read_x m c t (y 0) k (ix2 (((cfg0.win 3).blk t).view.emb y 0) ⟨2816 + k.val, by omega⟩) (by show (((cfg0.win 3).blk t).view.emb y 0).val = _; rw [b0, e0, Nat.one_mul]) (by show 2816 + k.val = _; omega))
    (read_w m c t (y 1) k (ix2 (((cfg0.win 3).blk t).view.emb y 1) ⟨2816 + k.val, by omega⟩) (by show (((cfg0.win 3).blk t).view.emb y 1).val = _; rw [b1, e2, Nat.one_mul]) (by show 2816 + k.val = _; omega))

theorem final (c : Dev nD) : (dats m 0 c).arrAt 3 cfg0.N = whole (m ((c : Thread nD τ).loc main_arg0)) (m ((c : Thread nD τ).loc main_arg1)) (m ((c : Thread nD τ).loc main_arg2)) :=
  (dats m 0 c).arrAt_eq_of_covers 3 _ (by decide +kernel) fun t _ y => congrFun (flushed_eq m c t) y

end Cert.FfnUpDxUpIdeal.Product

namespace Cert.FfnUpDxUpReferenceIdeal.Product

open Cert.FfnUpDxUpReferenceIdeal Cert.FfnUpDxUpReferenceIdeal.Gen Idealize.ShloMosaic Idealize.SL.Sem

/-- The reference's result is the same product. -/
theorem host_product (x : FVec Ideal S8192x5632 .bf16) (w : FVec Ideal S1024x5632 .bf16) (e : FVec Ideal S8192x1024 .f32) :
    addf e (Host.dotGeneral dot_S8192x2816_S1024x2816_S8192x1024_1_1_0_0_n_n none (extf .f32 (extractStridedSlice S8192x2816 ![0, 2816] x slices_S8192x5632_S8192x2816_0_2816) bitsLt_bf16_f32) (extf .f32 (extractStridedSlice S1024x2816 ![0, 2816] w slices_S1024x5632_S1024x2816_0_2816) bitsLt_bf16_f32))
      = Cert.FfnUpDxUpIdeal.Product.whole x w e := by
  funext i
  pointwise [Cert.FfnUpDxUpIdeal.Product.whole]

end Cert.FfnUpDxUpReferenceIdeal.Product

namespace Cert.Proof.FfnUpDxUp

open Idealize.ShloMosaic Idealize.SL.Sem

theorem frame_kernel : Cert.quiescent_FfnUpDxUp := fun m ρ _ => Cert.FfnUpDxUp.Gen.frame m ρ

theorem frame_kernelIdeal : Cert.quiescent_FfnUpDxUpIdeal := fun m ρ _ => Cert.FfnUpDxUpIdeal.Gen.frame m ρ

theorem frame_reference : Cert.quiescent_FfnUpDxUpReferenceIdeal := fun m ρ _ =>
  (θ_run Cert.FfnUpDxUpReferenceIdeal.defs _ _).mono (fun r h => ⟨fun c => (h c).2, sem_eq_zero_of_no_sems (by decide) r.2⟩)
    (Cert.FfnUpDxUpReferenceIdeal.Value.run (F := Ideal) m ρ)

theorem values : Cert.algebraic_FfnUpDxUpIdeal_FfnUpDxUpReferenceIdeal := fun m g m' g' _ hargs =>
  ⟨fun c => Cert.FfnUpDxUpIdeal.Product.whole (m ((c.tc : Thread Cert.FfnUpDxUpIdeal.nD Cert.FfnUpDxUpIdeal.τ).loc Cert.FfnUpDxUpIdeal.main_arg0)) (m ((c.tc : Thread Cert.FfnUpDxUpIdeal.nD Cert.FfnUpDxUpIdeal.τ).loc Cert.FfnUpDxUpIdeal.main_arg1)) (m ((c.tc : Thread Cert.FfnUpDxUpIdeal.nD Cert.FfnUpDxUpIdeal.τ).loc Cert.FfnUpDxUpIdeal.main_arg2)),
    (θ_run Cert.FfnUpDxUpIdeal.defs _ _).mono (fun r h c => ⟨(h c).1.trans (Cert.FfnUpDxUpIdeal.Product.final m c), (h c).2⟩)
      (Cert.FfnUpDxUpIdeal.Value.run_blocks (F := Ideal) m g),
    (θ_run Cert.FfnUpDxUpReferenceIdeal.defs _ _).mono (fun r h c => ⟨(h c).1.trans (by
        obtain ⟨h0, h1, h2⟩ := hargs c
        rw [h0, h1, h2]
        exact Cert.FfnUpDxUpReferenceIdeal.Product.host_product _ _ _), (h c).2⟩)
      (Cert.FfnUpDxUpReferenceIdeal.Value.run (F := Ideal) m' g')⟩

end Cert.Proof.FfnUpDxUp

end
-- ==== Proof.CdInDxValue.lean ====
/- The second and fourth layers' input product: its gradient in the rows, added to what came before: the blocks that the call writes are the blocks of the whole product. -/
module

public import proofs.«01_k».proof.Defs
public import proofs.«01_k».proof.Proof.Products
public import proofs.«01_k».proof.Proof.Gen.CdInDx.Frame
public import proofs.«01_k».proof.Proof.Gen.CdInDxIdeal.Value
public import proofs.«01_k».proof.Proof.Gen.CdInDxReferenceIdeal.Run
public import Idealize.ShloMosaic.Lib.Pipeline.ValueKit

@[expose] public section

noncomputable section

namespace Cert.CdInDxIdeal.Product

open Cert.CdInDxIdeal Cert.CdInDxIdeal.Gen Idealize.ShloMosaic Idealize.ShloMosaic.TcCoe Idealize.SL.Sem
open Cert.Products (zeros)
open Idealize.ShloMosaic.Pipeline (Dat)

variable (m : (ℓ : Loc nD τ sig) → Buf (Elt Ideal) ℓ) (ρ : Dev nD → PrngReg)

/-- The product of the whole arrays, and what came before. -/
def whole (x : S8192x2048.Idx → EReal) (w : S1024x2048.Idx → EReal) (e : S8192x1024.Idx → EReal) : S8192x1024.Idx → EReal :=
  fun i => e i + ∑ k : Fin 2048, x (ix2 (i 0) k) * w (ix2 (i 1) k)

/-- A grid point leaves the product of its blocks, and its block of what came before. -/
theorem block_product (x : Vec Ideal S1024x2048 .bf16) (w : Vec Ideal S1024x2048 .bf16) (e : Vec Ideal S1024x1024 .f32) (j : S1024x1024.Idx) :
    k0_pay1 (F := Ideal) x w e j = e j + ∑ k : Fin 2048, x (ix2 (j 0) k) * w (ix2 (j 1) k) := by
  pointwise [k0_pay1]
  exact add_comm _ _

theorem out_eq (c : Dev nD) (t : Fin cfg0.N) : outsAt0 m c t = k0_pay1 (F := Ideal) (iblk m c 0 t) (iblk m c 1 t) (iblk m c 2 t) := by
  unfold outsAt0 out0_A_3
  rw [View.read_writes_eq_canon _ _ _ (cover0_A_3 _ _ _ _ _ _ _ _ _ _ _ _ _ _ _)]
  unfold kernelRun0_A
  dsimp only
  rw [View.canon_unit_zero zeros]
  simp only [View.readAt_eq_ld, Memref.IsWhole.read_unread, View.ld_unit_zero (S := S1024x2048) zeros, View.ld_unit_zero (S := S1024x1024) zeros]

/-- Which blocks a grid point reads and writes. -/
theorem places : ∀ t : Fin cfg0.N, win0_0.index t 0 = win0_3.index t 0 ∧ win0_0.index t 1 = 0 ∧ win0_1.index t 0 = win0_3.index t 1
    ∧ win0_1.index t 1 = 0 ∧ win0_2.index t 0 = win0_3.index t 0 ∧ win0_2.index t 1 = win0_3.index t 1 :=
  (by decide +kernel : ∀ t : Fin grid0.N, _)

theorem read_x (c : Dev nD) (t : Fin cfg0.N) (r : Fin 1024) (l : Fin 2048) (i : S8192x2048.Idx)
    (h0 : (i 0).val = win0_0.index t 0 * 1024 + r.val) (h1 : (i 1).val = win0_0.index t 1 * 2048 + l.val) :
    (iblk m c 0 t : Vec Ideal S1024x2048 .bf16) (ix2 r l) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = (i 0).val; omega
  | ⟨1, _⟩ => show win0_0.index t 1 * 2048 + 1 * l.val = (i 1).val; omega

theorem read_w (c : Dev nD) (t : Fin cfg0.N) (r : Fin 1024) (l : Fin 2048) (i : S1024x2048.Idx)
    (h0 : (i 0).val = win0_1.index t 0 * 1024 + r.val) (h1 : (i 1).val = win0_1.index t 1 * 2048 + l.val) :
    (iblk m c 1 t : Vec Ideal S1024x2048 .bf16) (ix2 r l) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 1024 + 1 * r.val = (i 0).val; omega
  | ⟨1, _⟩ => show win0_1.index t 1 * 2048 + 1 * l.val = (i 1).val; omega

theorem read_e (c : Dev nD) (t : Fin cfg0.N) (r : Fin 1024) (l : Fin 1024) (i : S8192x1024.Idx)
    (h0 : (i 0).val = win0_2.index t 0 * 1024 + r.val) (h1 : (i 1).val = win0_2.index t 1 * 1024 + l.val) :
    (iblk m c 2 t : Vec Ideal S1024x1024 .f32) (ix2 r l) = m ((c : Thread nD τ).loc main_arg2) i := by
  unfold iblk
  rw [View.read_apply]
  show V m c main_arg2 _ = m (c.tc.loc main_arg2) _
  unfold V
  congr 1
  funext a
  apply Fin.ext
  match a with
  | ⟨0, _⟩ => show win0_2.index t 0 * 1024 + 1 * r.val = (i 0).val; omega
  | ⟨1, _⟩ => show win0_2.index t 1 * 1024 + 1 * l.val = (i 1).val; omega

theorem flushed_eq (c : Dev nD) (t : Fin cfg0.N) : (dats m 0 c).flushed 3 t = ((cfg0.win 3).blk t).view.read (Elt Ideal)
    (whole (m ((c : Thread nD τ).loc main_arg0)) (m ((c : Thread nD τ).loc main_arg1)) (m ((c : Thread nD τ).loc main_arg2))) := by
  rw [Value.flushed3, out_eq]
  funext y
  obtain ⟨e0, e1, e2, e3, e4, e5⟩ := places t
  have b0 : (((cfg0.win 3).blk t).view.emb y 0).val = win0_3.index t 0 * 1024 + 1 * (y 0).val := rfl
  have b1 : (((cfg0.win 3).blk t).view.emb y 1).val = win0_3.index t 1 * 1024 + 1 * (y 1).val := rfl
  show k0_pay1 (F := Ideal) (iblk m c 0 t) (iblk m c 1 t) (iblk m c 2 t) ((cfg0.win 3).xinj (grid0.coords t) y)
    = whole _ _ _ (((cfg0.win 3).blk t).view.emb y)
  rw [block_product]
  unfold whole
  refine congrArg₂ (fun p q : EReal => p + q) ((congrArg (iblk m c 2 t : Vec Ideal S1024x1024 .f32) (show ((cfg0.win 3).xinj (grid0.coords t) y : S1024x1024.Idx) = ix2 (y 0) (y 1) from Cert.Products.pair _)).trans
    (read_e m c t (y 0) (y 1) (((cfg0.win 3).blk t).view.emb y) (by rw [b0, e4, Nat.one_mul]) (by rw [b1, e5, Nat.one_mul]))) ?_
  refine Finset.sum_congr rfl fun k _ => ?_
  exact congrArg₂ (fun p q : EReal => p * q)
    (read_x m c t (y 0) k (ix2 (((cfg0.win 3).blk t).view.emb y 0) k) (by show (((cfg0.win 3).blk t).view.emb y 0).val = _; rw [b0, e0, Nat.one_mul]) (by show k.val = _; omega))
    (read_w m c t (y 1) k (ix2 (((cfg0.win 3).blk t).view.emb y 1) k) (by show (((cfg0.win 3).blk t).view.emb y 1).val = _; rw [b1, e2, Nat.one_mul]) (by show k.val = _; omega))

theorem final (c : Dev nD) : (dats m 0 c).arrAt 3 cfg0.N = whole (m ((c : Thread nD τ).loc main_arg0)) (m ((c : Thread nD τ).loc main_arg1)) (m ((c : Thread nD τ).loc main_arg2)) :=
  (dats m 0 c).arrAt_eq_of_covers 3 _ (by decide +kernel) fun t _ y => congrFun (flushed_eq m c t) y

end Cert.CdInDxIdeal.Product

namespace Cert.CdInDxReferenceIdeal.Product

open Cert.CdInDxReferenceIdeal Cert.CdInDxReferenceIdeal.Gen Idealize.ShloMosaic Idealize.SL.Sem

/-- The reference's result is the same product. -/
theorem host_product (x : FVec Ideal S8192x2048 .bf16) (w : FVec Ideal S1024x2048 .bf16) (e : FVec Ideal S8192x1024 .f32) :
    addf e (Host.dotGeneral dot_S8192x2048_S1024x2048_S8192x1024_1_1_0_0_n_n none (extf .f32 x bitsLt_bf16_f32) (extf .f32 w bitsLt_bf16_f32))
      = Cert.CdInDxIdeal.Product.whole x w e := by
  funext i
  pointwise [Cert.CdInDxIdeal.Product.whole]

end Cert.CdInDxReferenceIdeal.Product

namespace Cert.Proof.CdInDx

open Idealize.ShloMosaic Idealize.SL.Sem

theorem frame_kernel : Cert.quiescent_CdInDx := fun m ρ _ => Cert.CdInDx.Gen.frame m ρ

theorem frame_kernelIdeal : Cert.quiescent_CdInDxIdeal := fun m ρ _ => Cert.CdInDxIdeal.Gen.frame m ρ

theorem frame_reference : Cert.quiescent_CdInDxReferenceIdeal := fun m ρ _ =>
  (θ_run Cert.CdInDxReferenceIdeal.defs _ _).mono (fun r h => ⟨fun c => (h c).2, sem_eq_zero_of_no_sems (by decide) r.2⟩)
    (Cert.CdInDxReferenceIdeal.Value.run (F := Ideal) m ρ)

theorem values : Cert.algebraic_CdInDxIdeal_CdInDxReferenceIdeal := fun m g m' g' _ hargs =>
  ⟨fun c => Cert.CdInDxIdeal.Product.whole (m ((c.tc : Thread Cert.CdInDxIdeal.nD Cert.CdInDxIdeal.τ).loc Cert.CdInDxIdeal.main_arg0)) (m ((c.tc : Thread Cert.CdInDxIdeal.nD Cert.CdInDxIdeal.τ).loc Cert.CdInDxIdeal.main_arg1)) (m ((c.tc : Thread Cert.CdInDxIdeal.nD Cert.CdInDxIdeal.τ).loc Cert.CdInDxIdeal.main_arg2)),
    (θ_run Cert.CdInDxIdeal.defs _ _).mono (fun r h c => ⟨(h c).1.trans (Cert.CdInDxIdeal.Product.final m c), (h c).2⟩)
      (Cert.CdInDxIdeal.Value.run_blocks (F := Ideal) m g),
    (θ_run Cert.CdInDxReferenceIdeal.defs _ _).mono (fun r h c => ⟨(h c).1.trans (by
        obtain ⟨h0, h1, h2⟩ := hargs c
        rw [h0, h1, h2]
        exact Cert.CdInDxReferenceIdeal.Product.host_product _ _ _), (h c).2⟩)
      (Cert.CdInDxReferenceIdeal.Value.run (F := Ideal) m' g')⟩

end Cert.Proof.CdInDx

end
-- ==== Proof.AbInDxValue.lean ====
/- The first and third layers' input product: its gradient in the rows, added to what came before: the blocks that the call writes are the blocks of the whole product. -/
module

public import proofs.«01_k».proof.Defs
public import proofs.«01_k».proof.Proof.Products
public import proofs.«01_k».proof.Proof.Gen.AbInDx.Frame
public import proofs.«01_k».proof.Proof.Gen.AbInDxIdeal.Value
public import proofs.«01_k».proof.Proof.Gen.AbInDxReferenceIdeal.Run
public import Idealize.ShloMosaic.Lib.Pipeline.ValueKit

@[expose] public section

noncomputable section

namespace Cert.AbInDxIdeal.Product

open Cert.AbInDxIdeal Cert.AbInDxIdeal.Gen Idealize.ShloMosaic Idealize.ShloMosaic.TcCoe Idealize.SL.Sem
open Cert.Products (zeros)
open Idealize.ShloMosaic.Pipeline (Dat)

variable (m : (ℓ : Loc nD τ sig) → Buf (Elt Ideal) ℓ) (ρ : Dev nD → PrngReg)

/-- The product of the whole arrays, and what came before. -/
def whole (x : S8192x3840.Idx → EReal) (w : S1024x3840.Idx → EReal) (e : S8192x1024.Idx → EReal) : S8192x1024.Idx → EReal :=
  fun i => e i + ∑ k : Fin 3840, x (ix2 (i 0) k) * w (ix2 (i 1) k)

/-- A grid point leaves the product of its blocks, and its block of what came before. -/
theorem block_product (x : Vec Ideal S1024x3840 .bf16) (w : Vec Ideal S1024x3840 .bf16) (e : Vec Ideal S1024x1024 .f32) (j : S1024x1024.Idx) :
    k0_pay1 (F := Ideal) x w e j = e j + ∑ k : Fin 3840, x (ix2 (j 0) k) * w (ix2 (j 1) k) := by
  pointwise [k0_pay1]
  exact add_comm _ _

theorem out_eq (c : Dev nD) (t : Fin cfg0.N) : outsAt0 m c t = k0_pay1 (F := Ideal) (iblk m c 0 t) (iblk m c 1 t) (iblk m c 2 t) := by
  unfold outsAt0 out0_A_3
  rw [View.read_writes_eq_canon _ _ _ (cover0_A_3 _ _ _ _ _ _ _ _ _ _ _ _ _ _ _)]
  unfold kernelRun0_A
  dsimp only
  rw [View.canon_unit_zero zeros]
  simp only [View.readAt_eq_ld, Memref.IsWhole.read_unread, View.ld_unit_zero (S := S1024x3840) zeros, View.ld_unit_zero (S := S1024x1024) zeros]

/-- Which blocks a grid point reads and writes. -/
theorem places : ∀ t : Fin cfg0.N, win0_0.index t 0 = win0_3.index t 0 ∧ win0_0.index t 1 = 0 ∧ win0_1.index t 0 = win0_3.index t 1
    ∧ win0_1.index t 1 = 0 ∧ win0_2.index t 0 = win0_3.index t 0 ∧ win0_2.index t 1 = win0_3.index t 1 :=
  (by decide +kernel : ∀ t : Fin grid0.N, _)

theorem read_x (c : Dev nD) (t : Fin cfg0.N) (r : Fin 1024) (l : Fin 3840) (i : S8192x3840.Idx)
    (h0 : (i 0).val = win0_0.index t 0 * 1024 + r.val) (h1 : (i 1).val = win0_0.index t 1 * 3840 + l.val) :
    (iblk m c 0 t : Vec Ideal S1024x3840 .bf16) (ix2 r l) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = (i 0).val; omega
  | ⟨1, _⟩ => show win0_0.index t 1 * 3840 + 1 * l.val = (i 1).val; omega

theorem read_w (c : Dev nD) (t : Fin cfg0.N) (r : Fin 1024) (l : Fin 3840) (i : S1024x3840.Idx)
    (h0 : (i 0).val = win0_1.index t 0 * 1024 + r.val) (h1 : (i 1).val = win0_1.index t 1 * 3840 + l.val) :
    (iblk m c 1 t : Vec Ideal S1024x3840 .bf16) (ix2 r l) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 1024 + 1 * r.val = (i 0).val; omega
  | ⟨1, _⟩ => show win0_1.index t 1 * 3840 + 1 * l.val = (i 1).val; omega

theorem read_e (c : Dev nD) (t : Fin cfg0.N) (r : Fin 1024) (l : Fin 1024) (i : S8192x1024.Idx)
    (h0 : (i 0).val = win0_2.index t 0 * 1024 + r.val) (h1 : (i 1).val = win0_2.index t 1 * 1024 + l.val) :
    (iblk m c 2 t : Vec Ideal S1024x1024 .f32) (ix2 r l) = m ((c : Thread nD τ).loc main_arg2) i := by
  unfold iblk
  rw [View.read_apply]
  show V m c main_arg2 _ = m (c.tc.loc main_arg2) _
  unfold V
  congr 1
  funext a
  apply Fin.ext
  match a with
  | ⟨0, _⟩ => show win0_2.index t 0 * 1024 + 1 * r.val = (i 0).val; omega
  | ⟨1, _⟩ => show win0_2.index t 1 * 1024 + 1 * l.val = (i 1).val; omega

theorem flushed_eq (c : Dev nD) (t : Fin cfg0.N) : (dats m 0 c).flushed 3 t = ((cfg0.win 3).blk t).view.read (Elt Ideal)
    (whole (m ((c : Thread nD τ).loc main_arg0)) (m ((c : Thread nD τ).loc main_arg1)) (m ((c : Thread nD τ).loc main_arg2))) := by
  rw [Value.flushed3, out_eq]
  funext y
  obtain ⟨e0, e1, e2, e3, e4, e5⟩ := places t
  have b0 : (((cfg0.win 3).blk t).view.emb y 0).val = win0_3.index t 0 * 1024 + 1 * (y 0).val := rfl
  have b1 : (((cfg0.win 3).blk t).view.emb y 1).val = win0_3.index t 1 * 1024 + 1 * (y 1).val := rfl
  show k0_pay1 (F := Ideal) (iblk m c 0 t) (iblk m c 1 t) (iblk m c 2 t) ((cfg0.win 3).xinj (grid0.coords t) y)
    = whole _ _ _ (((cfg0.win 3).blk t).view.emb y)
  rw [block_product]
  unfold whole
  refine congrArg₂ (fun p q : EReal => p + q) ((congrArg (iblk m c 2 t : Vec Ideal S1024x1024 .f32) (show ((cfg0.win 3).xinj (grid0.coords t) y : S1024x1024.Idx) = ix2 (y 0) (y 1) from Cert.Products.pair _)).trans
    (read_e m c t (y 0) (y 1) (((cfg0.win 3).blk t).view.emb y) (by rw [b0, e4, Nat.one_mul]) (by rw [b1, e5, Nat.one_mul]))) ?_
  refine Finset.sum_congr rfl fun k _ => ?_
  exact congrArg₂ (fun p q : EReal => p * q)
    (read_x m c t (y 0) k (ix2 (((cfg0.win 3).blk t).view.emb y 0) k) (by show (((cfg0.win 3).blk t).view.emb y 0).val = _; rw [b0, e0, Nat.one_mul]) (by show k.val = _; omega))
    (read_w m c t (y 1) k (ix2 (((cfg0.win 3).blk t).view.emb y 1) k) (by show (((cfg0.win 3).blk t).view.emb y 1).val = _; rw [b1, e2, Nat.one_mul]) (by show k.val = _; omega))

theorem final (c : Dev nD) : (dats m 0 c).arrAt 3 cfg0.N = whole (m ((c : Thread nD τ).loc main_arg0)) (m ((c : Thread nD τ).loc main_arg1)) (m ((c : Thread nD τ).loc main_arg2)) :=
  (dats m 0 c).arrAt_eq_of_covers 3 _ (by decide +kernel) fun t _ y => congrFun (flushed_eq m c t) y

end Cert.AbInDxIdeal.Product

namespace Cert.AbInDxReferenceIdeal.Product

open Cert.AbInDxReferenceIdeal Cert.AbInDxReferenceIdeal.Gen Idealize.ShloMosaic Idealize.SL.Sem

/-- The reference's result is the same product. -/
theorem host_product (x : FVec Ideal S8192x3840 .bf16) (w : FVec Ideal S1024x3840 .bf16) (e : FVec Ideal S8192x1024 .f32) :
    addf e (Host.dotGeneral dot_S8192x3840_S1024x3840_S8192x1024_1_1_0_0_n_n none (extf .f32 x bitsLt_bf16_f32) (extf .f32 w bitsLt_bf16_f32))
      = Cert.AbInDxIdeal.Product.whole x w e := by
  funext i
  pointwise [Cert.AbInDxIdeal.Product.whole]

end Cert.AbInDxReferenceIdeal.Product

namespace Cert.Proof.AbInDx

open Idealize.ShloMosaic Idealize.SL.Sem

theorem frame_kernel : Cert.quiescent_AbInDx := fun m ρ _ => Cert.AbInDx.Gen.frame m ρ

theorem frame_kernelIdeal : Cert.quiescent_AbInDxIdeal := fun m ρ _ => Cert.AbInDxIdeal.Gen.frame m ρ

theorem frame_reference : Cert.quiescent_AbInDxReferenceIdeal := fun m ρ _ =>
  (θ_run Cert.AbInDxReferenceIdeal.defs _ _).mono (fun r h => ⟨fun c => (h c).2, sem_eq_zero_of_no_sems (by decide) r.2⟩)
    (Cert.AbInDxReferenceIdeal.Value.run (F := Ideal) m ρ)

theorem values : Cert.algebraic_AbInDxIdeal_AbInDxReferenceIdeal := fun m g m' g' _ hargs =>
  ⟨fun c => Cert.AbInDxIdeal.Product.whole (m ((c.tc : Thread Cert.AbInDxIdeal.nD Cert.AbInDxIdeal.τ).loc Cert.AbInDxIdeal.main_arg0)) (m ((c.tc : Thread Cert.AbInDxIdeal.nD Cert.AbInDxIdeal.τ).loc Cert.AbInDxIdeal.main_arg1)) (m ((c.tc : Thread Cert.AbInDxIdeal.nD Cert.AbInDxIdeal.τ).loc Cert.AbInDxIdeal.main_arg2)),
    (θ_run Cert.AbInDxIdeal.defs _ _).mono (fun r h c => ⟨(h c).1.trans (Cert.AbInDxIdeal.Product.final m c), (h c).2⟩)
      (Cert.AbInDxIdeal.Value.run_blocks (F := Ideal) m g),
    (θ_run Cert.AbInDxReferenceIdeal.defs _ _).mono (fun r h c => ⟨(h c).1.trans (by
        obtain ⟨h0, h1, h2⟩ := hargs c
        rw [h0, h1, h2]
        exact Cert.AbInDxReferenceIdeal.Product.host_product _ _ _), (h c).2⟩)
      (Cert.AbInDxReferenceIdeal.Value.run (F := Ideal) m' g')⟩

end Cert.Proof.AbInDx

end
-- ==== Proof.FfnDownDwValue.lean ====
/- The down product's gradient in its weights: the blocks that the call writes are the blocks of the whole product. -/
module

public import proofs.«01_k».proof.Defs
public import proofs.«01_k».proof.Proof.Products
public import proofs.«01_k».proof.Proof.Gen.FfnDownDw.Frame
public import proofs.«01_k».proof.Proof.Gen.FfnDownDwIdeal.Value
public import proofs.«01_k».proof.Proof.Gen.FfnDownDwReferenceIdeal.Run
public import Idealize.ShloMosaic.Lib.Pipeline.ValueKit

@[expose] public section

noncomputable section

namespace Cert.FfnDownDwIdeal.Product

open Cert.FfnDownDwIdeal Cert.FfnDownDwIdeal.Gen Idealize.ShloMosaic Idealize.ShloMosaic.TcCoe Idealize.SL.Sem
open Cert.Products (zeros)
open Idealize.ShloMosaic.Pipeline (Dat)

variable (m : (ℓ : Loc nD τ sig) → Buf (Elt Ideal) ℓ) (ρ : Dev nD → PrngReg)

/-- The product of the whole arrays. -/
def whole (x : S8192x2816.Idx → EReal) (w : S8192x1024.Idx → EReal) : S2816x1024.Idx → EReal :=
  fun i => ∑ k : Fin 8192, x (ix2 k (i 0)) * w (ix2 k (i 1))

/-- The product of one pair of blocks. -/
def part (x : Vec Ideal S2048x1408 .bf16) (w : Vec Ideal S2048x1024 .bf16) : S1408x1024.Idx → EReal :=
  fun j => ∑ k : Fin 2048, x (ix2 k (j 0)) * w (ix2 k (j 1))

theorem block_product (x : Vec Ideal S2048x1408 .bf16) (w : Vec Ideal S2048x1024 .bf16) (j : S1408x1024.Idx) : k0_pay1 (F := Ideal) x w j = part x w j := by
  pointwise [k0_pay1, part]

section Steps

variable (c : Dev nD) (i : grid0.Coords) (a3 : Memref sig .tc .vmem S2048x1408 .bf16) (g3 : a3.IsWhole) (a4 : Memref sig .tc .vmem S2048x1024 .bf16) (g4 : a4.IsWhole)
    (a5 : Memref sig .tc .vmem S1408x1024 .bf16) (g5 : a5.IsWhole) (a6 : Memref sig .tc .vmem S1408x1024 .f32) (g6 : a6.IsWhole)

/-- What the first of four steps leaves in the accumulator. -/
theorem first_eq (h0 : cond0_0 i) (h1 : ¬cond0_1 i) (h2 : ¬cond0_2 i) (x : Vec Ideal S2048x1408 .bf16) (w : Vec Ideal S2048x1024 .bf16) :
    sout0_A_0 c i a3 g3 a4 g4 a5 g5 a6 g6 h0 h1 h2 x w
      = k0_pay1 (F := Ideal) x w := by
  unfold sout0_A_0
  rw [View.read_writes_eq_canon _ _ _ (scover0_A_0 _ _ _ _ _ _ _ _ _ _ _ _ _ _ _)]
  unfold kernelRun0_A
  dsimp only
  rw [View.canon_unit_zero zeros]
  unfold k0_pay2
  simp only [View.readAt_eq_ld, Memref.IsWhole.read_unread, View.ld_unit_zero (S := S2048x1408) zeros, View.ld_unit_zero (S := S2048x1024) zeros, View.ld_unit_zero (S := S1408x1024) zeros, shapeCast_self]

/-- The second and third steps add to it. -/
theorem next_eq (h0 : ¬cond0_0 i) (h1 : cond0_1 i) (h2 : ¬cond0_2 i) (x : Vec Ideal S2048x1408 .bf16) (w : Vec Ideal S2048x1024 .bf16) (acc : Vec Ideal S1408x1024 .f32) :
    sout0_B_0 c i a3 g3 a4 g4 a5 g5 a6 g6 h0 h1 h2 x w acc
      = addf acc (k0_pay1 (F := Ideal) x w) := by
  unfold sout0_B_0
  rw [View.read_writes_eq_canon _ _ _ (scover0_B_0 _ _ _ _ _ _ _ _ _ _ _ _ _ _ _ _)]
  unfold kernelRun0_B
  dsimp only
  rw [View.canon_unit_zero zeros]
  unfold k0_pay3
  simp only [View.readAt_eq_ld, Memref.IsWhole.read_unread, View.ld_unit_zero (S := S2048x1408) zeros, View.ld_unit_zero (S := S2048x1024) zeros, View.ld_unit_zero (S := S1408x1024) zeros, shapeCast_self]

/-- The fourth writes the sum to the result. -/
theorem last_eq (h0 : ¬cond0_0 i) (h1 : ¬cond0_1 i) (h2 : cond0_2 i) (x : Vec Ideal S2048x1408 .bf16) (w : Vec Ideal S2048x1024 .bf16) (acc : Vec Ideal S1408x1024 .f32) (j : S1408x1024.Idx) :
    out0_C_2 c i a3 g3 a4 g4 a5 g5 a6 g6 h0 h1 h2 x w acc j
      = acc j + part x w j := by
  unfold out0_C_2
  rw [View.read_writes_eq_canon _ _ _ (cover0_C_2 _ _ _ _ _ _ _ _ _ _ _ _ _ _ _ _)]
  unfold kernelRun0_C
  dsimp only
  rw [View.canon_unit_zero zeros]
  unfold k0_pay4
  simp only [View.readAt_eq_ld, Memref.IsWhole.read_unread, View.ld_unit_zero (S := S2048x1408) zeros, View.ld_unit_zero (S := S2048x1024) zeros, View.ld_unit_zero (S := S1408x1024) zeros, shapeCast_self]
  rw [← block_product]
  pointwise

end Steps

/-- The product that point `n` adds. -/
def summand (c : Dev nD) (n : ℕ) : S1408x1024.Idx → EReal :=
  if h : n < cfg0.N then part (iblk m c 0 ⟨n, h⟩) (iblk m c 1 ⟨n, h⟩) else 0

theorem summand_eq (c : Dev nD) (t : Fin cfg0.N) : summand m c t.val = part (iblk m c 0 t) (iblk m c 1 t) := dif_pos t.isLt

/-- The accumulator after each of the first three steps. -/
theorem acc_eq (c : Dev nD) (t : Fin cfg0.N) (ht : t.val % 4 ≤ 2) (j : S1408x1024.Idx) :
    (outsAt0 m c t.val t.isLt).2 j = ∑ s ∈ Finset.range (t.val % 4 + 1), summand m c (4 * (t.val / 4) + s) j := by
  rw [Value.soutsAt0_0_eq]
  refine (Pipeline.accAt_add_apply _ _ (fun _ => (0 : EReal)) (summand m c) (4 * (t.val / 4)) 2 (fun h i => ?_) (fun n h acc i hl hu => ?_) _ ht _ j).trans (zero_add _)
  · have e0 : 4 * (t.val / 4) % 4 = 0 := by omega
    unfold Value.scAt0_0
    rw [dif_pos e0, dif_neg (by omega), dif_neg (by omega), zero_add]
    exact (congrFun (first_eq c _ _ _ _ _ _ _ _ _ _ _ _ _ _) i).trans ((block_product _ _ i).trans (congrFun (summand_eq m c ⟨_, h⟩) i).symm)
  · unfold Value.scAt0_0
    rw [dif_neg (by omega), dif_pos (by omega), dif_neg (by omega)]
    exact (congrFun (next_eq c _ _ _ _ _ _ _ _ _ _ _ _ _ _ _) i).trans (congrArg (fun q : EReal => acc i + q)
      ((block_product _ _ i).trans (congrFun (summand_eq m c ⟨_, h⟩) i).symm))

/-- What a point that writes a block of the result writes: the four products' sum. -/
theorem written_eq (c : Dev nD) (t : Fin cfg0.N) (ht : t.val % 4 = 3) (j : S1408x1024.Idx) :
    (outsAt0 m c t.val t.isLt).1 j = ∑ s ∈ Finset.range 4, summand m c (4 * (t.val / 4) + s) j := by
  have hs := acc_eq m c ⟨t.val - 1, by have := t.isLt; omega⟩ (by dsimp only; omega) j
  rw [outsAt0_C m c t (by omega) (by omega) ht]
  dsimp only at hs ⊢
  rw [last_eq, hs, Finset.sum_range_succ _ 3]
  rw [show (t.val - 1) % 4 + 1 = 3 by omega, show 4 * ((t.val - 1) / 4) = 4 * (t.val / 4) by omega]
  exact congrArg (fun q : EReal => _ + q) ((congrFun (summand_eq m c t) j).symm.trans (by rw [show 4 * (t.val / 4) + 3 = t.val by omega]))

/-- Which blocks a grid point reads and writes. -/
theorem places : ∀ t : Fin cfg0.N, win0_0.index t 0 = t.val % 4 ∧ win0_0.index t 1 = win0_2.index t 0 ∧ win0_1.index t 0 = t.val % 4
    ∧ win0_1.index t 1 = 0 + win0_2.index t 1 :=
  (by decide +kernel : ∀ t : Fin grid0.N, _)

/-- Four points in a row write the same block. -/
theorem same_block : ∀ t t' : Fin cfg0.N, t.val / 4 = t'.val / 4 → win0_2.index t 0 = win0_2.index t' 0 ∧ win0_2.index t 1 = win0_2.index t' 1 :=
  (by decide +kernel : ∀ t t' : Fin grid0.N, _)

/-- Every block of the result lies inside it. -/
theorem inside : ∀ t : Fin cfg0.N, win0_2.index t 0 < 2 ∧ win0_2.index t 1 < 1 :=
  (by decide +kernel : ∀ t : Fin grid0.N, _)

theorem read_x (c : Dev nD) (t : Fin cfg0.N) (r : Fin 2048) (l : Fin 1408) (i : S8192x2816.Idx)
    (h0 : (i 0).val = win0_0.index t 0 * 2048 + r.val) (h1 : (i 1).val = win0_0.index t 1 * 1408 + l.val) :
    (iblk m c 0 t : Vec Ideal S2048x1408 .bf16) (ix2 r l) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 2048 + 1 * r.val = (i 0).val; omega
  | ⟨1, _⟩ => show win0_0.index t 1 * 1408 + 1 * l.val = (i 1).val; omega

theorem read_w (c : Dev nD) (t : Fin cfg0.N) (r : Fin 2048) (l : Fin 1024) (i : S8192x1024.Idx)
    (h0 : (i 0).val = win0_1.index t 0 * 2048 + r.val) (h1 : (i 1).val = win0_1.index t 1 * 1024 + l.val) :
    (iblk m c 1 t : Vec Ideal S2048x1024 .bf16) (ix2 r l) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 2048 + 1 * r.val = (i 0).val; omega
  | ⟨1, _⟩ => show win0_1.index t 1 * 1024 + 1 * l.val = (i 1).val; omega

/-- One term of the product of the whole arrays. -/
def term (x : S8192x2816.Idx → EReal) (w : S8192x1024.Idx → EReal) (i0 i1 : ℕ) (h0 : i0 < 2816) (h1 : i1 < 1024) (k : ℕ) : EReal :=
  if h : k < 8192 then x (ix2 ⟨k, h⟩ ⟨i0, by omega⟩) * w (ix2 ⟨k, h⟩ ⟨i1, by omega⟩) else 0

/-- The products of the blocks of four points in a row make up a block of the product of the whole arrays. -/
theorem four_eq (c : Dev nD) (t : Fin cfg0.N) (ht : t.val % 4 = 3) (a : Fin 1408) (b : Fin 1024) (i : S2816x1024.Idx)
    (h0 : (i 0).val = win0_2.index t 0 * 1408 + a.val) (h1 : (i 1).val = win0_2.index t 1 * 1024 + b.val) :
    ∑ s ∈ Finset.range 4, summand m c (4 * (t.val / 4) + s) (ix2 a b) = whole (m ((c : Thread nD τ).loc main_arg0)) (m ((c : Thread nD τ).loc main_arg1)) i := by
  have i0 : (i 0 : Nat) < 2816 := (i 0).isLt
  have i1 : (i 1 : Nat) < 1024 := (i 1).isLt
  have l0 := (inside t).1
  have l1 := (inside t).2
  refine Eq.trans (Finset.sum_congr rfl fun s hs => ?_) ((Cert.Products.sum_quarters (term (m ((c : Thread nD τ).loc main_arg0)) (m ((c : Thread nD τ).loc main_arg1)) (i 0).val (i 1).val i0 i1)).trans
    (Finset.sum_congr rfl fun k _ => dif_pos k.isLt))
  have hs4 : s < 4 := Finset.mem_range.mp hs
  have hp : 4 * (t.val / 4) + s < cfg0.N := by have := t.isLt; omega
  obtain ⟨e0, e1, e2, e3⟩ := places ⟨_, hp⟩
  obtain ⟨f0, f1⟩ := same_block ⟨_, hp⟩ t (by dsimp only; omega)
  have em : (4 * (t.val / 4) + s) % 4 = s := by omega
  refine (congrFun (summand_eq m c ⟨_, hp⟩) (ix2 a b)).trans (Finset.sum_congr rfl fun k _ => ?_)
  have hk : s * 2048 + k.val < 8192 := by have := k.isLt; omega
  refine Eq.trans ?_ (dif_pos hk).symm
  exact congrArg₂ (fun p q : EReal => p * q)
    (read_x m c ⟨_, hp⟩ k a _ (by show s * 2048 + k.val = _; rw [e0]; dsimp only; rw [em]) (by show (i 0).val = _; rw [e1, f0, h0]))
    (read_w m c ⟨_, hp⟩ k b _ (by show s * 2048 + k.val = _; rw [e2]; dsimp only; rw [em]) (by show (i 1).val = _; rw [e3, f1, h1]; omega))

theorem flushed_eq (c : Dev nD) (t : Fin cfg0.N) (hf : (cfg0.win 2).flush t = true) :
    (dats m 0 c).flushed 2 t = ((cfg0.win 2).blk t).view.read (Elt Ideal) (whole (m ((c : Thread nD τ).loc main_arg0)) (m ((c : Thread nD τ).loc main_arg1))) := by
  have ht : t.val % 4 = 3 := (flush0_2 t).mp hf
  have hw := written_eq m c t ht
  rw [Value.flushed2]
  generalize (outsAt0 m c t.val t.isLt).1 = d at hw ⊢
  generalize hG : whole (m ((c : Thread nD τ).loc main_arg0)) (m ((c : Thread nD τ).loc main_arg1)) = G
  funext y
  show d ((cfg0.win 2).xinj (grid0.coords t) y) = G (((cfg0.win 2).blk t).view.emb y)
  rw [hw, ← hG]
  have b0 : (((cfg0.win 2).blk t).view.emb y 0).val = win0_2.index t 0 * 1408 + 1 * (y 0).val := rfl
  have b1 : (((cfg0.win 2).blk t).view.emb y 1).val = win0_2.index t 1 * 1024 + 1 * (y 1).val := rfl
  rw [show ((cfg0.win 2).xinj (grid0.coords t) y : S1408x1024.Idx) = ix2 (y 0) (y 1) from Cert.Products.pair _]
  exact four_eq m c t ht (y 0) (y 1) _ (by rw [b0, Nat.one_mul]) (by rw [b1, Nat.one_mul])

/-- The blocks that are written make up the whole result. -/
theorem covered : (cfg0.win 2).Covers := by decide +kernel

theorem final (c : Dev nD) : (dats m 0 c).arrAt 2 cfg0.N = whole (m ((c : Thread nD τ).loc main_arg0)) (m ((c : Thread nD τ).loc main_arg1)) :=
  (dats m 0 c).arrAt_eq_of_cover 2 _ (flushed_eq m c) (covered.cover _ (Memref.isWhole_whole _))

end Cert.FfnDownDwIdeal.Product

namespace Cert.FfnDownDwReferenceIdeal.Product

open Cert.FfnDownDwReferenceIdeal Cert.FfnDownDwReferenceIdeal.Gen Idealize.ShloMosaic Idealize.SL.Sem

/-- The reference's result is the same product. -/
theorem host_product (x : FVec Ideal S8192x2816 .bf16) (w : FVec Ideal S8192x1024 .bf16) :
    truncf .bf16 (transpose S2816x1024 [1, 0] (Host.dotGeneral dot_S8192x1024_S8192x2816_S1024x2816_0_0_1_1_n_n none (extf .f32 w bitsLt_bf16_f32) (extf .f32 x bitsLt_bf16_f32)) transposes_S1024x2816_S2816x1024_1_0) bitsLt_bf16_f32
      = Cert.FfnDownDwIdeal.Product.whole x w := by
  funext i
  pointwise [Cert.FfnDownDwIdeal.Product.whole]
  exact Finset.sum_congr rfl fun k _ => mul_comm _ _

end Cert.FfnDownDwReferenceIdeal.Product

namespace Cert.Proof.FfnDownDw

open Idealize.ShloMosaic Idealize.SL.Sem

theorem frame_kernel : Cert.quiescent_FfnDownDw := fun m ρ _ => Cert.FfnDownDw.Gen.frame m ρ

theorem frame_kernelIdeal : Cert.quiescent_FfnDownDwIdeal := fun m ρ _ => Cert.FfnDownDwIdeal.Gen.frame m ρ

theorem frame_reference : Cert.quiescent_FfnDownDwReferenceIdeal := fun m ρ _ =>
  (θ_run Cert.FfnDownDwReferenceIdeal.defs _ _).mono (fun r h => ⟨fun c => (h c).2, sem_eq_zero_of_no_sems (by decide) r.2⟩)
    (Cert.FfnDownDwReferenceIdeal.Value.run (F := Ideal) m ρ)

theorem values : Cert.algebraic_FfnDownDwIdeal_FfnDownDwReferenceIdeal := fun m g m' g' _ hargs =>
  ⟨fun c => Cert.FfnDownDwIdeal.Product.whole (m ((c.tc : Thread Cert.FfnDownDwIdeal.nD Cert.FfnDownDwIdeal.τ).loc Cert.FfnDownDwIdeal.main_arg0)) (m ((c.tc : Thread Cert.FfnDownDwIdeal.nD Cert.FfnDownDwIdeal.τ).loc Cert.FfnDownDwIdeal.main_arg1)),
    (θ_run Cert.FfnDownDwIdeal.defs _ _).mono (fun r h c => ⟨(h c).1.trans (Cert.FfnDownDwIdeal.Product.final m c), (h c).2⟩)
      (Cert.FfnDownDwIdeal.Value.run_blocks (F := Ideal) m g),
    (θ_run Cert.FfnDownDwReferenceIdeal.defs _ _).mono (fun r h c => ⟨(h c).1.trans (by
        obtain ⟨h0, h1⟩ := hargs c
        rw [h0, h1]
        exact Cert.FfnDownDwReferenceIdeal.Product.host_product _ _), (h c).2⟩)
      (Cert.FfnDownDwReferenceIdeal.Value.run (F := Ideal) m' g')⟩

end Cert.Proof.FfnDownDw

end
-- ==== Proof.MixOutDwValue.lean ====
/- The output product's gradient in its weights: the blocks that the call writes are the blocks of the whole product. -/
module

public import proofs.«01_k».proof.Defs
public import proofs.«01_k».proof.Proof.Products
public import proofs.«01_k».proof.Proof.Gen.MixOutDw.Frame
public import proofs.«01_k».proof.Proof.Gen.MixOutDwIdeal.Value
public import proofs.«01_k».proof.Proof.Gen.MixOutDwReferenceIdeal.Run
public import Idealize.ShloMosaic.Lib.Pipeline.ValueKit

@[expose] public section

noncomputable section

namespace Cert.MixOutDwIdeal.Product

open Cert.MixOutDwIdeal Cert.MixOutDwIdeal.Gen Idealize.ShloMosaic Idealize.ShloMosaic.TcCoe Idealize.SL.Sem
open Cert.Products (zeros)
open Idealize.ShloMosaic.Pipeline (Dat)

variable (m : (ℓ : Loc nD τ sig) → Buf (Elt Ideal) ℓ) (ρ : Dev nD → PrngReg)

/-- The product of the whole arrays. -/
def whole (x : S8192x1024.Idx → EReal) (w : S8192x1024.Idx → EReal) : S1024x1024.Idx → EReal :=
  fun i => ∑ k : Fin 8192, x (ix2 k (i 0)) * w (ix2 k (i 1))

/-- The product of one pair of blocks. -/
def part (x : Vec Ideal S2048x1024 .bf16) (w : Vec Ideal S2048x1024 .bf16) : S1024x1024.Idx → EReal :=
  fun j => ∑ k : Fin 2048, x (ix2 k (j 0)) * w (ix2 k (j 1))

theorem block_product (x : Vec Ideal S2048x1024 .bf16) (w : Vec Ideal S2048x1024 .bf16) (j : S1024x1024.Idx) : k0_pay1 (F := Ideal) x w j = part x w j := by
  pointwise [k0_pay1, part]

section Steps

variable (c : Dev nD) (i : grid0.Coords) (a3 : Memref sig .tc .vmem S2048x1024 .bf16) (g3 : a3.IsWhole) (a4 : Memref sig .tc .vmem S2048x1024 .bf16) (g4 : a4.IsWhole)
    (a5 : Memref sig .tc .vmem S1024x1024 .bf16) (g5 : a5.IsWhole) (a6 : Memref sig .tc .vmem S1024x1024 .f32) (g6 : a6.IsWhole)

/-- What the first of four steps leaves in the accumulator. -/
theorem first_eq (h0 : cond0_0 i) (h1 : ¬cond0_1 i) (h2 : ¬cond0_2 i) (x : Vec Ideal S2048x1024 .bf16) (w : Vec Ideal S2048x1024 .bf16) :
    sout0_A_0 c i a3 g3 a4 g4 a5 g5 a6 g6 h0 h1 h2 x w
      = k0_pay1 (F := Ideal) x w := by
  unfold sout0_A_0
  rw [View.read_writes_eq_canon _ _ _ (scover0_A_0 _ _ _ _ _ _ _ _ _ _ _ _ _ _ _)]
  unfold kernelRun0_A
  dsimp only
  rw [View.canon_unit_zero zeros]
  unfold k0_pay2
  simp only [View.readAt_eq_ld, Memref.IsWhole.read_unread, View.ld_unit_zero (S := S2048x1024) zeros, View.ld_unit_zero (S := S1024x1024) zeros, shapeCast_self]

/-- The second and third steps add to it. -/
theorem next_eq (h0 : ¬cond0_0 i) (h1 : cond0_1 i) (h2 : ¬cond0_2 i) (x : Vec Ideal S2048x1024 .bf16) (w : Vec Ideal S2048x1024 .bf16) (acc : Vec Ideal S1024x1024 .f32) :
    sout0_B_0 c i a3 g3 a4 g4 a5 g5 a6 g6 h0 h1 h2 x w acc
      = addf acc (k0_pay1 (F := Ideal) x w) := by
  unfold sout0_B_0
  rw [View.read_writes_eq_canon _ _ _ (scover0_B_0 _ _ _ _ _ _ _ _ _ _ _ _ _ _ _ _)]
  unfold kernelRun0_B
  dsimp only
  rw [View.canon_unit_zero zeros]
  unfold k0_pay3
  simp only [View.readAt_eq_ld, Memref.IsWhole.read_unread, View.ld_unit_zero (S := S2048x1024) zeros, View.ld_unit_zero (S := S1024x1024) zeros, shapeCast_self]

/-- The fourth writes the sum to the result. -/
theorem last_eq (h0 : ¬cond0_0 i) (h1 : ¬cond0_1 i) (h2 : cond0_2 i) (x : Vec Ideal S2048x1024 .bf16) (w : Vec Ideal S2048x1024 .bf16) (acc : Vec Ideal S1024x1024 .f32) (j : S1024x1024.Idx) :
    out0_C_2 c i a3 g3 a4 g4 a5 g5 a6 g6 h0 h1 h2 x w acc j
      = acc j + part x w j := by
  unfold out0_C_2
  rw [View.read_writes_eq_canon _ _ _ (cover0_C_2 _ _ _ _ _ _ _ _ _ _ _ _ _ _ _ _)]
  unfold kernelRun0_C
  dsimp only
  rw [View.canon_unit_zero zeros]
  unfold k0_pay4
  simp only [View.readAt_eq_ld, Memref.IsWhole.read_unread, View.ld_unit_zero (S := S2048x1024) zeros, View.ld_unit_zero (S := S1024x1024) zeros, shapeCast_self]
  rw [← block_product]
  pointwise

end Steps

/-- The product that point `n` adds. -/
def summand (c : Dev nD) (n : ℕ) : S1024x1024.Idx → EReal :=
  if h : n < cfg0.N then part (iblk m c 0 ⟨n, h⟩) (iblk m c 1 ⟨n, h⟩) else 0

theorem summand_eq (c : Dev nD) (t : Fin cfg0.N) : summand m c t.val = part (iblk m c 0 t) (iblk m c 1 t) := dif_pos t.isLt

/-- The accumulator after each of the first three steps. -/
theorem acc_eq (c : Dev nD) (t : Fin cfg0.N) (ht : t.val % 4 ≤ 2) (j : S1024x1024.Idx) :
    (outsAt0 m c t.val t.isLt).2 j = ∑ s ∈ Finset.range (t.val % 4 + 1), summand m c (4 * (t.val / 4) + s) j := by
  rw [Value.soutsAt0_0_eq]
  refine (Pipeline.accAt_add_apply _ _ (fun _ => (0 : EReal)) (summand m c) (4 * (t.val / 4)) 2 (fun h i => ?_) (fun n h acc i hl hu => ?_) _ ht _ j).trans (zero_add _)
  · have e0 : 4 * (t.val / 4) % 4 = 0 := by omega
    unfold Value.scAt0_0
    rw [dif_pos e0, dif_neg (by omega), dif_neg (by omega), zero_add]
    exact (congrFun (first_eq c _ _ _ _ _ _ _ _ _ _ _ _ _ _) i).trans ((block_product _ _ i).trans (congrFun (summand_eq m c ⟨_, h⟩) i).symm)
  · unfold Value.scAt0_0
    rw [dif_neg (by omega), dif_pos (by omega), dif_neg (by omega)]
    exact (congrFun (next_eq c _ _ _ _ _ _ _ _ _ _ _ _ _ _ _) i).trans (congrArg (fun q : EReal => acc i + q)
      ((block_product _ _ i).trans (congrFun (summand_eq m c ⟨_, h⟩) i).symm))

/-- What a point that writes a block of the result writes: the four products' sum. -/
theorem written_eq (c : Dev nD) (t : Fin cfg0.N) (ht : t.val % 4 = 3) (j : S1024x1024.Idx) :
    (outsAt0 m c t.val t.isLt).1 j = ∑ s ∈ Finset.range 4, summand m c (4 * (t.val / 4) + s) j := by
  have hs := acc_eq m c ⟨t.val - 1, by have := t.isLt; omega⟩ (by dsimp only; omega) j
  rw [outsAt0_C m c t (by omega) (by omega) ht]
  dsimp only at hs ⊢
  rw [last_eq, hs, Finset.sum_range_succ _ 3]
  rw [show (t.val - 1) % 4 + 1 = 3 by omega, show 4 * ((t.val - 1) / 4) = 4 * (t.val / 4) by omega]
  exact congrArg (fun q : EReal => _ + q) ((congrFun (summand_eq m c t) j).symm.trans (by rw [show 4 * (t.val / 4) + 3 = t.val by omega]))

/-- Which blocks a grid point reads and writes. -/
theorem places : ∀ t : Fin cfg0.N, win0_0.index t 0 = t.val % 4 ∧ win0_0.index t 1 = win0_2.index t 0 ∧ win0_1.index t 0 = t.val % 4
    ∧ win0_1.index t 1 = 0 + win0_2.index t 1 :=
  (by decide +kernel : ∀ t : Fin grid0.N, _)

/-- Four points in a row write the same block. -/
theorem same_block : ∀ t t' : Fin cfg0.N, t.val / 4 = t'.val / 4 → win0_2.index t 0 = win0_2.index t' 0 ∧ win0_2.index t 1 = win0_2.index t' 1 :=
  (by decide +kernel : ∀ t t' : Fin grid0.N, _)

/-- Every block of the result lies inside it. -/
theorem inside : ∀ t : Fin cfg0.N, win0_2.index t 0 < 1 ∧ win0_2.index t 1 < 1 :=
  (by decide +kernel : ∀ t : Fin grid0.N, _)

theorem read_x (c : Dev nD) (t : Fin cfg0.N) (r : Fin 2048) (l : Fin 1024) (i : S8192x1024.Idx)
    (h0 : (i 0).val = win0_0.index t 0 * 2048 + r.val) (h1 : (i 1).val = win0_0.index t 1 * 1024 + l.val) :
    (iblk m c 0 t : Vec Ideal S2048x1024 .bf16) (ix2 r l) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 2048 + 1 * r.val = (i 0).val; omega
  | ⟨1, _⟩ => show win0_0.index t 1 * 1024 + 1 * l.val = (i 1).val; omega

theorem read_w (c : Dev nD) (t : Fin cfg0.N) (r : Fin 2048) (l : Fin 1024) (i : S8192x1024.Idx)
    (h0 : (i 0).val = win0_1.index t 0 * 2048 + r.val) (h1 : (i 1).val = win0_1.index t 1 * 1024 + l.val) :
    (iblk m c 1 t : Vec Ideal S2048x1024 .bf16) (ix2 r l) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 2048 + 1 * r.val = (i 0).val; omega
  | ⟨1, _⟩ => show win0_1.index t 1 * 1024 + 1 * l.val = (i 1).val; omega

/-- One term of the product of the whole arrays. -/
def term (x : S8192x1024.Idx → EReal) (w : S8192x1024.Idx → EReal) (i0 i1 : ℕ) (h0 : i0 < 1024) (h1 : i1 < 1024) (k : ℕ) : EReal :=
  if h : k < 8192 then x (ix2 ⟨k, h⟩ ⟨i0, by omega⟩) * w (ix2 ⟨k, h⟩ ⟨i1, by omega⟩) else 0

/-- The products of the blocks of four points in a row make up a block of the product of the whole arrays. -/
theorem four_eq (c : Dev nD) (t : Fin cfg0.N) (ht : t.val % 4 = 3) (a : Fin 1024) (b : Fin 1024) (i : S1024x1024.Idx)
    (h0 : (i 0).val = win0_2.index t 0 * 1024 + a.val) (h1 : (i 1).val = win0_2.index t 1 * 1024 + b.val) :
    ∑ s ∈ Finset.range 4, summand m c (4 * (t.val / 4) + s) (ix2 a b) = whole (m ((c : Thread nD τ).loc main_arg0)) (m ((c : Thread nD τ).loc main_arg1)) i := by
  have i0 : (i 0 : Nat) < 1024 := (i 0).isLt
  have i1 : (i 1 : Nat) < 1024 := (i 1).isLt
  have l0 := (inside t).1
  have l1 := (inside t).2
  refine Eq.trans (Finset.sum_congr rfl fun s hs => ?_) ((Cert.Products.sum_quarters (term (m ((c : Thread nD τ).loc main_arg0)) (m ((c : Thread nD τ).loc main_arg1)) (i 0).val (i 1).val i0 i1)).trans
    (Finset.sum_congr rfl fun k _ => dif_pos k.isLt))
  have hs4 : s < 4 := Finset.mem_range.mp hs
  have hp : 4 * (t.val / 4) + s < cfg0.N := by have := t.isLt; omega
  obtain ⟨e0, e1, e2, e3⟩ := places ⟨_, hp⟩
  obtain ⟨f0, f1⟩ := same_block ⟨_, hp⟩ t (by dsimp only; omega)
  have em : (4 * (t.val / 4) + s) % 4 = s := by omega
  refine (congrFun (summand_eq m c ⟨_, hp⟩) (ix2 a b)).trans (Finset.sum_congr rfl fun k _ => ?_)
  have hk : s * 2048 + k.val < 8192 := by have := k.isLt; omega
  refine Eq.trans ?_ (dif_pos hk).symm
  exact congrArg₂ (fun p q : EReal => p * q)
    (read_x m c ⟨_, hp⟩ k a _ (by show s * 2048 + k.val = _; rw [e0]; dsimp only; rw [em]) (by show (i 0).val = _; rw [e1, f0, h0]))
    (read_w m c ⟨_, hp⟩ k b _ (by show s * 2048 + k.val = _; rw [e2]; dsimp only; rw [em]) (by show (i 1).val = _; rw [e3, f1, h1]; omega))

theorem flushed_eq (c : Dev nD) (t : Fin cfg0.N) (hf : (cfg0.win 2).flush t = true) :
    (dats m 0 c).flushed 2 t = ((cfg0.win 2).blk t).view.read (Elt Ideal) (whole (m ((c : Thread nD τ).loc main_arg0)) (m ((c : Thread nD τ).loc main_arg1))) := by
  have ht : t.val % 4 = 3 := (flush0_2 t).mp hf
  have hw := written_eq m c t ht
  rw [Value.flushed2]
  generalize (outsAt0 m c t.val t.isLt).1 = d at hw ⊢
  generalize hG : whole (m ((c : Thread nD τ).loc main_arg0)) (m ((c : Thread nD τ).loc main_arg1)) = G
  funext y
  show d ((cfg0.win 2).xinj (grid0.coords t) y) = G (((cfg0.win 2).blk t).view.emb y)
  rw [hw, ← hG]
  have b0 : (((cfg0.win 2).blk t).view.emb y 0).val = win0_2.index t 0 * 1024 + 1 * (y 0).val := rfl
  have b1 : (((cfg0.win 2).blk t).view.emb y 1).val = win0_2.index t 1 * 1024 + 1 * (y 1).val := rfl
  rw [show ((cfg0.win 2).xinj (grid0.coords t) y : S1024x1024.Idx) = ix2 (y 0) (y 1) from Cert.Products.pair _]
  exact four_eq m c t ht (y 0) (y 1) _ (by rw [b0, Nat.one_mul]) (by rw [b1, Nat.one_mul])

/-- The blocks that are written make up the whole result. -/
theorem covered : (cfg0.win 2).Covers := by decide +kernel

theorem final (c : Dev nD) : (dats m 0 c).arrAt 2 cfg0.N = whole (m ((c : Thread nD τ).loc main_arg0)) (m ((c : Thread nD τ).loc main_arg1)) :=
  (dats m 0 c).arrAt_eq_of_cover 2 _ (flushed_eq m c) (covered.cover _ (Memref.isWhole_whole _))

end Cert.MixOutDwIdeal.Product

namespace Cert.MixOutDwReferenceIdeal.Product

open Cert.MixOutDwReferenceIdeal Cert.MixOutDwReferenceIdeal.Gen Idealize.ShloMosaic Idealize.SL.Sem

/-- The reference's result is the same product. -/
theorem host_product (x : FVec Ideal S8192x1024 .bf16) (w : FVec Ideal S8192x1024 .bf16) :
    truncf .bf16 (transpose S1024x1024 [1, 0] (Host.dotGeneral dot_S8192x1024_S8192x1024_S1024x1024_0_0_1_1_n_n none (extf .f32 w bitsLt_bf16_f32) (extf .f32 x bitsLt_bf16_f32)) transposes_S1024x1024_S1024x1024_1_0) bitsLt_bf16_f32
      = Cert.MixOutDwIdeal.Product.whole x w := by
  funext i
  pointwise [Cert.MixOutDwIdeal.Product.whole]
  exact Finset.sum_congr rfl fun k _ => mul_comm _ _

end Cert.MixOutDwReferenceIdeal.Product

namespace Cert.Proof.MixOutDw

open Idealize.ShloMosaic Idealize.SL.Sem

theorem frame_kernel : Cert.quiescent_MixOutDw := fun m ρ _ => Cert.MixOutDw.Gen.frame m ρ

theorem frame_kernelIdeal : Cert.quiescent_MixOutDwIdeal := fun m ρ _ => Cert.MixOutDwIdeal.Gen.frame m ρ

theorem frame_reference : Cert.quiescent_MixOutDwReferenceIdeal := fun m ρ _ =>
  (θ_run Cert.MixOutDwReferenceIdeal.defs _ _).mono (fun r h => ⟨fun c => (h c).2, sem_eq_zero_of_no_sems (by decide) r.2⟩)
    (Cert.MixOutDwReferenceIdeal.Value.run (F := Ideal) m ρ)

theorem values : Cert.algebraic_MixOutDwIdeal_MixOutDwReferenceIdeal := fun m g m' g' _ hargs =>
  ⟨fun c => Cert.MixOutDwIdeal.Product.whole (m ((c.tc : Thread Cert.MixOutDwIdeal.nD Cert.MixOutDwIdeal.τ).loc Cert.MixOutDwIdeal.main_arg0)) (m ((c.tc : Thread Cert.MixOutDwIdeal.nD Cert.MixOutDwIdeal.τ).loc Cert.MixOutDwIdeal.main_arg1)),
    (θ_run Cert.MixOutDwIdeal.defs _ _).mono (fun r h c => ⟨(h c).1.trans (Cert.MixOutDwIdeal.Product.final m c), (h c).2⟩)
      (Cert.MixOutDwIdeal.Value.run_blocks (F := Ideal) m g),
    (θ_run Cert.MixOutDwReferenceIdeal.defs _ _).mono (fun r h c => ⟨(h c).1.trans (by
        obtain ⟨h0, h1⟩ := hargs c
        rw [h0, h1]
        exact Cert.MixOutDwReferenceIdeal.Product.host_product _ _), (h c).2⟩)
      (Cert.MixOutDwReferenceIdeal.Value.run (F := Ideal) m' g')⟩

end Cert.Proof.MixOutDw

end
-- ==== Proof.FfnUpDwGateValue.lean ====
/- The gate half's gradient in its weights: the blocks that the call writes are the blocks of the whole product. -/
module

public import proofs.«01_k».proof.Defs
public import proofs.«01_k».proof.Proof.Products
public import proofs.«01_k».proof.Proof.Gen.FfnUpDwGate.Frame
public import proofs.«01_k».proof.Proof.Gen.FfnUpDwGateIdeal.Value
public import proofs.«01_k».proof.Proof.Gen.FfnUpDwGateReferenceIdeal.Run
public import Idealize.ShloMosaic.Lib.Pipeline.ValueKit

@[expose] public section

noncomputable section

namespace Cert.FfnUpDwGateIdeal.Product

open Cert.FfnUpDwGateIdeal Cert.FfnUpDwGateIdeal.Gen Idealize.ShloMosaic Idealize.ShloMosaic.TcCoe Idealize.SL.Sem
open Cert.Products (zeros)
open Idealize.ShloMosaic.Pipeline (Dat)

variable (m : (ℓ : Loc nD τ sig) → Buf (Elt Ideal) ℓ) (ρ : Dev nD → PrngReg)

/-- The product of the whole arrays. -/
def whole (x : S8192x1024.Idx → EReal) (w : S8192x5632.Idx → EReal) : S1024x2816.Idx → EReal :=
  fun i => ∑ k : Fin 8192, x (ix2 k (i 0)) * w (ix2 k ⟨0 + (i 1).val, by have := (i 1).isLt; have h : S1024x2816.size 1 = 2816 := rfl; omega⟩)

/-- The product of one pair of blocks. -/
def part (x : Vec Ideal S2048x1024 .f32) (w : Vec Ideal S2048x1408 .bf16) : S1024x1408.Idx → EReal :=
  fun j => ∑ k : Fin 2048, x (ix2 k (j 0)) * w (ix2 k (j 1))

theorem block_product (x : Vec Ideal S2048x1024 .f32) (w : Vec Ideal S2048x1408 .bf16) (j : S1024x1408.Idx) : k0_pay1 (F := Ideal) x w j = part x w j := by
  pointwise [k0_pay1, part]

section Steps

variable (c : Dev nD) (i : grid0.Coords) (a3 : Memref sig .tc .vmem S2048x1024 .f32) (g3 : a3.IsWhole) (a4 : Memref sig .tc .vmem S2048x1408 .bf16) (g4 : a4.IsWhole)
    (a5 : Memref sig .tc .vmem S1024x1408 .bf16) (g5 : a5.IsWhole) (a6 : Memref sig .tc .vmem S1024x1408 .f32) (g6 : a6.IsWhole)

/-- What the first of four steps leaves in the accumulator. -/
theorem first_eq (h0 : cond0_0 i) (h1 : ¬cond0_1 i) (h2 : ¬cond0_2 i) (x : Vec Ideal S2048x1024 .f32) (w : Vec Ideal S2048x1408 .bf16) :
    sout0_A_0 c i a3 g3 a4 g4 a5 g5 a6 g6 h0 h1 h2 x w
      = k0_pay1 (F := Ideal) x w := by
  unfold sout0_A_0
  rw [View.read_writes_eq_canon _ _ _ (scover0_A_0 _ _ _ _ _ _ _ _ _ _ _ _ _ _ _)]
  unfold kernelRun0_A
  dsimp only
  rw [View.canon_unit_zero zeros]
  unfold k0_pay2
  simp only [View.readAt_eq_ld, Memref.IsWhole.read_unread, View.ld_unit_zero (S := S2048x1024) zeros, View.ld_unit_zero (S := S2048x1408) zeros, View.ld_unit_zero (S := S1024x1408) zeros, shapeCast_self]

/-- The second and third steps add to it. -/
theorem next_eq (h0 : ¬cond0_0 i) (h1 : cond0_1 i) (h2 : ¬cond0_2 i) (x : Vec Ideal S2048x1024 .f32) (w : Vec Ideal S2048x1408 .bf16) (acc : Vec Ideal S1024x1408 .f32) :
    sout0_B_0 c i a3 g3 a4 g4 a5 g5 a6 g6 h0 h1 h2 x w acc
      = addf acc (k0_pay1 (F := Ideal) x w) := by
  unfold sout0_B_0
  rw [View.read_writes_eq_canon _ _ _ (scover0_B_0 _ _ _ _ _ _ _ _ _ _ _ _ _ _ _ _)]
  unfold kernelRun0_B
  dsimp only
  rw [View.canon_unit_zero zeros]
  unfold k0_pay3
  simp only [View.readAt_eq_ld, Memref.IsWhole.read_unread, View.ld_unit_zero (S := S2048x1024) zeros, View.ld_unit_zero (S := S2048x1408) zeros, View.ld_unit_zero (S := S1024x1408) zeros, shapeCast_self]

/-- The fourth writes the sum to the result. -/
theorem last_eq (h0 : ¬cond0_0 i) (h1 : ¬cond0_1 i) (h2 : cond0_2 i) (x : Vec Ideal S2048x1024 .f32) (w : Vec Ideal S2048x1408 .bf16) (acc : Vec Ideal S1024x1408 .f32) (j : S1024x1408.Idx) :
    out0_C_2 c i a3 g3 a4 g4 a5 g5 a6 g6 h0 h1 h2 x w acc j
      = acc j + part x w j := by
  unfold out0_C_2
  rw [View.read_writes_eq_canon _ _ _ (cover0_C_2 _ _ _ _ _ _ _ _ _ _ _ _ _ _ _ _)]
  unfold kernelRun0_C
  dsimp only
  rw [View.canon_unit_zero zeros]
  unfold k0_pay4
  simp only [View.readAt_eq_ld, Memref.IsWhole.read_unread, View.ld_unit_zero (S := S2048x1024) zeros, View.ld_unit_zero (S := S2048x1408) zeros, View.ld_unit_zero (S := S1024x1408) zeros, shapeCast_self]
  rw [← block_product]
  pointwise

end Steps

/-- The product that point `n` adds. -/
def summand (c : Dev nD) (n : ℕ) : S1024x1408.Idx → EReal :=
  if h : n < cfg0.N then part (iblk m c 0 ⟨n, h⟩) (iblk m c 1 ⟨n, h⟩) else 0

theorem summand_eq (c : Dev nD) (t : Fin cfg0.N) : summand m c t.val = part (iblk m c 0 t) (iblk m c 1 t) := dif_pos t.isLt

/-- The accumulator after each of the first three steps. -/
theorem acc_eq (c : Dev nD) (t : Fin cfg0.N) (ht : t.val % 4 ≤ 2) (j : S1024x1408.Idx) :
    (outsAt0 m c t.val t.isLt).2 j = ∑ s ∈ Finset.range (t.val % 4 + 1), summand m c (4 * (t.val / 4) + s) j := by
  rw [Value.soutsAt0_0_eq]
  refine (Pipeline.accAt_add_apply _ _ (fun _ => (0 : EReal)) (summand m c) (4 * (t.val / 4)) 2 (fun h i => ?_) (fun n h acc i hl hu => ?_) _ ht _ j).trans (zero_add _)
  · have e0 : 4 * (t.val / 4) % 4 = 0 := by omega
    unfold Value.scAt0_0
    rw [dif_pos e0, dif_neg (by omega), dif_neg (by omega), zero_add]
    exact (congrFun (first_eq c _ _ _ _ _ _ _ _ _ _ _ _ _ _) i).trans ((block_product _ _ i).trans (congrFun (summand_eq m c ⟨_, h⟩) i).symm)
  · unfold Value.scAt0_0
    rw [dif_neg (by omega), dif_pos (by omega), dif_neg (by omega)]
    exact (congrFun (next_eq c _ _ _ _ _ _ _ _ _ _ _ _ _ _ _) i).trans (congrArg (fun q : EReal => acc i + q)
      ((block_product _ _ i).trans (congrFun (summand_eq m c ⟨_, h⟩) i).symm))

/-- What a point that writes a block of the result writes: the four products' sum. -/
theorem written_eq (c : Dev nD) (t : Fin cfg0.N) (ht : t.val % 4 = 3) (j : S1024x1408.Idx) :
    (outsAt0 m c t.val t.isLt).1 j = ∑ s ∈ Finset.range 4, summand m c (4 * (t.val / 4) + s) j := by
  have hs := acc_eq m c ⟨t.val - 1, by have := t.isLt; omega⟩ (by dsimp only; omega) j
  rw [outsAt0_C m c t (by omega) (by omega) ht]
  dsimp only at hs ⊢
  rw [last_eq, hs, Finset.sum_range_succ _ 3]
  rw [show (t.val - 1) % 4 + 1 = 3 by omega, show 4 * ((t.val - 1) / 4) = 4 * (t.val / 4) by omega]
  exact congrArg (fun q : EReal => _ + q) ((congrFun (summand_eq m c t) j).symm.trans (by rw [show 4 * (t.val / 4) + 3 = t.val by omega]))

/-- Which blocks a grid point reads and writes. -/
theorem places : ∀ t : Fin cfg0.N, win0_0.index t 0 = t.val % 4 ∧ win0_0.index t 1 = win0_2.index t 0 ∧ win0_1.index t 0 = t.val % 4
    ∧ win0_1.index t 1 = 0 + win0_2.index t 1 :=
  (by decide +kernel : ∀ t : Fin grid0.N, _)

/-- Four points in a row write the same block. -/
theorem same_block : ∀ t t' : Fin cfg0.N, t.val / 4 = t'.val / 4 → win0_2.index t 0 = win0_2.index t' 0 ∧ win0_2.index t 1 = win0_2.index t' 1 :=
  (by decide +kernel : ∀ t t' : Fin grid0.N, _)

/-- Every block of the result lies inside it. -/
theorem inside : ∀ t : Fin cfg0.N, win0_2.index t 0 < 1 ∧ win0_2.index t 1 < 2 :=
  (by decide +kernel : ∀ t : Fin grid0.N, _)

theorem read_x (c : Dev nD) (t : Fin cfg0.N) (r : Fin 2048) (l : Fin 1024) (i : S8192x1024.Idx)
    (h0 : (i 0).val = win0_0.index t 0 * 2048 + r.val) (h1 : (i 1).val = win0_0.index t 1 * 1024 + l.val) :
    (iblk m c 0 t : Vec Ideal S2048x1024 .f32) (ix2 r l) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 2048 + 1 * r.val = (i 0).val; omega
  | ⟨1, _⟩ => show win0_0.index t 1 * 1024 + 1 * l.val = (i 1).val; omega

theorem read_w (c : Dev nD) (t : Fin cfg0.N) (r : Fin 2048) (l : Fin 1408) (i : S8192x5632.Idx)
    (h0 : (i 0).val = win0_1.index t 0 * 2048 + r.val) (h1 : (i 1).val = win0_1.index t 1 * 1408 + l.val) :
    (iblk m c 1 t : Vec Ideal S2048x1408 .bf16) (ix2 r l) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 2048 + 1 * r.val = (i 0).val; omega
  | ⟨1, _⟩ => show win0_1.index t 1 * 1408 + 1 * l.val = (i 1).val; omega

/-- One term of the product of the whole arrays. -/
def term (x : S8192x1024.Idx → EReal) (w : S8192x5632.Idx → EReal) (i0 i1 : ℕ) (h0 : i0 < 1024) (h1 : i1 < 2816) (k : ℕ) : EReal :=
  if h : k < 8192 then x (ix2 ⟨k, h⟩ ⟨i0, by omega⟩) * w (ix2 ⟨k, h⟩ ⟨0 + i1, by omega⟩) else 0

/-- The products of the blocks of four points in a row make up a block of the product of the whole arrays. -/
theorem four_eq (c : Dev nD) (t : Fin cfg0.N) (ht : t.val % 4 = 3) (a : Fin 1024) (b : Fin 1408) (i : S1024x2816.Idx)
    (h0 : (i 0).val = win0_2.index t 0 * 1024 + a.val) (h1 : (i 1).val = win0_2.index t 1 * 1408 + b.val) :
    ∑ s ∈ Finset.range 4, summand m c (4 * (t.val / 4) + s) (ix2 a b) = whole (m ((c : Thread nD τ).loc main_arg0)) (m ((c : Thread nD τ).loc main_arg1)) i := by
  have i0 : (i 0 : Nat) < 1024 := (i 0).isLt
  have i1 : (i 1 : Nat) < 2816 := (i 1).isLt
  have l0 := (inside t).1
  have l1 := (inside t).2
  refine Eq.trans (Finset.sum_congr rfl fun s hs => ?_) ((Cert.Products.sum_quarters (term (m ((c : Thread nD τ).loc main_arg0)) (m ((c : Thread nD τ).loc main_arg1)) (i 0).val (i 1).val i0 i1)).trans
    (Finset.sum_congr rfl fun k _ => dif_pos k.isLt))
  have hs4 : s < 4 := Finset.mem_range.mp hs
  have hp : 4 * (t.val / 4) + s < cfg0.N := by have := t.isLt; omega
  obtain ⟨e0, e1, e2, e3⟩ := places ⟨_, hp⟩
  obtain ⟨f0, f1⟩ := same_block ⟨_, hp⟩ t (by dsimp only; omega)
  have em : (4 * (t.val / 4) + s) % 4 = s := by omega
  refine (congrFun (summand_eq m c ⟨_, hp⟩) (ix2 a b)).trans (Finset.sum_congr rfl fun k _ => ?_)
  have hk : s * 2048 + k.val < 8192 := by have := k.isLt; omega
  refine Eq.trans ?_ (dif_pos hk).symm
  exact congrArg₂ (fun p q : EReal => p * q)
    (read_x m c ⟨_, hp⟩ k a _ (by show s * 2048 + k.val = _; rw [e0]; dsimp only; rw [em]) (by show (i 0).val = _; rw [e1, f0, h0]))
    (read_w m c ⟨_, hp⟩ k b _ (by show s * 2048 + k.val = _; rw [e2]; dsimp only; rw [em]) (by show 0 + (i 1).val = _; rw [e3, f1, h1]; omega))

theorem flushed_eq (c : Dev nD) (t : Fin cfg0.N) (hf : (cfg0.win 2).flush t = true) :
    (dats m 0 c).flushed 2 t = ((cfg0.win 2).blk t).view.read (Elt Ideal) (whole (m ((c : Thread nD τ).loc main_arg0)) (m ((c : Thread nD τ).loc main_arg1))) := by
  have ht : t.val % 4 = 3 := (flush0_2 t).mp hf
  have hw := written_eq m c t ht
  rw [Value.flushed2]
  generalize (outsAt0 m c t.val t.isLt).1 = d at hw ⊢
  generalize hG : whole (m ((c : Thread nD τ).loc main_arg0)) (m ((c : Thread nD τ).loc main_arg1)) = G
  funext y
  show d ((cfg0.win 2).xinj (grid0.coords t) y) = G (((cfg0.win 2).blk t).view.emb y)
  rw [hw, ← hG]
  have b0 : (((cfg0.win 2).blk t).view.emb y 0).val = win0_2.index t 0 * 1024 + 1 * (y 0).val := rfl
  have b1 : (((cfg0.win 2).blk t).view.emb y 1).val = win0_2.index t 1 * 1408 + 1 * (y 1).val := rfl
  rw [show ((cfg0.win 2).xinj (grid0.coords t) y : S1024x1408.Idx) = ix2 (y 0) (y 1) from Cert.Products.pair _]
  exact four_eq m c t ht (y 0) (y 1) _ (by rw [b0, Nat.one_mul]) (by rw [b1, Nat.one_mul])

/-- The blocks that are written make up the whole result. -/
theorem covered : (cfg0.win 2).Covers := by decide +kernel

theorem final (c : Dev nD) : (dats m 0 c).arrAt 2 cfg0.N = whole (m ((c : Thread nD τ).loc main_arg0)) (m ((c : Thread nD τ).loc main_arg1)) :=
  (dats m 0 c).arrAt_eq_of_cover 2 _ (flushed_eq m c) (covered.cover _ (Memref.isWhole_whole _))

end Cert.FfnUpDwGateIdeal.Product

namespace Cert.FfnUpDwGateReferenceIdeal.Product

open Cert.FfnUpDwGateReferenceIdeal Cert.FfnUpDwGateReferenceIdeal.Gen Idealize.ShloMosaic Idealize.SL.Sem

/-- The reference's result is the same product. -/
theorem host_product (x : FVec Ideal S8192x1024 .f32) (w : FVec Ideal S8192x5632 .bf16) :
    truncf .bf16 (transpose S1024x2816 [1, 0] (Host.dotGeneral dot_S8192x2816_S8192x1024_S2816x1024_0_0_1_1_n_n none (extf .f32 (extractStridedSlice S8192x2816 ![0, 0] w slices_S8192x5632_S8192x2816_0_0) bitsLt_bf16_f32) x) transposes_S2816x1024_S1024x2816_1_0) bitsLt_bf16_f32
      = Cert.FfnUpDwGateIdeal.Product.whole x w := by
  funext i
  pointwise [Cert.FfnUpDwGateIdeal.Product.whole]
  exact Finset.sum_congr rfl fun k _ => mul_comm _ _

end Cert.FfnUpDwGateReferenceIdeal.Product

namespace Cert.Proof.FfnUpDwGate

open Idealize.ShloMosaic Idealize.SL.Sem

theorem frame_kernel : Cert.quiescent_FfnUpDwGate := fun m ρ _ => Cert.FfnUpDwGate.Gen.frame m ρ

theorem frame_kernelIdeal : Cert.quiescent_FfnUpDwGateIdeal := fun m ρ _ => Cert.FfnUpDwGateIdeal.Gen.frame m ρ

theorem frame_reference : Cert.quiescent_FfnUpDwGateReferenceIdeal := fun m ρ _ =>
  (θ_run Cert.FfnUpDwGateReferenceIdeal.defs _ _).mono (fun r h => ⟨fun c => (h c).2, sem_eq_zero_of_no_sems (by decide) r.2⟩)
    (Cert.FfnUpDwGateReferenceIdeal.Value.run (F := Ideal) m ρ)

theorem values : Cert.algebraic_FfnUpDwGateIdeal_FfnUpDwGateReferenceIdeal := fun m g m' g' _ hargs =>
  ⟨fun c => Cert.FfnUpDwGateIdeal.Product.whole (m ((c.tc : Thread Cert.FfnUpDwGateIdeal.nD Cert.FfnUpDwGateIdeal.τ).loc Cert.FfnUpDwGateIdeal.main_arg0)) (m ((c.tc : Thread Cert.FfnUpDwGateIdeal.nD Cert.FfnUpDwGateIdeal.τ).loc Cert.FfnUpDwGateIdeal.main_arg1)),
    (θ_run Cert.FfnUpDwGateIdeal.defs _ _).mono (fun r h c => ⟨(h c).1.trans (Cert.FfnUpDwGateIdeal.Product.final m c), (h c).2⟩)
      (Cert.FfnUpDwGateIdeal.Value.run_blocks (F := Ideal) m g),
    (θ_run Cert.FfnUpDwGateReferenceIdeal.defs _ _).mono (fun r h c => ⟨(h c).1.trans (by
        obtain ⟨h0, h1⟩ := hargs c
        rw [h0, h1]
        exact Cert.FfnUpDwGateReferenceIdeal.Product.host_product _ _), (h c).2⟩)
      (Cert.FfnUpDwGateReferenceIdeal.Value.run (F := Ideal) m' g')⟩

end Cert.Proof.FfnUpDwGate

end
-- ==== Proof.FfnUpDwUpValue.lean ====
/- The up half's gradient in its weights: the blocks that the call writes are the blocks of the whole product. -/
module

public import proofs.«01_k».proof.Defs
public import proofs.«01_k».proof.Proof.Products
public import proofs.«01_k».proof.Proof.Gen.FfnUpDwUp.Frame
public import proofs.«01_k».proof.Proof.Gen.FfnUpDwUpIdeal.Value
public import proofs.«01_k».proof.Proof.Gen.FfnUpDwUpReferenceIdeal.Run
public import Idealize.ShloMosaic.Lib.Pipeline.ValueKit

@[expose] public section

noncomputable section

namespace Cert.FfnUpDwUpIdeal.Product

open Cert.FfnUpDwUpIdeal Cert.FfnUpDwUpIdeal.Gen Idealize.ShloMosaic Idealize.ShloMosaic.TcCoe Idealize.SL.Sem
open Cert.Products (zeros)
open Idealize.ShloMosaic.Pipeline (Dat)

variable (m : (ℓ : Loc nD τ sig) → Buf (Elt Ideal) ℓ) (ρ : Dev nD → PrngReg)

/-- The product of the whole arrays. -/
def whole (x : S8192x1024.Idx → EReal) (w : S8192x5632.Idx → EReal) : S1024x2816.Idx → EReal :=
  fun i => ∑ k : Fin 8192, x (ix2 k (i 0)) * w (ix2 k ⟨2816 + (i 1).val, by have := (i 1).isLt; have h : S1024x2816.size 1 = 2816 := rfl; omega⟩)

/-- The product of one pair of blocks. -/
def part (x : Vec Ideal S2048x1024 .f32) (w : Vec Ideal S2048x1408 .bf16) : S1024x1408.Idx → EReal :=
  fun j => ∑ k : Fin 2048, x (ix2 k (j 0)) * w (ix2 k (j 1))

theorem block_product (x : Vec Ideal S2048x1024 .f32) (w : Vec Ideal S2048x1408 .bf16) (j : S1024x1408.Idx) : k0_pay1 (F := Ideal) x w j = part x w j := by
  pointwise [k0_pay1, part]

section Steps

variable (c : Dev nD) (i : grid0.Coords) (a3 : Memref sig .tc .vmem S2048x1024 .f32) (g3 : a3.IsWhole) (a4 : Memref sig .tc .vmem S2048x1408 .bf16) (g4 : a4.IsWhole)
    (a5 : Memref sig .tc .vmem S1024x1408 .bf16) (g5 : a5.IsWhole) (a6 : Memref sig .tc .vmem S1024x1408 .f32) (g6 : a6.IsWhole)

/-- What the first of four steps leaves in the accumulator. -/
theorem first_eq (h0 : cond0_0 i) (h1 : ¬cond0_1 i) (h2 : ¬cond0_2 i) (x : Vec Ideal S2048x1024 .f32) (w : Vec Ideal S2048x1408 .bf16) :
    sout0_A_0 c i a3 g3 a4 g4 a5 g5 a6 g6 h0 h1 h2 x w
      = k0_pay1 (F := Ideal) x w := by
  unfold sout0_A_0
  rw [View.read_writes_eq_canon _ _ _ (scover0_A_0 _ _ _ _ _ _ _ _ _ _ _ _ _ _ _)]
  unfold kernelRun0_A
  dsimp only
  rw [View.canon_unit_zero zeros]
  unfold k0_pay2
  simp only [View.readAt_eq_ld, Memref.IsWhole.read_unread, View.ld_unit_zero (S := S2048x1024) zeros, View.ld_unit_zero (S := S2048x1408) zeros, View.ld_unit_zero (S := S1024x1408) zeros, shapeCast_self]

/-- The second and third steps add to it. -/
theorem next_eq (h0 : ¬cond0_0 i) (h1 : cond0_1 i) (h2 : ¬cond0_2 i) (x : Vec Ideal S2048x1024 .f32) (w : Vec Ideal S2048x1408 .bf16) (acc : Vec Ideal S1024x1408 .f32) :
    sout0_B_0 c i a3 g3 a4 g4 a5 g5 a6 g6 h0 h1 h2 x w acc
      = addf acc (k0_pay1 (F := Ideal) x w) := by
  unfold sout0_B_0
  rw [View.read_writes_eq_canon _ _ _ (scover0_B_0 _ _ _ _ _ _ _ _ _ _ _ _ _ _ _ _)]
  unfold kernelRun0_B
  dsimp only
  rw [View.canon_unit_zero zeros]
  unfold k0_pay3
  simp only [View.readAt_eq_ld, Memref.IsWhole.read_unread, View.ld_unit_zero (S := S2048x1024) zeros, View.ld_unit_zero (S := S2048x1408) zeros, View.ld_unit_zero (S := S1024x1408) zeros, shapeCast_self]

/-- The fourth writes the sum to the result. -/
theorem last_eq (h0 : ¬cond0_0 i) (h1 : ¬cond0_1 i) (h2 : cond0_2 i) (x : Vec Ideal S2048x1024 .f32) (w : Vec Ideal S2048x1408 .bf16) (acc : Vec Ideal S1024x1408 .f32) (j : S1024x1408.Idx) :
    out0_C_2 c i a3 g3 a4 g4 a5 g5 a6 g6 h0 h1 h2 x w acc j
      = acc j + part x w j := by
  unfold out0_C_2
  rw [View.read_writes_eq_canon _ _ _ (cover0_C_2 _ _ _ _ _ _ _ _ _ _ _ _ _ _ _ _)]
  unfold kernelRun0_C
  dsimp only
  rw [View.canon_unit_zero zeros]
  unfold k0_pay4
  simp only [View.readAt_eq_ld, Memref.IsWhole.read_unread, View.ld_unit_zero (S := S2048x1024) zeros, View.ld_unit_zero (S := S2048x1408) zeros, View.ld_unit_zero (S := S1024x1408) zeros, shapeCast_self]
  rw [← block_product]
  pointwise

end Steps

/-- The product that point `n` adds. -/
def summand (c : Dev nD) (n : ℕ) : S1024x1408.Idx → EReal :=
  if h : n < cfg0.N then part (iblk m c 0 ⟨n, h⟩) (iblk m c 1 ⟨n, h⟩) else 0

theorem summand_eq (c : Dev nD) (t : Fin cfg0.N) : summand m c t.val = part (iblk m c 0 t) (iblk m c 1 t) := dif_pos t.isLt

/-- The accumulator after each of the first three steps. -/
theorem acc_eq (c : Dev nD) (t : Fin cfg0.N) (ht : t.val % 4 ≤ 2) (j : S1024x1408.Idx) :
    (outsAt0 m c t.val t.isLt).2 j = ∑ s ∈ Finset.range (t.val % 4 + 1), summand m c (4 * (t.val / 4) + s) j := by
  rw [Value.soutsAt0_0_eq]
  refine (Pipeline.accAt_add_apply _ _ (fun _ => (0 : EReal)) (summand m c) (4 * (t.val / 4)) 2 (fun h i => ?_) (fun n h acc i hl hu => ?_) _ ht _ j).trans (zero_add _)
  · have e0 : 4 * (t.val / 4) % 4 = 0 := by omega
    unfold Value.scAt0_0
    rw [dif_pos e0, dif_neg (by omega), dif_neg (by omega), zero_add]
    exact (congrFun (first_eq c _ _ _ _ _ _ _ _ _ _ _ _ _ _) i).trans ((block_product _ _ i).trans (congrFun (summand_eq m c ⟨_, h⟩) i).symm)
  · unfold Value.scAt0_0
    rw [dif_neg (by omega), dif_pos (by omega), dif_neg (by omega)]
    exact (congrFun (next_eq c _ _ _ _ _ _ _ _ _ _ _ _ _ _ _) i).trans (congrArg (fun q : EReal => acc i + q)
      ((block_product _ _ i).trans (congrFun (summand_eq m c ⟨_, h⟩) i).symm))

/-- What a point that writes a block of the result writes: the four products' sum. -/
theorem written_eq (c : Dev nD) (t : Fin cfg0.N) (ht : t.val % 4 = 3) (j : S1024x1408.Idx) :
    (outsAt0 m c t.val t.isLt).1 j = ∑ s ∈ Finset.range 4, summand m c (4 * (t.val / 4) + s) j := by
  have hs := acc_eq m c ⟨t.val - 1, by have := t.isLt; omega⟩ (by dsimp only; omega) j
  rw [outsAt0_C m c t (by omega) (by omega) ht]
  dsimp only at hs ⊢
  rw [last_eq, hs, Finset.sum_range_succ _ 3]
  rw [show (t.val - 1) % 4 + 1 = 3 by omega, show 4 * ((t.val - 1) / 4) = 4 * (t.val / 4) by omega]
  exact congrArg (fun q : EReal => _ + q) ((congrFun (summand_eq m c t) j).symm.trans (by rw [show 4 * (t.val / 4) + 3 = t.val by omega]))

/-- Which blocks a grid point reads and writes. -/
theorem places : ∀ t : Fin cfg0.N, win0_0.index t 0 = t.val % 4 ∧ win0_0.index t 1 = win0_2.index t 0 ∧ win0_1.index t 0 = t.val % 4
    ∧ win0_1.index t 1 = 2 + win0_2.index t 1 :=
  (by decide +kernel : ∀ t : Fin grid0.N, _)

/-- Four points in a row write the same block. -/
theorem same_block : ∀ t t' : Fin cfg0.N, t.val / 4 = t'.val / 4 → win0_2.index t 0 = win0_2.index t' 0 ∧ win0_2.index t 1 = win0_2.index t' 1 :=
  (by decide +kernel : ∀ t t' : Fin grid0.N, _)

/-- Every block of the result lies inside it. -/
theorem inside : ∀ t : Fin cfg0.N, win0_2.index t 0 < 1 ∧ win0_2.index t 1 < 2 :=
  (by decide +kernel : ∀ t : Fin grid0.N, _)

theorem read_x (c : Dev nD) (t : Fin cfg0.N) (r : Fin 2048) (l : Fin 1024) (i : S8192x1024.Idx)
    (h0 : (i 0).val = win0_0.index t 0 * 2048 + r.val) (h1 : (i 1).val = win0_0.index t 1 * 1024 + l.val) :
    (iblk m c 0 t : Vec Ideal S2048x1024 .f32) (ix2 r l) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 2048 + 1 * r.val = (i 0).val; omega
  | ⟨1, _⟩ => show win0_0.index t 1 * 1024 + 1 * l.val = (i 1).val; omega

theorem read_w (c : Dev nD) (t : Fin cfg0.N) (r : Fin 2048) (l : Fin 1408) (i : S8192x5632.Idx)
    (h0 : (i 0).val = win0_1.index t 0 * 2048 + r.val) (h1 : (i 1).val = win0_1.index t 1 * 1408 + l.val) :
    (iblk m c 1 t : Vec Ideal S2048x1408 .bf16) (ix2 r l) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 2048 + 1 * r.val = (i 0).val; omega
  | ⟨1, _⟩ => show win0_1.index t 1 * 1408 + 1 * l.val = (i 1).val; omega

/-- One term of the product of the whole arrays. -/
def term (x : S8192x1024.Idx → EReal) (w : S8192x5632.Idx → EReal) (i0 i1 : ℕ) (h0 : i0 < 1024) (h1 : i1 < 2816) (k : ℕ) : EReal :=
  if h : k < 8192 then x (ix2 ⟨k, h⟩ ⟨i0, by omega⟩) * w (ix2 ⟨k, h⟩ ⟨2816 + i1, by omega⟩) else 0

/-- The products of the blocks of four points in a row make up a block of the product of the whole arrays. -/
theorem four_eq (c : Dev nD) (t : Fin cfg0.N) (ht : t.val % 4 = 3) (a : Fin 1024) (b : Fin 1408) (i : S1024x2816.Idx)
    (h0 : (i 0).val = win0_2.index t 0 * 1024 + a.val) (h1 : (i 1).val = win0_2.index t 1 * 1408 + b.val) :
    ∑ s ∈ Finset.range 4, summand m c (4 * (t.val / 4) + s) (ix2 a b) = whole (m ((c : Thread nD τ).loc main_arg0)) (m ((c : Thread nD τ).loc main_arg1)) i := by
  have i0 : (i 0 : Nat) < 1024 := (i 0).isLt
  have i1 : (i 1 : Nat) < 2816 := (i 1).isLt
  have l0 := (inside t).1
  have l1 := (inside t).2
  refine Eq.trans (Finset.sum_congr rfl fun s hs => ?_) ((Cert.Products.sum_quarters (term (m ((c : Thread nD τ).loc main_arg0)) (m ((c : Thread nD τ).loc main_arg1)) (i 0).val (i 1).val i0 i1)).trans
    (Finset.sum_congr rfl fun k _ => dif_pos k.isLt))
  have hs4 : s < 4 := Finset.mem_range.mp hs
  have hp : 4 * (t.val / 4) + s < cfg0.N := by have := t.isLt; omega
  obtain ⟨e0, e1, e2, e3⟩ := places ⟨_, hp⟩
  obtain ⟨f0, f1⟩ := same_block ⟨_, hp⟩ t (by dsimp only; omega)
  have em : (4 * (t.val / 4) + s) % 4 = s := by omega
  refine (congrFun (summand_eq m c ⟨_, hp⟩) (ix2 a b)).trans (Finset.sum_congr rfl fun k _ => ?_)
  have hk : s * 2048 + k.val < 8192 := by have := k.isLt; omega
  refine Eq.trans ?_ (dif_pos hk).symm
  exact congrArg₂ (fun p q : EReal => p * q)
    (read_x m c ⟨_, hp⟩ k a _ (by show s * 2048 + k.val = _; rw [e0]; dsimp only; rw [em]) (by show (i 0).val = _; rw [e1, f0, h0]))
    (read_w m c ⟨_, hp⟩ k b _ (by show s * 2048 + k.val = _; rw [e2]; dsimp only; rw [em]) (by show 2816 + (i 1).val = _; rw [e3, f1, h1]; omega))

theorem flushed_eq (c : Dev nD) (t : Fin cfg0.N) (hf : (cfg0.win 2).flush t = true) :
    (dats m 0 c).flushed 2 t = ((cfg0.win 2).blk t).view.read (Elt Ideal) (whole (m ((c : Thread nD τ).loc main_arg0)) (m ((c : Thread nD τ).loc main_arg1))) := by
  have ht : t.val % 4 = 3 := (flush0_2 t).mp hf
  have hw := written_eq m c t ht
  rw [Value.flushed2]
  generalize (outsAt0 m c t.val t.isLt).1 = d at hw ⊢
  generalize hG : whole (m ((c : Thread nD τ).loc main_arg0)) (m ((c : Thread nD τ).loc main_arg1)) = G
  funext y
  show d ((cfg0.win 2).xinj (grid0.coords t) y) = G (((cfg0.win 2).blk t).view.emb y)
  rw [hw, ← hG]
  have b0 : (((cfg0.win 2).blk t).view.emb y 0).val = win0_2.index t 0 * 1024 + 1 * (y 0).val := rfl
  have b1 : (((cfg0.win 2).blk t).view.emb y 1).val = win0_2.index t 1 * 1408 + 1 * (y 1).val := rfl
  rw [show ((cfg0.win 2).xinj (grid0.coords t) y : S1024x1408.Idx) = ix2 (y 0) (y 1) from Cert.Products.pair _]
  exact four_eq m c t ht (y 0) (y 1) _ (by rw [b0, Nat.one_mul]) (by rw [b1, Nat.one_mul])

/-- The blocks that are written make up the whole result. -/
theorem covered : (cfg0.win 2).Covers := by decide +kernel

theorem final (c : Dev nD) : (dats m 0 c).arrAt 2 cfg0.N = whole (m ((c : Thread nD τ).loc main_arg0)) (m ((c : Thread nD τ).loc main_arg1)) :=
  (dats m 0 c).arrAt_eq_of_cover 2 _ (flushed_eq m c) (covered.cover _ (Memref.isWhole_whole _))

end Cert.FfnUpDwUpIdeal.Product

namespace Cert.FfnUpDwUpReferenceIdeal.Product

open Cert.FfnUpDwUpReferenceIdeal Cert.FfnUpDwUpReferenceIdeal.Gen Idealize.ShloMosaic Idealize.SL.Sem

/-- The reference's result is the same product. -/
theorem host_product (x : FVec Ideal S8192x1024 .f32) (w : FVec Ideal S8192x5632 .bf16) :
    truncf .bf16 (transpose S1024x2816 [1, 0] (Host.dotGeneral dot_S8192x2816_S8192x1024_S2816x1024_0_0_1_1_n_n none (extf .f32 (extractStridedSlice S8192x2816 ![0, 2816] w slices_S8192x5632_S8192x2816_0_2816) bitsLt_bf16_f32) x) transposes_S2816x1024_S1024x2816_1_0) bitsLt_bf16_f32
      = Cert.FfnUpDwUpIdeal.Product.whole x w := by
  funext i
  pointwise [Cert.FfnUpDwUpIdeal.Product.whole]
  exact Finset.sum_congr rfl fun k _ => mul_comm _ _

end Cert.FfnUpDwUpReferenceIdeal.Product

namespace Cert.Proof.FfnUpDwUp

open Idealize.ShloMosaic Idealize.SL.Sem

theorem frame_kernel : Cert.quiescent_FfnUpDwUp := fun m ρ _ => Cert.FfnUpDwUp.Gen.frame m ρ

theorem frame_kernelIdeal : Cert.quiescent_FfnUpDwUpIdeal := fun m ρ _ => Cert.FfnUpDwUpIdeal.Gen.frame m ρ

theorem frame_reference : Cert.quiescent_FfnUpDwUpReferenceIdeal := fun m ρ _ =>
  (θ_run Cert.FfnUpDwUpReferenceIdeal.defs _ _).mono (fun r h => ⟨fun c => (h c).2, sem_eq_zero_of_no_sems (by decide) r.2⟩)
    (Cert.FfnUpDwUpReferenceIdeal.Value.run (F := Ideal) m ρ)

theorem values : Cert.algebraic_FfnUpDwUpIdeal_FfnUpDwUpReferenceIdeal := fun m g m' g' _ hargs =>
  ⟨fun c => Cert.FfnUpDwUpIdeal.Product.whole (m ((c.tc : Thread Cert.FfnUpDwUpIdeal.nD Cert.FfnUpDwUpIdeal.τ).loc Cert.FfnUpDwUpIdeal.main_arg0)) (m ((c.tc : Thread Cert.FfnUpDwUpIdeal.nD Cert.FfnUpDwUpIdeal.τ).loc Cert.FfnUpDwUpIdeal.main_arg1)),
    (θ_run Cert.FfnUpDwUpIdeal.defs _ _).mono (fun r h c => ⟨(h c).1.trans (Cert.FfnUpDwUpIdeal.Product.final m c), (h c).2⟩)
      (Cert.FfnUpDwUpIdeal.Value.run_blocks (F := Ideal) m g),
    (θ_run Cert.FfnUpDwUpReferenceIdeal.defs _ _).mono (fun r h c => ⟨(h c).1.trans (by
        obtain ⟨h0, h1⟩ := hargs c
        rw [h0, h1]
        exact Cert.FfnUpDwUpReferenceIdeal.Product.host_product _ _), (h c).2⟩)
      (Cert.FfnUpDwUpReferenceIdeal.Value.run (F := Ideal) m' g')⟩

end Cert.Proof.FfnUpDwUp

end
-- ==== Proof.AbInValue.lean ====
/- The first and third layers' input product: the blocks that the call writes are the blocks of the whole product. -/
module

public import proofs.«01_k».proof.Defs
public import proofs.«01_k».proof.Proof.Products
public import proofs.«01_k».proof.Proof.Gen.AbIn.Frame
public import proofs.«01_k».proof.Proof.Gen.AbInIdeal.Value
public import proofs.«01_k».proof.Proof.Gen.AbInReferenceIdeal.Run
public import Idealize.ShloMosaic.Lib.Pipeline.ValueKit

@[expose] public section

noncomputable section

namespace Cert.AbInIdeal.Product

open Cert.AbInIdeal Cert.AbInIdeal.Gen Idealize.ShloMosaic Idealize.ShloMosaic.TcCoe Idealize.SL.Sem
open Cert.Products (zeros)
open Idealize.ShloMosaic.Pipeline (Dat)

variable (m : (ℓ : Loc nD τ sig) → Buf (Elt Ideal) ℓ) (ρ : Dev nD → PrngReg)

/-- The product of the whole arrays. -/
def whole (x : S8192x1024.Idx → EReal) (w : S1024x3840.Idx → EReal) : S8192x3840.Idx → EReal :=
  fun i => ∑ k : Fin 1024, x (ix2 (i 0) k) * w (ix2 k (i 1))

/-- A grid point leaves the product of its blocks. -/
theorem block_product (x : Vec Ideal S1024x1024 .f32) (w : Vec Ideal S1024x1280 .bf16) (j : S1024x1280.Idx) :
    k0_pay1 (F := Ideal) x w j = ∑ k : Fin 1024, x (ix2 (j 0) k) * w (ix2 k (j 1)) := by
  pointwise [k0_pay1]

theorem out_eq (c : Dev nD) (t : Fin cfg0.N) : outsAt0 m c t = k0_pay1 (F := Ideal) (iblk m c 0 t) (iblk m c 1 t) := by
  unfold outsAt0 out0_A_2
  rw [View.read_writes_eq_canon _ _ _ (cover0_A_2 _ _ _ _ _ _ _ _ _ _ _ _)]
  unfold kernelRun0_A
  dsimp only
  rw [View.canon_unit_zero zeros]
  simp only [View.readAt_eq_ld, Memref.IsWhole.read_unread, View.ld_unit_zero (S := S1024x1024) zeros, View.ld_unit_zero (S := S1024x1280) zeros]

/-- Which blocks a grid point reads and writes. -/
theorem places : ∀ t : Fin cfg0.N, win0_0.index t 0 = win0_2.index t 0 ∧ win0_0.index t 1 = 0 ∧ win0_1.index t 0 = 0
    ∧ win0_1.index t 1 = win0_2.index t 1 :=
  (by decide +kernel : ∀ t : Fin grid0.N, _)

theorem read_x (c : Dev nD) (t : Fin cfg0.N) (r : Fin 1024) (l : Fin 1024) (i : S8192x1024.Idx)
    (h0 : (i 0).val = win0_0.index t 0 * 1024 + r.val) (h1 : (i 1).val = win0_0.index t 1 * 1024 + l.val) :
    (iblk m c 0 t : Vec Ideal S1024x1024 .f32) (ix2 r l) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = (i 0).val; omega
  | ⟨1, _⟩ => show win0_0.index t 1 * 1024 + 1 * l.val = (i 1).val; omega

theorem read_w (c : Dev nD) (t : Fin cfg0.N) (r : Fin 1024) (l : Fin 1280) (i : S1024x3840.Idx)
    (h0 : (i 0).val = win0_1.index t 0 * 1024 + r.val) (h1 : (i 1).val = win0_1.index t 1 * 1280 + l.val) :
    (iblk m c 1 t : Vec Ideal S1024x1280 .bf16) (ix2 r l) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 1024 + 1 * r.val = (i 0).val; omega
  | ⟨1, _⟩ => show win0_1.index t 1 * 1280 + 1 * l.val = (i 1).val; omega

theorem flushed_eq (c : Dev nD) (t : Fin cfg0.N) : (dats m 0 c).flushed 2 t = ((cfg0.win 2).blk t).view.read (Elt Ideal)
    (whole (m ((c : Thread nD τ).loc main_arg0)) (m ((c : Thread nD τ).loc main_arg1))) := by
  rw [Value.flushed2, out_eq]
  funext y
  obtain ⟨e0, e1, e2, e3⟩ := places t
  have b0 : (((cfg0.win 2).blk t).view.emb y 0).val = win0_2.index t 0 * 1024 + 1 * (y 0).val := rfl
  have b1 : (((cfg0.win 2).blk t).view.emb y 1).val = win0_2.index t 1 * 1280 + 1 * (y 1).val := rfl
  show k0_pay1 (F := Ideal) (iblk m c 0 t) (iblk m c 1 t) ((cfg0.win 2).xinj (grid0.coords t) y)
    = whole _ _ (((cfg0.win 2).blk t).view.emb y)
  rw [block_product]
  unfold whole
  refine Finset.sum_congr rfl fun k _ => ?_
  exact congrArg₂ (fun p q : EReal => p * q)
    (read_x m c t (y 0) k (ix2 (((cfg0.win 2).blk t).view.emb y 0) k) (by show (((cfg0.win 2).blk t).view.emb y 0).val = _; rw [b0, e0, Nat.one_mul]) (by show k.val = _; omega))
    (read_w m c t k (y 1) (ix2 k (((cfg0.win 2).blk t).view.emb y 1)) (by show k.val = _; omega) (by show (((cfg0.win 2).blk t).view.emb y 1).val = _; rw [b1, e3, Nat.one_mul]))

theorem final (c : Dev nD) : (dats m 0 c).arrAt 2 cfg0.N = whole (m ((c : Thread nD τ).loc main_arg0)) (m ((c : Thread nD τ).loc main_arg1)) :=
  (dats m 0 c).arrAt_eq_of_covers 2 _ (by decide +kernel) fun t _ y => congrFun (flushed_eq m c t) y

end Cert.AbInIdeal.Product

namespace Cert.AbInReferenceIdeal.Product

open Cert.AbInReferenceIdeal Cert.AbInReferenceIdeal.Gen Idealize.ShloMosaic Idealize.SL.Sem

/-- The reference's result is the same product. -/
theorem host_product (x : FVec Ideal S8192x1024 .f32) (w : FVec Ideal S1024x3840 .bf16) :
    Host.dotGeneral dot_S8192x1024_S1024x3840_S8192x3840_1_0_0_1_n_n none x (extf .f32 w bitsLt_bf16_f32)
      = Cert.AbInIdeal.Product.whole x w := by
  funext i
  pointwise [Cert.AbInIdeal.Product.whole]

end Cert.AbInReferenceIdeal.Product

namespace Cert.Proof.AbIn

open Idealize.ShloMosaic Idealize.SL.Sem

theorem frame_kernel : Cert.quiescent_AbIn := fun m ρ _ => Cert.AbIn.Gen.frame m ρ

theorem frame_kernelIdeal : Cert.quiescent_AbInIdeal := fun m ρ _ => Cert.AbInIdeal.Gen.frame m ρ

theorem frame_reference : Cert.quiescent_AbInReferenceIdeal := fun m ρ _ =>
  (θ_run Cert.AbInReferenceIdeal.defs _ _).mono (fun r h => ⟨fun c => (h c).2, sem_eq_zero_of_no_sems (by decide) r.2⟩)
    (Cert.AbInReferenceIdeal.Value.run (F := Ideal) m ρ)

theorem values : Cert.algebraic_AbInIdeal_AbInReferenceIdeal := fun m g m' g' _ hargs =>
  ⟨fun c => Cert.AbInIdeal.Product.whole (m ((c.tc : Thread Cert.AbInIdeal.nD Cert.AbInIdeal.τ).loc Cert.AbInIdeal.main_arg0)) (m ((c.tc : Thread Cert.AbInIdeal.nD Cert.AbInIdeal.τ).loc Cert.AbInIdeal.main_arg1)),
    (θ_run Cert.AbInIdeal.defs _ _).mono (fun r h c => ⟨(h c).1.trans (Cert.AbInIdeal.Product.final m c), (h c).2⟩)
      (Cert.AbInIdeal.Value.run_blocks (F := Ideal) m g),
    (θ_run Cert.AbInReferenceIdeal.defs _ _).mono (fun r h c => ⟨(h c).1.trans (by
        obtain ⟨h0, h1⟩ := hargs c
        rw [h0, h1]
        exact Cert.AbInReferenceIdeal.Product.host_product _ _), (h c).2⟩)
      (Cert.AbInReferenceIdeal.Value.run (F := Ideal) m' g')⟩

end Cert.Proof.AbIn

end
-- ==== Proof.CdInValue.lean ====
/- The second and fourth layers' input product: the blocks that the call writes are the blocks of the whole product. -/
module

public import proofs.«01_k».proof.Defs
public import proofs.«01_k».proof.Proof.Products
public import proofs.«01_k».proof.Proof.Gen.CdIn.Frame
public import proofs.«01_k».proof.Proof.Gen.CdInIdeal.Value
public import proofs.«01_k».proof.Proof.Gen.CdInReferenceIdeal.Run
public import Idealize.ShloMosaic.Lib.Pipeline.ValueKit

@[expose] public section

noncomputable section

namespace Cert.CdInIdeal.Product

open Cert.CdInIdeal Cert.CdInIdeal.Gen Idealize.ShloMosaic Idealize.ShloMosaic.TcCoe Idealize.SL.Sem
open Cert.Products (zeros)
open Idealize.ShloMosaic.Pipeline (Dat)

variable (m : (ℓ : Loc nD τ sig) → Buf (Elt Ideal) ℓ) (ρ : Dev nD → PrngReg)

/-- The product of the whole arrays. -/
def whole (x : S8192x1024.Idx → EReal) (w : S1024x2048.Idx → EReal) : S8192x2048.Idx → EReal :=
  fun i => ∑ k : Fin 1024, x (ix2 (i 0) k) * w (ix2 k (i 1))

/-- A grid point leaves the product of its blocks. -/
theorem block_product (x : Vec Ideal S1024x1024 .f32) (w : Vec Ideal S1024x1024 .bf16) (j : S1024x1024.Idx) :
    k0_pay1 (F := Ideal) x w j = ∑ k : Fin 1024, x (ix2 (j 0) k) * w (ix2 k (j 1)) := by
  pointwise [k0_pay1]

theorem out_eq (c : Dev nD) (t : Fin cfg0.N) : outsAt0 m c t = k0_pay1 (F := Ideal) (iblk m c 0 t) (iblk m c 1 t) := by
  unfold outsAt0 out0_A_2
  rw [View.read_writes_eq_canon _ _ _ (cover0_A_2 _ _ _ _ _ _ _ _ _ _ _ _)]
  unfold kernelRun0_A
  dsimp only
  rw [View.canon_unit_zero zeros]
  simp only [View.readAt_eq_ld, Memref.IsWhole.read_unread, View.ld_unit_zero (S := S1024x1024) zeros]

/-- Which blocks a grid point reads and writes. -/
theorem places : ∀ t : Fin cfg0.N, win0_0.index t 0 = win0_2.index t 0 ∧ win0_0.index t 1 = 0 ∧ win0_1.index t 0 = 0
    ∧ win0_1.index t 1 = win0_2.index t 1 :=
  (by decide +kernel : ∀ t : Fin grid0.N, _)

theorem read_x (c : Dev nD) (t : Fin cfg0.N) (r : Fin 1024) (l : Fin 1024) (i : S8192x1024.Idx)
    (h0 : (i 0).val = win0_0.index t 0 * 1024 + r.val) (h1 : (i 1).val = win0_0.index t 1 * 1024 + l.val) :
    (iblk m c 0 t : Vec Ideal S1024x1024 .f32) (ix2 r l) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = (i 0).val; omega
  | ⟨1, _⟩ => show win0_0.index t 1 * 1024 + 1 * l.val = (i 1).val; omega

theorem read_w (c : Dev nD) (t : Fin cfg0.N) (r : Fin 1024) (l : Fin 1024) (i : S1024x2048.Idx)
    (h0 : (i 0).val = win0_1.index t 0 * 1024 + r.val) (h1 : (i 1).val = win0_1.index t 1 * 1024 + l.val) :
    (iblk m c 1 t : Vec Ideal S1024x1024 .bf16) (ix2 r l) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 1024 + 1 * r.val = (i 0).val; omega
  | ⟨1, _⟩ => show win0_1.index t 1 * 1024 + 1 * l.val = (i 1).val; omega

theorem flushed_eq (c : Dev nD) (t : Fin cfg0.N) : (dats m 0 c).flushed 2 t = ((cfg0.win 2).blk t).view.read (Elt Ideal)
    (whole (m ((c : Thread nD τ).loc main_arg0)) (m ((c : Thread nD τ).loc main_arg1))) := by
  rw [Value.flushed2, out_eq]
  funext y
  obtain ⟨e0, e1, e2, e3⟩ := places t
  have b0 : (((cfg0.win 2).blk t).view.emb y 0).val = win0_2.index t 0 * 1024 + 1 * (y 0).val := rfl
  have b1 : (((cfg0.win 2).blk t).view.emb y 1).val = win0_2.index t 1 * 1024 + 1 * (y 1).val := rfl
  show k0_pay1 (F := Ideal) (iblk m c 0 t) (iblk m c 1 t) ((cfg0.win 2).xinj (grid0.coords t) y)
    = whole _ _ (((cfg0.win 2).blk t).view.emb y)
  rw [block_product]
  unfold whole
  refine Finset.sum_congr rfl fun k _ => ?_
  exact congrArg₂ (fun p q : EReal => p * q)
    (read_x m c t (y 0) k (ix2 (((cfg0.win 2).blk t).view.emb y 0) k) (by show (((cfg0.win 2).blk t).view.emb y 0).val = _; rw [b0, e0, Nat.one_mul]) (by show k.val = _; omega))
    (read_w m c t k (y 1) (ix2 k (((cfg0.win 2).blk t).view.emb y 1)) (by show k.val = _; omega) (by show (((cfg0.win 2).blk t).view.emb y 1).val = _; rw [b1, e3, Nat.one_mul]))

theorem final (c : Dev nD) : (dats m 0 c).arrAt 2 cfg0.N = whole (m ((c : Thread nD τ).loc main_arg0)) (m ((c : Thread nD τ).loc main_arg1)) :=
  (dats m 0 c).arrAt_eq_of_covers 2 _ (by decide +kernel) fun t _ y => congrFun (flushed_eq m c t) y

end Cert.CdInIdeal.Product

namespace Cert.CdInReferenceIdeal.Product

open Cert.CdInReferenceIdeal Cert.CdInReferenceIdeal.Gen Idealize.ShloMosaic Idealize.SL.Sem

/-- The reference's result is the same product. -/
theorem host_product (x : FVec Ideal S8192x1024 .f32) (w : FVec Ideal S1024x2048 .bf16) :
    Host.dotGeneral dot_S8192x1024_S1024x2048_S8192x2048_1_0_0_1_n_n none x (extf .f32 w bitsLt_bf16_f32)
      = Cert.CdInIdeal.Product.whole x w := by
  funext i
  pointwise [Cert.CdInIdeal.Product.whole]

end Cert.CdInReferenceIdeal.Product

namespace Cert.Proof.CdIn

open Idealize.ShloMosaic Idealize.SL.Sem

theorem frame_kernel : Cert.quiescent_CdIn := fun m ρ _ => Cert.CdIn.Gen.frame m ρ

theorem frame_kernelIdeal : Cert.quiescent_CdInIdeal := fun m ρ _ => Cert.CdInIdeal.Gen.frame m ρ

theorem frame_reference : Cert.quiescent_CdInReferenceIdeal := fun m ρ _ =>
  (θ_run Cert.CdInReferenceIdeal.defs _ _).mono (fun r h => ⟨fun c => (h c).2, sem_eq_zero_of_no_sems (by decide) r.2⟩)
    (Cert.CdInReferenceIdeal.Value.run (F := Ideal) m ρ)

theorem values : Cert.algebraic_CdInIdeal_CdInReferenceIdeal := fun m g m' g' _ hargs =>
  ⟨fun c => Cert.CdInIdeal.Product.whole (m ((c.tc : Thread Cert.CdInIdeal.nD Cert.CdInIdeal.τ).loc Cert.CdInIdeal.main_arg0)) (m ((c.tc : Thread Cert.CdInIdeal.nD Cert.CdInIdeal.τ).loc Cert.CdInIdeal.main_arg1)),
    (θ_run Cert.CdInIdeal.defs _ _).mono (fun r h c => ⟨(h c).1.trans (Cert.CdInIdeal.Product.final m c), (h c).2⟩)
      (Cert.CdInIdeal.Value.run_blocks (F := Ideal) m g),
    (θ_run Cert.CdInReferenceIdeal.defs _ _).mono (fun r h c => ⟨(h c).1.trans (by
        obtain ⟨h0, h1⟩ := hargs c
        rw [h0, h1]
        exact Cert.CdInReferenceIdeal.Product.host_product _ _), (h c).2⟩)
      (Cert.CdInReferenceIdeal.Value.run (F := Ideal) m' g')⟩

end Cert.Proof.CdIn

end
-- ==== Proof.AbInDwValue.lean ====
/- The first and third layers' input product: its gradient in the weights: the blocks that the call writes are the blocks of the whole product. -/
module

public import proofs.«01_k».proof.Defs
public import proofs.«01_k».proof.Proof.Products
public import proofs.«01_k».proof.Proof.Gen.AbInDw.Frame
public import proofs.«01_k».proof.Proof.Gen.AbInDwIdeal.Value
public import proofs.«01_k».proof.Proof.Gen.AbInDwReferenceIdeal.Run
public import Idealize.ShloMosaic.Lib.Pipeline.ValueKit

@[expose] public section

noncomputable section

namespace Cert.AbInDwIdeal.Product

open Cert.AbInDwIdeal Cert.AbInDwIdeal.Gen Idealize.ShloMosaic Idealize.ShloMosaic.TcCoe Idealize.SL.Sem
open Cert.Products (zeros)
open Idealize.ShloMosaic.Pipeline (Dat)

variable (m : (ℓ : Loc nD τ sig) → Buf (Elt Ideal) ℓ) (ρ : Dev nD → PrngReg)

/-- The product of the whole arrays. -/
def whole (x : S8192x1024.Idx → EReal) (w : S8192x3840.Idx → EReal) : S1024x3840.Idx → EReal :=
  fun i => ∑ k : Fin 8192, x (ix2 k (i 0)) * w (ix2 k (i 1))

/-- The product of one pair of blocks. -/
def part (x : Vec Ideal S2048x1024 .f32) (w : Vec Ideal S2048x1280 .bf16) : S1024x1280.Idx → EReal :=
  fun j => ∑ k : Fin 2048, x (ix2 k (j 0)) * w (ix2 k (j 1))

theorem block_product (x : Vec Ideal S2048x1024 .f32) (w : Vec Ideal S2048x1280 .bf16) (j : S1024x1280.Idx) : k0_pay1 (F := Ideal) x w j = part x w j := by
  pointwise [k0_pay1, part]

section Steps

variable (c : Dev nD) (i : grid0.Coords) (a3 : Memref sig .tc .vmem S2048x1024 .f32) (g3 : a3.IsWhole) (a4 : Memref sig .tc .vmem S2048x1280 .bf16) (g4 : a4.IsWhole)
    (a5 : Memref sig .tc .vmem S1024x1280 .bf16) (g5 : a5.IsWhole) (a6 : Memref sig .tc .vmem S1024x1280 .f32) (g6 : a6.IsWhole)

/-- What the first of four steps leaves in the accumulator. -/
theorem first_eq (h0 : cond0_0 i) (h1 : ¬cond0_1 i) (h2 : ¬cond0_2 i) (x : Vec Ideal S2048x1024 .f32) (w : Vec Ideal S2048x1280 .bf16) :
    sout0_A_0 c i a3 g3 a4 g4 a5 g5 a6 g6 h0 h1 h2 x w
      = k0_pay1 (F := Ideal) x w := by
  unfold sout0_A_0
  rw [View.read_writes_eq_canon _ _ _ (scover0_A_0 _ _ _ _ _ _ _ _ _ _ _ _ _ _ _)]
  unfold kernelRun0_A
  dsimp only
  rw [View.canon_unit_zero zeros]
  unfold k0_pay2
  simp only [View.readAt_eq_ld, Memref.IsWhole.read_unread, View.ld_unit_zero (S := S2048x1024) zeros, View.ld_unit_zero (S := S2048x1280) zeros, View.ld_unit_zero (S := S1024x1280) zeros, shapeCast_self]

/-- The second and third steps add to it. -/
theorem next_eq (h0 : ¬cond0_0 i) (h1 : cond0_1 i) (h2 : ¬cond0_2 i) (x : Vec Ideal S2048x1024 .f32) (w : Vec Ideal S2048x1280 .bf16) (acc : Vec Ideal S1024x1280 .f32) :
    sout0_B_0 c i a3 g3 a4 g4 a5 g5 a6 g6 h0 h1 h2 x w acc
      = addf acc (k0_pay1 (F := Ideal) x w) := by
  unfold sout0_B_0
  rw [View.read_writes_eq_canon _ _ _ (scover0_B_0 _ _ _ _ _ _ _ _ _ _ _ _ _ _ _ _)]
  unfold kernelRun0_B
  dsimp only
  rw [View.canon_unit_zero zeros]
  unfold k0_pay3
  simp only [View.readAt_eq_ld, Memref.IsWhole.read_unread, View.ld_unit_zero (S := S2048x1024) zeros, View.ld_unit_zero (S := S2048x1280) zeros, View.ld_unit_zero (S := S1024x1280) zeros, shapeCast_self]

/-- The fourth writes the sum to the result. -/
theorem last_eq (h0 : ¬cond0_0 i) (h1 : ¬cond0_1 i) (h2 : cond0_2 i) (x : Vec Ideal S2048x1024 .f32) (w : Vec Ideal S2048x1280 .bf16) (acc : Vec Ideal S1024x1280 .f32) (j : S1024x1280.Idx) :
    out0_C_2 c i a3 g3 a4 g4 a5 g5 a6 g6 h0 h1 h2 x w acc j
      = acc j + part x w j := by
  unfold out0_C_2
  rw [View.read_writes_eq_canon _ _ _ (cover0_C_2 _ _ _ _ _ _ _ _ _ _ _ _ _ _ _ _)]
  unfold kernelRun0_C
  dsimp only
  rw [View.canon_unit_zero zeros]
  unfold k0_pay4
  simp only [View.readAt_eq_ld, Memref.IsWhole.read_unread, View.ld_unit_zero (S := S2048x1024) zeros, View.ld_unit_zero (S := S2048x1280) zeros, View.ld_unit_zero (S := S1024x1280) zeros, shapeCast_self]
  rw [← block_product]
  pointwise

end Steps

/-- The product that point `n` adds. -/
def summand (c : Dev nD) (n : ℕ) : S1024x1280.Idx → EReal :=
  if h : n < cfg0.N then part (iblk m c 0 ⟨n, h⟩) (iblk m c 1 ⟨n, h⟩) else 0

theorem summand_eq (c : Dev nD) (t : Fin cfg0.N) : summand m c t.val = part (iblk m c 0 t) (iblk m c 1 t) := dif_pos t.isLt

/-- The accumulator after each of the first three steps. -/
theorem acc_eq (c : Dev nD) (t : Fin cfg0.N) (ht : t.val % 4 ≤ 2) (j : S1024x1280.Idx) :
    (outsAt0 m c t.val t.isLt).2 j = ∑ s ∈ Finset.range (t.val % 4 + 1), summand m c (4 * (t.val / 4) + s) j := by
  rw [Value.soutsAt0_0_eq]
  refine (Pipeline.accAt_add_apply _ _ (fun _ => (0 : EReal)) (summand m c) (4 * (t.val / 4)) 2 (fun h i => ?_) (fun n h acc i hl hu => ?_) _ ht _ j).trans (zero_add _)
  · have e0 : 4 * (t.val / 4) % 4 = 0 := by omega
    unfold Value.scAt0_0
    rw [dif_pos e0, dif_neg (by omega), dif_neg (by omega), zero_add]
    exact (congrFun (first_eq c _ _ _ _ _ _ _ _ _ _ _ _ _ _) i).trans ((block_product _ _ i).trans (congrFun (summand_eq m c ⟨_, h⟩) i).symm)
  · unfold Value.scAt0_0
    rw [dif_neg (by omega), dif_pos (by omega), dif_neg (by omega)]
    exact (congrFun (next_eq c _ _ _ _ _ _ _ _ _ _ _ _ _ _ _) i).trans (congrArg (fun q : EReal => acc i + q)
      ((block_product _ _ i).trans (congrFun (summand_eq m c ⟨_, h⟩) i).symm))

/-- What a point that writes a block of the result writes: the four products' sum. -/
theorem written_eq (c : Dev nD) (t : Fin cfg0.N) (ht : t.val % 4 = 3) (j : S1024x1280.Idx) :
    (outsAt0 m c t.val t.isLt).1 j = ∑ s ∈ Finset.range 4, summand m c (4 * (t.val / 4) + s) j := by
  have hs := acc_eq m c ⟨t.val - 1, by have := t.isLt; omega⟩ (by dsimp only; omega) j
  rw [outsAt0_C m c t (by omega) (by omega) ht]
  dsimp only at hs ⊢
  rw [last_eq, hs, Finset.sum_range_succ _ 3]
  rw [show (t.val - 1) % 4 + 1 = 3 by omega, show 4 * ((t.val - 1) / 4) = 4 * (t.val / 4) by omega]
  exact congrArg (fun q : EReal => _ + q) ((congrFun (summand_eq m c t) j).symm.trans (by rw [show 4 * (t.val / 4) + 3 = t.val by omega]))

/-- Which blocks a grid point reads and writes. -/
theorem places : ∀ t : Fin cfg0.N, win0_0.index t 0 = t.val % 4 ∧ win0_0.index t 1 = win0_2.index t 0 ∧ win0_1.index t 0 = t.val % 4
    ∧ win0_1.index t 1 = 0 + win0_2.index t 1 :=
  (by decide +kernel : ∀ t : Fin grid0.N, _)

/-- Four points in a row write the same block. -/
theorem same_block : ∀ t t' : Fin cfg0.N, t.val / 4 = t'.val / 4 → win0_2.index t 0 = win0_2.index t' 0 ∧ win0_2.index t 1 = win0_2.index t' 1 :=
  (by decide +kernel : ∀ t t' : Fin grid0.N, _)

/-- Every block of the result lies inside it. -/
theorem inside : ∀ t : Fin cfg0.N, win0_2.index t 0 < 1 ∧ win0_2.index t 1 < 3 :=
  (by decide +kernel : ∀ t : Fin grid0.N, _)

theorem read_x (c : Dev nD) (t : Fin cfg0.N) (r : Fin 2048) (l : Fin 1024) (i : S8192x1024.Idx)
    (h0 : (i 0).val = win0_0.index t 0 * 2048 + r.val) (h1 : (i 1).val = win0_0.index t 1 * 1024 + l.val) :
    (iblk m c 0 t : Vec Ideal S2048x1024 .f32) (ix2 r l) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 2048 + 1 * r.val = (i 0).val; omega
  | ⟨1, _⟩ => show win0_0.index t 1 * 1024 + 1 * l.val = (i 1).val; omega

theorem read_w (c : Dev nD) (t : Fin cfg0.N) (r : Fin 2048) (l : Fin 1280) (i : S8192x3840.Idx)
    (h0 : (i 0).val = win0_1.index t 0 * 2048 + r.val) (h1 : (i 1).val = win0_1.index t 1 * 1280 + l.val) :
    (iblk m c 1 t : Vec Ideal S2048x1280 .bf16) (ix2 r l) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 2048 + 1 * r.val = (i 0).val; omega
  | ⟨1, _⟩ => show win0_1.index t 1 * 1280 + 1 * l.val = (i 1).val; omega

/-- One term of the product of the whole arrays. -/
def term (x : S8192x1024.Idx → EReal) (w : S8192x3840.Idx → EReal) (i0 i1 : ℕ) (h0 : i0 < 1024) (h1 : i1 < 3840) (k : ℕ) : EReal :=
  if h : k < 8192 then x (ix2 ⟨k, h⟩ ⟨i0, by omega⟩) * w (ix2 ⟨k, h⟩ ⟨i1, by omega⟩) else 0

/-- The products of the blocks of four points in a row make up a block of the product of the whole arrays. -/
theorem four_eq (c : Dev nD) (t : Fin cfg0.N) (ht : t.val % 4 = 3) (a : Fin 1024) (b : Fin 1280) (i : S1024x3840.Idx)
    (h0 : (i 0).val = win0_2.index t 0 * 1024 + a.val) (h1 : (i 1).val = win0_2.index t 1 * 1280 + b.val) :
    ∑ s ∈ Finset.range 4, summand m c (4 * (t.val / 4) + s) (ix2 a b) = whole (m ((c : Thread nD τ).loc main_arg0)) (m ((c : Thread nD τ).loc main_arg1)) i := by
  have i0 : (i 0 : Nat) < 1024 := (i 0).isLt
  have i1 : (i 1 : Nat) < 3840 := (i 1).isLt
  have l0 := (inside t).1
  have l1 := (inside t).2
  refine Eq.trans (Finset.sum_congr rfl fun s hs => ?_) ((Cert.Products.sum_quarters (term (m ((c : Thread nD τ).loc main_arg0)) (m ((c : Thread nD τ).loc main_arg1)) (i 0).val (i 1).val i0 i1)).trans
    (Finset.sum_congr rfl fun k _ => dif_pos k.isLt))
  have hs4 : s < 4 := Finset.mem_range.mp hs
  have hp : 4 * (t.val / 4) + s < cfg0.N := by have := t.isLt; omega
  obtain ⟨e0, e1, e2, e3⟩ := places ⟨_, hp⟩
  obtain ⟨f0, f1⟩ := same_block ⟨_, hp⟩ t (by dsimp only; omega)
  have em : (4 * (t.val / 4) + s) % 4 = s := by omega
  refine (congrFun (summand_eq m c ⟨_, hp⟩) (ix2 a b)).trans (Finset.sum_congr rfl fun k _ => ?_)
  have hk : s * 2048 + k.val < 8192 := by have := k.isLt; omega
  refine Eq.trans ?_ (dif_pos hk).symm
  exact congrArg₂ (fun p q : EReal => p * q)
    (read_x m c ⟨_, hp⟩ k a _ (by show s * 2048 + k.val = _; rw [e0]; dsimp only; rw [em]) (by show (i 0).val = _; rw [e1, f0, h0]))
    (read_w m c ⟨_, hp⟩ k b _ (by show s * 2048 + k.val = _; rw [e2]; dsimp only; rw [em]) (by show (i 1).val = _; rw [e3, f1, h1]; omega))

theorem flushed_eq (c : Dev nD) (t : Fin cfg0.N) (hf : (cfg0.win 2).flush t = true) :
    (dats m 0 c).flushed 2 t = ((cfg0.win 2).blk t).view.read (Elt Ideal) (whole (m ((c : Thread nD τ).loc main_arg0)) (m ((c : Thread nD τ).loc main_arg1))) := by
  have ht : t.val % 4 = 3 := (flush0_2 t).mp hf
  have hw := written_eq m c t ht
  rw [Value.flushed2]
  generalize (outsAt0 m c t.val t.isLt).1 = d at hw ⊢
  generalize hG : whole (m ((c : Thread nD τ).loc main_arg0)) (m ((c : Thread nD τ).loc main_arg1)) = G
  funext y
  show d ((cfg0.win 2).xinj (grid0.coords t) y) = G (((cfg0.win 2).blk t).view.emb y)
  rw [hw, ← hG]
  have b0 : (((cfg0.win 2).blk t).view.emb y 0).val = win0_2.index t 0 * 1024 + 1 * (y 0).val := rfl
  have b1 : (((cfg0.win 2).blk t).view.emb y 1).val = win0_2.index t 1 * 1280 + 1 * (y 1).val := rfl
  rw [show ((cfg0.win 2).xinj (grid0.coords t) y : S1024x1280.Idx) = ix2 (y 0) (y 1) from Cert.Products.pair _]
  exact four_eq m c t ht (y 0) (y 1) _ (by rw [b0, Nat.one_mul]) (by rw [b1, Nat.one_mul])

/-- The blocks that are written make up the whole result. -/
theorem covered : (cfg0.win 2).Covers := by decide +kernel

theorem final (c : Dev nD) : (dats m 0 c).arrAt 2 cfg0.N = whole (m ((c : Thread nD τ).loc main_arg0)) (m ((c : Thread nD τ).loc main_arg1)) :=
  (dats m 0 c).arrAt_eq_of_cover 2 _ (flushed_eq m c) (covered.cover _ (Memref.isWhole_whole _))

end Cert.AbInDwIdeal.Product

namespace Cert.AbInDwReferenceIdeal.Product

open Cert.AbInDwReferenceIdeal Cert.AbInDwReferenceIdeal.Gen Idealize.ShloMosaic Idealize.SL.Sem

/-- The reference's result is the same product. -/
theorem host_product (x : FVec Ideal S8192x1024 .f32) (w : FVec Ideal S8192x3840 .bf16) :
    truncf .bf16 (transpose S1024x3840 [1, 0] (Host.dotGeneral dot_S8192x3840_S8192x1024_S3840x1024_0_0_1_1_n_n none (extf .f32 w bitsLt_bf16_f32) x) transposes_S3840x1024_S1024x3840_1_0) bitsLt_bf16_f32
      = Cert.AbInDwIdeal.Product.whole x w := by
  funext i
  pointwise [Cert.AbInDwIdeal.Product.whole]
  exact Finset.sum_congr rfl fun k _ => mul_comm _ _

end Cert.AbInDwReferenceIdeal.Product

namespace Cert.Proof.AbInDw

open Idealize.ShloMosaic Idealize.SL.Sem

theorem frame_kernel : Cert.quiescent_AbInDw := fun m ρ _ => Cert.AbInDw.Gen.frame m ρ

theorem frame_kernelIdeal : Cert.quiescent_AbInDwIdeal := fun m ρ _ => Cert.AbInDwIdeal.Gen.frame m ρ

theorem frame_reference : Cert.quiescent_AbInDwReferenceIdeal := fun m ρ _ =>
  (θ_run Cert.AbInDwReferenceIdeal.defs _ _).mono (fun r h => ⟨fun c => (h c).2, sem_eq_zero_of_no_sems (by decide) r.2⟩)
    (Cert.AbInDwReferenceIdeal.Value.run (F := Ideal) m ρ)

theorem values : Cert.algebraic_AbInDwIdeal_AbInDwReferenceIdeal := fun m g m' g' _ hargs =>
  ⟨fun c => Cert.AbInDwIdeal.Product.whole (m ((c.tc : Thread Cert.AbInDwIdeal.nD Cert.AbInDwIdeal.τ).loc Cert.AbInDwIdeal.main_arg0)) (m ((c.tc : Thread Cert.AbInDwIdeal.nD Cert.AbInDwIdeal.τ).loc Cert.AbInDwIdeal.main_arg1)),
    (θ_run Cert.AbInDwIdeal.defs _ _).mono (fun r h c => ⟨(h c).1.trans (Cert.AbInDwIdeal.Product.final m c), (h c).2⟩)
      (Cert.AbInDwIdeal.Value.run_blocks (F := Ideal) m g),
    (θ_run Cert.AbInDwReferenceIdeal.defs _ _).mono (fun r h c => ⟨(h c).1.trans (by
        obtain ⟨h0, h1⟩ := hargs c
        rw [h0, h1]
        exact Cert.AbInDwReferenceIdeal.Product.host_product _ _), (h c).2⟩)
      (Cert.AbInDwReferenceIdeal.Value.run (F := Ideal) m' g')⟩

end Cert.Proof.AbInDw

end
-- ==== Proof.CdInDwValue.lean ====
/- The second and fourth layers' input product: its gradient in the weights: the blocks that the call writes are the blocks of the whole product. -/
module

public import proofs.«01_k».proof.Defs
public import proofs.«01_k».proof.Proof.Products
public import proofs.«01_k».proof.Proof.Gen.CdInDw.Frame
public import proofs.«01_k».proof.Proof.Gen.CdInDwIdeal.Value
public import proofs.«01_k».proof.Proof.Gen.CdInDwReferenceIdeal.Run
public import Idealize.ShloMosaic.Lib.Pipeline.ValueKit

@[expose] public section

noncomputable section

namespace Cert.CdInDwIdeal.Product

open Cert.CdInDwIdeal Cert.CdInDwIdeal.Gen Idealize.ShloMosaic Idealize.ShloMosaic.TcCoe Idealize.SL.Sem
open Cert.Products (zeros)
open Idealize.ShloMosaic.Pipeline (Dat)

variable (m : (ℓ : Loc nD τ sig) → Buf (Elt Ideal) ℓ) (ρ : Dev nD → PrngReg)

/-- The product of the whole arrays. -/
def whole (x : S8192x1024.Idx → EReal) (w : S8192x2048.Idx → EReal) : S1024x2048.Idx → EReal :=
  fun i => ∑ k : Fin 8192, x (ix2 k (i 0)) * w (ix2 k (i 1))

/-- The product of one pair of blocks. -/
def part (x : Vec Ideal S2048x1024 .f32) (w : Vec Ideal S2048x1024 .bf16) : S1024x1024.Idx → EReal :=
  fun j => ∑ k : Fin 2048, x (ix2 k (j 0)) * w (ix2 k (j 1))

theorem block_product (x : Vec Ideal S2048x1024 .f32) (w : Vec Ideal S2048x1024 .bf16) (j : S1024x1024.Idx) : k0_pay1 (F := Ideal) x w j = part x w j := by
  pointwise [k0_pay1, part]

section Steps

variable (c : Dev nD) (i : grid0.Coords) (a3 : Memref sig .tc .vmem S2048x1024 .f32) (g3 : a3.IsWhole) (a4 : Memref sig .tc .vmem S2048x1024 .bf16) (g4 : a4.IsWhole)
    (a5 : Memref sig .tc .vmem S1024x1024 .bf16) (g5 : a5.IsWhole) (a6 : Memref sig .tc .vmem S1024x1024 .f32) (g6 : a6.IsWhole)

/-- What the first of four steps leaves in the accumulator. -/
theorem first_eq (h0 : cond0_0 i) (h1 : ¬cond0_1 i) (h2 : ¬cond0_2 i) (x : Vec Ideal S2048x1024 .f32) (w : Vec Ideal S2048x1024 .bf16) :
    sout0_A_0 c i a3 g3 a4 g4 a5 g5 a6 g6 h0 h1 h2 x w
      = k0_pay1 (F := Ideal) x w := by
  unfold sout0_A_0
  rw [View.read_writes_eq_canon _ _ _ (scover0_A_0 _ _ _ _ _ _ _ _ _ _ _ _ _ _ _)]
  unfold kernelRun0_A
  dsimp only
  rw [View.canon_unit_zero zeros]
  unfold k0_pay2
  simp only [View.readAt_eq_ld, Memref.IsWhole.read_unread, View.ld_unit_zero (S := S2048x1024) zeros, View.ld_unit_zero (S := S1024x1024) zeros, shapeCast_self]

/-- The second and third steps add to it. -/
theorem next_eq (h0 : ¬cond0_0 i) (h1 : cond0_1 i) (h2 : ¬cond0_2 i) (x : Vec Ideal S2048x1024 .f32) (w : Vec Ideal S2048x1024 .bf16) (acc : Vec Ideal S1024x1024 .f32) :
    sout0_B_0 c i a3 g3 a4 g4 a5 g5 a6 g6 h0 h1 h2 x w acc
      = addf acc (k0_pay1 (F := Ideal) x w) := by
  unfold sout0_B_0
  rw [View.read_writes_eq_canon _ _ _ (scover0_B_0 _ _ _ _ _ _ _ _ _ _ _ _ _ _ _ _)]
  unfold kernelRun0_B
  dsimp only
  rw [View.canon_unit_zero zeros]
  unfold k0_pay3
  simp only [View.readAt_eq_ld, Memref.IsWhole.read_unread, View.ld_unit_zero (S := S2048x1024) zeros, View.ld_unit_zero (S := S1024x1024) zeros, shapeCast_self]

/-- The fourth writes the sum to the result. -/
theorem last_eq (h0 : ¬cond0_0 i) (h1 : ¬cond0_1 i) (h2 : cond0_2 i) (x : Vec Ideal S2048x1024 .f32) (w : Vec Ideal S2048x1024 .bf16) (acc : Vec Ideal S1024x1024 .f32) (j : S1024x1024.Idx) :
    out0_C_2 c i a3 g3 a4 g4 a5 g5 a6 g6 h0 h1 h2 x w acc j
      = acc j + part x w j := by
  unfold out0_C_2
  rw [View.read_writes_eq_canon _ _ _ (cover0_C_2 _ _ _ _ _ _ _ _ _ _ _ _ _ _ _ _)]
  unfold kernelRun0_C
  dsimp only
  rw [View.canon_unit_zero zeros]
  unfold k0_pay4
  simp only [View.readAt_eq_ld, Memref.IsWhole.read_unread, View.ld_unit_zero (S := S2048x1024) zeros, View.ld_unit_zero (S := S1024x1024) zeros, shapeCast_self]
  rw [← block_product]
  pointwise

end Steps

/-- The product that point `n` adds. -/
def summand (c : Dev nD) (n : ℕ) : S1024x1024.Idx → EReal :=
  if h : n < cfg0.N then part (iblk m c 0 ⟨n, h⟩) (iblk m c 1 ⟨n, h⟩) else 0

theorem summand_eq (c : Dev nD) (t : Fin cfg0.N) : summand m c t.val = part (iblk m c 0 t) (iblk m c 1 t) := dif_pos t.isLt

/-- The accumulator after each of the first three steps. -/
theorem acc_eq (c : Dev nD) (t : Fin cfg0.N) (ht : t.val % 4 ≤ 2) (j : S1024x1024.Idx) :
    (outsAt0 m c t.val t.isLt).2 j = ∑ s ∈ Finset.range (t.val % 4 + 1), summand m c (4 * (t.val / 4) + s) j := by
  rw [Value.soutsAt0_0_eq]
  refine (Pipeline.accAt_add_apply _ _ (fun _ => (0 : EReal)) (summand m c) (4 * (t.val / 4)) 2 (fun h i => ?_) (fun n h acc i hl hu => ?_) _ ht _ j).trans (zero_add _)
  · have e0 : 4 * (t.val / 4) % 4 = 0 := by omega
    unfold Value.scAt0_0
    rw [dif_pos e0, dif_neg (by omega), dif_neg (by omega), zero_add]
    exact (congrFun (first_eq c _ _ _ _ _ _ _ _ _ _ _ _ _ _) i).trans ((block_product _ _ i).trans (congrFun (summand_eq m c ⟨_, h⟩) i).symm)
  · unfold Value.scAt0_0
    rw [dif_neg (by omega), dif_pos (by omega), dif_neg (by omega)]
    exact (congrFun (next_eq c _ _ _ _ _ _ _ _ _ _ _ _ _ _ _) i).trans (congrArg (fun q : EReal => acc i + q)
      ((block_product _ _ i).trans (congrFun (summand_eq m c ⟨_, h⟩) i).symm))

/-- What a point that writes a block of the result writes: the four products' sum. -/
theorem written_eq (c : Dev nD) (t : Fin cfg0.N) (ht : t.val % 4 = 3) (j : S1024x1024.Idx) :
    (outsAt0 m c t.val t.isLt).1 j = ∑ s ∈ Finset.range 4, summand m c (4 * (t.val / 4) + s) j := by
  have hs := acc_eq m c ⟨t.val - 1, by have := t.isLt; omega⟩ (by dsimp only; omega) j
  rw [outsAt0_C m c t (by omega) (by omega) ht]
  dsimp only at hs ⊢
  rw [last_eq, hs, Finset.sum_range_succ _ 3]
  rw [show (t.val - 1) % 4 + 1 = 3 by omega, show 4 * ((t.val - 1) / 4) = 4 * (t.val / 4) by omega]
  exact congrArg (fun q : EReal => _ + q) ((congrFun (summand_eq m c t) j).symm.trans (by rw [show 4 * (t.val / 4) + 3 = t.val by omega]))

/-- Which blocks a grid point reads and writes. -/
theorem places : ∀ t : Fin cfg0.N, win0_0.index t 0 = t.val % 4 ∧ win0_0.index t 1 = win0_2.index t 0 ∧ win0_1.index t 0 = t.val % 4
    ∧ win0_1.index t 1 = 0 + win0_2.index t 1 :=
  (by decide +kernel : ∀ t : Fin grid0.N, _)

/-- Four points in a row write the same block. -/
theorem same_block : ∀ t t' : Fin cfg0.N, t.val / 4 = t'.val / 4 → win0_2.index t 0 = win0_2.index t' 0 ∧ win0_2.index t 1 = win0_2.index t' 1 :=
  (by decide +kernel : ∀ t t' : Fin grid0.N, _)

/-- Every block of the result lies inside it. -/
theorem inside : ∀ t : Fin cfg0.N, win0_2.index t 0 < 1 ∧ win0_2.index t 1 < 2 :=
  (by decide +kernel : ∀ t : Fin grid0.N, _)

theorem read_x (c : Dev nD) (t : Fin cfg0.N) (r : Fin 2048) (l : Fin 1024) (i : S8192x1024.Idx)
    (h0 : (i 0).val = win0_0.index t 0 * 2048 + r.val) (h1 : (i 1).val = win0_0.index t 1 * 1024 + l.val) :
    (iblk m c 0 t : Vec Ideal S2048x1024 .f32) (ix2 r l) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 2048 + 1 * r.val = (i 0).val; omega
  | ⟨1, _⟩ => show win0_0.index t 1 * 1024 + 1 * l.val = (i 1).val; omega

theorem read_w (c : Dev nD) (t : Fin cfg0.N) (r : Fin 2048) (l : Fin 1024) (i : S8192x2048.Idx)
    (h0 : (i 0).val = win0_1.index t 0 * 2048 + r.val) (h1 : (i 1).val = win0_1.index t 1 * 1024 + l.val) :
    (iblk m c 1 t : Vec Ideal S2048x1024 .bf16) (ix2 r l) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 2048 + 1 * r.val = (i 0).val; omega
  | ⟨1, _⟩ => show win0_1.index t 1 * 1024 + 1 * l.val = (i 1).val; omega

/-- One term of the product of the whole arrays. -/
def term (x : S8192x1024.Idx → EReal) (w : S8192x2048.Idx → EReal) (i0 i1 : ℕ) (h0 : i0 < 1024) (h1 : i1 < 2048) (k : ℕ) : EReal :=
  if h : k < 8192 then x (ix2 ⟨k, h⟩ ⟨i0, by omega⟩) * w (ix2 ⟨k, h⟩ ⟨i1, by omega⟩) else 0

/-- The products of the blocks of four points in a row make up a block of the product of the whole arrays. -/
theorem four_eq (c : Dev nD) (t : Fin cfg0.N) (ht : t.val % 4 = 3) (a : Fin 1024) (b : Fin 1024) (i : S1024x2048.Idx)
    (h0 : (i 0).val = win0_2.index t 0 * 1024 + a.val) (h1 : (i 1).val = win0_2.index t 1 * 1024 + b.val) :
    ∑ s ∈ Finset.range 4, summand m c (4 * (t.val / 4) + s) (ix2 a b) = whole (m ((c : Thread nD τ).loc main_arg0)) (m ((c : Thread nD τ).loc main_arg1)) i := by
  have i0 : (i 0 : Nat) < 1024 := (i 0).isLt
  have i1 : (i 1 : Nat) < 2048 := (i 1).isLt
  have l0 := (inside t).1
  have l1 := (inside t).2
  refine Eq.trans (Finset.sum_congr rfl fun s hs => ?_) ((Cert.Products.sum_quarters (term (m ((c : Thread nD τ).loc main_arg0)) (m ((c : Thread nD τ).loc main_arg1)) (i 0).val (i 1).val i0 i1)).trans
    (Finset.sum_congr rfl fun k _ => dif_pos k.isLt))
  have hs4 : s < 4 := Finset.mem_range.mp hs
  have hp : 4 * (t.val / 4) + s < cfg0.N := by have := t.isLt; omega
  obtain ⟨e0, e1, e2, e3⟩ := places ⟨_, hp⟩
  obtain ⟨f0, f1⟩ := same_block ⟨_, hp⟩ t (by dsimp only; omega)
  have em : (4 * (t.val / 4) + s) % 4 = s := by omega
  refine (congrFun (summand_eq m c ⟨_, hp⟩) (ix2 a b)).trans (Finset.sum_congr rfl fun k _ => ?_)
  have hk : s * 2048 + k.val < 8192 := by have := k.isLt; omega
  refine Eq.trans ?_ (dif_pos hk).symm
  exact congrArg₂ (fun p q : EReal => p * q)
    (read_x m c ⟨_, hp⟩ k a _ (by show s * 2048 + k.val = _; rw [e0]; dsimp only; rw [em]) (by show (i 0).val = _; rw [e1, f0, h0]))
    (read_w m c ⟨_, hp⟩ k b _ (by show s * 2048 + k.val = _; rw [e2]; dsimp only; rw [em]) (by show (i 1).val = _; rw [e3, f1, h1]; omega))

theorem flushed_eq (c : Dev nD) (t : Fin cfg0.N) (hf : (cfg0.win 2).flush t = true) :
    (dats m 0 c).flushed 2 t = ((cfg0.win 2).blk t).view.read (Elt Ideal) (whole (m ((c : Thread nD τ).loc main_arg0)) (m ((c : Thread nD τ).loc main_arg1))) := by
  have ht : t.val % 4 = 3 := (flush0_2 t).mp hf
  have hw := written_eq m c t ht
  rw [Value.flushed2]
  generalize (outsAt0 m c t.val t.isLt).1 = d at hw ⊢
  generalize hG : whole (m ((c : Thread nD τ).loc main_arg0)) (m ((c : Thread nD τ).loc main_arg1)) = G
  funext y
  show d ((cfg0.win 2).xinj (grid0.coords t) y) = G (((cfg0.win 2).blk t).view.emb y)
  rw [hw, ← hG]
  have b0 : (((cfg0.win 2).blk t).view.emb y 0).val = win0_2.index t 0 * 1024 + 1 * (y 0).val := rfl
  have b1 : (((cfg0.win 2).blk t).view.emb y 1).val = win0_2.index t 1 * 1024 + 1 * (y 1).val := rfl
  rw [show ((cfg0.win 2).xinj (grid0.coords t) y : S1024x1024.Idx) = ix2 (y 0) (y 1) from Cert.Products.pair _]
  exact four_eq m c t ht (y 0) (y 1) _ (by rw [b0, Nat.one_mul]) (by rw [b1, Nat.one_mul])

/-- The blocks that are written make up the whole result. -/
theorem covered : (cfg0.win 2).Covers := by decide +kernel

theorem final (c : Dev nD) : (dats m 0 c).arrAt 2 cfg0.N = whole (m ((c : Thread nD τ).loc main_arg0)) (m ((c : Thread nD τ).loc main_arg1)) :=
  (dats m 0 c).arrAt_eq_of_cover 2 _ (flushed_eq m c) (covered.cover _ (Memref.isWhole_whole _))

end Cert.CdInDwIdeal.Product

namespace Cert.CdInDwReferenceIdeal.Product

open Cert.CdInDwReferenceIdeal Cert.CdInDwReferenceIdeal.Gen Idealize.ShloMosaic Idealize.SL.Sem

/-- The reference's result is the same product. -/
theorem host_product (x : FVec Ideal S8192x1024 .f32) (w : FVec Ideal S8192x2048 .bf16) :
    truncf .bf16 (transpose S1024x2048 [1, 0] (Host.dotGeneral dot_S8192x2048_S8192x1024_S2048x1024_0_0_1_1_n_n none (extf .f32 w bitsLt_bf16_f32) x) transposes_S2048x1024_S1024x2048_1_0) bitsLt_bf16_f32
      = Cert.CdInDwIdeal.Product.whole x w := by
  funext i
  pointwise [Cert.CdInDwIdeal.Product.whole]
  exact Finset.sum_congr rfl fun k _ => mul_comm _ _

end Cert.CdInDwReferenceIdeal.Product

namespace Cert.Proof.CdInDw

open Idealize.ShloMosaic Idealize.SL.Sem

theorem frame_kernel : Cert.quiescent_CdInDw := fun m ρ _ => Cert.CdInDw.Gen.frame m ρ

theorem frame_kernelIdeal : Cert.quiescent_CdInDwIdeal := fun m ρ _ => Cert.CdInDwIdeal.Gen.frame m ρ

theorem frame_reference : Cert.quiescent_CdInDwReferenceIdeal := fun m ρ _ =>
  (θ_run Cert.CdInDwReferenceIdeal.defs _ _).mono (fun r h => ⟨fun c => (h c).2, sem_eq_zero_of_no_sems (by decide) r.2⟩)
    (Cert.CdInDwReferenceIdeal.Value.run (F := Ideal) m ρ)

theorem values : Cert.algebraic_CdInDwIdeal_CdInDwReferenceIdeal := fun m g m' g' _ hargs =>
  ⟨fun c => Cert.CdInDwIdeal.Product.whole (m ((c.tc : Thread Cert.CdInDwIdeal.nD Cert.CdInDwIdeal.τ).loc Cert.CdInDwIdeal.main_arg0)) (m ((c.tc : Thread Cert.CdInDwIdeal.nD Cert.CdInDwIdeal.τ).loc Cert.CdInDwIdeal.main_arg1)),
    (θ_run Cert.CdInDwIdeal.defs _ _).mono (fun r h c => ⟨(h c).1.trans (Cert.CdInDwIdeal.Product.final m c), (h c).2⟩)
      (Cert.CdInDwIdeal.Value.run_blocks (F := Ideal) m g),
    (θ_run Cert.CdInDwReferenceIdeal.defs _ _).mono (fun r h c => ⟨(h c).1.trans (by
        obtain ⟨h0, h1⟩ := hargs c
        rw [h0, h1]
        exact Cert.CdInDwReferenceIdeal.Product.host_product _ _), (h c).2⟩)
      (Cert.CdInDwReferenceIdeal.Value.run (F := Ideal) m' g')⟩

end Cert.Proof.CdInDw

end
-- ==== Proof.Norm.lean ====
/- The gradient of a layer norm, one row at a time, over the extended reals: the form that the kernel computes and the one
   that differentiating the plain formula gives. -/
module

public import Idealize.ShloMosaic.Lib.Pointwise
public import Mathlib.Algebra.BigOperators.Fin

@[expose] public section

noncomputable section

namespace Cert.Norm

open Idealize.ShloMosaic

/-- The factor of the residual stream. -/
def scale : EReal := Ideal.ofBits .f32 0x3FD744FD#32
/-- The length of a row. -/
def len : EReal := Ideal.ofBits .f32 0x44800000#32
/-- What is added to the variance. -/
def eps : EReal := Ideal.ofBits .f32 0x3727C5AC#32
/-- Minus a half. -/
def half : EReal := Ideal.ofBits .f32 0xBF000000#32
def two : EReal := Ideal.ofBits .f32 0x40000000#32

/-- What is normalised, less its mean. -/
def dev (x m : Fin 1024 → EReal) (k : Fin 1024) : EReal :=
  (scale * x k + m k) - Ideal.div (∑ j, (scale * x j + m j)) len
/-- The variance. -/
def var (d : Fin 1024 → EReal) : EReal := Ideal.div (∑ k, d k * d k) len + eps
/-- The inverse root of the variance, and its derivative. -/
def invRoot (d : Fin 1024 → EReal) : EReal := Ideal.rsqrt (var d)
def invSlope (d : Fin 1024 → EReal) : EReal := half * Ideal.div (invRoot d) (var d)
/-- The cotangent of the mean of squares, by element. -/
def pull (d ct : Fin 1024 → EReal) (q : EReal) : EReal := Ideal.div ((∑ k, d k * ct k) * q) len
/-- The cotangent of the deviations, as the kernel adds it up. -/
def body (d ct : Fin 1024 → EReal) (r q : EReal) (k : Fin 1024) : EReal := (ct k * r + d k * pull d ct q) + pull d ct q * d k
/-- The cotangent of what is normalised: the kernel's. -/
def grad (d ct : Fin 1024 → EReal) (r q : EReal) (k : Fin 1024) : EReal :=
  body d ct r q k + Ideal.div (∑ j, (0 - body d ct r q j)) len
/-- The cotangent of what is normalised: the plain formula's. -/
def grad' (d ct : Fin 1024 → EReal) (r q : EReal) (k : Fin 1024) : EReal :=
  (ct k * r + pull d ct q * (two * d k)) + Ideal.div (∑ j, -(ct j * r) + ∑ j, -(pull d ct q * (two * d j))) len

/-! ## Reals among the extended reals -/

def Real' (x : EReal) : Prop := ∃ r : ℝ, x = (r : EReal)

theorem Real'.add {x y : EReal} : Real' x → Real' y → Real' (x + y) := fun ⟨a, ha⟩ ⟨b, hb⟩ => ⟨a + b, by rw [ha, hb, EReal.coe_add]⟩
theorem Real'.mul {x y : EReal} : Real' x → Real' y → Real' (x * y) := fun ⟨a, ha⟩ ⟨b, hb⟩ => ⟨a * b, by rw [ha, hb, EReal.coe_mul]⟩
theorem Real'.sub {x y : EReal} : Real' x → Real' y → Real' (x - y) := fun ⟨a, ha⟩ ⟨b, hb⟩ => ⟨a - b, by rw [ha, hb, EReal.coe_sub]⟩
theorem Real'.sum {n : ℕ} {f : Fin n → EReal} (h : ∀ k, Real' (f k)) : Real' (∑ k, f k) :=
  Finset.sum_induction f Real' (fun _ _ => Real'.add) ⟨0, rfl⟩ fun k _ => h k

theorem len_eq : len = ((1024 : ℝ) : EReal) := by unfold len; simp [Ideal.ofBits, Ideal.ieee, -EReal.coe_mul]; norm_num
theorem two_eq : two = ((2 : ℝ) : EReal) := by unfold two; simp [Ideal.ofBits, Ideal.ieee, -EReal.coe_mul]; norm_num
theorem half_eq : half = ((-(1 / 2) : ℝ) : EReal) := by unfold half; simp [Ideal.ofBits, Ideal.ieee, -EReal.coe_mul]; norm_num
theorem scale_eq : scale = ((14107901 * (2 ^ 23)⁻¹ : ℝ) : EReal) := by unfold scale; simp [Ideal.ofBits, Ideal.ieee, -EReal.coe_mul]
theorem eps_eq : eps = ((10995116 * (2 ^ 40)⁻¹ : ℝ) : EReal) := by unfold eps; simp [Ideal.ofBits, Ideal.ieee, -EReal.coe_mul]

theorem div_len (x : EReal) : Ideal.div x len = x * ((1 / 1024 : ℝ) : EReal) := by rw [len_eq, Ideal.div_coe (by norm_num)]
theorem Real'.div_len {x : EReal} (h : Real' x) : Real' (Ideal.div x len) := by
  rw [Norm.div_len]; exact h.mul ⟨_, rfl⟩

theorem real_dev {x m : Fin 1024 → EReal} (h : ∀ k, Real' (scale * x k + m k)) (k : Fin 1024) : Real' (dev x m k) :=
  (h k).sub (Real'.sum h).div_len

/-- The variance of a row of reals is a positive real. -/
theorem real_var {d : Fin 1024 → EReal} (h : ∀ k, Real' (d k)) : ∃ r : ℝ, 0 < r ∧ var d = (r : EReal) := by
  have hs : ∃ r : ℝ, 0 ≤ r ∧ ∑ k, d k * d k = (r : EReal) :=
    Finset.sum_induction (fun k => d k * d k) (fun x => ∃ r : ℝ, 0 ≤ r ∧ x = (r : EReal))
      (fun _ _ ⟨a, h0, ha⟩ ⟨b, h1, hb⟩ => ⟨a + b, by linarith, by rw [ha, hb, EReal.coe_add]⟩) ⟨0, le_refl _, rfl⟩
      fun k _ => by obtain ⟨r, hr⟩ := h k; exact ⟨r * r, mul_self_nonneg r, by rw [hr, EReal.coe_mul]⟩
  obtain ⟨r, h0, hr⟩ := hs
  refine ⟨r * (1 / 1024) + 10995116 * (2 ^ 40)⁻¹, by positivity, ?_⟩
  rw [var, hr, div_len, eps_eq, ← EReal.coe_mul, ← EReal.coe_add]

theorem real_inv {d : Fin 1024 → EReal} (h : ∀ k, Real' (d k)) : Real' (invRoot d) := by
  obtain ⟨r, h0, hr⟩ := real_var h
  rw [invRoot, hr, Ideal.rsqrt_coe, if_neg (not_lt.2 h0.le), if_neg h0.ne']
  exact ⟨_, rfl⟩

theorem real_slope {d : Fin 1024 → EReal} (h : ∀ k, Real' (d k)) : Real' (invSlope d) := by
  obtain ⟨r, h0, hr⟩ := real_var h
  rw [invSlope, hr, Ideal.div_coe h0.ne', half_eq]
  exact Real'.mul ⟨_, rfl⟩ ((real_inv h).mul ⟨_, rfl⟩)

/-! ## The two forms agree -/

/-- On reals both forms are one. -/
theorem grad_of_real {d ct : Fin 1024 → EReal} {r q : EReal} (hd : ∀ k, Real' (d k)) (hc : ∀ k, Real' (ct k)) (hr : Real' r)
    (hq : Real' q) (k : Fin 1024) : grad d ct r q k = grad' d ct r q k := by
  have hp : Real' (pull d ct q) := ((Real'.sum fun k => (hd k).mul (hc k)).mul hq).div_len
  have hb (k : Fin 1024) : body d ct r q k = ct k * r + pull d ct q * (two * d k)
      ∧ 0 - body d ct r q k = -(ct k * r) + -(pull d ct q * (two * d k)) := by
    unfold body
    obtain ⟨a, ha⟩ := hd k
    obtain ⟨b, hb⟩ := hc k
    obtain ⟨s, hs⟩ := hr
    obtain ⟨p, hp⟩ := hp
    rw [hp, ha, hb, hs, two_eq]
    constructor <;> norm_cast <;> ring
  unfold grad grad'
  rw [(hb k).1, Finset.sum_congr rfl fun j _ => (hb j).2, Finset.sum_add_distrib]

/-- An infinity. -/
def Inf (x : EReal) : Prop := x = ⊤ ∨ x = ⊥

theorem Inf.add {x : EReal} (h : Inf x) (y : EReal) : Inf (x + y) := by
  rcases h with rfl | rfl
  · by_cases hy : y = ⊥
    · exact .inr (by rw [hy, EReal.add_bot])
    · exact .inl (EReal.top_add_of_ne_bot hy)
  · exact .inr (EReal.bot_add y)

theorem Inf.neg {x : EReal} (h : Inf x) : Inf (-x) := by
  rcases h with rfl | rfl
  · exact .inr rfl
  · exact .inl rfl

theorem Inf.div_len {x : EReal} (h : Inf x) : Inf (Ideal.div x len) := by
  rw [Norm.div_len]
  rcases h with rfl | rfl
  · exact .inl (EReal.top_mul_coe_of_pos (by norm_num))
  · exact .inr (EReal.bot_mul_coe_of_pos (by norm_num))

theorem Inf.mul_self {x : EReal} (h : Inf x) : x * x = ⊤ := by rcases h with rfl | rfl <;> rfl

/-- One infinity in the row makes all the deviations infinite. -/
theorem inf_dev {x m : Fin 1024 → EReal} {i : Fin 1024} (h : Inf (scale * x i + m i)) (k : Fin 1024) : Inf (dev x m k) := by
  unfold dev
  rw [← Finset.add_sum_erase _ _ (Finset.mem_univ i), sub_eq_add_neg, add_comm]
  exact (h.add _).div_len.neg.add _

/-- On infinite deviations both forms are zero. -/
theorem grad_of_inf {d ct : Fin 1024 → EReal} (hd : ∀ k, Inf (d k)) (k : Fin 1024) :
    grad d ct (invRoot d) (invSlope d) k = grad' d ct (invRoot d) (invSlope d) k := by
  have hs : ∑ k, d k * d k = ⊤ := by
    rw [Finset.sum_congr rfl fun k _ => (hd k).mul_self, ← Finset.add_sum_erase _ _ (Finset.mem_univ (0 : Fin 1024))]
    exact EReal.top_add_of_ne_bot (Finset.sum_induction (fun _ : Fin 1024 => (⊤ : EReal)) (fun x => x ≠ ⊥)
      (fun _ _ ha hb => by simp [EReal.add_eq_bot_iff, ha, hb]) (by simp) fun _ _ => by simp)
  have hv : var d = ⊤ := by
    rw [var, hs, div_len, EReal.top_mul_coe_of_pos (by norm_num), eps_eq]; rfl
  have hi : invRoot d = 0 := by rw [invRoot, hv]; rfl
  have hq : invSlope d = 0 := by
    rw [invSlope, hi, hv]
    simp [Ideal.div]
  have hp : pull d ct 0 = 0 := by rw [pull, mul_zero, div_len, zero_mul]
  unfold grad grad' body
  rw [hi, hq, hp]
  simp

/-- The kernel's gradient is the plain formula's, for a real cotangent. -/
theorem grad_eq (x m ct : Fin 1024 → EReal) (hc : ∀ k, Real' (ct k)) (k : Fin 1024) :
    grad (dev x m) ct (invRoot (dev x m)) (invSlope (dev x m)) k = grad' (dev x m) ct (invRoot (dev x m)) (invSlope (dev x m)) k := by
  by_cases h : ∀ k, Real' (scale * x k + m k)
  · exact grad_of_real (real_dev h) hc (real_inv (real_dev h)) (real_slope (real_dev h)) k
  · obtain ⟨i, hi⟩ := not_forall.1 h
    refine grad_of_inf (fun k => inf_dev (i := i) ?_ k) k
    by_contra hn
    exact hi ⟨_, (EReal.coe_toReal (fun e => hn (.inl e)) fun e => hn (.inr e)).symm⟩

end Cert.Norm

end
-- ==== Proof.LnRead.lean ====
/- One row of the layer norm's gradient: the kernel's block computations and the reference's lines, at an index. -/
module

public import proofs.«01_k».proof.Proof.Norm
public import proofs.«01_k».proof.Proof.Products
public import proofs.«01_k».proof.Proof.Gen.LnBwdIdeal.Skeleton
public import proofs.«01_k».proof.Proof.Gen.LnBwdReferenceIdeal.Read

@[expose] public section

noncomputable section

namespace Cert.LnBwdIdeal.Rows

open Cert.LnBwdIdeal Cert.LnBwdIdeal.Gen Idealize.ShloMosaic Cert.Norm

/-- A row of a block. -/
def row (x : S512x1024.Idx → EReal) (i : Fin 512) : Fin 1024 → EReal := fun k => x (ix2 i k)

theorem pay3_apply (x m : Vec Ideal S512x1024 .f32) (i : Fin 512) (k : Fin 1024) :
    k0_pay3 (F := Ideal) x m (ix2 i k) = dev (row x i) (row m i) k := by
  pointwise [k0_pay3, dev, row, scale, len]

theorem pay4_apply (x m : Vec Ideal S512x1024 .f32) (i : Fin 512) :
    k0_pay4 (F := Ideal) x m (ix2 i 0) = var (dev (row x i) (row m i)) := by
  have h := fun k => pay3_apply x m i k
  unfold k0_pay4
  generalize k0_pay3 (F := Ideal) x m = d at h
  pointwise [var, len, eps]
  simp only [← h]

theorem pay5_apply (x m : Vec Ideal S512x1024 .f32) (i : Fin 512) :
    k0_pay5 (F := Ideal) x m (ix2 i 0) = invRoot (dev (row x i) (row m i)) := by
  unfold invRoot
  rw [← pay4_apply]
  rfl

theorem pay6_apply (x m : Vec Ideal S512x1024 .f32) (i : Fin 512) :
    k0_pay6 (F := Ideal) x m (ix2 i 0) = invSlope (dev (row x i) (row m i)) := by
  unfold invSlope
  rw [← pay4_apply, ← pay5_apply]
  rfl

theorem pay10_apply (g : Vec Ideal S1x1024 .f32) (dy : Vec Ideal S512x1024 .f32) (i : Fin 512) (k : Fin 1024) :
    k0_pay10 (F := Ideal) g dy (ix2 i k) = dy (ix2 i k) * g (ix2 0 k) := by
  pointwise [k0_pay10, k0_pay7]

theorem pay11_apply (d : FVec Ideal S512x1024 .f32) (r q : FVec Ideal S512x1 .f32) (ct : FVec Ideal S512x1024 .f32) (i : Fin 512) (k : Fin 1024) :
    k0_pay11 (F := Ideal) d r q ct (ix2 i k) = grad (row d i) (row ct i) (r (ix2 i 0)) (q (ix2 i 0)) k := by
  pointwise [k0_pay11, grad, body, pull, row, len]
  simp only [Fin.sum_univ_one]

theorem pay8_apply (dy : Vec Ideal S512x1024 .f32) (k : Fin 1024) : k0_pay8 (F := Ideal) dy (ix2 0 k) = ∑ i : Fin 512, dy (ix2 i k) := by
  pointwise [k0_pay8]

theorem pay9_apply (x m dy : Vec Ideal S512x1024 .f32) (k : Fin 1024) :
    k0_pay9 (F := Ideal) x m dy (ix2 0 k)
      = ∑ i : Fin 512, dev (row x i) (row m i) k * invRoot (dev (row x i) (row m i)) * dy (ix2 i k) := by
  simp only [← pay3_apply, ← pay5_apply]
  unfold k0_pay9
  pointwise [k0_pay7]

end Cert.LnBwdIdeal.Rows

namespace Cert.LnBwdReferenceIdeal.Rows

open Cert.LnBwdReferenceIdeal Cert.LnBwdReferenceIdeal.Gen Cert.LnBwdReferenceIdeal.Read Idealize.ShloMosaic Cert.Norm

/-- A row of an array. -/
def row (x : S8192x1024.Idx → EReal) (i : Fin 8192) : Fin 1024 → EReal := fun k => x (ix2 i k)

variable (x m dy : FVec Ideal S8192x1024 .f32) (g : FVec Ideal S1024 .f32)

theorem dev_apply (i : Fin 8192) (k : Fin 1024) : val_main_v17 (F := Ideal) x m (ix2 i k) = dev (row x i) (row m i) k := by
  pointwise [val_main_v17, val_main_v2, val_main_v1, val_main_v0, val_main_cst, val_main_v16, val_main_v6, val_main_v5, val_main_cst_1, val_main_v4,
    val_main_v3, val_main_cst_0, dev, row, scale, len]

/-- The variance reads the deviations computed before it. -/
theorem dev0_eq : val_main_v8 (F := Ideal) x m = val_main_v17 (F := Ideal) x m := rfl

theorem var_apply (i : Fin 8192) : val_main_v19 (F := Ideal) x m (ix2 i 0) = var (dev (row x i) (row m i)) := by
  have h := fun k => dev_apply x m i k
  unfold val_main_v19 val_main_v15 val_main_v13 val_main_v12 val_main_v9
  rw [dev0_eq]
  generalize val_main_v17 (F := Ideal) x m = d at h
  pointwise [val_main_cst_3, val_main_v14, val_main_cst_4, val_main_v18, val_main_cst_5, var, len, eps]
  simp only [← h]

theorem invRoot_apply (i : Fin 8192) : val_main_v20 (F := Ideal) x m (ix2 i 0) = invRoot (dev (row x i) (row m i)) := by
  unfold invRoot
  rw [← var_apply]
  rfl

theorem invSlope_apply (i : Fin 8192) : val_main_v23 (F := Ideal) x m (ix2 i 0) = invSlope (dev (row x i) (row m i)) := by
  have h0 := invRoot_apply x m i
  have h1 := var_apply x m i
  unfold invSlope
  rw [← h0, ← h1]
  unfold val_main_v23 val_main_v21
  generalize val_main_v20 (F := Ideal) x m = a
  generalize val_main_v19 (F := Ideal) x m = b
  pointwise [val_main_v22, val_main_cst_6, half]

/-- The cotangent of the normalised row. -/
theorem ct_apply (i : Fin 8192) (k : Fin 1024) : val_main_v40 (F := Ideal) g dy (ix2 i k) = dy (ix2 i k) * g (ix1 k) := by
  pointwise [val_main_v40, val_main_v32, val_main_v39, val_main_v26]

theorem grad_apply (i : Fin 8192) (k : Fin 1024) : val_main_v65 (F := Ideal) x m g dy (ix2 i k)
    = grad' (dev (row x i) (row m i)) (fun k => dy (ix2 i k) * g (ix1 k)) (invRoot (dev (row x i) (row m i)))
      (invSlope (dev (row x i) (row m i))) k := by
  have hd := fun k => dev_apply x m i k
  have hr := invRoot_apply x m i
  have hq := invSlope_apply x m i
  have hc := fun k => ct_apply dy g i k
  rw [← hr, ← hq, show dev (row x i) (row m i) = fun k => val_main_v17 (F := Ideal) x m (ix2 i k) from funext fun k => (hd k).symm,
    show (fun k => dy (ix2 i k) * g (ix1 k)) = fun k => val_main_v40 (F := Ideal) g dy (ix2 i k) from funext fun k => (hc k).symm]
  unfold val_main_v65 val_main_v64 val_main_v63 val_main_v62 val_main_v60 val_main_v50 val_main_v49 val_main_v48 val_main_v58 val_main_v57 val_main_v56
    val_main_v59 val_main_v55 val_main_v54 val_main_v53 val_main_v52 val_main_v47 val_main_v46 val_main_v45 val_main_v44 val_main_v43 val_main_v42
    val_main_v11
  rw [dev0_eq]
  generalize val_main_v17 (F := Ideal) x m = d
  generalize val_main_v20 (F := Ideal) x m = r
  generalize val_main_v23 (F := Ideal) x m = q
  generalize val_main_v40 (F := Ideal) g dy = ct
  pointwise [val_main_cst_11, val_main_cst_12, val_main_v51, val_main_cst_13, val_main_cst_14, val_main_cst_15, val_main_v61, val_main_cst_16,
    val_main_cst_17, val_main_v10, val_main_cst_2, grad', pull, len, two]
  simp only [Fin.sum_univ_one]

theorem bias_apply (k : Fin 1024) : val_main_v69 (F := Ideal) dy (ix2 0 k) = ∑ i : Fin 8192, dy (ix2 i k) := by
  pointwise [val_main_v69, val_main_v35, val_main_v34, val_main_v33, val_main_cst_7, val_main_cst_8]
  simp only [Fin.sum_univ_one]

theorem gain_apply (k : Fin 1024) : val_main_v68 (F := Ideal) x m dy (ix2 0 k)
    = ∑ i : Fin 8192, dev (row x i) (row m i) k * invRoot (dev (row x i) (row m i)) * dy (ix2 i k) := by
  simp only [← dev_apply, ← invRoot_apply]
  unfold val_main_v68 val_main_v41 val_main_v38 val_main_v37 val_main_v36 val_main_v25 val_main_v24
  generalize val_main_v17 (F := Ideal) x m = d
  generalize val_main_v20 (F := Ideal) x m = r
  pointwise [val_main_v32, val_main_cst_9, val_main_cst_10]
  simp only [Fin.sum_univ_one]

end Cert.LnBwdReferenceIdeal.Rows

end
-- ==== Proof.LnBwdValue.lean ====
/- The gradient of the residual layer norm: what the call writes is what the plain formula's gradient is, when the gain and the
   incoming gradient are reals. -/
module

public import proofs.«01_k».proof.Defs
public import proofs.«01_k».proof.Proof.Finite
public import proofs.«01_k».proof.Proof.LnRead
public import proofs.«01_k».proof.Proof.Gen.Pre_finite_ln
public import proofs.«01_k».proof.Proof.Gen.LnBwd.Frame
public import proofs.«01_k».proof.Proof.Gen.LnBwdIdeal.Value
public import proofs.«01_k».proof.Proof.Gen.LnBwdReferenceIdeal.Run

@[expose] public section

noncomputable section

namespace Cert.LnBwdIdeal.Blocks

open Cert.LnBwdIdeal Cert.LnBwdIdeal.Gen Cert.LnBwdIdeal.Rows Idealize.ShloMosaic Idealize.ShloMosaic.TcCoe Idealize.SL.Sem
open Cert.Products (zeros)
open Idealize.ShloMosaic.Pipeline (Dat)
open Cert.LnBwdReferenceIdeal.Read

section Cases

variable (c : Dev nD) (i : grid0.Coords) (a2 : Memref sig .tc .vmem S1x1024 .f32) (h2 : a2.IsWhole) (a3 : Memref sig .tc .vmem S1x1024 .f32) (h3 : a3.IsWhole)
  (a4 : Memref sig .tc .vmem S512x1024 .f32) (h4 : a4.IsWhole) (a5 : Memref sig .tc .vmem S512x1024 .f32) (h5 : a5.IsWhole) (a6 : Memref sig .tc .vmem S512x1024 .f32) (h6 : a6.IsWhole)
  (a7 : Memref sig .tc .vmem S1x1024 .f32) (h7 : a7.IsWhole) (a8 : Memref sig .tc .vmem S1x1024 .f32) (h8 : a8.IsWhole) (a9 : Memref sig .tc .vmem S512x1024 .f32) (h9 : a9.IsWhole)
  (a10 : Memref sig .tc .vmem S512x1024 .bf16) (h10 : a10.IsWhole) (g b : Vec Ideal S1x1024 .f32) (x m dy : Vec Ideal S512x1024 .f32)

theorem gain_first (hc : cond0_0 i) : out0_A_5 c i a2 h2 a3 h3 a4 h4 a5 h5 a6 h6 a7 h7 a8 h8 a9 h9 a10 h10 hc g b x m dy = k0_pay13 (F := Ideal) (k0_pay9 x m dy) (k0_pay1 (F := Ideal)) := by
  unfold out0_A_5
  rw [View.read_writes_eq_canon _ _ _ (cover0_A_5 c i a2 h2 a3 h3 a4 h4 a5 h5 a6 h6 a7 h7 a8 h8 a9 h9 a10 h10 hc g b x m dy)]
  unfold kernelRun0_A
  dsimp only
  rw [View.canon_cons_unit_zero zeros]
  simp only [kernelRun0_A.sl.v65, kernelRun0_A.sl.H5_1, kernelRun0_A.sl.v69, kernelRun0_A.sl.H6_1, kernelRun0_A.sl.r, kernelRun0_A.sl.r_1, kernelRun0_A.sl.r_2, kernelRun0_A.sl.r_3, kernelRun0_A.sl.r_4, kernelRun0_A.sl.r_5, kernelRun0_A.sl.r_6, View.readAt_eq_ld, Memref.IsWhole.read_unread, View.ld_unit_zero (S := S512x1024) zeros, View.readCov_unit_zero (S := S1x1024) _ zeros]

theorem bias_first (hc : cond0_0 i) : out0_A_6 c i a2 h2 a3 h3 a4 h4 a5 h5 a6 h6 a7 h7 a8 h8 a9 h9 a10 h10 hc g b x m dy = k0_pay14 (F := Ideal) (k0_pay8 dy) (k0_pay2 (F := Ideal)) := by
  unfold out0_A_6
  rw [View.read_writes_eq_canon _ _ _ (cover0_A_6 c i a2 h2 a3 h3 a4 h4 a5 h5 a6 h6 a7 h7 a8 h8 a9 h9 a10 h10 hc g b x m dy)]
  unfold kernelRun0_A
  dsimp only
  rw [View.canon_cons_unit_zero zeros]
  simp only [kernelRun0_A.sl.v65, kernelRun0_A.sl.H5_1, kernelRun0_A.sl.v69, kernelRun0_A.sl.H6_1, kernelRun0_A.sl.r, kernelRun0_A.sl.r_1, kernelRun0_A.sl.r_2, kernelRun0_A.sl.r_3, kernelRun0_A.sl.r_4, kernelRun0_A.sl.r_5, kernelRun0_A.sl.r_6, View.readAt_eq_ld, Memref.IsWhole.read_unread, View.ld_unit_zero (S := S512x1024) zeros, View.readCov_unit_zero (S := S1x1024) _ zeros]

theorem dx_first (hc : cond0_0 i) : out0_A_7 c i a2 h2 a3 h3 a4 h4 a5 h5 a6 h6 a7 h7 a8 h8 a9 h9 a10 h10 hc g b x m dy
    = k0_pay12 (F := Ideal) (k0_pay3 x m) (k0_pay5 x m) (k0_pay6 x m) (k0_pay10 g dy) := by
  unfold out0_A_7
  rw [View.read_writes_eq_canon _ _ _ (cover0_A_7 c i a2 h2 a3 h3 a4 h4 a5 h5 a6 h6 a7 h7 a8 h8 a9 h9 a10 h10 hc g b x m dy)]
  unfold kernelRun0_A
  dsimp only
  rw [View.canon_unit_zero zeros]
  simp only [kernelRun0_A.sl.v65, kernelRun0_A.sl.H5_1, kernelRun0_A.sl.v69, kernelRun0_A.sl.H6_1, kernelRun0_A.sl.r, kernelRun0_A.sl.r_1, kernelRun0_A.sl.r_2, kernelRun0_A.sl.r_3, kernelRun0_A.sl.r_4, kernelRun0_A.sl.r_5, kernelRun0_A.sl.r_6, View.readAt_eq_ld, Memref.IsWhole.read_unread, View.ld_unit_zero (S := S512x1024) zeros, View.ld_unit_zero (S := S1x1024) zeros]

theorem dm_first (hc : cond0_0 i) : out0_A_8 c i a2 h2 a3 h3 a4 h4 a5 h5 a6 h6 a7 h7 a8 h8 a9 h9 a10 h10 hc g b x m dy
    = k0_pay15 (F := Ideal) (k0_pay3 x m) (k0_pay5 x m) (k0_pay6 x m) (k0_pay10 g dy) := by
  unfold out0_A_8
  rw [View.read_writes_eq_canon _ _ _ (cover0_A_8 c i a2 h2 a3 h3 a4 h4 a5 h5 a6 h6 a7 h7 a8 h8 a9 h9 a10 h10 hc g b x m dy)]
  unfold kernelRun0_A
  dsimp only
  rw [View.canon_unit_zero zeros]
  simp only [kernelRun0_A.sl.v65, kernelRun0_A.sl.H5_1, kernelRun0_A.sl.v69, kernelRun0_A.sl.H6_1, kernelRun0_A.sl.r, kernelRun0_A.sl.r_1, kernelRun0_A.sl.r_2, kernelRun0_A.sl.r_3, kernelRun0_A.sl.r_4, kernelRun0_A.sl.r_5, kernelRun0_A.sl.r_6, View.readAt_eq_ld, Memref.IsWhole.read_unread, View.ld_unit_zero (S := S512x1024) zeros, View.ld_unit_zero (S := S1x1024) zeros]

variable (s5 s6 : Vec Ideal S1x1024 .f32)

theorem gain_next (hc : ¬cond0_0 i) : out0_B_5 c i a2 h2 a3 h3 a4 h4 a5 h5 a6 h6 a7 h7 a8 h8 a9 h9 a10 h10 hc g b x m dy s5 s6 = k0_pay13 (F := Ideal) (k0_pay9 x m dy) s5 := by
  unfold out0_B_5
  rw [View.read_writes_eq_canon _ _ _ (cover0_B_5 c i a2 h2 a3 h3 a4 h4 a5 h5 a6 h6 a7 h7 a8 h8 a9 h9 a10 h10 hc g b x m dy s5 s6)]
  unfold kernelRun0_B
  dsimp only
  rw [View.canon_unit_zero zeros]
  simp only [kernelRun0_B.sl.r, kernelRun0_B.sl.r_1, kernelRun0_B.sl.r_2, kernelRun0_B.sl.r_3, kernelRun0_B.sl.r_4, kernelRun0_B.sl.r_5, kernelRun0_B.sl.r_6, View.readAt_eq_ld, Memref.IsWhole.read_unread, View.ld_unit_zero (S := S512x1024) zeros, View.ld_unit_zero (S := S1x1024) zeros]

theorem bias_next (hc : ¬cond0_0 i) : out0_B_6 c i a2 h2 a3 h3 a4 h4 a5 h5 a6 h6 a7 h7 a8 h8 a9 h9 a10 h10 hc g b x m dy s5 s6 = k0_pay14 (F := Ideal) (k0_pay8 dy) s6 := by
  unfold out0_B_6
  rw [View.read_writes_eq_canon _ _ _ (cover0_B_6 c i a2 h2 a3 h3 a4 h4 a5 h5 a6 h6 a7 h7 a8 h8 a9 h9 a10 h10 hc g b x m dy s5 s6)]
  unfold kernelRun0_B
  dsimp only
  rw [View.canon_unit_zero zeros]
  simp only [kernelRun0_B.sl.r, kernelRun0_B.sl.r_1, kernelRun0_B.sl.r_2, kernelRun0_B.sl.r_3, kernelRun0_B.sl.r_4, kernelRun0_B.sl.r_5, kernelRun0_B.sl.r_6, View.readAt_eq_ld, Memref.IsWhole.read_unread, View.ld_unit_zero (S := S512x1024) zeros, View.ld_unit_zero (S := S1x1024) zeros]

theorem dx_next (hc : ¬cond0_0 i) : out0_B_7 c i a2 h2 a3 h3 a4 h4 a5 h5 a6 h6 a7 h7 a8 h8 a9 h9 a10 h10 hc g b x m dy s5 s6
    = k0_pay12 (F := Ideal) (k0_pay3 x m) (k0_pay5 x m) (k0_pay6 x m) (k0_pay10 g dy) := by
  unfold out0_B_7
  rw [View.read_writes_eq_canon _ _ _ (cover0_B_7 c i a2 h2 a3 h3 a4 h4 a5 h5 a6 h6 a7 h7 a8 h8 a9 h9 a10 h10 hc g b x m dy s5 s6)]
  unfold kernelRun0_B
  dsimp only
  rw [View.canon_unit_zero zeros]
  simp only [kernelRun0_B.sl.r, kernelRun0_B.sl.r_1, kernelRun0_B.sl.r_2, kernelRun0_B.sl.r_3, kernelRun0_B.sl.r_4, kernelRun0_B.sl.r_5, kernelRun0_B.sl.r_6, View.readAt_eq_ld, Memref.IsWhole.read_unread, View.ld_unit_zero (S := S512x1024) zeros, View.ld_unit_zero (S := S1x1024) zeros]

theorem dm_next (hc : ¬cond0_0 i) : out0_B_8 c i a2 h2 a3 h3 a4 h4 a5 h5 a6 h6 a7 h7 a8 h8 a9 h9 a10 h10 hc g b x m dy s5 s6
    = k0_pay15 (F := Ideal) (k0_pay3 x m) (k0_pay5 x m) (k0_pay6 x m) (k0_pay10 g dy) := by
  unfold out0_B_8
  rw [View.read_writes_eq_canon _ _ _ (cover0_B_8 c i a2 h2 a3 h3 a4 h4 a5 h5 a6 h6 a7 h7 a8 h8 a9 h9 a10 h10 hc g b x m dy s5 s6)]
  unfold kernelRun0_B
  dsimp only
  rw [View.canon_unit_zero zeros]
  simp only [kernelRun0_B.sl.r, kernelRun0_B.sl.r_1, kernelRun0_B.sl.r_2, kernelRun0_B.sl.r_3, kernelRun0_B.sl.r_4, kernelRun0_B.sl.r_5, kernelRun0_B.sl.r_6, View.readAt_eq_ld, Memref.IsWhole.read_unread, View.ld_unit_zero (S := S512x1024) zeros, View.ld_unit_zero (S := S1x1024) zeros]

end Cases

variable (m : (ℓ : Loc nD τ sig) → Buf (Elt Ideal) ℓ) (ρ : Dev nD → PrngReg) (c : Dev nD)

/-- The arguments: what is normalised is made of the first two; the third is the gain, the fourth the incoming gradient. -/
abbrev argX : S8192x1024.Idx → EReal := m ((c.tc : Thread nD τ).loc main_arg0)
abbrev argM : S8192x1024.Idx → EReal := m ((c.tc : Thread nD τ).loc main_arg1)
abbrev argG : S1024.Idx → EReal := m ((c.tc : Thread nD τ).loc main_arg2)
abbrev argY : S8192x1024.Idx → EReal := m ((c.tc : Thread nD τ).loc main_arg4)

/-- The blocks of a point. -/
abbrev blkG (t : Fin cfg0.N) : Vec Ideal S1x1024 .f32 := iblk m c 0 t
abbrev blkX (t : Fin cfg0.N) : Vec Ideal S512x1024 .f32 := iblk m c 2 t
abbrev blkM (t : Fin cfg0.N) : Vec Ideal S512x1024 .f32 := iblk m c 3 t
abbrev blkY (t : Fin cfg0.N) : Vec Ideal S512x1024 .f32 := iblk m c 4 t

/-- Which blocks a grid point reads and writes: the rows' blocks from the last to the first. -/
theorem places : ∀ t : Fin cfg0.N, (win0_0.index t 0 = 0 ∧ win0_0.index t 1 = 0) ∧ (win0_2.index t 0 = 15 - t.val ∧ win0_2.index t 1 = 0)
    ∧ (win0_3.index t 0 = 15 - t.val ∧ win0_3.index t 1 = 0) ∧ (win0_4.index t 0 = 15 - t.val ∧ win0_4.index t 1 = 0)
    ∧ (win0_5.index t 0 = 0 ∧ win0_5.index t 1 = 0) ∧ (win0_6.index t 0 = 0 ∧ win0_6.index t 1 = 0)
    ∧ (win0_7.index t 0 = 15 - t.val ∧ win0_7.index t 1 = 0) ∧ (win0_8.index t 0 = 15 - t.val ∧ win0_8.index t 1 = 0) :=
  (by decide +kernel : ∀ t : Fin grid0.N, _)

theorem points : cfg0.N = 16 := rfl

/-- The row of the arrays that a row of a point's block is. -/
def at' (t : Fin cfg0.N) (r : Fin 512) : Fin 8192 := ⟨(15 - t.val) * 512 + r.val, by have := r.isLt; omega⟩

theorem read_x (t : Fin cfg0.N) (r : Fin 512) (k : Fin 1024) : blkX m c t (ix2 r k) = argX m c (ix2 (at' t r) k) := by
  obtain ⟨-, ⟨e0, e1⟩, -⟩ := places t
  unfold blkX iblk
  rw [View.read_apply]
  show V m c main_arg0 _ = _
  rw [V_main_arg0]
  refine congrArg (argX m c) (funext fun a => Fin.ext ?_)
  match a with
  | ⟨0, _⟩ => show win0_2.index t 0 * 512 + 1 * r.val = (15 - t.val) * 512 + r.val; omega
  | ⟨1, _⟩ => show win0_2.index t 1 * 1024 + 1 * k.val = k.val; omega

theorem read_m (t : Fin cfg0.N) (r : Fin 512) (k : Fin 1024) : blkM m c t (ix2 r k) = argM m c (ix2 (at' t r) k) := by
  obtain ⟨-, -, ⟨e0, e1⟩, -⟩ := places t
  unfold blkM iblk
  rw [View.read_apply]
  show V m c main_arg1 _ = _
  rw [V_main_arg1]
  refine congrArg (argM m c) (funext fun a => Fin.ext ?_)
  match a with
  | ⟨0, _⟩ => show win0_3.index t 0 * 512 + 1 * r.val = (15 - t.val) * 512 + r.val; omega
  | ⟨1, _⟩ => show win0_3.index t 1 * 1024 + 1 * k.val = k.val; omega

theorem read_y (t : Fin cfg0.N) (r : Fin 512) (k : Fin 1024) : blkY m c t (ix2 r k) = argY m c (ix2 (at' t r) k) := by
  obtain ⟨-, -, -, ⟨e0, e1⟩, -⟩ := places t
  unfold blkY iblk
  rw [View.read_apply]
  show V m c main_arg4 _ = _
  rw [V_main_arg4]
  refine congrArg (argY m c) (funext fun a => Fin.ext ?_)
  match a with
  | ⟨0, _⟩ => show win0_4.index t 0 * 512 + 1 * r.val = (15 - t.val) * 512 + r.val; omega
  | ⟨1, _⟩ => show win0_4.index t 1 * 1024 + 1 * k.val = k.val; omega

/-- The gain, made a row before the call. -/
theorem gain_row : V m c main_v0 = shapeCast S1x1024 (argG m c) shapeCasts_S1024_S1x1024 := by
  show StableHlo.after hostOps0 (fun b => m (c, b)) main_v0 = _
  unfold hostOps0
  after_results_simp
  rfl

theorem read_g (t : Fin cfg0.N) (k : Fin 1024) : blkG m c t (ix2 0 k) = argG m c (ix1 k) := by
  obtain ⟨⟨e0, e1⟩, -⟩ := places t
  unfold blkG iblk
  rw [View.read_apply]
  show V m c main_v0 _ = _
  rw [gain_row]
  have e : (((cfg0.win 0).blk t).view.emb (ix2 0 k) : S1x1024.Idx) = ix2 0 k := funext fun a => Fin.ext (by
    match a with
    | ⟨0, _⟩ => show win0_0.index t 0 * 1 + 1 * 0 = 0; omega
    | ⟨1, _⟩ => show win0_0.index t 1 * 1024 + 1 * k.val = k.val; omega)
  refine (congrArg (shapeCast S1x1024 (argG m c) shapeCasts_S1024_S1x1024) e).trans ?_
  pointwise

/-- What each point leaves in the two accumulators and writes to the other results. -/
theorem first_eq (t : Fin cfg0.N) (h : t.val % 16 = 0) : outsAt0 m c t.val t.isLt
    = (k0_pay13 (F := Ideal) (k0_pay9 (blkX m c t) (blkM m c t) (blkY m c t)) (k0_pay1 (F := Ideal)), k0_pay14 (F := Ideal) (k0_pay8 (blkY m c t)) (k0_pay2 (F := Ideal)),
      k0_pay12 (F := Ideal) (k0_pay3 (blkX m c t) (blkM m c t)) (k0_pay5 (blkX m c t) (blkM m c t)) (k0_pay6 (blkX m c t) (blkM m c t)) (k0_pay10 (blkG m c t) (blkY m c t)),
      k0_pay15 (F := Ideal) (k0_pay3 (blkX m c t) (blkM m c t)) (k0_pay5 (blkX m c t) (blkM m c t)) (k0_pay6 (blkX m c t) (blkM m c t)) (k0_pay10 (blkG m c t) (blkY m c t))) := by
  rw [outsAt0_A m c t h, gain_first, bias_first, dx_first, dm_first]

theorem next_eq (t : Fin cfg0.N) (h : ¬t.val % 16 = 0) : outsAt0 m c t.val t.isLt
    = (k0_pay13 (F := Ideal) (k0_pay9 (blkX m c t) (blkM m c t) (blkY m c t)) (outsAt0 m c (t.val - 1) (Nat.lt_of_le_of_lt (Nat.sub_le _ _) t.isLt)).1,
      k0_pay14 (F := Ideal) (k0_pay8 (blkY m c t)) (outsAt0 m c (t.val - 1) (Nat.lt_of_le_of_lt (Nat.sub_le _ _) t.isLt)).2.1,
      k0_pay12 (F := Ideal) (k0_pay3 (blkX m c t) (blkM m c t)) (k0_pay5 (blkX m c t) (blkM m c t)) (k0_pay6 (blkX m c t) (blkM m c t)) (k0_pay10 (blkG m c t) (blkY m c t)),
      k0_pay15 (F := Ideal) (k0_pay3 (blkX m c t) (blkM m c t)) (k0_pay5 (blkX m c t) (blkM m c t)) (k0_pay6 (blkX m c t) (blkM m c t)) (k0_pay10 (blkG m c t) (blkY m c t))) := by
  rw [outsAt0_B m c t h, gain_next, bias_next, dx_next, dm_next]

theorem dx_eq (t : Fin cfg0.N) : (outsAt0 m c t.val t.isLt).2.2.1
    = k0_pay12 (F := Ideal) (k0_pay3 (blkX m c t) (blkM m c t)) (k0_pay5 (blkX m c t) (blkM m c t)) (k0_pay6 (blkX m c t) (blkM m c t)) (k0_pay10 (blkG m c t) (blkY m c t)) := by
  by_cases h : t.val % 16 = 0
  · rw [first_eq m c t h]
  · rw [next_eq m c t h]

theorem dm_eq (t : Fin cfg0.N) : (outsAt0 m c t.val t.isLt).2.2.2
    = k0_pay15 (F := Ideal) (k0_pay3 (blkX m c t) (blkM m c t)) (k0_pay5 (blkX m c t) (blkM m c t)) (k0_pay6 (blkX m c t) (blkM m c t)) (k0_pay10 (blkG m c t) (blkY m c t)) := by
  by_cases h : t.val % 16 = 0
  · rw [first_eq m c t h]
  · rw [next_eq m c t h]

/-- One row's term of the gain's gradient, and of the bias's. -/
def gainTerm (k : Fin 1024) (n : ℕ) : EReal :=
  if h : n < 8192 then
    Norm.dev (Cert.LnBwdReferenceIdeal.Rows.row (argX m c) ⟨n, h⟩) (Cert.LnBwdReferenceIdeal.Rows.row (argM m c) ⟨n, h⟩) k
      * Norm.invRoot (Norm.dev (Cert.LnBwdReferenceIdeal.Rows.row (argX m c) ⟨n, h⟩) (Cert.LnBwdReferenceIdeal.Rows.row (argM m c) ⟨n, h⟩)) * argY m c (ix2 ⟨n, h⟩ k)
  else 0
def biasTerm (k : Fin 1024) (n : ℕ) : EReal := if h : n < 8192 then argY m c (ix2 ⟨n, h⟩ k) else 0

theorem row_x (t : Fin cfg0.N) (r : Fin 512) : row (blkX m c t) r = Cert.LnBwdReferenceIdeal.Rows.row (argX m c) (at' t r) := funext fun k => read_x m c t r k
theorem row_m (t : Fin cfg0.N) (r : Fin 512) : row (blkM m c t) r = Cert.LnBwdReferenceIdeal.Rows.row (argM m c) (at' t r) := funext fun k => read_m m c t r k

theorem gain_part (t : Fin cfg0.N) (k : Fin 1024) : k0_pay9 (F := Ideal) (blkX m c t) (blkM m c t) (blkY m c t) (ix2 0 k)
    = ∑ r : Fin 512, gainTerm m c k ((15 - t.val) * 512 + r.val) := by
  rw [pay9_apply]
  refine Finset.sum_congr rfl fun r _ => ?_
  rw [row_x, row_m, read_y]
  unfold gainTerm
  rw [dif_pos (show (15 - t.val) * 512 + r.val < 8192 from (at' t r).isLt)]
  rfl

theorem bias_part (t : Fin cfg0.N) (k : Fin 1024) : k0_pay8 (F := Ideal) (blkY m c t) (ix2 0 k)
    = ∑ r : Fin 512, biasTerm m c k ((15 - t.val) * 512 + r.val) := by
  rw [pay8_apply]
  refine Finset.sum_congr rfl fun r _ => ?_
  rw [read_y]
  unfold biasTerm
  rw [dif_pos (show (15 - t.val) * 512 + r.val < 8192 from (at' t r).isLt)]
  rfl

theorem acc_eq (k : Fin 1024) : ∀ (n : ℕ) (hn : n < cfg0.N),
    (outsAt0 m c n hn).1 (ix2 0 k) = ∑ s ∈ Finset.range (n + 1), ∑ r : Fin 512, gainTerm m c k ((15 - s) * 512 + r.val)
    ∧ (outsAt0 m c n hn).2.1 (ix2 0 k) = ∑ s ∈ Finset.range (n + 1), ∑ r : Fin 512, biasTerm m c k ((15 - s) * 512 + r.val)
  | 0, hn => by
    have e := first_eq m c ⟨0, hn⟩ rfl
    dsimp only at e
    rw [e, Finset.sum_range_one, Finset.sum_range_one]
    dsimp only
    rw [← gain_part m c ⟨0, hn⟩, ← bias_part m c ⟨0, hn⟩]
    constructor
    · pointwise [k0_pay13, k0_pay1]
    · pointwise [k0_pay14, k0_pay2]
  | n + 1, hn => by
    have hN : n + 1 < 16 := hn
    obtain ⟨i5, i6⟩ := acc_eq k n (Nat.lt_of_succ_lt hn)
    have e := next_eq m c ⟨n + 1, hn⟩ (by dsimp only; omega)
    dsimp only [Nat.add_sub_cancel] at e
    rw [e, Finset.sum_range_succ _ (n + 1), Finset.sum_range_succ _ (n + 1), ← i5, ← i6]
    dsimp only
    rw [← gain_part m c ⟨n + 1, hn⟩, ← bias_part m c ⟨n + 1, hn⟩]
    show k0_pay13 (F := Ideal) _ (outsAt0 m c n _).1 (ix2 0 k) = _ ∧ k0_pay14 (F := Ideal) _ (outsAt0 m c n _).2.1 (ix2 0 k) = _
    generalize (outsAt0 m c n _).1 = u
    generalize (outsAt0 m c n _).2.1 = v
    constructor
    · pointwise [k0_pay13]
    · pointwise [k0_pay14]

/-- Sums over the blocks of rows, from the last to the first, are sums over all rows. -/
theorem sum_blocks (f : ℕ → EReal) : ∑ s ∈ Finset.range 16, ∑ r : Fin 512, f ((15 - s) * 512 + r.val) = ∑ n : Fin 8192, f n.val := by
  have h (n : ℕ) : ∑ s ∈ Finset.range n, ∑ r : Fin 512, f (s * 512 + r.val) = ∑ j ∈ Finset.range (n * 512), f j := by
    induction n with
    | zero => simp
    | succ n ih => rw [Finset.sum_range_succ, ih, Nat.succ_mul, Finset.sum_range_add, ← Fin.sum_univ_eq_sum_range (fun j => f (n * 512 + j))]
  rw [Fin.sum_univ_eq_sum_range f, ← h 16]
  exact Finset.sum_range_reflect (fun s => ∑ r : Fin 512, f (s * 512 + r.val)) 16

theorem gain_sum (k : Fin 1024) (t : Fin cfg0.N) (ht : t.val % 16 = 15) :
    (outsAt0 m c t.val t.isLt).1 (ix2 0 k) = val_main_v68 (F := Ideal) (argX m c) (argM m c) (argY m c) (ix2 0 k) := by
  have hN : t.val < 16 := t.isLt
  rw [(acc_eq m c k t.val t.isLt).1, show t.val + 1 = 16 by omega, sum_blocks, Cert.LnBwdReferenceIdeal.Rows.gain_apply]
  exact Finset.sum_congr rfl fun n _ => dif_pos n.isLt

theorem bias_sum (k : Fin 1024) (t : Fin cfg0.N) (ht : t.val % 16 = 15) :
    (outsAt0 m c t.val t.isLt).2.1 (ix2 0 k) = val_main_v69 (F := Ideal) (argY m c) (ix2 0 k) := by
  have hN : t.val < 16 := t.isLt
  rw [(acc_eq m c k t.val t.isLt).2, show t.val + 1 = 16 by omega, sum_blocks, Cert.LnBwdReferenceIdeal.Rows.bias_apply]
  exact Finset.sum_congr rfl fun n _ => dif_pos n.isLt

/-- The gain and the incoming gradient are reals. -/
def Reals : Prop := (∀ k, Norm.Real' (argG m c k)) ∧ ∀ i, Norm.Real' (argY m c i)

/-- A block of the gradient of what is normalised. -/
theorem grad_eq (hr : Reals m c) (t : Fin cfg0.N) (r : Fin 512) (k : Fin 1024) :
    k0_pay11 (F := Ideal) (k0_pay3 (blkX m c t) (blkM m c t)) (k0_pay5 (blkX m c t) (blkM m c t)) (k0_pay6 (blkX m c t) (blkM m c t)) (k0_pay10 (blkG m c t) (blkY m c t)) (ix2 r k)
      = val_main_v65 (F := Ideal) (argX m c) (argM m c) (argG m c) (argY m c) (ix2 (at' t r) k) := by
  rw [pay11_apply, pay5_apply, pay6_apply, row_x, row_m, Cert.LnBwdReferenceIdeal.Rows.grad_apply]
  have ed : row (k0_pay3 (F := Ideal) (blkX m c t) (blkM m c t)) r
      = Norm.dev (Cert.LnBwdReferenceIdeal.Rows.row (argX m c) (at' t r)) (Cert.LnBwdReferenceIdeal.Rows.row (argM m c) (at' t r)) := by
    funext j
    rw [← row_x, ← row_m]
    exact pay3_apply _ _ r j
  have ec : row (k0_pay10 (F := Ideal) (blkG m c t) (blkY m c t)) r = fun j => argY m c (ix2 (at' t r) j) * argG m c (ix1 j) := by
    funext j
    rw [← read_y, ← read_g m c t]
    exact pay10_apply _ _ r j
  rw [ed, ec]
  exact Norm.grad_eq _ _ _ (fun j => (hr.2 _).mul (hr.1 _)) k

theorem flushed_dx (hr : Reals m c) (t : Fin cfg0.N) (_ : (cfg0.win 7).flush t = true) : (dats m 0 c).flushed 7 t
    = ((cfg0.win 7).blk t).view.read (Elt Ideal) (val_main_v67 (F := Ideal) (argX m c) (argM m c) (argG m c) (argY m c)) := by
  obtain ⟨-, -, -, -, -, -, ⟨e0, e1⟩, -⟩ := places t
  have hg := grad_eq m c hr t
  rw [Value.flushed7, dx_eq]
  unfold k0_pay12 val_main_v67
  generalize k0_pay11 (F := Ideal) _ _ _ _ = d at hg ⊢
  generalize val_main_v65 (F := Ideal) _ _ _ _ = G at hg ⊢
  funext y
  have b0 : (((cfg0.win 7).blk t).view.emb y : S8192x1024.Idx) = ix2 (at' t (y 0)) (y 1) := funext fun a => Fin.ext (by
    match a with
    | ⟨0, _⟩ => show win0_7.index t 0 * 512 + 1 * (y 0).val = (15 - t.val) * 512 + (y 0).val; omega
    | ⟨1, _⟩ => show win0_7.index t 1 * 1024 + 1 * (y 1).val = (y 1).val; omega)
  have b1 : ((cfg0.win 7).xinj (grid0.coords t) y : S512x1024.Idx) = ix2 (y 0) (y 1) := Cert.Products.pair _
  show Norm.scale * d ((cfg0.win 7).xinj (grid0.coords t) y) = Norm.scale * G (((cfg0.win 7).blk t).view.emb y)
  exact congrArg (fun q : EReal => Norm.scale * q) ((congrArg d b1).trans ((hg (y 0) (y 1)).trans (congrArg G b0).symm))

theorem flushed_dm (hr : Reals m c) (t : Fin cfg0.N) (_ : (cfg0.win 8).flush t = true) : (dats m 0 c).flushed 8 t
    = ((cfg0.win 8).blk t).view.read (Elt Ideal) (val_main_v70 (F := Ideal) (argX m c) (argM m c) (argG m c) (argY m c)) := by
  obtain ⟨-, -, -, -, -, -, -, ⟨e0, e1⟩⟩ := places t
  have hg := grad_eq m c hr t
  rw [Value.flushed8, dm_eq]
  unfold k0_pay15 val_main_v70
  generalize k0_pay11 (F := Ideal) _ _ _ _ = d at hg ⊢
  generalize val_main_v65 (F := Ideal) _ _ _ _ = G at hg ⊢
  funext y
  have b0 : (((cfg0.win 8).blk t).view.emb y : S8192x1024.Idx) = ix2 (at' t (y 0)) (y 1) := funext fun a => Fin.ext (by
    match a with
    | ⟨0, _⟩ => show win0_8.index t 0 * 512 + 1 * (y 0).val = (15 - t.val) * 512 + (y 0).val; omega
    | ⟨1, _⟩ => show win0_8.index t 1 * 1024 + 1 * (y 1).val = (y 1).val; omega)
  have b1 : ((cfg0.win 8).xinj (grid0.coords t) y : S512x1024.Idx) = ix2 (y 0) (y 1) := Cert.Products.pair _
  show d ((cfg0.win 8).xinj (grid0.coords t) y) = G (((cfg0.win 8).blk t).view.emb y)
  exact (congrArg d b1).trans ((hg (y 0) (y 1)).trans (congrArg G b0).symm)

theorem flushed_gain (t : Fin cfg0.N) (hf : (cfg0.win 5).flush t = true) : (dats m 0 c).flushed 5 t
    = ((cfg0.win 5).blk t).view.read (Elt Ideal) (val_main_v68 (F := Ideal) (argX m c) (argM m c) (argY m c)) := by
  obtain ⟨-, -, -, -, ⟨e0, e1⟩, -⟩ := places t
  have hg := fun k => gain_sum m c k t ((flush0_5 t).mp hf)
  rw [Value.flushed5]
  generalize (outsAt0 m c t.val t.isLt).1 = d at hg ⊢
  generalize val_main_v68 (F := Ideal) _ _ _ = G at hg ⊢
  funext y
  have y0 : (y 0).val < 1 := (y 0).isLt
  have b0 : (((cfg0.win 5).blk t).view.emb y : S1x1024.Idx) = ix2 0 (y 1) := funext fun a => Fin.ext (by
    match a with
    | ⟨0, _⟩ => show win0_5.index t 0 * 1 + 1 * (y 0).val = 0; omega
    | ⟨1, _⟩ => show win0_5.index t 1 * 1024 + 1 * (y 1).val = (y 1).val; omega)
  have b1 : ((cfg0.win 5).xinj (grid0.coords t) y : S1x1024.Idx) = ix2 0 (y 1) := funext fun a => Fin.ext (by
    match a with
    | ⟨0, _⟩ => show (y 0).val = 0; omega
    | ⟨1, _⟩ => rfl)
  show d ((cfg0.win 5).xinj (grid0.coords t) y) = G (((cfg0.win 5).blk t).view.emb y)
  exact (congrArg d b1).trans ((hg (y 1)).trans (congrArg G b0).symm)

theorem flushed_bias (t : Fin cfg0.N) (hf : (cfg0.win 6).flush t = true) : (dats m 0 c).flushed 6 t
    = ((cfg0.win 6).blk t).view.read (Elt Ideal) (val_main_v69 (F := Ideal) (argY m c)) := by
  obtain ⟨-, -, -, -, -, ⟨e0, e1⟩, -⟩ := places t
  have hg := fun k => bias_sum m c k t ((flush0_6 t).mp hf)
  rw [Value.flushed6]
  generalize (outsAt0 m c t.val t.isLt).2.1 = d at hg ⊢
  generalize val_main_v69 (F := Ideal) _ = G at hg ⊢
  funext y
  have y0 : (y 0).val < 1 := (y 0).isLt
  have b0 : (((cfg0.win 6).blk t).view.emb y : S1x1024.Idx) = ix2 0 (y 1) := funext fun a => Fin.ext (by
    match a with
    | ⟨0, _⟩ => show win0_6.index t 0 * 1 + 1 * (y 0).val = 0; omega
    | ⟨1, _⟩ => show win0_6.index t 1 * 1024 + 1 * (y 1).val = (y 1).val; omega)
  have b1 : ((cfg0.win 6).xinj (grid0.coords t) y : S1x1024.Idx) = ix2 0 (y 1) := funext fun a => Fin.ext (by
    match a with
    | ⟨0, _⟩ => show (y 0).val = 0; omega
    | ⟨1, _⟩ => rfl)
  show d ((cfg0.win 6).xinj (grid0.coords t) y) = G (((cfg0.win 6).blk t).view.emb y)
  exact (congrArg d b1).trans ((hg (y 1)).trans (congrArg G b0).symm)

/-- The last point, which writes the sums, and the point that writes a row. -/
def final : Fin cfg0.N := ⟨15, by rw [points]; decide⟩
def writer (i : S8192x1024.Idx) : Fin cfg0.N := ⟨15 - (i 0).val / 512, by rw [points]; omega⟩

theorem final_gain : (dats m 0 c).arrAt 5 cfg0.N = val_main_v68 (F := Ideal) (argX m c) (argM m c) (argY m c) :=
  (dats m 0 c).arrAt_eq_of_cover 5 _ (flushed_gain m c) fun i => by
    refine ⟨final, (flush0_5 _).mpr rfl, ?_⟩
    obtain ⟨-, -, -, -, ⟨e0, e1⟩, -⟩ := places final
    have i0 : (i 0 : Nat) < 1 := (i 0).isLt
    have i1 : (i 1 : Nat) < 1024 := (i 1).isLt
    show i ∈ ((View.whole main_v2_0).slice (win0_5.rect final)).set
    rw [View.set_slice_whole, Rect.mem_set_unit]
    intro a
    match a with
    | ⟨0, _⟩ => show win0_5.index final 0 * 1 ≤ (i 0).val ∧ (i 0).val < win0_5.index final 0 * 1 + 1; rw [e0]; omega
    | ⟨1, _⟩ => show win0_5.index final 1 * 1024 ≤ (i 1).val ∧ (i 1).val < win0_5.index final 1 * 1024 + 1024; rw [e1]; omega

theorem final_bias : (dats m 0 c).arrAt 6 cfg0.N = val_main_v69 (F := Ideal) (argY m c) :=
  (dats m 0 c).arrAt_eq_of_cover 6 _ (flushed_bias m c) fun i => by
    refine ⟨final, (flush0_6 _).mpr rfl, ?_⟩
    obtain ⟨-, -, -, -, -, ⟨e0, e1⟩, -⟩ := places final
    have i0 : (i 0 : Nat) < 1 := (i 0).isLt
    have i1 : (i 1 : Nat) < 1024 := (i 1).isLt
    show i ∈ ((View.whole main_v2_1).slice (win0_6.rect final)).set
    rw [View.set_slice_whole, Rect.mem_set_unit]
    intro a
    match a with
    | ⟨0, _⟩ => show win0_6.index final 0 * 1 ≤ (i 0).val ∧ (i 0).val < win0_6.index final 0 * 1 + 1; rw [e0]; omega
    | ⟨1, _⟩ => show win0_6.index final 1 * 1024 ≤ (i 1).val ∧ (i 1).val < win0_6.index final 1 * 1024 + 1024; rw [e1]; omega

theorem final_dx (hr : Reals m c) : (dats m 0 c).arrAt 7 cfg0.N = val_main_v67 (F := Ideal) (argX m c) (argM m c) (argG m c) (argY m c) :=
  (dats m 0 c).arrAt_eq_of_cover 7 _ (flushed_dx m c hr) fun i => by
    refine ⟨writer i, flush0_7 _, ?_⟩
    obtain ⟨-, -, -, -, -, -, ⟨e0, e1⟩, -⟩ := places (writer i)
    have i0 : (i 0 : Nat) < 8192 := (i 0).isLt
    have i1 : (i 1 : Nat) < 1024 := (i 1).isLt
    have ew : (writer i).val = 15 - (i 0).val / 512 := rfl
    show i ∈ ((View.whole main_v2_2).slice (win0_7.rect (writer i))).set
    rw [View.set_slice_whole, Rect.mem_set_unit]
    intro a
    match a with
    | ⟨0, _⟩ => show win0_7.index (writer i) 0 * 512 ≤ (i 0).val ∧ (i 0).val < win0_7.index (writer i) 0 * 512 + 512; rw [e0, ew]; omega
    | ⟨1, _⟩ => show win0_7.index (writer i) 1 * 1024 ≤ (i 1).val ∧ (i 1).val < win0_7.index (writer i) 1 * 1024 + 1024; rw [e1]; omega

theorem final_dm (hr : Reals m c) : (dats m 0 c).arrAt 8 cfg0.N = val_main_v70 (F := Ideal) (argX m c) (argM m c) (argG m c) (argY m c) :=
  (dats m 0 c).arrAt_eq_of_cover 8 _ (flushed_dm m c hr) fun i => by
    refine ⟨writer i, flush0_8 _, ?_⟩
    obtain ⟨-, -, -, -, -, -, -, ⟨e0, e1⟩⟩ := places (writer i)
    have i0 : (i 0 : Nat) < 8192 := (i 0).isLt
    have i1 : (i 1 : Nat) < 1024 := (i 1).isLt
    have ew : (writer i).val = 15 - (i 0).val / 512 := rfl
    show i ∈ ((View.whole main_v2_3).slice (win0_8.rect (writer i))).set
    rw [View.set_slice_whole, Rect.mem_set_unit]
    intro a
    match a with
    | ⟨0, _⟩ => show win0_8.index (writer i) 0 * 512 ≤ (i 0).val ∧ (i 0).val < win0_8.index (writer i) 0 * 512 + 512; rw [e0, ew]; omega
    | ⟨1, _⟩ => show win0_8.index (writer i) 1 * 1024 ≤ (i 1).val ∧ (i 1).val < win0_8.index (writer i) 1 * 1024 + 1024; rw [e1]; omega

/-- What the precondition says. -/
theorem reals_of_finite (x mm y : FVec Ideal S8192x1024 .f32) (g b : FVec Ideal S1024 .f32) (h : Cert.Pre_finite_ln.fn (F := Ideal) x mm g b y = fun _ => 1#1) :
    (∀ k, Norm.Real' (g k)) ∧ ∀ i, Norm.Real' (y i) := by
  have hb := fun i => Cert.KernelIdeal.Scan.both_of_and _ _ (congrFun h i)
  refine ⟨fun k => ?_, fun i => ⟨_, (Cert.KernelIdeal.Scan.real_of_below _ (hb i).2).symm⟩⟩
  have hk : k = ix1 (k 0) := funext fun a => match a with | ⟨0, _⟩ => rfl
  refine ⟨_, (Cert.KernelIdeal.Scan.real_of_below _ ?_).symm⟩
  refine Eq.trans ?_ (hb (ix2 0 (k 0))).1
  rw [hk]
  pointwise

end Cert.LnBwdIdeal.Blocks

namespace Cert.Proof.LnBwd

open Idealize.ShloMosaic Idealize.SL.Sem Cert.LnBwdReferenceIdeal.Read Cert.LnBwdIdeal.Blocks

theorem frame_kernel : Cert.quiescent_LnBwd := fun m ρ _ => Cert.LnBwd.Gen.frame m ρ

theorem frame_kernelIdeal : Cert.quiescent_LnBwdIdeal := fun m ρ _ => Cert.LnBwdIdeal.Gen.frame m ρ

theorem frame_reference : Cert.quiescent_LnBwdReferenceIdeal := fun m ρ _ =>
  (θ_run Cert.LnBwdReferenceIdeal.defs _ _).mono (fun r h => ⟨fun c => (h c).2.2.2.2, sem_eq_zero_of_no_sems (by decide) r.2⟩)
    (Cert.LnBwdReferenceIdeal.Value.run (F := Ideal) m ρ)

theorem values : Cert.algebraic_LnBwdIdeal_LnBwdReferenceIdeal_pre_finite_ln := fun m g m' g' hpre hargs =>
  ⟨fun c => val_main_v68 (F := Ideal) (argX m c) (argM m c) (argY m c), fun c => val_main_v69 (F := Ideal) (argY m c),
    fun c => val_main_v67 (F := Ideal) (argX m c) (argM m c) (argG m c) (argY m c), fun c => val_main_v70 (F := Ideal) (argX m c) (argM m c) (argG m c) (argY m c),
    (θ_run Cert.LnBwdIdeal.defs _ _).mono (fun r h c =>
        have hr : Reals m c := reals_of_finite _ _ _ _ _ (hpre c)
        have ⟨h5, h6, h7, h8, hk⟩ := h c
        ⟨h5.trans (final_gain m c), h6.trans (final_bias m c), h7.trans (final_dx m c hr), h8.trans (final_dm m c hr), hk⟩)
      (Cert.LnBwdIdeal.Value.run_blocks (F := Ideal) m g),
    (θ_run Cert.LnBwdReferenceIdeal.defs _ _).mono (fun r h c => by
        obtain ⟨e0, e1, e2, e3, e4⟩ := hargs c
        obtain ⟨h68, h69, h67, h70, hk⟩ := h c
        refine ⟨h68.trans ?_, h69.trans ?_, h67.trans ?_, h70.trans ?_, hk⟩
        · rw [e0, e1, e4]; exact val_main_v68_eq _ _ _
        · rw [e4]; exact val_main_v69_eq _
        · rw [val_main_v67_eq, e0, e1, e2, e4]
        · rw [val_main_v70_eq, e0, e1, e2, e4])
      (Cert.LnBwdReferenceIdeal.Value.run (F := Ideal) m' g')⟩

end Cert.Proof.LnBwd

end
-- ==== Proof.Adamw.lean ====
/- One step of the optimiser on one entry of a weight, and what the optimiser's programs share. -/
module

public import Idealize.ShloMosaic.Lib.Pointwise
public import Idealize.ShloMosaic.Lib.Tactic
public import Idealize.ShloMosaic.Lib.Quiescent

@[expose] public section

noncomputable section

namespace Cert.Adamw

open Idealize.ShloMosaic

/-- The gradient: the sum of the eight devices' parts, in the devices' order. -/
def total (p : Fin 8 → EReal) : EReal := p 0 + p 1 + p 2 + p 3 + p 4 + p 5 + p 6 + p 7

/-- The new moments: decaying means of the gradient and of its square. -/
def mean (m g : EReal) : EReal := Ideal.ofBits .f32 0x3F666666#32 * m + Ideal.ofBits .f32 0x3DCCCCCD#32 * g
def square (v g : EReal) : EReal := Ideal.ofBits .f32 0x3F7FBE77#32 * v + Ideal.ofBits .f32 0x3A83126F#32 * (g * g)

/-- The two corrections the moments are divided by. -/
def first : EReal := Ideal.ofBits .f32 0x3F26BD02#32
def second : EReal := Ideal.ofBits .f32 0x3C231ACC#32

/-- The change of the weight, from the new moments. -/
def step (w m v : EReal) : EReal := Ideal.ofBits .f32 0xBA83126F#32
  * (Ideal.div (Ideal.div m first) (Ideal.sqrt (Ideal.div v second) + Ideal.ofBits .f32 0x322BCC77#32) + Ideal.ofBits .f32 0x3C23D70A#32 * w)

theorem first_eq : first = ((5463681 / 8388608 : ℝ) : EReal) := by unfold first; simp [Ideal.ofBits, Ideal.ieee, -EReal.coe_mul]; norm_num
theorem second_eq : second = ((2672307 / 268435456 : ℝ) : EReal) := by unfold second; simp [Ideal.ofBits, Ideal.ieee, -EReal.coe_mul]; norm_num

/-- Multiplying by the reciprocal of a correction is dividing by the correction. -/
theorem mul_first (x : EReal) : x * (((5463681 / 8388608 : ℝ)⁻¹ : ℝ) : EReal) = Ideal.div x first := by
  rw [first_eq, Ideal.div_coe (by norm_num), one_div]
theorem mul_second (x : EReal) : x * (((2672307 / 268435456 : ℝ)⁻¹ : ℝ) : EReal) = Ideal.div x second := by
  rw [second_eq, Ideal.div_coe (by norm_num), one_div]

theorem zeros : (![0, 0, 0] : Fin 3 → ℕ) = fun _ => 0 := funext fun a => by fin_cases a <;> rfl

/-- A sum over the eight devices is the sum in their order. -/
theorem sum_parts (p : Fin 8 → EReal) : ∑ s : Fin 8, p s = total p := by
  simp only [Fin.sum_univ_succ, Fin.sum_univ_zero, total, add_zero, ← add_assoc]; rfl

/-- An index of a three-axis array with the coordinates' values. -/
theorem index {a b c : ℕ} (i : (⟨3, ![a, b, c]⟩ : Shape).Idx) (x : Fin a) (y : Fin b) (z : Fin c)
    (h0 : (i 0).val = x.val) (h1 : (i 1).val = y.val) (h2 : (i 2).val = z.val) : i = ix3 x y z :=
  funext fun d => Fin.ext (match d with | ⟨0, _⟩ => h0 | ⟨1, _⟩ => h1 | ⟨2, _⟩ => h2)

end Cert.Adamw

end
-- ==== Proof.AdamwAbOutValue.lean ====
/- The optimiser's step on a weight of two layers of 128 rows: each grid point sums one layer's parts of the gradient and writes the
   gradient, the weight's change and the two new moments; the reference's four results. -/
module

public import proofs.«01_k».proof.Defs
public import proofs.«01_k».proof.Proof.Adamw
public import proofs.«01_k».proof.Proof.Gen.AdamwAbOut.Frame
public import proofs.«01_k».proof.Proof.Gen.AdamwAbOutIdeal.Value
public import proofs.«01_k».proof.Proof.Gen.AdamwAbOutReferenceIdeal.Run
public import proofs.«01_k».proof.Proof.Gen.AdamwAbOutReferenceIdeal.Read

@[expose] public section

noncomputable section

namespace Cert.AdamwAbOutReferenceIdeal.Entries

open Cert.AdamwAbOutReferenceIdeal Cert.AdamwAbOutReferenceIdeal.Read Idealize.ShloMosaic

variable (p q : S8x128x1024.Idx → EReal) (w m v : S2x128x1024.Idx → EReal)

theorem grad_0 (r : Fin 128) (k : Fin 1024) : val_main_v6 (F := Ideal) p q (ix3 0 r k) = Adamw.total fun s => p (ix3 s r k) := by
  rw [← val_main_v6_eq, ← Adamw.sum_parts]
  pointwise

theorem grad_1 (r : Fin 128) (k : Fin 1024) : val_main_v6 (F := Ideal) p q (ix3 1 r k) = Adamw.total fun s => q (ix3 s r k) := by
  rw [← val_main_v6_eq, ← Adamw.sum_parts]
  pointwise

theorem mean_eq (i : S2x128x1024.Idx) : val_main_v11 (F := Ideal) p q m i = Adamw.mean (m i) (val_main_v6 (F := Ideal) p q i) := rfl

theorem square_eq (i : S2x128x1024.Idx) : val_main_v17 (F := Ideal) p q v i = Adamw.square (v i) (val_main_v6 (F := Ideal) p q i) := rfl

theorem step_eq (i : S2x128x1024.Idx) : val_main_v30 (F := Ideal) p q w m v i
    = Adamw.step (w i) (val_main_v11 (F := Ideal) p q m i) (val_main_v17 (F := Ideal) p q v i) := rfl

end Cert.AdamwAbOutReferenceIdeal.Entries

namespace Cert.AdamwAbOutIdeal.Blocks

open Cert.AdamwAbOutIdeal Cert.AdamwAbOutIdeal.Gen Idealize.ShloMosaic Idealize.ShloMosaic.TcCoe Idealize.SL.Sem
open Cert.AdamwAbOutReferenceIdeal.Read (val_main_v6 val_main_v30 val_main_v11 val_main_v17)
open Cert.AdamwAbOutReferenceIdeal.Entries

/-- The reciprocals of the corrections, which the kernel names. -/
theorem named_first : Named.named (F := Ideal) κ "c1" (φ := .f32) 0x3FC48605#32 = (((5463681 / 8388608 : ℝ)⁻¹ : ℝ) : EReal) :=
  IdealRules.named_const.ideal_named_scalar _ _ _ _ rfl
theorem named_second : Named.named (F := Ideal) κ "c2" (φ := .f32) 0x42C8E6D3#32 = (((2672307 / 268435456 : ℝ)⁻¹ : ℝ) : EReal) :=
  IdealRules.named_const.ideal_named_scalar _ _ _ _ rfl

section Cases
variable (c : Dev nD) (i : grid0.Coords)
  (a2 : Memref sig .tc .vmem S8x128x1024 .bf16) (h2 : a2.IsWhole) (a3 : Memref sig .tc .vmem S8x128x1024 .bf16) (h3 : a3.IsWhole)
  (a4 : Memref sig .tc .vmem S1x128x1024 .f32) (h4 : a4.IsWhole) (a5 : Memref sig .tc .vmem S1x128x1024 .f32) (h5 : a5.IsWhole)
  (a6 : Memref sig .tc .vmem S1x128x1024 .f32) (h6 : a6.IsWhole) (a7 : Memref sig .tc .vmem S1x128x1024 .f32) (h7 : a7.IsWhole)
  (a8 : Memref sig .tc .vmem S1x128x1024 .f32) (h8 : a8.IsWhole) (a9 : Memref sig .tc .vmem S1x128x1024 .f32) (h9 : a9.IsWhole)
  (a10 : Memref sig .tc .vmem S1x128x1024 .f32) (h10 : a10.IsWhole)
  (p q : Vec Ideal S8x128x1024 .bf16) (w m v : Vec Ideal S1x128x1024 .f32) (r : Fin 128) (k : Fin 1024)

set_option maxHeartbeats 1000000 in
/-- What a point of the first layer writes, entry by entry. -/
theorem writes_0 (h0 : cond0_0 i) (h1 : ¬cond0_1 i) (g : EReal) (hg : g = Adamw.total fun s => p (ix3 s r k)) :
    out0_A_5 (F := Ideal) c i a2 h2 a3 h3 a4 h4 a5 h5 a6 h6 a7 h7 a8 h8 a9 h9 a10 h10 h0 h1 p q w m v (ix3 0 r k) = g
    ∧ out0_A_6 (F := Ideal) c i a2 h2 a3 h3 a4 h4 a5 h5 a6 h6 a7 h7 a8 h8 a9 h9 a10 h10 h0 h1 p q w m v (ix3 0 r k)
      = Adamw.step (w (ix3 0 r k)) (Adamw.mean (m (ix3 0 r k)) g) (Adamw.square (v (ix3 0 r k)) g)
    ∧ out0_A_7 (F := Ideal) c i a2 h2 a3 h3 a4 h4 a5 h5 a6 h6 a7 h7 a8 h8 a9 h9 a10 h10 h0 h1 p q w m v (ix3 0 r k) = Adamw.mean (m (ix3 0 r k)) g
    ∧ out0_A_8 (F := Ideal) c i a2 h2 a3 h3 a4 h4 a5 h5 a6 h6 a7 h7 a8 h8 a9 h9 a10 h10 h0 h1 p q w m v (ix3 0 r k) = Adamw.square (v (ix3 0 r k)) g := by
  subst hg
  unfold out0_A_5 out0_A_6 out0_A_7 out0_A_8
  rw [View.read_writes_eq_canon _ _ _ (cover0_A_5 c i a2 h2 a3 h3 a4 h4 a5 h5 a6 h6 a7 h7 a8 h8 a9 h9 a10 h10 h0 h1 p q w m v),
    View.read_writes_eq_canon _ _ _ (cover0_A_6 c i a2 h2 a3 h3 a4 h4 a5 h5 a6 h6 a7 h7 a8 h8 a9 h9 a10 h10 h0 h1 p q w m v),
    View.read_writes_eq_canon _ _ _ (cover0_A_7 c i a2 h2 a3 h3 a4 h4 a5 h5 a6 h6 a7 h7 a8 h8 a9 h9 a10 h10 h0 h1 p q w m v),
    View.read_writes_eq_canon _ _ _ (cover0_A_8 c i a2 h2 a3 h3 a4 h4 a5 h5 a6 h6 a7 h7 a8 h8 a9 h9 a10 h10 h0 h1 p q w m v)]
  unfold kernelRun0_A
  dsimp only
  rw [View.canon_unit_zero Adamw.zeros, View.canon_unit_zero Adamw.zeros, View.canon_unit_zero Adamw.zeros, View.canon_unit_zero Adamw.zeros]
  simp only [kernelRun0_A.sl.r, kernelRun0_A.sl.r_1, kernelRun0_A.sl.r_2, kernelRun0_A.sl.r_3, kernelRun0_A.sl.r_4, kernelRun0_A.sl.r_5, kernelRun0_A.sl.r_6,
    kernelRun0_A.sl.r_7, kernelRun0_A.sl.r_8, kernelRun0_A.sl.r_9, kernelRun0_A.sl.r_10, View.readAt_eq_ld, Memref.IsWhole.read_unread, View.ld_unit_zero (S := S1x128x1024) Adamw.zeros]
  refine ⟨?_, ?_, ?_, ?_⟩
  · pointwise [k0_pay17, k0_pay14, k0_pay5, k0_pay6, k0_pay7, k0_pay8, k0_pay9, k0_pay13, Adamw.total]
  · pointwise [k0_pay18, k0_pay15, k0_pay16, k0_pay14, k0_pay5, k0_pay6, k0_pay7, k0_pay8, k0_pay9, k0_pay10, k0_pay11, k0_pay12, k0_pay13]
    rw [named_first, named_second, Adamw.mul_first, Adamw.mul_second]
    rfl
  · pointwise [k0_pay1, k0_pay15, k0_pay14, k0_pay5, k0_pay6, k0_pay7, k0_pay8, k0_pay9, k0_pay11, k0_pay13]
    rfl
  · pointwise [k0_pay2, k0_pay16, k0_pay14, k0_pay5, k0_pay6, k0_pay7, k0_pay8, k0_pay9, k0_pay12, k0_pay13]
    rfl

set_option maxHeartbeats 1000000 in
/-- What a point of the second layer writes, entry by entry. -/
theorem writes_1 (h0 : ¬cond0_0 i) (h1 : cond0_1 i) (g : EReal) (hg : g = Adamw.total fun s => q (ix3 s r k)) :
    out0_B_5 (F := Ideal) c i a2 h2 a3 h3 a4 h4 a5 h5 a6 h6 a7 h7 a8 h8 a9 h9 a10 h10 h0 h1 p q w m v (ix3 0 r k) = g
    ∧ out0_B_6 (F := Ideal) c i a2 h2 a3 h3 a4 h4 a5 h5 a6 h6 a7 h7 a8 h8 a9 h9 a10 h10 h0 h1 p q w m v (ix3 0 r k)
      = Adamw.step (w (ix3 0 r k)) (Adamw.mean (m (ix3 0 r k)) g) (Adamw.square (v (ix3 0 r k)) g)
    ∧ out0_B_7 (F := Ideal) c i a2 h2 a3 h3 a4 h4 a5 h5 a6 h6 a7 h7 a8 h8 a9 h9 a10 h10 h0 h1 p q w m v (ix3 0 r k) = Adamw.mean (m (ix3 0 r k)) g
    ∧ out0_B_8 (F := Ideal) c i a2 h2 a3 h3 a4 h4 a5 h5 a6 h6 a7 h7 a8 h8 a9 h9 a10 h10 h0 h1 p q w m v (ix3 0 r k) = Adamw.square (v (ix3 0 r k)) g := by
  subst hg
  unfold out0_B_5 out0_B_6 out0_B_7 out0_B_8
  rw [View.read_writes_eq_canon _ _ _ (cover0_B_5 c i a2 h2 a3 h3 a4 h4 a5 h5 a6 h6 a7 h7 a8 h8 a9 h9 a10 h10 h0 h1 p q w m v),
    View.read_writes_eq_canon _ _ _ (cover0_B_6 c i a2 h2 a3 h3 a4 h4 a5 h5 a6 h6 a7 h7 a8 h8 a9 h9 a10 h10 h0 h1 p q w m v),
    View.read_writes_eq_canon _ _ _ (cover0_B_7 c i a2 h2 a3 h3 a4 h4 a5 h5 a6 h6 a7 h7 a8 h8 a9 h9 a10 h10 h0 h1 p q w m v),
    View.read_writes_eq_canon _ _ _ (cover0_B_8 c i a2 h2 a3 h3 a4 h4 a5 h5 a6 h6 a7 h7 a8 h8 a9 h9 a10 h10 h0 h1 p q w m v)]
  unfold kernelRun0_B
  dsimp only
  rw [View.canon_unit_zero Adamw.zeros, View.canon_unit_zero Adamw.zeros, View.canon_unit_zero Adamw.zeros, View.canon_unit_zero Adamw.zeros]
  simp only [kernelRun0_B.sl.r, kernelRun0_B.sl.r_1, kernelRun0_B.sl.r_2, kernelRun0_B.sl.r_3, kernelRun0_B.sl.r_4, kernelRun0_B.sl.r_5, kernelRun0_B.sl.r_6,
    kernelRun0_B.sl.r_7, kernelRun0_B.sl.r_8, kernelRun0_B.sl.r_9, kernelRun0_B.sl.r_10, View.readAt_eq_ld, Memref.IsWhole.read_unread, View.ld_unit_zero (S := S1x128x1024) Adamw.zeros]
  refine ⟨?_, ?_, ?_, ?_⟩
  · pointwise [k0_pay31, k0_pay28, k0_pay19, k0_pay20, k0_pay21, k0_pay22, k0_pay23, k0_pay27, Adamw.total]
  · pointwise [k0_pay32, k0_pay29, k0_pay30, k0_pay28, k0_pay19, k0_pay20, k0_pay21, k0_pay22, k0_pay23, k0_pay24, k0_pay25, k0_pay26, k0_pay27]
    rw [named_first, named_second, Adamw.mul_first, Adamw.mul_second]
    rfl
  · pointwise [k0_pay3, k0_pay29, k0_pay28, k0_pay19, k0_pay20, k0_pay21, k0_pay22, k0_pay23, k0_pay25, k0_pay27]
    rfl
  · pointwise [k0_pay4, k0_pay30, k0_pay28, k0_pay19, k0_pay20, k0_pay21, k0_pay22, k0_pay23, k0_pay26, k0_pay27]
    rfl

end Cases

variable (m : (ℓ : Loc nD τ sig) → Buf (Elt Ideal) ℓ) (ρ : Dev nD → PrngReg) (c : Dev nD)

/-- The arguments: each layer's parts of the gradient, the weight and the two moments. -/
abbrev argP : S8x128x1024.Idx → EReal := m ((c.tc : Thread nD τ).loc main_arg0)
abbrev argQ : S8x128x1024.Idx → EReal := m ((c.tc : Thread nD τ).loc main_arg1)
abbrev argW : S2x128x1024.Idx → EReal := m ((c.tc : Thread nD τ).loc main_arg2)
abbrev argM : S2x128x1024.Idx → EReal := m ((c.tc : Thread nD τ).loc main_arg3)
abbrev argV : S2x128x1024.Idx → EReal := m ((c.tc : Thread nD τ).loc main_arg4)

/-- The reference's four results. -/
abbrev refG : S2x128x1024.Idx → EReal := val_main_v6 (F := Ideal) (argP m c) (argQ m c)
abbrev refD : S2x128x1024.Idx → EReal := val_main_v30 (F := Ideal) (argP m c) (argQ m c) (argW m c) (argM m c) (argV m c)
abbrev refM : S2x128x1024.Idx → EReal := val_main_v11 (F := Ideal) (argP m c) (argQ m c) (argM m c)
abbrev refV : S2x128x1024.Idx → EReal := val_main_v17 (F := Ideal) (argP m c) (argQ m c) (argV m c)

/-- The blocks of a point. -/
abbrev blkP (t : Fin cfg0.N) : Vec Ideal S8x128x1024 .bf16 := iblk m c 0 t
abbrev blkQ (t : Fin cfg0.N) : Vec Ideal S8x128x1024 .bf16 := iblk m c 1 t
abbrev blkW (t : Fin cfg0.N) : Vec Ideal S1x128x1024 .f32 := iblk m c 2 t
abbrev blkM (t : Fin cfg0.N) : Vec Ideal S1x128x1024 .f32 := iblk m c 3 t
abbrev blkV (t : Fin cfg0.N) : Vec Ideal S1x128x1024 .f32 := iblk m c 4 t

/-- Which blocks a grid point reads and writes: all the parts, and its layer of the weight and the moments. -/
theorem places_parts : ∀ t : Fin cfg0.N, (win0_0.index t 0 = 0 ∧ win0_0.index t 1 = 0 ∧ win0_0.index t 2 = 0)
    ∧ (win0_1.index t 0 = 0 ∧ win0_1.index t 1 = 0 ∧ win0_1.index t 2 = 0) :=
  (by decide +kernel : ∀ t : Fin grid0.N, _)
theorem places_state : ∀ t : Fin cfg0.N, (win0_2.index t 0 = t.val ∧ win0_2.index t 1 = 0 ∧ win0_2.index t 2 = 0)
    ∧ (win0_3.index t 0 = t.val ∧ win0_3.index t 1 = 0 ∧ win0_3.index t 2 = 0) ∧ (win0_4.index t 0 = t.val ∧ win0_4.index t 1 = 0 ∧ win0_4.index t 2 = 0) :=
  (by decide +kernel : ∀ t : Fin grid0.N, _)
theorem places_out : ∀ t : Fin cfg0.N, (win0_5.index t 0 = t.val ∧ win0_5.index t 1 = 0 ∧ win0_5.index t 2 = 0)
    ∧ (win0_6.index t 0 = t.val ∧ win0_6.index t 1 = 0 ∧ win0_6.index t 2 = 0) ∧ (win0_7.index t 0 = t.val ∧ win0_7.index t 1 = 0 ∧ win0_7.index t 2 = 0)
    ∧ (win0_8.index t 0 = t.val ∧ win0_8.index t 1 = 0 ∧ win0_8.index t 2 = 0) :=
  (by decide +kernel : ∀ t : Fin grid0.N, _)

theorem points : cfg0.N = 2 := rfl

/-- The layer of a point. -/
def layer (t : Fin cfg0.N) : Fin 2 := ⟨t.val, t.isLt⟩

theorem read_p (t : Fin cfg0.N) (s : Fin 8) (r : Fin 128) (k : Fin 1024) : blkP m c t (ix3 s r k) = argP m c (ix3 s r k) := by
  obtain ⟨⟨e0, e1, e2⟩, -⟩ := places_parts t
  unfold blkP iblk
  rw [View.read_apply]
  show V m c main_arg0 _ = _
  rw [V_main_arg0]
  exact congrArg (argP m c) (Adamw.index _ _ _ _ (show win0_0.index t 0 * 8 + 1 * s.val = s.val by omega)
    (show win0_0.index t 1 * 128 + 1 * r.val = r.val by omega) (show win0_0.index t 2 * 1024 + 1 * k.val = k.val by omega))

theorem read_q (t : Fin cfg0.N) (s : Fin 8) (r : Fin 128) (k : Fin 1024) : blkQ m c t (ix3 s r k) = argQ m c (ix3 s r k) := by
  obtain ⟨-, e0, e1, e2⟩ := places_parts t
  unfold blkQ iblk
  rw [View.read_apply]
  show V m c main_arg1 _ = _
  rw [V_main_arg1]
  exact congrArg (argQ m c) (Adamw.index _ _ _ _ (show win0_1.index t 0 * 8 + 1 * s.val = s.val by omega)
    (show win0_1.index t 1 * 128 + 1 * r.val = r.val by omega) (show win0_1.index t 2 * 1024 + 1 * k.val = k.val by omega))

theorem read_w (t : Fin cfg0.N) (r : Fin 128) (k : Fin 1024) : blkW m c t (ix3 0 r k) = argW m c (ix3 (layer t) r k) := by
  obtain ⟨⟨e0, e1, e2⟩, -⟩ := places_state t
  unfold blkW iblk
  rw [View.read_apply]
  show V m c main_arg2 _ = _
  rw [V_main_arg2]
  exact congrArg (argW m c) (Adamw.index _ _ _ _ (show win0_2.index t 0 * 1 + 1 * 0 = t.val by omega)
    (show win0_2.index t 1 * 128 + 1 * r.val = r.val by omega) (show win0_2.index t 2 * 1024 + 1 * k.val = k.val by omega))

theorem read_m (t : Fin cfg0.N) (r : Fin 128) (k : Fin 1024) : blkM m c t (ix3 0 r k) = argM m c (ix3 (layer t) r k) := by
  obtain ⟨-, ⟨e0, e1, e2⟩, -⟩ := places_state t
  unfold blkM iblk
  rw [View.read_apply]
  show V m c main_arg3 _ = _
  rw [V_main_arg3]
  exact congrArg (argM m c) (Adamw.index _ _ _ _ (show win0_3.index t 0 * 1 + 1 * 0 = t.val by omega)
    (show win0_3.index t 1 * 128 + 1 * r.val = r.val by omega) (show win0_3.index t 2 * 1024 + 1 * k.val = k.val by omega))

theorem read_v (t : Fin cfg0.N) (r : Fin 128) (k : Fin 1024) : blkV m c t (ix3 0 r k) = argV m c (ix3 (layer t) r k) := by
  obtain ⟨-, -, e0, e1, e2⟩ := places_state t
  unfold blkV iblk
  rw [View.read_apply]
  show V m c main_arg4 _ = _
  rw [V_main_arg4]
  exact congrArg (argV m c) (Adamw.index _ _ _ _ (show win0_4.index t 0 * 1 + 1 * 0 = t.val by omega)
    (show win0_4.index t 1 * 128 + 1 * r.val = r.val by omega) (show win0_4.index t 2 * 1024 + 1 * k.val = k.val by omega))

/-- The reference's gradient in a point's layer. -/
theorem ref_0 (t : Fin cfg0.N) (h : t.val % 2 = 0) (r : Fin 128) (k : Fin 1024) :
    refG m c (ix3 (layer t) r k) = Adamw.total fun s => blkP m c t (ix3 s r k) := by
  have ht : t.val < 2 := t.isLt
  rw [show layer t = 0 from Fin.ext (show t.val = 0 by omega)]
  simp only [read_p]
  exact grad_0 _ _ r k

theorem ref_1 (t : Fin cfg0.N) (h : t.val % 2 = 1) (r : Fin 128) (k : Fin 1024) :
    refG m c (ix3 (layer t) r k) = Adamw.total fun s => blkQ m c t (ix3 s r k) := by
  have ht : t.val < 2 := t.isLt
  rw [show layer t = 1 from Fin.ext (show t.val = 1 by omega)]
  simp only [read_q]
  exact grad_1 _ _ r k

/-- What a point writes is its layer of the reference's results. -/
theorem writes (t : Fin cfg0.N) (r : Fin 128) (k : Fin 1024) :
    (outsAt0 m c t.val t.isLt).1 (ix3 0 r k) = refG m c (ix3 (layer t) r k)
    ∧ (outsAt0 m c t.val t.isLt).2.1 (ix3 0 r k) = refD m c (ix3 (layer t) r k)
    ∧ (outsAt0 m c t.val t.isLt).2.2.1 (ix3 0 r k) = refM m c (ix3 (layer t) r k)
    ∧ (outsAt0 m c t.val t.isLt).2.2.2 (ix3 0 r k) = refV m c (ix3 (layer t) r k) := by
  unfold refG refD refM refV
  rw [step_eq, mean_eq, square_eq, ← read_w m c t, ← read_m m c t, ← read_v m c t]
  rcases Nat.mod_two_eq_zero_or_one t.val with h | h
  · have hg := ref_0 m c t h r k
    unfold refG at hg
    generalize val_main_v6 (F := Ideal) (argP m c) (argQ m c) (ix3 (layer t) r k) = g at hg ⊢
    rw [outsAt0_A m c t h (by omega)]
    dsimp only
    exact writes_0 c _ _ _ _ _ _ _ _ _ _ _ _ _ _ _ _ _ _ _ (blkP m c t) (blkQ m c t) (blkW m c t) (blkM m c t) (blkV m c t) r k _ _ g hg
  · have hg := ref_1 m c t h r k
    unfold refG at hg
    generalize val_main_v6 (F := Ideal) (argP m c) (argQ m c) (ix3 (layer t) r k) = g at hg ⊢
    rw [outsAt0_B m c t (by omega) h]
    dsimp only
    exact writes_1 c _ _ _ _ _ _ _ _ _ _ _ _ _ _ _ _ _ _ _ (blkP m c t) (blkQ m c t) (blkW m c t) (blkM m c t) (blkV m c t) r k _ _ g hg

theorem flushed_grad (t : Fin cfg0.N) (_ : (cfg0.win 5).flush t = true) : (dats m 0 c).flushed 5 t
    = ((cfg0.win 5).blk t).view.read (Elt Ideal) (refG m c) := by
  obtain ⟨⟨e0, e1, e2⟩, -⟩ := places_out t
  have hg := fun r k => (writes m c t r k).1
  rw [Value.flushed5]
  generalize (outsAt0 m c t.val t.isLt).1 = d at hg ⊢
  generalize refG m c = G at hg ⊢
  funext y
  have y0 : (y 0).val < 1 := (y 0).isLt
  have b0 : (((cfg0.win 5).blk t).view.emb y : S2x128x1024.Idx) = ix3 (layer t) (y 1) (y 2) :=
    Adamw.index _ _ _ _ (show win0_5.index t 0 * 1 + 1 * (y 0).val = t.val by omega) (show win0_5.index t 1 * 128 + 1 * (y 1).val = (y 1).val by omega)
      (show win0_5.index t 2 * 1024 + 1 * (y 2).val = (y 2).val by omega)
  have b1 : ((cfg0.win 5).xinj (grid0.coords t) y : S1x128x1024.Idx) = ix3 0 (y 1) (y 2) := Adamw.index _ _ _ _ (show (y 0).val = 0 by omega) rfl rfl
  show d ((cfg0.win 5).xinj (grid0.coords t) y) = G (((cfg0.win 5).blk t).view.emb y)
  exact (congrArg d b1).trans ((hg (y 1) (y 2)).trans (congrArg G b0).symm)

theorem flushed_step (t : Fin cfg0.N) (_ : (cfg0.win 6).flush t = true) : (dats m 0 c).flushed 6 t
    = ((cfg0.win 6).blk t).view.read (Elt Ideal) (refD m c) := by
  obtain ⟨-, ⟨e0, e1, e2⟩, -⟩ := places_out t
  have hg := fun r k => (writes m c t r k).2.1
  rw [Value.flushed6]
  generalize (outsAt0 m c t.val t.isLt).2.1 = d at hg ⊢
  generalize refD m c = G at hg ⊢
  funext y
  have y0 : (y 0).val < 1 := (y 0).isLt
  have b0 : (((cfg0.win 6).blk t).view.emb y : S2x128x1024.Idx) = ix3 (layer t) (y 1) (y 2) :=
    Adamw.index _ _ _ _ (show win0_6.index t 0 * 1 + 1 * (y 0).val = t.val by omega) (show win0_6.index t 1 * 128 + 1 * (y 1).val = (y 1).val by omega)
      (show win0_6.index t 2 * 1024 + 1 * (y 2).val = (y 2).val by omega)
  have b1 : ((cfg0.win 6).xinj (grid0.coords t) y : S1x128x1024.Idx) = ix3 0 (y 1) (y 2) := Adamw.index _ _ _ _ (show (y 0).val = 0 by omega) rfl rfl
  show d ((cfg0.win 6).xinj (grid0.coords t) y) = G (((cfg0.win 6).blk t).view.emb y)
  exact (congrArg d b1).trans ((hg (y 1) (y 2)).trans (congrArg G b0).symm)

theorem flushed_mean (t : Fin cfg0.N) (_ : (cfg0.win 7).flush t = true) : (dats m 0 c).flushed 7 t
    = ((cfg0.win 7).blk t).view.read (Elt Ideal) (refM m c) := by
  obtain ⟨-, -, ⟨e0, e1, e2⟩, -⟩ := places_out t
  have hg := fun r k => (writes m c t r k).2.2.1
  rw [Value.flushed7]
  generalize (outsAt0 m c t.val t.isLt).2.2.1 = d at hg ⊢
  generalize refM m c = G at hg ⊢
  funext y
  have y0 : (y 0).val < 1 := (y 0).isLt
  have b0 : (((cfg0.win 7).blk t).view.emb y : S2x128x1024.Idx) = ix3 (layer t) (y 1) (y 2) :=
    Adamw.index _ _ _ _ (show win0_7.index t 0 * 1 + 1 * (y 0).val = t.val by omega) (show win0_7.index t 1 * 128 + 1 * (y 1).val = (y 1).val by omega)
      (show win0_7.index t 2 * 1024 + 1 * (y 2).val = (y 2).val by omega)
  have b1 : ((cfg0.win 7).xinj (grid0.coords t) y : S1x128x1024.Idx) = ix3 0 (y 1) (y 2) := Adamw.index _ _ _ _ (show (y 0).val = 0 by omega) rfl rfl
  show d ((cfg0.win 7).xinj (grid0.coords t) y) = G (((cfg0.win 7).blk t).view.emb y)
  exact (congrArg d b1).trans ((hg (y 1) (y 2)).trans (congrArg G b0).symm)

theorem flushed_square (t : Fin cfg0.N) (_ : (cfg0.win 8).flush t = true) : (dats m 0 c).flushed 8 t
    = ((cfg0.win 8).blk t).view.read (Elt Ideal) (refV m c) := by
  obtain ⟨-, -, -, e0, e1, e2⟩ := places_out t
  have hg := fun r k => (writes m c t r k).2.2.2
  rw [Value.flushed8]
  generalize (outsAt0 m c t.val t.isLt).2.2.2 = d at hg ⊢
  generalize refV m c = G at hg ⊢
  funext y
  have y0 : (y 0).val < 1 := (y 0).isLt
  have b0 : (((cfg0.win 8).blk t).view.emb y : S2x128x1024.Idx) = ix3 (layer t) (y 1) (y 2) :=
    Adamw.index _ _ _ _ (show win0_8.index t 0 * 1 + 1 * (y 0).val = t.val by omega) (show win0_8.index t 1 * 128 + 1 * (y 1).val = (y 1).val by omega)
      (show win0_8.index t 2 * 1024 + 1 * (y 2).val = (y 2).val by omega)
  have b1 : ((cfg0.win 8).xinj (grid0.coords t) y : S1x128x1024.Idx) = ix3 0 (y 1) (y 2) := Adamw.index _ _ _ _ (show (y 0).val = 0 by omega) rfl rfl
  show d ((cfg0.win 8).xinj (grid0.coords t) y) = G (((cfg0.win 8).blk t).view.emb y)
  exact (congrArg d b1).trans ((hg (y 1) (y 2)).trans (congrArg G b0).symm)
/-- The point that writes an entry: its layer's. -/
def writer (i : S2x128x1024.Idx) : Fin cfg0.N := ⟨(i 0).val, (i 0).isLt⟩

theorem final_grad : (dats m 0 c).arrAt 5 cfg0.N = refG m c :=
  (dats m 0 c).arrAt_eq_of_cover 5 _ (flushed_grad m c) fun i => by
    refine ⟨writer i, flush0_5 _, ?_⟩
    obtain ⟨⟨e0, e1, e2⟩, -⟩ := places_out (writer i)
    have i1 : (i 1 : Nat) < 128 := (i 1).isLt
    have i2 : (i 2 : Nat) < 1024 := (i 2).isLt
    have ew : (writer i).val = (i 0).val := rfl
    show i ∈ ((View.whole main_v0_0).slice (win0_5.rect (writer i))).set
    rw [View.set_slice_whole, Rect.mem_set_unit]
    intro a
    match a with
    | ⟨0, _⟩ => show win0_5.index (writer i) 0 * 1 ≤ (i 0).val ∧ (i 0).val < win0_5.index (writer i) 0 * 1 + 1; rw [e0, ew]; omega
    | ⟨1, _⟩ => show win0_5.index (writer i) 1 * 128 ≤ (i 1).val ∧ (i 1).val < win0_5.index (writer i) 1 * 128 + 128; rw [e1]; omega
    | ⟨2, _⟩ => show win0_5.index (writer i) 2 * 1024 ≤ (i 2).val ∧ (i 2).val < win0_5.index (writer i) 2 * 1024 + 1024; rw [e2]; omega

theorem final_step : (dats m 0 c).arrAt 6 cfg0.N = refD m c :=
  (dats m 0 c).arrAt_eq_of_cover 6 _ (flushed_step m c) fun i => by
    refine ⟨writer i, flush0_6 _, ?_⟩
    obtain ⟨-, ⟨e0, e1, e2⟩, -⟩ := places_out (writer i)
    have i1 : (i 1 : Nat) < 128 := (i 1).isLt
    have i2 : (i 2 : Nat) < 1024 := (i 2).isLt
    have ew : (writer i).val = (i 0).val := rfl
    show i ∈ ((View.whole main_v0_1).slice (win0_6.rect (writer i))).set
    rw [View.set_slice_whole, Rect.mem_set_unit]
    intro a
    match a with
    | ⟨0, _⟩ => show win0_6.index (writer i) 0 * 1 ≤ (i 0).val ∧ (i 0).val < win0_6.index (writer i) 0 * 1 + 1; rw [e0, ew]; omega
    | ⟨1, _⟩ => show win0_6.index (writer i) 1 * 128 ≤ (i 1).val ∧ (i 1).val < win0_6.index (writer i) 1 * 128 + 128; rw [e1]; omega
    | ⟨2, _⟩ => show win0_6.index (writer i) 2 * 1024 ≤ (i 2).val ∧ (i 2).val < win0_6.index (writer i) 2 * 1024 + 1024; rw [e2]; omega

theorem final_mean : (dats m 0 c).arrAt 7 cfg0.N = refM m c :=
  (dats m 0 c).arrAt_eq_of_cover 7 _ (flushed_mean m c) fun i => by
    refine ⟨writer i, flush0_7 _, ?_⟩
    obtain ⟨-, -, ⟨e0, e1, e2⟩, -⟩ := places_out (writer i)
    have i1 : (i 1 : Nat) < 128 := (i 1).isLt
    have i2 : (i 2 : Nat) < 1024 := (i 2).isLt
    have ew : (writer i).val = (i 0).val := rfl
    show i ∈ ((View.whole main_v0_2).slice (win0_7.rect (writer i))).set
    rw [View.set_slice_whole, Rect.mem_set_unit]
    intro a
    match a with
    | ⟨0, _⟩ => show win0_7.index (writer i) 0 * 1 ≤ (i 0).val ∧ (i 0).val < win0_7.index (writer i) 0 * 1 + 1; rw [e0, ew]; omega
    | ⟨1, _⟩ => show win0_7.index (writer i) 1 * 128 ≤ (i 1).val ∧ (i 1).val < win0_7.index (writer i) 1 * 128 + 128; rw [e1]; omega
    | ⟨2, _⟩ => show win0_7.index (writer i) 2 * 1024 ≤ (i 2).val ∧ (i 2).val < win0_7.index (writer i) 2 * 1024 + 1024; rw [e2]; omega

theorem final_square : (dats m 0 c).arrAt 8 cfg0.N = refV m c :=
  (dats m 0 c).arrAt_eq_of_cover 8 _ (flushed_square m c) fun i => by
    refine ⟨writer i, flush0_8 _, ?_⟩
    obtain ⟨-, -, -, e0, e1, e2⟩ := places_out (writer i)
    have i1 : (i 1 : Nat) < 128 := (i 1).isLt
    have i2 : (i 2 : Nat) < 1024 := (i 2).isLt
    have ew : (writer i).val = (i 0).val := rfl
    show i ∈ ((View.whole main_v0_3).slice (win0_8.rect (writer i))).set
    rw [View.set_slice_whole, Rect.mem_set_unit]
    intro a
    match a with
    | ⟨0, _⟩ => show win0_8.index (writer i) 0 * 1 ≤ (i 0).val ∧ (i 0).val < win0_8.index (writer i) 0 * 1 + 1; rw [e0, ew]; omega
    | ⟨1, _⟩ => show win0_8.index (writer i) 1 * 128 ≤ (i 1).val ∧ (i 1).val < win0_8.index (writer i) 1 * 128 + 128; rw [e1]; omega
    | ⟨2, _⟩ => show win0_8.index (writer i) 2 * 1024 ≤ (i 2).val ∧ (i 2).val < win0_8.index (writer i) 2 * 1024 + 1024; rw [e2]; omega

end Cert.AdamwAbOutIdeal.Blocks

namespace Cert.Proof.AdamwAbOut

open Idealize.ShloMosaic Idealize.SL.Sem Cert.AdamwAbOutReferenceIdeal.Read Cert.AdamwAbOutIdeal.Blocks

theorem frame_kernel : Cert.quiescent_AdamwAbOut := fun m ρ _ => Cert.AdamwAbOut.Gen.frame m ρ

theorem frame_kernelIdeal : Cert.quiescent_AdamwAbOutIdeal := fun m ρ _ => Cert.AdamwAbOutIdeal.Gen.frame m ρ

theorem frame_reference : Cert.quiescent_AdamwAbOutReferenceIdeal := fun m ρ _ =>
  (θ_run Cert.AdamwAbOutReferenceIdeal.defs _ _).mono (fun r h => ⟨fun c => (h c).2.2.2.2, sem_eq_zero_of_no_sems (by decide) r.2⟩)
    (Cert.AdamwAbOutReferenceIdeal.Value.run (F := Ideal) m ρ)

theorem values : Cert.algebraic_AdamwAbOutIdeal_AdamwAbOutReferenceIdeal := fun m g m' g' _ hargs =>
  ⟨fun c => refG m c, fun c => refD m c, fun c => refM m c, fun c => refV m c,
    (θ_run Cert.AdamwAbOutIdeal.defs _ _).mono (fun r h c =>
        have ⟨h5, h6, h7, h8, hk⟩ := h c
        ⟨h5.trans (final_grad m c), h6.trans (final_step m c), h7.trans (final_mean m c), h8.trans (final_square m c), hk⟩)
      (Cert.AdamwAbOutIdeal.Value.run_blocks (F := Ideal) m g),
    (θ_run Cert.AdamwAbOutReferenceIdeal.defs _ _).mono (fun r h c => by
        obtain ⟨e0, e1, e2, e3, e4⟩ := hargs c
        obtain ⟨h6, h30, h11, h17, hk⟩ := h c
        refine ⟨h6.trans ?_, h30.trans ?_, h11.trans ?_, h17.trans ?_, hk⟩
        · rw [val_main_v6_eq, e0, e1]
        · rw [val_main_v30_eq, e0, e1, e2, e3, e4]
        · rw [val_main_v11_eq, e0, e1, e3]
        · rw [val_main_v17_eq, e0, e1, e4])
      (Cert.AdamwAbOutReferenceIdeal.Value.run (F := Ideal) m' g')⟩

end Cert.Proof.AdamwAbOut

end
-- ==== Proof.AdamwAbInValue.lean ====
/- The optimiser's step on a weight of two layers of 1024 rows of 417: each grid point sums its block of one layer's parts of the gradient and
   writes that block of the gradient, the weight's change and the two new moments; the reference's four results. -/
module

public import proofs.«01_k».proof.Defs
public import proofs.«01_k».proof.Proof.Adamw
public import proofs.«01_k».proof.Proof.Gen.AdamwAbIn.Frame
public import proofs.«01_k».proof.Proof.Gen.AdamwAbInIdeal.Value
public import proofs.«01_k».proof.Proof.Gen.AdamwAbInReferenceIdeal.Run
public import proofs.«01_k».proof.Proof.Gen.AdamwAbInReferenceIdeal.Read
public import Idealize.ShloMosaic.Lib.Pipeline.ValueKit

@[expose] public section

noncomputable section

namespace Cert.AdamwAbInReferenceIdeal.Entries

open Cert.AdamwAbInReferenceIdeal Cert.AdamwAbInReferenceIdeal.Read Idealize.ShloMosaic

variable (p0 p1 : S8x1024x417.Idx → EReal) (w m v : S2x1024x417.Idx → EReal)

theorem grad_0 (r : Fin 1024) (k : Fin 417) : val_main_v6 (F := Ideal) p0 p1 (ix3 0 r k) = Adamw.total fun s => p0 (ix3 s r k) := by
  rw [← val_main_v6_eq, ← Adamw.sum_parts]
  pointwise

theorem grad_1 (r : Fin 1024) (k : Fin 417) : val_main_v6 (F := Ideal) p0 p1 (ix3 1 r k) = Adamw.total fun s => p1 (ix3 s r k) := by
  rw [← val_main_v6_eq, ← Adamw.sum_parts]
  pointwise

theorem mean_eq (i : S2x1024x417.Idx) : val_main_v11 (F := Ideal) p0 p1 m i = Adamw.mean (m i) (val_main_v6 (F := Ideal) p0 p1 i) := rfl

theorem square_eq (i : S2x1024x417.Idx) : val_main_v17 (F := Ideal) p0 p1 v i = Adamw.square (v i) (val_main_v6 (F := Ideal) p0 p1 i) := rfl

theorem step_eq (i : S2x1024x417.Idx) : val_main_v30 (F := Ideal) p0 p1 w m v i
    = Adamw.step (w i) (val_main_v11 (F := Ideal) p0 p1 m i) (val_main_v17 (F := Ideal) p0 p1 v i) := rfl

end Cert.AdamwAbInReferenceIdeal.Entries

namespace Cert.AdamwAbInIdeal.Blocks

open Cert.AdamwAbInIdeal Cert.AdamwAbInIdeal.Gen Idealize.ShloMosaic Idealize.ShloMosaic.TcCoe Idealize.SL.Sem
open Cert.AdamwAbInReferenceIdeal.Read (val_main_v6 val_main_v30 val_main_v11 val_main_v17)
open Cert.AdamwAbInReferenceIdeal.Entries

/-- The reciprocals of the corrections, which the kernel names. -/
theorem named_first : Named.named (F := Ideal) κ "c1" (φ := .f32) 0x3FC48605#32 = (((5463681 / 8388608 : ℝ)⁻¹ : ℝ) : EReal) :=
  IdealRules.named_const.ideal_named_scalar _ _ _ _ rfl
theorem named_second : Named.named (F := Ideal) κ "c2" (φ := .f32) 0x42C8E6D3#32 = (((2672307 / 268435456 : ℝ)⁻¹ : ℝ) : EReal) :=
  IdealRules.named_const.ideal_named_scalar _ _ _ _ rfl

set_option maxHeartbeats 1000000 in
/-- One block's step, entry by entry: the sum of the eight parts, and from it the change of the weight and the new moments. -/
theorem block (x0 x1 x2 x3 x4 x5 x6 x7 : Vec Ideal S1x256x417 .bf16) (w m v : Vec Ideal S1x256x417 .f32) (r : Fin 256) (k : Fin 417) (g : EReal)
    (hg : g = x0 (ix3 0 r k) + x1 (ix3 0 r k) + x2 (ix3 0 r k) + x3 (ix3 0 r k) + x4 (ix3 0 r k) + x5 (ix3 0 r k) + x6 (ix3 0 r k) + x7 (ix3 0 r k)) :
    k0_pay17 (F := Ideal) (k0_pay5 (F := Ideal) x3) (k0_pay6 (F := Ideal) x4) (k0_pay7 (F := Ideal) x5) (k0_pay8 (F := Ideal) x6) (k0_pay9 (F := Ideal) x7) (k0_pay13 (F := Ideal) x0 x1 x2) (ix3 0 r k) = g
    ∧ k0_pay18 (F := Ideal) (k0_pay5 (F := Ideal) x3) (k0_pay6 (F := Ideal) x4) (k0_pay7 (F := Ideal) x5) (k0_pay8 (F := Ideal) x6) (k0_pay9 (F := Ideal) x7) (k0_pay10 (F := Ideal) w) (k0_pay11 (F := Ideal) m) (k0_pay12 (F := Ideal) v) (k0_pay13 (F := Ideal) x0 x1 x2) (ix3 0 r k)
      = Adamw.step (w (ix3 0 r k)) (Adamw.mean (m (ix3 0 r k)) g) (Adamw.square (v (ix3 0 r k)) g)
    ∧ k0_pay1 (F := Ideal) (k0_pay15 (F := Ideal) (k0_pay5 (F := Ideal) x3) (k0_pay6 (F := Ideal) x4) (k0_pay7 (F := Ideal) x5) (k0_pay8 (F := Ideal) x6) (k0_pay9 (F := Ideal) x7) (k0_pay11 (F := Ideal) m) (k0_pay13 (F := Ideal) x0 x1 x2)) (ix3 0 r k) = Adamw.mean (m (ix3 0 r k)) g
    ∧ k0_pay2 (F := Ideal) (k0_pay16 (F := Ideal) (k0_pay5 (F := Ideal) x3) (k0_pay6 (F := Ideal) x4) (k0_pay7 (F := Ideal) x5) (k0_pay8 (F := Ideal) x6) (k0_pay9 (F := Ideal) x7) (k0_pay12 (F := Ideal) v) (k0_pay13 (F := Ideal) x0 x1 x2)) (ix3 0 r k) = Adamw.square (v (ix3 0 r k)) g := by
  subst hg
  refine ⟨?_, ?_, ?_, ?_⟩
  · pointwise [k0_pay17, k0_pay14, k0_pay5, k0_pay6, k0_pay7, k0_pay8, k0_pay9, k0_pay13]
  · pointwise [k0_pay18, k0_pay15, k0_pay16, k0_pay14, k0_pay5, k0_pay6, k0_pay7, k0_pay8, k0_pay9, k0_pay10, k0_pay11, k0_pay12, k0_pay13]
    rw [named_first, named_second, Adamw.mul_first, Adamw.mul_second]
    rfl
  · pointwise [k0_pay1, k0_pay15, k0_pay14, k0_pay5, k0_pay6, k0_pay7, k0_pay8, k0_pay9, k0_pay11, k0_pay13]
    rfl
  · pointwise [k0_pay2, k0_pay16, k0_pay14, k0_pay5, k0_pay6, k0_pay7, k0_pay8, k0_pay9, k0_pay12, k0_pay13]
    rfl

variable (m : (ℓ : Loc nD τ sig) → Buf (Elt Ideal) ℓ) (ρ : Dev nD → PrngReg) (c : Dev nD)

/-- The arguments: each layer's parts of the gradient, the weight and the two moments. -/
abbrev arg0 : S8x1024x417.Idx → EReal := m ((c.tc : Thread nD τ).loc main_arg0)
abbrev arg1 : S8x1024x417.Idx → EReal := m ((c.tc : Thread nD τ).loc main_arg1)
abbrev argW : S2x1024x417.Idx → EReal := m ((c.tc : Thread nD τ).loc main_arg2)
abbrev argM : S2x1024x417.Idx → EReal := m ((c.tc : Thread nD τ).loc main_arg3)
abbrev argV : S2x1024x417.Idx → EReal := m ((c.tc : Thread nD τ).loc main_arg4)

/-- The reference's four results. -/
abbrev refG : S2x1024x417.Idx → EReal := val_main_v6 (F := Ideal) (arg0 m c) (arg1 m c)
abbrev refD : S2x1024x417.Idx → EReal := val_main_v30 (F := Ideal) (arg0 m c) (arg1 m c) (argW m c) (argM m c) (argV m c)
abbrev refM : S2x1024x417.Idx → EReal := val_main_v11 (F := Ideal) (arg0 m c) (arg1 m c) (argM m c)
abbrev refV : S2x1024x417.Idx → EReal := val_main_v17 (F := Ideal) (arg0 m c) (arg1 m c) (argV m c)

/-- The blocks of a point. -/
abbrev blk0 (t : Fin cfg0.N) : Vec Ideal S8x256x417 .bf16 := iblk m c 0 t
abbrev blk1 (t : Fin cfg0.N) : Vec Ideal S8x256x417 .bf16 := iblk m c 1 t
abbrev blkW (t : Fin cfg0.N) : Vec Ideal S1x256x417 .f32 := iblk m c 2 t
abbrev blkM (t : Fin cfg0.N) : Vec Ideal S1x256x417 .f32 := iblk m c 3 t
abbrev blkV (t : Fin cfg0.N) : Vec Ideal S1x256x417 .f32 := iblk m c 4 t

/-- Which blocks a grid point reads and writes: in its layer, its block of rows. -/
theorem parts_places : ∀ t : Fin cfg0.N, (t.val / 4 = 0 → win0_0.index t = ![0, t.val % 4, 0])
    ∧ (t.val / 4 = 1 → win0_1.index t = ![0, t.val % 4, 0]) := (by decide +kernel : ∀ t : Fin grid0.N, _)
theorem places : ∀ t : Fin cfg0.N, win0_2.index t = ![t.val / 4, t.val % 4, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0] := (by decide +kernel : ∀ t : Fin grid0.N, _)

/-- The layer of a point, and the row of the arrays that a row of its block is. -/
def layer (t : Fin cfg0.N) : Fin 2 := ⟨t.val / 4, Nat.div_lt_of_lt_mul (show t.val < 4 * 2 from t.isLt)⟩
def at' (t : Fin cfg0.N) (r : Fin 256) : Fin 1024 := ⟨t.val % 4 * 256 + r.val, by have := r.isLt; omega⟩

theorem read_parts (t : Fin cfg0.N) (s : Fin 8) (r : Fin 256) (k : Fin 417) : (t.val / 4 = 0 → blk0 m c t (ix3 s r k) = arg0 m c (ix3 s (at' t r) k))
    ∧ (t.val / 4 = 1 → blk1 m c t (ix3 s r k) = arg1 m c (ix3 s (at' t r) k)) := by
  obtain ⟨e0, e1⟩ := parts_places t
  refine ⟨fun h => ?_, fun h => ?_⟩
  all_goals
    first | have e := e0 h | have e := e1 h
    blk_simp [iblk]
    first | rw [V_main_arg0] | rw [V_main_arg1]
    refine congrArg _ (Adamw.index _ _ _ _ ?_ ?_ ?_)
    all_goals blk_simp [e]
    rfl

theorem read_state (t : Fin cfg0.N) (r : Fin 256) (k : Fin 417) : blkW m c t (ix3 0 r k) = argW m c (ix3 (layer t) (at' t r) k)
    ∧ blkM m c t (ix3 0 r k) = argM m c (ix3 (layer t) (at' t r) k) ∧ blkV m c t (ix3 0 r k) = argV m c (ix3 (layer t) (at' t r) k) := by
  obtain ⟨e2, e3, e4, -⟩ := places t
  refine ⟨?_, ?_, ?_⟩
  all_goals
    blk_simp [iblk]
    first | rw [V_main_arg2] | rw [V_main_arg3] | rw [V_main_arg4]
    refine congrArg _ (Adamw.index _ _ _ _ ?_ ?_ ?_)
    all_goals blk_simp [e2, e3, e4]
    all_goals rfl

/-- The reference's gradient in a point's block. -/
theorem ref_parts (t : Fin cfg0.N) (r : Fin 256) (k : Fin 417) :
    (t.val / 4 = 0 → refG m c (ix3 (layer t) (at' t r) k) = Adamw.total fun s => blk0 m c t (ix3 s r k))
    ∧ (t.val / 4 = 1 → refG m c (ix3 (layer t) (at' t r) k) = Adamw.total fun s => blk1 m c t (ix3 s r k)) := by
  have e := fun s => read_parts m c t s r k
  refine ⟨fun h => ?_, fun h => ?_⟩
  · simp only [fun s => (e s).1 h, show layer t = 0 from Fin.ext h]
    exact grad_0 _ _ (at' t r) k
  · simp only [fun s => (e s).2 h, show layer t = 1 from Fin.ext h]
    exact grad_1 _ _ (at' t r) k

/-- What a point writes is its block of the reference's results. -/
theorem writes (t : Fin cfg0.N) (r : Fin 256) (k : Fin 417) :
    (outsAt0 m c t.val t.isLt).1 (ix3 0 r k) = refG m c (ix3 (layer t) (at' t r) k)
    ∧ (outsAt0 m c t.val t.isLt).2.1 (ix3 0 r k) = refD m c (ix3 (layer t) (at' t r) k)
    ∧ (outsAt0 m c t.val t.isLt).2.2.1 (ix3 0 r k) = refM m c (ix3 (layer t) (at' t r) k)
    ∧ (outsAt0 m c t.val t.isLt).2.2.2 (ix3 0 r k) = refV m c (ix3 (layer t) (at' t r) k) := by
  have ht : t.val < 8 := t.isLt
  unfold refD refM refV
  rw [step_eq, mean_eq, square_eq, ← (read_state m c t r k).1, ← (read_state m c t r k).2.1, ← (read_state m c t r k).2.2]
  obtain ⟨g0, g1⟩ := ref_parts m c t r k
  rcases (by omega : t.val / 4 = 0 ∨ t.val / 4 = 1) with h | h
  · rw [outsAt0_A m c t (by omega) (by omega)]
    frame_out
    exact block _ _ _ _ _ _ _ _ _ _ _ r k _ ((g0 h).trans (by pointwise [Adamw.total]))
  · rw [outsAt0_B m c t (by omega) (by omega)]
    frame_out
    exact block _ _ _ _ _ _ _ _ _ _ _ r k _ ((g1 h).trans (by pointwise [Adamw.total]))

/-- The place in the arrays of an entry of a point's block. -/
theorem place_eq (t : Fin cfg0.N) (n : Fin 3 → ℕ) (hn : n = ![t.val / 4, t.val % 4, 0]) (y : S1x256x417.Idx) (i : S2x1024x417.Idx)
    (hi : ∀ a, (i a).val = n a * S1x256x417.size a + 1 * (y a).val) : ix3 (layer t) (at' t (y 1)) (y 2) = i := by
  subst hn
  have y0 : (y 0).val < 1 := (y 0).isLt
  have h0 : (i 0).val = t.val / 4 * 1 + 1 * (y 0).val := hi 0
  have h1 : (i 1).val = t.val % 4 * 256 + 1 * (y 1).val := hi 1
  have h2 : (i 2).val = 0 * 417 + 1 * (y 2).val := hi 2
  exact (Adamw.index i _ _ _ (show _ = t.val / 4 by omega) (show _ = t.val % 4 * 256 + (y 1).val by omega) (by omega)).symm

theorem final : (dats m 0 c).arrAt 5 cfg0.N = refG m c ∧ (dats m 0 c).arrAt 6 cfg0.N = refD m c ∧ (dats m 0 c).arrAt 7 cfg0.N = refM m c
    ∧ (dats m 0 c).arrAt 8 cfg0.N = refV m c := by
  have hy (y : S1x256x417.Idx) : y = ix3 0 (y 1) (y 2) := Adamw.index _ _ _ _ (by have : (y 0).val < 1 := (y 0).isLt; show (y 0).val = 0; omega) rfl rfl
  refine ⟨(dats m 0 c).arrAt_eq_of_covers 5 _ (by decide +kernel) fun t hf y => ?_, (dats m 0 c).arrAt_eq_of_covers 6 _ (by decide +kernel) fun t hf y => ?_,
    (dats m 0 c).arrAt_eq_of_covers 7 _ (by decide +kernel) fun t hf y => ?_, (dats m 0 c).arrAt_eq_of_covers 8 _ (by decide +kernel) fun t hf y => ?_⟩
  all_goals
    obtain ⟨-, -, -, e5, e6, e7, e8⟩ := places t
    obtain ⟨w5, w6, w7, w8⟩ := writes m c t (y 1) (y 2)
    blk_simp
  · rw [after0_5]
    exact (congrArg _ (hy y)).trans (w5.trans (congrArg (refG m c) (place_eq t _ e5 y _ fun _ => rfl)))
  · rw [after0_6]
    exact (congrArg _ (hy y)).trans (w6.trans (congrArg (refD m c) (place_eq t _ e6 y _ fun _ => rfl)))
  · rw [after0_7]
    exact (congrArg _ (hy y)).trans (w7.trans (congrArg (refM m c) (place_eq t _ e7 y _ fun _ => rfl)))
  · rw [after0_8]
    exact (congrArg _ (hy y)).trans (w8.trans (congrArg (refV m c) (place_eq t _ e8 y _ fun _ => rfl)))

end Cert.AdamwAbInIdeal.Blocks

namespace Cert.Proof.AdamwAbIn

open Idealize.ShloMosaic Idealize.SL.Sem Cert.AdamwAbInReferenceIdeal.Read Cert.AdamwAbInIdeal.Blocks

theorem frame_kernel : Cert.quiescent_AdamwAbIn := fun m ρ _ => Cert.AdamwAbIn.Gen.frame m ρ

theorem frame_kernelIdeal : Cert.quiescent_AdamwAbInIdeal := fun m ρ _ => Cert.AdamwAbInIdeal.Gen.frame m ρ

theorem frame_reference : Cert.quiescent_AdamwAbInReferenceIdeal := fun m ρ _ =>
  (θ_run Cert.AdamwAbInReferenceIdeal.defs _ _).mono (fun r h => ⟨fun c => (h c).2.2.2.2, sem_eq_zero_of_no_sems (by decide) r.2⟩)
    (Cert.AdamwAbInReferenceIdeal.Value.run (F := Ideal) m ρ)

theorem values : Cert.algebraic_AdamwAbInIdeal_AdamwAbInReferenceIdeal := fun m g m' g' _ hargs =>
  ⟨fun c => refG m c, fun c => refD m c, fun c => refM m c, fun c => refV m c,
    (θ_run Cert.AdamwAbInIdeal.defs _ _).mono (fun r h c =>
        have ⟨hg, hd, hm, hv, hk⟩ := h c
        have ⟨fg, fd, fm, fv⟩ := final m c
        ⟨hg.trans fg, hd.trans fd, hm.trans fm, hv.trans fv, hk⟩)
      (Cert.AdamwAbInIdeal.Value.run_blocks (F := Ideal) m g),
    (θ_run Cert.AdamwAbInReferenceIdeal.defs _ _).mono (fun r h c => by
        obtain ⟨e0, e1, e2, e3, e4⟩ := hargs c
        obtain ⟨hg, hd, hm, hv, hk⟩ := h c
        refine ⟨hg.trans ?_, hd.trans ?_, hm.trans ?_, hv.trans ?_, hk⟩
        · rw [val_main_v6_eq, e0, e1]
        · rw [val_main_v30_eq, e0, e1, e2, e3, e4]
        · rw [val_main_v11_eq, e0, e1, e3]
        · rw [val_main_v17_eq, e0, e1, e4])
      (Cert.AdamwAbInReferenceIdeal.Value.run (F := Ideal) m' g')⟩

end Cert.Proof.AdamwAbIn

end
-- ==== Proof.AdamwCdInValue.lean ====
/- The optimiser's step on a weight of two layers of 1024 rows of 224: each grid point sums its block of one layer's parts of the gradient and
   writes that block of the gradient, the weight's change and the two new moments; the reference's four results. -/
module

public import proofs.«01_k».proof.Defs
public import proofs.«01_k».proof.Proof.Adamw
public import proofs.«01_k».proof.Proof.Gen.AdamwCdIn.Frame
public import proofs.«01_k».proof.Proof.Gen.AdamwCdInIdeal.Value
public import proofs.«01_k».proof.Proof.Gen.AdamwCdInReferenceIdeal.Run
public import proofs.«01_k».proof.Proof.Gen.AdamwCdInReferenceIdeal.Read
public import Idealize.ShloMosaic.Lib.Pipeline.ValueKit

@[expose] public section

noncomputable section

namespace Cert.AdamwCdInReferenceIdeal.Entries

open Cert.AdamwCdInReferenceIdeal Cert.AdamwCdInReferenceIdeal.Read Idealize.ShloMosaic

variable (p0 p1 : S8x1024x224.Idx → EReal) (w m v : S2x1024x224.Idx → EReal)

theorem grad_0 (r : Fin 1024) (k : Fin 224) : val_main_v6 (F := Ideal) p0 p1 (ix3 0 r k) = Adamw.total fun s => p0 (ix3 s r k) := by
  rw [← val_main_v6_eq, ← Adamw.sum_parts]
  pointwise

theorem grad_1 (r : Fin 1024) (k : Fin 224) : val_main_v6 (F := Ideal) p0 p1 (ix3 1 r k) = Adamw.total fun s => p1 (ix3 s r k) := by
  rw [← val_main_v6_eq, ← Adamw.sum_parts]
  pointwise

theorem mean_eq (i : S2x1024x224.Idx) : val_main_v11 (F := Ideal) p0 p1 m i = Adamw.mean (m i) (val_main_v6 (F := Ideal) p0 p1 i) := rfl

theorem square_eq (i : S2x1024x224.Idx) : val_main_v17 (F := Ideal) p0 p1 v i = Adamw.square (v i) (val_main_v6 (F := Ideal) p0 p1 i) := rfl

theorem step_eq (i : S2x1024x224.Idx) : val_main_v30 (F := Ideal) p0 p1 w m v i
    = Adamw.step (w i) (val_main_v11 (F := Ideal) p0 p1 m i) (val_main_v17 (F := Ideal) p0 p1 v i) := rfl

end Cert.AdamwCdInReferenceIdeal.Entries

namespace Cert.AdamwCdInIdeal.Blocks

open Cert.AdamwCdInIdeal Cert.AdamwCdInIdeal.Gen Idealize.ShloMosaic Idealize.ShloMosaic.TcCoe Idealize.SL.Sem
open Cert.AdamwCdInReferenceIdeal.Read (val_main_v6 val_main_v30 val_main_v11 val_main_v17)
open Cert.AdamwCdInReferenceIdeal.Entries

/-- The reciprocals of the corrections, which the kernel names. -/
theorem named_first : Named.named (F := Ideal) κ "c1" (φ := .f32) 0x3FC48605#32 = (((5463681 / 8388608 : ℝ)⁻¹ : ℝ) : EReal) :=
  IdealRules.named_const.ideal_named_scalar _ _ _ _ rfl
theorem named_second : Named.named (F := Ideal) κ "c2" (φ := .f32) 0x42C8E6D3#32 = (((2672307 / 268435456 : ℝ)⁻¹ : ℝ) : EReal) :=
  IdealRules.named_const.ideal_named_scalar _ _ _ _ rfl

set_option maxHeartbeats 1000000 in
/-- One block's step, entry by entry: the sum of the eight parts, and from it the change of the weight and the new moments. -/
theorem block (x0 x1 x2 x3 x4 x5 x6 x7 : Vec Ideal S1x256x224 .bf16) (w m v : Vec Ideal S1x256x224 .f32) (r : Fin 256) (k : Fin 224) (g : EReal)
    (hg : g = x0 (ix3 0 r k) + x1 (ix3 0 r k) + x2 (ix3 0 r k) + x3 (ix3 0 r k) + x4 (ix3 0 r k) + x5 (ix3 0 r k) + x6 (ix3 0 r k) + x7 (ix3 0 r k)) :
    k0_pay17 (F := Ideal) (k0_pay5 (F := Ideal) x3) (k0_pay6 (F := Ideal) x4) (k0_pay7 (F := Ideal) x5) (k0_pay8 (F := Ideal) x6) (k0_pay9 (F := Ideal) x7) (k0_pay13 (F := Ideal) x0 x1 x2) (ix3 0 r k) = g
    ∧ k0_pay18 (F := Ideal) (k0_pay5 (F := Ideal) x3) (k0_pay6 (F := Ideal) x4) (k0_pay7 (F := Ideal) x5) (k0_pay8 (F := Ideal) x6) (k0_pay9 (F := Ideal) x7) (k0_pay10 (F := Ideal) w) (k0_pay11 (F := Ideal) m) (k0_pay12 (F := Ideal) v) (k0_pay13 (F := Ideal) x0 x1 x2) (ix3 0 r k)
      = Adamw.step (w (ix3 0 r k)) (Adamw.mean (m (ix3 0 r k)) g) (Adamw.square (v (ix3 0 r k)) g)
    ∧ k0_pay1 (F := Ideal) (k0_pay15 (F := Ideal) (k0_pay5 (F := Ideal) x3) (k0_pay6 (F := Ideal) x4) (k0_pay7 (F := Ideal) x5) (k0_pay8 (F := Ideal) x6) (k0_pay9 (F := Ideal) x7) (k0_pay11 (F := Ideal) m) (k0_pay13 (F := Ideal) x0 x1 x2)) (ix3 0 r k) = Adamw.mean (m (ix3 0 r k)) g
    ∧ k0_pay2 (F := Ideal) (k0_pay16 (F := Ideal) (k0_pay5 (F := Ideal) x3) (k0_pay6 (F := Ideal) x4) (k0_pay7 (F := Ideal) x5) (k0_pay8 (F := Ideal) x6) (k0_pay9 (F := Ideal) x7) (k0_pay12 (F := Ideal) v) (k0_pay13 (F := Ideal) x0 x1 x2)) (ix3 0 r k) = Adamw.square (v (ix3 0 r k)) g := by
  subst hg
  refine ⟨?_, ?_, ?_, ?_⟩
  · pointwise [k0_pay17, k0_pay14, k0_pay5, k0_pay6, k0_pay7, k0_pay8, k0_pay9, k0_pay13]
  · pointwise [k0_pay18, k0_pay15, k0_pay16, k0_pay14, k0_pay5, k0_pay6, k0_pay7, k0_pay8, k0_pay9, k0_pay10, k0_pay11, k0_pay12, k0_pay13]
    rw [named_first, named_second, Adamw.mul_first, Adamw.mul_second]
    rfl
  · pointwise [k0_pay1, k0_pay15, k0_pay14, k0_pay5, k0_pay6, k0_pay7, k0_pay8, k0_pay9, k0_pay11, k0_pay13]
    rfl
  · pointwise [k0_pay2, k0_pay16, k0_pay14, k0_pay5, k0_pay6, k0_pay7, k0_pay8, k0_pay9, k0_pay12, k0_pay13]
    rfl

variable (m : (ℓ : Loc nD τ sig) → Buf (Elt Ideal) ℓ) (ρ : Dev nD → PrngReg) (c : Dev nD)

/-- The arguments: each layer's parts of the gradient, the weight and the two moments. -/
abbrev arg0 : S8x1024x224.Idx → EReal := m ((c.tc : Thread nD τ).loc main_arg0)
abbrev arg1 : S8x1024x224.Idx → EReal := m ((c.tc : Thread nD τ).loc main_arg1)
abbrev argW : S2x1024x224.Idx → EReal := m ((c.tc : Thread nD τ).loc main_arg2)
abbrev argM : S2x1024x224.Idx → EReal := m ((c.tc : Thread nD τ).loc main_arg3)
abbrev argV : S2x1024x224.Idx → EReal := m ((c.tc : Thread nD τ).loc main_arg4)

/-- The reference's four results. -/
abbrev refG : S2x1024x224.Idx → EReal := val_main_v6 (F := Ideal) (arg0 m c) (arg1 m c)
abbrev refD : S2x1024x224.Idx → EReal := val_main_v30 (F := Ideal) (arg0 m c) (arg1 m c) (argW m c) (argM m c) (argV m c)
abbrev refM : S2x1024x224.Idx → EReal := val_main_v11 (F := Ideal) (arg0 m c) (arg1 m c) (argM m c)
abbrev refV : S2x1024x224.Idx → EReal := val_main_v17 (F := Ideal) (arg0 m c) (arg1 m c) (argV m c)

/-- The blocks of a point. -/
abbrev blk0 (t : Fin cfg0.N) : Vec Ideal S8x256x224 .bf16 := iblk m c 0 t
abbrev blk1 (t : Fin cfg0.N) : Vec Ideal S8x256x224 .bf16 := iblk m c 1 t
abbrev blkW (t : Fin cfg0.N) : Vec Ideal S1x256x224 .f32 := iblk m c 2 t
abbrev blkM (t : Fin cfg0.N) : Vec Ideal S1x256x224 .f32 := iblk m c 3 t
abbrev blkV (t : Fin cfg0.N) : Vec Ideal S1x256x224 .f32 := iblk m c 4 t

/-- Which blocks a grid point reads and writes: in its layer, its block of rows. -/
theorem parts_places : ∀ t : Fin cfg0.N, (t.val / 4 = 0 → win0_0.index t = ![0, t.val % 4, 0])
    ∧ (t.val / 4 = 1 → win0_1.index t = ![0, t.val % 4, 0]) := (by decide +kernel : ∀ t : Fin grid0.N, _)
theorem places : ∀ t : Fin cfg0.N, win0_2.index t = ![t.val / 4, t.val % 4, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0] := (by decide +kernel : ∀ t : Fin grid0.N, _)

/-- The layer of a point, and the row of the arrays that a row of its block is. -/
def layer (t : Fin cfg0.N) : Fin 2 := ⟨t.val / 4, Nat.div_lt_of_lt_mul (show t.val < 4 * 2 from t.isLt)⟩
def at' (t : Fin cfg0.N) (r : Fin 256) : Fin 1024 := ⟨t.val % 4 * 256 + r.val, by have := r.isLt; omega⟩

theorem read_parts (t : Fin cfg0.N) (s : Fin 8) (r : Fin 256) (k : Fin 224) : (t.val / 4 = 0 → blk0 m c t (ix3 s r k) = arg0 m c (ix3 s (at' t r) k))
    ∧ (t.val / 4 = 1 → blk1 m c t (ix3 s r k) = arg1 m c (ix3 s (at' t r) k)) := by
  obtain ⟨e0, e1⟩ := parts_places t
  refine ⟨fun h => ?_, fun h => ?_⟩
  all_goals
    first | have e := e0 h | have e := e1 h
    blk_simp [iblk]
    first | rw [V_main_arg0] | rw [V_main_arg1]
    refine congrArg _ (Adamw.index _ _ _ _ ?_ ?_ ?_)
    all_goals blk_simp [e]
    rfl

theorem read_state (t : Fin cfg0.N) (r : Fin 256) (k : Fin 224) : blkW m c t (ix3 0 r k) = argW m c (ix3 (layer t) (at' t r) k)
    ∧ blkM m c t (ix3 0 r k) = argM m c (ix3 (layer t) (at' t r) k) ∧ blkV m c t (ix3 0 r k) = argV m c (ix3 (layer t) (at' t r) k) := by
  obtain ⟨e2, e3, e4, -⟩ := places t
  refine ⟨?_, ?_, ?_⟩
  all_goals
    blk_simp [iblk]
    first | rw [V_main_arg2] | rw [V_main_arg3] | rw [V_main_arg4]
    refine congrArg _ (Adamw.index _ _ _ _ ?_ ?_ ?_)
    all_goals blk_simp [e2, e3, e4]
    all_goals rfl

/-- The reference's gradient in a point's block. -/
theorem ref_parts (t : Fin cfg0.N) (r : Fin 256) (k : Fin 224) :
    (t.val / 4 = 0 → refG m c (ix3 (layer t) (at' t r) k) = Adamw.total fun s => blk0 m c t (ix3 s r k))
    ∧ (t.val / 4 = 1 → refG m c (ix3 (layer t) (at' t r) k) = Adamw.total fun s => blk1 m c t (ix3 s r k)) := by
  have e := fun s => read_parts m c t s r k
  refine ⟨fun h => ?_, fun h => ?_⟩
  · simp only [fun s => (e s).1 h, show layer t = 0 from Fin.ext h]
    exact grad_0 _ _ (at' t r) k
  · simp only [fun s => (e s).2 h, show layer t = 1 from Fin.ext h]
    exact grad_1 _ _ (at' t r) k

/-- What a point writes is its block of the reference's results. -/
theorem writes (t : Fin cfg0.N) (r : Fin 256) (k : Fin 224) :
    (outsAt0 m c t.val t.isLt).1 (ix3 0 r k) = refG m c (ix3 (layer t) (at' t r) k)
    ∧ (outsAt0 m c t.val t.isLt).2.1 (ix3 0 r k) = refD m c (ix3 (layer t) (at' t r) k)
    ∧ (outsAt0 m c t.val t.isLt).2.2.1 (ix3 0 r k) = refM m c (ix3 (layer t) (at' t r) k)
    ∧ (outsAt0 m c t.val t.isLt).2.2.2 (ix3 0 r k) = refV m c (ix3 (layer t) (at' t r) k) := by
  have ht : t.val < 8 := t.isLt
  unfold refD refM refV
  rw [step_eq, mean_eq, square_eq, ← (read_state m c t r k).1, ← (read_state m c t r k).2.1, ← (read_state m c t r k).2.2]
  obtain ⟨g0, g1⟩ := ref_parts m c t r k
  rcases (by omega : t.val / 4 = 0 ∨ t.val / 4 = 1) with h | h
  · rw [outsAt0_A m c t (by omega) (by omega)]
    frame_out
    exact block _ _ _ _ _ _ _ _ _ _ _ r k _ ((g0 h).trans (by pointwise [Adamw.total]))
  · rw [outsAt0_B m c t (by omega) (by omega)]
    frame_out
    exact block _ _ _ _ _ _ _ _ _ _ _ r k _ ((g1 h).trans (by pointwise [Adamw.total]))

/-- The place in the arrays of an entry of a point's block. -/
theorem place_eq (t : Fin cfg0.N) (n : Fin 3 → ℕ) (hn : n = ![t.val / 4, t.val % 4, 0]) (y : S1x256x224.Idx) (i : S2x1024x224.Idx)
    (hi : ∀ a, (i a).val = n a * S1x256x224.size a + 1 * (y a).val) : ix3 (layer t) (at' t (y 1)) (y 2) = i := by
  subst hn
  have y0 : (y 0).val < 1 := (y 0).isLt
  have h0 : (i 0).val = t.val / 4 * 1 + 1 * (y 0).val := hi 0
  have h1 : (i 1).val = t.val % 4 * 256 + 1 * (y 1).val := hi 1
  have h2 : (i 2).val = 0 * 224 + 1 * (y 2).val := hi 2
  exact (Adamw.index i _ _ _ (show _ = t.val / 4 by omega) (show _ = t.val % 4 * 256 + (y 1).val by omega) (by omega)).symm

theorem final : (dats m 0 c).arrAt 5 cfg0.N = refG m c ∧ (dats m 0 c).arrAt 6 cfg0.N = refD m c ∧ (dats m 0 c).arrAt 7 cfg0.N = refM m c
    ∧ (dats m 0 c).arrAt 8 cfg0.N = refV m c := by
  have hy (y : S1x256x224.Idx) : y = ix3 0 (y 1) (y 2) := Adamw.index _ _ _ _ (by have : (y 0).val < 1 := (y 0).isLt; show (y 0).val = 0; omega) rfl rfl
  refine ⟨(dats m 0 c).arrAt_eq_of_covers 5 _ (by decide +kernel) fun t hf y => ?_, (dats m 0 c).arrAt_eq_of_covers 6 _ (by decide +kernel) fun t hf y => ?_,
    (dats m 0 c).arrAt_eq_of_covers 7 _ (by decide +kernel) fun t hf y => ?_, (dats m 0 c).arrAt_eq_of_covers 8 _ (by decide +kernel) fun t hf y => ?_⟩
  all_goals
    obtain ⟨-, -, -, e5, e6, e7, e8⟩ := places t
    obtain ⟨w5, w6, w7, w8⟩ := writes m c t (y 1) (y 2)
    blk_simp
  · rw [after0_5]
    exact (congrArg _ (hy y)).trans (w5.trans (congrArg (refG m c) (place_eq t _ e5 y _ fun _ => rfl)))
  · rw [after0_6]
    exact (congrArg _ (hy y)).trans (w6.trans (congrArg (refD m c) (place_eq t _ e6 y _ fun _ => rfl)))
  · rw [after0_7]
    exact (congrArg _ (hy y)).trans (w7.trans (congrArg (refM m c) (place_eq t _ e7 y _ fun _ => rfl)))
  · rw [after0_8]
    exact (congrArg _ (hy y)).trans (w8.trans (congrArg (refV m c) (place_eq t _ e8 y _ fun _ => rfl)))

end Cert.AdamwCdInIdeal.Blocks

namespace Cert.Proof.AdamwCdIn

open Idealize.ShloMosaic Idealize.SL.Sem Cert.AdamwCdInReferenceIdeal.Read Cert.AdamwCdInIdeal.Blocks

theorem frame_kernel : Cert.quiescent_AdamwCdIn := fun m ρ _ => Cert.AdamwCdIn.Gen.frame m ρ

theorem frame_kernelIdeal : Cert.quiescent_AdamwCdInIdeal := fun m ρ _ => Cert.AdamwCdInIdeal.Gen.frame m ρ

theorem frame_reference : Cert.quiescent_AdamwCdInReferenceIdeal := fun m ρ _ =>
  (θ_run Cert.AdamwCdInReferenceIdeal.defs _ _).mono (fun r h => ⟨fun c => (h c).2.2.2.2, sem_eq_zero_of_no_sems (by decide) r.2⟩)
    (Cert.AdamwCdInReferenceIdeal.Value.run (F := Ideal) m ρ)

theorem values : Cert.algebraic_AdamwCdInIdeal_AdamwCdInReferenceIdeal := fun m g m' g' _ hargs =>
  ⟨fun c => refG m c, fun c => refD m c, fun c => refM m c, fun c => refV m c,
    (θ_run Cert.AdamwCdInIdeal.defs _ _).mono (fun r h c =>
        have ⟨hg, hd, hm, hv, hk⟩ := h c
        have ⟨fg, fd, fm, fv⟩ := final m c
        ⟨hg.trans fg, hd.trans fd, hm.trans fm, hv.trans fv, hk⟩)
      (Cert.AdamwCdInIdeal.Value.run_blocks (F := Ideal) m g),
    (θ_run Cert.AdamwCdInReferenceIdeal.defs _ _).mono (fun r h c => by
        obtain ⟨e0, e1, e2, e3, e4⟩ := hargs c
        obtain ⟨hg, hd, hm, hv, hk⟩ := h c
        refine ⟨hg.trans ?_, hd.trans ?_, hm.trans ?_, hv.trans ?_, hk⟩
        · rw [val_main_v6_eq, e0, e1]
        · rw [val_main_v30_eq, e0, e1, e2, e3, e4]
        · rw [val_main_v11_eq, e0, e1, e3]
        · rw [val_main_v17_eq, e0, e1, e4])
      (Cert.AdamwCdInReferenceIdeal.Value.run (F := Ideal) m' g')⟩

end Cert.Proof.AdamwCdIn

end
-- ==== Proof.AdamwFfnUpValue.lean ====
/- The optimiser's step on a weight of four layers of 1024 rows of 704: each grid point sums its block of one layer's parts of the gradient and
   writes that block of the gradient, the weight's change and the two new moments; the reference's four results. -/
module

public import proofs.«01_k».proof.Defs
public import proofs.«01_k».proof.Proof.Adamw
public import proofs.«01_k».proof.Proof.Gen.AdamwFfnUp.Frame
public import proofs.«01_k».proof.Proof.Gen.AdamwFfnUpIdeal.Value
public import proofs.«01_k».proof.Proof.Gen.AdamwFfnUpReferenceIdeal.Run
public import proofs.«01_k».proof.Proof.Gen.AdamwFfnUpReferenceIdeal.Read
public import Idealize.ShloMosaic.Lib.Pipeline.ValueKit

@[expose] public section

noncomputable section

namespace Cert.AdamwFfnUpReferenceIdeal.Entries

open Cert.AdamwFfnUpReferenceIdeal Cert.AdamwFfnUpReferenceIdeal.Read Idealize.ShloMosaic

variable (p0 p1 p2 p3 : S8x1024x704.Idx → EReal) (w m v : S4x1024x704.Idx → EReal)

theorem grad_0 (r : Fin 1024) (k : Fin 704) : val_main_v12 (F := Ideal) p0 p1 p2 p3 (ix3 0 r k) = Adamw.total fun s => p0 (ix3 s r k) := by
  rw [← val_main_v12_eq, ← Adamw.sum_parts]
  pointwise

theorem grad_1 (r : Fin 1024) (k : Fin 704) : val_main_v12 (F := Ideal) p0 p1 p2 p3 (ix3 1 r k) = Adamw.total fun s => p1 (ix3 s r k) := by
  rw [← val_main_v12_eq, ← Adamw.sum_parts]
  pointwise

theorem grad_2 (r : Fin 1024) (k : Fin 704) : val_main_v12 (F := Ideal) p0 p1 p2 p3 (ix3 2 r k) = Adamw.total fun s => p2 (ix3 s r k) := by
  rw [← val_main_v12_eq, ← Adamw.sum_parts]
  pointwise

theorem grad_3 (r : Fin 1024) (k : Fin 704) : val_main_v12 (F := Ideal) p0 p1 p2 p3 (ix3 3 r k) = Adamw.total fun s => p3 (ix3 s r k) := by
  rw [← val_main_v12_eq, ← Adamw.sum_parts]
  pointwise

theorem mean_eq (i : S4x1024x704.Idx) : val_main_v17 (F := Ideal) p0 p1 p2 p3 m i = Adamw.mean (m i) (val_main_v12 (F := Ideal) p0 p1 p2 p3 i) := rfl

theorem square_eq (i : S4x1024x704.Idx) : val_main_v23 (F := Ideal) p0 p1 p2 p3 v i = Adamw.square (v i) (val_main_v12 (F := Ideal) p0 p1 p2 p3 i) := rfl

theorem step_eq (i : S4x1024x704.Idx) : val_main_v36 (F := Ideal) p0 p1 p2 p3 w m v i
    = Adamw.step (w i) (val_main_v17 (F := Ideal) p0 p1 p2 p3 m i) (val_main_v23 (F := Ideal) p0 p1 p2 p3 v i) := rfl

end Cert.AdamwFfnUpReferenceIdeal.Entries

namespace Cert.AdamwFfnUpIdeal.Blocks

open Cert.AdamwFfnUpIdeal Cert.AdamwFfnUpIdeal.Gen Idealize.ShloMosaic Idealize.ShloMosaic.TcCoe Idealize.SL.Sem
open Cert.AdamwFfnUpReferenceIdeal.Read (val_main_v12 val_main_v36 val_main_v17 val_main_v23)
open Cert.AdamwFfnUpReferenceIdeal.Entries

/-- The reciprocals of the corrections, which the kernel names. -/
theorem named_first : Named.named (F := Ideal) κ "c1" (φ := .f32) 0x3FC48605#32 = (((5463681 / 8388608 : ℝ)⁻¹ : ℝ) : EReal) :=
  IdealRules.named_const.ideal_named_scalar _ _ _ _ rfl
theorem named_second : Named.named (F := Ideal) κ "c2" (φ := .f32) 0x42C8E6D3#32 = (((2672307 / 268435456 : ℝ)⁻¹ : ℝ) : EReal) :=
  IdealRules.named_const.ideal_named_scalar _ _ _ _ rfl

set_option maxHeartbeats 1000000 in
/-- One block's step, entry by entry: the sum of the eight parts, and from it the change of the weight and the new moments. -/
theorem block (x0 x1 x2 x3 x4 x5 x6 x7 : Vec Ideal S1x256x704 .bf16) (w m v : Vec Ideal S1x256x704 .f32) (r : Fin 256) (k : Fin 704) (g : EReal)
    (hg : g = x0 (ix3 0 r k) + x1 (ix3 0 r k) + x2 (ix3 0 r k) + x3 (ix3 0 r k) + x4 (ix3 0 r k) + x5 (ix3 0 r k) + x6 (ix3 0 r k) + x7 (ix3 0 r k)) :
    k0_pay21 (F := Ideal) (k0_pay9 (F := Ideal) x3) (k0_pay10 (F := Ideal) x4) (k0_pay11 (F := Ideal) x5) (k0_pay12 (F := Ideal) x6) (k0_pay13 (F := Ideal) x7) (k0_pay17 (F := Ideal) x0 x1 x2) (ix3 0 r k) = g
    ∧ k0_pay22 (F := Ideal) (k0_pay9 (F := Ideal) x3) (k0_pay10 (F := Ideal) x4) (k0_pay11 (F := Ideal) x5) (k0_pay12 (F := Ideal) x6) (k0_pay13 (F := Ideal) x7) (k0_pay14 (F := Ideal) w) (k0_pay15 (F := Ideal) m) (k0_pay16 (F := Ideal) v) (k0_pay17 (F := Ideal) x0 x1 x2) (ix3 0 r k)
      = Adamw.step (w (ix3 0 r k)) (Adamw.mean (m (ix3 0 r k)) g) (Adamw.square (v (ix3 0 r k)) g)
    ∧ k0_pay1 (F := Ideal) (k0_pay19 (F := Ideal) (k0_pay9 (F := Ideal) x3) (k0_pay10 (F := Ideal) x4) (k0_pay11 (F := Ideal) x5) (k0_pay12 (F := Ideal) x6) (k0_pay13 (F := Ideal) x7) (k0_pay15 (F := Ideal) m) (k0_pay17 (F := Ideal) x0 x1 x2)) (ix3 0 r k) = Adamw.mean (m (ix3 0 r k)) g
    ∧ k0_pay2 (F := Ideal) (k0_pay20 (F := Ideal) (k0_pay9 (F := Ideal) x3) (k0_pay10 (F := Ideal) x4) (k0_pay11 (F := Ideal) x5) (k0_pay12 (F := Ideal) x6) (k0_pay13 (F := Ideal) x7) (k0_pay16 (F := Ideal) v) (k0_pay17 (F := Ideal) x0 x1 x2)) (ix3 0 r k) = Adamw.square (v (ix3 0 r k)) g := by
  subst hg
  refine ⟨?_, ?_, ?_, ?_⟩
  · pointwise [k0_pay21, k0_pay18, k0_pay9, k0_pay10, k0_pay11, k0_pay12, k0_pay13, k0_pay17]
  · pointwise [k0_pay22, k0_pay19, k0_pay20, k0_pay18, k0_pay9, k0_pay10, k0_pay11, k0_pay12, k0_pay13, k0_pay14, k0_pay15, k0_pay16, k0_pay17]
    rw [named_first, named_second, Adamw.mul_first, Adamw.mul_second]
    rfl
  · pointwise [k0_pay1, k0_pay19, k0_pay18, k0_pay9, k0_pay10, k0_pay11, k0_pay12, k0_pay13, k0_pay15, k0_pay17]
    rfl
  · pointwise [k0_pay2, k0_pay20, k0_pay18, k0_pay9, k0_pay10, k0_pay11, k0_pay12, k0_pay13, k0_pay16, k0_pay17]
    rfl

variable (m : (ℓ : Loc nD τ sig) → Buf (Elt Ideal) ℓ) (ρ : Dev nD → PrngReg) (c : Dev nD)

/-- The arguments: each layer's parts of the gradient, the weight and the two moments. -/
abbrev arg0 : S8x1024x704.Idx → EReal := m ((c.tc : Thread nD τ).loc main_arg0)
abbrev arg1 : S8x1024x704.Idx → EReal := m ((c.tc : Thread nD τ).loc main_arg1)
abbrev arg2 : S8x1024x704.Idx → EReal := m ((c.tc : Thread nD τ).loc main_arg2)
abbrev arg3 : S8x1024x704.Idx → EReal := m ((c.tc : Thread nD τ).loc main_arg3)
abbrev argW : S4x1024x704.Idx → EReal := m ((c.tc : Thread nD τ).loc main_arg4)
abbrev argM : S4x1024x704.Idx → EReal := m ((c.tc : Thread nD τ).loc main_arg5)
abbrev argV : S4x1024x704.Idx → EReal := m ((c.tc : Thread nD τ).loc main_arg6)

/-- The reference's four results. -/
abbrev refG : S4x1024x704.Idx → EReal := val_main_v12 (F := Ideal) (arg0 m c) (arg1 m c) (arg2 m c) (arg3 m c)
abbrev refD : S4x1024x704.Idx → EReal := val_main_v36 (F := Ideal) (arg0 m c) (arg1 m c) (arg2 m c) (arg3 m c) (argW m c) (argM m c) (argV m c)
abbrev refM : S4x1024x704.Idx → EReal := val_main_v17 (F := Ideal) (arg0 m c) (arg1 m c) (arg2 m c) (arg3 m c) (argM m c)
abbrev refV : S4x1024x704.Idx → EReal := val_main_v23 (F := Ideal) (arg0 m c) (arg1 m c) (arg2 m c) (arg3 m c) (argV m c)

/-- The blocks of a point. -/
abbrev blk0 (t : Fin cfg0.N) : Vec Ideal S8x256x704 .bf16 := iblk m c 0 t
abbrev blk1 (t : Fin cfg0.N) : Vec Ideal S8x256x704 .bf16 := iblk m c 1 t
abbrev blk2 (t : Fin cfg0.N) : Vec Ideal S8x256x704 .bf16 := iblk m c 2 t
abbrev blk3 (t : Fin cfg0.N) : Vec Ideal S8x256x704 .bf16 := iblk m c 3 t
abbrev blkW (t : Fin cfg0.N) : Vec Ideal S1x256x704 .f32 := iblk m c 4 t
abbrev blkM (t : Fin cfg0.N) : Vec Ideal S1x256x704 .f32 := iblk m c 5 t
abbrev blkV (t : Fin cfg0.N) : Vec Ideal S1x256x704 .f32 := iblk m c 6 t

/-- Which blocks a grid point reads and writes: in its layer, its block of rows. -/
theorem parts_places : ∀ t : Fin cfg0.N, (t.val / 4 = 0 → win0_0.index t = ![0, t.val % 4, 0])
    ∧ (t.val / 4 = 1 → win0_1.index t = ![0, t.val % 4, 0])
    ∧ (t.val / 4 = 2 → win0_2.index t = ![0, t.val % 4, 0])
    ∧ (t.val / 4 = 3 → win0_3.index t = ![0, t.val % 4, 0]) := (by decide +kernel : ∀ t : Fin grid0.N, _)
theorem places : ∀ t : Fin cfg0.N, win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0]
    ∧ win0_9.index t = ![t.val / 4, t.val % 4, 0]
    ∧ win0_10.index t = ![t.val / 4, t.val % 4, 0] := (by decide +kernel : ∀ t : Fin grid0.N, _)

/-- The layer of a point, and the row of the arrays that a row of its block is. -/
def layer (t : Fin cfg0.N) : Fin 4 := ⟨t.val / 4, Nat.div_lt_of_lt_mul (show t.val < 4 * 4 from t.isLt)⟩
def at' (t : Fin cfg0.N) (r : Fin 256) : Fin 1024 := ⟨t.val % 4 * 256 + r.val, by have := r.isLt; omega⟩

theorem read_parts (t : Fin cfg0.N) (s : Fin 8) (r : Fin 256) (k : Fin 704) : (t.val / 4 = 0 → blk0 m c t (ix3 s r k) = arg0 m c (ix3 s (at' t r) k))
    ∧ (t.val / 4 = 1 → blk1 m c t (ix3 s r k) = arg1 m c (ix3 s (at' t r) k))
    ∧ (t.val / 4 = 2 → blk2 m c t (ix3 s r k) = arg2 m c (ix3 s (at' t r) k))
    ∧ (t.val / 4 = 3 → blk3 m c t (ix3 s r k) = arg3 m c (ix3 s (at' t r) k)) := by
  obtain ⟨e0, e1, e2, e3⟩ := parts_places t
  refine ⟨fun h => ?_, fun h => ?_, fun h => ?_, fun h => ?_⟩
  all_goals
    first | have e := e0 h | have e := e1 h | have e := e2 h | have e := e3 h
    blk_simp [iblk]
    first | rw [V_main_arg0] | rw [V_main_arg1] | rw [V_main_arg2] | rw [V_main_arg3]
    refine congrArg _ (Adamw.index _ _ _ _ ?_ ?_ ?_)
    all_goals blk_simp [e]
    rfl

theorem read_state (t : Fin cfg0.N) (r : Fin 256) (k : Fin 704) : blkW m c t (ix3 0 r k) = argW m c (ix3 (layer t) (at' t r) k)
    ∧ blkM m c t (ix3 0 r k) = argM m c (ix3 (layer t) (at' t r) k) ∧ blkV m c t (ix3 0 r k) = argV m c (ix3 (layer t) (at' t r) k) := by
  obtain ⟨e4, e5, e6, -⟩ := places t
  refine ⟨?_, ?_, ?_⟩
  all_goals
    blk_simp [iblk]
    first | rw [V_main_arg4] | rw [V_main_arg5] | rw [V_main_arg6]
    refine congrArg _ (Adamw.index _ _ _ _ ?_ ?_ ?_)
    all_goals blk_simp [e4, e5, e6]
    all_goals rfl

/-- The reference's gradient in a point's block. -/
theorem ref_parts (t : Fin cfg0.N) (r : Fin 256) (k : Fin 704) :
    (t.val / 4 = 0 → refG m c (ix3 (layer t) (at' t r) k) = Adamw.total fun s => blk0 m c t (ix3 s r k))
    ∧ (t.val / 4 = 1 → refG m c (ix3 (layer t) (at' t r) k) = Adamw.total fun s => blk1 m c t (ix3 s r k))
    ∧ (t.val / 4 = 2 → refG m c (ix3 (layer t) (at' t r) k) = Adamw.total fun s => blk2 m c t (ix3 s r k))
    ∧ (t.val / 4 = 3 → refG m c (ix3 (layer t) (at' t r) k) = Adamw.total fun s => blk3 m c t (ix3 s r k)) := by
  have e := fun s => read_parts m c t s r k
  refine ⟨fun h => ?_, fun h => ?_, fun h => ?_, fun h => ?_⟩
  · simp only [fun s => (e s).1 h, show layer t = 0 from Fin.ext h]
    exact grad_0 _ _ _ _ (at' t r) k
  · simp only [fun s => (e s).2.1 h, show layer t = 1 from Fin.ext h]
    exact grad_1 _ _ _ _ (at' t r) k
  · simp only [fun s => (e s).2.2.1 h, show layer t = 2 from Fin.ext h]
    exact grad_2 _ _ _ _ (at' t r) k
  · simp only [fun s => (e s).2.2.2 h, show layer t = 3 from Fin.ext h]
    exact grad_3 _ _ _ _ (at' t r) k

/-- What a point writes is its block of the reference's results. -/
theorem writes (t : Fin cfg0.N) (r : Fin 256) (k : Fin 704) :
    (outsAt0 m c t.val t.isLt).1 (ix3 0 r k) = refG m c (ix3 (layer t) (at' t r) k)
    ∧ (outsAt0 m c t.val t.isLt).2.1 (ix3 0 r k) = refD m c (ix3 (layer t) (at' t r) k)
    ∧ (outsAt0 m c t.val t.isLt).2.2.1 (ix3 0 r k) = refM m c (ix3 (layer t) (at' t r) k)
    ∧ (outsAt0 m c t.val t.isLt).2.2.2 (ix3 0 r k) = refV m c (ix3 (layer t) (at' t r) k) := by
  have ht : t.val < 16 := t.isLt
  unfold refD refM refV
  rw [step_eq, mean_eq, square_eq, ← (read_state m c t r k).1, ← (read_state m c t r k).2.1, ← (read_state m c t r k).2.2]
  have hl : t.val / 4 = 0 ∨ t.val / 4 = 1 ∨ t.val / 4 = 2 ∨ t.val / 4 = 3 := by omega
  obtain ⟨g0, g1, g2, g3⟩ := ref_parts m c t r k
  rcases hl with h | h | h | h
  · rw [outsAt0_A m c t (by omega) (by omega) (by omega) (by omega)]
    frame_out
    exact block _ _ _ _ _ _ _ _ _ _ _ r k _ ((g0 h).trans (by pointwise [Adamw.total]))
  · rw [outsAt0_B m c t (by omega) (by omega) (by omega) (by omega)]
    frame_out
    exact block _ _ _ _ _ _ _ _ _ _ _ r k _ ((g1 h).trans (by pointwise [Adamw.total]))
  · rw [outsAt0_C m c t (by omega) (by omega) (by omega) (by omega)]
    frame_out
    exact block _ _ _ _ _ _ _ _ _ _ _ r k _ ((g2 h).trans (by pointwise [Adamw.total]))
  · rw [outsAt0_D m c t (by omega) (by omega) (by omega) (by omega)]
    frame_out
    exact block _ _ _ _ _ _ _ _ _ _ _ r k _ ((g3 h).trans (by pointwise [Adamw.total]))

/-- The place in the arrays of an entry of a point's block. -/
theorem place_eq (t : Fin cfg0.N) (n : Fin 3 → ℕ) (hn : n = ![t.val / 4, t.val % 4, 0]) (y : S1x256x704.Idx) (i : S4x1024x704.Idx)
    (hi : ∀ a, (i a).val = n a * S1x256x704.size a + 1 * (y a).val) : ix3 (layer t) (at' t (y 1)) (y 2) = i := by
  subst hn
  have y0 : (y 0).val < 1 := (y 0).isLt
  have h0 : (i 0).val = t.val / 4 * 1 + 1 * (y 0).val := hi 0
  have h1 : (i 1).val = t.val % 4 * 256 + 1 * (y 1).val := hi 1
  have h2 : (i 2).val = 0 * 704 + 1 * (y 2).val := hi 2
  exact (Adamw.index i _ _ _ (show _ = t.val / 4 by omega) (show _ = t.val % 4 * 256 + (y 1).val by omega) (by omega)).symm

theorem final : (dats m 0 c).arrAt 7 cfg0.N = refG m c ∧ (dats m 0 c).arrAt 8 cfg0.N = refD m c ∧ (dats m 0 c).arrAt 9 cfg0.N = refM m c
    ∧ (dats m 0 c).arrAt 10 cfg0.N = refV m c := by
  have hy (y : S1x256x704.Idx) : y = ix3 0 (y 1) (y 2) := Adamw.index _ _ _ _ (by have : (y 0).val < 1 := (y 0).isLt; show (y 0).val = 0; omega) rfl rfl
  refine ⟨(dats m 0 c).arrAt_eq_of_covers 7 _ (by decide +kernel) fun t hf y => ?_, (dats m 0 c).arrAt_eq_of_covers 8 _ (by decide +kernel) fun t hf y => ?_,
    (dats m 0 c).arrAt_eq_of_covers 9 _ (by decide +kernel) fun t hf y => ?_, (dats m 0 c).arrAt_eq_of_covers 10 _ (by decide +kernel) fun t hf y => ?_⟩
  all_goals
    obtain ⟨-, -, -, e7, e8, e9, e10⟩ := places t
    obtain ⟨w7, w8, w9, w10⟩ := writes m c t (y 1) (y 2)
    blk_simp
  · rw [after0_7]
    exact (congrArg _ (hy y)).trans (w7.trans (congrArg (refG m c) (place_eq t _ e7 y _ fun _ => rfl)))
  · rw [after0_8]
    exact (congrArg _ (hy y)).trans (w8.trans (congrArg (refD m c) (place_eq t _ e8 y _ fun _ => rfl)))
  · rw [after0_9]
    exact (congrArg _ (hy y)).trans (w9.trans (congrArg (refM m c) (place_eq t _ e9 y _ fun _ => rfl)))
  · rw [after0_10]
    exact (congrArg _ (hy y)).trans (w10.trans (congrArg (refV m c) (place_eq t _ e10 y _ fun _ => rfl)))

end Cert.AdamwFfnUpIdeal.Blocks

namespace Cert.Proof.AdamwFfnUp

open Idealize.ShloMosaic Idealize.SL.Sem Cert.AdamwFfnUpReferenceIdeal.Read Cert.AdamwFfnUpIdeal.Blocks

theorem frame_kernel : Cert.quiescent_AdamwFfnUp := fun m ρ _ => Cert.AdamwFfnUp.Gen.frame m ρ

theorem frame_kernelIdeal : Cert.quiescent_AdamwFfnUpIdeal := fun m ρ _ => Cert.AdamwFfnUpIdeal.Gen.frame m ρ

theorem frame_reference : Cert.quiescent_AdamwFfnUpReferenceIdeal := fun m ρ _ =>
  (θ_run Cert.AdamwFfnUpReferenceIdeal.defs _ _).mono (fun r h => ⟨fun c => (h c).2.2.2.2, sem_eq_zero_of_no_sems (by decide) r.2⟩)
    (Cert.AdamwFfnUpReferenceIdeal.Value.run (F := Ideal) m ρ)

theorem values : Cert.algebraic_AdamwFfnUpIdeal_AdamwFfnUpReferenceIdeal := fun m g m' g' _ hargs =>
  ⟨fun c => refG m c, fun c => refD m c, fun c => refM m c, fun c => refV m c,
    (θ_run Cert.AdamwFfnUpIdeal.defs _ _).mono (fun r h c =>
        have ⟨hg, hd, hm, hv, hk⟩ := h c
        have ⟨fg, fd, fm, fv⟩ := final m c
        ⟨hg.trans fg, hd.trans fd, hm.trans fm, hv.trans fv, hk⟩)
      (Cert.AdamwFfnUpIdeal.Value.run_blocks (F := Ideal) m g),
    (θ_run Cert.AdamwFfnUpReferenceIdeal.defs _ _).mono (fun r h c => by
        obtain ⟨e0, e1, e2, e3, e4, e5, e6⟩ := hargs c
        obtain ⟨hg, hd, hm, hv, hk⟩ := h c
        refine ⟨hg.trans ?_, hd.trans ?_, hm.trans ?_, hv.trans ?_, hk⟩
        · rw [val_main_v12_eq, e0, e1, e2, e3]
        · rw [val_main_v36_eq, e0, e1, e2, e3, e4, e5, e6]
        · rw [val_main_v17_eq, e0, e1, e2, e3, e5]
        · rw [val_main_v23_eq, e0, e1, e2, e3, e6])
      (Cert.AdamwFfnUpReferenceIdeal.Value.run (F := Ideal) m' g')⟩

end Cert.Proof.AdamwFfnUp

end
-- ==== Proof.AdamwFfnDownValue.lean ====
/- The optimiser's step on a weight of four layers of 352 rows of 1024: each grid point sums its block of one layer's parts of the gradient and
   writes that block of the gradient, the weight's change and the two new moments; the reference's four results. -/
module

public import proofs.«01_k».proof.Defs
public import proofs.«01_k».proof.Proof.Adamw
public import proofs.«01_k».proof.Proof.Gen.AdamwFfnDown.Frame
public import proofs.«01_k».proof.Proof.Gen.AdamwFfnDownIdeal.Value
public import proofs.«01_k».proof.Proof.Gen.AdamwFfnDownReferenceIdeal.Run
public import proofs.«01_k».proof.Proof.Gen.AdamwFfnDownReferenceIdeal.Read
public import Idealize.ShloMosaic.Lib.Pipeline.ValueKit

@[expose] public section

noncomputable section

namespace Cert.AdamwFfnDownReferenceIdeal.Entries

open Cert.AdamwFfnDownReferenceIdeal Cert.AdamwFfnDownReferenceIdeal.Read Idealize.ShloMosaic

variable (p0 p1 p2 p3 : S8x352x1024.Idx → EReal) (w m v : S4x352x1024.Idx → EReal)

theorem grad_0 (r : Fin 352) (k : Fin 1024) : val_main_v12 (F := Ideal) p0 p1 p2 p3 (ix3 0 r k) = Adamw.total fun s => p0 (ix3 s r k) := by
  rw [← val_main_v12_eq, ← Adamw.sum_parts]
  pointwise

theorem grad_1 (r : Fin 352) (k : Fin 1024) : val_main_v12 (F := Ideal) p0 p1 p2 p3 (ix3 1 r k) = Adamw.total fun s => p1 (ix3 s r k) := by
  rw [← val_main_v12_eq, ← Adamw.sum_parts]
  pointwise

theorem grad_2 (r : Fin 352) (k : Fin 1024) : val_main_v12 (F := Ideal) p0 p1 p2 p3 (ix3 2 r k) = Adamw.total fun s => p2 (ix3 s r k) := by
  rw [← val_main_v12_eq, ← Adamw.sum_parts]
  pointwise

theorem grad_3 (r : Fin 352) (k : Fin 1024) : val_main_v12 (F := Ideal) p0 p1 p2 p3 (ix3 3 r k) = Adamw.total fun s => p3 (ix3 s r k) := by
  rw [← val_main_v12_eq, ← Adamw.sum_parts]
  pointwise

theorem mean_eq (i : S4x352x1024.Idx) : val_main_v17 (F := Ideal) p0 p1 p2 p3 m i = Adamw.mean (m i) (val_main_v12 (F := Ideal) p0 p1 p2 p3 i) := rfl

theorem square_eq (i : S4x352x1024.Idx) : val_main_v23 (F := Ideal) p0 p1 p2 p3 v i = Adamw.square (v i) (val_main_v12 (F := Ideal) p0 p1 p2 p3 i) := rfl

theorem step_eq (i : S4x352x1024.Idx) : val_main_v36 (F := Ideal) p0 p1 p2 p3 w m v i
    = Adamw.step (w i) (val_main_v17 (F := Ideal) p0 p1 p2 p3 m i) (val_main_v23 (F := Ideal) p0 p1 p2 p3 v i) := rfl

end Cert.AdamwFfnDownReferenceIdeal.Entries

namespace Cert.AdamwFfnDownIdeal.Blocks

open Cert.AdamwFfnDownIdeal Cert.AdamwFfnDownIdeal.Gen Idealize.ShloMosaic Idealize.ShloMosaic.TcCoe Idealize.SL.Sem
open Cert.AdamwFfnDownReferenceIdeal.Read (val_main_v12 val_main_v36 val_main_v17 val_main_v23)
open Cert.AdamwFfnDownReferenceIdeal.Entries

/-- The reciprocals of the corrections, which the kernel names. -/
theorem named_first : Named.named (F := Ideal) κ "c1" (φ := .f32) 0x3FC48605#32 = (((5463681 / 8388608 : ℝ)⁻¹ : ℝ) : EReal) :=
  IdealRules.named_const.ideal_named_scalar _ _ _ _ rfl
theorem named_second : Named.named (F := Ideal) κ "c2" (φ := .f32) 0x42C8E6D3#32 = (((2672307 / 268435456 : ℝ)⁻¹ : ℝ) : EReal) :=
  IdealRules.named_const.ideal_named_scalar _ _ _ _ rfl

set_option maxHeartbeats 1000000 in
/-- One block's step, entry by entry: the sum of the eight parts, and from it the change of the weight and the new moments. -/
theorem block (x0 x1 x2 x3 x4 x5 x6 x7 : Vec Ideal S1x176x1024 .bf16) (w m v : Vec Ideal S1x176x1024 .f32) (r : Fin 176) (k : Fin 1024) (g : EReal)
    (hg : g = x0 (ix3 0 r k) + x1 (ix3 0 r k) + x2 (ix3 0 r k) + x3 (ix3 0 r k) + x4 (ix3 0 r k) + x5 (ix3 0 r k) + x6 (ix3 0 r k) + x7 (ix3 0 r k)) :
    k0_pay21 (F := Ideal) (k0_pay9 (F := Ideal) x3) (k0_pay10 (F := Ideal) x4) (k0_pay11 (F := Ideal) x5) (k0_pay12 (F := Ideal) x6) (k0_pay13 (F := Ideal) x7) (k0_pay17 (F := Ideal) x0 x1 x2) (ix3 0 r k) = g
    ∧ k0_pay22 (F := Ideal) (k0_pay9 (F := Ideal) x3) (k0_pay10 (F := Ideal) x4) (k0_pay11 (F := Ideal) x5) (k0_pay12 (F := Ideal) x6) (k0_pay13 (F := Ideal) x7) (k0_pay14 (F := Ideal) w) (k0_pay15 (F := Ideal) m) (k0_pay16 (F := Ideal) v) (k0_pay17 (F := Ideal) x0 x1 x2) (ix3 0 r k)
      = Adamw.step (w (ix3 0 r k)) (Adamw.mean (m (ix3 0 r k)) g) (Adamw.square (v (ix3 0 r k)) g)
    ∧ k0_pay1 (F := Ideal) (k0_pay19 (F := Ideal) (k0_pay9 (F := Ideal) x3) (k0_pay10 (F := Ideal) x4) (k0_pay11 (F := Ideal) x5) (k0_pay12 (F := Ideal) x6) (k0_pay13 (F := Ideal) x7) (k0_pay15 (F := Ideal) m) (k0_pay17 (F := Ideal) x0 x1 x2)) (ix3 0 r k) = Adamw.mean (m (ix3 0 r k)) g
    ∧ k0_pay2 (F := Ideal) (k0_pay20 (F := Ideal) (k0_pay9 (F := Ideal) x3) (k0_pay10 (F := Ideal) x4) (k0_pay11 (F := Ideal) x5) (k0_pay12 (F := Ideal) x6) (k0_pay13 (F := Ideal) x7) (k0_pay16 (F := Ideal) v) (k0_pay17 (F := Ideal) x0 x1 x2)) (ix3 0 r k) = Adamw.square (v (ix3 0 r k)) g := by
  subst hg
  refine ⟨?_, ?_, ?_, ?_⟩
  · pointwise [k0_pay21, k0_pay18, k0_pay9, k0_pay10, k0_pay11, k0_pay12, k0_pay13, k0_pay17]
  · pointwise [k0_pay22, k0_pay19, k0_pay20, k0_pay18, k0_pay9, k0_pay10, k0_pay11, k0_pay12, k0_pay13, k0_pay14, k0_pay15, k0_pay16, k0_pay17]
    rw [named_first, named_second, Adamw.mul_first, Adamw.mul_second]
    rfl
  · pointwise [k0_pay1, k0_pay19, k0_pay18, k0_pay9, k0_pay10, k0_pay11, k0_pay12, k0_pay13, k0_pay15, k0_pay17]
    rfl
  · pointwise [k0_pay2, k0_pay20, k0_pay18, k0_pay9, k0_pay10, k0_pay11, k0_pay12, k0_pay13, k0_pay16, k0_pay17]
    rfl

variable (m : (ℓ : Loc nD τ sig) → Buf (Elt Ideal) ℓ) (ρ : Dev nD → PrngReg) (c : Dev nD)

/-- The arguments: each layer's parts of the gradient, the weight and the two moments. -/
abbrev arg0 : S8x352x1024.Idx → EReal := m ((c.tc : Thread nD τ).loc main_arg0)
abbrev arg1 : S8x352x1024.Idx → EReal := m ((c.tc : Thread nD τ).loc main_arg1)
abbrev arg2 : S8x352x1024.Idx → EReal := m ((c.tc : Thread nD τ).loc main_arg2)
abbrev arg3 : S8x352x1024.Idx → EReal := m ((c.tc : Thread nD τ).loc main_arg3)
abbrev argW : S4x352x1024.Idx → EReal := m ((c.tc : Thread nD τ).loc main_arg4)
abbrev argM : S4x352x1024.Idx → EReal := m ((c.tc : Thread nD τ).loc main_arg5)
abbrev argV : S4x352x1024.Idx → EReal := m ((c.tc : Thread nD τ).loc main_arg6)

/-- The reference's four results. -/
abbrev refG : S4x352x1024.Idx → EReal := val_main_v12 (F := Ideal) (arg0 m c) (arg1 m c) (arg2 m c) (arg3 m c)
abbrev refD : S4x352x1024.Idx → EReal := val_main_v36 (F := Ideal) (arg0 m c) (arg1 m c) (arg2 m c) (arg3 m c) (argW m c) (argM m c) (argV m c)
abbrev refM : S4x352x1024.Idx → EReal := val_main_v17 (F := Ideal) (arg0 m c) (arg1 m c) (arg2 m c) (arg3 m c) (argM m c)
abbrev refV : S4x352x1024.Idx → EReal := val_main_v23 (F := Ideal) (arg0 m c) (arg1 m c) (arg2 m c) (arg3 m c) (argV m c)

/-- The blocks of a point. -/
abbrev blk0 (t : Fin cfg0.N) : Vec Ideal S8x176x1024 .bf16 := iblk m c 0 t
abbrev blk1 (t : Fin cfg0.N) : Vec Ideal S8x176x1024 .bf16 := iblk m c 1 t
abbrev blk2 (t : Fin cfg0.N) : Vec Ideal S8x176x1024 .bf16 := iblk m c 2 t
abbrev blk3 (t : Fin cfg0.N) : Vec Ideal S8x176x1024 .bf16 := iblk m c 3 t
abbrev blkW (t : Fin cfg0.N) : Vec Ideal S1x176x1024 .f32 := iblk m c 4 t
abbrev blkM (t : Fin cfg0.N) : Vec Ideal S1x176x1024 .f32 := iblk m c 5 t
abbrev blkV (t : Fin cfg0.N) : Vec Ideal S1x176x1024 .f32 := iblk m c 6 t

/-- Which blocks a grid point reads and writes: in its layer, its block of rows. -/
theorem parts_places : ∀ t : Fin cfg0.N, (t.val / 2 = 0 → win0_0.index t = ![0, t.val % 2, 0])
    ∧ (t.val / 2 = 1 → win0_1.index t = ![0, t.val % 2, 0])
    ∧ (t.val / 2 = 2 → win0_2.index t = ![0, t.val % 2, 0])
    ∧ (t.val / 2 = 3 → win0_3.index t = ![0, t.val % 2, 0]) := (by decide +kernel : ∀ t : Fin grid0.N, _)
theorem places : ∀ t : Fin cfg0.N, win0_4.index t = ![t.val / 2, t.val % 2, 0]
    ∧ win0_5.index t = ![t.val / 2, t.val % 2, 0]
    ∧ win0_6.index t = ![t.val / 2, t.val % 2, 0]
    ∧ win0_7.index t = ![t.val / 2, t.val % 2, 0]
    ∧ win0_8.index t = ![t.val / 2, t.val % 2, 0]
    ∧ win0_9.index t = ![t.val / 2, t.val % 2, 0]
    ∧ win0_10.index t = ![t.val / 2, t.val % 2, 0] := (by decide +kernel : ∀ t : Fin grid0.N, _)

/-- The layer of a point, and the row of the arrays that a row of its block is. -/
def layer (t : Fin cfg0.N) : Fin 4 := ⟨t.val / 2, Nat.div_lt_of_lt_mul (show t.val < 2 * 4 from t.isLt)⟩
def at' (t : Fin cfg0.N) (r : Fin 176) : Fin 352 := ⟨t.val % 2 * 176 + r.val, by have := r.isLt; omega⟩

theorem read_parts (t : Fin cfg0.N) (s : Fin 8) (r : Fin 176) (k : Fin 1024) : (t.val / 2 = 0 → blk0 m c t (ix3 s r k) = arg0 m c (ix3 s (at' t r) k))
    ∧ (t.val / 2 = 1 → blk1 m c t (ix3 s r k) = arg1 m c (ix3 s (at' t r) k))
    ∧ (t.val / 2 = 2 → blk2 m c t (ix3 s r k) = arg2 m c (ix3 s (at' t r) k))
    ∧ (t.val / 2 = 3 → blk3 m c t (ix3 s r k) = arg3 m c (ix3 s (at' t r) k)) := by
  obtain ⟨e0, e1, e2, e3⟩ := parts_places t
  refine ⟨fun h => ?_, fun h => ?_, fun h => ?_, fun h => ?_⟩
  all_goals
    first | have e := e0 h | have e := e1 h | have e := e2 h | have e := e3 h
    blk_simp [iblk]
    first | rw [V_main_arg0] | rw [V_main_arg1] | rw [V_main_arg2] | rw [V_main_arg3]
    refine congrArg _ (Adamw.index _ _ _ _ ?_ ?_ ?_)
    all_goals blk_simp [e]
    rfl

theorem read_state (t : Fin cfg0.N) (r : Fin 176) (k : Fin 1024) : blkW m c t (ix3 0 r k) = argW m c (ix3 (layer t) (at' t r) k)
    ∧ blkM m c t (ix3 0 r k) = argM m c (ix3 (layer t) (at' t r) k) ∧ blkV m c t (ix3 0 r k) = argV m c (ix3 (layer t) (at' t r) k) := by
  obtain ⟨e4, e5, e6, -⟩ := places t
  refine ⟨?_, ?_, ?_⟩
  all_goals
    blk_simp [iblk]
    first | rw [V_main_arg4] | rw [V_main_arg5] | rw [V_main_arg6]
    refine congrArg _ (Adamw.index _ _ _ _ ?_ ?_ ?_)
    all_goals blk_simp [e4, e5, e6]
    all_goals rfl

/-- The reference's gradient in a point's block. -/
theorem ref_parts (t : Fin cfg0.N) (r : Fin 176) (k : Fin 1024) :
    (t.val / 2 = 0 → refG m c (ix3 (layer t) (at' t r) k) = Adamw.total fun s => blk0 m c t (ix3 s r k))
    ∧ (t.val / 2 = 1 → refG m c (ix3 (layer t) (at' t r) k) = Adamw.total fun s => blk1 m c t (ix3 s r k))
    ∧ (t.val / 2 = 2 → refG m c (ix3 (layer t) (at' t r) k) = Adamw.total fun s => blk2 m c t (ix3 s r k))
    ∧ (t.val / 2 = 3 → refG m c (ix3 (layer t) (at' t r) k) = Adamw.total fun s => blk3 m c t (ix3 s r k)) := by
  have e := fun s => read_parts m c t s r k
  refine ⟨fun h => ?_, fun h => ?_, fun h => ?_, fun h => ?_⟩
  · simp only [fun s => (e s).1 h, show layer t = 0 from Fin.ext h]
    exact grad_0 _ _ _ _ (at' t r) k
  · simp only [fun s => (e s).2.1 h, show layer t = 1 from Fin.ext h]
    exact grad_1 _ _ _ _ (at' t r) k
  · simp only [fun s => (e s).2.2.1 h, show layer t = 2 from Fin.ext h]
    exact grad_2 _ _ _ _ (at' t r) k
  · simp only [fun s => (e s).2.2.2 h, show layer t = 3 from Fin.ext h]
    exact grad_3 _ _ _ _ (at' t r) k

/-- What a point writes is its block of the reference's results. -/
theorem writes (t : Fin cfg0.N) (r : Fin 176) (k : Fin 1024) :
    (outsAt0 m c t.val t.isLt).1 (ix3 0 r k) = refG m c (ix3 (layer t) (at' t r) k)
    ∧ (outsAt0 m c t.val t.isLt).2.1 (ix3 0 r k) = refD m c (ix3 (layer t) (at' t r) k)
    ∧ (outsAt0 m c t.val t.isLt).2.2.1 (ix3 0 r k) = refM m c (ix3 (layer t) (at' t r) k)
    ∧ (outsAt0 m c t.val t.isLt).2.2.2 (ix3 0 r k) = refV m c (ix3 (layer t) (at' t r) k) := by
  have ht : t.val < 8 := t.isLt
  unfold refD refM refV
  rw [step_eq, mean_eq, square_eq, ← (read_state m c t r k).1, ← (read_state m c t r k).2.1, ← (read_state m c t r k).2.2]
  have hl : t.val / 2 = 0 ∨ t.val / 2 = 1 ∨ t.val / 2 = 2 ∨ t.val / 2 = 3 := by omega
  obtain ⟨g0, g1, g2, g3⟩ := ref_parts m c t r k
  rcases hl with h | h | h | h
  · rw [outsAt0_A m c t (by omega) (by omega) (by omega) (by omega)]
    frame_out
    exact block _ _ _ _ _ _ _ _ _ _ _ r k _ ((g0 h).trans (by pointwise [Adamw.total]))
  · rw [outsAt0_B m c t (by omega) (by omega) (by omega) (by omega)]
    frame_out
    exact block _ _ _ _ _ _ _ _ _ _ _ r k _ ((g1 h).trans (by pointwise [Adamw.total]))
  · rw [outsAt0_C m c t (by omega) (by omega) (by omega) (by omega)]
    frame_out
    exact block _ _ _ _ _ _ _ _ _ _ _ r k _ ((g2 h).trans (by pointwise [Adamw.total]))
  · rw [outsAt0_D m c t (by omega) (by omega) (by omega) (by omega)]
    frame_out
    exact block _ _ _ _ _ _ _ _ _ _ _ r k _ ((g3 h).trans (by pointwise [Adamw.total]))

/-- The place in the arrays of an entry of a point's block. -/
theorem place_eq (t : Fin cfg0.N) (n : Fin 3 → ℕ) (hn : n = ![t.val / 2, t.val % 2, 0]) (y : S1x176x1024.Idx) (i : S4x352x1024.Idx)
    (hi : ∀ a, (i a).val = n a * S1x176x1024.size a + 1 * (y a).val) : ix3 (layer t) (at' t (y 1)) (y 2) = i := by
  subst hn
  have y0 : (y 0).val < 1 := (y 0).isLt
  have h0 : (i 0).val = t.val / 2 * 1 + 1 * (y 0).val := hi 0
  have h1 : (i 1).val = t.val % 2 * 176 + 1 * (y 1).val := hi 1
  have h2 : (i 2).val = 0 * 1024 + 1 * (y 2).val := hi 2
  exact (Adamw.index i _ _ _ (show _ = t.val / 2 by omega) (show _ = t.val % 2 * 176 + (y 1).val by omega) (by omega)).symm

theorem final : (dats m 0 c).arrAt 7 cfg0.N = refG m c ∧ (dats m 0 c).arrAt 8 cfg0.N = refD m c ∧ (dats m 0 c).arrAt 9 cfg0.N = refM m c
    ∧ (dats m 0 c).arrAt 10 cfg0.N = refV m c := by
  have hy (y : S1x176x1024.Idx) : y = ix3 0 (y 1) (y 2) := Adamw.index _ _ _ _ (by have : (y 0).val < 1 := (y 0).isLt; show (y 0).val = 0; omega) rfl rfl
  refine ⟨(dats m 0 c).arrAt_eq_of_covers 7 _ (by decide +kernel) fun t hf y => ?_, (dats m 0 c).arrAt_eq_of_covers 8 _ (by decide +kernel) fun t hf y => ?_,
    (dats m 0 c).arrAt_eq_of_covers 9 _ (by decide +kernel) fun t hf y => ?_, (dats m 0 c).arrAt_eq_of_covers 10 _ (by decide +kernel) fun t hf y => ?_⟩
  all_goals
    obtain ⟨-, -, -, e7, e8, e9, e10⟩ := places t
    obtain ⟨w7, w8, w9, w10⟩ := writes m c t (y 1) (y 2)
    blk_simp
  · rw [after0_7]
    exact (congrArg _ (hy y)).trans (w7.trans (congrArg (refG m c) (place_eq t _ e7 y _ fun _ => rfl)))
  · rw [after0_8]
    exact (congrArg _ (hy y)).trans (w8.trans (congrArg (refD m c) (place_eq t _ e8 y _ fun _ => rfl)))
  · rw [after0_9]
    exact (congrArg _ (hy y)).trans (w9.trans (congrArg (refM m c) (place_eq t _ e9 y _ fun _ => rfl)))
  · rw [after0_10]
    exact (congrArg _ (hy y)).trans (w10.trans (congrArg (refV m c) (place_eq t _ e10 y _ fun _ => rfl)))

end Cert.AdamwFfnDownIdeal.Blocks

namespace Cert.Proof.AdamwFfnDown

open Idealize.ShloMosaic Idealize.SL.Sem Cert.AdamwFfnDownReferenceIdeal.Read Cert.AdamwFfnDownIdeal.Blocks

theorem frame_kernel : Cert.quiescent_AdamwFfnDown := fun m ρ _ => Cert.AdamwFfnDown.Gen.frame m ρ

theorem frame_kernelIdeal : Cert.quiescent_AdamwFfnDownIdeal := fun m ρ _ => Cert.AdamwFfnDownIdeal.Gen.frame m ρ

theorem frame_reference : Cert.quiescent_AdamwFfnDownReferenceIdeal := fun m ρ _ =>
  (θ_run Cert.AdamwFfnDownReferenceIdeal.defs _ _).mono (fun r h => ⟨fun c => (h c).2.2.2.2, sem_eq_zero_of_no_sems (by decide) r.2⟩)
    (Cert.AdamwFfnDownReferenceIdeal.Value.run (F := Ideal) m ρ)

theorem values : Cert.algebraic_AdamwFfnDownIdeal_AdamwFfnDownReferenceIdeal := fun m g m' g' _ hargs =>
  ⟨fun c => refG m c, fun c => refD m c, fun c => refM m c, fun c => refV m c,
    (θ_run Cert.AdamwFfnDownIdeal.defs _ _).mono (fun r h c =>
        have ⟨hg, hd, hm, hv, hk⟩ := h c
        have ⟨fg, fd, fm, fv⟩ := final m c
        ⟨hg.trans fg, hd.trans fd, hm.trans fm, hv.trans fv, hk⟩)
      (Cert.AdamwFfnDownIdeal.Value.run_blocks (F := Ideal) m g),
    (θ_run Cert.AdamwFfnDownReferenceIdeal.defs _ _).mono (fun r h c => by
        obtain ⟨e0, e1, e2, e3, e4, e5, e6⟩ := hargs c
        obtain ⟨hg, hd, hm, hv, hk⟩ := h c
        refine ⟨hg.trans ?_, hd.trans ?_, hm.trans ?_, hv.trans ?_, hk⟩
        · rw [val_main_v12_eq, e0, e1, e2, e3]
        · rw [val_main_v36_eq, e0, e1, e2, e3, e4, e5, e6]
        · rw [val_main_v17_eq, e0, e1, e2, e3, e5]
        · rw [val_main_v23_eq, e0, e1, e2, e3, e6])
      (Cert.AdamwFfnDownReferenceIdeal.Value.run (F := Ideal) m' g')⟩

end Cert.Proof.AdamwFfnDown

end
-- ==== Proof.LossValue.lean ====
/- The loss head: the loss of all rows, half the sum of each row's mean of squares, and its gradient; what the call and the sum
   after it compute is what the plain formula and its derivative give. -/
module

public import proofs.«01_k».proof.Defs
public import proofs.«01_k».proof.Proof.Products
public import proofs.«01_k».proof.Proof.Gen.Loss.Frame
public import proofs.«01_k».proof.Proof.Gen.LossIdeal.Frame
public import proofs.«01_k».proof.Proof.Gen.LossReferenceIdeal.Run
public import proofs.«01_k».proof.Proof.Gen.LossReferenceIdeal.Read
public import Idealize.ShloMosaic.Lib.Pipeline.Value

@[expose] public section

noncomputable section

namespace Cert.LossIdeal.Blocks

open Cert.LossIdeal Cert.LossIdeal.Gen Idealize.ShloMosaic Idealize.ShloMosaic.TcCoe Idealize.SL.Sem
open Cert.Products (zeros)
open Cert.LossReferenceIdeal.Read

/-! ## The constants, and sums of multiples -/

theorem unit_eq : Ideal.ofBits .f32 0x3A000000#32 = ((1 / 2048 : ℝ) : EReal) := by simp [Ideal.ofBits, Ideal.ieee, -EReal.coe_mul]; norm_num
theorem mean_eq : Ideal.ofBits .f32 0x3A800000#32 = ((1 / 1024 : ℝ) : EReal) := by simp [Ideal.ofBits, Ideal.ieee, -EReal.coe_mul]; norm_num
theorem len_eq : Ideal.ofBits .f32 0x44800000#32 = ((1024 : ℝ) : EReal) := by simp [Ideal.ofBits, Ideal.ieee, -EReal.coe_mul]; norm_num
theorem half_eq : Ideal.ofBits .f32 0x3F000000#32 = ((1 / 2 : ℝ) : EReal) := by simp [Ideal.ofBits, Ideal.ieee, -EReal.coe_mul]; norm_num
theorem one_eq : Ideal.ofBits .f32 0x3F800000#32 = ((1 : ℝ) : EReal) := by simp [Ideal.ofBits, Ideal.ieee, -EReal.coe_mul]; norm_num
theorem two_eq : Ideal.ofBits .f32 0x40000000#32 = ((2 : ℝ) : EReal) := by simp [Ideal.ofBits, Ideal.ieee, -EReal.coe_mul]; norm_num

/-- A real factor that is not negative distributes over every sum. -/
theorem sum_mul {n : ℕ} (f : Fin n → EReal) {a : ℝ} (ha : 0 ≤ a) : (∑ i, f i) * (a : EReal) = ∑ i, f i * (a : EReal) := by
  induction n with
  | zero => simp
  | succ n ih =>
    rw [Fin.sum_univ_succ, Fin.sum_univ_succ, EReal.right_distrib_of_nonneg_of_ne_top (by exact_mod_cast ha) (EReal.coe_ne_top a), ih]

/-- Sums over the blocks of rows are sums over all rows. -/
theorem sum_blocks (f : ℕ → EReal) : ∑ s ∈ Finset.range 16, ∑ r : Fin 512, f (s * 512 + r.val) = ∑ n : Fin 8192, f n.val := by
  have h (n : ℕ) : ∑ s ∈ Finset.range n, ∑ r : Fin 512, f (s * 512 + r.val) = ∑ j ∈ Finset.range (n * 512), f j := by
    induction n with
    | zero => simp
    | succ n ih => rw [Finset.sum_range_succ, ih, Nat.succ_mul, Finset.sum_range_add, ← Fin.sum_univ_eq_sum_range (fun j => f (n * 512 + j))]
  rw [Fin.sum_univ_eq_sum_range f, ← h 16]

/-! ## One block -/

section Cases

variable (c : Dev nD) (i : grid0.Coords) (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S1x1024 .f32) (h4 : a4.IsWhole) (x t : Vec Ideal S512x1024 .f32)

theorem slope_first (hc : cond0_0 i) : out0_A_2 c i a1 h1 a2 h2 a3 h3 a4 h4 hc x t = k0_pay3 (F := Ideal) x t := by
  unfold out0_A_2
  rw [View.read_writes_eq_canon _ _ _ (cover0_A_2 c i a1 h1 a2 h2 a3 h3 a4 h4 hc x t)]
  unfold kernelRun0_A
  dsimp only
  rw [View.canon_unit_zero zeros]
  simp only [View.readAt_eq_ld, Memref.IsWhole.read_unread, View.ld_unit_zero (S := S512x1024) zeros]

theorem loss_first (hc : cond0_0 i) : out0_A_3 c i a1 h1 a2 h2 a3 h3 a4 h4 hc x t = k0_pay4 (F := Ideal) x t (k0_pay1 (F := Ideal)) := by
  unfold out0_A_3
  rw [View.read_writes_eq_canon _ _ _ (cover0_A_3 c i a1 h1 a2 h2 a3 h3 a4 h4 hc x t)]
  unfold kernelRun0_A
  dsimp only
  rw [View.canon_cons_unit_zero zeros]
  simp only [kernelRun0_A.sl.v9, kernelRun0_A.sl.H3_1, View.readAt_eq_ld, Memref.IsWhole.read_unread, View.ld_unit_zero (S := S512x1024) zeros, View.readCov_unit_zero (S := S1x1024) _ zeros]

variable (s : Vec Ideal S1x1024 .f32)

theorem slope_next (hc : ¬cond0_0 i) : out0_B_2 c i a1 h1 a2 h2 a3 h3 a4 h4 hc x t s = k0_pay3 (F := Ideal) x t := by
  unfold out0_B_2
  rw [View.read_writes_eq_canon _ _ _ (cover0_B_2 c i a1 h1 a2 h2 a3 h3 a4 h4 hc x t s)]
  unfold kernelRun0_B
  dsimp only
  rw [View.canon_unit_zero zeros]
  simp only [View.readAt_eq_ld, Memref.IsWhole.read_unread, View.ld_unit_zero (S := S512x1024) zeros]

theorem loss_next (hc : ¬cond0_0 i) : out0_B_3 c i a1 h1 a2 h2 a3 h3 a4 h4 hc x t s = k0_pay4 (F := Ideal) x t s := by
  unfold out0_B_3
  rw [View.read_writes_eq_canon _ _ _ (cover0_B_3 c i a1 h1 a2 h2 a3 h3 a4 h4 hc x t s)]
  unfold kernelRun0_B
  dsimp only
  rw [View.canon_unit_zero zeros]
  simp only [View.readAt_eq_ld, Memref.IsWhole.read_unread, View.ld_unit_zero (S := S512x1024) zeros, View.ld_unit_zero (S := S1x1024) zeros]

end Cases

theorem pay3_apply (x t : Vec Ideal S512x1024 .f32) (r : Fin 512) (k : Fin 1024) :
    k0_pay3 (F := Ideal) x t (ix2 r k) = (x (ix2 r k) - t (ix2 r k)) * ((1 / 1024 : ℝ) : EReal) := by
  rw [← mean_eq]
  pointwise [k0_pay3, k0_pay2]

theorem pay4_apply (x t : Vec Ideal S512x1024 .f32) (s : Vec Ideal S1x1024 .f32) (k : Fin 1024) :
    k0_pay4 (F := Ideal) x t s (ix2 0 k)
      = s (ix2 0 k) + ∑ r : Fin 512, (x (ix2 r k) - t (ix2 r k)) * (x (ix2 r k) - t (ix2 r k)) * ((1 / 2048 : ℝ) : EReal) := by
  rw [← sum_mul _ (by norm_num), ← unit_eq]
  pointwise [k0_pay4, k0_pay2]

theorem pay1_apply (k : Fin 1024) : k0_pay1 (F := Ideal) (ix2 0 k) = 0 := by
  pointwise [k0_pay1]

/-! ## The reference -/

theorem slope_apply (y t : S8192x1024.Idx → EReal) (r : Fin 8192) (k : Fin 1024) :
    val_main_v14 (F := Ideal) y t (ix2 r k) = (y (ix2 r k) - t (ix2 r k)) * ((1 / 1024 : ℝ) : EReal) := by
  have h : val_main_v14 (F := Ideal) y t (ix2 r k)
      = Ideal.div (Ideal.ofBits .f32 0x3F000000#32 * Ideal.ofBits .f32 0x3F800000#32) (Ideal.ofBits .f32 0x44800000#32)
        * (Ideal.ofBits .f32 0x40000000#32 * (y (ix2 r k) - t (ix2 r k))) := by
    pointwise [val_main_v14, val_main_v13, val_main_v12, val_main_v10, val_main_v9, val_main_cst_4, val_main_cst_5, val_main_v11, val_main_cst_6,
      val_main_v3, val_main_v2, val_main_cst, val_main_v0]
  rw [h, half_eq, one_eq, len_eq, two_eq, Ideal.div_coe (by norm_num), ← mul_assoc, ← EReal.coe_mul, ← EReal.coe_mul, ← EReal.coe_mul, mul_comm]
  norm_num

theorem loss_apply (y t : S8192x1024.Idx → EReal) (i : S_.Idx) : val_main_v8 (F := Ideal) y t i
    = ∑ k : Fin 1024, ∑ r : Fin 8192, (y (ix2 r k) - t (ix2 r k)) * (y (ix2 r k) - t (ix2 r k)) * ((1 / 2048 : ℝ) : EReal) := by
  have h : val_main_v8 (F := Ideal) y t i = Ideal.ofBits .f32 0x3F000000#32 * ∑ r : Fin 8192,
      Ideal.div (∑ k : Fin 1024, (y (ix2 r k) - t (ix2 r k)) * (y (ix2 r k) - t (ix2 r k))) (Ideal.ofBits .f32 0x44800000#32) := by
    pointwise [val_main_v8, val_main_cst_3, val_main_v7, val_main_cst_2, val_main_v6, val_main_v5, val_main_cst_1, val_main_v4, val_main_cst_0,
      val_main_v1, val_main_v0]
  rw [h, half_eq, len_eq, mul_comm, sum_mul _ (by norm_num), Finset.sum_comm]
  refine Finset.sum_congr rfl fun r _ => ?_
  rw [Ideal.div_coe (by norm_num), mul_assoc, ← EReal.coe_mul, sum_mul _ (by norm_num)]
  norm_num

/-! ## The run -/

variable (m : (ℓ : Loc nD τ sig) → Buf (Elt Ideal) ℓ) (ρ : Dev nD → PrngReg) (c : Dev nD)

/-- The arguments: what the network gives, and the target. -/
abbrev argY : S8192x1024.Idx → EReal := m ((c.tc : Thread nD τ).loc main_arg0)
abbrev argT : S8192x1024.Idx → EReal := m ((c.tc : Thread nD τ).loc main_arg1)

/-- The blocks of a point. -/
abbrev blkY (t : Fin cfg0.N) : Vec Ideal S512x1024 .f32 := iblk m c 0 t
abbrev blkT (t : Fin cfg0.N) : Vec Ideal S512x1024 .f32 := iblk m c 1 t

/-- Which blocks a grid point reads and writes. -/
theorem places : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) :=
  (by decide +kernel : ∀ t : Fin grid0.N, _)

theorem points : cfg0.N = 16 := rfl

/-- The row of the arrays that a row of a point's block is. -/
def at' (t : Fin cfg0.N) (r : Fin 512) : Fin 8192 := ⟨t.val * 512 + r.val, by have := r.isLt; have : t.val < 16 := t.isLt; omega⟩

theorem read_y (t : Fin cfg0.N) (r : Fin 512) (k : Fin 1024) : blkY m c t (ix2 r k) = argY m c (ix2 (at' t r) k) := by
  obtain ⟨⟨e0, e1⟩, -⟩ := places t
  unfold blkY iblk
  rw [View.read_apply]
  show V m c main_arg0 _ = _
  rw [V_main_arg0]
  refine congrArg (argY m c) (funext fun a => Fin.ext ?_)
  match a with
  | ⟨0, _⟩ => show win0_0.index t 0 * 512 + 1 * r.val = t.val * 512 + r.val; omega
  | ⟨1, _⟩ => show win0_0.index t 1 * 1024 + 1 * k.val = k.val; omega

theorem read_t (t : Fin cfg0.N) (r : Fin 512) (k : Fin 1024) : blkT m c t (ix2 r k) = argT m c (ix2 (at' t r) k) := by
  obtain ⟨-, ⟨e0, e1⟩, -⟩ := places t
  unfold blkT iblk
  rw [View.read_apply]
  show V m c main_arg1 _ = _
  rw [V_main_arg1]
  refine congrArg (argT m c) (funext fun a => Fin.ext ?_)
  match a with
  | ⟨0, _⟩ => show win0_1.index t 0 * 512 + 1 * r.val = t.val * 512 + r.val; omega
  | ⟨1, _⟩ => show win0_1.index t 1 * 1024 + 1 * k.val = k.val; omega

/-- What each point writes of the gradient, and leaves in the accumulator. -/
theorem first_eq (t : Fin cfg0.N) (h : t.val % 16 = 0) : outsAt0 m c t.val t.isLt
    = (k0_pay3 (F := Ideal) (blkY m c t) (blkT m c t), k0_pay4 (F := Ideal) (blkY m c t) (blkT m c t) (k0_pay1 (F := Ideal))) := by
  rw [outsAt0_A m c t h, slope_first, loss_first]

theorem next_eq (t : Fin cfg0.N) (h : ¬t.val % 16 = 0) : outsAt0 m c t.val t.isLt
    = (k0_pay3 (F := Ideal) (blkY m c t) (blkT m c t),
      k0_pay4 (F := Ideal) (blkY m c t) (blkT m c t) (outsAt0 m c (t.val - 1) (Nat.lt_of_le_of_lt (Nat.sub_le _ _) t.isLt)).2) := by
  rw [outsAt0_B m c t h, slope_next, loss_next]

theorem slope_eq (t : Fin cfg0.N) : (outsAt0 m c t.val t.isLt).1 = k0_pay3 (F := Ideal) (blkY m c t) (blkT m c t) := by
  by_cases h : t.val % 16 = 0
  · rw [first_eq m c t h]
  · rw [next_eq m c t h]

/-- One element's part of the loss. -/
def term (k : Fin 1024) (n : ℕ) : EReal :=
  if h : n < 8192 then (argY m c (ix2 ⟨n, h⟩ k) - argT m c (ix2 ⟨n, h⟩ k)) * (argY m c (ix2 ⟨n, h⟩ k) - argT m c (ix2 ⟨n, h⟩ k)) * ((1 / 2048 : ℝ) : EReal)
  else 0

theorem part (t : Fin cfg0.N) (s : Vec Ideal S1x1024 .f32) (k : Fin 1024) :
    k0_pay4 (F := Ideal) (blkY m c t) (blkT m c t) s (ix2 0 k) = s (ix2 0 k) + ∑ r : Fin 512, term m c k (t.val * 512 + r.val) := by
  rw [pay4_apply]
  refine congrArg _ (Finset.sum_congr rfl fun r _ => ?_)
  rw [read_y, read_t]
  unfold term
  rw [dif_pos (show t.val * 512 + r.val < 8192 from (at' t r).isLt)]
  rfl

theorem acc_eq (k : Fin 1024) : ∀ (n : ℕ) (hn : n < cfg0.N),
    (outsAt0 m c n hn).2 (ix2 0 k) = ∑ s ∈ Finset.range (n + 1), ∑ r : Fin 512, term m c k (s * 512 + r.val)
  | 0, hn => by
    have e := first_eq m c ⟨0, hn⟩ rfl
    dsimp only at e
    rw [e, Finset.sum_range_one]
    exact (part m c ⟨0, hn⟩ _ k).trans (by rw [pay1_apply, zero_add])
  | n + 1, hn => by
    have hN : n + 1 < 16 := hn
    have i := acc_eq k n (Nat.lt_of_succ_lt hn)
    have e := next_eq m c ⟨n + 1, hn⟩ (by dsimp only; omega)
    dsimp only [Nat.add_sub_cancel] at e
    rw [e, Finset.sum_range_succ _ (n + 1), ← i]
    exact part m c ⟨n + 1, hn⟩ _ k

/-- The sums over the rows, column by column. -/
def sums : S1x1024.Idx → EReal := fun i => ∑ n : Fin 8192,
  (argY m c (ix2 n (i 1)) - argT m c (ix2 n (i 1))) * (argY m c (ix2 n (i 1)) - argT m c (ix2 n (i 1))) * ((1 / 2048 : ℝ) : EReal)

theorem acc_final (k : Fin 1024) (t : Fin cfg0.N) (ht : t.val % 16 = 15) : (outsAt0 m c t.val t.isLt).2 (ix2 0 k) = sums m c (ix2 0 k) := by
  have hN : t.val < 16 := t.isLt
  rw [acc_eq m c k t.val t.isLt, show t.val + 1 = 16 by omega, sum_blocks]
  exact Finset.sum_congr rfl fun n _ => dif_pos n.isLt

theorem flushed_slope (t : Fin cfg0.N) (_ : (cfg0.win 2).flush t = true) : (dats m 0 c).flushed 2 t
    = ((cfg0.win 2).blk t).view.read (Elt Ideal) (val_main_v14 (F := Ideal) (argY m c) (argT m c)) := by
  obtain ⟨-, -, ⟨e0, e1⟩, -⟩ := places t
  have hg : ∀ r k, k0_pay3 (F := Ideal) (blkY m c t) (blkT m c t) (ix2 r k) = val_main_v14 (F := Ideal) (argY m c) (argT m c) (ix2 (at' t r) k) :=
    fun r k => by rw [pay3_apply, slope_apply, read_y, read_t]
  show (cfg0.win 2).cut (grid0.coords t) ((dats m 0 c).after 2 t) = _
  rw [after0_2, slope_eq]
  generalize k0_pay3 (F := Ideal) _ _ = d at hg ⊢
  generalize val_main_v14 (F := Ideal) _ _ = G at hg ⊢
  funext y
  have b0 : (((cfg0.win 2).blk t).view.emb y : S8192x1024.Idx) = ix2 (at' t (y 0)) (y 1) := funext fun a => Fin.ext (by
    match a with
    | ⟨0, _⟩ => show win0_2.index t 0 * 512 + 1 * (y 0).val = t.val * 512 + (y 0).val; omega
    | ⟨1, _⟩ => show win0_2.index t 1 * 1024 + 1 * (y 1).val = (y 1).val; omega)
  have b1 : ((cfg0.win 2).xinj (grid0.coords t) y : S512x1024.Idx) = ix2 (y 0) (y 1) := Cert.Products.pair _
  show d ((cfg0.win 2).xinj (grid0.coords t) y) = G (((cfg0.win 2).blk t).view.emb y)
  exact (congrArg d b1).trans ((hg (y 0) (y 1)).trans (congrArg G b0).symm)

theorem flushed_sums (t : Fin cfg0.N) (hf : (cfg0.win 3).flush t = true) : (dats m 0 c).flushed 3 t
    = ((cfg0.win 3).blk t).view.read (Elt Ideal) (sums m c) := by
  obtain ⟨-, -, -, ⟨e0, e1⟩⟩ := places t
  have hg := fun k => acc_final m c k t ((flush0_3 t).mp hf)
  show (cfg0.win 3).cut (grid0.coords t) ((dats m 0 c).after 3 t) = _
  rw [after0_3]
  generalize (outsAt0 m c t.val t.isLt).2 = d at hg ⊢
  generalize sums m c = G at hg ⊢
  funext y
  have y0 : (y 0).val < 1 := (y 0).isLt
  have b0 : (((cfg0.win 3).blk t).view.emb y : S1x1024.Idx) = ix2 0 (y 1) := funext fun a => Fin.ext (by
    match a with
    | ⟨0, _⟩ => show win0_3.index t 0 * 1 + 1 * (y 0).val = 0; omega
    | ⟨1, _⟩ => show win0_3.index t 1 * 1024 + 1 * (y 1).val = (y 1).val; omega)
  have b1 : ((cfg0.win 3).xinj (grid0.coords t) y : S1x1024.Idx) = ix2 0 (y 1) := funext fun a => Fin.ext (by
    match a with
    | ⟨0, _⟩ => show (y 0).val = 0; omega
    | ⟨1, _⟩ => rfl)
  show d ((cfg0.win 3).xinj (grid0.coords t) y) = G (((cfg0.win 3).blk t).view.emb y)
  exact (congrArg d b1).trans ((hg (y 1)).trans (congrArg G b0).symm)

/-- The last point, which writes the sums, and the point that writes a row. -/
def final : Fin cfg0.N := ⟨15, by rw [points]; decide⟩
def writer (i : S8192x1024.Idx) : Fin cfg0.N := ⟨(i 0).val / 512, by have i0 : (i 0 : Nat) < 8192 := (i 0).isLt; rw [points]; omega⟩

theorem final_slope : (dats m 0 c).arrAt 2 cfg0.N = val_main_v14 (F := Ideal) (argY m c) (argT m c) :=
  (dats m 0 c).arrAt_eq_of_cover 2 _ (flushed_slope m c) fun i => by
    refine ⟨writer i, flush0_2 _, ?_⟩
    obtain ⟨-, -, ⟨e0, e1⟩, -⟩ := places (writer i)
    have i1 : (i 1 : Nat) < 1024 := (i 1).isLt
    have w0 : (writer i).val = (i 0).val / 512 := rfl
    show i ∈ ((View.whole main_v0_0).slice (win0_2.rect (writer i))).set
    rw [View.set_slice_whole, Rect.mem_set_unit]
    intro a
    match a with
    | ⟨0, _⟩ => show win0_2.index (writer i) 0 * 512 ≤ (i 0).val ∧ (i 0).val < win0_2.index (writer i) 0 * 512 + 512; rw [e0, w0]; omega
    | ⟨1, _⟩ => show win0_2.index (writer i) 1 * 1024 ≤ (i 1).val ∧ (i 1).val < win0_2.index (writer i) 1 * 1024 + 1024; rw [e1]; omega

theorem final_sums : (dats m 0 c).arrAt 3 cfg0.N = sums m c :=
  (dats m 0 c).arrAt_eq_of_cover 3 _ (flushed_sums m c) fun i => by
    refine ⟨final, (flush0_3 _).mpr rfl, ?_⟩
    obtain ⟨-, -, -, ⟨e0, e1⟩⟩ := places final
    have i0 : (i 0 : Nat) < 1 := (i 0).isLt
    have i1 : (i 1 : Nat) < 1024 := (i 1).isLt
    show i ∈ ((View.whole main_v0_1).slice (win0_3.rect final)).set
    rw [View.set_slice_whole, Rect.mem_set_unit]
    intro a
    match a with
    | ⟨0, _⟩ => show win0_3.index final 0 * 1 ≤ (i 0).val ∧ (i 0).val < win0_3.index final 0 * 1 + 1; rw [e0]; omega
    | ⟨1, _⟩ => show win0_3.index final 1 * 1024 ≤ (i 1).val ∧ (i 1).val < win0_3.index final 1 * 1024 + 1024; rw [e1]; omega

/-- After the call, the columns' sums are added up. -/
theorem after_sum : Pipeline.afterTail₀ cfgs (dats m) 0 (V0 m) [hostOps1] c main_v1
    = Host.reduceAdd ((dats m 0 c).arrAt 3 cfg0.N) (constant (F := Ideal) S_ .f32 0x00000000#32) reducesTo_S1x1024_S_d0_1 h_S_ := by
  have e := Pipeline.withArrays_arr spec0 launch0.win.arr_inj c (V0 m c) (fun w => (dats m 0 c).arrAt w cfg0.N) 3
  unfold Pipeline.afterTail₀
  show StableHlo.after hostOps1 _ _ = _
  unfold hostOps1
  after_results_simp
  exact congrArg (fun x => Host.reduceAdd x (constant (F := Ideal) S_ .f32 0x00000000#32) reducesTo_S1x1024_S_d0_1 h_S_) e

theorem loss_eq : Pipeline.afterTail₀ cfgs (dats m) 0 (V0 m) [hostOps1] c main_v1 = val_main_v8 (F := Ideal) (argY m c) (argT m c) := by
  rw [after_sum, final_sums]
  funext i
  rw [loss_apply]
  have h : ∀ G : S1x1024.Idx → EReal, Host.reduceAdd (F := Ideal) (φ := .f32) G (constant (F := Ideal) S_ .f32 0x00000000#32) reducesTo_S1x1024_S_d0_1 h_S_ i
      = ∑ k : Fin 1024, G (ix2 0 k) := fun G => by
    pointwise
    exact Fin.sum_univ_one _
  exact h _

theorem run_values : θ_run defs (onTc (τ := τ) (main (F := Ideal))) ⟨m, fun _ => 0, ρ⟩ fun r => ∀ c : Dev nD,
      r.2.mem ((c : Thread nD τ).loc main_v0_0) = val_main_v14 (F := Ideal) (argY m c) (argT m c)
      ∧ r.2.mem ((c : Thread nD τ).loc main_v1) = val_main_v8 (F := Ideal) (argY m c) (argT m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final_slope m c),
      ((h.1 c).2 main_v1 (Pipeline.mem_restRefs_of main_v1 (by decide) (by decide))).trans (loss_eq m c), h.2 c⟩)
    (θ_run_and (run_main m ρ) (unchanged m ρ))

end Cert.LossIdeal.Blocks

namespace Cert.Proof.Loss

open Idealize.ShloMosaic Idealize.SL.Sem Cert.LossReferenceIdeal.Read Cert.LossIdeal.Blocks

theorem frame_kernel : Cert.quiescent_Loss := fun m ρ _ => Cert.Loss.Gen.frame m ρ

theorem frame_kernelIdeal : Cert.quiescent_LossIdeal := fun m ρ _ => Cert.LossIdeal.Gen.frame m ρ

theorem frame_reference : Cert.quiescent_LossReferenceIdeal := fun m ρ _ =>
  (θ_run Cert.LossReferenceIdeal.defs _ _).mono (fun r h => ⟨fun c => (h c).2.2, sem_eq_zero_of_no_sems (by decide) r.2⟩)
    (Cert.LossReferenceIdeal.Value.run (F := Ideal) m ρ)

theorem values : Cert.algebraic_LossIdeal_LossReferenceIdeal := fun m g m' g' _ hargs =>
  ⟨fun c => val_main_v14 (F := Ideal) (argY m c) (argT m c), fun c => val_main_v8 (F := Ideal) (argY m c) (argT m c),
    run_values m g,
    (θ_run Cert.LossReferenceIdeal.defs _ _).mono (fun r h c => by
        obtain ⟨e0, e1⟩ := hargs c
        obtain ⟨h14, h8, hk⟩ := h c
        refine ⟨h14.trans ?_, h8.trans ?_, hk⟩
        · rw [val_main_v14_eq, e0, e1]
        · rw [val_main_v8_eq, e0, e1])
      (Cert.LossReferenceIdeal.Value.run (F := Ideal) m' g')⟩

end Cert.Proof.Loss

end
-- ==== Proof.LnFwdValue.lean ====
/- The layer norm of the residual sum, forward: what the call writes is what the plain formula gives, row by row. -/
module

public import proofs.«01_k».proof.Defs
public import proofs.«01_k».proof.Proof.Norm
public import proofs.«01_k».proof.Proof.Products
public import proofs.«01_k».proof.Proof.Gen.LnFwd.Frame
public import proofs.«01_k».proof.Proof.Gen.LnFwdIdeal.Value
public import proofs.«01_k».proof.Proof.Gen.LnFwdReferenceIdeal.Run
public import proofs.«01_k».proof.Proof.Gen.LnFwdReferenceIdeal.Read

@[expose] public section

noncomputable section

namespace Cert.LnFwdReferenceIdeal.Rows

open Cert.LnFwdReferenceIdeal Cert.LnFwdReferenceIdeal.Gen Cert.LnFwdReferenceIdeal.Read Idealize.ShloMosaic Cert.Norm

variable (x m : FVec Ideal S8192x1024 .f32) (g b : FVec Ideal S1024 .f32) (i : Fin 8192) (k : Fin 1024)

theorem dev_apply : val_main_v15 (F := Ideal) x m (ix2 i k) = dev (fun k => x (ix2 i k)) (fun k => m (ix2 i k)) k := by
  pointwise [val_main_v15, val_main_v2, val_main_v1, val_main_v0, val_main_cst, val_main_v14, val_main_v6, val_main_v5, val_main_cst_1, val_main_v4,
    val_main_v3, val_main_cst_0, dev, scale, len]

theorem norm_apply : val_main_v26 (F := Ideal) x m g b (ix2 i k)
    = dev (fun k => x (ix2 i k)) (fun k => m (ix2 i k)) k * invRoot (dev (fun k => x (ix2 i k)) fun k => m (ix2 i k)) * g (ix1 k) + b (ix1 k) := by
  have h := fun k => dev_apply x m i k
  unfold val_main_v26 val_main_v23 val_main_v20 val_main_v19 val_main_v18 val_main_v17 val_main_v13 val_main_v11 val_main_v10 val_main_v9
  rw [show val_main_v8 (F := Ideal) x m = val_main_v15 (F := Ideal) x m from rfl]
  generalize val_main_v15 (F := Ideal) x m = d at h
  pointwise [val_main_cst_2, val_main_v12, val_main_cst_3, val_main_v16, val_main_cst_4, val_main_v22, val_main_v21, val_main_v25, val_main_v24,
    invRoot, var, len, eps]
  simp only [← h]

end Cert.LnFwdReferenceIdeal.Rows

namespace Cert.LnFwdIdeal.Rows

open Cert.LnFwdIdeal Cert.LnFwdIdeal.Gen Idealize.ShloMosaic Idealize.ShloMosaic.TcCoe Idealize.SL.Sem Cert.Norm
open Cert.Products (zeros)
open Cert.LnFwdReferenceIdeal.Read (val_main_v26)

/-- A grid point norms the rows of its block. -/
theorem block_norm (g b : Vec Ideal S1x1024 .f32) (x m : Vec Ideal S512x1024 .f32) (r : Fin 512) (k : Fin 1024) :
    k0_pay1 (F := Ideal) g b x m (ix2 r k) = dev (fun k => x (ix2 r k)) (fun k => m (ix2 r k)) k
      * invRoot (dev (fun k => x (ix2 r k)) fun k => m (ix2 r k)) * g (ix2 0 k) + b (ix2 0 k) := by
  pointwise [k0_pay1, invRoot, var, dev, scale, len, eps]

variable (m : (ℓ : Loc nD τ sig) → Buf (Elt Ideal) ℓ) (ρ : Dev nD → PrngReg) (c : Dev nD)

/-- The arguments: what is normalised is made of the first two; then the gain and the bias. -/
abbrev argX : S8192x1024.Idx → EReal := m ((c.tc : Thread nD τ).loc main_arg0)
abbrev argM : S8192x1024.Idx → EReal := m ((c.tc : Thread nD τ).loc main_arg1)
abbrev argG : S1024.Idx → EReal := m ((c.tc : Thread nD τ).loc main_arg2)
abbrev argB : S1024.Idx → EReal := m ((c.tc : Thread nD τ).loc main_arg3)

/-- The plain formula's result. -/
abbrev whole : S8192x1024.Idx → EReal := val_main_v26 (F := Ideal) (argX m c) (argM m c) (argG m c) (argB m c)

theorem out_eq (g b : Vec Ideal S1x1024 .f32) (x m : Vec Ideal S512x1024 .f32) : out0_4 (F := Ideal) g b x m = k0_pay1 (F := Ideal) g b x m := by
  unfold out0_4
  rw [View.canon_unit_zero zeros]
  simp only [View.ld_unit_zero (S := S512x1024) zeros, View.ld_unit_zero (S := S1x1024) zeros]

/-- Which blocks a grid point reads and writes. -/
theorem places : ∀ t : Fin cfg0.N, (win0_0.index t 0 = 0 ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (cfg0.win 4).flush t = true :=
  (by decide +kernel : ∀ t : Fin grid0.N, _)

/-- The row of the arrays that a row of a point's block is. -/
def at' (t : Fin cfg0.N) (r : Fin 512) : Fin 8192 := ⟨t.val * 512 + r.val, by have := r.isLt; have : t.val < 16 := t.isLt; omega⟩

theorem read_x (t : Fin cfg0.N) (r : Fin 512) (k : Fin 1024) : (iblk m c 2 t : Vec Ideal S512x1024 .f32) (ix2 r k) = argX m c (ix2 (at' t r) k) := by
  obtain ⟨-, -, ⟨e0, e1⟩, -⟩ := places t
  unfold iblk
  rw [View.read_apply]
  show V m c main_arg0 _ = _
  rw [V_main_arg0]
  refine congrArg (argX m c) (funext fun a => Fin.ext ?_)
  match a with
  | ⟨0, _⟩ => show win0_2.index t 0 * 512 + 1 * r.val = t.val * 512 + r.val; omega
  | ⟨1, _⟩ => show win0_2.index t 1 * 1024 + 1 * k.val = k.val; omega

theorem read_m (t : Fin cfg0.N) (r : Fin 512) (k : Fin 1024) : (iblk m c 3 t : Vec Ideal S512x1024 .f32) (ix2 r k) = argM m c (ix2 (at' t r) k) := by
  obtain ⟨-, -, -, ⟨e0, e1⟩, -⟩ := places t
  unfold iblk
  rw [View.read_apply]
  show V m c main_arg1 _ = _
  rw [V_main_arg1]
  refine congrArg (argM m c) (funext fun a => Fin.ext ?_)
  match a with
  | ⟨0, _⟩ => show win0_3.index t 0 * 512 + 1 * r.val = t.val * 512 + r.val; omega
  | ⟨1, _⟩ => show win0_3.index t 1 * 1024 + 1 * k.val = k.val; omega

/-- The gain and the bias, made rows before the call. -/
theorem rows_eq : V m c main_v0 = shapeCast S1x1024 (argG m c) shapeCasts_S1024_S1x1024
    ∧ V m c main_v1 = shapeCast S1x1024 (argB m c) shapeCasts_S1024_S1x1024 := by
  constructor
  all_goals
    show StableHlo.after hostOps0 (fun b => m (c, b)) _ = _
    unfold hostOps0
    after_results_simp
    rfl

theorem cast_apply (g : S1024.Idx → EReal) (k : Fin 1024) :
    shapeCast (α := EReal) S1x1024 g shapeCasts_S1024_S1x1024 (ix2 0 k) = g (ix1 k) := by
  pointwise

theorem read_g (t : Fin cfg0.N) (k : Fin 1024) : (iblk m c 0 t : Vec Ideal S1x1024 .f32) (ix2 0 k) = argG m c (ix1 k) := by
  obtain ⟨⟨e0, e1⟩, -⟩ := places t
  unfold iblk
  rw [View.read_apply]
  show V m c main_v0 _ = _
  rw [(rows_eq m c).1]
  refine (congrArg (shapeCast S1x1024 (argG m c) shapeCasts_S1024_S1x1024) (funext fun a => Fin.ext ?_)).trans (cast_apply _ k)
  match a with
  | ⟨0, _⟩ => show win0_0.index t 0 * 1 + 1 * 0 = 0; omega
  | ⟨1, _⟩ => show win0_0.index t 1 * 1024 + 1 * k.val = k.val; omega

theorem read_b (t : Fin cfg0.N) (k : Fin 1024) : (iblk m c 1 t : Vec Ideal S1x1024 .f32) (ix2 0 k) = argB m c (ix1 k) := by
  obtain ⟨-, ⟨e0, e1⟩, -⟩ := places t
  unfold iblk
  rw [View.read_apply]
  show V m c main_v1 _ = _
  rw [(rows_eq m c).2]
  refine (congrArg (shapeCast S1x1024 (argB m c) shapeCasts_S1024_S1x1024) (funext fun a => Fin.ext ?_)).trans (cast_apply _ k)
  match a with
  | ⟨0, _⟩ => show win0_1.index t 0 * 1 + 1 * 0 = 0; omega
  | ⟨1, _⟩ => show win0_1.index t 1 * 1024 + 1 * k.val = k.val; omega

theorem flushed_eq (t : Fin cfg0.N) : (dats m 0 c).flushed 4 t = ((cfg0.win 4).blk t).view.read (Elt Ideal) (whole m c) := by
  obtain ⟨-, -, -, -, ⟨e0, e1⟩, -⟩ := places t
  have hg : ∀ r k, k0_pay1 (F := Ideal) (iblk m c 0 t) (iblk m c 1 t) (iblk m c 2 t) (iblk m c 3 t) (ix2 r k) = whole m c (ix2 (at' t r) k) :=
    fun r k => by
      rw [block_norm, read_g, read_b]
      simp only [read_x, read_m]
      exact (Cert.LnFwdReferenceIdeal.Rows.norm_apply _ _ _ _ _ _).symm
  rw [Value.flushed4, out_eq]
  generalize k0_pay1 (F := Ideal) _ _ _ _ = d at hg ⊢
  generalize whole m c = G at hg ⊢
  funext y
  have b0 : (((cfg0.win 4).blk t).view.emb y : S8192x1024.Idx) = ix2 (at' t (y 0)) (y 1) := funext fun a => Fin.ext (by
    match a with
    | ⟨0, _⟩ => show win0_4.index t 0 * 512 + 1 * (y 0).val = t.val * 512 + (y 0).val; omega
    | ⟨1, _⟩ => show win0_4.index t 1 * 1024 + 1 * (y 1).val = (y 1).val; omega)
  have b1 : ((cfg0.win 4).xinj (grid0.coords t) y : S512x1024.Idx) = ix2 (y 0) (y 1) := Cert.Products.pair _
  show d ((cfg0.win 4).xinj (grid0.coords t) y) = G (((cfg0.win 4).blk t).view.emb y)
  exact (congrArg d b1).trans ((hg (y 0) (y 1)).trans (congrArg G b0).symm)

/-- The point that writes a row. -/
def writer (i : S8192x1024.Idx) : Fin cfg0.N := ⟨(i 0).val / 512, by have i0 : (i 0 : Nat) < 8192 := (i 0).isLt; show _ < 16; omega⟩

theorem final : (dats m 0 c).arrAt 4 cfg0.N = whole m c :=
  (dats m 0 c).arrAt_eq_of_cover 4 _ (fun t _ => flushed_eq m c t) fun i => by
    obtain ⟨-, -, -, -, ⟨e0, e1⟩, hf⟩ := places (writer i)
    refine ⟨writer i, hf, ?_⟩
    have i1 : (i 1 : Nat) < 1024 := (i 1).isLt
    have w0 : (writer i).val = (i 0).val / 512 := rfl
    show i ∈ ((View.whole main_v2).slice (win0_4.rect (writer i))).set
    rw [View.set_slice_whole, Rect.mem_set_unit]
    intro a
    match a with
    | ⟨0, _⟩ => show win0_4.index (writer i) 0 * 512 ≤ (i 0).val ∧ (i 0).val < win0_4.index (writer i) 0 * 512 + 512; rw [e0, w0]; omega
    | ⟨1, _⟩ => show win0_4.index (writer i) 1 * 1024 ≤ (i 1).val ∧ (i 1).val < win0_4.index (writer i) 1 * 1024 + 1024; rw [e1]; omega

end Cert.LnFwdIdeal.Rows

namespace Cert.Proof.LnFwd

open Idealize.ShloMosaic Idealize.SL.Sem Cert.LnFwdReferenceIdeal.Read Cert.LnFwdIdeal.Rows

theorem frame_kernel : Cert.quiescent_LnFwd := fun m ρ _ => Cert.LnFwd.Gen.frame m ρ

theorem frame_kernelIdeal : Cert.quiescent_LnFwdIdeal := fun m ρ _ => Cert.LnFwdIdeal.Gen.frame m ρ

theorem frame_reference : Cert.quiescent_LnFwdReferenceIdeal := fun m ρ _ =>
  (θ_run Cert.LnFwdReferenceIdeal.defs _ _).mono (fun r h => ⟨fun c => (h c).2, sem_eq_zero_of_no_sems (by decide) r.2⟩)
    (Cert.LnFwdReferenceIdeal.Value.run (F := Ideal) m ρ)

theorem values : Cert.algebraic_LnFwdIdeal_LnFwdReferenceIdeal := fun m g m' g' _ hargs =>
  ⟨fun c => whole m c,
    (θ_run Cert.LnFwdIdeal.defs _ _).mono (fun r h c => ⟨(h c).1.trans (final m c), (h c).2⟩)
      (Cert.LnFwdIdeal.Value.run_blocks (F := Ideal) m g),
    (θ_run Cert.LnFwdReferenceIdeal.defs _ _).mono (fun r h c => ⟨(h c).1.trans (by
        obtain ⟨e0, e1, e2, e3⟩ := hargs c
        rw [val_main_v26_eq, e0, e1, e2, e3]), (h c).2⟩)
      (Cert.LnFwdReferenceIdeal.Value.run (F := Ideal) m' g')⟩

end Cert.Proof.LnFwd

end
-- ==== Proof.Gelu.lean ====
/- The gate's bend x · (1 + tanh(…)) / 2, and its slope: the two orders in which they are multiplied out agree. -/
module

public import Idealize.ShloMosaic.Lib.Pointwise

@[expose] public section

noncomputable section

namespace Cert.Gelu

open Idealize.ShloMosaic

/-- The constants: a half, the root of 2/π, the cubic term's factor, and three. -/
abbrev half : EReal := Ideal.ofBits .f32 0x3F000000#32
abbrev root : EReal := Ideal.ofBits .f32 0x3F4C422A#32
abbrev cube : EReal := Ideal.ofBits .f32 0x3D372713#32
abbrev three : EReal := Ideal.ofBits .f32 0x40400000#32

/-- The hyperbolic tangent of the bend. -/
abbrev bend (x : EReal) : EReal := Ideal.tanh (root * (x + cube * (x * x * x)))

/-- The bent gate. -/
def gelu (x : EReal) : EReal := x * (half * (1 + bend x))

theorem gelu_eq (x : EReal) : half * x * (1 + bend x) = gelu x := by unfold gelu; ac_rfl

/-- The gradient at the gate when `d` arrives at the bent gate. -/
def gateGrad (x d : EReal) : EReal := d * (half * (1 + bend x)) + root * (half * (x * d) * ((1 + bend x) * (1 - bend x)))
  + cube * (root * (half * (x * d) * ((1 + bend x) * (1 - bend x)))) * (three * (x * x))

theorem three_mul' (a : EReal) : three * a = a + a + a := by
  rw [show three = ((3 : ℝ) : EReal) by simp [three, Ideal.ofBits, Ideal.ieee, -EReal.coe_mul]; norm_num]
  induction a with
  | bot => rw [EReal.coe_mul_bot_of_pos (by norm_num)]; rfl
  | top => rw [EReal.coe_mul_top_of_pos (by norm_num)]; rfl
  | coe a => rw [← EReal.coe_mul, ← EReal.coe_add, ← EReal.coe_add]; congr 1; ring

/-- The slope with the cube taken as two products. -/
theorem gateGrad_eq (x d w u : EReal) (hw : w = root * (half * x * d * ((1 + bend x) * (1 - bend x)))) (hu : u = cube * w) :
    w + x * x * u + x * (u * x) + u * x * x + half * (d * (1 + bend x)) = gateGrad x d := by
  unfold gateGrad
  rw [← mul_assoc half x d, ← hw, ← hu, show u * (three * (x * x)) = three * (x * x * u) by ac_rfl, three_mul',
    show x * (u * x) = x * x * u by ac_rfl, show u * x * x = x * x * u by ac_rfl, show half * (d * (1 + bend x)) = d * (half * (1 + bend x)) by ac_rfl]
  ac_rfl

end Cert.Gelu

end
-- ==== Proof.CdPostValue.lean ====
/- The gate after the second pair of mixers: the attention's output beside the recurrence's states times the bent gate. -/
module

public import proofs.«01_k».proof.Defs
public import proofs.«01_k».proof.Proof.Gelu
public import proofs.«01_k».proof.Proof.Products
public import proofs.«01_k».proof.Proof.Gen.CdPost.Frame
public import proofs.«01_k».proof.Proof.Gen.CdPostIdeal.Value
public import proofs.«01_k».proof.Proof.Gen.CdPostReferenceIdeal.Run
public import proofs.«01_k».proof.Proof.Gen.CdPostReferenceIdeal.Read
public import Idealize.ShloMosaic.Lib.Pipeline.ValueKit

@[expose] public section

noncomputable section

namespace Cert.CdPostIdeal.Rows

open Cert.CdPostIdeal Cert.CdPostIdeal.Gen Idealize.ShloMosaic Idealize.ShloMosaic.TcCoe Idealize.SL.Sem Cert.Gelu
open Cert.CdPostReferenceIdeal.Read

theorem whole_apply (x h : FVec Ideal Cert.CdPostReferenceIdeal.S8192x512 .f32) (g : FVec Ideal Cert.CdPostReferenceIdeal.S8192x2048 .bf16)
    (i : Fin 8192) (k : Fin 1024) : val_main_v17 (F := Ideal) x h g (ix2 i k) = if hk : k.val < 512 then x (ix2 i ⟨k.val, hk⟩)
      else h (ix2 i ⟨k.val - 512, by omega⟩) * gelu (g (ix2 i ⟨1024 + (k.val - 512), by omega⟩)) := by
  pointwise [val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0,
    val_main_cst_1, val_main_cst_2, gelu]

theorem block_apply (x h : Vec Ideal S512x512 .f32) (g : Vec Ideal S512x512 .bf16) (r : Fin 512) (k : Fin 1024) :
    k0_pay1 (F := Ideal) x h g (ix2 r k) = if hk : k.val < 512 then x (ix2 r ⟨k.val, hk⟩)
      else h (ix2 r ⟨k.val - 512, by omega⟩) * gelu (g (ix2 r ⟨k.val - 512, by omega⟩)) := by
  simp only [← gelu_eq]
  pointwise [k0_pay1]

variable (m : (ℓ : Loc nD τ sig) → Buf (Elt Ideal) ℓ) (ρ : Dev nD → PrngReg) (c : Dev nD)

/-- The arguments: the attention's output, the states, and the projected input, of which the gate is a part. -/
abbrev argX : S8192x512.Idx → EReal := m ((c.tc : Thread nD τ).loc main_arg0)
abbrev argH : S8192x512.Idx → EReal := m ((c.tc : Thread nD τ).loc main_arg1)
abbrev argG : S8192x2048.Idx → EReal := m ((c.tc : Thread nD τ).loc main_arg2)

/-- The plain formula's result. -/
abbrev whole : S8192x1024.Idx → EReal := val_main_v17 (F := Ideal) (argX m c) (argH m c) (argG m c)

/-- Which blocks a grid point reads and writes. -/
theorem places : ∀ t : Fin cfg0.N, win0_0.index t = ![t.val, 0] ∧ win0_1.index t = ![t.val, 0] ∧ win0_2.index t = ![t.val, 2]
    ∧ win0_3.index t = ![t.val, 0] := (by decide +kernel : ∀ t : Fin grid0.N, _)

/-- The row of the arrays that a row of a point's block is. -/
def at' (t : Fin cfg0.N) (r : Fin 512) : Fin 8192 := ⟨t.val * 512 + r.val, by have := r.isLt; have : t.val < 16 := t.isLt; omega⟩

theorem reads (t : Fin cfg0.N) (r k : Fin 512) : (iblk m c 0 t : Vec Ideal S512x512 .f32) (ix2 r k) = argX m c (ix2 (at' t r) k)
    ∧ (iblk m c 1 t : Vec Ideal S512x512 .f32) (ix2 r k) = argH m c (ix2 (at' t r) k)
    ∧ (iblk m c 2 t : Vec Ideal S512x512 .bf16) (ix2 r k) = argG m c (ix2 (at' t r) ⟨1024 + k.val, by omega⟩) := by
  obtain ⟨e0, e1, e2, -⟩ := places t
  refine ⟨?_, ?_, ?_⟩
  all_goals
    blk_simp [iblk]
    first | rw [V_main_arg0] | rw [V_main_arg1] | rw [V_main_arg2]
    refine congrArg _ (funext fun a => Fin.ext ?_)
    match a with
    | ⟨0, _⟩ => blk_simp [e0, e1, e2]; rfl
    | ⟨1, _⟩ => blk_simp [e0, e1, e2]

theorem block_eq (t : Fin cfg0.N) (r : Fin 512) (k : Fin 1024) :
    k0_pay1 (F := Ideal) (iblk m c 0 t) (iblk m c 1 t) (iblk m c 2 t) (ix2 r k) = whole m c (ix2 (at' t r) k) := by
  refine (block_apply _ _ _ _ _).trans (Eq.trans ?_ (whole_apply _ _ _ _ _).symm)
  simp only [(reads m c t _ _).1, (reads m c t _ _).2.1, (reads m c t _ _).2.2]

theorem final : (dats m 0 c).arrAt 3 cfg0.N = whole m c := by
  refine (dats m 0 c).arrAt_eq_of_covers 3 _ (by decide +kernel) fun t hf y => ?_
  have e3 := (places t).2.2.2
  have b0 : (((cfg0.win 3).blk t).view.emb y : S8192x1024.Idx) = ix2 (at' t (y 0)) (y 1) := funext fun a => Fin.ext (by
    match a with
    | ⟨0, _⟩ => blk_simp [e3]; rfl
    | ⟨1, _⟩ => blk_simp [e3]; simp [ix2])
  blk_simp
  rw [after0_3]
  frame_out
  have hy : (y : S512x1024.Idx) = ix2 (y 0) (y 1) := Cert.Products.pair _
  exact (congrArg (k0_pay1 (F := Ideal) (iblk m c 0 t) (iblk m c 1 t) (iblk m c 2 t)) hy).trans ((block_eq m c t (y 0) (y 1)).trans (congrArg (whole m c) b0).symm)

end Cert.CdPostIdeal.Rows

namespace Cert.Proof.CdPost

open Idealize.ShloMosaic Idealize.SL.Sem Cert.CdPostReferenceIdeal.Read Cert.CdPostIdeal.Rows

theorem frame_kernel : Cert.quiescent_CdPost := fun m ρ _ => Cert.CdPost.Gen.frame m ρ

theorem frame_kernelIdeal : Cert.quiescent_CdPostIdeal := fun m ρ _ => Cert.CdPostIdeal.Gen.frame m ρ

theorem frame_reference : Cert.quiescent_CdPostReferenceIdeal := fun m ρ _ =>
  (θ_run Cert.CdPostReferenceIdeal.defs _ _).mono (fun r h => ⟨fun c => (h c).2, sem_eq_zero_of_no_sems (by decide) r.2⟩)
    (Cert.CdPostReferenceIdeal.Value.run (F := Ideal) m ρ)

theorem values : Cert.algebraic_CdPostIdeal_CdPostReferenceIdeal := fun m g m' g' _ hargs =>
  ⟨fun c => whole m c,
    (θ_run Cert.CdPostIdeal.defs _ _).mono (fun r h c => ⟨(h c).1.trans (final m c), (h c).2⟩)
      (Cert.CdPostIdeal.Value.run_blocks (F := Ideal) m g),
    (θ_run Cert.CdPostReferenceIdeal.defs _ _).mono (fun r h c => ⟨(h c).1.trans (by
        obtain ⟨e0, e1, e2⟩ := hargs c
        rw [val_main_v17_eq, e0, e1, e2]), (h c).2⟩)
      (Cert.CdPostReferenceIdeal.Value.run (F := Ideal) m' g')⟩

end Cert.Proof.CdPost

end
-- ==== Proof.CdPostBwdValue.lean ====
/- The gradients of the gate after the second pair of mixers: of the attention's output, of the states and of the gate. -/
module

public import proofs.«01_k».proof.Defs
public import proofs.«01_k».proof.Proof.Gelu
public import proofs.«01_k».proof.Proof.Products
public import proofs.«01_k».proof.Proof.Gen.CdPostBwd.Frame
public import proofs.«01_k».proof.Proof.Gen.CdPostBwdIdeal.Frame
public import proofs.«01_k».proof.Proof.Gen.CdPostBwdReferenceIdeal.Run
public import proofs.«01_k».proof.Proof.Gen.CdPostBwdReferenceIdeal.Read
public import Idealize.ShloMosaic.Lib.Pipeline.ValueKit

@[expose] public section

noncomputable section

namespace Cert.CdPostBwdIdeal.Rows

open Cert.CdPostBwdIdeal Cert.CdPostBwdIdeal.Gen Idealize.ShloMosaic Idealize.ShloMosaic.TcCoe Idealize.SL.Sem Cert.Gelu
open Cert.CdPostBwdReferenceIdeal.Read

variable (h : FVec Ideal Cert.CdPostBwdReferenceIdeal.S8192x512 .f32) (g : FVec Ideal Cert.CdPostBwdReferenceIdeal.S8192x2048 .bf16)
  (d : FVec Ideal Cert.CdPostBwdReferenceIdeal.S8192x1024 .f32) (i : Fin 8192) (k : Fin 512)

theorem dx_apply : val_main_v25 (F := Ideal) d (ix2 i k) = d (ix2 i ⟨k.val, by omega⟩) := by pointwise [val_main_v25]

theorem dh_apply : val_main_v28 (F := Ideal) g d (ix2 i k) = d (ix2 i ⟨512 + k.val, by omega⟩) * gelu (g (ix2 i ⟨1024 + k.val, by omega⟩)) := by
  pointwise [val_main_v28, val_main_v26, val_main_v22, val_main_v21, val_main_v20, val_main_v19, val_main_v18, val_main_v12, val_main_v11, val_main_v10,
    val_main_v9, val_main_v8, val_main_v7, val_main_v3, val_main_v2, val_main_v1, val_main_v0, val_main_cst_0, val_main_cst_1, val_main_cst_4,
    val_main_cst_5, gelu]

theorem dg_apply : val_main_v41 (F := Ideal) h g d (ix2 i k)
    = gateGrad (g (ix2 i ⟨1024 + k.val, by omega⟩)) (h (ix2 i k) * d (ix2 i ⟨512 + k.val, by omega⟩)) := by
  pointwise [val_main_v41, val_main_v40, val_main_v39, val_main_v38, val_main_v37, val_main_v36, val_main_v35, val_main_v34, val_main_v33, val_main_v32,
    val_main_v31, val_main_v30, val_main_v29, val_main_v27, val_main_v26, val_main_v21, val_main_v20, val_main_v19, val_main_v18,
    val_main_v17, val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1,
    val_main_cst_2, val_main_cst_3, val_main_cst_4, val_main_cst_5, val_main_cst_6, val_main_cst_7, val_main_cst_8, gateGrad]

/-- A grid point's three blocks. -/
theorem block_apply (h : Vec Ideal S512x512 .f32) (g : Vec Ideal S512x512 .bf16) (d : Vec Ideal S512x1024 .f32) (r k : Fin 512) :
    k0_pay7 (F := Ideal) d (ix2 r k) = d (ix2 r ⟨k.val, by omega⟩)
    ∧ k0_pay9 (F := Ideal) g d (ix2 r k) = d (ix2 r ⟨512 + k.val, by omega⟩) * gelu (g (ix2 r k))
    ∧ k0_pay1 (k0_pay10 (F := Ideal) h g d) (ix2 r k) = gateGrad (g (ix2 r k)) (h (ix2 r k) * d (ix2 r ⟨512 + k.val, by omega⟩)) := by
  refine ⟨by pointwise [k0_pay7], ?_, ?_⟩
  · rw [← gelu_eq]
    pointwise [k0_pay9, k0_pay8, k0_pay6, k0_pay5, k0_pay4, k0_pay3, k0_pay2]
  · rw [← gateGrad_eq _ _ _ _ rfl rfl]
    pointwise [k0_pay1, k0_pay10, k0_pay8, k0_pay6, k0_pay5, k0_pay4, k0_pay3, k0_pay2]

variable (m : (ℓ : Loc nD τ sig) → Buf (Elt Ideal) ℓ) (ρ : Dev nD → PrngReg) (c : Dev nD)

/-- The arguments: the states, the projected input, of which the gate is a part, and the gradient that arrives. -/
abbrev argH : S8192x512.Idx → EReal := m ((c.tc : Thread nD τ).loc main_arg1)
abbrev argG : S8192x2048.Idx → EReal := m ((c.tc : Thread nD τ).loc main_arg2)
abbrev argD : S8192x1024.Idx → EReal := m ((c.tc : Thread nD τ).loc main_arg3)

/-- The plain formula's results. -/
abbrev wholeX : S8192x512.Idx → EReal := val_main_v25 (F := Ideal) (argD m c)
abbrev wholeH : S8192x512.Idx → EReal := val_main_v28 (F := Ideal) (argG m c) (argD m c)
abbrev wholeG : S8192x512.Idx → EReal := val_main_v41 (F := Ideal) (argH m c) (argG m c) (argD m c)

/-- Which blocks a grid point reads and writes. -/
theorem places : ∀ t : Fin cfg0.N, win0_1.index t = ![15 - t.val, 0] ∧ win0_2.index t = ![15 - t.val, 2] ∧ win0_3.index t = ![15 - t.val, 0]
    ∧ win0_4.index t = ![15 - t.val, 0] ∧ win0_5.index t = ![15 - t.val, 0] ∧ win0_6.index t = ![15 - t.val, 2] :=
  (by decide +kernel : ∀ t : Fin grid0.N, _)

/-- The row of the arrays that a row of a point's block is: the blocks are taken last to first. -/
def at' (t : Fin cfg0.N) (r : Fin 512) : Fin 8192 := ⟨(15 - t.val) * 512 + r.val, by have := r.isLt; omega⟩

theorem read_h (t : Fin cfg0.N) (r k : Fin 512) : (iblk m c 1 t : Vec Ideal S512x512 .f32) (ix2 r k) = argH m c (ix2 (at' t r) k) := by
  have e := (places t).1
  blk_simp [iblk]
  rw [V_main_arg1]
  refine congrArg _ (funext fun a => Fin.ext ?_)
  match a with
  | ⟨0, _⟩ => blk_simp [e]; rfl
  | ⟨1, _⟩ => blk_simp [e]

theorem read_g (t : Fin cfg0.N) (r k : Fin 512) :
    (iblk m c 2 t : Vec Ideal S512x512 .bf16) (ix2 r k) = argG m c (ix2 (at' t r) ⟨1024 + k.val, by omega⟩) := by
  have e := (places t).2.1
  blk_simp [iblk]
  rw [V_main_arg2]
  refine congrArg _ (funext fun a => Fin.ext ?_)
  match a with
  | ⟨0, _⟩ => blk_simp [e]; rfl
  | ⟨1, _⟩ => blk_simp [e]

theorem read_d (t : Fin cfg0.N) (r : Fin 512) (k : Fin 1024) :
    (iblk m c 3 t : Vec Ideal S512x1024 .f32) (ix2 r k) = argD m c (ix2 (at' t r) k) := by
  have e := (places t).2.2.1
  blk_simp [iblk]
  rw [V_main_arg3]
  refine congrArg _ (funext fun a => Fin.ext ?_)
  match a with
  | ⟨0, _⟩ => blk_simp [e]; rfl
  | ⟨1, _⟩ => blk_simp [e]

theorem blocks (t : Fin cfg0.N) (r k : Fin 512) : k0_pay7 (F := Ideal) (iblk m c 3 t) (ix2 r k) = wholeX m c (ix2 (at' t r) k)
    ∧ k0_pay9 (F := Ideal) (iblk m c 2 t) (iblk m c 3 t) (ix2 r k) = wholeH m c (ix2 (at' t r) k)
    ∧ k0_pay1 (k0_pay10 (F := Ideal) (iblk m c 1 t) (iblk m c 2 t) (iblk m c 3 t)) (ix2 r k) = wholeG m c (ix2 (at' t r) k) := by
  obtain ⟨hx, hh, hg⟩ := block_apply (iblk m c 1 t) (iblk m c 2 t) (iblk m c 3 t) r k
  refine ⟨hx.trans (Eq.trans ?_ (dx_apply _ _ _).symm), hh.trans (Eq.trans ?_ (dh_apply _ _ _ _).symm), hg.trans (Eq.trans ?_ (dg_apply _ _ _ _ _).symm)⟩
  all_goals simp only [read_h, read_g, read_d]
  all_goals rfl

theorem final_x : (dats m 0 c).arrAt 4 cfg0.N = wholeX m c := by
  refine (dats m 0 c).arrAt_eq_of_covers 4 _ (by decide +kernel) fun t hf y => ?_
  have e := (places t).2.2.2.1
  have b0 : (((cfg0.win 4).blk t).view.emb y : S8192x512.Idx) = ix2 (at' t (y 0)) (y 1) := funext fun a => Fin.ext (by
    match a with
    | ⟨0, _⟩ => blk_simp [e]; rfl
    | ⟨1, _⟩ => blk_simp [e]; simp [ix2])
  blk_simp
  rw [after0_4]
  frame_out
  have hy : (y : S512x512.Idx) = ix2 (y 0) (y 1) := Cert.Products.pair _
  exact (congrArg (k0_pay7 (F := Ideal) (iblk m c 3 t)) hy).trans ((blocks m c t (y 0) (y 1)).1.trans (congrArg (wholeX m c) b0).symm)

theorem final_h : (dats m 0 c).arrAt 5 cfg0.N = wholeH m c := by
  refine (dats m 0 c).arrAt_eq_of_covers 5 _ (by decide +kernel) fun t hf y => ?_
  have e := (places t).2.2.2.2.1
  have b0 : (((cfg0.win 5).blk t).view.emb y : S8192x512.Idx) = ix2 (at' t (y 0)) (y 1) := funext fun a => Fin.ext (by
    match a with
    | ⟨0, _⟩ => blk_simp [e]; rfl
    | ⟨1, _⟩ => blk_simp [e]; simp [ix2])
  blk_simp
  rw [after0_5]
  frame_out
  have hy : (y : S512x512.Idx) = ix2 (y 0) (y 1) := Cert.Products.pair _
  exact (congrArg (k0_pay9 (F := Ideal) (iblk m c 2 t) (iblk m c 3 t)) hy).trans
    ((blocks m c t (y 0) (y 1)).2.1.trans (congrArg (wholeH m c) b0).symm)

/-- The gate's gradient as a part of the projected input's. -/
def placed : S8192x2048.Idx → EReal := fun i => wholeG m c (ix2 (i 0) ⟨((i 1).val - 1024) % 512, Nat.mod_lt _ (by norm_num)⟩)

theorem final_g (i : Fin 8192) (k : Fin 512) : (dats m 0 c).arrAt 6 cfg0.N (ix2 i ⟨1024 + k.val, by omega⟩) = wholeG m c (ix2 i k) := by
  refine ((dats m 0 c).arrAt_emb_eq_of_coversWhere 6 (placed m c) (fun β => β (1 : Fin 2) = 2) (by decide +kernel) (fun t hf y => ?_) _).trans ?_
  · have e := (places t).2.2.2.2.2
    have y1 : (y 1).val < 512 := (y 1).isLt
    have b0 : placed m c (((cfg0.win 6).blk t).view.emb y) = wholeG m c (ix2 (at' t (y 0)) (y 1)) := by
      unfold placed
      refine congrArg (wholeG m c) (funext fun a => Fin.ext ?_)
      match a with
      | ⟨0, _⟩ => show ((((cfg0.win 6).blk t).view.emb y : S8192x2048.Idx) 0).val = _; blk_simp [e]; rfl
      | ⟨1, _⟩ =>
        show (((((cfg0.win 6).blk t).view.emb y : S8192x2048.Idx) 1).val - 1024) % 512 = (y 1).val
        blk_simp [e]
        simp
        omega
    refine Eq.trans ?_ b0.symm
    blk_simp
    rw [after0_6]
    frame_out
    have hy : (y : S512x512.Idx) = ix2 (y 0) (y 1) := Cert.Products.pair _
    exact (congrArg (k0_pay1 (k0_pay10 (F := Ideal) (iblk m c 1 t) (iblk m c 2 t) (iblk m c 3 t))) hy).trans (blocks m c t (y 0) (y 1)).2.2
  · rw [if_pos (by show (1024 + k.val) / 512 = 2; omega)]
    refine congrArg (wholeG m c) (funext fun a => Fin.ext ?_)
    match a with
    | ⟨0, _⟩ => rfl
    | ⟨1, _⟩ => show (1024 + k.val - 1024) % 512 = k.val; omega

/-- After the call, the gate's part is cut out. -/
theorem after_cut : Pipeline.afterTail₀ cfgs (dats m) 0 (V0 m) [hostOps1] c main_v1
    = extractStridedSlice (α := EReal) S8192x512 ![0, 1024] ((dats m 0 c).arrAt 6 cfg0.N) slices_S8192x2048_S8192x512_0_1024 := by
  have e := Pipeline.withArrays_arr spec0 launch0.win.arr_inj c (V0 m c) (fun w => (dats m 0 c).arrAt w cfg0.N) 6
  unfold Pipeline.afterTail₀
  show StableHlo.after hostOps1 _ _ = _
  unfold hostOps1
  after_results_simp
  exact congrArg (fun x => extractStridedSlice (α := EReal) S8192x512 ![0, 1024] x slices_S8192x2048_S8192x512_0_1024) e

theorem cut_apply (x : S8192x2048.Idx → EReal) (i : Fin 8192) (k : Fin 512) :
    extractStridedSlice (α := EReal) S8192x512 ![0, 1024] x slices_S8192x2048_S8192x512_0_1024 (ix2 i k) = x (ix2 i ⟨1024 + k.val, by omega⟩) := by
  pointwise

theorem cut_eq : Pipeline.afterTail₀ cfgs (dats m) 0 (V0 m) [hostOps1] c main_v1 = wholeG m c := by
  rw [after_cut]
  have h := fun i k => final_g m c i k
  generalize (dats m 0 c).arrAt 6 cfg0.N = x at h ⊢
  generalize wholeG m c = G at h ⊢
  funext j
  have hj : (j : S8192x512.Idx) = ix2 (j 0) (j 1) := Cert.Products.pair _
  rw [hj]
  exact (cut_apply _ _ _).trans (h _ _)

theorem run_values : θ_run defs (onTc (τ := τ) (main (F := Ideal))) ⟨m, fun _ => 0, ρ⟩ fun r => ∀ c : Dev nD,
      r.2.mem ((c : Thread nD τ).loc main_v0_0) = wholeX m c
      ∧ r.2.mem ((c : Thread nD τ).loc main_v0_1) = wholeH m c
      ∧ r.2.mem ((c : Thread nD τ).loc main_v1) = wholeG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 4).trans (final_x m c), ((h.1 c).1 5).trans (final_h m c),
      ((h.1 c).2 main_v1 (Pipeline.mem_restRefs_of main_v1 (by decide) (by decide))).trans (cut_eq m c), h.2 c⟩)
    (θ_run_and (run_main m ρ) (unchanged m ρ))

end Cert.CdPostBwdIdeal.Rows

namespace Cert.Proof.CdPostBwd

open Idealize.ShloMosaic Idealize.SL.Sem Cert.CdPostBwdReferenceIdeal.Read Cert.CdPostBwdIdeal.Rows

theorem frame_kernel : Cert.quiescent_CdPostBwd := fun m ρ _ => Cert.CdPostBwd.Gen.frame m ρ

theorem frame_kernelIdeal : Cert.quiescent_CdPostBwdIdeal := fun m ρ _ => Cert.CdPostBwdIdeal.Gen.frame m ρ

theorem frame_reference : Cert.quiescent_CdPostBwdReferenceIdeal := fun m ρ _ =>
  (θ_run Cert.CdPostBwdReferenceIdeal.defs _ _).mono (fun r h => ⟨fun c => (h c).2.2.2, sem_eq_zero_of_no_sems (by decide) r.2⟩)
    (Cert.CdPostBwdReferenceIdeal.Value.run (F := Ideal) m ρ)

theorem values : Cert.algebraic_CdPostBwdIdeal_CdPostBwdReferenceIdeal := fun m g m' g' _ hargs =>
  ⟨fun c => wholeX m c, fun c => wholeH m c, fun c => wholeG m c, run_values m g,
    (θ_run Cert.CdPostBwdReferenceIdeal.defs _ _).mono (fun r h c => by
        obtain ⟨e0, e1, e2, e3⟩ := hargs c
        obtain ⟨hx, hh, hg, hk⟩ := h c
        refine ⟨hx.trans ?_, hh.trans ?_, hg.trans ?_, hk⟩
        · rw [val_main_v25_eq, e3]
        · rw [val_main_v28_eq, e2, e3]
        · rw [val_main_v41_eq, e1, e2, e3])
      (Cert.CdPostBwdReferenceIdeal.Value.run (F := Ideal) m' g')⟩

end Cert.Proof.CdPostBwd

end
-- ==== Proof.RgConvValue.lean ====
/- The convolution before the recurrence: each row of its input and the three rows before, weighted and summed. -/
module

public import proofs.«01_k».proof.Defs
public import proofs.«01_k».proof.Proof.Products
public import proofs.«01_k».proof.Proof.Gen.RgConv.Frame
public import proofs.«01_k».proof.Proof.Gen.RgConvIdeal.Value
public import proofs.«01_k».proof.Proof.Gen.RgConvReferenceIdeal.Run
public import proofs.«01_k».proof.Proof.Gen.RgConvReferenceIdeal.Read
public import Idealize.ShloMosaic.Lib.Pipeline.ValueKit

@[expose] public section

noncomputable section

namespace Cert.RgConvIdeal.Rows

open Cert.RgConvIdeal Cert.RgConvIdeal.Gen Idealize.ShloMosaic Idealize.ShloMosaic.TcCoe Idealize.SL.Sem
open Cert.RgConvReferenceIdeal.Read

/-- The input's entry `s` rows before row `i`, zero before the first row. -/
def past (h : Cert.RgConvReferenceIdeal.S8192x2048.Idx → EReal) (i : Fin 8192) (k : Fin 512) (s : ℕ) : EReal :=
  if hs : s ≤ i.val then h (ix2 ⟨i.val - s, by omega⟩ ⟨1536 + k.val, by omega⟩) else 0

theorem whole_apply (h : FVec Ideal Cert.RgConvReferenceIdeal.S8192x2048 .bf16) (w : FVec Ideal Cert.RgConvReferenceIdeal.S4x512 .f32)
    (b : FVec Ideal Cert.RgConvReferenceIdeal.S512 .f32) (i : Fin 8192) (k : Fin 512) : val_main_v35 (F := Ideal) h w b (ix2 i k)
      = w (ix2 0 k) * past h i k 3 + w (ix2 1 k) * past h i k 2 + w (ix2 2 k) * past h i k 1 + w (ix2 3 k) * past h i k 0 + b (ix1 k) := by
  pointwise [val_main_v35, val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0]
  have q (s : ℕ) (hs : s ≤ 3) : (if _h : 3 - s + i.val < 3 then (0 : EReal) else h (ix2 ⟨3 - s + i.val - 3, by omega⟩ ⟨1536 + k.val, by omega⟩))
      = past h i k s := by
    unfold past
    have e : 3 - s + i.val - 3 = i.val - s := by omega
    split <;> split <;> first | omega | rfl | simp only [e]
  have q3 := q 3 (by omega); have q2 := q 2 (by omega); have q1 := q 1 (by omega)
  simp only [Nat.sub_self, Nat.zero_add, Nat.reduceSub] at q3 q2 q1
  rw [q3, q2, q1]
  rfl

/-- Row `n` of the eight rows before a block and the block's own. -/
def row (st : Vec Ideal S8x256 .f32) (x : Vec Ideal S1024x256 .bf16) (k : Fin 256) (n : ℕ) (hn : n < 1032) : EReal :=
  if h : n < 8 then st (ix2 ⟨n, h⟩ k) else x (ix2 ⟨n - 8, by omega⟩ k)

theorem block_apply (st : Vec Ideal S8x256 .f32) (w0 w1 w2 w3 b : Vec Ideal S1x256 .f32) (x : Vec Ideal S1024x256 .bf16) (r : Fin 1024) (k : Fin 256) :
    k0_pay5 (F := Ideal) st w0 w1 w2 w3 b x (ix2 r k) = b (ix2 0 k) + w0 (ix2 0 k) * row st x k (r.val + 5) (by omega)
      + w1 (ix2 0 k) * row st x k (r.val + 6) (by omega) + w2 (ix2 0 k) * row st x k (r.val + 7) (by omega) + w3 (ix2 0 k) * row st x k (r.val + 8) (by omega) := by
  pointwise [k0_pay5, k0_pay4]
  have q (s : ℕ) (hs : 1 ≤ s) (hs' : s ≤ 3) : (if h : (8 + r.val + 1032 - s) % 1032 < 8 then st (ix2 ⟨(8 + r.val + 1032 - s) % 1032, h⟩ k)
      else x (ix2 ⟨(8 + r.val + 1032 - s) % 1032 - 8, by omega⟩ k)) = row st x k (r.val + (8 - s)) (by omega) := by
    unfold row
    have e : (8 + r.val + 1032 - s) % 1032 = r.val + (8 - s) := by omega
    simp only [e]
  have q0 : row st x k (r.val + 8) (by omega) = x (ix2 r k) := by
    unfold row
    rw [dif_neg (by omega)]
    rfl
  rw [q 3 (by omega) (by omega), q 2 (by omega) (by omega), q 1 (by omega) (by omega), q0]

theorem last_apply (x : Vec Ideal S1024x256 .bf16) (r : Fin 8) (k : Fin 256) :
    k0_pay2 (k0_pay6 (F := Ideal) x) (ix2 r k) = x (ix2 ⟨1016 + r.val, by omega⟩ k) := by
  pointwise [k0_pay2, k0_pay6, k0_pay4]

theorem first_apply (i : S8x256.Idx) : k0_pay3 (F := Ideal) i = 0 := by
  pointwise [k0_pay3]

variable (m : (ℓ : Loc nD τ sig) → Buf (Elt Ideal) ℓ) (ρ : Dev nD → PrngReg) (c : Dev nD)

/-- The arguments: the projected input, the four rows of weights, and the bias. -/
abbrev argH : S8192x2048.Idx → EReal := m ((c.tc : Thread nD τ).loc main_arg0)
abbrev argW : S4x512.Idx → EReal := m ((c.tc : Thread nD τ).loc main_arg1)
abbrev argB : S512.Idx → EReal := m ((c.tc : Thread nD τ).loc main_arg2)

/-- The plain formula's result. -/
abbrev whole : S8192x512.Idx → EReal := val_main_v35 (F := Ideal) (argH m c) (argW m c) (argB m c)

/-- Which blocks a grid point reads and writes: the rows run fastest. -/
theorem places : ∀ t : Fin cfg0.N, (win0_0.index t = ![0, t.val / 8] ∧ win0_1.index t = ![0, t.val / 8] ∧ win0_2.index t = ![0, t.val / 8]
    ∧ win0_3.index t = ![0, t.val / 8] ∧ win0_4.index t = ![0, t.val / 8]) ∧ win0_5.index t = ![t.val % 8, 6 + t.val / 8]
    ∧ win0_6.index t = ![t.val % 8, t.val / 8] := (by decide +kernel : ∀ t : Fin grid0.N, _)

/-- The row and the column of the arrays that those of a point's block are. -/
def rowAt (t : Fin cfg0.N) (r : Fin 1024) : Fin 8192 := ⟨t.val % 8 * 1024 + r.val, by have := r.isLt; omega⟩
def colAt (t : Fin cfg0.N) (k : Fin 256) : Fin 512 := ⟨t.val / 8 * 256 + k.val, by have := k.isLt; have : t.val < 16 := t.isLt; omega⟩

theorem cast_row (s : S1x512.Idx → EReal) (k : Fin 512) :
    shapeCast (α := EReal) S1x512 (shapeCast S512 s shapeCasts_S1x512_S512) shapeCasts_S512_S1x512 (ix2 0 k) = s (ix2 0 k) := by
  pointwise

theorem cast_apply (b : S512.Idx → EReal) (k : Fin 512) : shapeCast (α := EReal) S1x512 b shapeCasts_S512_S1x512 (ix2 0 k) = b (ix1 k) := by
  pointwise

/-- The rows of weights and the bias, each made a row before the call. -/
theorem rows_eq : (∀ k : Fin 512, (V m c main_v2 : S1x512.Idx → EReal) (ix2 0 k) = argW m c (ix2 0 k))
    ∧ (∀ k : Fin 512, (V m c main_v5 : S1x512.Idx → EReal) (ix2 0 k) = argW m c (ix2 1 k))
    ∧ (∀ k : Fin 512, (V m c main_v8 : S1x512.Idx → EReal) (ix2 0 k) = argW m c (ix2 2 k))
    ∧ (∀ k : Fin 512, (V m c main_v11 : S1x512.Idx → EReal) (ix2 0 k) = argW m c (ix2 3 k))
    ∧ ∀ k : Fin 512, (V m c main_v12 : S1x512.Idx → EReal) (ix2 0 k) = argB m c (ix1 k) := by
  refine ⟨fun k => ?_, fun k => ?_, fun k => ?_, fun k => ?_, fun k => ?_⟩
  all_goals
    show StableHlo.after hostOps0 (fun b => m (c, b)) _ _ = _
    unfold hostOps0
    after_results_simp
  iterate 4
    · refine (cast_row _ k).trans ?_
      pointwise
  · exact cast_apply _ k

theorem reads (t : Fin cfg0.N) (k : Fin 256) : (iblk m c 0 t : Vec Ideal S1x256 .f32) (ix2 0 k) = argW m c (ix2 0 (colAt t k))
    ∧ (iblk m c 1 t : Vec Ideal S1x256 .f32) (ix2 0 k) = argW m c (ix2 1 (colAt t k))
    ∧ (iblk m c 2 t : Vec Ideal S1x256 .f32) (ix2 0 k) = argW m c (ix2 2 (colAt t k))
    ∧ (iblk m c 3 t : Vec Ideal S1x256 .f32) (ix2 0 k) = argW m c (ix2 3 (colAt t k))
    ∧ (iblk m c 4 t : Vec Ideal S1x256 .f32) (ix2 0 k) = argB m c (ix1 (colAt t k)) := by
  obtain ⟨⟨e0, e1, e2, e3, e4⟩, -⟩ := places t
  obtain ⟨v0, v1, v2, v3, v4⟩ := rows_eq m c
  refine ⟨?_, ?_, ?_, ?_, ?_⟩
  all_goals
    first | rw [← v0] | rw [← v1] | rw [← v2] | rw [← v3] | rw [← v4]
    blk_simp [iblk]
    refine congrArg _ (funext fun a => Fin.ext ?_)
    match a with
    | ⟨0, _⟩ => blk_simp [e0, e1, e2, e3, e4]
    | ⟨1, _⟩ => blk_simp [e0, e1, e2, e3, e4]; rfl

theorem read_h (t : Fin cfg0.N) (r : Fin 1024) (k : Fin 256) : (iblk m c 5 t : Vec Ideal S1024x256 .bf16) (ix2 r k)
    = argH m c (ix2 (rowAt t r) ⟨1536 + (colAt t k).val, by omega⟩) := by
  have e5 := (places t).2.1
  blk_simp [iblk]
  rw [V_main_arg0]
  refine congrArg _ (funext fun a => Fin.ext ?_)
  match a with
  | ⟨0, _⟩ => blk_simp [e5]; rfl
  | ⟨1, _⟩ => blk_simp [e5]; show (6 + t.val / 8) * 256 + k.val = 1536 + (t.val / 8 * 256 + k.val); omega

/-- Each point leaves its block's last eight rows for the next. -/
theorem left (t : Fin cfg0.N) : (outsAt0 m c t.val t.isLt).2.2 = k0_pay2 (k0_pay6 (F := Ideal) (iblk m c 5 t)) := by
  by_cases h : t.val % 8 = 0
  · rw [outsAt0_A m c t h]
    frame_out
  · rw [outsAt0_B m c t h]
    frame_out

/-- The eight rows that a point finds before its block: zeros at the first rows, else those the point before left. -/
def found (t : Fin cfg0.N) : Vec Ideal S8x256 .f32 :=
  if t.val % 8 = 0 then k0_pay3 (F := Ideal) else k0_pay2 (k0_pay6 (F := Ideal) (iblk m c 5 ⟨t.val - 1, by have := t.isLt; omega⟩))

theorem out_eq (t : Fin cfg0.N) : (outsAt0 m c t.val t.isLt).1
    = k0_pay5 (F := Ideal) (found m c t) (iblk m c 0 t) (iblk m c 1 t) (iblk m c 2 t) (iblk m c 3 t) (iblk m c 4 t) (iblk m c 5 t) := by
  unfold found
  by_cases h : t.val % 8 = 0
  · rw [outsAt0_A m c t h, if_pos h]
    frame_out
  · rw [outsAt0_B m c t h, if_neg h, ← left]
    frame_out
    exact congrArg (fun z => k0_pay5 (F := Ideal) z _ _ _ _ _ _) ((Memref.isWhole_whole cc0_scratch0).read_unread _)

theorem row_eq (t : Fin cfg0.N) (r : Fin 1024) (k : Fin 256) (n s : ℕ) (hn : n < 1032) (hs : s ≤ 3) (e : n + s = r.val + 8) :
    row (found m c t) (iblk m c 5 t) k n hn = past (argH m c) (rowAt t r) (colAt t k) s := by
  have hr : (rowAt t r).val = t.val % 8 * 1024 + r.val := rfl
  unfold row past found
  by_cases h : n < 8
  · rw [dif_pos h]
    by_cases h0 : t.val % 8 = 0
    · rw [if_pos h0, dif_neg (by omega), first_apply]
    · rw [if_neg h0, dif_pos (by omega), last_apply, read_h]
      refine congrArg _ (funext fun a => Fin.ext ?_)
      match a with
      | ⟨0, _⟩ => show (t.val - 1) % 8 * 1024 + (1016 + n) = (rowAt t r).val - s; omega
      | ⟨1, _⟩ => show 1536 + ((t.val - 1) / 8 * 256 + k.val) = 1536 + (t.val / 8 * 256 + k.val); omega
  · rw [dif_neg h, dif_pos (by omega), read_h]
    refine congrArg _ (funext fun a => Fin.ext ?_)
    match a with
    | ⟨0, _⟩ => show t.val % 8 * 1024 + (n - 8) = (rowAt t r).val - s; omega
    | ⟨1, _⟩ => rfl

theorem block_eq (t : Fin cfg0.N) (r : Fin 1024) (k : Fin 256) :
    (outsAt0 m c t.val t.isLt).1 (ix2 r k) = whole m c (ix2 (rowAt t r) (colAt t k)) := by
  rw [out_eq]
  refine (block_apply _ _ _ _ _ _ _ _ _).trans (Eq.trans ?_ (whole_apply _ _ _ _ _).symm)
  obtain ⟨e0, e1, e2, e3, e4⟩ := reads m c t k
  rw [row_eq m c t r k _ 3 _ (by omega) (by omega), row_eq m c t r k _ 2 _ (by omega) (by omega), row_eq m c t r k _ 1 _ (by omega) (by omega),
    row_eq m c t r k _ 0 _ (by omega) (by omega), e0, e1, e2, e3, e4]
  abel

theorem final : (dats m 0 c).arrAt 6 cfg0.N = whole m c := by
  refine (dats m 0 c).arrAt_eq_of_covers 6 _ (by decide +kernel) fun t hf y => ?_
  have e6 := (places t).2.2
  have b0 : (((cfg0.win 6).blk t).view.emb y : S8192x512.Idx) = ix2 (rowAt t (y 0)) (colAt t (y 1)) := funext fun a => Fin.ext (by
    match a with
    | ⟨0, _⟩ => blk_simp [e6]; rfl
    | ⟨1, _⟩ => blk_simp [e6]; rfl)
  blk_simp
  rw [after0_6]
  have hy : (y : S1024x256.Idx) = ix2 (y 0) (y 1) := Cert.Products.pair _
  exact (congrArg (outsAt0 m c t.val t.isLt).1 hy).trans ((block_eq m c t (y 0) (y 1)).trans (congrArg (whole m c) b0).symm)

end Cert.RgConvIdeal.Rows

namespace Cert.Proof.RgConv

open Idealize.ShloMosaic Idealize.SL.Sem Cert.RgConvReferenceIdeal.Read Cert.RgConvIdeal.Rows

theorem frame_kernel : Cert.quiescent_RgConv := fun m ρ _ => Cert.RgConv.Gen.frame m ρ

theorem frame_kernelIdeal : Cert.quiescent_RgConvIdeal := fun m ρ _ => Cert.RgConvIdeal.Gen.frame m ρ

theorem frame_reference : Cert.quiescent_RgConvReferenceIdeal := fun m ρ _ =>
  (θ_run Cert.RgConvReferenceIdeal.defs _ _).mono (fun r h => ⟨fun c => (h c).2, sem_eq_zero_of_no_sems (by decide) r.2⟩)
    (Cert.RgConvReferenceIdeal.Value.run (F := Ideal) m ρ)

theorem values : Cert.algebraic_RgConvIdeal_RgConvReferenceIdeal := fun m g m' g' _ hargs =>
  ⟨fun c => whole m c,
    (θ_run Cert.RgConvIdeal.defs _ _).mono (fun r h c => ⟨(h c).1.trans (final m c), (h c).2.2⟩)
      (Cert.RgConvIdeal.Value.run_blocks (F := Ideal) m g),
    (θ_run Cert.RgConvReferenceIdeal.defs _ _).mono (fun r h c => ⟨(h c).1.trans (by
        obtain ⟨e0, e1, e2⟩ := hargs c
        rw [val_main_v35_eq, e0, e1, e2]), (h c).2⟩)
      (Cert.RgConvReferenceIdeal.Value.run (F := Ideal) m' g')⟩

end Cert.Proof.RgConv

end
-- ==== Proof.RgConvBwdValue.lean ====
/- The gradients of the convolution before the recurrence: of its input, of the four rows of weights, and of the bias. -/
module

public import proofs.«01_k».proof.Defs
public import proofs.«01_k».proof.Proof.Products
public import proofs.«01_k».proof.Proof.Gen.RgConvBwd.Frame
public import proofs.«01_k».proof.Proof.Gen.RgConvBwdIdeal.Frame
public import proofs.«01_k».proof.Proof.Gen.RgConvBwdReferenceIdeal.Run
public import proofs.«01_k».proof.Proof.Gen.RgConvBwdReferenceIdeal.Read
public import Idealize.ShloMosaic.Lib.Pipeline.ValueKit

@[expose] public section

noncomputable section

namespace Cert.RgConvBwdIdeal.Rows

open Cert.RgConvBwdIdeal Cert.RgConvBwdIdeal.Gen Idealize.ShloMosaic Idealize.ShloMosaic.TcCoe Idealize.SL.Sem
open Cert.RgConvBwdReferenceIdeal.Read

/-- The input's entry `s` rows before row `i`, zero before the first row. -/
def past (h : Cert.RgConvBwdReferenceIdeal.S8192x2048.Idx → EReal) (i : Fin 8192) (k : Fin 512) (s : ℕ) : EReal :=
  if hs : s ≤ i.val then h (ix2 ⟨i.val - s, by omega⟩ ⟨1536 + k.val, by omega⟩) else 0

/-- The arriving gradient's entry in row `n`, zero after the last row. -/
def arriving (d : Cert.RgConvBwdReferenceIdeal.S8192x512.Idx → EReal) (n : ℕ) (k : Fin 512) : EReal :=
  if hn : n < 8192 then d (ix2 ⟨n, hn⟩ k) else 0

/-- A product that is there on one condition only, and a factor that is. -/
theorem only {p q : Prop} [Decidable p] [Decidable q] {f : p → EReal} {g : q → EReal} {a : EReal} (hpq : p ↔ q) (hf : ∀ x y, f x = a * g y) :
    (if x : p then f x else 0) = a * (if y : q then g y else 0) := by
  by_cases x : p
  · rw [dif_pos x, dif_pos (hpq.mp x), hf]
  · rw [dif_neg x, dif_neg (fun y => x (hpq.mpr y)), mul_zero]

theorem onlyNot {p q : Prop} [Decidable p] [Decidable q] {f : ¬p → EReal} {g : q → EReal} {a : EReal} (hpq : ¬p ↔ q) (hf : ∀ x y, f x = a * g y) :
    (if x : p then 0 else f x) = a * (if y : q then g y else 0) := by
  by_cases x : p
  · rw [dif_pos x, dif_neg (fun y => hpq.mpr y x), mul_zero]
  · rw [dif_neg x, dif_pos (hpq.mp x), hf]

variable (h : FVec Ideal Cert.RgConvBwdReferenceIdeal.S8192x2048 .bf16) (w : FVec Ideal Cert.RgConvBwdReferenceIdeal.S4x512 .f32)
  (d : FVec Ideal Cert.RgConvBwdReferenceIdeal.S8192x512 .f32) (k : Fin 512)

theorem input_apply (i : Fin 8192) : val_main_v87 (F := Ideal) w d (ix2 i k) = w (ix2 3 k) * arriving d i.val k + w (ix2 2 k) * arriving d (i.val + 1) k
    + w (ix2 1 k) * arriving d (i.val + 2) k + w (ix2 0 k) * arriving d (i.val + 3) k := by
  pointwise [val_main_v87, val_main_v86, val_main_v85, val_main_v84, val_main_v79, val_main_v78, val_main_v73, val_main_v72, val_main_v68,
    val_main_v67, val_main_v62, val_main_v61, val_main_v57, val_main_v56, val_main_v51, val_main_v50, val_main_v47, val_main_v42, val_main_v41,
    val_main_v37, val_main_v30, val_main_v28, val_main_v27, val_main_v23, val_main_v21, val_main_v20, val_main_v16, val_main_v14, val_main_v13, val_main_v8,
    val_main_v6, val_main_v5, val_main_cst_6, val_main_cst_10, val_main_cst_14, val_main_cst_18, val_main_cst_20]
  have q0 : arriving d i.val k = d (ix2 i k) := dif_pos i.isLt
  rw [q0]
  unfold arriving
  refine congrArg₂ (· + ·) (congrArg₂ (· + ·) (congrArg _ (only (by omega) fun x y => ?_)) (only (by omega) fun x y => ?_)) (only (by omega) fun x y => ?_)
  · simp only [show 3 + i.val - 2 = i.val + 1 by omega]
  · simp only [show 3 + i.val - 1 = i.val + 2 by omega]
  · simp only [Nat.add_comm 3]

theorem shifted_apply (i : Fin 8192) : val_main_v7 (F := Ideal) h (ix2 i k) = past h i k 3 ∧ val_main_v15 (F := Ideal) h (ix2 i k) = past h i k 2
    ∧ val_main_v22 (F := Ideal) h (ix2 i k) = past h i k 1 ∧ val_main_v29 (F := Ideal) h (ix2 i k) = past h i k 0 := by
  have q (s : ℕ) (hs : s ≤ 3) : (if _h : 3 - s + i.val < 3 then (0 : EReal) else h (ix2 ⟨3 - s + i.val - 3, by omega⟩ ⟨1536 + k.val, by omega⟩))
      = past h i k s := by
    unfold past
    have e : 3 - s + i.val - 3 = i.val - s := by omega
    split <;> split <;> first | omega | rfl | simp only [e]
  have q3 := q 3 (by omega); have q2 := q 2 (by omega); have q1 := q 1 (by omega)
  simp only [Nat.sub_self, Nat.zero_add, Nat.reduceSub] at q3 q2 q1
  rw [← q3, ← q2, ← q1]
  refine ⟨?_, ?_, ?_, ?_⟩
  · pointwise [val_main_v7, val_main_v3, val_main_v2, val_main_v1, val_main_v0, val_main_cst]
  · pointwise [val_main_v15, val_main_v3, val_main_v2, val_main_v1, val_main_v0, val_main_cst]
  · pointwise [val_main_v22, val_main_v3, val_main_v2, val_main_v1, val_main_v0, val_main_cst]
  · pointwise [val_main_v29, val_main_v3, val_main_v2, val_main_v1, val_main_v0, val_main_cst]
    rfl

/-- The gradients of the four rows of weights and of the bias: sums over the rows. -/
theorem sums_apply : val_main_v77 (F := Ideal) h d (ix1 k) = ∑ i : Fin 8192, d (ix2 i k) * past h i k 3
    ∧ val_main_v66 (F := Ideal) h d (ix1 k) = ∑ i : Fin 8192, d (ix2 i k) * past h i k 2
    ∧ val_main_v55 (F := Ideal) h d (ix1 k) = ∑ i : Fin 8192, d (ix2 i k) * past h i k 1
    ∧ val_main_v46 (F := Ideal) h d (ix1 k) = ∑ i : Fin 8192, d (ix2 i k) * past h i k 0
    ∧ val_main_v40 (F := Ideal) d (ix1 k) = ∑ i : Fin 8192, d (ix2 i k) := by
  simp only [← (shifted_apply h k _).1, ← (shifted_apply h k _).2.1, ← (shifted_apply h k _).2.2.1, ← (shifted_apply h k _).2.2.2]
  refine ⟨?_, ?_, ?_, ?_, ?_⟩
  · pointwise [val_main_v77, val_main_v76, val_main_v75, val_main_v74, val_main_v37, val_main_cst_16, val_main_cst_17]
    exact Fin.sum_univ_one _
  · pointwise [val_main_v66, val_main_v65, val_main_v64, val_main_v63, val_main_v37, val_main_cst_12, val_main_cst_13]
    exact Fin.sum_univ_one _
  · pointwise [val_main_v55, val_main_v54, val_main_v53, val_main_v52, val_main_v37, val_main_cst_8, val_main_cst_9]
    exact Fin.sum_univ_one _
  · pointwise [val_main_v46, val_main_v45, val_main_v44, val_main_v43, val_main_v37, val_main_cst_4, val_main_cst_5]
    exact Fin.sum_univ_one _
  · pointwise [val_main_v40, val_main_v39, val_main_v38, val_main_cst_2, val_main_cst_3]
    exact Fin.sum_univ_one _

theorem weights_apply : val_main_v82 (F := Ideal) h d (ix2 0 k) = val_main_v77 (F := Ideal) h d (ix1 k)
    ∧ val_main_v82 (F := Ideal) h d (ix2 1 k) = val_main_v66 (F := Ideal) h d (ix1 k)
    ∧ val_main_v82 (F := Ideal) h d (ix2 2 k) = val_main_v55 (F := Ideal) h d (ix1 k)
    ∧ val_main_v82 (F := Ideal) h d (ix2 3 k) = val_main_v46 (F := Ideal) h d (ix1 k) := by
  refine ⟨?_, ?_, ?_, ?_⟩
  all_goals
    pointwise [val_main_v82, val_main_v81, val_main_v80, val_main_v71, val_main_v70, val_main_v69, val_main_v60, val_main_v59, val_main_v58,
      val_main_v49, val_main_v48, val_main_cst_7, val_main_cst_11, val_main_cst_15, val_main_cst_19]

/-! ## One block -/

/-- Row `n` of the eight rows before a block and the block's own. -/
def row (st : Vec Ideal S1x1x8x256 .f32) (x : Vec Ideal S1024x256 .bf16) (k : Fin 256) (n : ℕ) (hn : n < 1032) : EReal :=
  if h : n < 8 then st (ix4 0 0 ⟨n, h⟩ k) else x (ix2 ⟨n - 8, by omega⟩ k)

/-- Row `n` of eight rows of zeros, a block, and zeros after it. -/
def own (d : Vec Ideal S1024x256 .f32) (k : Fin 256) (n : ℕ) : EReal :=
  if h : 8 ≤ n ∧ n < 1032 then d (ix2 ⟨n - 8, by omega⟩ k) else 0

section Block

variable (w0 w1 w2 w3 acc : Vec Ideal S1x256 .f32) (st : Vec Ideal S1x1x8x256 .f32) (x : Vec Ideal S1024x256 .bf16) (e : Vec Ideal S1024x256 .f32)
  (o : Vec Ideal S8x256 .f32) (k : Fin 256)

theorem rows_apply (n : Fin 1032) : k0_pay29 (F := Ideal) (k0_pay13 w0) (k0_pay14 w1) (k0_pay15 w2) (k0_pay21 e) (k0_pay23 w3 e) (ix2 n k)
    = w3 (ix2 0 k) * own e k n.val + w2 (ix2 0 k) * own e k (n.val + 1) + w1 (ix2 0 k) * own e k (n.val + 2) + w0 (ix2 0 k) * own e k (n.val + 3) := by
  pointwise [k0_pay29, k0_pay13, k0_pay14, k0_pay15, k0_pay21, k0_pay23, k0_pay22]
  unfold own
  refine congrArg₂ (· + ·) (congrArg₂ (· + ·) (congrArg₂ (· + ·) (onlyNot (by omega) fun x y => rfl) (onlyNot (by omega) fun x y => ?_))
    (onlyNot (by omega) fun x y => ?_)) (onlyNot (by omega) fun x y => ?_)
  · simp only [show (n.val + 1032 - 1031) % 1032 = n.val + 1 by omega]
  · simp only [show (n.val + 1032 - 1030) % 1032 = n.val + 2 by omega]
  · simp only [show (n.val + 1032 - 1029) % 1032 = n.val + 3 by omega]

theorem past_apply (r : Fin 1024) : k0_pay17 (F := Ideal) x st (ix2 r k) = row st x k (r.val + 5) (by omega)
    ∧ k0_pay18 (F := Ideal) x st (ix2 r k) = row st x k (r.val + 6) (by omega)
    ∧ k0_pay19 (F := Ideal) x st (ix2 r k) = row st x k (r.val + 7) (by omega) := by
  have q (s : ℕ) (hs : 1 ≤ s) (hs' : s ≤ 3) : (if h : (8 + r.val + 1032 - s) % 1032 < 8 then st (ix4 0 0 ⟨(8 + r.val + 1032 - s) % 1032, h⟩ k)
      else x (ix2 ⟨(8 + r.val + 1032 - s) % 1032 - 8, by omega⟩ k)) = row st x k (r.val + (8 - s)) (by omega) := by
    unfold row
    have e : (8 + r.val + 1032 - s) % 1032 = r.val + (8 - s) := by omega
    simp only [e]
  refine ⟨Eq.trans ?_ (q 3 (by omega) (by omega)), Eq.trans ?_ (q 2 (by omega) (by omega)), Eq.trans ?_ (q 1 (by omega) (by omega))⟩
  · pointwise [k0_pay17, k0_pay16]
  · pointwise [k0_pay18, k0_pay16]
  · pointwise [k0_pay19, k0_pay16]

theorem sums_step : k0_pay32 (F := Ideal) (k0_pay17 x st) (k0_pay21 e) acc (ix2 0 k) = acc (ix2 0 k) + ∑ r : Fin 1024, e (ix2 r k) * row st x k (r.val + 5) (by omega)
    ∧ k0_pay1 (F := Ideal) (k0_pay27 (k0_pay18 x st) (k0_pay21 e)) (k0_pay33 acc) (ix2 0 k)
      = acc (ix2 0 k) + ∑ r : Fin 1024, e (ix2 r k) * row st x k (r.val + 6) (by omega)
    ∧ k0_pay2 (F := Ideal) (k0_pay26 (k0_pay19 x st) (k0_pay21 e)) acc (ix2 0 k)
      = acc (ix2 0 k) + ∑ r : Fin 1024, e (ix2 r k) * row st x k (r.val + 7) (by omega)
    ∧ k0_pay3 (F := Ideal) (k0_pay25 (k0_pay24 x st e)) acc (ix2 0 k) = acc (ix2 0 k) + ∑ r : Fin 1024, e (ix2 r k) * row st x k (r.val + 8) (by omega)
    ∧ k0_pay4 (F := Ideal) (k0_pay28 (k0_pay21 e)) acc (ix2 0 k) = acc (ix2 0 k) + ∑ r : Fin 1024, e (ix2 r k) := by
  simp only [← (past_apply st x k _).1, ← (past_apply st x k _).2.1, ← (past_apply st x k _).2.2]
  refine ⟨?_, ?_, ?_, ?_, ?_⟩
  · pointwise [k0_pay32, k0_pay21]
  · pointwise [k0_pay1, k0_pay27, k0_pay21, k0_pay33]
  · pointwise [k0_pay2, k0_pay26, k0_pay21]
  · pointwise [k0_pay3, k0_pay25, k0_pay24, k0_pay22, k0_pay16]
    refine congrArg _ (Finset.sum_congr rfl fun r _ => congrArg _ ?_)
    unfold row
    rw [dif_neg (by omega)]
    rfl
  · pointwise [k0_pay4, k0_pay28, k0_pay21]

theorem zero_apply (j : S1x256.Idx) : k0_pay8 (F := Ideal) j = 0 := by
  pointwise [k0_pay8]

theorem left_zero (j : S8x256.Idx) : k0_pay7 (F := Ideal) j = 0 := by
  pointwise [k0_pay7]

variable (a0 a1 a2 : FVec Ideal S1x256 .f32) (a3 a4 : FVec Ideal S1024x256 .f32)

theorem left_apply (q : Fin 8) : k0_pay6 (F := Ideal) (k0_pay30 a0 a1 a2 a3 a4) (ix2 q k) = k0_pay29 (F := Ideal) a0 a1 a2 a3 a4 (ix2 ⟨q.val, by omega⟩ k) := by
  pointwise [k0_pay6, k0_pay30]

theorem out_apply (r : Fin 1024) : k0_pay5 (F := Ideal) (k0_pay31 a0 a1 a2 (k0_pay20 o) a3 a4) (ix2 r k)
    = (if h : r.val < 1016 then 0 else o (ix2 ⟨r.val - 1016, by omega⟩ k)) + k0_pay29 (F := Ideal) a0 a1 a2 a3 a4 (ix2 ⟨r.val + 8, by omega⟩ k) := by
  pointwise [k0_pay5, k0_pay31, k0_pay20]
  simp only [Nat.add_comm 8]

end Block

/-! ## The run -/

variable (m : (ℓ : Loc nD τ sig) → Buf (Elt Ideal) ℓ) (ρ : Dev nD → PrngReg) (c : Dev nD)

/-- The arguments: the projected input, the four rows of weights, and the gradient that arrives. -/
abbrev argH : S8192x2048.Idx → EReal := m ((c.tc : Thread nD τ).loc main_arg0)
abbrev argW : S4x512.Idx → EReal := m ((c.tc : Thread nD τ).loc main_arg1)
abbrev argD : S8192x512.Idx → EReal := m ((c.tc : Thread nD τ).loc main_arg3)

/-- The plain formula's results. -/
abbrev wholeX : S8192x512.Idx → EReal := val_main_v87 (F := Ideal) (argW m c) (argD m c)
abbrev wholeW : S4x512.Idx → EReal := val_main_v82 (F := Ideal) (argH m c) (argD m c)
abbrev wholeB : S512.Idx → EReal := val_main_v40 (F := Ideal) (argD m c)

/-- Which blocks a grid point reads and writes: the rows run fastest, and from the last to the first. -/
theorem places : ∀ t : Fin cfg0.N, (win0_0.index t = ![0, t.val / 8] ∧ win0_1.index t = ![0, t.val / 8] ∧ win0_2.index t = ![0, t.val / 8]
    ∧ win0_3.index t = ![0, t.val / 8]) ∧ win0_5.index t = ![7 - t.val % 8, 6 + t.val / 8] ∧ win0_6.index t = ![t.val / 8, 7 - t.val % 8, 0, 0]
    ∧ win0_7.index t = ![7 - t.val % 8, t.val / 8] ∧ (win0_8.index t = ![0, t.val / 8] ∧ win0_9.index t = ![0, t.val / 8]
    ∧ win0_10.index t = ![0, t.val / 8] ∧ win0_11.index t = ![0, t.val / 8] ∧ win0_12.index t = ![0, t.val / 8])
    ∧ win0_13.index t = ![7 - t.val % 8, 6 + t.val / 8] := (by decide +kernel : ∀ t : Fin grid0.N, _)

/-- The row and the column of the arrays that those of a point's block are. -/
def rowAt (t : Fin cfg0.N) (r : Fin 1024) : Fin 8192 := ⟨(7 - t.val % 8) * 1024 + r.val, by have := r.isLt; omega⟩
def colAt (t : Fin cfg0.N) (k : Fin 256) : Fin 512 := ⟨t.val / 8 * 256 + k.val, by have := k.isLt; have : t.val < 16 := t.isLt; omega⟩

theorem cast_row (s : S1x512.Idx → EReal) (k : Fin 512) :
    shapeCast (α := EReal) S1x512 (shapeCast S512 s shapeCasts_S1x512_S512) shapeCasts_S512_S1x512 (ix2 0 k) = s (ix2 0 k) := by
  pointwise

/-- The rows of weights, each made a row before the call. -/
theorem rows_eq : (∀ k : Fin 512, (V m c main_v2 : S1x512.Idx → EReal) (ix2 0 k) = argW m c (ix2 0 k))
    ∧ (∀ k : Fin 512, (V m c main_v5 : S1x512.Idx → EReal) (ix2 0 k) = argW m c (ix2 1 k))
    ∧ (∀ k : Fin 512, (V m c main_v8 : S1x512.Idx → EReal) (ix2 0 k) = argW m c (ix2 2 k))
    ∧ ∀ k : Fin 512, (V m c main_v11 : S1x512.Idx → EReal) (ix2 0 k) = argW m c (ix2 3 k) := by
  refine ⟨fun k => ?_, fun k => ?_, fun k => ?_, fun k => ?_⟩
  all_goals
    show StableHlo.after hostOps0 (fun b => m (c, b)) _ _ = _
    unfold hostOps0
    after_results_simp
    refine (cast_row _ k).trans ?_
    pointwise

/-- The eight rows of the input before each block of rows, zeros before the first. -/
def before (h : S8192x2048.Idx → EReal) (j : Fin 8) : S8x512.Idx → EReal :=
  fun i => if hj : j.val = 0 then 0 else h (ix2 ⟨j.val * 1024 - 8 + (i 0).val, by have : (i 0).val < 8 := (i 0).isLt; omega⟩
    ⟨1536 + (i 1).val, by have : (i 1).val < 512 := (i 1).isLt; omega⟩)

theorem at_eq (h : S8192x2048.Idx → EReal) {i i' j j' : ℕ} (hi : i < 8192) (hi' : i' < 8192) (hj : j < 2048) (hj' : j' < 2048) (ei : i = i') (ej : j = j') :
    h (ix2 ⟨i, hi⟩ ⟨j, hj⟩) = h (ix2 ⟨i', hi'⟩ ⟨j', hj'⟩) := by
  subst ei ej
  rfl

/-- The eight rows before each block, one block under the other, then each column half apart. -/
abbrev pile (x0 x1 x2 x3 x4 x5 x6 x7 : S8x512.Idx → EReal) : S2x8x8x256.Idx → EReal :=
  transpose S2x8x8x256 [2, 0, 1, 3] (shapeCast S8x8x2x256 (concatenate S64x512 0 [⟨S8x512, x0⟩, ⟨S8x512, x1⟩, ⟨S8x512, x2⟩, ⟨S8x512, x3⟩, ⟨S8x512, x4⟩, ⟨S8x512, x5⟩,
    ⟨S8x512, x6⟩, ⟨S8x512, x7⟩] concatenates_S8x512_S8x512_S8x512_S8x512_S8x512_S8x512_S8x512_S8x512_S64x512_d0) shapeCasts_S64x512_S8x8x2x256)
    transposes_S8x8x2x256_S2x8x8x256_2_0_1_3

/-- The call's columns of the input. -/
abbrev columns (h : FVec Ideal S8192x2048 .bf16) : FVec Ideal S8192x512 .f32 :=
  extf .f32 (extractStridedSlice S8192x512 ![0, 1536] h slices_S8192x2048_S8192x512_0_1536) bitsLt_bf16_f32

abbrev piled (h : S8192x2048.Idx → EReal) : S2x8x8x256.Idx → EReal := pile (broadcastInDim S8x512 ![] bcast_S_S8x512 (constant (F := Ideal) S_ .f32 0x00000000#32))
    (extractStridedSlice S8x512 ![1016, 0] (columns h) slices_S8192x512_S8x512_1016_0)
    (extractStridedSlice S8x512 ![2040, 0] (columns h) slices_S8192x512_S8x512_2040_0)
    (extractStridedSlice S8x512 ![3064, 0] (columns h) slices_S8192x512_S8x512_3064_0)
    (extractStridedSlice S8x512 ![4088, 0] (columns h) slices_S8192x512_S8x512_4088_0)
    (extractStridedSlice S8x512 ![5112, 0] (columns h) slices_S8192x512_S8x512_5112_0)
    (extractStridedSlice S8x512 ![6136, 0] (columns h) slices_S8192x512_S8x512_6136_0)
    (extractStridedSlice S8x512 ![7160, 0] (columns h) slices_S8192x512_S8x512_7160_0)

theorem pile_eq {x0 x1 x2 x3 x4 x5 x6 x7 y0 y1 y2 y3 y4 y5 y6 y7 : S8x512.Idx → EReal} (h0 : x0 = y0) (h1 : x1 = y1) (h2 : x2 = y2) (h3 : x3 = y3)
    (h4 : x4 = y4) (h5 : x5 = y5) (h6 : x6 = y6) (h7 : x7 = y7) : pile x0 x1 x2 x3 x4 x5 x6 x7 = pile y0 y1 y2 y3 y4 y5 y6 y7 := by
  subst h0 h1 h2 h3 h4 h5 h6 h7
  rfl

theorem v25_eq : (V m c main_v25 : S2x8x8x256.Idx → EReal) = piled (argH m c) := by
  show StableHlo.after hostOps0 (fun b => m (c, b)) _ = _
  unfold hostOps0
  after_results_simp
  refine pile_eq ?_ ?_ ?_ ?_ ?_ ?_ ?_ ?_
  · show HloOp.result _ _ (Proc.tc.devRef main_v15) = _
    after_results_simp
  · show HloOp.result _ _ (Proc.tc.devRef main_v16) = _
    after_results_simp
  · show HloOp.result _ _ (Proc.tc.devRef main_v17) = _
    after_results_simp
  · show HloOp.result _ _ (Proc.tc.devRef main_v18) = _
    after_results_simp
  · show HloOp.result _ _ (Proc.tc.devRef main_v19) = _
    after_results_simp
  · show HloOp.result _ _ (Proc.tc.devRef main_v20) = _
    after_results_simp
  · show HloOp.result _ _ (Proc.tc.devRef main_v21) = _
    after_results_simp
  · show HloOp.result _ _ (Proc.tc.devRef main_v22) = _
    after_results_simp

theorem before_apply (h : S8192x2048.Idx → EReal) (j q : Fin 8) (x : ℕ) (hx : x < 512) : before h j (ix2 q ⟨x, hx⟩)
    = if hj : j.val = 0 then 0 else h (ix2 ⟨j.val * 1024 - 8 + q.val, by omega⟩ ⟨1536 + x, by omega⟩) := rfl

theorem piled_apply (h : S8192x2048.Idx → EReal) (g : Fin 2) (j q : Fin 8) (k : Fin 256) :
    piled h (ix4 g j q k) = before h j (ix2 q ⟨g.val * 256 + k.val, by omega⟩) := by
  refine Eq.trans ?_ (before_apply h j q _ (by omega)).symm
  pointwise [piled, pile, columns]
  repeat' split
  all_goals first | omega | exact at_eq _ _ _ _ _ (by omega) (by omega) | rfl

theorem saved_eq (g : Fin 2) (j q : Fin 8) (k : Fin 256) :
    (V m c main_v25 : S2x8x8x256.Idx → EReal) (ix4 g j q k) = before (argH m c) j (ix2 q ⟨g.val * 256 + k.val, by omega⟩) :=
  (congrFun (v25_eq m c) _).trans (piled_apply _ g j q k)

theorem reads (t : Fin cfg0.N) (k : Fin 256) : (iblk m c 0 t : Vec Ideal S1x256 .f32) (ix2 0 k) = argW m c (ix2 0 (colAt t k))
    ∧ (iblk m c 1 t : Vec Ideal S1x256 .f32) (ix2 0 k) = argW m c (ix2 1 (colAt t k))
    ∧ (iblk m c 2 t : Vec Ideal S1x256 .f32) (ix2 0 k) = argW m c (ix2 2 (colAt t k))
    ∧ (iblk m c 3 t : Vec Ideal S1x256 .f32) (ix2 0 k) = argW m c (ix2 3 (colAt t k)) := by
  obtain ⟨⟨e0, e1, e2, e3⟩, -⟩ := places t
  obtain ⟨v0, v1, v2, v3⟩ := rows_eq m c
  refine ⟨?_, ?_, ?_, ?_⟩
  all_goals
    first | rw [← v0] | rw [← v1] | rw [← v2] | rw [← v3]
    blk_simp [iblk]
    refine congrArg _ (funext fun a => Fin.ext ?_)
    match a with
    | ⟨0, _⟩ => blk_simp [e0, e1, e2, e3]
    | ⟨1, _⟩ => blk_simp [e0, e1, e2, e3]; rfl

theorem read_h (t : Fin cfg0.N) (r : Fin 1024) (k : Fin 256) : (iblk m c 5 t : Vec Ideal S1024x256 .bf16) (ix2 r k)
    = argH m c (ix2 (rowAt t r) ⟨1536 + (colAt t k).val, by omega⟩) := by
  have e5 := (places t).2.1
  blk_simp [iblk]
  rw [V_main_arg0]
  refine congrArg _ (funext fun a => Fin.ext ?_)
  match a with
  | ⟨0, _⟩ => blk_simp [e5]; rfl
  | ⟨1, _⟩ => blk_simp [e5]; show (6 + t.val / 8) * 256 + k.val = 1536 + (t.val / 8 * 256 + k.val); omega

theorem read_d (t : Fin cfg0.N) (r : Fin 1024) (k : Fin 256) : (iblk m c 7 t : Vec Ideal S1024x256 .f32) (ix2 r k)
    = argD m c (ix2 (rowAt t r) (colAt t k)) := by
  have e7 := (places t).2.2.2.1
  blk_simp [iblk]
  rw [V_main_arg3]
  refine congrArg _ (funext fun a => Fin.ext ?_)
  match a with
  | ⟨0, _⟩ => blk_simp [e7]; rfl
  | ⟨1, _⟩ => blk_simp [e7]; rfl

theorem read_saved (t : Fin cfg0.N) (q : Fin 8) (k : Fin 256) : (iblk m c 6 t : Vec Ideal S1x1x8x256 .f32) (ix4 0 0 q k)
    = before (argH m c) ⟨7 - t.val % 8, by omega⟩ (ix2 q (colAt t k)) := by
  have e6 := (places t).2.2.1
  have hN : t.val < 16 := t.isLt
  refine Eq.trans ?_ (saved_eq m c ⟨t.val / 8, by omega⟩ ⟨7 - t.val % 8, by omega⟩ q k)
  blk_simp [iblk]
  refine congrArg _ (funext fun a => Fin.ext ?_)
  match a with
  | ⟨0, _⟩ => blk_simp [e6]; rfl
  | ⟨1, _⟩ => blk_simp [e6]; rfl
  | ⟨2, _⟩ => blk_simp [e6]
  | ⟨3, _⟩ => blk_simp [e6]

theorem row_eq (t : Fin cfg0.N) (r : Fin 1024) (k : Fin 256) (n s : ℕ) (hn : n < 1032) (hs : s ≤ 3) (e : n + s = r.val + 8) :
    row (iblk m c 6 t) (iblk m c 5 t) k n hn = past (argH m c) (rowAt t r) (colAt t k) s := by
  have hr : (rowAt t r).val = (7 - t.val % 8) * 1024 + r.val := rfl
  unfold row past
  by_cases h : n < 8
  · rw [dif_pos h, read_saved]
    unfold before
    by_cases h0 : 7 - t.val % 8 = 0
    · rw [dif_pos h0, dif_neg (by omega)]
    · rw [dif_neg h0, dif_pos (by omega)]
      refine congrArg _ (funext fun a => Fin.ext ?_)
      match a with
      | ⟨0, _⟩ => show (7 - t.val % 8) * 1024 - 8 + n = (rowAt t r).val - s; omega
      | ⟨1, _⟩ => rfl
  · rw [dif_neg h, dif_pos (by omega), read_h]
    refine congrArg _ (funext fun a => Fin.ext ?_)
    match a with
    | ⟨0, _⟩ => show (7 - t.val % 8) * 1024 + (n - 8) = (rowAt t r).val - s; omega
    | ⟨1, _⟩ => rfl

/-- What a point passes on to the next: its block's part of the gradients of the eight rows before it. -/
abbrev passed (t : Fin cfg0.N) : Vec Ideal S8x256 .f32 := k0_pay6 (F := Ideal) (k0_pay30 (k0_pay13 (iblk m c 0 t)) (k0_pay14 (iblk m c 1 t))
  (k0_pay15 (iblk m c 2 t)) (k0_pay21 (iblk m c 7 t)) (k0_pay23 (iblk m c 3 t) (iblk m c 7 t)))

theorem left (t : Fin cfg0.N) : (outsAt0 m c t.val t.isLt).2.2.2.2.2.2 = passed m c t := by
  by_cases h : t.val % 8 = 0
  · rw [outsAt0_A m c t h]
    frame_out
  · rw [outsAt0_B m c t h]
    frame_out

/-- What a point finds: nothing at the last rows, else what the point before passed on. -/
def found (t : Fin cfg0.N) : Vec Ideal S8x256 .f32 :=
  if t.val % 8 = 0 then k0_pay7 (F := Ideal) else passed m c ⟨t.val - 1, by have := t.isLt; omega⟩

theorem out_eq (t : Fin cfg0.N) : (outsAt0 m c t.val t.isLt).2.2.2.2.2.1 = k0_pay5 (F := Ideal) (k0_pay31 (k0_pay13 (iblk m c 0 t)) (k0_pay14 (iblk m c 1 t))
    (k0_pay15 (iblk m c 2 t)) (k0_pay20 (found m c t)) (k0_pay21 (iblk m c 7 t)) (k0_pay23 (iblk m c 3 t) (iblk m c 7 t))) := by
  unfold found
  by_cases h : t.val % 8 = 0
  · rw [outsAt0_A m c t h, if_pos h]
    frame_out
  · rw [outsAt0_B m c t h, if_neg h, ← left]
    frame_out
    exact congrArg (fun z => k0_pay5 (F := Ideal) (k0_pay31 _ _ _ (k0_pay20 z) _ _)) ((Memref.isWhole_whole cc0_scratch0).read_unread _)

/-- The five accumulators after a point: of the four rows of weights and of the bias. -/
def acc (j : Fin 5) (n : ℕ) (hn : n < cfg0.N) : Vec Ideal S1x256 .f32 :=
  match j with
  | 0 => (outsAt0 m c n hn).1
  | 1 => (outsAt0 m c n hn).2.1
  | 2 => (outsAt0 m c n hn).2.2.1
  | 3 => (outsAt0 m c n hn).2.2.2.1
  | 4 => (outsAt0 m c n hn).2.2.2.2.1

/-- An accumulator before a point: zero at the last rows, else as the point before left it. -/
def prior (j : Fin 5) (t : Fin cfg0.N) : Vec Ideal S1x256 .f32 :=
  if t.val % 8 = 0 then fun _ => 0 else acc m c j (t.val - 1) (Nat.lt_of_le_of_lt (Nat.sub_le _ _) t.isLt)

theorem accs (t : Fin cfg0.N) : (outsAt0 m c t.val t.isLt).1
      = k0_pay32 (F := Ideal) (k0_pay17 (iblk m c 5 t) (iblk m c 6 t)) (k0_pay21 (iblk m c 7 t)) (prior m c 0 t)
    ∧ (outsAt0 m c t.val t.isLt).2.1
      = k0_pay1 (F := Ideal) (k0_pay27 (k0_pay18 (iblk m c 5 t) (iblk m c 6 t)) (k0_pay21 (iblk m c 7 t))) (k0_pay33 (prior m c 1 t))
    ∧ (outsAt0 m c t.val t.isLt).2.2.1
      = k0_pay2 (F := Ideal) (k0_pay26 (k0_pay19 (iblk m c 5 t) (iblk m c 6 t)) (k0_pay21 (iblk m c 7 t))) (prior m c 2 t)
    ∧ (outsAt0 m c t.val t.isLt).2.2.2.1 = k0_pay3 (F := Ideal) (k0_pay25 (k0_pay24 (iblk m c 5 t) (iblk m c 6 t) (iblk m c 7 t))) (prior m c 3 t)
    ∧ (outsAt0 m c t.val t.isLt).2.2.2.2.1 = k0_pay4 (F := Ideal) (k0_pay28 (k0_pay21 (iblk m c 7 t))) (prior m c 4 t) := by
  unfold prior
  by_cases h : t.val % 8 = 0
  · simp only [if_pos h]
    rw [outsAt0_A m c t h]
    rw [← show k0_pay8 (F := Ideal) = fun _ => 0 from funext zero_apply]
    frame_out
    exact ⟨trivial, rfl, rfl, rfl, rfl⟩
  · simp only [if_neg h, acc]
    rw [outsAt0_B m c t h]
    frame_out
    exact ⟨trivial, trivial, trivial, trivial, trivial⟩

/-- What each row adds to the accumulators: the arriving gradient times the row, or one of the three rows before it, or one. -/
def factor (j : Fin 5) (n : Fin 8192) (k : Fin 512) : EReal := if j.val < 4 then past (argH m c) n k (3 - j.val) else 1

def term (j : Fin 5) (k : Fin 512) (n : ℕ) : EReal := if hn : n < 8192 then argD m c (ix2 ⟨n, hn⟩ k) * factor m c j ⟨n, hn⟩ k else 0

theorem step (j : Fin 5) (t : Fin cfg0.N) (k : Fin 256) : acc m c j t.val t.isLt (ix2 0 k)
    = prior m c j t (ix2 0 k) + ∑ r : Fin 1024, term m c j (colAt t k) ((7 - t.val % 8) * 1024 + r.val) := by
  obtain ⟨a0, a1, a2, a3, a4⟩ := accs m c t
  obtain ⟨s0, s1, s2, s3, s4⟩ := sums_step (prior m c j t) (iblk m c 6 t) (iblk m c 5 t) (iblk m c 7 t) k
  have e (r : Fin 1024) : term m c j (colAt t k) ((7 - t.val % 8) * 1024 + r.val)
      = argD m c (ix2 (rowAt t r) (colAt t k)) * factor m c j (rowAt t r) (colAt t k) := dif_pos (rowAt t r).isLt
  simp only [e]
  match j with
  | 0 =>
    refine (congrFun a0 _).trans (s0.trans (congrArg _ (Finset.sum_congr rfl fun r _ => congrArg₂ (· * ·) (read_d m c t r k) ?_)))
    exact row_eq m c t r k _ 3 _ (by omega) (by omega)
  | 1 =>
    refine (congrFun a1 _).trans (s1.trans (congrArg _ (Finset.sum_congr rfl fun r _ => congrArg₂ (· * ·) (read_d m c t r k) ?_)))
    exact row_eq m c t r k _ 2 _ (by omega) (by omega)
  | 2 =>
    refine (congrFun a2 _).trans (s2.trans (congrArg _ (Finset.sum_congr rfl fun r _ => congrArg₂ (· * ·) (read_d m c t r k) ?_)))
    exact row_eq m c t r k _ 1 _ (by omega) (by omega)
  | 3 =>
    refine (congrFun a3 _).trans (s3.trans (congrArg _ (Finset.sum_congr rfl fun r _ => congrArg₂ (· * ·) (read_d m c t r k) ?_)))
    exact row_eq m c t r k _ 0 _ (by omega) (by omega)
  | 4 => exact (congrFun a4 _).trans (s4.trans (congrArg _ (Finset.sum_congr rfl fun r _ => (read_d m c t r k).trans (show _ = _ * (1 : EReal) from (mul_one _).symm))))

theorem acc_eq (j : Fin 5) (k : Fin 256) : ∀ (n : ℕ) (hn : n < cfg0.N), acc m c j n hn (ix2 0 k)
    = ∑ s ∈ Finset.range (n % 8 + 1), ∑ r : Fin 1024, term m c j (colAt ⟨n, hn⟩ k) ((7 - s) * 1024 + r.val)
  | 0, hn => by
    refine (step m c j ⟨0, hn⟩ k).trans ?_
    unfold prior
    rw [if_pos (show (⟨0, hn⟩ : Fin cfg0.N).val % 8 = 0 from rfl), zero_add, Nat.zero_mod, Finset.sum_range_one]
  | n + 1, hn => by
    refine (step m c j ⟨n + 1, hn⟩ k).trans ?_
    unfold prior
    by_cases h : (n + 1) % 8 = 0
    · rw [if_pos h, zero_add]
      dsimp only
      rw [h, Finset.sum_range_one]
    · rw [if_neg h]
      dsimp only [Nat.add_sub_cancel]
      have e1 : (n + 1) % 8 = n % 8 + 1 := by omega
      have e2 : colAt ⟨n + 1, hn⟩ k = colAt ⟨n, Nat.lt_of_succ_lt hn⟩ k := Fin.ext (by
        show (n + 1) / 8 * 256 + k.val = n / 8 * 256 + k.val
        omega)
      rw [e1, Finset.sum_range_succ _ (n % 8 + 1), e2, ← acc_eq j k n (Nat.lt_of_succ_lt hn)]
      rfl

/-- Sums over the blocks of rows, from the last to the first, are sums over all rows. -/
theorem sum_blocks (f : ℕ → EReal) : ∑ s ∈ Finset.range 8, ∑ r : Fin 1024, f ((7 - s) * 1024 + r.val) = ∑ n : Fin 8192, f n.val := by
  have h (n : ℕ) : ∑ s ∈ Finset.range n, ∑ r : Fin 1024, f (s * 1024 + r.val) = ∑ j ∈ Finset.range (n * 1024), f j := by
    induction n with
    | zero => simp
    | succ n ih => rw [Finset.sum_range_succ, ih, Nat.succ_mul, Finset.sum_range_add, ← Fin.sum_univ_eq_sum_range (fun j => f (n * 1024 + j))]
  rw [Fin.sum_univ_eq_sum_range f, ← h 8]
  exact Finset.sum_range_reflect (fun s => ∑ r : Fin 1024, f (s * 1024 + r.val)) 8

/-- The sums over all rows. -/
def sums (j : Fin 5) : S1x512.Idx → EReal := fun i => ∑ n : Fin 8192, argD m c (ix2 n (i 1)) * factor m c j n (i 1)

theorem acc_final (j : Fin 5) (t : Fin cfg0.N) (ht : t.val % 8 = 7) (k : Fin 256) : acc m c j t.val t.isLt (ix2 0 k) = sums m c j (ix2 0 (colAt t k)) := by
  rw [acc_eq, ht, sum_blocks]
  exact Finset.sum_congr rfl fun n _ => dif_pos n.isLt

theorem flushed (j : Fin 5) (t : Fin cfg0.N) (ht : t.val % 8 = 7) (y : S1x256.Idx) (z : S1x512.Idx) (hz : z = ix2 0 (colAt t (y 1))) :
    acc m c j t.val t.isLt y = sums m c j z := by
  have y0 : (y 0).val < 1 := (y 0).isLt
  have hy : y = ix2 0 (y 1) := funext fun a => Fin.ext (by
    match a with
    | ⟨0, _⟩ => show (y 0).val = 0; omega
    | ⟨1, _⟩ => rfl)
  subst hz
  exact (congrArg (acc m c j t.val t.isLt) hy).trans (acc_final m c j t ht (y 1))

theorem final_sums : (dats m 0 c).arrAt 8 cfg0.N = sums m c 0 ∧ (dats m 0 c).arrAt 9 cfg0.N = sums m c 1 ∧ (dats m 0 c).arrAt 10 cfg0.N = sums m c 2
    ∧ (dats m 0 c).arrAt 11 cfg0.N = sums m c 3 ∧ (dats m 0 c).arrAt 12 cfg0.N = sums m c 4 := by
  refine ⟨(dats m 0 c).arrAt_eq_of_covers 8 _ (by decide +kernel) fun t hf y => ?_, (dats m 0 c).arrAt_eq_of_covers 9 _ (by decide +kernel) fun t hf y => ?_,
    (dats m 0 c).arrAt_eq_of_covers 10 _ (by decide +kernel) fun t hf y => ?_, (dats m 0 c).arrAt_eq_of_covers 11 _ (by decide +kernel) fun t hf y => ?_,
    (dats m 0 c).arrAt_eq_of_covers 12 _ (by decide +kernel) fun t hf y => ?_⟩
  all_goals
    obtain ⟨e8, e9, e10, e11, e12⟩ := (places t).2.2.2.2.1
    have y0 : (y 0).val < 1 := (y 0).isLt
    blk_simp
  · rw [after0_8]
    refine flushed m c 0 t ((flush0_8 t).mp hf) y _ (funext fun a => Fin.ext ?_)
    match a with
    | ⟨0, _⟩ => blk_simp [e8]; rfl
    | ⟨1, _⟩ => blk_simp [e8]; rfl
  · rw [after0_9]
    refine flushed m c 1 t ((flush0_9 t).mp hf) y _ (funext fun a => Fin.ext ?_)
    match a with
    | ⟨0, _⟩ => blk_simp [e9]; rfl
    | ⟨1, _⟩ => blk_simp [e9]; rfl
  · rw [after0_10]
    refine flushed m c 2 t ((flush0_10 t).mp hf) y _ (funext fun a => Fin.ext ?_)
    match a with
    | ⟨0, _⟩ => blk_simp [e10]; rfl
    | ⟨1, _⟩ => blk_simp [e10]; rfl
  · rw [after0_11]
    refine flushed m c 3 t ((flush0_11 t).mp hf) y _ (funext fun a => Fin.ext ?_)
    match a with
    | ⟨0, _⟩ => blk_simp [e11]; rfl
    | ⟨1, _⟩ => blk_simp [e11]; rfl
  · rw [after0_12]
    refine flushed m c 4 t ((flush0_12 t).mp hf) y _ (funext fun a => Fin.ext ?_)
    match a with
    | ⟨0, _⟩ => blk_simp [e12]; rfl
    | ⟨1, _⟩ => blk_simp [e12]; rfl

/-- The arriving gradient `s` rows after a row of a block, if that lies in the next block of rows. -/
def rest (t : Fin cfg0.N) (r : Fin 1024) (k : Fin 256) (s : ℕ) : EReal :=
  if 1024 ≤ r.val + s then arriving (argD m c) ((rowAt t r).val + s) (colAt t k) else 0

/-- It and what the block itself holds there make the whole. -/
theorem both (t : Fin cfg0.N) (r : Fin 1024) (k : Fin 256) (s : ℕ) (a : EReal) (n : ℕ) (hn : n = r.val + 8 + s) :
    a * rest m c t r k s + a * own (iblk m c 7 t) k n = a * arriving (argD m c) ((rowAt t r).val + s) (colAt t k) := by
  have hr : (rowAt t r).val = (7 - t.val % 8) * 1024 + r.val := rfl
  unfold rest own
  by_cases h : 1024 ≤ r.val + s
  · rw [if_pos h, dif_neg (by omega), mul_zero, add_zero]
  · rw [if_neg h, dif_pos (by omega), mul_zero, zero_add, read_d]
    unfold arriving
    rw [dif_pos (by omega)]
    refine congrArg _ (congrArg _ (funext fun x => Fin.ext ?_))
    match x with
    | ⟨0, _⟩ => show (7 - t.val % 8) * 1024 + (n - 8) = (rowAt t r).val + s; omega
    | ⟨1, _⟩ => rfl

theorem found_eq (t : Fin cfg0.N) (r : Fin 1024) (k : Fin 256) : (if h : r.val < 1016 then 0 else found m c t (ix2 ⟨r.val - 1016, by omega⟩ k))
    = argW m c (ix2 3 (colAt t k)) * rest m c t r k 0 + argW m c (ix2 2 (colAt t k)) * rest m c t r k 1 + argW m c (ix2 1 (colAt t k)) * rest m c t r k 2
      + argW m c (ix2 0 (colAt t k)) * rest m c t r k 3 := by
  have hr : (rowAt t r).val = (7 - t.val % 8) * 1024 + r.val := rfl
  have hN : t.val < 16 := t.isLt
  by_cases h : r.val < 1016
  · have z (s : ℕ) (hs : s ≤ 3) : rest m c t r k s = 0 := if_neg (by omega)
    rw [dif_pos h, z 0 (by omega), z 1 (by omega), z 2 (by omega), z 3 (by omega)]
    simp
  · rw [dif_neg h]
    unfold found
    by_cases h0 : t.val % 8 = 0
    · have z (s : ℕ) : rest m c t r k s = 0 := by
        unfold rest arriving
        split
        · rw [dif_neg (by omega)]
        · rfl
      rw [if_pos h0, left_zero, z, z, z, z]
      simp
    · rw [if_neg h0]
      refine (left_apply _ _ _ _ _ _ _).trans ?_
      obtain ⟨e0, e1, e2, e3⟩ := reads m c ⟨t.val - 1, by omega⟩ k
      have ec : colAt ⟨t.val - 1, by omega⟩ k = colAt t k := Fin.ext (by show (t.val - 1) / 8 * 256 + k.val = t.val / 8 * 256 + k.val; omega)
      have o (s : ℕ) (h3 : s ≤ 3) : own (iblk m c 7 ⟨t.val - 1, by omega⟩) k (r.val - 1016 + s) = rest m c t r k s := by
        unfold own rest
        by_cases hs : 1024 ≤ r.val + s
        · by_cases hl : r.val - 1016 + s < 1032
          · rw [dif_pos (by omega), if_pos hs, read_d]
            unfold arriving
            rw [dif_pos (by omega)]
            refine congrArg _ (funext fun x => Fin.ext ?_)
            match x with
            | ⟨0, _⟩ => show (7 - (t.val - 1) % 8) * 1024 + (r.val - 1016 + s - 8) = (rowAt t r).val + s; omega
            | ⟨1, _⟩ => exact congrArg Fin.val ec
          · omega
        · rw [dif_neg (by omega), if_neg hs]
      rw [rows_apply, e0, e1, e2, e3, ec]
      dsimp only
      rw [o 1 (by omega), o 2 (by omega), o 3 (by omega), ← o 0 (by omega)]
      rfl

/-- Each row's own share and that of the three rows after it, whichever block those are in. -/
theorem block_eq (t : Fin cfg0.N) (r : Fin 1024) (k : Fin 256) :
    (outsAt0 m c t.val t.isLt).2.2.2.2.2.1 (ix2 r k) = wholeX m c (ix2 (rowAt t r) (colAt t k)) := by
  rw [out_eq]
  refine (out_apply _ _ _ _ _ _ _ _).trans (Eq.trans ?_ (input_apply _ _ _ _).symm)
  obtain ⟨e0, e1, e2, e3⟩ := reads m c t k
  have b0 (a : EReal) : a * rest m c t r k 0 + a * own (iblk m c 7 t) k (r.val + 8) = a * arriving (argD m c) (rowAt t r).val (colAt t k) :=
    both m c t r k 0 a (r.val + 8) rfl
  rw [rows_apply, e0, e1, e2, e3, found_eq, ← b0, ← both m c t r k 1 _ (r.val + 8 + 1) rfl,
    ← both m c t r k 2 _ (r.val + 8 + 2) rfl, ← both m c t r k 3 _ (r.val + 8 + 3) rfl]
  dsimp only
  abel

/-- The input's gradient as a part of the projected input's. -/
def placed : S8192x2048.Idx → EReal := fun i => wholeX m c (ix2 (i 0) ⟨((i 1).val - 1536) % 512, Nat.mod_lt _ (by norm_num)⟩)

theorem placed_eq (i : Fin 8192) (x : Fin 2048) (k : Fin 512) (hx : x.val = 1536 + k.val) : placed m c (ix2 i x) = wholeX m c (ix2 i k) := by
  have e : (⟨(x.val - 1536) % 512, Nat.mod_lt _ (by norm_num)⟩ : Fin 512) = k := Fin.ext (by show (x.val - 1536) % 512 = k.val; omega)
  exact congrArg (fun z => wholeX m c (ix2 i z)) e

theorem final_x (i : Fin 8192) (k : Fin 512) : (dats m 0 c).arrAt 13 cfg0.N (ix2 i ⟨1536 + k.val, by omega⟩) = wholeX m c (ix2 i k) := by
  refine ((dats m 0 c).arrAt_emb_eq_of_coversWhere 13 (placed m c) (fun β => 6 ≤ β (1 : Fin 2)) (by decide +kernel) (fun t hf y => ?_) _).trans ?_
  · have e := (places t).2.2.2.2.2
    have hN : t.val < 16 := t.isLt
    have y1 : (y 1).val < 256 := (y 1).isLt
    have b0 : placed m c (((cfg0.win 13).blk t).view.emb y) = wholeX m c (ix2 (rowAt t (y 0)) (colAt t (y 1))) := by
      unfold placed
      refine congrArg (wholeX m c) (funext fun a => Fin.ext ?_)
      match a with
      | ⟨0, _⟩ => show ((((cfg0.win 13).blk t).view.emb y : S8192x2048.Idx) 0).val = _; blk_simp [e]; rfl
      | ⟨1, _⟩ =>
        show (((((cfg0.win 13).blk t).view.emb y : S8192x2048.Idx) 1).val - 1536) % 512 = t.val / 8 * 256 + (y 1).val
        blk_simp [e]
        simp
        omega
    refine Eq.trans ?_ b0.symm
    blk_simp
    rw [after0_13]
    have hy : (y : S1024x256.Idx) = ix2 (y 0) (y 1) := Cert.Products.pair _
    exact (congrArg (outsAt0 m c t.val t.isLt).2.2.2.2.2.1 hy).trans (block_eq m c t (y 0) (y 1))
  · rw [if_pos (by show 6 ≤ (1536 + k.val) / 256; omega)]
    exact placed_eq m c i _ k rfl

/-! ## After the call -/

/-- Four rows, one under the other. -/
abbrev under (x0 x1 x2 x3 : S1x512.Idx → EReal) : S4x512.Idx → EReal :=
  concatenate S4x512 0 [⟨S1x512, x0⟩, ⟨S1x512, x1⟩, ⟨S1x512, x2⟩, ⟨S1x512, x3⟩] concatenates_S1x512_S1x512_S1x512_S1x512_S4x512_d0

theorem under_eq {x0 x1 x2 x3 y0 y1 y2 y3 : S1x512.Idx → EReal} (h0 : x0 = y0) (h1 : x1 = y1) (h2 : x2 = y2) (h3 : x3 = y3) :
    under x0 x1 x2 x3 = under y0 y1 y2 y3 := by
  rw [h0, h1, h2, h3]

/-- A row, cut to its columns and made a row again. -/
abbrev again (x : S1x512.Idx → EReal) : S1x512.Idx → EReal :=
  broadcastInDim (α := EReal) S1x512 ![1] bcast_S512_S1x512_1 (shapeCast S512 x shapeCasts_S1x512_S512)

abbrev stack (x0 x1 x2 x3 : S1x512.Idx → EReal) : S4x512.Idx → EReal := under (again x0) (again x1) (again x2) (again x3)

theorem stack_apply (x0 x1 x2 x3 : S1x512.Idx → EReal) (k : Fin 512) : stack x0 x1 x2 x3 (ix2 0 k) = x0 (ix2 0 k) ∧ stack x0 x1 x2 x3 (ix2 1 k) = x1 (ix2 0 k)
    ∧ stack x0 x1 x2 x3 (ix2 2 k) = x2 (ix2 0 k) ∧ stack x0 x1 x2 x3 (ix2 3 k) = x3 (ix2 0 k) := by
  refine ⟨?_, ?_, ?_, ?_⟩
  all_goals pointwise [stack, under, again]

theorem after_call : Pipeline.afterTail₀ cfgs (dats m) 0 (V0 m) [hostOps1] c main_v27
      = extractStridedSlice (α := EReal) S8192x512 ![0, 1536] ((dats m 0 c).arrAt 13 cfg0.N) slices_S8192x2048_S8192x512_0_1536
    ∧ Pipeline.afterTail₀ cfgs (dats m) 0 (V0 m) [hostOps1] c main_v36
      = stack ((dats m 0 c).arrAt 8 cfg0.N) ((dats m 0 c).arrAt 9 cfg0.N) ((dats m 0 c).arrAt 10 cfg0.N) ((dats m 0 c).arrAt 11 cfg0.N)
    ∧ Pipeline.afterTail₀ cfgs (dats m) 0 (V0 m) [hostOps1] c main_v37
      = shapeCast (α := EReal) S512 ((dats m 0 c).arrAt 12 cfg0.N) shapeCasts_S1x512_S512 := by
  have e := Pipeline.withArrays_arr spec0 launch0.win.arr_inj c (V0 m c) (fun w => (dats m 0 c).arrAt w cfg0.N)
  unfold Pipeline.afterTail₀
  refine ⟨?_, ?_, ?_⟩
  all_goals
    show StableHlo.after hostOps1 _ _ = _
    unfold hostOps1
    after_results_simp
  · exact congrArg (fun x => extractStridedSlice (α := EReal) S8192x512 ![0, 1536] x slices_S8192x2048_S8192x512_0_1536) (e 13)
  · refine under_eq ?_ ?_ ?_ ?_
    · show HloOp.result _ _ (Proc.tc.devRef main_v32) = _
      after_results_simp
      exact congrArg again (e 8)
    · show HloOp.result _ _ (Proc.tc.devRef main_v33) = _
      after_results_simp
      exact congrArg again (e 9)
    · show HloOp.result _ _ (Proc.tc.devRef main_v34) = _
      after_results_simp
      exact congrArg again (e 10)
    · show HloOp.result _ _ (Proc.tc.devRef main_v35) = _
      after_results_simp
      exact congrArg again (e 11)
  · exact congrArg (fun x => shapeCast (α := EReal) S512 x shapeCasts_S1x512_S512) (e 12)

theorem cut_apply (x : S8192x2048.Idx → EReal) (i : Fin 8192) (k : Fin 512) :
    extractStridedSlice (α := EReal) S8192x512 ![0, 1536] x slices_S8192x2048_S8192x512_0_1536 (ix2 i k) = x (ix2 i ⟨1536 + k.val, by omega⟩) := by
  pointwise

theorem cast_apply (x : S1x512.Idx → EReal) (k : Fin 512) : shapeCast (α := EReal) S512 x shapeCasts_S1x512_S512 (ix1 k) = x (ix2 0 k) := by
  pointwise

theorem results : Pipeline.afterTail₀ cfgs (dats m) 0 (V0 m) [hostOps1] c main_v27 = wholeX m c
    ∧ Pipeline.afterTail₀ cfgs (dats m) 0 (V0 m) [hostOps1] c main_v36 = wholeW m c
    ∧ Pipeline.afterTail₀ cfgs (dats m) 0 (V0 m) [hostOps1] c main_v37 = wholeB m c := by
  obtain ⟨h0, h1, h2⟩ := after_call m c
  obtain ⟨f0, f1, f2, f3, f4⟩ := final_sums m c
  have hx := fun i k => final_x m c i k
  rw [h0, h1, h2, f0, f1, f2, f3, f4]
  have w := fun k => weights_apply (argH m c) (argD m c) k
  have u := fun k => sums_apply (argH m c) (argD m c) k
  refine ⟨?_, ?_, ?_⟩
  · generalize (dats m 0 c).arrAt 13 cfg0.N = x at hx ⊢
    generalize wholeX m c = G at hx ⊢
    funext j
    have hj : (j : S8192x512.Idx) = ix2 (j 0) (j 1) := Cert.Products.pair _
    rw [hj]
    exact (cut_apply _ _ _).trans (hx _ _)
  · have v (k : Fin 512) := stack_apply (sums m c 0) (sums m c 1) (sums m c 2) (sums m c 3) k
    have z (i : Fin 4) (k : Fin 512) : stack (sums m c 0) (sums m c 1) (sums m c 2) (sums m c 3) (ix2 i k) = wholeW m c (ix2 i k) := by
      match i with
      | 0 => exact (v k).1.trans ((w k).1.trans (u k).1).symm
      | 1 => exact (v k).2.1.trans ((w k).2.1.trans (u k).2.1).symm
      | 2 => exact (v k).2.2.1.trans ((w k).2.2.1.trans (u k).2.2.1).symm
      | 3 => exact (v k).2.2.2.trans ((w k).2.2.2.trans (u k).2.2.2.1).symm
    funext j
    have hj : (j : S4x512.Idx) = ix2 (j 0) (j 1) := Cert.Products.pair _
    rw [hj]
    exact z _ _
  · funext j
    have hj : (j : S512.Idx) = ix1 (j 0) := funext fun a => match a with | ⟨0, _⟩ => rfl
    rw [hj]
    refine (cast_apply _ _).trans (Eq.trans ?_ (u (j 0)).2.2.2.2.symm)
    exact Finset.sum_congr rfl fun n _ => mul_one _

theorem run_values : θ_run defs (onTc (τ := τ) (main (F := Ideal))) ⟨m, fun _ => 0, ρ⟩ fun r => ∀ c : Dev nD,
      r.2.mem ((c : Thread nD τ).loc main_v27) = wholeX m c
      ∧ r.2.mem ((c : Thread nD τ).loc main_v36) = wholeW m c
      ∧ r.2.mem ((c : Thread nD τ).loc main_v37) = wholeB m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).2 main_v27 (Pipeline.mem_restRefs_of main_v27 (by decide) (by decide))).trans (results m c).1,
      ((h.1 c).2 main_v36 (Pipeline.mem_restRefs_of main_v36 (by decide) (by decide))).trans (results m c).2.1,
      ((h.1 c).2 main_v37 (Pipeline.mem_restRefs_of main_v37 (by decide) (by decide))).trans (results m c).2.2, h.2 c⟩)
    (θ_run_and (run_main m ρ) (unchanged m ρ))

end Cert.RgConvBwdIdeal.Rows

namespace Cert.Proof.RgConvBwd

open Idealize.ShloMosaic Idealize.SL.Sem Cert.RgConvBwdReferenceIdeal.Read Cert.RgConvBwdIdeal.Rows

theorem frame_kernel : Cert.quiescent_RgConvBwd := fun m ρ _ => Cert.RgConvBwd.Gen.frame m ρ

theorem frame_kernelIdeal : Cert.quiescent_RgConvBwdIdeal := fun m ρ _ => Cert.RgConvBwdIdeal.Gen.frame m ρ

theorem frame_reference : Cert.quiescent_RgConvBwdReferenceIdeal := fun m ρ _ =>
  (θ_run Cert.RgConvBwdReferenceIdeal.defs _ _).mono (fun r h => ⟨fun c => (h c).2.2.2, sem_eq_zero_of_no_sems (by decide) r.2⟩)
    (Cert.RgConvBwdReferenceIdeal.Value.run (F := Ideal) m ρ)

theorem values : Cert.algebraic_RgConvBwdIdeal_RgConvBwdReferenceIdeal := fun m g m' g' _ hargs =>
  ⟨fun c => wholeX m c, fun c => wholeW m c, fun c => wholeB m c, run_values m g,
    (θ_run Cert.RgConvBwdReferenceIdeal.defs _ _).mono (fun r h c => by
        obtain ⟨e0, e1, e2, e3⟩ := hargs c
        refine ⟨(h c).1.trans ?_, (h c).2.1.trans ?_, (h c).2.2.1.trans ?_, (h c).2.2.2⟩
        · rw [val_main_v87_eq, e1, e3]
        · rw [val_main_v82_eq, e0, e3]
        · rw [val_main_v40_eq, e3])
      (Cert.RgConvBwdReferenceIdeal.Value.run (F := Ideal) m' g')⟩

end Cert.Proof.RgConvBwd

end
-- ==== Proof.lean ====
/- The proof of the certificate's claims: every program runs and ends quiescent; on finite arguments the recurrence's states
   and gradients are the reference's; and every other call's result is its reference's on all arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite
public import proofs.«01_k».proof.Proof.Finite
public import proofs.«01_k».proof.Proof.RefValues
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpReferenceIdeal.Run
public import proofs.«01_k».proof.Proof.Gen.FfnUpReferenceIdeal.Read
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownReferenceIdeal.Run
public import proofs.«01_k».proof.Proof.Gen.FfnDownReferenceIdeal.Read
public import proofs.«01_k».proof.Proof.Gen.MixOut.Frame
public import proofs.«01_k».proof.Proof.Gen.MixOutIdeal.Frame
public import proofs.«01_k».proof.Proof.Gen.MixOutIdeal.Value
public import proofs.«01_k».proof.Proof.Gen.MixOutReferenceIdeal.Run
public import proofs.«01_k».proof.Proof.Gen.MixOutReferenceIdeal.Read
public import proofs.«01_k».proof.Proof.Gen.FfnDownDx.Frame
public import proofs.«01_k».proof.Proof.Gen.FfnDownDxIdeal.Frame
public import proofs.«01_k».proof.Proof.Gen.FfnDownDxIdeal.Value
public import proofs.«01_k».proof.Proof.Gen.FfnDownDxReferenceIdeal.Run
public import proofs.«01_k».proof.Proof.Gen.FfnDownDxReferenceIdeal.Read
public import proofs.«01_k».proof.Proof.Gen.MixOutDx.Frame
public import proofs.«01_k».proof.Proof.Gen.MixOutDxIdeal.Frame
public import proofs.«01_k».proof.Proof.Gen.MixOutDxIdeal.Value
public import proofs.«01_k».proof.Proof.Gen.MixOutDxReferenceIdeal.Run
public import proofs.«01_k».proof.Proof.Gen.MixOutDxReferenceIdeal.Read
public import proofs.«01_k».proof.Proof.Gen.FfnUpDxGate.Frame
public import proofs.«01_k».proof.Proof.Gen.FfnUpDxGateIdeal.Frame
public import proofs.«01_k».proof.Proof.Gen.FfnUpDxGateIdeal.Value
public import proofs.«01_k».proof.Proof.Gen.FfnUpDxGateReferenceIdeal.Run
public import proofs.«01_k».proof.Proof.Gen.FfnUpDxGateReferenceIdeal.Read
public import proofs.«01_k».proof.Proof.Gen.FfnUpDxUp.Frame
public import proofs.«01_k».proof.Proof.Gen.FfnUpDxUpIdeal.Frame
public import proofs.«01_k».proof.Proof.Gen.FfnUpDxUpIdeal.Value
public import proofs.«01_k».proof.Proof.Gen.FfnUpDxUpReferenceIdeal.Run
public import proofs.«01_k».proof.Proof.Gen.FfnUpDxUpReferenceIdeal.Read
public import proofs.«01_k».proof.Proof.Gen.CdInDx.Frame
public import proofs.«01_k».proof.Proof.Gen.CdInDxIdeal.Frame
public import proofs.«01_k».proof.Proof.Gen.CdInDxIdeal.Value
public import proofs.«01_k».proof.Proof.Gen.CdInDxReferenceIdeal.Run
public import proofs.«01_k».proof.Proof.Gen.CdInDxReferenceIdeal.Read
public import proofs.«01_k».proof.Proof.Gen.AbInDx.Frame
public import proofs.«01_k».proof.Proof.Gen.AbInDxIdeal.Frame
public import proofs.«01_k».proof.Proof.Gen.AbInDxIdeal.Value
public import proofs.«01_k».proof.Proof.Gen.AbInDxReferenceIdeal.Run
public import proofs.«01_k».proof.Proof.Gen.AbInDxReferenceIdeal.Read
public import proofs.«01_k».proof.Proof.Gen.FfnDownDw.Frame
public import proofs.«01_k».proof.Proof.Gen.FfnDownDwIdeal.Frame
public import proofs.«01_k».proof.Proof.Gen.FfnDownDwIdeal.Value
public import proofs.«01_k».proof.Proof.Gen.FfnDownDwReferenceIdeal.Run
public import proofs.«01_k».proof.Proof.Gen.FfnDownDwReferenceIdeal.Read
public import proofs.«01_k».proof.Proof.Gen.MixOutDw.Frame
public import proofs.«01_k».proof.Proof.Gen.MixOutDwIdeal.Frame
public import proofs.«01_k».proof.Proof.Gen.MixOutDwIdeal.Value
public import proofs.«01_k».proof.Proof.Gen.MixOutDwReferenceIdeal.Run
public import proofs.«01_k».proof.Proof.Gen.MixOutDwReferenceIdeal.Read
public import proofs.«01_k».proof.Proof.Gen.FfnUpDwGate.Frame
public import proofs.«01_k».proof.Proof.Gen.FfnUpDwGateIdeal.Frame
public import proofs.«01_k».proof.Proof.Gen.FfnUpDwGateIdeal.Value
public import proofs.«01_k».proof.Proof.Gen.FfnUpDwGateReferenceIdeal.Run
public import proofs.«01_k».proof.Proof.Gen.FfnUpDwGateReferenceIdeal.Read
public import proofs.«01_k».proof.Proof.Gen.FfnUpDwUp.Frame
public import proofs.«01_k».proof.Proof.Gen.FfnUpDwUpIdeal.Frame
public import proofs.«01_k».proof.Proof.Gen.FfnUpDwUpIdeal.Value
public import proofs.«01_k».proof.Proof.Gen.FfnUpDwUpReferenceIdeal.Run
public import proofs.«01_k».proof.Proof.Gen.FfnUpDwUpReferenceIdeal.Read
public import proofs.«01_k».proof.Proof.Gen.AbIn.Frame
public import proofs.«01_k».proof.Proof.Gen.AbInIdeal.Frame
public import proofs.«01_k».proof.Proof.Gen.AbInIdeal.Value
public import proofs.«01_k».proof.Proof.Gen.AbInReferenceIdeal.Run
public import proofs.«01_k».proof.Proof.Gen.AbInReferenceIdeal.Read
public import proofs.«01_k».proof.Proof.Gen.CdIn.Frame
public import proofs.«01_k».proof.Proof.Gen.CdInIdeal.Frame
public import proofs.«01_k».proof.Proof.Gen.CdInIdeal.Value
public import proofs.«01_k».proof.Proof.Gen.CdInReferenceIdeal.Run
public import proofs.«01_k».proof.Proof.Gen.CdInReferenceIdeal.Read
public import proofs.«01_k».proof.Proof.Gen.AbInDw.Frame
public import proofs.«01_k».proof.Proof.Gen.AbInDwIdeal.Frame
public import proofs.«01_k».proof.Proof.Gen.AbInDwIdeal.Value
public import proofs.«01_k».proof.Proof.Gen.AbInDwReferenceIdeal.Run
public import proofs.«01_k».proof.Proof.Gen.AbInDwReferenceIdeal.Read
public import proofs.«01_k».proof.Proof.Gen.CdInDw.Frame
public import proofs.«01_k».proof.Proof.Gen.CdInDwIdeal.Frame
public import proofs.«01_k».proof.Proof.Gen.CdInDwIdeal.Value
public import proofs.«01_k».proof.Proof.Gen.CdInDwReferenceIdeal.Run
public import proofs.«01_k».proof.Proof.Gen.CdInDwReferenceIdeal.Read
public import proofs.«01_k».proof.Proof.Gen.LnBwd.Frame
public import proofs.«01_k».proof.Proof.Gen.LnBwdIdeal.Frame
public import proofs.«01_k».proof.Proof.Gen.LnBwdIdeal.Value
public import proofs.«01_k».proof.Proof.Gen.LnBwdReferenceIdeal.Run
public import proofs.«01_k».proof.Proof.Gen.LnBwdReferenceIdeal.Read
public import proofs.«01_k».proof.Proof.Gen.AdamwAbOut.Frame
public import proofs.«01_k».proof.Proof.Gen.AdamwAbOutIdeal.Frame
public import proofs.«01_k».proof.Proof.Gen.AdamwAbOutIdeal.Value
public import proofs.«01_k».proof.Proof.Gen.AdamwAbOutReferenceIdeal.Run
public import proofs.«01_k».proof.Proof.Gen.AdamwAbOutReferenceIdeal.Read
public import proofs.«01_k».proof.Proof.Gen.AdamwAbIn.Frame
public import proofs.«01_k».proof.Proof.Gen.AdamwAbInIdeal.Frame
public import proofs.«01_k».proof.Proof.Gen.AdamwAbInIdeal.Value
public import proofs.«01_k».proof.Proof.Gen.AdamwAbInReferenceIdeal.Run
public import proofs.«01_k».proof.Proof.Gen.AdamwAbInReferenceIdeal.Read
public import proofs.«01_k».proof.Proof.Gen.AdamwCdIn.Frame
public import proofs.«01_k».proof.Proof.Gen.AdamwCdInIdeal.Frame
public import proofs.«01_k».proof.Proof.Gen.AdamwCdInIdeal.Value
public import proofs.«01_k».proof.Proof.Gen.AdamwCdInReferenceIdeal.Run
public import proofs.«01_k».proof.Proof.Gen.AdamwCdInReferenceIdeal.Read
public import proofs.«01_k».proof.Proof.Gen.AdamwFfnUp.Frame
public import proofs.«01_k».proof.Proof.Gen.AdamwFfnUpIdeal.Frame
public import proofs.«01_k».proof.Proof.Gen.AdamwFfnUpIdeal.Value
public import proofs.«01_k».proof.Proof.Gen.AdamwFfnUpReferenceIdeal.Run
public import proofs.«01_k».proof.Proof.Gen.AdamwFfnUpReferenceIdeal.Read
public import proofs.«01_k».proof.Proof.Gen.AdamwFfnDown.Frame
public import proofs.«01_k».proof.Proof.Gen.AdamwFfnDownIdeal.Frame
public import proofs.«01_k».proof.Proof.Gen.AdamwFfnDownIdeal.Value
public import proofs.«01_k».proof.Proof.Gen.AdamwFfnDownReferenceIdeal.Run
public import proofs.«01_k».proof.Proof.Gen.AdamwFfnDownReferenceIdeal.Read
public import proofs.«01_k».proof.Proof.Gen.Loss.Frame
public import proofs.«01_k».proof.Proof.Gen.LossIdeal.Frame
public import proofs.«01_k».proof.Proof.Gen.LossReferenceIdeal.Run
public import proofs.«01_k».proof.Proof.Gen.LossReferenceIdeal.Read
public import proofs.«01_k».proof.Proof.Gen.LnFwd.Frame
public import proofs.«01_k».proof.Proof.Gen.LnFwdIdeal.Frame
public import proofs.«01_k».proof.Proof.Gen.LnFwdIdeal.Value
public import proofs.«01_k».proof.Proof.Gen.LnFwdReferenceIdeal.Run
public import proofs.«01_k».proof.Proof.Gen.LnFwdReferenceIdeal.Read
public import proofs.«01_k».proof.Proof.Gen.CdPost.Frame
public import proofs.«01_k».proof.Proof.Gen.CdPostIdeal.Frame
public import proofs.«01_k».proof.Proof.Gen.CdPostIdeal.Value
public import proofs.«01_k».proof.Proof.Gen.CdPostReferenceIdeal.Run
public import proofs.«01_k».proof.Proof.Gen.CdPostReferenceIdeal.Read
public import proofs.«01_k».proof.Proof.Gen.CdPostBwd.Frame
public import proofs.«01_k».proof.Proof.Gen.CdPostBwdIdeal.Frame
public import proofs.«01_k».proof.Proof.Gen.CdPostBwdReferenceIdeal.Run
public import proofs.«01_k».proof.Proof.Gen.CdPostBwdReferenceIdeal.Read
public import proofs.«01_k».proof.Proof.Gen.RgConv.Frame
public import proofs.«01_k».proof.Proof.Gen.RgConvIdeal.Frame
public import proofs.«01_k».proof.Proof.Gen.RgConvIdeal.Value
public import proofs.«01_k».proof.Proof.Gen.RgConvReferenceIdeal.Run
public import proofs.«01_k».proof.Proof.Gen.RgConvReferenceIdeal.Read
public import proofs.«01_k».proof.Proof.Gen.RgConvBwd.Frame
public import proofs.«01_k».proof.Proof.Gen.RgConvBwdIdeal.Frame
public import proofs.«01_k».proof.Proof.Gen.RgConvBwdReferenceIdeal.Run
public import proofs.«01_k».proof.Proof.Gen.RgConvBwdReferenceIdeal.Read
public import proofs.«01_k».proof.Proof.FfnUpValue
public import proofs.«01_k».proof.Proof.FfnDownValue
public import proofs.«01_k».proof.Proof.MixOutValue
public import proofs.«01_k».proof.Proof.FfnDownDxValue
public import proofs.«01_k».proof.Proof.MixOutDxValue
public import proofs.«01_k».proof.Proof.FfnUpDxGateValue
public import proofs.«01_k».proof.Proof.FfnUpDxUpValue
public import proofs.«01_k».proof.Proof.CdInDxValue
public import proofs.«01_k».proof.Proof.AbInDxValue
public import proofs.«01_k».proof.Proof.FfnDownDwValue
public import proofs.«01_k».proof.Proof.MixOutDwValue
public import proofs.«01_k».proof.Proof.FfnUpDwGateValue
public import proofs.«01_k».proof.Proof.FfnUpDwUpValue
public import proofs.«01_k».proof.Proof.AbInValue
public import proofs.«01_k».proof.Proof.CdInValue
public import proofs.«01_k».proof.Proof.AbInDwValue
public import proofs.«01_k».proof.Proof.CdInDwValue
public import proofs.«01_k».proof.Proof.LnBwdValue
public import proofs.«01_k».proof.Proof.AdamwAbOutValue
public import proofs.«01_k».proof.Proof.AdamwAbInValue
public import proofs.«01_k».proof.Proof.AdamwCdInValue
public import proofs.«01_k».proof.Proof.AdamwFfnUpValue
public import proofs.«01_k».proof.Proof.AdamwFfnDownValue
public import proofs.«01_k».proof.Proof.LossValue
public import proofs.«01_k».proof.Proof.LnFwdValue
public import proofs.«01_k».proof.Proof.CdPostValue
public import proofs.«01_k».proof.Proof.CdPostBwdValue
public import proofs.«01_k».proof.Proof.RgConvValue
public import proofs.«01_k».proof.Proof.RgConvBwdValue
public import proofs.«01_k».proof.Proof.Gen.Pre_finite_ln
public import Idealize.ShloMosaic.Adequacy
public import Idealize.ShloMosaic.Init

@[expose] public section

noncomputable section

namespace Cert.Proof

open Idealize.ShloMosaic Idealize.SL.Sem
open Cert.KernelIdeal.Scan (reals reals_of_finite full st ct end_h end_da end_du)
open Cert.ReferenceIdeal.Scan (end_states end_grad_a end_grad_u)

set_option maxRecDepth 100000 in
/-- The printed kernel and the one read over the reals have the same bodies. -/
theorem bodies : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl
  | 1, (t, s) => rfl

theorem table : Cert.Kernel.defs (F := Bits) = Cert.KernelIdeal.defs (F := Bits) :=
  congrArg (Pipeline.defs (Cert.KernelIdeal.pcfgs (F := Bits))) bodies

theorem frame_kernel : Cert.quiescent_Kernel := fun m ρ _ => by
  rw [table]
  exact (θ_run Cert.KernelIdeal.defs _ _).mono (fun _ h => And.intro (fun c => (h.1 c).1) h.2) (Cert.KernelIdeal.Scan.run_main (F := Bits) m ρ)

theorem frame_kernelIdeal : Cert.quiescent_KernelIdeal := fun m ρ _ =>
  (θ_run Cert.KernelIdeal.defs _ _).mono (fun _ h => ⟨fun c => (h.1 c).1, h.2⟩) (Cert.KernelIdeal.Scan.run_main (F := Ideal) m ρ)

theorem frame_reference : Cert.quiescent_ReferenceIdeal := fun m ρ _ =>
  (θ_run Cert.ReferenceIdeal.defs _ _).mono (fun _ h => ⟨fun c => ⟨(h.1 c).1.1, (h.1 c).1.2.1, (h.1 c).1.2.2⟩, h.2⟩) (Cert.ReferenceIdeal.Scan.run_main (F := Ideal) m ρ)

theorem values : Cert.algebraic_KernelIdeal_ReferenceIdeal_pre_finite := fun m g m' g' hpre hargs => by
  have hr := fun c => reals_of_finite _ _ _ (hpre c)
  let a := fun c : Dev Cert.KernelIdeal.nD => reals (m ((c.tc : Thread Cert.KernelIdeal.nD Cert.KernelIdeal.τ).loc Cert.KernelIdeal.main_arg0))
  let u := fun c : Dev Cert.KernelIdeal.nD => reals (m ((c.tc : Thread Cert.KernelIdeal.nD Cert.KernelIdeal.τ).loc Cert.KernelIdeal.main_arg1))
  let d := fun c : Dev Cert.KernelIdeal.nD => reals (m ((c.tc : Thread Cert.KernelIdeal.nD Cert.KernelIdeal.τ).loc Cert.KernelIdeal.main_arg2))
  refine ⟨fun c => full fun q r => st (a c) (u c) q (r + 1), fun c => full fun q r => ct (a c) (d c) q r * st (a c) (u c) q r,
    fun c => full (ct (a c) (d c)),
    (θ_run Cert.KernelIdeal.defs _ _).mono (fun r h c => ?_) (Cert.KernelIdeal.Scan.run_main (F := Ideal) m g),
    (θ_run Cert.ReferenceIdeal.defs _ _).mono (fun r h c => ?_) (Cert.ReferenceIdeal.Scan.run_main (F := Ideal) m' g')⟩
  · obtain ⟨⟨⟨h0, h1, h2⟩, e0, e1, e2⟩, -⟩ := And.intro (h.1 c) h.2
    exact ⟨e0.trans (end_h m c _ _ (hr c).1 (hr c).2.1), e1.trans (end_da m c _ _ _ (hr c).1 (hr c).2.1 (hr c).2.2),
      e2.trans (end_du m c _ _ _ (hr c).1 (hr c).2.1 (hr c).2.2), h0, h1, h2⟩
  · obtain ⟨⟨⟨h0, h1, h2⟩, e0, e1, e2⟩, -⟩ := And.intro (h.1 c) h.2
    have ha := (hargs c).1.trans (hr c).1
    have hu := (hargs c).2.1.trans (hr c).2.1
    have hd := (hargs c).2.2.trans (hr c).2.2
    exact ⟨e0.trans (end_states ha hu), e1.trans (end_grad_a ha hu hd), e2.trans (end_grad_u ha hu hd), h0, h1, h2⟩

theorem claim : Cert.Claim := ⟨Cert.Kernel.Gen.facts, Cert.KernelIdeal.Gen.facts, Cert.ReferenceIdeal.Gen.facts,
  Cert.FfnUp.Gen.facts, Cert.FfnUpIdeal.Gen.facts, Cert.FfnUpReferenceIdeal.Gen.facts,
  Cert.FfnDown.Gen.facts, Cert.FfnDownIdeal.Gen.facts, Cert.FfnDownReferenceIdeal.Gen.facts,
  Cert.MixOut.Gen.facts, Cert.MixOutIdeal.Gen.facts, Cert.MixOutReferenceIdeal.Gen.facts,
  Cert.FfnDownDx.Gen.facts, Cert.FfnDownDxIdeal.Gen.facts, Cert.FfnDownDxReferenceIdeal.Gen.facts,
  Cert.MixOutDx.Gen.facts, Cert.MixOutDxIdeal.Gen.facts, Cert.MixOutDxReferenceIdeal.Gen.facts,
  Cert.FfnUpDxGate.Gen.facts, Cert.FfnUpDxGateIdeal.Gen.facts, Cert.FfnUpDxGateReferenceIdeal.Gen.facts,
  Cert.FfnUpDxUp.Gen.facts, Cert.FfnUpDxUpIdeal.Gen.facts, Cert.FfnUpDxUpReferenceIdeal.Gen.facts,
  Cert.CdInDx.Gen.facts, Cert.CdInDxIdeal.Gen.facts, Cert.CdInDxReferenceIdeal.Gen.facts,
  Cert.AbInDx.Gen.facts, Cert.AbInDxIdeal.Gen.facts, Cert.AbInDxReferenceIdeal.Gen.facts,
  Cert.FfnDownDw.Gen.facts, Cert.FfnDownDwIdeal.Gen.facts, Cert.FfnDownDwReferenceIdeal.Gen.facts,
  Cert.MixOutDw.Gen.facts, Cert.MixOutDwIdeal.Gen.facts, Cert.MixOutDwReferenceIdeal.Gen.facts,
  Cert.FfnUpDwGate.Gen.facts, Cert.FfnUpDwGateIdeal.Gen.facts, Cert.FfnUpDwGateReferenceIdeal.Gen.facts,
  Cert.FfnUpDwUp.Gen.facts, Cert.FfnUpDwUpIdeal.Gen.facts, Cert.FfnUpDwUpReferenceIdeal.Gen.facts,
  Cert.AbIn.Gen.facts, Cert.AbInIdeal.Gen.facts, Cert.AbInReferenceIdeal.Gen.facts,
  Cert.CdIn.Gen.facts, Cert.CdInIdeal.Gen.facts, Cert.CdInReferenceIdeal.Gen.facts,
  Cert.AbInDw.Gen.facts, Cert.AbInDwIdeal.Gen.facts, Cert.AbInDwReferenceIdeal.Gen.facts,
  Cert.CdInDw.Gen.facts, Cert.CdInDwIdeal.Gen.facts, Cert.CdInDwReferenceIdeal.Gen.facts,
  Cert.LnBwd.Gen.facts, Cert.LnBwdIdeal.Gen.facts, Cert.LnBwdReferenceIdeal.Gen.facts,
  Cert.AdamwAbOut.Gen.facts, Cert.AdamwAbOutIdeal.Gen.facts, Cert.AdamwAbOutReferenceIdeal.Gen.facts,
  Cert.AdamwAbIn.Gen.facts, Cert.AdamwAbInIdeal.Gen.facts, Cert.AdamwAbInReferenceIdeal.Gen.facts,
  Cert.AdamwCdIn.Gen.facts, Cert.AdamwCdInIdeal.Gen.facts, Cert.AdamwCdInReferenceIdeal.Gen.facts,
  Cert.AdamwFfnUp.Gen.facts, Cert.AdamwFfnUpIdeal.Gen.facts, Cert.AdamwFfnUpReferenceIdeal.Gen.facts,
  Cert.AdamwFfnDown.Gen.facts, Cert.AdamwFfnDownIdeal.Gen.facts, Cert.AdamwFfnDownReferenceIdeal.Gen.facts,
  Cert.Loss.Gen.facts, Cert.LossIdeal.Gen.facts, Cert.LossReferenceIdeal.Gen.facts,
  Cert.LnFwd.Gen.facts, Cert.LnFwdIdeal.Gen.facts, Cert.LnFwdReferenceIdeal.Gen.facts,
  Cert.CdPost.Gen.facts, Cert.CdPostIdeal.Gen.facts, Cert.CdPostReferenceIdeal.Gen.facts,
  Cert.CdPostBwd.Gen.facts, Cert.CdPostBwdIdeal.Gen.facts, Cert.CdPostBwdReferenceIdeal.Gen.facts,
  Cert.RgConv.Gen.facts, Cert.RgConvIdeal.Gen.facts, Cert.RgConvReferenceIdeal.Gen.facts,
  Cert.RgConvBwd.Gen.facts, Cert.RgConvBwdIdeal.Gen.facts, Cert.RgConvBwdReferenceIdeal.Gen.facts,
  Cert.Pre_finite.Gen.facts, Cert.Pre_finite_ln.Gen.facts,
  frame_kernel, frame_kernelIdeal, fun m g _ => frame_kernelIdeal m g trivial, frame_reference,
  fun m g _ => frame_reference m g trivial,
  FfnUp.frame_kernel, FfnUp.frame_kernelIdeal, FfnUp.frame_reference,
  FfnDown.frame_kernel, FfnDown.frame_kernelIdeal, FfnDown.frame_reference,
  MixOut.frame_kernel, MixOut.frame_kernelIdeal, MixOut.frame_reference,
  FfnDownDx.frame_kernel, FfnDownDx.frame_kernelIdeal, FfnDownDx.frame_reference,
  MixOutDx.frame_kernel, MixOutDx.frame_kernelIdeal, MixOutDx.frame_reference,
  FfnUpDxGate.frame_kernel, FfnUpDxGate.frame_kernelIdeal, FfnUpDxGate.frame_reference,
  FfnUpDxUp.frame_kernel, FfnUpDxUp.frame_kernelIdeal, FfnUpDxUp.frame_reference,
  CdInDx.frame_kernel, CdInDx.frame_kernelIdeal, CdInDx.frame_reference,
  AbInDx.frame_kernel, AbInDx.frame_kernelIdeal, AbInDx.frame_reference,
  FfnDownDw.frame_kernel, FfnDownDw.frame_kernelIdeal, FfnDownDw.frame_reference,
  MixOutDw.frame_kernel, MixOutDw.frame_kernelIdeal, MixOutDw.frame_reference,
  FfnUpDwGate.frame_kernel, FfnUpDwGate.frame_kernelIdeal, FfnUpDwGate.frame_reference,
  FfnUpDwUp.frame_kernel, FfnUpDwUp.frame_kernelIdeal, FfnUpDwUp.frame_reference,
  AbIn.frame_kernel, AbIn.frame_kernelIdeal, AbIn.frame_reference,
  CdIn.frame_kernel, CdIn.frame_kernelIdeal, CdIn.frame_reference,
  AbInDw.frame_kernel, AbInDw.frame_kernelIdeal, AbInDw.frame_reference,
  CdInDw.frame_kernel, CdInDw.frame_kernelIdeal, CdInDw.frame_reference,
  LnBwd.frame_kernel, LnBwd.frame_kernelIdeal, fun m g _ => LnBwd.frame_kernelIdeal m g trivial, LnBwd.frame_reference, fun m g _ => LnBwd.frame_reference m g trivial,
  AdamwAbOut.frame_kernel, AdamwAbOut.frame_kernelIdeal, AdamwAbOut.frame_reference,
  AdamwAbIn.frame_kernel, AdamwAbIn.frame_kernelIdeal, AdamwAbIn.frame_reference,
  AdamwCdIn.frame_kernel, AdamwCdIn.frame_kernelIdeal, AdamwCdIn.frame_reference,
  AdamwFfnUp.frame_kernel, AdamwFfnUp.frame_kernelIdeal, AdamwFfnUp.frame_reference,
  AdamwFfnDown.frame_kernel, AdamwFfnDown.frame_kernelIdeal, AdamwFfnDown.frame_reference,
  Loss.frame_kernel, Loss.frame_kernelIdeal, Loss.frame_reference,
  LnFwd.frame_kernel, LnFwd.frame_kernelIdeal, LnFwd.frame_reference,
  CdPost.frame_kernel, CdPost.frame_kernelIdeal, CdPost.frame_reference,
  CdPostBwd.frame_kernel, CdPostBwd.frame_kernelIdeal, CdPostBwd.frame_reference,
  RgConv.frame_kernel, RgConv.frame_kernelIdeal, RgConv.frame_reference,
  RgConvBwd.frame_kernel, RgConvBwd.frame_kernelIdeal, RgConvBwd.frame_reference,
  trivial, values,
  trivial, FfnUp.values,
  trivial, FfnDown.values,
  trivial, MixOut.values,
  trivial, FfnDownDx.values,
  trivial, MixOutDx.values,
  trivial, FfnUpDxGate.values,
  trivial, FfnUpDxUp.values,
  trivial, CdInDx.values,
  trivial, AbInDx.values,
  trivial, FfnDownDw.values,
  trivial, MixOutDw.values,
  trivial, FfnUpDwGate.values,
  trivial, FfnUpDwUp.values,
  trivial, AbIn.values,
  trivial, CdIn.values,
  trivial, AbInDw.values,
  trivial, CdInDw.values,
  trivial, LnBwd.values,
  ⟨IdealRules.named_const.statement Cert.AdamwAbOutIdeal.κ "c1" .f32 0x3FC48605#32 _ rfl, IdealRules.named_const.statement Cert.AdamwAbOutIdeal.κ "c2" .f32 0x42C8E6D3#32 _ rfl⟩, AdamwAbOut.values,
  ⟨IdealRules.named_const.statement Cert.AdamwAbInIdeal.κ "c1" .f32 0x3FC48605#32 _ rfl, IdealRules.named_const.statement Cert.AdamwAbInIdeal.κ "c2" .f32 0x42C8E6D3#32 _ rfl⟩, AdamwAbIn.values,
  ⟨IdealRules.named_const.statement Cert.AdamwCdInIdeal.κ "c1" .f32 0x3FC48605#32 _ rfl, IdealRules.named_const.statement Cert.AdamwCdInIdeal.κ "c2" .f32 0x42C8E6D3#32 _ rfl⟩, AdamwCdIn.values,
  ⟨IdealRules.named_const.statement Cert.AdamwFfnUpIdeal.κ "c1" .f32 0x3FC48605#32 _ rfl, IdealRules.named_const.statement Cert.AdamwFfnUpIdeal.κ "c2" .f32 0x42C8E6D3#32 _ rfl⟩, AdamwFfnUp.values,
  ⟨IdealRules.named_const.statement Cert.AdamwFfnDownIdeal.κ "c1" .f32 0x3FC48605#32 _ rfl, IdealRules.named_const.statement Cert.AdamwFfnDownIdeal.κ "c2" .f32 0x42C8E6D3#32 _ rfl⟩, AdamwFfnDown.values,
  trivial, Loss.values,
  trivial, LnFwd.values,
  trivial, CdPost.values,
  trivial, CdPostBwd.values,
  trivial, RgConv.values,
  trivial, RgConvBwd.values⟩

end Cert.Proof

end
